-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_stored_pre_finite [hKernelIdeal : Cert.KernelIdeal.Facts] [hReferenceIdeal : Cert.ReferenceIdeal.Facts] [hPre_finite : Cert.Pre_finite.Facts] [hOn_stored : Cert.On_stored.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v107_0)) (v1 : (c : Dev Cert.KernelIdeal.nD) → Buf (Elt Ideal) ((c.tc : Thread Cert.KernelIdeal.nD Cert.KernelIdeal.τ).loc Cert.KernelIdeal.main_v107_1)) (v2 : (c : Dev Cert.KernelIdeal.nD) → Buf (Elt Ideal) ((c.tc : Thread Cert.KernelIdeal.nD Cert.KernelIdeal.τ).loc Cert.KernelIdeal.main_v107_2)) (v3 : (c : Dev Cert.KernelIdeal.nD) → Buf (Elt Ideal) ((c.tc : Thread Cert.KernelIdeal.nD Cert.KernelIdeal.τ).loc Cert.KernelIdeal.main_v107_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1536, 4096]⟩ : Shape).Idx, (Cert.On_stored.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v107_0) i = v0 c i)
          ∧ (∀ i : (⟨2, ![4096, 768]⟩ : Shape).Idx, (Cert.On_stored.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v107_1) i = v1 c i)
          ∧ (∀ i : (⟨2, ![4096, 768]⟩ : Shape).Idx, (Cert.On_stored.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v107_2) i = v2 c i)
          ∧ (∀ i : (⟨3, ![2, 4096, 128]⟩ : Shape).Idx, (Cert.On_stored.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.KernelIdeal.nD Cert.KernelIdeal.τ).loc Cert.KernelIdeal.main_v107_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1536, 4096]⟩ : Shape).Idx, (Cert.On_stored.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v82) i = v0 c i)
          ∧ (∀ i : (⟨2, ![4096, 768]⟩ : Shape).Idx, (Cert.On_stored.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v90) i = v1 c i)
          ∧ (∀ i : (⟨2, ![4096, 768]⟩ : Shape).Idx, (Cert.On_stored.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v92) i = v2 c i)
          ∧ (∀ i : (⟨3, ![2, 4096, 128]⟩ : Shape).Idx, (Cert.On_stored.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.ReferenceIdeal.nD Cert.ReferenceIdeal.τ).loc Cert.ReferenceIdeal.main_v89) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v27_0)) (v1 : (c : Dev Cert.Kernel2Ideal.nD) → Buf (Elt Ideal) ((c.tc : Thread Cert.Kernel2Ideal.nD Cert.Kernel2Ideal.τ).loc Cert.Kernel2Ideal.main_v27_1)) (v2 : (c : Dev Cert.Kernel2Ideal.nD) → Buf (Elt Ideal) ((c.tc : Thread Cert.Kernel2Ideal.nD Cert.Kernel2Ideal.τ).loc Cert.Kernel2Ideal.main_v27_2)) (v3 : (c : Dev Cert.Kernel2Ideal.nD) → Buf (Elt Ideal) ((c.tc : Thread Cert.Kernel2Ideal.nD Cert.Kernel2Ideal.τ).loc Cert.Kernel2Ideal.main_v27_3)) (v4 : (c : Dev Cert.Kernel2Ideal.nD) → Buf (Elt Ideal) ((c.tc : Thread Cert.Kernel2Ideal.nD Cert.Kernel2Ideal.τ).loc Cert.Kernel2Ideal.main_v27_4)) (v5 : (c : Dev Cert.Kernel2Ideal.nD) → Buf (Elt Ideal) ((c.tc : Thread Cert.Kernel2Ideal.nD Cert.Kernel2Ideal.τ).loc Cert.Kernel2Ideal.main_v27_5)) (v6 : (c : Dev Cert.Kernel2Ideal.nD) → Buf (Elt Ideal) ((c.tc : Thread Cert.Kernel2Ideal.nD Cert.Kernel2Ideal.τ).loc Cert.Kernel2Ideal.main_v27_6)) (v7 : (c : Dev Cert.Kernel2Ideal.nD) → Buf (Elt Ideal) ((c.tc : Thread Cert.Kernel2Ideal.nD Cert.Kernel2Ideal.τ).loc Cert.Kernel2Ideal.main_v27_7)) (v8 : (c : Dev Cert.Kernel2Ideal.nD) → Buf (Elt Ideal) ((c.tc : Thread Cert.Kernel2Ideal.nD Cert.Kernel2Ideal.τ).loc Cert.Kernel2Ideal.main_v27_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27_0) = v0 c
          ∧ r.2.mem ((c.tc : Thread Cert.Kernel2Ideal.nD Cert.Kernel2Ideal.τ).loc Cert.Kernel2Ideal.main_v27_1) = v1 c
          ∧ r.2.mem ((c.tc : Thread Cert.Kernel2Ideal.nD Cert.Kernel2Ideal.τ).loc Cert.Kernel2Ideal.main_v27_2) = v2 c
          ∧ r.2.mem ((c.tc : Thread Cert.Kernel2Ideal.nD Cert.Kernel2Ideal.τ).loc Cert.Kernel2Ideal.main_v27_3) = v3 c
          ∧ r.2.mem ((c.tc : Thread Cert.Kernel2Ideal.nD Cert.Kernel2Ideal.τ).loc Cert.Kernel2Ideal.main_v27_4) = v4 c
          ∧ r.2.mem ((c.tc : Thread Cert.Kernel2Ideal.nD Cert.Kernel2Ideal.τ).loc Cert.Kernel2Ideal.main_v27_5) = v5 c
          ∧ r.2.mem ((c.tc : Thread Cert.Kernel2Ideal.nD Cert.Kernel2Ideal.τ).loc Cert.Kernel2Ideal.main_v27_6) = v6 c
          ∧ r.2.mem ((c.tc : Thread Cert.Kernel2Ideal.nD Cert.Kernel2Ideal.τ).loc Cert.Kernel2Ideal.main_v27_7) = v7 c
          ∧ r.2.mem ((c.tc : Thread Cert.Kernel2Ideal.nD Cert.Kernel2Ideal.τ).loc Cert.Kernel2Ideal.main_v27_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_v62) = v1 c
          ∧ r.2.mem ((c.tc : Thread Cert.Reference2Ideal.nD Cert.Reference2Ideal.τ).loc Cert.Reference2Ideal.main_v63) = v2 c
          ∧ r.2.mem ((c.tc : Thread Cert.Reference2Ideal.nD Cert.Reference2Ideal.τ).loc Cert.Reference2Ideal.main_v64) = v3 c
          ∧ r.2.mem ((c.tc : Thread Cert.Reference2Ideal.nD Cert.Reference2Ideal.τ).loc Cert.Reference2Ideal.main_v65) = v4 c
          ∧ r.2.mem ((c.tc : Thread Cert.Reference2Ideal.nD Cert.Reference2Ideal.τ).loc Cert.Reference2Ideal.main_v66) = v5 c
          ∧ r.2.mem ((c.tc : Thread Cert.Reference2Ideal.nD Cert.Reference2Ideal.τ).loc Cert.Reference2Ideal.main_v56) = v6 c
          ∧ r.2.mem ((c.tc : Thread Cert.Reference2Ideal.nD Cert.Reference2Ideal.τ).loc Cert.Reference2Ideal.main_v58) = v7 c
          ∧ r.2.mem ((c.tc : Thread Cert.Reference2Ideal.nD Cert.Reference2Ideal.τ).loc Cert.Reference2Ideal.main_v60) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_v24) = v1 c
          ∧ r.2.mem ((c.tc : Thread Cert.Reference6Ideal.nD Cert.Reference6Ideal.τ).loc Cert.Reference6Ideal.main_v28) = v2 c
          ∧ r.2.mem ((c.tc : Thread Cert.Reference6Ideal.nD Cert.Reference6Ideal.τ).loc Cert.Reference6Ideal.main_v20) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v27)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v27) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v35) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hOn_stored : Cert.On_stored.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_on_stored_pre_finite (hKernelIdeal := hKernelIdeal) (hReferenceIdeal := hReferenceIdeal) (hPre_finite := hPre_finite) (hOn_stored := hOn_stored)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== On_stored.lean ====
abbrev S4096x12x64 : Shape := ⟨3, ![4096, 12, 64]⟩
abbrev S4096x12 : Shape := ⟨2, ![4096, 12]⟩
abbrev S1536 : Shape := ⟨1, ![1536]⟩
abbrev S1536x1 : Shape := ⟨2, ![1536, 1]⟩
abbrev S_ : Shape := ⟨0, ![]⟩
abbrev S1536x4096 : Shape := ⟨2, ![1536, 4096]⟩
abbrev S4096x768 : Shape := ⟨2, ![4096, 768]⟩
abbrev S2x4096x128 : Shape := ⟨3, ![2, 4096, 128]⟩

class Facts : Prop where
  bcast_S1536_S1536x1_0 : S1536.BroadcastsInDim S1536x1 (![0] : Fin 1 → Fin S1536x1.rank)
  bcast_S_S1536x1 : S_.BroadcastsInDim S1536x1 (![] : Fin 0 → Fin S1536x1.rank)
  bcast_S1536x1_S1536x4096_0_1 : S1536x1.BroadcastsInDim S1536x4096 (![0, 1] : Fin 2 → Fin S1536x4096.rank)
  bcast_S_S4096x768 : S_.BroadcastsInDim S4096x768 (![] : Fin 0 → Fin S4096x768.rank)
  bcast_S_S2x4096x128 : S_.BroadcastsInDim S2x4096x128 (![] : Fin 0 → Fin S2x4096x128.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S1536x1 32) (arg1 : IVec S_ 32) : IVec S1536x1 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S1536x1 32 := broadcastInDim S1536x1 ![] bcast_S_S1536x1 v2
  let v4 : IVec S1536x1 32 := Host.remsi arg0 v3
  let c_1 : IVec S_ 32 := constantI S_ 32 0#32
  let v5 : IVec S1536x1 32 := broadcastInDim S1536x1 ![] bcast_S_S1536x1 c_1
  let v6 : IVec S1536x1 1 := cmpi .ne v4 v5
  let c_2 : IVec S_ 32 := constantI S_ 32 0#32
  let v7 : IVec S1536x1 32 := broadcastInDim S1536x1 ![] bcast_S_S1536x1 c_2
  let v8 : IVec S1536x1 1 := cmpi .slt v4 v7
  let c_3 : IVec S_ 32 := constantI S_ 32 0#32
  let v9 : IVec S_ 1 := cmpi .slt v2 c_3
  let v10 : IVec S1536x1 1 := broadcastInDim S1536x1 ![] bcast_S_S1536x1 v9
  let v11 : IVec S1536x1 1 := cmpi .ne v8 v10
  let v12 : IVec S1536x1 1 := andi v11 v6
  let v13 : IVec S1536x1 32 := broadcastInDim S1536x1 ![] bcast_S_S1536x1 v2
  let v14 : IVec S1536x1 32 := addi v4 v13
  let v15 : IVec S1536x1 32 := select v12 v14 v4
  v15

def fn {F : FTy → Type} [FloatOps F] (main_arg0 : FVec F S4096x12x64 .f32) (main_arg1 : FVec F S4096x12x64 .f32) (main_arg2 : FVec F S4096x12x64 .f32) (main_arg3 : FVec F S4096x12 .f32) (main_arg4 : FVec F S4096x12x64 .f32) : IVec S1536x4096 1 × IVec S4096x768 1 × IVec S4096x768 1 × IVec S2x4096x128 1 :=
  let main_v0 : IVec S1536 32 := iotaInDim S1536 32 0
  let main_v1 : IVec S1536x1 32 := broadcastInDim S1536x1 ![0] bcast_S1536_S1536x1_0 main_v0
  let main_c : IVec S_ 32 := constantI S_ 32 128#32
  let main_v2 : IVec S1536x1 32 := fn_remainder (F := F) main_v1 main_c
  let main_c_0 : IVec S_ 32 := constantI S_ 32 64#32
  let main_v3 : IVec S1536x1 32 := broadcastInDim S1536x1 ![] bcast_S_S1536x1 main_c_0
  let main_v4 : IVec S1536x1 1 := cmpi .sle main_v2 main_v3
  let main_v5 : IVec S1536x4096 1 := broadcastInDim S1536x4096 ![0, 1] bcast_S1536x1_S1536x4096_0_1 main_v4
  let main_c_1 : IVec S_ 1 := constantI S_ 1 1#1
  let main_v6 : IVec S4096x768 1 := broadcastInDim S4096x768 ![] bcast_S_S4096x768 main_c_1
  let main_c_2 : IVec S_ 1 := constantI S_ 1 1#1
  let main_v7 : IVec S4096x768 1 := broadcastInDim S4096x768 ![] bcast_S_S4096x768 main_c_2
  let main_c_3 : IVec S_ 1 := constantI S_ 1 1#1
  let main_v8 : IVec S2x4096x128 1 := broadcastInDim S2x4096x128 ![] bcast_S_S2x4096x128 main_c_3
  (main_v5, main_v6, main_v7, main_v8)
-- ==== Pre_finite.lean ====
abbrev S4096x12x64 : Shape := ⟨3, ![4096, 12, 64]⟩
abbrev S4096x12 : Shape := ⟨2, ![4096, 12]⟩
abbrev S_ : Shape := ⟨0, ![]⟩

class Facts : Prop where
  bcast_S_S4096x12x64 : S_.BroadcastsInDim S4096x12x64 (![] : Fin 0 → Fin S4096x12x64.rank)
  bcast_S_S4096x12 : S_.BroadcastsInDim S4096x12 (![] : Fin 0 → Fin S4096x12.rank)

variable [Facts]

def fn {F : FTy → Type} [FloatOps F] (main_arg0 : FVec F S4096x12x64 .f32) (main_arg1 : FVec F S4096x12x64 .f32) (main_arg2 : FVec F S4096x12x64 .f32) (main_arg3 : FVec F S4096x12 .f32) (main_arg4 : FVec F S4096x12x64 .f32) : IVec S4096x12x64 1 × IVec S4096x12x64 1 × IVec S4096x12x64 1 × IVec S4096x12 1 × IVec S4096x12x64 1 :=
  let main_v0 : FVec F S4096x12x64 .f32 := Host.absf main_arg0
  let main_cst : FVec F S_ .f32 := constant S_ .f32 0x7F800000#32
  let main_v1 : FVec F S4096x12x64 .f32 := broadcastInDim S4096x12x64 ![] bcast_S_S4096x12x64 main_cst
  let main_v2 : IVec S4096x12x64 1 := cmpf .olt main_v0 main_v1
  let main_v3 : FVec F S4096x12x64 .f32 := Host.absf main_arg1
  let main_cst_0 : FVec F S_ .f32 := constant S_ .f32 0x7F800000#32
  let main_v4 : FVec F S4096x12x64 .f32 := broadcastInDim S4096x12x64 ![] bcast_S_S4096x12x64 main_cst_0
  let main_v5 : IVec S4096x12x64 1 := cmpf .olt main_v3 main_v4
  let main_v6 : FVec F S4096x12x64 .f32 := Host.absf main_arg2
  let main_cst_1 : FVec F S_ .f32 := constant S_ .f32 0x7F800000#32
  let main_v7 : FVec F S4096x12x64 .f32 := broadcastInDim S4096x12x64 ![] bcast_S_S4096x12x64 main_cst_1
  let main_v8 : IVec S4096x12x64 1 := cmpf .olt main_v6 main_v7
  let main_v9 : FVec F S4096x12 .f32 := Host.absf main_arg3
  let main_cst_2 : FVec F S_ .f32 := constant S_ .f32 0x7F800000#32
  let main_v10 : FVec F S4096x12 .f32 := broadcastInDim S4096x12 ![] bcast_S_S4096x12 main_cst_2
  let main_v11 : IVec S4096x12 1 := cmpf .olt main_v9 main_v10
  let main_v12 : FVec F S4096x12x64 .f32 := Host.absf main_arg4
  let main_cst_3 : FVec F S_ .f32 := constant S_ .f32 0x7F800000#32
  let main_v13 : FVec F S4096x12x64 .f32 := broadcastInDim S4096x12x64 ![] bcast_S_S4096x12x64 main_cst_3
  let main_v14 : IVec S4096x12x64 1 := cmpf .olt main_v12 main_v13
  (main_v2, main_v5, main_v8, main_v11, main_v14)
-- ==== Kernel.lean ====
abbrev S4096x12x64 : Shape := ⟨3, ![4096, 12, 64]⟩
abbrev S4096x12 : Shape := ⟨2, ![4096, 12]⟩
abbrev S12x4096x4096 : Shape := ⟨3, ![12, 4096, 4096]⟩
abbrev S12x4096 : Shape := ⟨2, ![12, 4096]⟩
abbrev S12x4096x1 : Shape := ⟨3, ![12, 4096, 1]⟩
abbrev S12x1x4096 : Shape := ⟨3, ![12, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S_ : Shape := ⟨0, ![]⟩
abbrev S12x64x4096 : Shape := ⟨3, ![12, 64, 4096]⟩
abbrev S4096x12x3 : Shape := ⟨3, ![4096, 12, 3]⟩
abbrev S4096x12x1 : Shape := ⟨3, ![4096, 12, 1]⟩
abbrev S4096x12x58 : Shape := ⟨3, ![4096, 12, 58]⟩
abbrev S4096x12x128 : Shape := ⟨3, ![4096, 12, 128]⟩
abbrev S4096x1536 : Shape := ⟨2, ![4096, 1536]⟩
abbrev S1536x4096 : Shape := ⟨2, ![1536, 4096]⟩
abbrev S4096x768 : Shape := ⟨2, ![4096, 768]⟩
abbrev S2x4096x128 : Shape := ⟨3, ![2, 4096, 128]⟩
abbrev S512x768 : Shape := ⟨2, ![512, 768]⟩
abbrev S768x512 : Shape := ⟨2, ![768, 512]⟩
abbrev S512x384 : Shape := ⟨2, ![512, 384]⟩
abbrev S1x512x128 : Shape := ⟨3, ![1, 512, 128]⟩
abbrev S768x4096 : Shape := ⟨2, ![768, 4096]⟩
abbrev S512x128 : Shape := ⟨2, ![512, 128]⟩
abbrev S128x512 : Shape := ⟨2, ![128, 512]⟩
abbrev S512x512 : Shape := ⟨2, ![512, 512]⟩
abbrev S512x64 : Shape := ⟨2, ![512, 64]⟩
abbrev S512x1 : Shape := ⟨2, ![512, 1]⟩

abbrev nBuf : Space → Nat
  | .hbm => 129
  | .vmem => 23
  | .smem => 0
  | _ => 0

abbrev hbmTy0_0 (i : Nat) : BufTy := match i % 128 with
  | 0 => ⟨S4096x12x64, .f32⟩
  | 1 => ⟨S4096x12x64, .f32⟩
  | 2 => ⟨S4096x12x64, .f32⟩
  | 3 => ⟨S4096x12, .f32⟩
  | 4 => ⟨S4096x12x64, .f32⟩
  | 5 => ⟨S4096x12x64, .bf16⟩
  | 6 => ⟨S4096x12x64, .f32⟩
  | 7 => ⟨S4096x12x64, .bf16⟩
  | 8 => ⟨S4096x12x64, .f32⟩
  | 9 => ⟨S4096x12x64, .bf16⟩
  | 10 => ⟨S4096x12x64, .f32⟩
  | 11 => ⟨S12x4096x4096, .f32⟩
  | 12 => ⟨S12x4096, .f32⟩
  | 13 => ⟨S12x4096x1, .f32⟩
  | 14 => ⟨S12x4096x4096, .f32⟩
  | 15 => ⟨S12x4096x4096, .f32⟩
  | 16 => ⟨S12x4096, .f32⟩
  | 17 => ⟨S12x1x4096, .f32⟩
  | 18 => ⟨S12x4096x4096, .f32⟩
  | 19 => ⟨S12x4096x4096, .f32⟩
  | 20 => ⟨S4096, .i32⟩
  | 21 => ⟨S1x4096, .i32⟩
  | 22 => ⟨S4096, .i32⟩
  | 23 => ⟨S4096x1, .i32⟩
  | 24 => ⟨S4096x4096, .i32⟩
  | 25 => ⟨S4096x4096, .i32⟩
  | 26 => ⟨S4096x4096, .i1⟩
  | 27 => ⟨S1x4096x4096, .i1⟩
  | 28 => ⟨S_, .f32⟩
  | 29 => ⟨S_, .f32⟩
  | 30 => ⟨S12x4096x4096, .i1⟩
  | 31 => ⟨S12x4096x4096, .f32⟩
  | 32 => ⟨S12x4096x4096, .f32⟩
  | 33 => ⟨S_, .f32⟩
  | 34 => ⟨S12x4096, .f32⟩
  | 35 => ⟨S12x4096x1, .f32⟩
  | 36 => ⟨S12x4096x4096, .f32⟩
  | 37 => ⟨S12x4096x4096, .f32⟩
  | 38 => ⟨S12x4096x4096, .f32⟩
  | 39 => ⟨S_, .f32⟩
  | 40 => ⟨S12x4096, .f32⟩
  | 41 => ⟨S12x4096x1, .f32⟩
  | 42 => ⟨S12x4096x1, .f32⟩
  | 43 => ⟨S12x4096x1, .f32⟩
  | 44 => ⟨S12x4096, .f32⟩
  | 45 => ⟨S4096x12, .f32⟩
  | 46 => ⟨S12x4096x4096, .f32⟩
  | 47 => ⟨S12x4096x4096, .f32⟩
  | 48 => ⟨S12x64x4096, .f32⟩
  | 49 => ⟨S4096x12x64, .f32⟩
  | 50 => ⟨S4096x12x64, .f32⟩
  | 51 => ⟨S_, .f32⟩
  | 52 => ⟨S4096x12, .f32⟩
  | 53 => ⟨S_, .f32⟩
  | 54 => ⟨S4096x12x3, .f32⟩
  | 55 => ⟨S_, .f32⟩
  | 56 => ⟨S4096x12x3, .f32⟩
  | 57 => ⟨S4096x12, .f32⟩
  | 58 => ⟨S4096x12, .bf16⟩
  | 59 => ⟨S4096x12, .f32⟩
  | 60 => ⟨S4096x12, .f32⟩
  | 61 => ⟨S4096x12, .bf16⟩
  | 62 => ⟨S4096x12, .f32⟩
  | 63 => ⟨S4096x12, .f32⟩
  | 64 => ⟨S4096x12, .bf16⟩
  | 65 => ⟨S4096x12, .f32⟩
  | 66 => ⟨S4096x12x1, .f32⟩
  | 67 => ⟨S4096x12, .f32⟩
  | 68 => ⟨S4096x12x1, .f32⟩
  | 69 => ⟨S4096x12, .f32⟩
  | 70 => ⟨S4096x12x1, .f32⟩
  | 71 => ⟨S4096x12x3, .f32⟩
  | 72 => ⟨S_, .f32⟩
  | 73 => ⟨S4096x12x58, .f32⟩
  | 74 => ⟨S4096x12x128, .f32⟩
  | 75 => ⟨S4096x1536, .f32⟩
  | 76 => ⟨S4096x1536, .bf16⟩
  | 77 => ⟨S4096x12, .f32⟩
  | 78 => ⟨S4096x12, .bf16⟩
  | 79 => ⟨S4096x12, .f32⟩
  | 80 => ⟨S4096x12, .f32⟩
  | 81 => ⟨S4096x12, .bf16⟩
  | 82 => ⟨S4096x12, .f32⟩
  | 83 => ⟨S4096x12, .f32⟩
  | 84 => ⟨S4096x12, .bf16⟩
  | 85 => ⟨S4096x12, .f32⟩
  | 86 => ⟨S4096x12x1, .f32⟩
  | 87 => ⟨S4096x12, .f32⟩
  | 88 => ⟨S4096x12x1, .f32⟩
  | 89 => ⟨S4096x12, .f32⟩
  | 90 => ⟨S4096x12x1, .f32⟩
  | 91 => ⟨S4096x12x3, .f32⟩
  | 92 => ⟨S_, .f32⟩
  | 93 => ⟨S4096x12x58, .f32⟩
  | 94 => ⟨S4096x12x128, .f32⟩
  | 95 => ⟨S4096x1536, .f32⟩
  | 96 => ⟨S4096x1536, .bf16⟩
  | 97 => ⟨S_, .f32⟩
  | 98 => ⟨S4096x12x58, .f32⟩
  | 99 => ⟨S4096x12x128, .f32⟩
  | 100 => ⟨S4096x1536, .f32⟩
  | 101 => ⟨S4096x1536, .bf16⟩
  | 102 => ⟨S4096x12, .f32⟩
  | 103 => ⟨S4096x12, .bf16⟩
  | 104 => ⟨S4096x12, .f32⟩
  | 105 => ⟨S4096x12, .f32⟩
  | 106 => ⟨S4096x12, .bf16⟩
  | 107 => ⟨S4096x12, .f32⟩
  | 108 => ⟨S4096x12, .f32⟩
  | 109 => ⟨S4096x12, .bf16⟩
  | 110 => ⟨S4096x12, .f32⟩
  | 111 => ⟨S4096x12x1, .f32⟩
  | 112 => ⟨S4096x12, .f32⟩
  | 113 => ⟨S4096x12x1, .f32⟩
  | 114 => ⟨S4096x12, .f32⟩
  | 115 => ⟨S4096x12x1, .f32⟩
  | 116 => ⟨S4096x12x3, .f32⟩
  | 117 => ⟨S_, .f32⟩
  | 118 => ⟨S4096x12x58, .f32⟩
  | 119 => ⟨S4096x12x128, .f32⟩
  | 120 => ⟨S4096x1536, .f32⟩
  | 121 => ⟨S4096x1536, .bf16⟩
  | 122 => ⟨S1536x4096, .bf16⟩
  | 123 => ⟨S1536x4096, .bf16⟩
  | 124 => ⟨S1536x4096, .bf16⟩
  | 125 => ⟨S1536x4096, .f32⟩
  | 126 => ⟨S4096x768, .f32⟩
  | 127 => ⟨S4096x768, .bf16⟩
  | _ => ⟨S4096x12x64, .f32⟩

abbrev hbmTy0_1 (i : Nat) : BufTy := match i % 128 with
  | 0 => ⟨S2x4096x128, .f32⟩
  | _ => ⟨S4096x12x64, .f32⟩

abbrev hbmTy (i : Nat) : BufTy := match i / 128 with
  | 0 => hbmTy0_0 i
  | 1 => hbmTy0_1 i
  | _ => ⟨S4096x12x64, .f32⟩

abbrev bufTy : (tb : Table) → Fin (tcTables nBuf tb) → BufTy
  | .hbm, ⟨i, _⟩ => hbmTy i
  | .local _ .vmem, ⟨0, _⟩ => ⟨S512x768, .bf16⟩
  | .local _ .vmem, ⟨1, _⟩ => ⟨S512x768, .bf16⟩
  | .local _ .vmem, ⟨2, _⟩ => ⟨S768x512, .bf16⟩
  | .local _ .vmem, ⟨3, _⟩ => ⟨S768x512, .bf16⟩
  | .local _ .vmem, ⟨4, _⟩ => ⟨S512x768, .bf16⟩
  | .local _ .vmem, ⟨5, _⟩ => ⟨S512x768, .bf16⟩
  | .local _ .vmem, ⟨6, _⟩ => ⟨S768x512, .bf16⟩
  | .local _ .vmem, ⟨7, _⟩ => ⟨S768x512, .bf16⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | .local _ .vmem, ⟨11, _⟩ => ⟨S512x768, .bf16⟩
  | .local _ .vmem, ⟨12, _⟩ => ⟨S768x512, .bf16⟩
  | .local _ .vmem, ⟨13, _⟩ => ⟨S768x512, .bf16⟩
  | .local _ .vmem, ⟨14, _⟩ => ⟨S512x384, .f32⟩
  | .local _ .vmem, ⟨15, _⟩ => ⟨S512x384, .f32⟩
  | .local _ .vmem, ⟨16, _⟩ => ⟨S512x384, .bf16⟩
  | .local _ .vmem, ⟨17, _⟩ => ⟨S512x384, .bf16⟩
  | .local _ .vmem, ⟨18, _⟩ => ⟨S1x512x128, .f32⟩
  | .local _ .vmem, ⟨19, _⟩ => ⟨S1x512x128, .f32⟩
  | .local _ .vmem, ⟨20, _⟩ => ⟨S768x4096, .f32⟩
  | .local _ .vmem, ⟨21, _⟩ => ⟨S512x768, .f32⟩
  | .local _ .vmem, ⟨22, _⟩ => ⟨S512x768, .f32⟩
  | _, _ => ⟨S4096x12x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_5 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_6 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_7 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_cst_8 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107_0 : Ref sig .tc := ⟨.hbm, 125, rfl⟩
abbrev main_v107_1 : Ref sig .tc := ⟨.hbm, 126, rfl⟩
abbrev main_v107_2 : Ref sig .tc := ⟨.hbm, 127, rfl⟩
abbrev main_v107_3 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 8, 8], ![false, false, false]⟩

def k0_cond3 (i : grid0.Coords) : BitVec 1 :=
  let arg1 : BitVec 32 := BitVec.ofNat 32 (i 1).val
  let c512_i32 : BitVec 32 := 512#32
  let v8 : BitVec 32 := Scalar.muli arg1 c512_i32
  let c512_i32_4 : BitVec 32 := 512#32
  let v9 : BitVec 32 := Scalar.addi v8 c512_i32_4
  let c1_i32 : BitVec 32 := 1#32
  let v10 : BitVec 32 := Scalar.subi v9 c1_i32
  let arg2 : BitVec 32 := BitVec.ofNat 32 (i 2).val
  let c512_i32_5 : BitVec 32 := 512#32
  let v11 : BitVec 32 := Scalar.muli arg2 c512_i32_5
  let v12 : BitVec 1 := Scalar.cmpi .sle v10 v11
  let v13 : BitVec 32 := Scalar.extui v12
  let c0_i32_6 : BitVec 32 := 0#32
  let v14 : BitVec 1 := Scalar.cmpi .ne v13 c0_i32_6
  v14

def k0_mult1 (i : grid0.Coords) : BitVec 32 :=
  let arg2 : BitVec 32 := BitVec.ofNat 32 (i 2).val
  let c512_i32_20 : BitVec 32 := 512#32
  let v46 : BitVec 32 := Scalar.muli arg2 c512_i32_20
  v46
def k0_off1 (i : grid0.Coords) : Fin 2 → Nat :=
  let c0_43 : Index := 0#32
  let arg2 : BitVec 32 := BitVec.ofNat 32 (i 2).val
  let c512_i32_20 : BitVec 32 := 512#32
  let v46 : BitVec 32 := Scalar.muli arg2 c512_i32_20
  let v47 : BitVec 32 := v46
  let v78 : Index := Scalar.indexCast v47
  ![0, v78.toNat]
def k0_off2 (i : grid0.Coords) : Fin 2 → Nat :=
  let c128_71 : Index := 128#32
  let arg2 : BitVec 32 := BitVec.ofNat 32 (i 2).val
  let c512_i32_20 : BitVec 32 := 512#32
  let v46 : BitVec 32 := Scalar.muli arg2 c512_i32_20
  let v47 : BitVec 32 := v46
  let v118 : Index := Scalar.indexCast v47
  ![128, v118.toNat]
def k0_off3 (i : grid0.Coords) : Fin 2 → Nat :=
  let c256_99 : Index := 256#32
  let arg2 : BitVec 32 := BitVec.ofNat 32 (i 2).val
  let c512_i32_20 : BitVec 32 := 512#32
  let v46 : BitVec 32 := Scalar.muli arg2 c512_i32_20
  let v47 : BitVec 32 := v46
  let v158 : Index := Scalar.indexCast v47
  ![256, v158.toNat]
def k0_off4 (i : grid0.Coords) : Fin 2 → Nat :=
  let c384_127 : Index := 384#32
  let arg2 : BitVec 32 := BitVec.ofNat 32 (i 2).val
  let c512_i32_20 : BitVec 32 := 512#32
  let v46 : BitVec 32 := Scalar.muli arg2 c512_i32_20
  let v47 : BitVec 32 := v46
  let v198 : Index := Scalar.indexCast v47
  ![384, v198.toNat]
def k0_off5 (i : grid0.Coords) : Fin 2 → Nat :=
  let c512_155 : Index := 512#32
  let arg2 : BitVec 32 := BitVec.ofNat 32 (i 2).val
  let c512_i32_20 : BitVec 32 := 512#32
  let v46 : BitVec 32 := Scalar.muli arg2 c512_i32_20
  let v47 : BitVec 32 := v46
  let v238 : Index := Scalar.indexCast v47
  ![512, v238.toNat]
def k0_off6 (i : grid0.Coords) : Fin 2 → Nat :=
  let c640_183 : Index := 640#32
  let arg2 : BitVec 32 := BitVec.ofNat 32 (i 2).val
  let c512_i32_20 : BitVec 32 := 512#32
  let v46 : BitVec 32 := Scalar.muli arg2 c512_i32_20
  let v47 : BitVec 32 := v46
  let v278 : Index := Scalar.indexCast v47
  ![640, v278.toNat]
def k0_cond4 (i : grid0.Coords) : BitVec 1 :=
  let arg1 : BitVec 32 := BitVec.ofNat 32 (i 1).val
  let c512_i32 : BitVec 32 := 512#32
  let v8 : BitVec 32 := Scalar.muli arg1 c512_i32
  let c512_i32_4 : BitVec 32 := 512#32
  let v9 : BitVec 32 := Scalar.addi v8 c512_i32_4
  let c1_i32 : BitVec 32 := 1#32
  let v10 : BitVec 32 := Scalar.subi v9 c1_i32
  let arg2 : BitVec 32 := BitVec.ofNat 32 (i 2).val
  let c512_i32_5 : BitVec 32 := 512#32
  let v11 : BitVec 32 := Scalar.muli arg2 c512_i32_5
  let v12 : BitVec 1 := Scalar.cmpi .sle v10 v11
  let v_true : BitVec 1 := 1#1
  let v15 : BitVec 1 := Scalar.xori v12 v_true
  let c512_i32_7 : BitVec 32 := 512#32
  let v16 : BitVec 32 := Scalar.muli arg1 c512_i32_7
  let c0_i32_9 : BitVec 32 := 0#32
  let v18 : BitVec 1 := Scalar.cmpi .sgt v16 c0_i32_9
  let v19 : BitVec 32 := Scalar.extui v18
  let c0_i32_10 : BitVec 32 := 0#32
  let v20 : BitVec 1 := Scalar.cmpi .slt v16 c0_i32_10
  let v21 : BitVec 32 := Scalar.extui v20
  let v22 : BitVec 32 := Scalar.subi v19 v21
  let c512_i32_8 : BitVec 32 := 512#32
  let c0_i32_11 : BitVec 32 := 0#32
  let v23 : BitVec 1 := Scalar.cmpi .sgt c512_i32_8 c0_i32_11
  let v24 : BitVec 32 := Scalar.extui v23
  let c0_i32_12 : BitVec 32 := 0#32
  let v25 : BitVec 1 := Scalar.cmpi .slt c512_i32_8 c0_i32_12
  let v26 : BitVec 32 := Scalar.extui v25
  let v27 : BitVec 32 := Scalar.subi v24 v26
  let v28 : BitVec 1 := Scalar.cmpi .ne v22 v27
  let v29 : BitVec 32 := Scalar.remsi v16 c512_i32_8
  let c0_i32_13 : BitVec 32 := 0#32
  let v30 : BitVec 1 := Scalar.cmpi .ne v29 c0_i32_13
  let v31 : BitVec 1 := Scalar.andi v28 v30
  let v17 : BitVec 32 := Scalar.divsi v16 c512_i32_8
  let c1_i32_14 : BitVec 32 := 1#32
  let v32 : BitVec 32 := Scalar.subi v17 c1_i32_14
  let v33 : BitVec 32 := Scalar.select v31 v32 v17
  let v34 : BitVec 1 := Scalar.cmpi .sge arg2 v33
  let v35 : BitVec 1 := Scalar.andi v15 v34
  let v36 : BitVec 32 := Scalar.extui v35
  let c0_i32_15 : BitVec 32 := 0#32
  let v37 : BitVec 1 := Scalar.cmpi .ne v36 c0_i32_15
  v37

def k0_mult2 (i : grid0.Coords) : BitVec 32 :=
  let arg2 : BitVec 32 := BitVec.ofNat 32 (i 2).val
  let c512_i32_22 : BitVec 32 := 512#32
  let v55 : BitVec 32 := Scalar.muli arg2 c512_i32_22
  v55
def k0_off7 (i : grid0.Coords) : Fin 2 → Nat :=
  let c0_46 : Index := 0#32
  let arg2 : BitVec 32 := BitVec.ofNat 32 (i 2).val
  let c512_i32_22 : BitVec 32 := 512#32
  let v55 : BitVec 32 := Scalar.muli arg2 c512_i32_22
  let v56 : BitVec 32 := v55
  let v89 : Index := Scalar.indexCast v56
  ![0, v89.toNat]
def k0_off8 (i : grid0.Coords) : Fin 2 → Nat :=
  let c128_75 : Index := 128#32
  let arg2 : BitVec 32 := BitVec.ofNat 32 (i 2).val
  let c512_i32_22 : BitVec 32 := 512#32
  let v55 : BitVec 32 := Scalar.muli arg2 c512_i32_22
  let v56 : BitVec 32 := v55
  let v131 : Index := Scalar.indexCast v56
  ![128, v131.toNat]
def k0_off9 (i : grid0.Coords) : Fin 2 → Nat :=
  let c256_104 : Index := 256#32
  let arg2 : BitVec 32 := BitVec.ofNat 32 (i 2).val
  let c512_i32_22 : BitVec 32 := 512#32
  let v55 : BitVec 32 := Scalar.muli arg2 c512_i32_22
  let v56 : BitVec 32 := v55
  let v173 : Index := Scalar.indexCast v56
  ![256, v173.toNat]
def k0_off10 (i : grid0.Coords) : Fin 2 → Nat :=
  let c384_133 : Index := 384#32
  let arg2 : BitVec 32 := BitVec.ofNat 32 (i 2).val
  let c512_i32_22 : BitVec 32 := 512#32
  let v55 : BitVec 32 := Scalar.muli arg2 c512_i32_22
  let v56 : BitVec 32 := v55
  let v215 : Index := Scalar.indexCast v56
  ![384, v215.toNat]
def k0_off11 (i : grid0.Coords) : Fin 2 → Nat :=
  let c512_162 : Index := 512#32
  let arg2 : BitVec 32 := BitVec.ofNat 32 (i 2).val
  let c512_i32_22 : BitVec 32 := 512#32
  let v55 : BitVec 32 := Scalar.muli arg2 c512_i32_22
  let v56 : BitVec 32 := v55
  let v257 : Index := Scalar.indexCast v56
  ![512, v257.toNat]
def k0_off12 (i : grid0.Coords) : Fin 2 → Nat :=
  let c640_191 : Index := 640#32
  let arg2 : BitVec 32 := BitVec.ofNat 32 (i 2).val
  let c512_i32_22 : BitVec 32 := 512#32
  let v55 : BitVec 32 := Scalar.muli arg2 c512_i32_22
  let v56 : BitVec 32 := v55
  let v299 : Index := Scalar.indexCast v56
  ![640, v299.toNat]
def k0_cond6 (i : grid0.Coords) : BitVec 1 :=
  let arg1 : BitVec 32 := BitVec.ofNat 32 (i 1).val
  let c7_i32_17 : BitVec 32 := 7#32
  let v41 : BitVec 1 := Scalar.cmpi .eq arg1 c7_i32_17
  let arg2 : BitVec 32 := BitVec.ofNat 32 (i 2).val
  let c7_i32_18 : BitVec 32 := 7#32
  let v42 : BitVec 1 := Scalar.cmpi .eq arg2 c7_i32_18
  let v43 : BitVec 1 := Scalar.andi v41 v42
  let v44 : BitVec 32 := Scalar.extui v43
  let c0_i32_19 : BitVec 32 := 0#32
  let v45 : BitVec 1 := Scalar.cmpi .ne v44 c0_i32_19
  v45

def k0_mult3 (i : grid0.Coords) : BitVec 32 :=
  let arg0 : BitVec 32 := BitVec.ofNat 32 (i 0).val
  let c768_i32 : BitVec 32 := 768#32
  let v46 : BitVec 32 := Scalar.muli arg0 c768_i32
  v46
def k0_off13 (i : grid0.Coords) : Fin 2 → Nat :=
  let arg0 : BitVec 32 := BitVec.ofNat 32 (i 0).val
  let c768_i32 : BitVec 32 := 768#32
  let v46 : BitVec 32 := Scalar.muli arg0 c768_i32
  let v47 : BitVec 32 := v46
  let c0_i32_20 : BitVec 32 := 0#32
  ![v47.toNat, 0]
def k0_cond5 (i : grid0.Coords) : BitVec 1 :=
  let arg2 : BitVec 32 := BitVec.ofNat 32 (i 2).val
  let c7_i32 : BitVec 32 := 7#32
  let v38 : BitVec 1 := Scalar.cmpi .eq arg2 c7_i32
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c512_i32_0 : BitVec 32 := 512#32
  let v1 : BitVec 32 := Scalar.divsi v0 c512_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.maxsi arg2 v17
  let c0_i32_5 : BitVec 32 := 0#32
  ![v18.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c512_i32_0 : BitVec 32 := 512#32
  let v1 : BitVec 32 := Scalar.divsi v0 c512_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.maxsi arg2 v17
  let c0_i32_5 : BitVec 32 := 0#32
  ![arg0.toNat, v18.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c512_i32_0 : BitVec 32 := 512#32
  let v1 : BitVec 32 := Scalar.divsi v0 c512_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.maxsi arg2 v17
  let c0_i32_5 : BitVec 32 := 0#32
  ![v18.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg1 c512_i32
  let c512_i32_0 : BitVec 32 := 512#32
  let v1 : BitVec 32 := Scalar.divsi v0 c512_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.maxsi arg2 v17
  let c0_i32_5 : BitVec 32 := 0#32
  ![arg0.toNat, v18.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S768x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S4096x12x64 : Shape := ⟨3, ![4096, 12, 64]⟩
abbrev S4096x12 : Shape := ⟨2, ![4096, 12]⟩
abbrev S12x4096x4096 : Shape := ⟨3, ![12, 4096, 4096]⟩
abbrev S12x4096 : Shape := ⟨2, ![12, 4096]⟩
abbrev S12x4096x1 : Shape := ⟨3, ![12, 4096, 1]⟩
abbrev S12x1x4096 : Shape := ⟨3, ![12, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S_ : Shape := ⟨0, ![]⟩
abbrev S12x64x4096 : Shape := ⟨3, ![12, 64, 4096]⟩
abbrev S12x4096x64 : Shape := ⟨3, ![12, 4096, 64]⟩
abbrev S4096x12x1 : Shape := ⟨3, ![4096, 12, 1]⟩
abbrev S4096x12x63 : Shape := ⟨3, ![4096, 12, 63]⟩
abbrev S4096x12x128 : Shape := ⟨3, ![4096, 12, 128]⟩
abbrev S4096x1536 : Shape := ⟨2, ![4096, 1536]⟩
abbrev S1536x4096 : Shape := ⟨2, ![1536, 4096]⟩
abbrev S4096x6 : Shape := ⟨2, ![4096, 6]⟩
abbrev S4096x128 : Shape := ⟨2, ![4096, 128]⟩
abbrev S1x4096x128 : Shape := ⟨3, ![1, 4096, 128]⟩
abbrev S2x4096x128 : Shape := ⟨3, ![2, 4096, 128]⟩
abbrev S4096x768 : Shape := ⟨2, ![4096, 768]⟩

abbrev nBuf : Space → Nat
  | .hbm => 127
  | .vmem => 0
  | .smem => 0
  | _ => 0

abbrev bufTy : (tb : Table) → Fin (tcTables nBuf tb) → BufTy
  | .hbm, ⟨0, _⟩ => ⟨S4096x12x64, .f32⟩
  | .hbm, ⟨1, _⟩ => ⟨S4096x12x64, .f32⟩
  | .hbm, ⟨2, _⟩ => ⟨S4096x12x64, .f32⟩
  | .hbm, ⟨3, _⟩ => ⟨S4096x12, .f32⟩
  | .hbm, ⟨4, _⟩ => ⟨S4096x12x64, .f32⟩
  | .hbm, ⟨5, _⟩ => ⟨S12x4096x4096, .f32⟩
  | .hbm, ⟨6, _⟩ => ⟨S12x4096, .f32⟩
  | .hbm, ⟨7, _⟩ => ⟨S12x4096x1, .f32⟩
  | .hbm, ⟨8, _⟩ => ⟨S12x4096x4096, .f32⟩
  | .hbm, ⟨9, _⟩ => ⟨S12x4096x4096, .f32⟩
  | .hbm, ⟨10, _⟩ => ⟨S12x4096, .f32⟩
  | .hbm, ⟨11, _⟩ => ⟨S12x1x4096, .f32⟩
  | .hbm, ⟨12, _⟩ => ⟨S12x4096x4096, .f32⟩
  | .hbm, ⟨13, _⟩ => ⟨S12x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S1x4096x4096, .i1⟩
  | .hbm, ⟨22, _⟩ => ⟨S_, .f32⟩
  | .hbm, ⟨23, _⟩ => ⟨S_, .f32⟩
  | .hbm, ⟨24, _⟩ => ⟨S12x4096x4096, .i1⟩
  | .hbm, ⟨25, _⟩ => ⟨S12x4096x4096, .f32⟩
  | .hbm, ⟨26, _⟩ => ⟨S12x4096x4096, .f32⟩
  | .hbm, ⟨27, _⟩ => ⟨S_, .f32⟩
  | .hbm, ⟨28, _⟩ => ⟨S12x4096x4096, .f32⟩
  | .hbm, ⟨29, _⟩ => ⟨S_, .f32⟩
  | .hbm, ⟨30, _⟩ => ⟨S12x4096, .f32⟩
  | .hbm, ⟨31, _⟩ => ⟨S12x4096x1, .f32⟩
  | .hbm, ⟨32, _⟩ => ⟨S12x4096x4096, .f32⟩
  | .hbm, ⟨33, _⟩ => ⟨S12x4096x4096, .i1⟩
  | .hbm, ⟨34, _⟩ => ⟨S12x4096x4096, .f32⟩
  | .hbm, ⟨35, _⟩ => ⟨S_, .f32⟩
  | .hbm, ⟨36, _⟩ => ⟨S12x4096, .f32⟩
  | .hbm, ⟨37, _⟩ => ⟨S_, .f32⟩
  | .hbm, ⟨38, _⟩ => ⟨S12x4096, .f32⟩
  | .hbm, ⟨39, _⟩ => ⟨S12x4096, .f32⟩
  | .hbm, ⟨40, _⟩ => ⟨S_, .f32⟩
  | .hbm, ⟨41, _⟩ => ⟨S12x4096, .f32⟩
  | .hbm, ⟨42, _⟩ => ⟨S12x4096, .i1⟩
  | .hbm, ⟨43, _⟩ => ⟨S_, .f32⟩
  | .hbm, ⟨44, _⟩ => ⟨S12x4096, .f32⟩
  | .hbm, ⟨45, _⟩ => ⟨S12x4096, .i1⟩
  | .hbm, ⟨46, _⟩ => ⟨S_, .f32⟩
  | .hbm, ⟨47, _⟩ => ⟨S12x4096, .f32⟩
  | .hbm, ⟨48, _⟩ => ⟨S_, .f32⟩
  | .hbm, ⟨49, _⟩ => ⟨S12x4096, .f32⟩
  | .hbm, ⟨50, _⟩ => ⟨S_, .f32⟩
  | .hbm, ⟨51, _⟩ => ⟨S12x4096, .f32⟩
  | .hbm, ⟨52, _⟩ => ⟨S12x4096, .f32⟩
  | .hbm, ⟨53, _⟩ => ⟨S12x4096, .f32⟩
  | .hbm, ⟨54, _⟩ => ⟨S12x4096x1, .f32⟩
  | .hbm, ⟨55, _⟩ => ⟨S12x4096x4096, .f32⟩
  | .hbm, ⟨56, _⟩ => ⟨S12x4096x4096, .f32⟩
  | .hbm, ⟨57, _⟩ => ⟨S12x4096x4096, .f32⟩
  | .hbm, ⟨58, _⟩ => ⟨S_, .f32⟩
  | .hbm, ⟨59, _⟩ => ⟨S12x4096, .f32⟩
  | .hbm, ⟨60, _⟩ => ⟨S12x4096x1, .f32⟩
  | .hbm, ⟨61, _⟩ => ⟨S12x4096x4096, .f32⟩
  | .hbm, ⟨62, _⟩ => ⟨S12x4096x4096, .f32⟩
  | .hbm, ⟨63, _⟩ => ⟨S12x4096x1, .f32⟩
  | .hbm, ⟨64, _⟩ => ⟨S_, .f32⟩
  | .hbm, ⟨65, _⟩ => ⟨S12x4096x1, .f32⟩
  | .hbm, ⟨66, _⟩ => ⟨S12x4096x1, .f32⟩
  | .hbm, ⟨67, _⟩ => ⟨S12x64x4096, .f32⟩
  | .hbm, ⟨68, _⟩ => ⟨S4096x12x64, .f32⟩
  | .hbm, ⟨69, _⟩ => ⟨S12x64x4096, .f32⟩
  | .hbm, ⟨70, _⟩ => ⟨S12x4096x4096, .f32⟩
  | .hbm, ⟨71, _⟩ => ⟨S12x64x4096, .f32⟩
  | .hbm, ⟨72, _⟩ => ⟨S4096x12x64, .f32⟩
  | .hbm, ⟨73, _⟩ => ⟨S12x4096x4096, .f32⟩
  | .hbm, ⟨74, _⟩ => ⟨S12x4096x4096, .f32⟩
  | .hbm, ⟨75, _⟩ => ⟨S12x4096x4096, .f32⟩
  | .hbm, ⟨76, _⟩ => ⟨S_, .f32⟩
  | .hbm, ⟨77, _⟩ => ⟨S12x4096, .f32⟩
  | .hbm, ⟨78, _⟩ => ⟨S12x4096x1, .f32⟩
  | .hbm, ⟨79, _⟩ => ⟨S12x4096x1, .f32⟩
  | .hbm, ⟨80, _⟩ => ⟨S12x4096x4096, .f32⟩
  | .hbm, ⟨81, _⟩ => ⟨S12x4096x4096, .f32⟩
  | .hbm, ⟨82, _⟩ => ⟨S_, .f32⟩
  | .hbm, ⟨83, _⟩ => ⟨S12x4096, .f32⟩
  | .hbm, ⟨84, _⟩ => ⟨S12x4096x4096, .f32⟩
  | .hbm, ⟨85, _⟩ => ⟨S12x4096x4096, .f32⟩
  | .hbm, ⟨86, _⟩ => ⟨S12x4096x4096, .f32⟩
  | .hbm, ⟨87, _⟩ => ⟨S_, .f32⟩
  | .hbm, ⟨88, _⟩ => ⟨S12x4096x4096, .f32⟩
  | .hbm, ⟨89, _⟩ => ⟨S12x4096x4096, .f32⟩
  | .hbm, ⟨90, _⟩ => ⟨S12x4096x4096, .f32⟩
  | .hbm, ⟨91, _⟩ => ⟨S_, .f32⟩
  | .hbm, ⟨92, _⟩ => ⟨S12x4096, .f32⟩
  | .hbm, ⟨93, _⟩ => ⟨S12x1x4096, .f32⟩
  | .hbm, ⟨94, _⟩ => ⟨S_, .f32⟩
  | .hbm, ⟨95, _⟩ => ⟨S12x4096, .f32⟩
  | .hbm, ⟨96, _⟩ => ⟨S4096x12, .f32⟩
  | .hbm, ⟨97, _⟩ => ⟨S_, .f32⟩
  | .hbm, ⟨98, _⟩ => ⟨S12x4096, .f32⟩
  | .hbm, ⟨99, _⟩ => ⟨S12x4096x1, .f32⟩
  | .hbm, ⟨100, _⟩ => ⟨S_, .f32⟩
  | .hbm, ⟨101, _⟩ => ⟨S12x4096, .f32⟩
  | .hbm, ⟨102, _⟩ => ⟨S4096x12, .f32⟩
  | .hbm, ⟨103, _⟩ => ⟨S12x4096x64, .f32⟩
  | .hbm, ⟨104, _⟩ => ⟨S4096x12x64, .f32⟩
  | .hbm, ⟨105, _⟩ => ⟨S12x4096x64, .f32⟩
  | .hbm, ⟨106, _⟩ => ⟨S4096x12x64, .f32⟩
  | .hbm, ⟨107, _⟩ => ⟨S4096x12x1, .f32⟩
  | .hbm, ⟨108, _⟩ => ⟨S_, .f32⟩
  | .hbm, ⟨109, _⟩ => ⟨S4096x12x63, .f32⟩
  | .hbm, ⟨110, _⟩ => ⟨S4096x12x128, .f32⟩
  | .hbm, ⟨111, _⟩ => ⟨S4096x1536, .f32⟩
  | .hbm, ⟨112, _⟩ => ⟨S1536x4096, .f32⟩
  | .hbm, ⟨113, _⟩ => ⟨S4096x6, .f32⟩
  | .hbm, ⟨114, _⟩ => ⟨S_, .i32⟩
  | .hbm, ⟨115, _⟩ => ⟨S_, .f32⟩
  | .hbm, ⟨116, _⟩ => ⟨S4096x128, .f32⟩
  | .hbm, ⟨117, _⟩ => ⟨S4096x6, .f32⟩
  | .hbm, ⟨118, _⟩ => ⟨S_, .i32⟩
  | .hbm, ⟨119, _⟩ => ⟨S_, .f32⟩
  | .hbm, ⟨120, _⟩ => ⟨S4096x128, .f32⟩
  | .hbm, ⟨121, _⟩ => ⟨S1x4096x128, .f32⟩
  | .hbm, ⟨122, _⟩ => ⟨S1x4096x128, .f32⟩
  | .hbm, ⟨123, _⟩ => ⟨S2x4096x128, .f32⟩
  | .hbm, ⟨124, _⟩ => ⟨S4096x768, .f32⟩
  | .hbm, ⟨125, _⟩ => ⟨S4096x768, .f32⟩
  | .hbm, ⟨126, _⟩ => ⟨S4096x768, .bf16⟩
  | _, _ => ⟨S4096x12x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_call0_v0 : Ref sig .tc := ⟨.hbm, 23, rfl⟩
abbrev main_v17_1 : Ref sig .tc := ⟨.hbm, 24, rfl⟩
abbrev main_call0_v2 : Ref sig .tc := ⟨.hbm, 25, rfl⟩
abbrev main_v17_0 : Ref sig .tc := ⟨.hbm, 26, rfl⟩
abbrev main_call0_cst : Ref sig .tc := ⟨.hbm, 27, rfl⟩
abbrev main_v17_2 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_cst_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c : Ref sig .tc := ⟨.hbm, 114, rfl⟩
abbrev main_call2_v0 : Ref sig .tc := ⟨.hbm, 115, rfl⟩
abbrev main_v84 : Ref sig .tc := ⟨.hbm, 116, rfl⟩
abbrev main_v85 : Ref sig .tc := ⟨.hbm, 117, rfl⟩
abbrev main_c_17 : Ref sig .tc := ⟨.hbm, 118, rfl⟩
abbrev main_call3_v0 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

def κ : String → Option EReal := fun
  | "mask" => some ⊥
  | _ => none
-- ==== Kernel2.lean ====
abbrev S4096x12288 : Shape := ⟨2, ![4096, 12288]⟩
abbrev S4096x768 : Shape := ⟨2, ![4096, 768]⟩
abbrev S4096x512 : Shape := ⟨2, ![4096, 512]⟩
abbrev S768x2048 : Shape := ⟨2, ![768, 2048]⟩
abbrev S512x2048 : Shape := ⟨2, ![512, 2048]⟩
abbrev S4096x2048 : Shape := ⟨2, ![4096, 2048]⟩
abbrev S768x512 : Shape := ⟨2, ![768, 512]⟩
abbrev S1x768x512 : Shape := ⟨3, ![1, 768, 512]⟩
abbrev S4x768x512 : Shape := ⟨3, ![4, 768, 512]⟩
abbrev S512x512 : Shape := ⟨2, ![512, 512]⟩
abbrev S1x512x512 : Shape := ⟨3, ![1, 512, 512]⟩
abbrev S4x512x512 : Shape := ⟨3, ![4, 512, 512]⟩
abbrev S512x768 : Shape := ⟨2, ![512, 768]⟩

abbrev nBuf : Space → Nat
  | .hbm => 44
  | .vmem => 38
  | .smem => 0
  | _ => 0

abbrev bufTy : (tb : Table) → Fin (tcTables nBuf tb) → BufTy
  | .hbm, ⟨0, _⟩ => ⟨S4096x12288, .f32⟩
  | .hbm, ⟨1, _⟩ => ⟨S4096x768, .bf16⟩
  | .hbm, ⟨2, _⟩ => ⟨S4096x768, .bf16⟩
  | .hbm, ⟨3, _⟩ => ⟨S4096x512, .bf16⟩
  | .hbm, ⟨4, _⟩ => ⟨S768x2048, .bf16⟩
  | .hbm, ⟨5, _⟩ => ⟨S768x2048, .bf16⟩
  | .hbm, ⟨6, _⟩ => ⟨S512x2048, .bf16⟩
  | .hbm, ⟨7, _⟩ => ⟨S4096x2048, .f32⟩
  | .hbm, ⟨8, _⟩ => ⟨S768x512, .bf16⟩
  | .hbm, ⟨9, _⟩ => ⟨S768x512, .bf16⟩
  | .hbm, ⟨10, _⟩ => ⟨S768x512, .bf16⟩
  | .hbm, ⟨11, _⟩ => ⟨S768x512, .bf16⟩
  | .hbm, ⟨12, _⟩ => ⟨S1x768x512, .bf16⟩
  | .hbm, ⟨13, _⟩ => ⟨S1x768x512, .bf16⟩
  | .hbm, ⟨14, _⟩ => ⟨S1x768x512, .bf16⟩
  | .hbm, ⟨15, _⟩ => ⟨S1x768x512, .bf16⟩
  | .hbm, ⟨16, _⟩ => ⟨S4x768x512, .bf16⟩
  | .hbm, ⟨17, _⟩ => ⟨S768x512, .bf16⟩
  | .hbm, ⟨18, _⟩ => ⟨S768x512, .bf16⟩
  | .hbm, ⟨19, _⟩ => ⟨S768x512, .bf16⟩
  | .hbm, ⟨20, _⟩ => ⟨S768x512, .bf16⟩
  | .hbm, ⟨21, _⟩ => ⟨S1x768x512, .bf16⟩
  | .hbm, ⟨22, _⟩ => ⟨S1x768x512, .bf16⟩
  | .hbm, ⟨23, _⟩ => ⟨S1x768x512, .bf16⟩
  | .hbm, ⟨24, _⟩ => ⟨S1x768x512, .bf16⟩
  | .hbm, ⟨25, _⟩ => ⟨S4x768x512, .bf16⟩
  | .hbm, ⟨26, _⟩ => ⟨S512x512, .bf16⟩
  | .hbm, ⟨27, _⟩ => ⟨S512x512, .bf16⟩
  | .hbm, ⟨28, _⟩ => ⟨S512x512, .bf16⟩
  | .hbm, ⟨29, _⟩ => ⟨S512x512, .bf16⟩
  | .hbm, ⟨30, _⟩ => ⟨S1x512x512, .bf16⟩
  | .hbm, ⟨31, _⟩ => ⟨S1x512x512, .bf16⟩
  | .hbm, ⟨32, _⟩ => ⟨S1x512x512, .bf16⟩
  | .hbm, ⟨33, _⟩ => ⟨S1x512x512, .bf16⟩
  | .hbm, ⟨34, _⟩ => ⟨S4x512x512, .bf16⟩
  | .hbm, ⟨35, _⟩ => ⟨S4096x2048, .bf16⟩
  | .hbm, ⟨36, _⟩ => ⟨S4096x2048, .bf16⟩
  | .hbm, ⟨37, _⟩ => ⟨S4096x2048, .bf16⟩
  | .hbm, ⟨38, _⟩ => ⟨S4096x2048, .bf16⟩
  | .hbm, ⟨39, _⟩ => ⟨S4096x2048, .bf16⟩
  | .hbm, ⟨40, _⟩ => ⟨S4096x2048, .bf16⟩
  | .hbm, ⟨41, _⟩ => ⟨S4096x768, .f32⟩
  | .hbm, ⟨42, _⟩ => ⟨S4096x768, .f32⟩
  | .hbm, ⟨43, _⟩ => ⟨S4096x512, .f32⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x512, .bf16⟩
  | .local _ .vmem, ⟨5, _⟩ => ⟨S512x512, .bf16⟩
  | .local _ .vmem, ⟨6, _⟩ => ⟨S1x768x512, .bf16⟩
  | .local _ .vmem, ⟨7, _⟩ => ⟨S1x768x512, .bf16⟩
  | .local _ .vmem, ⟨8, _⟩ => ⟨S1x768x512, .bf16⟩
  | .local _ .vmem, ⟨9, _⟩ => ⟨S1x768x512, .bf16⟩
  | .local _ .vmem, ⟨10, _⟩ => ⟨S1x512x512, .bf16⟩
  | .local _ .vmem, ⟨11, _⟩ => ⟨S1x512x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S512x768, .f32⟩
  | .local _ .vmem, ⟨33, _⟩ => ⟨S512x768, .f32⟩
  | .local _ .vmem, ⟨34, _⟩ => ⟨S512x768, .f32⟩
  | .local _ .vmem, ⟨35, _⟩ => ⟨S512x768, .f32⟩
  | .local _ .vmem, ⟨36, _⟩ => ⟨S512x512, .f32⟩
  | .local _ .vmem, ⟨37, _⟩ => ⟨S512x512, .f32⟩
  | _, _ => ⟨S4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev main_v27_2 : Ref sig .tc := ⟨.hbm, 37, rfl⟩
abbrev main_v27_3 : Ref sig .tc := ⟨.hbm, 38, rfl⟩
abbrev main_v27_4 : Ref sig .tc := ⟨.hbm, 39, rfl⟩
abbrev main_v27_5 : Ref sig .tc := ⟨.hbm, 40, rfl⟩
abbrev main_v27_6 : Ref sig .tc := ⟨.hbm, 41, rfl⟩
abbrev main_v27_7 : Ref sig .tc := ⟨.hbm, 42, rfl⟩
abbrev main_v27_8 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S512x768 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== Reference2Ideal.lean ====
abbrev S4096x12288 : Shape := ⟨2, ![4096, 12288]⟩
abbrev S4096x768 : Shape := ⟨2, ![4096, 768]⟩
abbrev S4096x512 : Shape := ⟨2, ![4096, 512]⟩
abbrev S768x2048 : Shape := ⟨2, ![768, 2048]⟩
abbrev S512x2048 : Shape := ⟨2, ![512, 2048]⟩
abbrev S4096x2048 : Shape := ⟨2, ![4096, 2048]⟩
abbrev S_ : Shape := ⟨0, ![]⟩

abbrev nBuf : Space → Nat
  | .hbm => 84
  | .vmem => 0
  | .smem => 0
  | _ => 0

abbrev bufTy : (tb : Table) → Fin (tcTables nBuf tb) → BufTy
  | .hbm, ⟨0, _⟩ => ⟨S4096x12288, .f32⟩
  | .hbm, ⟨1, _⟩ => ⟨S4096x768, .bf16⟩
  | .hbm, ⟨2, _⟩ => ⟨S4096x768, .bf16⟩
  | .hbm, ⟨3, _⟩ => ⟨S4096x512, .bf16⟩
  | .hbm, ⟨4, _⟩ => ⟨S768x2048, .bf16⟩
  | .hbm, ⟨5, _⟩ => ⟨S768x2048, .bf16⟩
  | .hbm, ⟨6, _⟩ => ⟨S512x2048, .bf16⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x768, .f32⟩
  | .hbm, ⟨12, _⟩ => ⟨S4096x768, .f32⟩
  | .hbm, ⟨13, _⟩ => ⟨S4096x512, .f32⟩
  | .hbm, ⟨14, _⟩ => ⟨S768x2048, .f32⟩
  | .hbm, ⟨15, _⟩ => ⟨S768x2048, .f32⟩
  | .hbm, ⟨16, _⟩ => ⟨S512x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x768, .f32⟩
  | .hbm, ⟨74, _⟩ => ⟨S4096x2048, .f32⟩
  | .hbm, ⟨75, _⟩ => ⟨S4096x768, .f32⟩
  | .hbm, ⟨76, _⟩ => ⟨S4096x2048, .f32⟩
  | .hbm, ⟨77, _⟩ => ⟨S4096x512, .f32⟩
  | .hbm, ⟨78, _⟩ => ⟨S4096x2048, .bf16⟩
  | .hbm, ⟨79, _⟩ => ⟨S4096x2048, .bf16⟩
  | .hbm, ⟨80, _⟩ => ⟨S4096x2048, .bf16⟩
  | .hbm, ⟨81, _⟩ => ⟨S4096x2048, .bf16⟩
  | .hbm, ⟨82, _⟩ => ⟨S4096x2048, .bf16⟩
  | .hbm, ⟨83, _⟩ => ⟨S4096x2048, .bf16⟩
  | _, _ => ⟨S4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Kernel3.lean ====
abbrev S4096x2048 : Shape := ⟨2, ![4096, 2048]⟩
abbrev S2048x2048 : Shape := ⟨2, ![2048, 2048]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_4 : BitVec 32 := 0#32
  let v6 : BitVec 1 := Scalar.cmpi .eq arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x768 : Shape := ⟨2, ![4096, 768]⟩
abbrev S4096x2048 : Shape := ⟨2, ![4096, 2048]⟩
abbrev S768x2048 : Shape := ⟨2, ![768, 2048]⟩
abbrev S4096x512 : Shape := ⟨2, ![4096, 512]⟩
abbrev S768x512 : Shape := ⟨2, ![768, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x768, .bf16⟩
  | .hbm, ⟨1, _⟩ => ⟨S4096x2048, .bf16⟩
  | .hbm, ⟨2, _⟩ => ⟨S768x2048, .f32⟩
  | .local _ .vmem, ⟨0, _⟩ => ⟨S4096x768, .bf16⟩
  | .local _ .vmem, ⟨1, _⟩ => ⟨S4096x512, .bf16⟩
  | .local _ .vmem, ⟨2, _⟩ => ⟨S4096x512, .bf16⟩
  | .local _ .vmem, ⟨3, _⟩ => ⟨S768x512, .f32⟩
  | .local _ .vmem, ⟨4, _⟩ => ⟨S768x512, .f32⟩
  | .local _ .vmem, ⟨5, _⟩ => ⟨S768x512, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_4 : BitVec 32 := 0#32
  let v6 : BitVec 1 := Scalar.cmpi .eq arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x768 : Shape := ⟨2, ![4096, 768]⟩
abbrev S4096x2048 : Shape := ⟨2, ![4096, 2048]⟩
abbrev S_ : Shape := ⟨0, ![]⟩
abbrev S768x2048 : Shape := ⟨2, ![768, 2048]⟩
abbrev S2048x768 : Shape := ⟨2, ![2048, 768]⟩

abbrev nBuf : Space → Nat
  | .hbm => 9
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x2048, .bf16⟩
  | .hbm, ⟨2, _⟩ => ⟨S4096x768, .f32⟩
  | .hbm, ⟨3, _⟩ => ⟨S4096x2048, .f32⟩
  | .hbm, ⟨4, _⟩ => ⟨S_, .f32⟩
  | .hbm, ⟨5, _⟩ => ⟨S768x2048, .f32⟩
  | .hbm, ⟨6, _⟩ => ⟨S4096x2048, .f32⟩
  | .hbm, ⟨7, _⟩ => ⟨S2048x768, .f32⟩
  | .hbm, ⟨8, _⟩ => ⟨S768x2048, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x512 : Shape := ⟨2, ![4096, 512]⟩
abbrev S4096x2048 : Shape := ⟨2, ![4096, 2048]⟩
abbrev S512x2048 : Shape := ⟨2, ![512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_4 : BitVec 32 := 0#32
  let v6 : BitVec 1 := Scalar.cmpi .eq arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S4096x512, .f32⟩
  | .hbm, ⟨3, _⟩ => ⟨S4096x2048, .f32⟩
  | .hbm, ⟨4, _⟩ => ⟨S_, .f32⟩
  | .hbm, ⟨5, _⟩ => ⟨S512x2048, .f32⟩
  | .hbm, ⟨6, _⟩ => ⟨S4096x2048, .f32⟩
  | .hbm, ⟨7, _⟩ => ⟨S2048x512, .f32⟩
  | .hbm, ⟨8, _⟩ => ⟨S512x2048, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S1x1024 : Shape := ⟨2, ![1, 1024]⟩
abbrev S512x2048 : Shape := ⟨2, ![512, 2048]⟩
abbrev S2048x1024 : Shape := ⟨2, ![2048, 1024]⟩
abbrev S512x1024 : Shape := ⟨2, ![512, 1024]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x1024, .f32⟩
  | .hbm, ⟨7, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S512x2048, .f32⟩
  | .local _ .vmem, ⟨14, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference6Ideal.lean ====
abbrev S4096x2048 : Shape := ⟨2, ![4096, 2048]⟩
abbrev S2048x2048 : Shape := ⟨2, ![2048, 2048]⟩
abbrev S_ : Shape := ⟨0, ![]⟩
abbrev S4096 : Shape := ⟨1, ![4096]⟩
abbrev S2048 : Shape := ⟨1, ![2048]⟩
abbrev S1024 : Shape := ⟨1, ![1024]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S2048, .f32⟩
  | .hbm, ⟨37, _⟩ => ⟨S4096x2048, .bf16⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel7.lean ====
abbrev S4096x12288 : Shape := ⟨2, ![4096, 12288]⟩
abbrev S4096x768 : Shape := ⟨2, ![4096, 768]⟩
abbrev S4096x512 : Shape := ⟨2, ![4096, 512]⟩
abbrev S768x2048 : Shape := ⟨2, ![768, 2048]⟩
abbrev S512x2048 : Shape := ⟨2, ![512, 2048]⟩
abbrev S768x512 : Shape := ⟨2, ![768, 512]⟩
abbrev S1x768x512 : Shape := ⟨3, ![1, 768, 512]⟩
abbrev S4x768x512 : Shape := ⟨3, ![4, 768, 512]⟩
abbrev S512x512 : Shape := ⟨2, ![512, 512]⟩
abbrev S1x512x512 : Shape := ⟨3, ![1, 512, 512]⟩
abbrev S4x512x512 : Shape := ⟨3, ![4, 512, 512]⟩
abbrev S4096x2048 : Shape := ⟨2, ![4096, 2048]⟩
abbrev S512x768 : Shape := ⟨2, ![512, 768]⟩

abbrev nBuf : Space → Nat
  | .hbm => 35
  | .vmem => 20
  | .smem => 0
  | _ => 0

abbrev bufTy : (tb : Table) → Fin (tcTables nBuf tb) → BufTy
  | .hbm, ⟨0, _⟩ => ⟨S4096x12288, .f32⟩
  | .hbm, ⟨1, _⟩ => ⟨S4096x768, .bf16⟩
  | .hbm, ⟨2, _⟩ => ⟨S4096x768, .bf16⟩
  | .hbm, ⟨3, _⟩ => ⟨S4096x512, .bf16⟩
  | .hbm, ⟨4, _⟩ => ⟨S768x2048, .bf16⟩
  | .hbm, ⟨5, _⟩ => ⟨S768x2048, .bf16⟩
  | .hbm, ⟨6, _⟩ => ⟨S512x2048, .bf16⟩
  | .hbm, ⟨7, _⟩ => ⟨S768x512, .bf16⟩
  | .hbm, ⟨8, _⟩ => ⟨S768x512, .bf16⟩
  | .hbm, ⟨9, _⟩ => ⟨S768x512, .bf16⟩
  | .hbm, ⟨10, _⟩ => ⟨S768x512, .bf16⟩
  | .hbm, ⟨11, _⟩ => ⟨S1x768x512, .bf16⟩
  | .hbm, ⟨12, _⟩ => ⟨S1x768x512, .bf16⟩
  | .hbm, ⟨13, _⟩ => ⟨S1x768x512, .bf16⟩
  | .hbm, ⟨14, _⟩ => ⟨S1x768x512, .bf16⟩
  | .hbm, ⟨15, _⟩ => ⟨S4x768x512, .bf16⟩
  | .hbm, ⟨16, _⟩ => ⟨S768x512, .bf16⟩
  | .hbm, ⟨17, _⟩ => ⟨S768x512, .bf16⟩
  | .hbm, ⟨18, _⟩ => ⟨S768x512, .bf16⟩
  | .hbm, ⟨19, _⟩ => ⟨S768x512, .bf16⟩
  | .hbm, ⟨20, _⟩ => ⟨S1x768x512, .bf16⟩
  | .hbm, ⟨21, _⟩ => ⟨S1x768x512, .bf16⟩
  | .hbm, ⟨22, _⟩ => ⟨S1x768x512, .bf16⟩
  | .hbm, ⟨23, _⟩ => ⟨S1x768x512, .bf16⟩
  | .hbm, ⟨24, _⟩ => ⟨S4x768x512, .bf16⟩
  | .hbm, ⟨25, _⟩ => ⟨S512x512, .bf16⟩
  | .hbm, ⟨26, _⟩ => ⟨S512x512, .bf16⟩
  | .hbm, ⟨27, _⟩ => ⟨S512x512, .bf16⟩
  | .hbm, ⟨28, _⟩ => ⟨S512x512, .bf16⟩
  | .hbm, ⟨29, _⟩ => ⟨S1x512x512, .bf16⟩
  | .hbm, ⟨30, _⟩ => ⟨S1x512x512, .bf16⟩
  | .hbm, ⟨31, _⟩ => ⟨S1x512x512, .bf16⟩
  | .hbm, ⟨32, _⟩ => ⟨S1x512x512, .bf16⟩
  | .hbm, ⟨33, _⟩ => ⟨S4x512x512, .bf16⟩
  | .hbm, ⟨34, _⟩ => ⟨S4096x2048, .bf16⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x512, .bf16⟩
  | .local _ .vmem, ⟨5, _⟩ => ⟨S512x512, .bf16⟩
  | .local _ .vmem, ⟨6, _⟩ => ⟨S1x768x512, .bf16⟩
  | .local _ .vmem, ⟨7, _⟩ => ⟨S1x768x512, .bf16⟩
  | .local _ .vmem, ⟨8, _⟩ => ⟨S1x768x512, .bf16⟩
  | .local _ .vmem, ⟨9, _⟩ => ⟨S1x768x512, .bf16⟩
  | .local _ .vmem, ⟨10, _⟩ => ⟨S1x512x512, .bf16⟩
  | .local _ .vmem, ⟨11, _⟩ => ⟨S1x512x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | _, _ => ⟨S4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference7Ideal.lean ====
abbrev S4096x12288 : Shape := ⟨2, ![4096, 12288]⟩
abbrev S4096x768 : Shape := ⟨2, ![4096, 768]⟩
abbrev S4096x512 : Shape := ⟨2, ![4096, 512]⟩
abbrev S768x2048 : Shape := ⟨2, ![768, 2048]⟩
abbrev S512x2048 : Shape := ⟨2, ![512, 2048]⟩
abbrev S4096x2048 : Shape := ⟨2, ![4096, 2048]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4096x12288, .f32⟩
  | .hbm, ⟨1, _⟩ => ⟨S4096x768, .bf16⟩
  | .hbm, ⟨2, _⟩ => ⟨S4096x768, .bf16⟩
  | .hbm, ⟨3, _⟩ => ⟨S4096x512, .bf16⟩
  | .hbm, ⟨4, _⟩ => ⟨S768x2048, .bf16⟩
  | .hbm, ⟨5, _⟩ => ⟨S768x2048, .bf16⟩
  | .hbm, ⟨6, _⟩ => ⟨S512x2048, .bf16⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x768, .f32⟩
  | .hbm, ⟨11, _⟩ => ⟨S768x2048, .f32⟩
  | .hbm, ⟨12, _⟩ => ⟨S4096x2048, .f32⟩
  | .hbm, ⟨13, _⟩ => ⟨S4096x768, .f32⟩
  | .hbm, ⟨14, _⟩ => ⟨S768x2048, .f32⟩
  | .hbm, ⟨15, _⟩ => ⟨S4096x2048, .f32⟩
  | .hbm, ⟨16, _⟩ => ⟨S4096x512, .f32⟩
  | .hbm, ⟨17, _⟩ => ⟨S512x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | _, _ => ⟨S4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel8.lean ====
abbrev S4096x2048 : Shape := ⟨2, ![4096, 2048]⟩
abbrev S4096x4096 : Shape := ⟨2, ![4096, 4096]⟩
abbrev S2048x12288 : Shape := ⟨2, ![2048, 12288]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 7
  | .vmem => 15
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S2048x12288, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S4096x512, .bf16⟩
  | .local _ .vmem, ⟨9, _⟩ => ⟨S4096x512, .bf16⟩
  | .local _ .vmem, ⟨10, _⟩ => ⟨S4096x512, .bf16⟩
  | .local _ .vmem, ⟨11, _⟩ => ⟨S4096x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 24, 1], ![false, false, false]⟩

def k0_cond11 (i : grid0.Coords) : BitVec 1 :=
  let arg2 : BitVec 32 := BitVec.ofNat 32 (i 2).val
  let c0_i32_9 : BitVec 32 := 0#32
  let v25 : BitVec 1 := Scalar.cmpi .eq arg2 c0_i32_9
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg1 c4_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg2.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.subi arg1 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg2.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi arg1 c16_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg2.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.subi arg1 c20_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg2.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference8Ideal.lean ====
abbrev S4096x2048 : Shape := ⟨2, ![4096, 2048]⟩
abbrev S4096x4096 : Shape := ⟨2, ![4096, 4096]⟩
abbrev S4096x12288 : Shape := ⟨2, ![4096, 12288]⟩
abbrev S_ : Shape := ⟨0, ![]⟩
abbrev S2048x12288 : Shape := ⟨2, ![2048, 12288]⟩
abbrev S12288x2048 : Shape := ⟨2, ![12288, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x12288, .bf16⟩
  | .hbm, ⟨7, _⟩ => ⟨S4096x2048, .f32⟩
  | .hbm, ⟨8, _⟩ => ⟨S4096x12288, .f32⟩
  | .hbm, ⟨9, _⟩ => ⟨S_, .f32⟩
  | .hbm, ⟨10, _⟩ => ⟨S2048x12288, .f32⟩
  | .hbm, ⟨11, _⟩ => ⟨S4096x12288, .f32⟩
  | .hbm, ⟨12, _⟩ => ⟨S12288x2048, .f32⟩
  | .hbm, ⟨13, _⟩ => ⟨S2048x12288, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== Kernel9.lean ====
abbrev S4096x2048 : Shape := ⟨2, ![4096, 2048]⟩
abbrev S4096x4096 : Shape := ⟨2, ![4096, 4096]⟩
abbrev S2048x12288 : Shape := ⟨2, ![2048, 12288]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 8
  | .vmem => 17
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S2048x12288, .bf16⟩
  | .hbm, ⟨6, _⟩ => ⟨S4096x2048, .f32⟩
  | .hbm, ⟨7, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S512x2048, .bf16⟩
  | .local _ .vmem, ⟨11, _⟩ => ⟨S512x2048, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 4, 6], ![false, false, false]⟩

def k0_cond11 (i : grid0.Coords) : BitVec 1 :=
  let arg2 : BitVec 32 := BitVec.ofNat 32 (i 2).val
  let c5_i32_9 : BitVec 32 := 5#32
  let v25 : BitVec 1 := Scalar.cmpi .eq arg2 c5_i32_9
  let v26 : BitVec 32 := Scalar.extui v25
  let c0_i32_10 : BitVec 32 := 0#32
  let v27 : BitVec 1 := Scalar.cmpi .ne v26 c0_i32_10
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c1_i32_0 : BitVec 32 := 1#32
  let v1 : BitVec 32 := Scalar.maxsi c0_i32 v0
  let v2 : BitVec 32 := Scalar.minsi c1_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.subi arg2 c5_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference9Ideal.lean ====
abbrev S4096x2048 : Shape := ⟨2, ![4096, 2048]⟩
abbrev S4096x4096 : Shape := ⟨2, ![4096, 4096]⟩
abbrev S2048x12288 : Shape := ⟨2, ![2048, 12288]⟩
abbrev S4096x12288 : Shape := ⟨2, ![4096, 12288]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S2048x12288, .bf16⟩
  | .hbm, ⟨6, _⟩ => ⟨S4096x2048, .f32⟩
  | .hbm, ⟨7, _⟩ => ⟨S4096x12288, .bf16⟩
  | .hbm, ⟨8, _⟩ => ⟨S4096x12288, .f32⟩
  | .hbm, ⟨9, _⟩ => ⟨S2048x12288, .f32⟩
  | .hbm, ⟨10, _⟩ => ⟨S_, .f32⟩
  | .hbm, ⟨11, _⟩ => ⟨S4096x2048, .f32⟩
  | .hbm, ⟨12, _⟩ => ⟨S4096x12288, .f32⟩
  | .hbm, ⟨13, _⟩ => ⟨S4096x2048, .f32⟩
  | .hbm, ⟨14, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩

abbrev nD : Nat := 1
abbrev τ : Topo := Topo.v7x

variable {F : FTy → Type} [FloatOps F]
-- ==== Kernel10.lean ====
abbrev S4096x2048 : Shape := ⟨2, ![4096, 2048]⟩
abbrev S2048x12288 : Shape := ⟨2, ![2048, 12288]⟩
abbrev S4096x12288 : Shape := ⟨2, ![4096, 12288]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x12288, .bf16⟩
  | .hbm, ⟨2, _⟩ => ⟨S4096x12288, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def k0_cond2 (i : grid0.Coords) : BitVec 1 :=
  let arg2 : BitVec 32 := BitVec.ofNat 32 (i 2).val
  let c0_i32_4 : BitVec 32 := 0#32
  let v6 : BitVec 1 := Scalar.cmpi .eq arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c11_i32 : BitVec 32 := 11#32
  let v1 : BitVec 32 := Scalar.maxsi c0_i32_0 v0
  let v2 : BitVec 32 := Scalar.minsi c11_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x12288 : Shape := ⟨2, ![2048, 12288]⟩
abbrev S4096x12288 : Shape := ⟨2, ![4096, 12288]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x12288, .bf16⟩
  | .hbm, ⟨2, _⟩ => ⟨S4096x2048, .f32⟩
  | .hbm, ⟨3, _⟩ => ⟨S2048x12288, .f32⟩
  | .hbm, ⟨4, _⟩ => ⟨S4096x12288, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's resources: the pipeline library's beside the counters of the body's own transfer. -/
local notation "𝕄" => MT nD τ sig Unit (Elt F) ℕ (Pipeline.UD sig nD τ) ℕ

/-! ## The grid conditions of the body's branches -/

/-- First key tile and first query tile: the three accumulators' whole reset of `dq`. -/
abbrev cond1 (i : grid0.Coords) : Prop :=
  Scalar.cmpi .ne (Scalar.extui (Scalar.andi (Scalar.cmpi .eq (BitVec.ofNat 32 (i 1).val) 0#32) (Scalar.cmpi .eq (BitVec.ofNat 32 (i 2).val) 0#32)) : BitVec 32) 0#32 = 1#1
/-- First query tile: the key-side accumulators are reset. -/
abbrev cond2 (i : grid0.Coords) : Prop :=
  Scalar.cmpi .ne (Scalar.extui (Scalar.cmpi .eq (BitVec.ofNat 32 (i 2).val) 0#32) : BitVec 32) 0#32 = 1#1

/-! ## The body's operands -/

abbrev sc14 : Memref sig .tc .vmem S768x4096 .f32 := Memref.whole cc0_scratch0
abbrev sc15 : Memref sig .tc .vmem S512x768 .f32 := Memref.whole cc0_scratch1
abbrev sc16 : Memref sig .tc .vmem S512x768 .f32 := Memref.whole cc0_scratch2
abbrev hbm10 : Memref sig .tc .hbm S1536x4096 .f32 := Memref.whole main_v107_0

/-- The contents of the buffer a memref looks at, on core `c`. -/
abbrev CB (c : Dev nD) {sp : Space} {S : Shape} {e : EltTy} (M : Memref sig .tc sp S e) : Type := Buf (Elt F) (M.view.loc (c : Thread nD τ))
/-- A whole buffer held at `f`. -/
abbrev pt (c : Dev nD) {sp : Space} {S : Shape} {e : EltTy} (M : Memref sig .tc sp S e) (f : CB (F := F) c M) : sProp 𝕄 :=
  M.view.loc (c : Thread nD τ) ↦{fullShare} f
/-- A memref's elements held at `f`. -/
abbrev ps (c : Dev nD) {sp : Space} {S : Shape} {e : EltTy} (M : Memref sig .tc sp S e) (f : CB (F := F) c M) : sProp 𝕄 :=
  M.view.loc (c : Thread nD τ) ↦[M.view.set]{fullShare} f

/-! ## The body's runs, one per kind of grid point -/

section Runs

variable (c : Dev nD) (i : grid0.Coords)
  (arg3 : Memref sig .tc .vmem S512x768 .bf16) (harg3 : arg3.IsWhole) (arg4 : Memref sig .tc .vmem S768x512 .bf16) (harg4 : arg4.IsWhole)
  (arg5 : Memref sig .tc .vmem S512x768 .bf16) (harg5 : arg5.IsWhole) (arg6 : Memref sig .tc .vmem S768x512 .bf16) (harg6 : arg6.IsWhole)
  (arg7 : Memref sig .tc .vmem S512x768 .bf16) (harg7 : arg7.IsWhole) (arg8 : Memref sig .tc .vmem S512x768 .bf16) (harg8 : arg8.IsWhole)
  (arg9 : Memref sig .tc .vmem S768x512 .bf16) (harg9 : arg9.IsWhole) (arg11 : Memref sig .tc .vmem S512x384 .f32) (harg11 : arg11.IsWhole)
  (arg12 : Memref sig .tc .vmem S512x384 .bf16) (harg12 : arg12.IsWhole) (arg13 : Memref sig .tc .vmem S1x512x128 .f32) (harg13 : arg13.IsWhole)

/-- The kernel's body on these operands. -/
abbrev bodyRun : Prog (TpuEff nD τ sig (Elt F) Λ₀ .tc) PUnit :=
  cc0_fox_bwd i arg3 harg3 arg4 harg4 arg5 harg5 arg6 harg6 arg7 harg7 arg8 harg8 arg9 harg9 hbm10 (Memref.isWhole_whole _)
    arg11 harg11 arg12 harg12 arg13 harg13 sc14 (Memref.isWhole_whole _) sc15 (Memref.isWhole_whole _) sc16 (Memref.isWhole_whole _) cc0_scratch3

variable (f3 : CB (F := F) c arg3) (f4 : CB (F := F) c arg4) (f5 : CB (F := F) c arg5) (f6 : CB (F := F) c arg6)
  (f7 : CB (F := F) c arg7) (f8 : CB (F := F) c arg8) (f9 : CB (F := F) c arg9)
  (f14 : CB (F := F) c sc14) (f15 : CB (F := F) c sc15) (f16 : CB (F := F) c sc16)

/-- A: the first point of a half: everything is reset, then the diagonal tile is added. -/
def runA (h1 : cond1 i) (h2 : cond2 i) (h3 : ¬k0_cond3 i = 1#1) (h4 : k0_cond4 i = 1#1) (h5 : ¬k0_cond5 i = 1#1) (h6 : ¬k0_cond6 i = 1#1) :
    { X : CB (F := F) c sc14 × CB (F := F) c sc15 × CB (F := F) c sc16 //
      ∀ (K : PUnit → sProp 𝕄),
        iprop(ps c arg3 f3
          ∗ ps c arg4 f4
          ∗ ps c arg5 f5
          ∗ ps c arg6 f6
          ∗ ps c arg7 f7
          ∗ ps c arg8 f8
          ∗ ps c arg9 f9
          ∗ pt c sc14 f14
          ∗ pt c sc15 f15
          ∗ pt c sc16 f16
          ∗ (iprop(ps c arg3 f3
          ∗ ps c arg4 f4
          ∗ ps c arg5 f5
          ∗ ps c arg6 f6
          ∗ ps c arg7 f7
          ∗ ps c arg8 f8
          ∗ ps c arg9 f9
          ∗ pt c sc14 X.1
          ∗ pt c sc15 X.2.1
          ∗ pt c sc16 X.2.2) -∗ K ⟨⟩))
          ⊢ wp frame (wpE (defs₀ (F := F)) Variants.none c none) Set.univ
              (bodyRun i arg3 harg3 arg4 harg4 arg5 harg5 arg6 harg6 arg7 harg7 arg8 harg8 arg9 harg9 arg11 harg11 arg12 harg12 arg13 harg13) K } := by
  refine ⟨(?_, ?_, ?_), fun K => ?run⟩
  case run =>
    unfold bodyRun
    simp only [cc0_fox_bwd_eq_skeleton]
    unfold cc0_fox_bwd_skel
    iintro ⟨H3, H4, H5, H6, H7, H8, H9, H14, H15, H16, Hk⟩
    sl_exec! (disch := first | sl_exact h1 | sl_exact h2 | sl_exact h3 | sl_exact h4 | sl_exact h5 | sl_exact h6)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H14]; · iexact H14
    isplitl [H15]; · iexact H15
    iexact H16

/-- B: the first query tile under a later key tile: the key-side accumulators are reset. -/
def runB (h1 : ¬cond1 i) (h2 : cond2 i) (h3 : ¬k0_cond3 i = 1#1) (h4 : ¬k0_cond4 i = 1#1) (h5 : ¬k0_cond5 i = 1#1) (h6 : ¬k0_cond6 i = 1#1) :
    { X : CB (F := F) c sc15 × CB (F := F) c sc16 //
      ∀ (K : PUnit → sProp 𝕄),
        iprop(pt c sc15 f15
          ∗ pt c sc16 f16
          ∗ (iprop(pt c sc15 X.1
          ∗ pt c sc16 X.2) -∗ K ⟨⟩))
          ⊢ wp frame (wpE (defs₀ (F := F)) Variants.none c none) Set.univ
              (bodyRun i arg3 harg3 arg4 harg4 arg5 harg5 arg6 harg6 arg7 harg7 arg8 harg8 arg9 harg9 arg11 harg11 arg12 harg12 arg13 harg13) K } := by
  refine ⟨(?_, ?_), fun K => ?run⟩
  case run =>
    unfold bodyRun
    simp only [cc0_fox_bwd_eq_skeleton]
    unfold cc0_fox_bwd_skel
    iintro ⟨H15, H16, Hk⟩
    sl_exec! (disch := first | sl_exact h1 | sl_exact h2 | sl_exact h3 | sl_exact h4 | sl_exact h5 | sl_exact h6)
    sl_step
    iapply Hk
    isplitl [H15]; · iexact H15
    iexact H16

/-- C: a diagonal tile between the first and the last. -/
def runC (h1 : ¬cond1 i) (h2 : ¬cond2 i) (h3 : ¬k0_cond3 i = 1#1) (h4 : k0_cond4 i = 1#1) (h5 : ¬k0_cond5 i = 1#1) (h6 : ¬k0_cond6 i = 1#1) :
    { X : CB (F := F) c sc14 × CB (F := F) c sc15 × CB (F := F) c sc16 //
      ∀ (K : PUnit → sProp 𝕄),
        iprop(ps c arg3 f3
          ∗ ps c arg4 f4
          ∗ ps c arg5 f5
          ∗ ps c arg6 f6
          ∗ ps c arg7 f7
          ∗ ps c arg8 f8
          ∗ ps c arg9 f9
          ∗ pt c sc14 f14
          ∗ pt c sc15 f15
          ∗ pt c sc16 f16
          ∗ (iprop(ps c arg3 f3
          ∗ ps c arg4 f4
          ∗ ps c arg5 f5
          ∗ ps c arg6 f6
          ∗ ps c arg7 f7
          ∗ ps c arg8 f8
          ∗ ps c arg9 f9
          ∗ pt c sc14 X.1
          ∗ pt c sc15 X.2.1
          ∗ pt c sc16 X.2.2) -∗ K ⟨⟩))
          ⊢ wp frame (wpE (defs₀ (F := F)) Variants.none c none) Set.univ
              (bodyRun i arg3 harg3 arg4 harg4 arg5 harg5 arg6 harg6 arg7 harg7 arg8 harg8 arg9 harg9 arg11 harg11 arg12 harg12 arg13 harg13) K } := by
  refine ⟨(?_, ?_, ?_), fun K => ?run⟩
  case run =>
    unfold bodyRun
    simp only [cc0_fox_bwd_eq_skeleton]
    unfold cc0_fox_bwd_skel
    iintro ⟨H3, H4, H5, H6, H7, H8, H9, H14, H15, H16, Hk⟩
    sl_exec (disch := first | sl_exact h1 | sl_exact h2 | sl_exact h3 | sl_exact h4 | sl_exact h5 | sl_exact h6)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H14]; · iexact H14
    isplitl [H15]; · iexact H15
    iexact H16

/-- D: a tile wholly below the diagonal, before the last query tile. -/
def runD (h1 : ¬cond1 i) (h2 : ¬cond2 i) (h3 : k0_cond3 i = 1#1) (h4 : ¬k0_cond4 i = 1#1) (h5 : ¬k0_cond5 i = 1#1) (h6 : ¬k0_cond6 i = 1#1) :
    { X : CB (F := F) c sc14 × CB (F := F) c sc15 × CB (F := F) c sc16 //
      ∀ (K : PUnit → sProp 𝕄),
        iprop(ps c arg3 f3
          ∗ ps c arg4 f4
          ∗ ps c arg5 f5
          ∗ ps c arg6 f6
          ∗ ps c arg7 f7
          ∗ ps c arg8 f8
          ∗ ps c arg9 f9
          ∗ pt c sc14 f14
          ∗ pt c sc15 f15
          ∗ pt c sc16 f16
          ∗ (iprop(ps c arg3 f3
          ∗ ps c arg4 f4
          ∗ ps c arg5 f5
          ∗ ps c arg6 f6
          ∗ ps c arg7 f7
          ∗ ps c arg8 f8
          ∗ ps c arg9 f9
          ∗ pt c sc14 X.1
          ∗ pt c sc15 X.2.1
          ∗ pt c sc16 X.2.2) -∗ K ⟨⟩))
          ⊢ wp frame (wpE (defs₀ (F := F)) Variants.none c none) Set.univ
              (bodyRun i arg3 harg3 arg4 harg4 arg5 harg5 arg6 harg6 arg7 harg7 arg8 harg8 arg9 harg9 arg11 harg11 arg12 harg12 arg13 harg13) K } := by
  refine ⟨(?_, ?_, ?_), fun K => ?run⟩
  case run =>
    unfold bodyRun
    simp only [cc0_fox_bwd_eq_skeleton]
    unfold cc0_fox_bwd_skel
    iintro ⟨H3, H4, H5, H6, H7, H8, H9, H14, H15, H16, Hk⟩
    sl_exec (disch := first | sl_exact h1 | sl_exact h2 | sl_exact h3 | sl_exact h4 | sl_exact h5 | sl_exact h6)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H14]; · iexact H14
    isplitl [H15]; · iexact H15
    iexact H16

/-- E: the last query tile, wholly below the diagonal: added, then the key-side results are stored. -/
def runE (h1 : ¬cond1 i) (h2 : ¬cond2 i) (h3 : k0_cond3 i = 1#1) (h4 : ¬k0_cond4 i = 1#1) (h5 : k0_cond5 i = 1#1) (h6 : ¬k0_cond6 i = 1#1) :
    { X : CB (F := F) c sc14 × CB (F := F) c sc15 × CB (F := F) c sc16 × List (View.Piece (Elt F) S512x384 .f32) × List (View.Piece (Elt F) S512x384 .bf16) × List (View.Piece (Elt F) S1x512x128 .f32) //
      ∀ (K : PUnit → sProp 𝕄),
        iprop(ps c arg3 f3
          ∗ ps c arg4 f4
          ∗ ps c arg5 f5
          ∗ ps c arg6 f6
          ∗ ps c arg7 f7
          ∗ ps c arg8 f8
          ∗ ps c arg9 f9
          ∗ pt c sc14 f14
          ∗ pt c sc15 f15
          ∗ pt c sc16 f16
          ∗ (∃ f, ps c arg11 f)
          ∗ (∃ f, ps c arg12 f)
          ∗ (∃ f, ps c arg13 f)
          ∗ (iprop(ps c arg3 f3
          ∗ ps c arg4 f4
          ∗ ps c arg5 f5
          ∗ ps c arg6 f6
          ∗ ps c arg7 f7
          ∗ ps c arg8 f8
          ∗ ps c arg9 f9
          ∗ pt c sc14 X.1
          ∗ pt c sc15 X.2.1
          ∗ pt c sc16 X.2.2.1
          ∗ (∃ f, ps c arg11 (arg11.view.writes (Elt F) f X.2.2.2.1))
          ∗ (∃ f, ps c arg12 (arg12.view.writes (Elt F) f X.2.2.2.2.1))
          ∗ (∃ f, ps c arg13 (arg13.view.writes (Elt F) f X.2.2.2.2.2))) -∗ K ⟨⟩))
          ⊢ wp frame (wpE (defs₀ (F := F)) Variants.none c none) Set.univ
              (bodyRun i arg3 harg3 arg4 harg4 arg5 harg5 arg6 harg6 arg7 harg7 arg8 harg8 arg9 harg9 arg11 harg11 arg12 harg12 arg13 harg13) K } := by
  refine ⟨(?_, ?_, ?_, ?_, ?_, ?_), fun K => ?run⟩
  case run =>
    unfold bodyRun
    simp only [cc0_fox_bwd_eq_skeleton]
    unfold cc0_fox_bwd_skel
    iintro ⟨H3, H4, H5, H6, H7, H8, H9, H14, H15, H16, ⟨%f11, H11⟩, ⟨%f12, H12⟩, ⟨%f13, H13⟩, Hk⟩
    sl_exec (disch := first | sl_exact h1 | sl_exact h2 | sl_exact h3 | sl_exact h4 | sl_exact h5 | sl_exact h6)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H14]; · iexact H14
    isplitl [H15]; · iexact H15
    isplitl [H16]; · iexact H16
    isplitl [H11]; · iexists _; iexact H11
    isplitl [H12]; · iexists _; iexact H12
    iexists _; iexact H13

/-- F: a tile above the diagonal: nothing is done. -/
theorem runF (h1 : ¬cond1 i) (h2 : ¬cond2 i) (h3 : ¬k0_cond3 i = 1#1) (h4 : ¬k0_cond4 i = 1#1) (h5 : ¬k0_cond5 i = 1#1) (h6 : ¬k0_cond6 i = 1#1) (K : PUnit → sProp 𝕄) :
    K ⟨⟩ ⊢ wp frame (wpE (defs₀ (F := F)) Variants.none c none) Set.univ
      (bodyRun i arg3 harg3 arg4 harg4 arg5 harg5 arg6 harg6 arg7 harg7 arg8 harg8 arg9 harg9 arg11 harg11 arg12 harg12 arg13 harg13) K := by
  unfold bodyRun
  simp only [cc0_fox_bwd_eq_skeleton]
  unfold cc0_fox_bwd_skel
  iintro Hk
  sl_exec (disch := first | sl_exact h1 | sl_exact h2 | sl_exact h3 | sl_exact h4 | sl_exact h5 | sl_exact h6)
  sl_step
  iexact Hk

/-- G: the last tile of a half: added, the key-side results stored, the query-side result sent. -/
def runG (h1 : ¬cond1 i) (h2 : ¬cond2 i) (h3 : ¬k0_cond3 i = 1#1) (h4 : k0_cond4 i = 1#1) (h5 : k0_cond5 i = 1#1) (h6 : k0_cond6 i = 1#1) (f10 : CB (F := F) c hbm10) :
    { X : CB (F := F) c sc14 × CB (F := F) c sc15 × CB (F := F) c sc16 × List (View.Piece (Elt F) S512x384 .f32) × List (View.Piece (Elt F) S512x384 .bf16) × List (View.Piece (Elt F) S1x512x128 .f32) × CB (F := F) c hbm10 //
      ∀ (W : Waits sig Unit) (K : PUnit → sProp 𝕄),
        iprop(ps c arg3 f3
          ∗ ps c arg4 f4
          ∗ ps c arg5 f5
          ∗ ps c arg6 f6
          ∗ ps c arg7 f7
          ∗ ps c arg8 f8
          ∗ ps c arg9 f9
          ∗ pt c sc14 f14
          ∗ pt c sc15 f15
          ∗ pt c sc16 f16
          ∗ (∃ f, ps c arg11 f)
          ∗ (∃ f, ps c arg12 f)
          ∗ (∃ f, ps c arg13 f)
          ∗ pt c hbm10 f10
          ∗ semVal ((c : Thread nD τ), SemLoc.dma 20) 0
          ∗ owes (c : Thread nD τ) 0 W
          ∗ (iprop(ps c arg3 f3
          ∗ ps c arg4 f4
          ∗ ps c arg5 f5
          ∗ ps c arg6 f6
          ∗ ps c arg7 f7
          ∗ ps c arg8 f8
          ∗ ps c arg9 f9
          ∗ pt c sc14 X.1
          ∗ pt c sc15 X.2.1
          ∗ pt c sc16 X.2.2.1
          ∗ (∃ f, ps c arg11 (arg11.view.writes (Elt F) f X.2.2.2.1))
          ∗ (∃ f, ps c arg12 (arg12.view.writes (Elt F) f X.2.2.2.2.1))
          ∗ (∃ f, ps c arg13 (arg13.view.writes (Elt F) f X.2.2.2.2.2.1))
          ∗ pt c hbm10 X.2.2.2.2.2.2
          ∗ semVal ((c : Thread nD τ), SemLoc.dma 20) 0
          ∗ (∃ W', owes (c : Thread nD τ) 0 W')) -∗ K ⟨⟩))
          ⊢ wp frame (wpE (defs₀ (F := F)) Variants.none c none) Set.univ
              (bodyRun i arg3 harg3 arg4 harg4 arg5 harg5 arg6 harg6 arg7 harg7 arg8 harg8 arg9 harg9 arg11 harg11 arg12 harg12 arg13 harg13) K } := by
  refine ⟨(?_, ?_, ?_, ?_, ?_, ?_, ?_), fun W K => ?run⟩
  case run =>
    unfold bodyRun
    simp only [cc0_fox_bwd_eq_skeleton]
    unfold cc0_fox_bwd_skel
    iintro ⟨H3, H4, H5, H6, H7, H8, H9, H14, H15, H16, ⟨%f11, H11⟩, ⟨%f12, H12⟩, ⟨%f13, H13⟩, H10, HS, HW, Hk⟩
    sl_exec (disch := first | sl_exact h1 | sl_exact h2 | sl_exact h3 | sl_exact h4 | sl_exact h5 | sl_exact h6)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H14]; · iexact H14
    isplitl [H15]; · iexact H15
    isplitl [H16]; · iexact H16
    isplitl [H11]; · iexists _; iexact H11
    isplitl [H12]; · iexists _; iexact H12
    isplitl [H13]; · iexists _; iexact H13
    isplitl [H10]; · iexact H10
    isplitl [HS]; · iexact HS
    iexists _; iexact HW

end Runs

end Cert.KernelIdeal.Hand

end
-- ==== Proof.Frame.lean ====
module

public import proofs.«01_k».proof.Proof.Body
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's resources: the pipeline library's beside the counters of the body's own transfer. -/
local notation "𝕄" => MT nD τ sig Unit (Elt F) ℕ (Pipeline.UD sig nD τ) ℕ

variable (m : (ℓ : Loc nD τ sig) → Buf (Elt F) ℓ) (ρ : Dev nD → PrngReg)

/-! ## The kinds of grid point -/

/-- The branches the body takes at a point of kind A. -/
theorem condsA : ∀ t : Fin cfg0.N, (t.val % 64 = 0) →
    cond1 (grid0.coords t) ∧ cond2 (grid0.coords t) ∧ ¬k0_cond3 (grid0.coords t) = 1#1 ∧ k0_cond4 (grid0.coords t) = 1#1 ∧ ¬k0_cond5 (grid0.coords t) = 1#1 ∧ ¬k0_cond6 (grid0.coords t) = 1#1 :=
  (by decide +kernel : ∀ t : Fin grid0.N, _ → _)

/-- The branches the body takes at a point of kind B. -/
theorem condsB : ∀ t : Fin cfg0.N, (t.val % 8 = 0 ∧ t.val % 64 ≠ 0) →
    ¬cond1 (grid0.coords t) ∧ cond2 (grid0.coords t) ∧ ¬k0_cond3 (grid0.coords t) = 1#1 ∧ ¬k0_cond4 (grid0.coords t) = 1#1 ∧ ¬k0_cond5 (grid0.coords t) = 1#1 ∧ ¬k0_cond6 (grid0.coords t) = 1#1 :=
  (by decide +kernel : ∀ t : Fin grid0.N, _ → _)

/-- The branches the body takes at a point of kind C. -/
theorem condsC : ∀ t : Fin cfg0.N, (t.val % 8 = t.val / 8 % 8 ∧ t.val % 8 ≠ 0 ∧ t.val % 8 ≠ 7) →
    ¬cond1 (grid0.coords t) ∧ ¬cond2 (grid0.coords t) ∧ ¬k0_cond3 (grid0.coords t) = 1#1 ∧ k0_cond4 (grid0.coords t) = 1#1 ∧ ¬k0_cond5 (grid0.coords t) = 1#1 ∧ ¬k0_cond6 (grid0.coords t) = 1#1 :=
  (by decide +kernel : ∀ t : Fin grid0.N, _ → _)

/-- The branches the body takes at a point of kind D. -/
theorem condsD : ∀ t : Fin cfg0.N, (t.val / 8 % 8 < t.val % 8 ∧ t.val % 8 ≠ 7) →
    ¬cond1 (grid0.coords t) ∧ ¬cond2 (grid0.coords t) ∧ k0_cond3 (grid0.coords t) = 1#1 ∧ ¬k0_cond4 (grid0.coords t) = 1#1 ∧ ¬k0_cond5 (grid0.coords t) = 1#1 ∧ ¬k0_cond6 (grid0.coords t) = 1#1 :=
  (by decide +kernel : ∀ t : Fin grid0.N, _ → _)

/-- The branches the body takes at a point of kind E. -/
theorem condsE : ∀ t : Fin cfg0.N, (t.val / 8 % 8 < t.val % 8 ∧ t.val % 8 = 7) →
    ¬cond1 (grid0.coords t) ∧ ¬cond2 (grid0.coords t) ∧ k0_cond3 (grid0.coords t) = 1#1 ∧ ¬k0_cond4 (grid0.coords t) = 1#1 ∧ k0_cond5 (grid0.coords t) = 1#1 ∧ ¬k0_cond6 (grid0.coords t) = 1#1 :=
  (by decide +kernel : ∀ t : Fin grid0.N, _ → _)

/-- The branches the body takes at a point of kind F. -/
theorem condsF : ∀ t : Fin cfg0.N, (t.val % 8 < t.val / 8 % 8 ∧ t.val % 8 ≠ 0) →
    ¬cond1 (grid0.coords t) ∧ ¬cond2 (grid0.coords t) ∧ ¬k0_cond3 (grid0.coords t) = 1#1 ∧ ¬k0_cond4 (grid0.coords t) = 1#1 ∧ ¬k0_cond5 (grid0.coords t) = 1#1 ∧ ¬k0_cond6 (grid0.coords t) = 1#1 :=
  (by decide +kernel : ∀ t : Fin grid0.N, _ → _)

/-- The branches the body takes at a point of kind G. -/
theorem condsG : ∀ t : Fin cfg0.N, (t.val % 64 = 63) →
    ¬cond1 (grid0.coords t) ∧ ¬cond2 (grid0.coords t) ∧ ¬k0_cond3 (grid0.coords t) = 1#1 ∧ k0_cond4 (grid0.coords t) = 1#1 ∧ k0_cond5 (grid0.coords t) = 1#1 ∧ k0_cond6 (grid0.coords t) = 1#1 :=
  (by decide +kernel : ∀ t : Fin grid0.N, _ → _)

/-- Every point is of one of these kinds. -/
theorem kinds (t : Fin cfg0.N) : (t.val % 64 = 0) ∨ (t.val % 8 = 0 ∧ t.val % 64 ≠ 0)
    ∨ (t.val % 8 = t.val / 8 % 8 ∧ t.val % 8 ≠ 0 ∧ t.val % 8 ≠ 7) ∨ (t.val / 8 % 8 < t.val % 8 ∧ t.val % 8 ≠ 7)
    ∨ (t.val / 8 % 8 < t.val % 8 ∧ t.val % 8 = 7) ∨ (t.val % 8 < t.val / 8 % 8 ∧ t.val % 8 ≠ 0) ∨ (t.val % 64 = 63) := by
  omega

/-! ## The operands at a point -/

abbrev ms0 (t : Fin cfg0.N) : Memref sig .tc .vmem S512x768 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S768x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x768 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S768x512 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x768 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x768 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S768x512 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x384 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x384 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x512x128 .f32 := win0_9.stage (cfg0.slots t 9)
abbrev hs9 (t : Fin cfg0.N) : (ms9 t).IsWhole := hstage0_9 ((cfg0.slots t 9).cast nbuf0_9)
/-- What input window 0's current buffer holds at a point: its block. -/
abbrev xi0 (c : Dev nD) (t : Fin cfg0.N) : CB (F := F) c (ms0 t) := (hs0 t).unread (iblk m c 0 t)
/-- What input window 1's current buffer holds at a point: its block. -/
abbrev xi1 (c : Dev nD) (t : Fin cfg0.N) : CB (F := F) c (ms1 t) := (hs1 t).unread (iblk m c 1 t)
/-- What input window 2's current buffer holds at a point: its block. -/
abbrev xi2 (c : Dev nD) (t : Fin cfg0.N) : CB (F := F) c (ms2 t) := (hs2 t).unread (iblk m c 2 t)
/-- What input window 3's current buffer holds at a point: its block. -/
abbrev xi3 (c : Dev nD) (t : Fin cfg0.N) : CB (F := F) c (ms3 t) := (hs3 t).unread (iblk m c 3 t)
/-- What input window 4's current buffer holds at a point: its block. -/
abbrev xi4 (c : Dev nD) (t : Fin cfg0.N) : CB (F := F) c (ms4 t) := (hs4 t).unread (iblk m c 4 t)
/-- What input window 5's current buffer holds at a point: its block. -/
abbrev xi5 (c : Dev nD) (t : Fin cfg0.N) : CB (F := F) c (ms5 t) := (hs5 t).unread (iblk m c 5 t)
/-- What input window 6's current buffer holds at a point: its block. -/
abbrev xi6 (c : Dev nD) (t : Fin cfg0.N) : CB (F := F) c (ms6 t) := (hs6 t).unread (iblk m c 6 t)

/-- The buffers the body keeps between points: the query-side result in memory, and the three accumulators. -/
abbrev St (c : Dev nD) : Type := CB (F := F) c hbm10 × CB (F := F) c sc14 × CB (F := F) c sc15 × CB (F := F) c sc16

section Kinds

variable (c : Dev nD) (t : Fin cfg0.N)

/-- The body's run at a point of kind A. -/
abbrev atA (h : t.val % 64 = 0) (s : St (F := F) c) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (xi0 m c t) (xi1 m c t) (xi2 m c t) (xi3 m c t) (xi4 m c t) (xi5 m c t) (xi6 m c t) s.2.1 s.2.2.1 s.2.2.2 (condsA t h).1 (condsA t h).2.1 (condsA t h).2.2.1 (condsA t h).2.2.2.1 (condsA t h).2.2.2.2.1 (condsA t h).2.2.2.2.2
/-- The body's run at a point of kind B. -/
abbrev atB (h : t.val % 8 = 0 ∧ t.val % 64 ≠ 0) (s : St (F := F) c) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    s.2.2.1 s.2.2.2 (condsB t h).1 (condsB t h).2.1 (condsB t h).2.2.1 (condsB t h).2.2.2.1 (condsB t h).2.2.2.2.1 (condsB t h).2.2.2.2.2
/-- The body's run at a point of kind C. -/
abbrev atC (h : t.val % 8 = t.val / 8 % 8 ∧ t.val % 8 ≠ 0 ∧ t.val % 8 ≠ 7) (s : St (F := F) c) :=
  runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (xi0 m c t) (xi1 m c t) (xi2 m c t) (xi3 m c t) (xi4 m c t) (xi5 m c t) (xi6 m c t) s.2.1 s.2.2.1 s.2.2.2 (condsC t h).1 (condsC t h).2.1 (condsC t h).2.2.1 (condsC t h).2.2.2.1 (condsC t h).2.2.2.2.1 (condsC t h).2.2.2.2.2
/-- The body's run at a point of kind D. -/
abbrev atD (h : t.val / 8 % 8 < t.val % 8 ∧ t.val % 8 ≠ 7) (s : St (F := F) c) :=
  runD (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (xi0 m c t) (xi1 m c t) (xi2 m c t) (xi3 m c t) (xi4 m c t) (xi5 m c t) (xi6 m c t) s.2.1 s.2.2.1 s.2.2.2 (condsD t h).1 (condsD t h).2.1 (condsD t h).2.2.1 (condsD t h).2.2.2.1 (condsD t h).2.2.2.2.1 (condsD t h).2.2.2.2.2
/-- The body's run at a point of kind E. -/
abbrev atE (h : t.val / 8 % 8 < t.val % 8 ∧ t.val % 8 = 7) (s : St (F := F) c) :=
  runE (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (xi0 m c t) (xi1 m c t) (xi2 m c t) (xi3 m c t) (xi4 m c t) (xi5 m c t) (xi6 m c t) s.2.1 s.2.2.1 s.2.2.2 (condsE t h).1 (condsE t h).2.1 (condsE t h).2.2.1 (condsE t h).2.2.2.1 (condsE t h).2.2.2.2.1 (condsE t h).2.2.2.2.2
/-- The body's run at a point of kind G. -/
abbrev atG (h : t.val % 64 = 63) (s : St (F := F) c) :=
  runG (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t)
    (xi0 m c t) (xi1 m c t) (xi2 m c t) (xi3 m c t) (xi4 m c t) (xi5 m c t) (xi6 m c t) s.2.1 s.2.2.1 s.2.2.2 (condsG t h).1 (condsG t h).2.1 (condsG t h).2.2.1 (condsG t h).2.2.2.1 (condsG t h).2.2.2.2.1 (condsG t h).2.2.2.2.2 s.1

end Kinds

/-- What the body makes of the kept buffers at a point. -/
def step (c : Dev nD) (t : Fin cfg0.N) (s : St (F := F) c) : St (F := F) c :=
  if h : t.val % 64 = 0 then (s.1, (atA m c t h s).1.1, (atA m c t h s).1.2.1, (atA m c t h s).1.2.2)
  else   if h : t.val % 8 = 0 ∧ t.val % 64 ≠ 0 then (s.1, s.2.1, (atB c t h s).1.1, (atB c t h s).1.2)
  else   if h : t.val % 8 = t.val / 8 % 8 ∧ t.val % 8 ≠ 0 ∧ t.val % 8 ≠ 7 then (s.1, (atC m c t h s).1.1, (atC m c t h s).1.2.1, (atC m c t h s).1.2.2)
  else   if h : t.val / 8 % 8 < t.val % 8 ∧ t.val % 8 ≠ 7 then (s.1, (atD m c t h s).1.1, (atD m c t h s).1.2.1, (atD m c t h s).1.2.2)
  else   if h : t.val / 8 % 8 < t.val % 8 ∧ t.val % 8 = 7 then (s.1, (atE m c t h s).1.1, (atE m c t h s).1.2.1, (atE m c t h s).1.2.2.1)
  else   if h : t.val % 8 < t.val / 8 % 8 ∧ t.val % 8 ≠ 0 then s
  else if h : t.val % 64 = 63 then ((atG m c t h s).1.2.2.2.2.2.2, (atG m c t h s).1.1, (atG m c t h s).1.2.1, (atG m c t h s).1.2.2.1)
  else s

theorem stepA (c : Dev nD) (t : Fin cfg0.N) (s : St (F := F) c) (h : t.val % 64 = 0) :
    step m c t s = (s.1, (atA m c t h s).1.1, (atA m c t h s).1.2.1, (atA m c t h s).1.2.2) := by
  unfold step; rw [dif_pos h]
theorem stepB (c : Dev nD) (t : Fin cfg0.N) (s : St (F := F) c) (h : t.val % 8 = 0 ∧ t.val % 64 ≠ 0) :
    step m c t s = (s.1, s.2.1, (atB c t h s).1.1, (atB c t h s).1.2) := by
  unfold step; rw [dif_neg (show ¬(t.val % 64 = 0) by omega), dif_pos h]
theorem stepC (c : Dev nD) (t : Fin cfg0.N) (s : St (F := F) c) (h : t.val % 8 = t.val / 8 % 8 ∧ t.val % 8 ≠ 0 ∧ t.val % 8 ≠ 7) :
    step m c t s = (s.1, (atC m c t h s).1.1, (atC m c t h s).1.2.1, (atC m c t h s).1.2.2) := by
  unfold step; rw [dif_neg (show ¬(t.val % 64 = 0) by omega), dif_neg (show ¬(t.val % 8 = 0 ∧ t.val % 64 ≠ 0) by omega), dif_pos h]
theorem stepD (c : Dev nD) (t : Fin cfg0.N) (s : St (F := F) c) (h : t.val / 8 % 8 < t.val % 8 ∧ t.val % 8 ≠ 7) :
    step m c t s = (s.1, (atD m c t h s).1.1, (atD m c t h s).1.2.1, (atD m c t h s).1.2.2) := by
  unfold step; rw [dif_neg (show ¬(t.val % 64 = 0) by omega), dif_neg (show ¬(t.val % 8 = 0 ∧ t.val % 64 ≠ 0) by omega), dif_neg (show ¬(t.val % 8 = t.val / 8 % 8 ∧ t.val % 8 ≠ 0 ∧ t.val % 8 ≠ 7) by omega), dif_pos h]
theorem stepE (c : Dev nD) (t : Fin cfg0.N) (s : St (F := F) c) (h : t.val / 8 % 8 < t.val % 8 ∧ t.val % 8 = 7) :
    step m c t s = (s.1, (atE m c t h s).1.1, (atE m c t h s).1.2.1, (atE m c t h s).1.2.2.1) := by
  unfold step; rw [dif_neg (show ¬(t.val % 64 = 0) by omega), dif_neg (show ¬(t.val % 8 = 0 ∧ t.val % 64 ≠ 0) by omega), dif_neg (show ¬(t.val % 8 = t.val / 8 % 8 ∧ t.val % 8 ≠ 0 ∧ t.val % 8 ≠ 7) by omega), dif_neg (show ¬(t.val / 8 % 8 < t.val % 8 ∧ t.val % 8 ≠ 7) by omega), dif_pos h]
theorem stepF (c : Dev nD) (t : Fin cfg0.N) (s : St (F := F) c) (h : t.val % 8 < t.val / 8 % 8 ∧ t.val % 8 ≠ 0) :
    step m c t s = s := by
  unfold step; rw [dif_neg (show ¬(t.val % 64 = 0) by omega), dif_neg (show ¬(t.val % 8 = 0 ∧ t.val % 64 ≠ 0) by omega), dif_neg (show ¬(t.val % 8 = t.val / 8 % 8 ∧ t.val % 8 ≠ 0 ∧ t.val % 8 ≠ 7) by omega), dif_neg (show ¬(t.val / 8 % 8 < t.val % 8 ∧ t.val % 8 ≠ 7) by omega), dif_neg (show ¬(t.val / 8 % 8 < t.val % 8 ∧ t.val % 8 = 7) by omega), dif_pos h]
theorem stepG (c : Dev nD) (t : Fin cfg0.N) (s : St (F := F) c) (h : t.val % 64 = 63) :
    step m c t s = ((atG m c t h s).1.2.2.2.2.2.2, (atG m c t h s).1.1, (atG m c t h s).1.2.1, (atG m c t h s).1.2.2.1) := by
  unfold step; rw [dif_neg (show ¬(t.val % 64 = 0) by omega), dif_neg (show ¬(t.val % 8 = 0 ∧ t.val % 64 ≠ 0) by omega), dif_neg (show ¬(t.val % 8 = t.val / 8 % 8 ∧ t.val % 8 ≠ 0 ∧ t.val % 8 ≠ 7) by omega), dif_neg (show ¬(t.val / 8 % 8 < t.val % 8 ∧ t.val % 8 ≠ 7) by omega), dif_neg (show ¬(t.val / 8 % 8 < t.val % 8 ∧ t.val % 8 = 7) by omega), dif_neg (show ¬(t.val % 8 < t.val / 8 % 8 ∧ t.val % 8 ≠ 0) by omega), dif_pos h]

/-- The kept buffers before point `k`: the accumulators start at nothing stated, and the first point resets them. -/
def stAt (c : Dev nD) : ℕ → St (F := F) c
  | 0 => (V m c main_v107_0, sc14.view.junk, sc15.view.junk, sc16.view.junk)
  | k + 1 => if h : k < cfg0.N then step m c ⟨k, h⟩ (stAt c k) else stAt c k

theorem stAt_succ (c : Dev nD) (t : Fin cfg0.N) : stAt m c (t.val + 1) = step m c t (stAt m c t.val) := by
  rw [stAt, dif_pos t.isLt]

/-- What the body leaves in the three key-side result buffers at a point that stores them. -/
def out7 (c : Dev nD) (t : Fin cfg0.N) : Vec F S512x384 .f32 :=
  if h : t.val / 8 % 8 < t.val % 8 ∧ t.val % 8 = 7 then View.canon (atE m c t h (stAt m c t.val)).1.2.2.2.1
  else if h : t.val % 64 = 63 then View.canon (atG m c t h (stAt m c t.val)).1.2.2.2.1 else View.canon []
def out8 (c : Dev nD) (t : Fin cfg0.N) : Vec F S512x384 .bf16 :=
  if h : t.val / 8 % 8 < t.val % 8 ∧ t.val % 8 = 7 then View.canon (atE m c t h (stAt m c t.val)).1.2.2.2.2.1
  else if h : t.val % 64 = 63 then View.canon (atG m c t h (stAt m c t.val)).1.2.2.2.2.1 else View.canon []
def out9 (c : Dev nD) (t : Fin cfg0.N) : Vec F S1x512x128 .f32 :=
  if h : t.val / 8 % 8 < t.val % 8 ∧ t.val % 8 = 7 then View.canon (atE m c t h (stAt m c t.val)).1.2.2.2.2.2
  else if h : t.val % 64 = 63 then View.canon (atG m c t h (stAt m c t.val)).1.2.2.2.2.2.1 else View.canon []

/-! ## The launch's resources -/

abbrev osem0 : Fin 1 → SemLoc sig := fun j => (![SemLoc.dma 20] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 20) 0 := by
  rw [Pipeline.ownSems0_eq_of_list c osem0 [0] (by decide) (by decide)]; rfl
/-- The buffer the body writes by its own transfer: the query-side result. -/
def R0 : Finset (Ref sig .tc) := {main_v107_0}
theorem H0_sub : (∅ : Finset (Ref sig .tc)) ⊆ Pipeline.restRefs sig spec0 := by decide
theorem R0_sub : R0 ⊆ Pipeline.restRefs sig spec0 \ (∅ : Finset (Ref sig .tc)) := by decide

/-- What the written buffer holds after the launch. -/
abbrev Gend (c : Dev nD) : (b : Ref sig .tc) → Buf (Elt F) ((c : Thread nD τ).loc b) :=
  Function.update (V m c) main_v107_0 (stAt m c cfg0.N).1

theorem routed_eq (c : Dev nD) (W : (b : Ref sig .tc) → Buf (Elt F) ((c : Thread nD τ).loc b)) :
    (Pipeline.routed R0 c W : sProp 𝕄) = pt c hbm10 (W main_v107_0) := by
  unfold Pipeline.routed R0
  rw [BI.bigSep_eq_bigSepL_of_eq [main_v107_0] (by decide) (by decide)]
  simp only [BI.bigSepL_singleton]

/-- The body's invariant before point `k`: the kept buffers at `stAt` (before the first point the accumulators hold anything),
    the generator register at anything, the transfer's counter at zero. -/
def inv (c : Dev nD) (k : ℕ) : sProp 𝕄 :=
  iprop(∃ s : St (F := F) c, ⌜s.1 = (stAt m c k).1 ∧ (k ≠ 0 → s = stAt m c k)⌝ ∗ pt c hbm10 s.1 ∗ pt c sc14 s.2.1 ∗ pt c sc15 s.2.2.1 ∗ pt c sc16 s.2.2.2
    ∗ (∃ r, prngReg c r) ∗ semVal ((c : Thread nD τ), SemLoc.dma 20) 0)

theorem inv_in (c : Dev nD) : Pipeline.ΦDRG osem0 spec0 (∅ : Finset (Ref sig .tc)) R0 (V m) (V m) c ⊢ (inv m c 0 : sProp 𝕄) := by
  rw [Pipeline.ΦDRG_eq, scopedRest0_eq, ownSems00_eq, routed_eq]
  unfold inv
  iintro ⟨⟨⟨%f14, H14⟩, ⟨%f15, H15⟩, ⟨%f16, H16⟩⟩, Hg, Hs, -, H10⟩
  iexists (V m c main_v107_0, f14, f15, f16)
  isplitr
  · ipureintro; exact ⟨rfl, fun h => absurd rfl h⟩
  isplitl [H10]; · iexact H10
  isplitl [H14]; · iexact H14
  isplitl [H15]; · iexact H15
  isplitl [H16]; · iexact H16
  isplitl [Hg]; · iexact Hg
  iexact Hs

theorem inv_out (c : Dev nD) : (inv m c cfg0.N : sProp 𝕄) ⊢ Pipeline.ΦDRG osem0 spec0 (∅ : Finset (Ref sig .tc)) R0 (V m) (Gend m) c := by
  rw [Pipeline.ΦDRG_eq, scopedRest0_eq, ownSems00_eq, routed_eq]
  unfold inv
  iintro ⟨%s, %hs, H10, H14, H15, H16, Hg, Hs⟩
  isplitl [H14 H15 H16]
  · isplitl [H14]; · iexists _; iexact H14
    isplitl [H15]; · iexists _; iexact H15
    iexists _; iexact H16
  isplitl [Hg]; · iexact Hg
  isplitl [Hs]; · iexact Hs
  isplitr
  · rw [BI.bigSep_empty]; iempintro
  rw [show Gend m c main_v107_0 = s.1 from (Function.update_self ..).trans hs.1.symm]
  iexact H10

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨8, _⟩ => out8 m c t
    | ⟨9, _⟩ => out9 m c t
  Φ k := inv m c k.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out7 m c t := by dsimp only [dats]
theorem after0_8 (c : Dev nD) (t : Fin cfg0.N) : (dats m 0 c).after 8 t = out8 m c t := by dsimp only [dats]
theorem after0_9 (c : Dev nD) (t : Fin cfg0.N) : (dats m 0 c).after 9 t = out9 m c t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-! ## Buffers given as what they read and as what they hold -/

theorem ps_of_owns (c : Dev nD) {sp : Space} {S : Shape} {e : EltTy} (M : Memref sig .tc sp S e) (h : M.IsWhole) (X : S.Idx → Elt F e) :
    (owns (c : Thread nD τ) M fullShare X : sProp 𝕄) ⊢ ps c M (h.unread X) := by
  unfold owns
  iintro ⟨%f, %hf, H⟩
  rw [show h.unread X = f from (h.eq_unread hf).symm]
  iexact H

theorem owns_of_ps (c : Dev nD) {sp : Space} {S : Shape} {e : EltTy} (M : Memref sig .tc sp S e) (h : M.IsWhole) (X : S.Idx → Elt F e) :
    ps c M (h.unread X) ⊢ (owns (c : Thread nD τ) M fullShare X : sProp 𝕄) := by
  unfold owns
  iintro H
  iexists _
  isplitr; swap; · iexact H
  ipureintro; exact h.read_unread X

theorem some_of_owns (c : Dev nD) {sp : Space} {S : Shape} {e : EltTy} (M : Memref sig .tc sp S e) (X : S.Idx → Elt F e) :
    (owns (c : Thread nD τ) M fullShare X : sProp 𝕄) ⊢ iprop(∃ f, ps c M f) := by
  unfold owns
  iintro ⟨%f, -, H⟩
  iexists f
  iexact H

/-- A buffer written by pieces that cover it reads the pieces' contents. -/
theorem owns_of_writes (c : Dev nD) {sp : Space} {S : Shape} {e : EltTy} (M : Memref sig .tc sp S e) (L : List (View.Piece (Elt F) S e))
    (hL : ∀ y, ∃ p ∈ L, y ∈ p.1.set) :
    iprop(∃ f, ps c M (M.view.writes (Elt F) f L)) ⊢ (owns (c : Thread nD τ) M fullShare (View.canon L) : sProp 𝕄) := by
  unfold owns
  iintro ⟨%f, H⟩
  iexists _
  isplitr; swap; · iexact H
  ipureintro; exact View.read_writes_eq_canon _ _ _ hL

/-- What a window's buffer is left at, where the body stores nothing in it. -/
theorem leaves_idle (c : Dev nD) (w : Fin cfg0.W) (t : Fin cfg0.N) (hi : cfg0.idle w (cfg0.grid.coords t) = true)
    (hf : (cfg0.win w).flush t = false) :
    iprop(∃ d, owns (c : Thread nD τ) ((cfg0.win w).stage (cfg0.slots t w)) fullShare ((dats m 0 c).before w t d))
      ⊢ ((dats m 0 c).leavesExact w t : sProp 𝕄) := by
  unfold Dat.leavesExact; rw [hi, hf]
/-- What a window's buffer is left at, where the body stores it. -/
theorem leaves_live (c : Dev nD) (w : Fin cfg0.W) (t : Fin cfg0.N) (hi : cfg0.idle w (cfg0.grid.coords t) = false) :
    (owns (c : Thread nD τ) ((cfg0.win w).stage (cfg0.slots t w)) fullShare ((dats m 0 c).after w t))
      ⊢ ((dats m 0 c).leavesExact w t : sProp 𝕄) := by
  unfold Dat.leavesExact; rw [hi]

theorem idle7_of (t : Fin cfg0.N) (h : ¬k0_cond5 (grid0.coords t) = 1#1) : cfg0.idle 7 (cfg0.grid.coords t) = true := by
  show (!(k0_cond5 (grid0.coords t) == 1#1)) = true
  simp [h]
theorem idle8_of (t : Fin cfg0.N) (h : ¬k0_cond5 (grid0.coords t) = 1#1) : cfg0.idle 8 (cfg0.grid.coords t) = true := idle7_of t h
theorem idle9_of (t : Fin cfg0.N) (h : ¬k0_cond5 (grid0.coords t) = 1#1) : cfg0.idle 9 (cfg0.grid.coords t) = true := idle7_of t h
theorem live7_of (t : Fin cfg0.N) (h : k0_cond5 (grid0.coords t) = 1#1) : cfg0.idle 7 (cfg0.grid.coords t) = false := by
  show (!(k0_cond5 (grid0.coords t) == 1#1)) = false
  simp [h]
theorem live8_of (t : Fin cfg0.N) (h : k0_cond5 (grid0.coords t) = 1#1) : cfg0.idle 8 (cfg0.grid.coords t) = false := live7_of t h
theorem live9_of (t : Fin cfg0.N) (h : k0_cond5 (grid0.coords t) = 1#1) : cfg0.idle 9 (cfg0.grid.coords t) = false := live7_of t h
theorem stay7 (t : Fin cfg0.N) (h : t.val % 8 ≠ 7) : (cfg0.win 7).flush t = false := Bool.eq_false_iff.mpr fun e => h ((flush0_7 t).mp e)
theorem stay8 (t : Fin cfg0.N) (h : t.val % 8 ≠ 7) : (cfg0.win 8).flush t = false := Bool.eq_false_iff.mpr fun e => h ((flush0_8 t).mp e)
theorem stay9 (t : Fin cfg0.N) (h : t.val % 8 ≠ 7) : (cfg0.win 9).flush t = false := Bool.eq_false_iff.mpr fun e => h ((flush0_9 t).mp e)

/-! ## The stores cover the result buffers -/

theorem coverE7 (c : Dev nD) (t : Fin cfg0.N) (h : t.val / 8 % 8 < t.val % 8 ∧ t.val % 8 = 7) (s : St (F := F) c) :
    ∀ y, ∃ p ∈ (atE m c t h s).1.2.2.2.1, y ∈ p.1.set :=
  View.cover_of_tiledL (atE m c t h s).1.2.2.2.1 S512x384.size (by sl_kernel_rfl)
theorem coverE8 (c : Dev nD) (t : Fin cfg0.N) (h : t.val / 8 % 8 < t.val % 8 ∧ t.val % 8 = 7) (s : St (F := F) c) :
    ∀ y, ∃ p ∈ (atE m c t h s).1.2.2.2.2.1, y ∈ p.1.set :=
  View.cover_of_tiledL (atE m c t h s).1.2.2.2.2.1 S512x384.size (by sl_kernel_rfl)
theorem coverE9 (c : Dev nD) (t : Fin cfg0.N) (h : t.val / 8 % 8 < t.val % 8 ∧ t.val % 8 = 7) (s : St (F := F) c) :
    ∀ y, ∃ p ∈ (atE m c t h s).1.2.2.2.2.2, y ∈ p.1.set :=
  View.cover_of_tiledL (atE m c t h s).1.2.2.2.2.2 S1x512x128.size (by sl_kernel_rfl)
theorem coverG7 (c : Dev nD) (t : Fin cfg0.N) (h : t.val % 64 = 63) (s : St (F := F) c) :
    ∀ y, ∃ p ∈ (atG m c t h s).1.2.2.2.1, y ∈ p.1.set :=
  View.cover_of_tiledL (atG m c t h s).1.2.2.2.1 S512x384.size (by sl_kernel_rfl)
theorem coverG8 (c : Dev nD) (t : Fin cfg0.N) (h : t.val % 64 = 63) (s : St (F := F) c) :
    ∀ y, ∃ p ∈ (atG m c t h s).1.2.2.2.2.1, y ∈ p.1.set :=
  View.cover_of_tiledL (atG m c t h s).1.2.2.2.2.1 S512x384.size (by sl_kernel_rfl)
theorem coverG9 (c : Dev nD) (t : Fin cfg0.N) (h : t.val % 64 = 63) (s : St (F := F) c) :
    ∀ y, ∃ p ∈ (atG m c t h s).1.2.2.2.2.2.1, y ∈ p.1.set :=
  View.cover_of_tiledL (atG m c t h s).1.2.2.2.2.2.1 S1x512x128.size (by sl_kernel_rfl)

/-! ## The body at each kind of point -/

/-- The input windows' buffers at their blocks. -/
abbrev insAt (c : Dev nD) (t : Fin cfg0.N) : sProp 𝕄 :=
  iprop(ps c (ms0 t) (xi0 m c t) ∗ ps c (ms1 t) (xi1 m c t) ∗ ps c (ms2 t) (xi2 m c t) ∗ ps c (ms3 t) (xi3 m c t) ∗ ps c (ms4 t) (xi4 m c t) ∗ ps c (ms5 t) (xi5 m c t) ∗ ps c (ms6 t) (xi6 m c t))

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (dats m 0 c).leavesExact 7 t
    ∗ (dats m 0 c).leavesExact 8 t
    ∗ (dats m 0 c).leavesExact 9 t)

/-- The precondition with the inputs at their blocks. -/
theorem pre_in (c : Dev nD) (t : Fin cfg0.N) : bodyPre m c t ⊢ iprop(inv m c t.val ∗ (∃ W, owes (c : Thread nD τ) 0 W)
    ∗ ps c (ms0 t) (xi0 m c t) ∗ ps c (ms1 t) (xi1 m c t) ∗ ps c (ms2 t) (xi2 m c t) ∗ ps c (ms3 t) (xi3 m c t) ∗ ps c (ms4 t) (xi4 m c t) ∗ ps c (ms5 t) (xi5 m c t) ∗ ps c (ms6 t) (xi6 m c t)
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))) := by
  unfold bodyPre
  rw [show (dats m 0 c).Φ t.castSucc = inv m c t.val from rfl]
  simp only [before0_0, before0_1, before0_2, before0_3, before0_4, before0_5, before0_6]
  unfold Dat.owesAt Pipeline.owesWithin
  rw [show (dats m 0 c).owed t.castSucc = 0 from rfl]
  iintro ⟨HI, ⟨%W, -, HW⟩, ⟨%d0, H0⟩, ⟨%d1, H1⟩, ⟨%d2, H2⟩, ⟨%d3, H3⟩, ⟨%d4, H4⟩, ⟨%d5, H5⟩, ⟨%d6, H6⟩, H7, H8, H9⟩
  isplitl [HI]; · iexact HI
  isplitl [HW]; · iexists W; iexact HW
  isplitl [H0]; · iapply (ps_of_owns c (ms0 t) (hs0 t) _); iexact H0
  isplitl [H1]; · iapply (ps_of_owns c (ms1 t) (hs1 t) _); iexact H1
  isplitl [H2]; · iapply (ps_of_owns c (ms2 t) (hs2 t) _); iexact H2
  isplitl [H3]; · iapply (ps_of_owns c (ms3 t) (hs3 t) _); iexact H3
  isplitl [H4]; · iapply (ps_of_owns c (ms4 t) (hs4 t) _); iexact H4
  isplitl [H5]; · iapply (ps_of_owns c (ms5 t) (hs5 t) _); iexact H5
  isplitl [H6]; · iapply (ps_of_owns c (ms6 t) (hs6 t) _); iexact H6
  isplitl [H7]; · iexact H7
  isplitl [H8]; · iexact H8
  iexact H9

/-- The postcondition from the inputs at their blocks. -/
theorem post_out (c : Dev nD) (t : Fin cfg0.N) : iprop(inv m c (t.val + 1) ∗ (∃ W, owes (c : Thread nD τ) 0 W)
    ∗ ps c (ms0 t) (xi0 m c t) ∗ ps c (ms1 t) (xi1 m c t) ∗ ps c (ms2 t) (xi2 m c t) ∗ ps c (ms3 t) (xi3 m c t) ∗ ps c (ms4 t) (xi4 m c t) ∗ ps c (ms5 t) (xi5 m c t) ∗ ps c (ms6 t) (xi6 m c t)
    ∗ (dats m 0 c).leavesExact 7 t ∗ (dats m 0 c).leavesExact 8 t ∗ (dats m 0 c).leavesExact 9 t) ⊢ bodyPost m c t := by
  unfold bodyPost
  rw [show (dats m 0 c).Φ t.succ = inv m c (t.val + 1) from rfl]
  rw [after0_0, after0_1, after0_2, after0_3, after0_4, after0_5, after0_6]
  unfold Dat.owesAt Pipeline.owesWithin
  rw [show (dats m 0 c).owed t.succ = 0 from rfl]
  iintro ⟨HI, ⟨%W, HW⟩, H0, H1, H2, H3, H4, H5, H6, H7, H8, H9⟩
  isplitl [HI]; · iexact HI
  isplitl [HW]
  · iexists W; isplitr; · ipureintro; exact fun _ _ => Or.inl trivial
    iexact HW
  isplitl [H0]; · iapply (owns_of_ps c (ms0 t) (hs0 t) _); iexact H0
  isplitl [H1]; · iapply (owns_of_ps c (ms1 t) (hs1 t) _); iexact H1
  isplitl [H2]; · iapply (owns_of_ps c (ms2 t) (hs2 t) _); iexact H2
  isplitl [H3]; · iapply (owns_of_ps c (ms3 t) (hs3 t) _); iexact H3
  isplitl [H4]; · iapply (owns_of_ps c (ms4 t) (hs4 t) _); iexact H4
  isplitl [H5]; · iapply (owns_of_ps c (ms5 t) (hs5 t) _); iexact H5
  isplitl [H6]; · iapply (owns_of_ps c (ms6 t) (hs6 t) _); iexact H6
  isplitl [H7]; · iexact H7
  isplitl [H8]; · iexact H8
  iexact H9

/-- The body at a point of kind A. -/
theorem soundA (c : Dev nD) (t : Fin cfg0.N) (h : t.val % 64 = 0) :
    bodyPre m c t ⊢ wp frame (wpE (defs₀ (F := F)) Variants.none c none) Set.univ (bodyAt0 t) (fun _ => bodyPost m c t) := by
  refine (pre_in m c t).trans ?_
  unfold inv
  iintro ⟨⟨%s, %hs, H10, H14, H15, H16, Hg, HS⟩, ⟨%W, HW⟩, H0, H1, H2, H3, H4, H5, H6, H7, H8, H9⟩
  iapply ((atA m c t h s).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H14]; · iexact H14
  isplitl [H15]; · iexact H15
  isplitl [H16]; · iexact H16
  iintro ⟨H0, H1, H2, H3, H4, H5, H6, H14, H15, H16⟩
  iapply (post_out m c t)
  unfold inv
  isplitl [H10 H14 H15 H16 Hg HS]
  · iexists (step m c t s)
    isplitr
    · ipureintro; rw [stAt_succ, stepA m c t _ h, stepA m c t _ h]; exact ⟨hs.1, fun _ => Prod.ext hs.1 rfl⟩
    rw [stepA m c t s h]
    isplitl [H10]; · iexact H10
    isplitl [H14]; · iexact H14
    isplitl [H15]; · iexact H15
    isplitl [H16]; · iexact H16
    isplitl [Hg]; · iexact Hg
    iexact HS
  isplitl [HW]; · iexists _; iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (leaves_idle m c 7 t (idle7_of t (condsA t h).2.2.2.2.1) (stay7 t (by omega))); iexact H7
  isplitl [H8]
  · iapply (leaves_idle m c 8 t (idle8_of t (condsA t h).2.2.2.2.1) (stay8 t (by omega))); iexact H8
  iapply (leaves_idle m c 9 t (idle9_of t (condsA t h).2.2.2.2.1) (stay9 t (by omega))); iexact H9

/-- The body at a point of kind B. -/
theorem soundB (c : Dev nD) (t : Fin cfg0.N) (h : t.val % 8 = 0 ∧ t.val % 64 ≠ 0) :
    bodyPre m c t ⊢ wp frame (wpE (defs₀ (F := F)) Variants.none c none) Set.univ (bodyAt0 t) (fun _ => bodyPost m c t) := by
  refine (pre_in m c t).trans ?_
  unfold inv
  iintro ⟨⟨%s, %hs, H10, H14, H15, H16, Hg, HS⟩, ⟨%W, HW⟩, H0, H1, H2, H3, H4, H5, H6, H7, H8, H9⟩
  have hst : s = stAt m c t.val := hs.2 (by omega)
  iapply ((atB c t h s).2 _)
  isplitl [H15]; · iexact H15
  isplitl [H16]; · iexact H16
  iintro ⟨H15, H16⟩
  iapply (post_out m c t)
  unfold inv
  isplitl [H10 H14 H15 H16 Hg HS]
  · iexists (step m c t s)
    isplitr
    · ipureintro; rw [stAt_succ, ← hst]; exact ⟨rfl, fun _ => rfl⟩
    rw [stepB m c t s h]
    isplitl [H10]; · iexact H10
    isplitl [H14]; · iexact H14
    isplitl [H15]; · iexact H15
    isplitl [H16]; · iexact H16
    isplitl [Hg]; · iexact Hg
    iexact HS
  isplitl [HW]; · iexists _; iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (leaves_idle m c 7 t (idle7_of t (condsB t h).2.2.2.2.1) (stay7 t (by omega))); iexact H7
  isplitl [H8]
  · iapply (leaves_idle m c 8 t (idle8_of t (condsB t h).2.2.2.2.1) (stay8 t (by omega))); iexact H8
  iapply (leaves_idle m c 9 t (idle9_of t (condsB t h).2.2.2.2.1) (stay9 t (by omega))); iexact H9

/-- The body at a point of kind C. -/
theorem soundC (c : Dev nD) (t : Fin cfg0.N) (h : t.val % 8 = t.val / 8 % 8 ∧ t.val % 8 ≠ 0 ∧ t.val % 8 ≠ 7) :
    bodyPre m c t ⊢ wp frame (wpE (defs₀ (F := F)) Variants.none c none) Set.univ (bodyAt0 t) (fun _ => bodyPost m c t) := by
  refine (pre_in m c t).trans ?_
  unfold inv
  iintro ⟨⟨%s, %hs, H10, H14, H15, H16, Hg, HS⟩, ⟨%W, HW⟩, H0, H1, H2, H3, H4, H5, H6, H7, H8, H9⟩
  have hst : s = stAt m c t.val := hs.2 (by omega)
  iapply ((atC m c t h s).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H14]; · iexact H14
  isplitl [H15]; · iexact H15
  isplitl [H16]; · iexact H16
  iintro ⟨H0, H1, H2, H3, H4, H5, H6, H14, H15, H16⟩
  iapply (post_out m c t)
  unfold inv
  isplitl [H10 H14 H15 H16 Hg HS]
  · iexists (step m c t s)
    isplitr
    · ipureintro; rw [stAt_succ, ← hst]; exact ⟨rfl, fun _ => rfl⟩
    rw [stepC m c t s h]
    isplitl [H10]; · iexact H10
    isplitl [H14]; · iexact H14
    isplitl [H15]; · iexact H15
    isplitl [H16]; · iexact H16
    isplitl [Hg]; · iexact Hg
    iexact HS
  isplitl [HW]; · iexists _; iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (leaves_idle m c 7 t (idle7_of t (condsC t h).2.2.2.2.1) (stay7 t (by omega))); iexact H7
  isplitl [H8]
  · iapply (leaves_idle m c 8 t (idle8_of t (condsC t h).2.2.2.2.1) (stay8 t (by omega))); iexact H8
  iapply (leaves_idle m c 9 t (idle9_of t (condsC t h).2.2.2.2.1) (stay9 t (by omega))); iexact H9

/-- The body at a point of kind D. -/
theorem soundD (c : Dev nD) (t : Fin cfg0.N) (h : t.val / 8 % 8 < t.val % 8 ∧ t.val % 8 ≠ 7) :
    bodyPre m c t ⊢ wp frame (wpE (defs₀ (F := F)) Variants.none c none) Set.univ (bodyAt0 t) (fun _ => bodyPost m c t) := by
  refine (pre_in m c t).trans ?_
  unfold inv
  iintro ⟨⟨%s, %hs, H10, H14, H15, H16, Hg, HS⟩, ⟨%W, HW⟩, H0, H1, H2, H3, H4, H5, H6, H7, H8, H9⟩
  have hst : s = stAt m c t.val := hs.2 (by omega)
  iapply ((atD m c t h s).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H14]; · iexact H14
  isplitl [H15]; · iexact H15
  isplitl [H16]; · iexact H16
  iintro ⟨H0, H1, H2, H3, H4, H5, H6, H14, H15, H16⟩
  iapply (post_out m c t)
  unfold inv
  isplitl [H10 H14 H15 H16 Hg HS]
  · iexists (step m c t s)
    isplitr
    · ipureintro; rw [stAt_succ, ← hst]; exact ⟨rfl, fun _ => rfl⟩
    rw [stepD m c t s h]
    isplitl [H10]; · iexact H10
    isplitl [H14]; · iexact H14
    isplitl [H15]; · iexact H15
    isplitl [H16]; · iexact H16
    isplitl [Hg]; · iexact Hg
    iexact HS
  isplitl [HW]; · iexists _; iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (leaves_idle m c 7 t (idle7_of t (condsD t h).2.2.2.2.1) (stay7 t (by omega))); iexact H7
  isplitl [H8]
  · iapply (leaves_idle m c 8 t (idle8_of t (condsD t h).2.2.2.2.1) (stay8 t (by omega))); iexact H8
  iapply (leaves_idle m c 9 t (idle9_of t (condsD t h).2.2.2.2.1) (stay9 t (by omega))); iexact H9

/-- The body at a point of kind E. -/
theorem soundE (c : Dev nD) (t : Fin cfg0.N) (h : t.val / 8 % 8 < t.val % 8 ∧ t.val % 8 = 7) :
    bodyPre m c t ⊢ wp frame (wpE (defs₀ (F := F)) Variants.none c none) Set.univ (bodyAt0 t) (fun _ => bodyPost m c t) := by
  refine (pre_in m c t).trans ?_
  unfold inv
  iintro ⟨⟨%s, %hs, H10, H14, H15, H16, Hg, HS⟩, ⟨%W, HW⟩, H0, H1, H2, H3, H4, H5, H6, H7, H8, H9⟩
  have hst : s = stAt m c t.val := hs.2 (by omega)
  iapply ((atE m c t h s).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H14]; · iexact H14
  isplitl [H15]; · iexact H15
  isplitl [H16]; · iexact H16
  isplitl [H7]; · icases H7 with ⟨%d7, H7⟩; iapply (some_of_owns c (ms7 t) _); iexact H7
  isplitl [H8]; · icases H8 with ⟨%d8, H8⟩; iapply (some_of_owns c (ms8 t) _); iexact H8
  isplitl [H9]; · icases H9 with ⟨%d9, H9⟩; iapply (some_of_owns c (ms9 t) _); iexact H9
  iintro ⟨H0, H1, H2, H3, H4, H5, H6, H14, H15, H16, H7, H8, H9⟩
  iapply (post_out m c t)
  unfold inv
  isplitl [H10 H14 H15 H16 Hg HS]
  · iexists (step m c t s)
    isplitr
    · ipureintro; rw [stAt_succ, ← hst]; exact ⟨rfl, fun _ => rfl⟩
    rw [stepE m c t s h]
    isplitl [H10]; · iexact H10
    isplitl [H14]; · iexact H14
    isplitl [H15]; · iexact H15
    isplitl [H16]; · iexact H16
    isplitl [Hg]; · iexact Hg
    iexact HS
  isplitl [HW]; · iexists _; iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (leaves_live m c 7 t (live7_of t (condsE t h).2.2.2.2.1))
    rw [after0_7, show out7 m c t = View.canon (atE m c t h s).1.2.2.2.1 by unfold out7; rw [dif_pos h, hst]]
    iapply (owns_of_writes c (ms7 t) _ (coverE7 m c t h s)); iexact H7
  isplitl [H8]
  · iapply (leaves_live m c 8 t (live8_of t (condsE t h).2.2.2.2.1))
    rw [after0_8, show out8 m c t = View.canon (atE m c t h s).1.2.2.2.2.1 by unfold out8; rw [dif_pos h, hst]]
    iapply (owns_of_writes c (ms8 t) _ (coverE8 m c t h s)); iexact H8
  iapply (leaves_live m c 9 t (live9_of t (condsE t h).2.2.2.2.1))
  rw [after0_9, show out9 m c t = View.canon (atE m c t h s).1.2.2.2.2.2 by unfold out9; rw [dif_pos h, hst]]
  iapply (owns_of_writes c (ms9 t) _ (coverE9 m c t h s)); iexact H9

/-- The body at a point of kind F. -/
theorem soundF (c : Dev nD) (t : Fin cfg0.N) (h : t.val % 8 < t.val / 8 % 8 ∧ t.val % 8 ≠ 0) :
    bodyPre m c t ⊢ wp frame (wpE (defs₀ (F := F)) Variants.none c none) Set.univ (bodyAt0 t) (fun _ => bodyPost m c t) := by
  refine (pre_in m c t).trans ?_
  unfold inv
  iintro ⟨⟨%s, %hs, H10, H14, H15, H16, Hg, HS⟩, ⟨%W, HW⟩, H0, H1, H2, H3, H4, H5, H6, H7, H8, H9⟩
  have hst : s = stAt m c t.val := hs.2 (by omega)
  iapply (runF c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (condsF t h).1 (condsF t h).2.1 (condsF t h).2.2.1 (condsF t h).2.2.2.1 (condsF t h).2.2.2.2.1 (condsF t h).2.2.2.2.2 _)
  iapply (post_out m c t)
  unfold inv
  isplitl [H10 H14 H15 H16 Hg HS]
  · iexists (step m c t s)
    isplitr
    · ipureintro; rw [stAt_succ, ← hst]; exact ⟨rfl, fun _ => rfl⟩
    rw [stepF m c t s h]
    isplitl [H10]; · iexact H10
    isplitl [H14]; · iexact H14
    isplitl [H15]; · iexact H15
    isplitl [H16]; · iexact H16
    isplitl [Hg]; · iexact Hg
    iexact HS
  isplitl [HW]; · iexists _; iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (leaves_idle m c 7 t (idle7_of t (condsF t h).2.2.2.2.1) (stay7 t (by omega))); iexact H7
  isplitl [H8]
  · iapply (leaves_idle m c 8 t (idle8_of t (condsF t h).2.2.2.2.1) (stay8 t (by omega))); iexact H8
  iapply (leaves_idle m c 9 t (idle9_of t (condsF t h).2.2.2.2.1) (stay9 t (by omega))); iexact H9

/-- The body at a point of kind G. -/
theorem soundG (c : Dev nD) (t : Fin cfg0.N) (h : t.val % 64 = 63) :
    bodyPre m c t ⊢ wp frame (wpE (defs₀ (F := F)) Variants.none c none) Set.univ (bodyAt0 t) (fun _ => bodyPost m c t) := by
  refine (pre_in m c t).trans ?_
  unfold inv
  iintro ⟨⟨%s, %hs, H10, H14, H15, H16, Hg, HS⟩, ⟨%W, HW⟩, H0, H1, H2, H3, H4, H5, H6, H7, H8, H9⟩
  have hst : s = stAt m c t.val := hs.2 (by omega)
  iapply ((atG m c t h s).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H14]; · iexact H14
  isplitl [H15]; · iexact H15
  isplitl [H16]; · iexact H16
  isplitl [H7]; · icases H7 with ⟨%d7, H7⟩; iapply (some_of_owns c (ms7 t) _); iexact H7
  isplitl [H8]; · icases H8 with ⟨%d8, H8⟩; iapply (some_of_owns c (ms8 t) _); iexact H8
  isplitl [H9]; · icases H9 with ⟨%d9, H9⟩; iapply (some_of_owns c (ms9 t) _); iexact H9
  isplitl [H10]; · iexact H10
  isplitl [HS]; · iexact HS
  isplitl [HW]; · iexact HW
  iintro ⟨H0, H1, H2, H3, H4, H5, H6, H14, H15, H16, H7, H8, H9, H10, HS, ⟨%W', HW⟩⟩
  iapply (post_out m c t)
  unfold inv
  isplitl [H10 H14 H15 H16 Hg HS]
  · iexists (step m c t s)
    isplitr
    · ipureintro; rw [stAt_succ, ← hst]; exact ⟨rfl, fun _ => rfl⟩
    rw [stepG m c t s h]
    isplitl [H10]; · iexact H10
    isplitl [H14]; · iexact H14
    isplitl [H15]; · iexact H15
    isplitl [H16]; · iexact H16
    isplitl [Hg]; · iexact Hg
    iexact HS
  isplitl [HW]; · iexists _; iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (leaves_live m c 7 t (live7_of t (condsG t h).2.2.2.2.1))
    rw [after0_7, show out7 m c t = View.canon (atG m c t h s).1.2.2.2.1 by unfold out7; rw [dif_neg (show ¬(t.val / 8 % 8 < t.val % 8 ∧ t.val % 8 = 7) by omega), dif_pos h, hst]]
    iapply (owns_of_writes c (ms7 t) _ (coverG7 m c t h s)); iexact H7
  isplitl [H8]
  · iapply (leaves_live m c 8 t (live8_of t (condsG t h).2.2.2.2.1))
    rw [after0_8, show out8 m c t = View.canon (atG m c t h s).1.2.2.2.2.1 by unfold out8; rw [dif_neg (show ¬(t.val / 8 % 8 < t.val % 8 ∧ t.val % 8 = 7) by omega), dif_pos h, hst]]
    iapply (owns_of_writes c (ms8 t) _ (coverG8 m c t h s)); iexact H8
  iapply (leaves_live m c 9 t (live9_of t (condsG t h).2.2.2.2.1))
  rw [after0_9, show out9 m c t = View.canon (atG m c t h s).1.2.2.2.2.2.1 by unfold out9; rw [dif_neg (show ¬(t.val / 8 % 8 < t.val % 8 ∧ t.val % 8 = 7) by omega), dif_pos h, hst]]
  iapply (owns_of_writes c (ms9 t) _ (coverG9 m c t h s)); iexact H9

theorem sound_body (c : Dev nD) (t : Fin cfg0.N) :
    bodyPre m c t ⊢ wp frame (wpE (defs₀ (F := F)) Variants.none c none) Set.univ (bodyAt0 t) (fun _ => bodyPost m c t) := by
  rcases kinds t with h | h | h | h | h | h | h
  · exact soundA m c t h
  · exact soundB m c t h
  · exact soundC m c t h
  · exact soundD m c t h
  · exact soundE m c t h
  · exact soundF m c t h
  · exact soundG m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
/-- @main up to the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

set_option backward.isDefEq.respectTransparency.types false in
/-- The program runs to the arrays the pipeline leaves, the query-side result at what the transfers sent, every counter at zero. -/
theorem run_main : θ_run defs (onTc (τ := τ) (main (F := F))) (s₀ m ρ)
    (fun r => Pipeline.FramePostRG cfgs (dats m) 0 R0 (V m) (Gend m) r ∧ r.2.sem = fun _ => 0) :=
  Pipeline.θ_run_frame_dmaRG (Q' := _) cfgs (dats m) (0 : Fin 1) launch0 osem0 defs₀ Variants.none ownSemFacts0 ∅ R0 H0_sub R0_sub m ρ main
    (hbody := fun c => (body_obligation m c).loose) (hshare := fun c => (dats m 0 c).share_full fun _ => rfl)
    (howed := fun _ _ => rfl) (V := V m) (hmain := hmain m Variants.none) (hA := A_eq m) (G := Gend m)
    (hin := inv_in m) (hout := inv_out m)

/-- THE FRAME: the program ends, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c),
      ((h.1.toR c).2 main_arg4 (Finset.mem_sdiff.mpr ⟨Pipeline.mem_restRefs_of main_arg4 (by decide) (by decide), by decide⟩)).trans (V_main_arg4 m c)⟩, h.2⟩) (run_main m ρ)

end Cert.KernelIdeal.Hand

end
-- ==== Proof.Tile.lean ====
module

public import proofs.«01_k».proof.Proof.Frame
public import Idealize.ShloMosaic.Lib.Pointwise
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## One tile's products -/

/-- Column `l` of head `h` of a group. -/
abbrev hd (h : Fin 6) (l : Fin 128) : Fin 768 := ⟨128 * h.val + l.val, by omega⟩

/-- Tile (j, i)'s weight of key `k` at query `q`, of head `h`. -/
def tP (j i : ℕ) (K : S512x768.Idx → EReal) (QT : S768x512.Idx → EReal) (h : Fin 6) (k q : Fin 512) : EReal :=
  if 512 * j + k.val ≤ 512 * i + q.val then Ideal.exp (∑ l : Fin 128, K (ix2 k (hd h l)) * QT (ix2 (hd h l) q)) else 0

/-- The tile's gradient of the score. -/
def tDS (j i : ℕ) (K : S512x768.Idx → EReal) (QT : S768x512.Idx → EReal) (V : S512x768.Idx → EReal) (DYT : S768x512.Idx → EReal)
    (h : Fin 6) (k q : Fin 512) : EReal :=
  tP j i K QT h k q * ∑ l : Fin 128, V (ix2 k (hd h l)) * DYT (ix2 (hd h l) q)

/-! ## Six heads' pieces -/

section Six

variable {κ : Kind} {sp : Space} (v : View sig κ sp S512x768 .f32) (f : v.ty.Contents (Elt Ideal))

/-- A column outside a head's piece reads the pieces before it. -/
theorem col_skip {o : Fin 2 → ℕ} {b} (L : List (View.Piece (Elt Ideal) S512x768 .f32)) (w : (⟨2, ![512, 128]⟩ : Shape).Idx → EReal)
    (n : ℕ) (ho : o = ![0, n]) (x : Fin 512) (y : Fin 768) (hy : y.val < n ∨ n + 128 ≤ y.val) :
    v.read (Elt Ideal) (v.writes (Elt Ideal) f ((⟨Rect.unit (s := S512x768) o ![512, 128] b, w⟩ : View.Piece (Elt Ideal) S512x768 .f32) :: L)) (ix2 x y)
      = v.read (Elt Ideal) (v.writes (Elt Ideal) f L) (ix2 x y) :=
  View.read_writes_cons_unit_of_not_mem v f b w L (ix2 x y : S512x768.Idx) ho 1 hy

/-- A column inside a head's piece reads the piece. -/
theorem col_take {o : Fin 2 → ℕ} {b} (L : List (View.Piece (Elt Ideal) S512x768 .f32)) (w : (⟨2, ![512, 128]⟩ : Shape).Idx → EReal)
    (n : ℕ) (ho : o = ![0, n]) (x : Fin 512) (y : Fin 768) (l : Fin 128) (hy : y.val = n + l.val) :
    v.read (Elt Ideal) (v.writes (Elt Ideal) f ((⟨Rect.unit (s := S512x768) o ![512, 128] b, w⟩ : View.Piece (Elt Ideal) S512x768 .f32) :: L)) (ix2 x y)
      = w (ix2 x l) :=
  View.read_writes_cons_unit_of_mem v f b w L (ix2 x y : S512x768.Idx) (ix2 x l : (⟨2, ![512, 128]⟩ : Shape).Idx) ho
    (fun a => match a with | ⟨0, _⟩ => (Nat.zero_add _).symm | ⟨1, _⟩ => hy)

/-- Six pieces, head by head along the columns, read at a column of head `h`: that head's piece. -/
theorem six_cols {o0 o1 o2 o3 o4 o5 : Fin 2 → ℕ} {b0 b1 b2 b3 b4 b5} (L : List (View.Piece (Elt Ideal) S512x768 .f32))
    (w0 w1 w2 w3 w4 w5 : (⟨2, ![512, 128]⟩ : Shape).Idx → EReal)
    (h0 : o0 = ![0, 0]) (h1 : o1 = ![0, 128]) (h2 : o2 = ![0, 256]) (h3 : o3 = ![0, 384]) (h4 : o4 = ![0, 512]) (h5 : o5 = ![0, 640])
    (x : Fin 512) (h : Fin 6) (l : Fin 128) :
    v.read (Elt Ideal) (v.writes (Elt Ideal) f
      ((⟨Rect.unit (s := S512x768) o5 ![512, 128] b5, w5⟩ : View.Piece (Elt Ideal) S512x768 .f32) :: ⟨Rect.unit (s := S512x768) o4 ![512, 128] b4, w4⟩
        :: ⟨Rect.unit (s := S512x768) o3 ![512, 128] b3, w3⟩ :: ⟨Rect.unit (s := S512x768) o2 ![512, 128] b2, w2⟩
        :: ⟨Rect.unit (s := S512x768) o1 ![512, 128] b1, w1⟩ :: ⟨Rect.unit (s := S512x768) o0 ![512, 128] b0, w0⟩ :: L)) (ix2 x (hd h l))
      = (![w0, w1, w2, w3, w4, w5] : Fin 6 → _) h (ix2 x l) := by
  have hl := l.isLt
  match h with
  | ⟨0, _⟩ =>
    rw [col_skip v f _ _ 640 h5 x _ (by simp only [hd]; omega), col_skip v f _ _ 512 h4 x _ (by simp only [hd]; omega), col_skip v f _ _ 384 h3 x _ (by simp only [hd]; omega),
      col_skip v f _ _ 256 h2 x _ (by simp only [hd]; omega), col_skip v f _ _ 128 h1 x _ (by simp only [hd]; omega), col_take v f _ _ 0 h0 x _ l rfl]; rfl
  | ⟨1, _⟩ =>
    rw [col_skip v f _ _ 640 h5 x _ (by simp only [hd]; omega), col_skip v f _ _ 512 h4 x _ (by simp only [hd]; omega), col_skip v f _ _ 384 h3 x _ (by simp only [hd]; omega),
      col_skip v f _ _ 256 h2 x _ (by simp only [hd]; omega), col_take v f _ _ 128 h1 x _ l rfl]; rfl
  | ⟨2, _⟩ =>
    rw [col_skip v f _ _ 640 h5 x _ (by simp only [hd]; omega), col_skip v f _ _ 512 h4 x _ (by simp only [hd]; omega), col_skip v f _ _ 384 h3 x _ (by simp only [hd]; omega),
      col_take v f _ _ 256 h2 x _ l rfl]; rfl
  | ⟨3, _⟩ =>
    rw [col_skip v f _ _ 640 h5 x _ (by simp only [hd]; omega), col_skip v f _ _ 512 h4 x _ (by simp only [hd]; omega), col_take v f _ _ 384 h3 x _ l rfl]; rfl
  | ⟨4, _⟩ =>
    rw [col_skip v f _ _ 640 h5 x _ (by simp only [hd]; omega), col_take v f _ _ 512 h4 x _ l rfl]; rfl
  | ⟨5, _⟩ =>
    rw [col_take v f _ _ 640 h5 x _ l rfl]; rfl

end Six

section SixRows

variable {κ : Kind} {sp : Space} (v : View sig κ sp S768x4096 .f32) (f : v.ty.Contents (Elt Ideal))

/-- A row outside a head's piece reads the pieces before it. -/
theorem row_skip {o : Fin 2 → ℕ} {b} (L : List (View.Piece (Elt Ideal) S768x4096 .f32)) (w : (⟨2, ![128, 512]⟩ : Shape).Idx → EReal)
    (n r : ℕ) (ho : o = ![n, r]) (x : Fin 768) (y : Fin 4096) (hx : x.val < n ∨ n + 128 ≤ x.val) :
    v.read (Elt Ideal) (v.writes (Elt Ideal) f ((⟨Rect.unit (s := S768x4096) o ![128, 512] b, w⟩ : View.Piece (Elt Ideal) S768x4096 .f32) :: L)) (ix2 x y)
      = v.read (Elt Ideal) (v.writes (Elt Ideal) f L) (ix2 x y) :=
  View.read_writes_cons_unit_of_not_mem v f b w L (ix2 x y : S768x4096.Idx) ho 0 hx

/-- A column outside a piece reads the pieces before it. -/
theorem rowcol_skip {o : Fin 2 → ℕ} {b} (L : List (View.Piece (Elt Ideal) S768x4096 .f32)) (w : (⟨2, ![128, 512]⟩ : Shape).Idx → EReal)
    (n r : ℕ) (ho : o = ![n, r]) (x : Fin 768) (y : Fin 4096) (hy : y.val < r ∨ r + 512 ≤ y.val) :
    v.read (Elt Ideal) (v.writes (Elt Ideal) f ((⟨Rect.unit (s := S768x4096) o ![128, 512] b, w⟩ : View.Piece (Elt Ideal) S768x4096 .f32) :: L)) (ix2 x y)
      = v.read (Elt Ideal) (v.writes (Elt Ideal) f L) (ix2 x y) :=
  View.read_writes_cons_unit_of_not_mem v f b w L (ix2 x y : S768x4096.Idx) ho 1 hy

/-- A row and column inside a head's piece read the piece. -/
theorem row_take {o : Fin 2 → ℕ} {b} (L : List (View.Piece (Elt Ideal) S768x4096 .f32)) (w : (⟨2, ![128, 512]⟩ : Shape).Idx → EReal)
    (n r : ℕ) (ho : o = ![n, r]) (x : Fin 768) (y : Fin 4096) (l : Fin 128) (q : Fin 512) (hx : x.val = n + l.val) (hy : y.val = r + q.val) :
    v.read (Elt Ideal) (v.writes (Elt Ideal) f ((⟨Rect.unit (s := S768x4096) o ![128, 512] b, w⟩ : View.Piece (Elt Ideal) S768x4096 .f32) :: L)) (ix2 x y)
      = w (ix2 l q) :=
  View.read_writes_cons_unit_of_mem v f b w L (ix2 x y : S768x4096.Idx) (ix2 l q : (⟨2, ![128, 512]⟩ : Shape).Idx) ho
    (fun a => match a with | ⟨0, _⟩ => hx | ⟨1, _⟩ => hy)

/-- Six pieces, head by head along the rows, in the columns from `r`: inside, the head's piece; outside, what was there. -/
theorem six_rows {o0 o1 o2 o3 o4 o5 : Fin 2 → ℕ} {b0 b1 b2 b3 b4 b5} (L : List (View.Piece (Elt Ideal) S768x4096 .f32))
    (w0 w1 w2 w3 w4 w5 : (⟨2, ![128, 512]⟩ : Shape).Idx → EReal) (r : ℕ)
    (h0 : o0 = ![0, r]) (h1 : o1 = ![128, r]) (h2 : o2 = ![256, r]) (h3 : o3 = ![384, r]) (h4 : o4 = ![512, r]) (h5 : o5 = ![640, r])
    (y : Fin 4096) (q : Fin 512) (hy : y.val = r + q.val) (h : Fin 6) (l : Fin 128) :
    v.read (Elt Ideal) (v.writes (Elt Ideal) f
      ((⟨Rect.unit (s := S768x4096) o5 ![128, 512] b5, w5⟩ : View.Piece (Elt Ideal) S768x4096 .f32) :: ⟨Rect.unit (s := S768x4096) o4 ![128, 512] b4, w4⟩
        :: ⟨Rect.unit (s := S768x4096) o3 ![128, 512] b3, w3⟩ :: ⟨Rect.unit (s := S768x4096) o2 ![128, 512] b2, w2⟩
        :: ⟨Rect.unit (s := S768x4096) o1 ![128, 512] b1, w1⟩ :: ⟨Rect.unit (s := S768x4096) o0 ![128, 512] b0, w0⟩ :: L)) (ix2 (hd h l) y)
      = (![w0, w1, w2, w3, w4, w5] : Fin 6 → _) h (ix2 l q) := by
  have hl := l.isLt
  match h with
  | ⟨0, _⟩ =>
    rw [row_skip v f _ _ 640 r h5 _ y (by simp only [hd]; omega), row_skip v f _ _ 512 r h4 _ y (by simp only [hd]; omega), row_skip v f _ _ 384 r h3 _ y (by simp only [hd]; omega),
      row_skip v f _ _ 256 r h2 _ y (by simp only [hd]; omega), row_skip v f _ _ 128 r h1 _ y (by simp only [hd]; omega), row_take v f _ _ 0 r h0 _ y l q rfl hy]; rfl
  | ⟨1, _⟩ =>
    rw [row_skip v f _ _ 640 r h5 _ y (by simp only [hd]; omega), row_skip v f _ _ 512 r h4 _ y (by simp only [hd]; omega), row_skip v f _ _ 384 r h3 _ y (by simp only [hd]; omega),
      row_skip v f _ _ 256 r h2 _ y (by simp only [hd]; omega), row_take v f _ _ 128 r h1 _ y l q rfl hy]; rfl
  | ⟨2, _⟩ =>
    rw [row_skip v f _ _ 640 r h5 _ y (by simp only [hd]; omega), row_skip v f _ _ 512 r h4 _ y (by simp only [hd]; omega), row_skip v f _ _ 384 r h3 _ y (by simp only [hd]; omega),
      row_take v f _ _ 256 r h2 _ y l q rfl hy]; rfl
  | ⟨3, _⟩ =>
    rw [row_skip v f _ _ 640 r h5 _ y (by simp only [hd]; omega), row_skip v f _ _ 512 r h4 _ y (by simp only [hd]; omega), row_take v f _ _ 384 r h3 _ y l q rfl hy]; rfl
  | ⟨4, _⟩ =>
    rw [row_skip v f _ _ 640 r h5 _ y (by simp only [hd]; omega), row_take v f _ _ 512 r h4 _ y l q rfl hy]; rfl
  | ⟨5, _⟩ =>
    rw [row_take v f _ _ 640 r h5 _ y l q rfl hy]; rfl

/-- Columns outside the six pieces read what was there. -/
theorem six_rows_out {o0 o1 o2 o3 o4 o5 : Fin 2 → ℕ} {b0 b1 b2 b3 b4 b5} (L : List (View.Piece (Elt Ideal) S768x4096 .f32))
    (w0 w1 w2 w3 w4 w5 : (⟨2, ![128, 512]⟩ : Shape).Idx → EReal) (r : ℕ)
    (h0 : o0 = ![0, r]) (h1 : o1 = ![128, r]) (h2 : o2 = ![256, r]) (h3 : o3 = ![384, r]) (h4 : o4 = ![512, r]) (h5 : o5 = ![640, r])
    (y : Fin 4096) (hy : y.val < r ∨ r + 512 ≤ y.val) (x : Fin 768) :
    v.read (Elt Ideal) (v.writes (Elt Ideal) f
      ((⟨Rect.unit (s := S768x4096) o5 ![128, 512] b5, w5⟩ : View.Piece (Elt Ideal) S768x4096 .f32) :: ⟨Rect.unit (s := S768x4096) o4 ![128, 512] b4, w4⟩
        :: ⟨Rect.unit (s := S768x4096) o3 ![128, 512] b3, w3⟩ :: ⟨Rect.unit (s := S768x4096) o2 ![128, 512] b2, w2⟩
        :: ⟨Rect.unit (s := S768x4096) o1 ![128, 512] b1, w1⟩ :: ⟨Rect.unit (s := S768x4096) o0 ![128, 512] b0, w0⟩ :: L)) (ix2 x y)
      = v.read (Elt Ideal) (v.writes (Elt Ideal) f L) (ix2 x y) := by
  rw [rowcol_skip v f _ _ 640 r h5 x y hy, rowcol_skip v f _ _ 512 r h4 x y hy, rowcol_skip v f _ _ 384 r h3 x y hy, rowcol_skip v f _ _ 256 r h2 x y hy,
    rowcol_skip v f _ _ 128 r h1 x y hy, rowcol_skip v f _ _ 0 r h0 x y hy]

end SixRows

end Cert.KernelIdeal.Hand

end
-- ==== Proof.Tile2.lean ====
module

public import proofs.«01_k».proof.Proof.Tile

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## The grid's coordinates and the offsets of the query-side accumulator -/

theorem coords1 : ∀ t : Fin cfg0.N, (grid0.coords t 1).val = t.val / 8 % 8 :=
  (by decide +kernel : ∀ t : Fin grid0.N, _ = _)

theorem coords2 : ∀ t : Fin cfg0.N, (grid0.coords t 2).val = t.val % 8 :=
  (by decide +kernel : ∀ t : Fin grid0.N, _ = _)

theorem off1 : ∀ t : Fin cfg0.N, k0_off1 (grid0.coords t) = ![0, 512 * (t.val % 8)] :=
  (by decide +kernel : ∀ t : Fin grid0.N, _ = _)

theorem off2 : ∀ t : Fin cfg0.N, k0_off2 (grid0.coords t) = ![128, 512 * (t.val % 8)] :=
  (by decide +kernel : ∀ t : Fin grid0.N, _ = _)

theorem off3 : ∀ t : Fin cfg0.N, k0_off3 (grid0.coords t) = ![256, 512 * (t.val % 8)] :=
  (by decide +kernel : ∀ t : Fin grid0.N, _ = _)

theorem off4 : ∀ t : Fin cfg0.N, k0_off4 (grid0.coords t) = ![384, 512 * (t.val % 8)] :=
  (by decide +kernel : ∀ t : Fin grid0.N, _ = _)

theorem off5 : ∀ t : Fin cfg0.N, k0_off5 (grid0.coords t) = ![512, 512 * (t.val % 8)] :=
  (by decide +kernel : ∀ t : Fin grid0.N, _ = _)

theorem off6 : ∀ t : Fin cfg0.N, k0_off6 (grid0.coords t) = ![640, 512 * (t.val % 8)] :=
  (by decide +kernel : ∀ t : Fin grid0.N, _ = _)

theorem off7 : ∀ t : Fin cfg0.N, k0_off7 (grid0.coords t) = ![0, 512 * (t.val % 8)] :=
  (by decide +kernel : ∀ t : Fin grid0.N, _ = _)

theorem off8 : ∀ t : Fin cfg0.N, k0_off8 (grid0.coords t) = ![128, 512 * (t.val % 8)] :=
  (by decide +kernel : ∀ t : Fin grid0.N, _ = _)

theorem off9 : ∀ t : Fin cfg0.N, k0_off9 (grid0.coords t) = ![256, 512 * (t.val % 8)] :=
  (by decide +kernel : ∀ t : Fin grid0.N, _ = _)

theorem off10 : ∀ t : Fin cfg0.N, k0_off10 (grid0.coords t) = ![384, 512 * (t.val % 8)] :=
  (by decide +kernel : ∀ t : Fin grid0.N, _ = _)

theorem off11 : ∀ t : Fin cfg0.N, k0_off11 (grid0.coords t) = ![512, 512 * (t.val % 8)] :=
  (by decide +kernel : ∀ t : Fin grid0.N, _ = _)

theorem off12 : ∀ t : Fin cfg0.N, k0_off12 (grid0.coords t) = ![640, 512 * (t.val % 8)] :=
  (by decide +kernel : ∀ t : Fin grid0.N, _ = _)

/-- The mask of a tile, on words, is the order of the key's and the query's positions. -/
theorem mask_sel (j i : ℕ) (hj : j < 8) (hi : i < 8) (k q : Fin 512) (a b : EReal) :
    Scalar.select (IntOp.cmpi CmpIPredicate.sle (IntOp.addi (Scalar.muli (BitVec.ofNat 32 j) 512#32) (BitVec.ofNat 32 k.val))
        (IntOp.addi (Scalar.muli (BitVec.ofNat 32 i) 512#32) (BitVec.ofNat 32 q.val))) a b
      = if 512 * j + k.val ≤ 512 * i + q.val then a else b := by
  have e : ∀ (n : ℕ) (r : Fin 512), n < 8 → IntOp.addi (Scalar.muli (BitVec.ofNat 32 n) 512#32) (BitVec.ofNat 32 r.val) = BitVec.ofNat 32 (512 * n + r.val) := by
    intro n r hn
    apply BitVec.eq_of_toNat_eq
    show (BitVec.ofNat 32 n * 512#32 + BitVec.ofNat 32 r.val).toNat = _
    simp only [BitVec.toNat_add, BitVec.toNat_mul, BitVec.toNat_ofNat]
    omega
  rw [e j k hj, e i q hi]
  word_cmp

/-- The mask of a tile at a point of the grid. -/
theorem mask_at (t : Fin cfg0.N) (k q : Fin 512) (a b : EReal) :
    Scalar.select (IntOp.cmpi CmpIPredicate.sle (IntOp.addi (Scalar.muli (BitVec.ofNat 32 (grid0.coords t 1).val) 512#32) (BitVec.ofNat 32 k.val))
        (IntOp.addi (Scalar.muli (BitVec.ofNat 32 (grid0.coords t 2).val) 512#32) (BitVec.ofNat 32 q.val))) a b
      = if 512 * (t.val / 8 % 8) + k.val ≤ 512 * (t.val % 8) + q.val then a else b := by
  rw [coords1, coords2]
  exact mask_sel _ _ (by omega) (by omega) k q a b

theorem named_mask : (Named.named (F := Ideal) κ "mask" (φ := .f32) 0xF149F2CA#32 : EReal) = ⊥ := rfl

theorem exp_mask (p : Prop) [Decidable p] (a : EReal) : Ideal.exp (if p then a else ⊥) = if p then Ideal.exp a else 0 := by
  split <;> simp

theorem hd_zero (l : Fin 128) : hd 0 l = ⟨l.val, by omega⟩ := Fin.ext (by simp [hd])

/-- The transposed key block at a point. -/
abbrev bKT (m : (ℓ : Loc nD τ sig) → Buf (Elt Ideal) ℓ) (c : Dev nD) (t : Fin cfg0.N) : S768x512.Idx → EReal := iblk m c 3 t

/-! ## Reads through the writes before -/

section Cov

/-- A load of a head's columns reads nothing of another head's piece. -/
theorem cov_skip {κ : Kind} {sp : Space} (v : View sig κ sp S512x768 .f32) (n o : ℕ) {b b'} (L : List (View.Piece (Elt Ideal) S512x768 .f32))
    (w : (⟨2, ![512, 128]⟩ : Shape).Idx → EReal) (h : n + 128 ≤ o) :
    v.readCov ((⟨Rect.unit (s := S512x768) ![0, n] ![512, 128] b, w⟩ : View.Piece (Elt Ideal) S512x768 .f32) :: L) (Rect.unit (s := S512x768) ![0, o] ![512, 128] b').toLoadRect
      = v.readCov L (Rect.unit (s := S512x768) ![0, o] ![512, 128] b').toLoadRect := by
  refine funext fun x => View.read_writes_cons_unit_of_not_mem (Val := Elt Ideal) v v.junk b w L _ rfl 1 (Or.inr ?_)
  exact h.trans (Nat.le_add_right o _)

theorem zero_at {κ : Kind} {sp : Space} (v : View sig κ sp S512x768 .f32) (f : v.ty.Contents (Elt Ideal)) {b} (w : (⟨2, ![512, 768]⟩ : Shape).Idx → EReal) (hw : w = fun _ => 0) (y : S512x768.Idx) :
    v.read (Elt Ideal) (v.writes (Elt Ideal) f [(⟨Rect.unit (s := S512x768) ![0, 0] ![512, 768] b, w⟩ : View.Piece (Elt Ideal) S512x768 .f32)]) y = (0 : EReal) := by
  obtain ⟨p, q, rfl⟩ : ∃ (p : Fin 512) (q : Fin 768), y = ix2 p q := ⟨y 0, y 1, eq_ix2 y⟩
  have e := View.read_writes_cons_unit_of_mem (Val := Elt Ideal) v f b w [] (ix2 p q : S512x768.Idx) (ix2 p q : (⟨2, ![512, 768]⟩ : Shape).Idx) (off' := ![0, 0]) rfl
    (fun a => match a with | ⟨0, _⟩ => (Nat.zero_add _).symm | ⟨1, _⟩ => (Nat.zero_add _).symm)
  exact e.trans (congrFun hw _)

/-- A load of columns after the zeroing reads zeros. -/
theorem cov_zero {κ : Kind} {sp : Space} (v : View sig κ sp S512x768 .f32) (o : ℕ) {b b'} (w : S512x768.Idx → EReal) (hw : w = fun _ => 0) :
    v.readCov [(⟨Rect.unit (s := S512x768) ![0, 0] ![512, 768] b, w⟩ : View.Piece (Elt Ideal) S512x768 .f32)] (Rect.unit (s := S512x768) ![0, o] ![512, 128] b').toLoadRect
      = fun _ => (0 : EReal) := by
  exact funext fun x => zero_at v v.junk w hw _

/-- A load of a head's rows reads nothing of another head's piece. -/
theorem cov_skip_row {κ : Kind} {sp : Space} (v : View sig κ sp S768x4096 .f32) (n o r r' : ℕ) {b b'} (L : List (View.Piece (Elt Ideal) S768x4096 .f32))
    (w : (⟨2, ![128, 512]⟩ : Shape).Idx → EReal) (h : n + 128 ≤ o) :
    v.readCov ((⟨Rect.unit (s := S768x4096) ![n, r] ![128, 512] b, w⟩ : View.Piece (Elt Ideal) S768x4096 .f32) :: L) (Rect.unit (s := S768x4096) ![o, r'] ![128, 512] b').toLoadRect
      = v.readCov L (Rect.unit (s := S768x4096) ![o, r'] ![128, 512] b').toLoadRect := by
  refine funext fun x => View.read_writes_cons_unit_of_not_mem (Val := Elt Ideal) v v.junk b w L _ rfl 0 (Or.inr ?_)
  exact h.trans (Nat.le_add_right o _)

theorem zero_row_at {κ : Kind} {sp : Space} (v : View sig κ sp S768x4096 .f32) (f : v.ty.Contents (Elt Ideal)) {b} (w : (⟨2, ![768, 4096]⟩ : Shape).Idx → EReal) (hw : w = fun _ => 0) (y : S768x4096.Idx) :
    v.read (Elt Ideal) (v.writes (Elt Ideal) f [(⟨Rect.unit (s := S768x4096) ![0, 0] ![768, 4096] b, w⟩ : View.Piece (Elt Ideal) S768x4096 .f32)]) y = (0 : EReal) := by
  obtain ⟨p, q, rfl⟩ : ∃ (p : Fin 768) (q : Fin 4096), y = ix2 p q := ⟨y 0, y 1, eq_ix2 y⟩
  have e := View.read_writes_cons_unit_of_mem (Val := Elt Ideal) v f b w [] (ix2 p q : S768x4096.Idx) (ix2 p q : (⟨2, ![768, 4096]⟩ : Shape).Idx) (off' := ![0, 0]) rfl
    (fun a => match a with | ⟨0, _⟩ => (Nat.zero_add _).symm | ⟨1, _⟩ => (Nat.zero_add _).symm)
  exact e.trans (congrFun hw _)

/-- A load of rows after the zeroing reads zeros. -/
theorem cov_zero_row {κ : Kind} {sp : Space} (v : View sig κ sp S768x4096 .f32) (o r : ℕ) {b b'} (w : S768x4096.Idx → EReal) (hw : w = fun _ => 0) :
    v.readCov [(⟨Rect.unit (s := S768x4096) ![0, 0] ![768, 4096] b, w⟩ : View.Piece (Elt Ideal) S768x4096 .f32)] (Rect.unit (s := S768x4096) ![o, r] ![128, 512] b').toLoadRect
      = fun _ => (0 : EReal) := by
  exact funext fun x => zero_row_at v v.junk w hw _

/-- A load of a head's rows of the query-side accumulator, at the point's columns. -/
theorem row_load {κ : Kind} {sp : Space} (v : View sig κ sp S768x4096 .f32) (f : v.ty.Contents (Elt Ideal)) (off : Fin 2 → ℕ) (n r : ℕ) (ho : off = ![n, r]) (b)
    (y : Fin 4096) (q : Fin 512) (hy : y.val = r + q.val) (hh : Fin 6) (hn : n = 128 * hh.val) (l : Fin 128) :
    v.readAt (Elt Ideal) (Rect.unit (s := S768x4096) off ![128, 512] b).toLoadRect f (ix2 l q) = v.read (Elt Ideal) f (ix2 (hd hh l) y) := by
  subst ho
  subst hn
  refine congrArg (v.read (Elt Ideal) f) (funext fun a => Fin.ext ?_)
  match a with
  | ⟨0, _⟩ => exact (congrArg (fun n => 128 * hh.val + n) (Nat.one_mul l.val) : 128 * hh.val + 1 * l.val = 128 * hh.val + l.val)
  | ⟨1, _⟩ => exact ((congrArg (fun n => r + n) (Nat.one_mul q.val)).trans hy.symm : r + 1 * q.val = y.val)

/-- A load of a head's rows reads nothing of another head's piece, the offsets as they stand. -/
theorem cov_skip_off {κ : Kind} {sp : Space} (v : View sig κ sp S768x4096 .f32) (f : v.ty.Contents (Elt Ideal)) (off off' : Fin 2 → ℕ) {b b'} (L : List (View.Piece (Elt Ideal) S768x4096 .f32))
    (w : (⟨2, ![128, 512]⟩ : Shape).Idx → EReal) (h : off 0 + 128 ≤ off' 0) :
    v.readAt (Elt Ideal) (Rect.unit (s := S768x4096) off' ![128, 512] b').toLoadRect (v.writes (Elt Ideal) f ((⟨Rect.unit (s := S768x4096) off ![128, 512] b, w⟩ : View.Piece (Elt Ideal) S768x4096 .f32) :: L))
      = v.readAt (Elt Ideal) (Rect.unit (s := S768x4096) off' ![128, 512] b').toLoadRect (v.writes (Elt Ideal) f L) := by
  refine funext fun x => View.read_writes_cons_unit_of_not_mem (Val := Elt Ideal) v f b w L _ rfl 0 (Or.inr ?_)
  exact h.trans (Nat.le_add_right _ _)

/-- A load of rows after the zeroing reads zeros, the offset as it stands. -/
theorem cov_zero_off {κ : Kind} {sp : Space} (v : View sig κ sp S768x4096 .f32) (f : v.ty.Contents (Elt Ideal)) (off : Fin 2 → ℕ) {b b'} (w : S768x4096.Idx → EReal) (hw : w = fun _ => 0) :
    v.readAt (Elt Ideal) (Rect.unit (s := S768x4096) off ![128, 512] b').toLoadRect (v.writes (Elt Ideal) f [(⟨Rect.unit (s := S768x4096) ![0, 0] ![768, 4096] b, w⟩ : View.Piece (Elt Ideal) S768x4096 .f32)])
      = fun _ => (0 : EReal) := by
  exact funext fun x => zero_row_at v f w hw _

theorem zero_cols (h) : (shapeCast S512x768 (broadcast S512x768 (FloatOps.ofBits (F := Ideal) .f32 0x00000000#32)) h : FVec Ideal S512x768 .f32) = fun _ => (0 : EReal) := by
  funext j; idx_vars j; pointwise

theorem zero_rows (h) : (shapeCast S768x4096 (broadcast S768x4096 (FloatOps.ofBits (F := Ideal) .f32 0x00000000#32)) h : FVec Ideal S768x4096 .f32) = fun _ => (0 : EReal) := by
  funext j; idx_vars j; pointwise

end Cov

end Cert.KernelIdeal.Hand

end
-- ==== Proof.Blocks.lean ====
module

public import proofs.«01_k».proof.Proof.Tile2
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

/-! ## Where the blocks of the arguments lie -/

/-- The number of points. -/
theorem N0 : cfg0.N = 128 := by decide +kernel

theorem idx0_0 : ∀ t : Fin cfg0.N, t.val / 8 % 8 ≤ t.val % 8 → win0_0.index t 0 = t.val % 8 ∧ win0_0.index t 1 = t.val / 64 :=
  (by decide +kernel : ∀ t : Fin grid0.N, t.val / 8 % 8 ≤ t.val % 8 → _)

/-- Window 0 holds the queries' rows of its tile at its group's columns. -/
theorem blk_0 (c : Dev nD) (t : Fin cfg0.N) (h : t.val / 8 % 8 ≤ t.val % 8) (x : Fin 512) (y : Fin 768) :
    (iblk m c 0 t : S512x768.Idx → EReal) (ix2 x y)
      = (V m c main_v61 : S4096x1536.Idx → EReal) (ix2 ⟨512 * (t.val % 8) + x.val, by omega⟩ ⟨768 * (t.val / 64) + y.val, by have := t.isLt; have e : cfg0.N = 128 := N0; omega⟩) := by
  refine congrArg (V m c main_v61 : S4096x1536.Idx → EReal) (funext fun a => Fin.ext ?_)
  match a with
  | ⟨0, _⟩ => exact (Pipeline.Window.rect_emb_val win0_0 t (ix2 x y) 0).trans (by rw [(idx0_0 t h).1]; show (t.val % 8) * 512 + x.val = 512 * (t.val % 8) + x.val; omega)
  | ⟨1, _⟩ => exact (Pipeline.Window.rect_emb_val win0_0 t (ix2 x y) 1).trans (by rw [(idx0_0 t h).2]; show (t.val / 64) * 768 + y.val = 768 * (t.val / 64) + y.val; omega)

/-- The block index of window 1. -/
theorem idx0_1 : ∀ t : Fin cfg0.N, t.val / 8 % 8 ≤ t.val % 8 → win0_1.index t 0 = t.val / 64 ∧ win0_1.index t 1 = t.val % 8 :=
  (by decide +kernel : ∀ t : Fin grid0.N, t.val / 8 % 8 ≤ t.val % 8 → _)

/-- Window 1 holds the transposed queries' columns of its tile at its group's rows. -/
theorem blk_1 (c : Dev nD) (t : Fin cfg0.N) (h : t.val / 8 % 8 ≤ t.val % 8) (x : Fin 768) (y : Fin 512) :
    (iblk m c 1 t : S768x512.Idx → EReal) (ix2 x y)
      = (V m c main_v104 : S1536x4096.Idx → EReal) (ix2 ⟨768 * (t.val / 64) + x.val, by have := t.isLt; have e : cfg0.N = 128 := N0; omega⟩ ⟨512 * (t.val % 8) + y.val, by omega⟩) := by
  refine congrArg (V m c main_v104 : S1536x4096.Idx → EReal) (funext fun a => Fin.ext ?_)
  match a with
  | ⟨0, _⟩ => exact (Pipeline.Window.rect_emb_val win0_1 t (ix2 x y) 0).trans (by rw [(idx0_1 t h).1]; show (t.val / 64) * 768 + x.val = 768 * (t.val / 64) + x.val; omega)
  | ⟨1, _⟩ => exact (Pipeline.Window.rect_emb_val win0_1 t (ix2 x y) 1).trans (by rw [(idx0_1 t h).2]; show (t.val % 8) * 512 + y.val = 512 * (t.val % 8) + y.val; omega)

/-- The block index of window 2. -/
theorem idx0_2 : ∀ t : Fin cfg0.N, win0_2.index t 0 = t.val / 8 % 8 ∧ win0_2.index t 1 = t.val / 64 :=
  (by decide +kernel : ∀ t : Fin grid0.N, _)

/-- Window 2 holds the keys' rows of its tile at its group's columns. -/
theorem blk_2 (c : Dev nD) (t : Fin cfg0.N) (x : Fin 512) (y : Fin 768) :
    (iblk m c 2 t : S512x768.Idx → EReal) (ix2 x y)
      = (V m c main_v80 : S4096x1536.Idx → EReal) (ix2 ⟨512 * (t.val / 8 % 8) + x.val, by omega⟩ ⟨768 * (t.val / 64) + y.val, by have := t.isLt; have e : cfg0.N = 128 := N0; omega⟩) := by
  refine congrArg (V m c main_v80 : S4096x1536.Idx → EReal) (funext fun a => Fin.ext ?_)
  match a with
  | ⟨0, _⟩ => exact (Pipeline.Window.rect_emb_val win0_2 t (ix2 x y) 0).trans (by rw [(idx0_2 t).1]; show (t.val / 8 % 8) * 512 + x.val = 512 * (t.val / 8 % 8) + x.val; omega)
  | ⟨1, _⟩ => exact (Pipeline.Window.rect_emb_val win0_2 t (ix2 x y) 1).trans (by rw [(idx0_2 t).2]; show (t.val / 64) * 768 + y.val = 768 * (t.val / 64) + y.val; omega)

/-- The block index of window 3. -/
theorem idx0_3 : ∀ t : Fin cfg0.N, win0_3.index t 0 = t.val / 64 ∧ win0_3.index t 1 = t.val / 8 % 8 :=
  (by decide +kernel : ∀ t : Fin grid0.N, _)

/-- Window 3 holds the transposed keys' columns of its tile at its group's rows. -/
theorem blk_3 (c : Dev nD) (t : Fin cfg0.N) (x : Fin 768) (y : Fin 512) :
    (iblk m c 3 t : S768x512.Idx → EReal) (ix2 x y)
      = (V m c main_v105 : S1536x4096.Idx → EReal) (ix2 ⟨768 * (t.val / 64) + x.val, by have := t.isLt; have e : cfg0.N = 128 := N0; omega⟩ ⟨512 * (t.val / 8 % 8) + y.val, by omega⟩) := by
  refine congrArg (V m c main_v105 : S1536x4096.Idx → EReal) (funext fun a => Fin.ext ?_)
  match a with
  | ⟨0, _⟩ => exact (Pipeline.Window.rect_emb_val win0_3 t (ix2 x y) 0).trans (by rw [(idx0_3 t).1]; show (t.val / 64) * 768 + x.val = 768 * (t.val / 64) + x.val; omega)
  | ⟨1, _⟩ => exact (Pipeline.Window.rect_emb_val win0_3 t (ix2 x y) 1).trans (by rw [(idx0_3 t).2]; show (t.val / 8 % 8) * 512 + y.val = 512 * (t.val / 8 % 8) + y.val; omega)

/-- The block index of window 4. -/
theorem idx0_4 : ∀ t : Fin cfg0.N, win0_4.index t 0 = t.val / 8 % 8 ∧ win0_4.index t 1 = t.val / 64 :=
  (by decide +kernel : ∀ t : Fin grid0.N, _)

/-- Window 4 holds the values' rows of its tile at its group's columns. -/
theorem blk_4 (c : Dev nD) (t : Fin cfg0.N) (x : Fin 512) (y : Fin 768) :
    (iblk m c 4 t : S512x768.Idx → EReal) (ix2 x y)
      = (V m c main_v84 : S4096x1536.Idx → EReal) (ix2 ⟨512 * (t.val / 8 % 8) + x.val, by omega⟩ ⟨768 * (t.val / 64) + y.val, by have := t.isLt; have e : cfg0.N = 128 := N0; omega⟩) := by
  refine congrArg (V m c main_v84 : S4096x1536.Idx → EReal) (funext fun a => Fin.ext ?_)
  match a with
  | ⟨0, _⟩ => exact (Pipeline.Window.rect_emb_val win0_4 t (ix2 x y) 0).trans (by rw [(idx0_4 t).1]; show (t.val / 8 % 8) * 512 + x.val = 512 * (t.val / 8 % 8) + x.val; omega)
  | ⟨1, _⟩ => exact (Pipeline.Window.rect_emb_val win0_4 t (ix2 x y) 1).trans (by rw [(idx0_4 t).2]; show (t.val / 64) * 768 + y.val = 768 * (t.val / 64) + y.val; omega)

/-- The block index of window 5. -/
theorem idx0_5 : ∀ t : Fin cfg0.N, t.val / 8 % 8 ≤ t.val % 8 → win0_5.index t 0 = t.val % 8 ∧ win0_5.index t 1 = t.val / 64 :=
  (by decide +kernel : ∀ t : Fin grid0.N, t.val / 8 % 8 ≤ t.val % 8 → _)

/-- Window 5 holds the output gradient's rows of its tile at its group's columns. -/
theorem blk_5 (c : Dev nD) (t : Fin cfg0.N) (h : t.val / 8 % 8 ≤ t.val % 8) (x : Fin 512) (y : Fin 768) :
    (iblk m c 5 t : S512x768.Idx → EReal) (ix2 x y)
      = (V m c main_v103 : S4096x1536.Idx → EReal) (ix2 ⟨512 * (t.val % 8) + x.val, by omega⟩ ⟨768 * (t.val / 64) + y.val, by have := t.isLt; have e : cfg0.N = 128 := N0; omega⟩) := by
  refine congrArg (V m c main_v103 : S4096x1536.Idx → EReal) (funext fun a => Fin.ext ?_)
  match a with
  | ⟨0, _⟩ => exact (Pipeline.Window.rect_emb_val win0_5 t (ix2 x y) 0).trans (by rw [(idx0_5 t h).1]; show (t.val % 8) * 512 + x.val = 512 * (t.val % 8) + x.val; omega)
  | ⟨1, _⟩ => exact (Pipeline.Window.rect_emb_val win0_5 t (ix2 x y) 1).trans (by rw [(idx0_5 t h).2]; show (t.val / 64) * 768 + y.val = 768 * (t.val / 64) + y.val; omega)

/-- The block index of window 6. -/
theorem idx0_6 : ∀ t : Fin cfg0.N, t.val / 8 % 8 ≤ t.val % 8 → win0_6.index t 0 = t.val / 64 ∧ win0_6.index t 1 = t.val % 8 :=
  (by decide +kernel : ∀ t : Fin grid0.N, t.val / 8 % 8 ≤ t.val % 8 → _)

/-- Window 6 holds the transposed output gradient's columns of its tile at its group's rows. -/
theorem blk_6 (c : Dev nD) (t : Fin cfg0.N) (h : t.val / 8 % 8 ≤ t.val % 8) (x : Fin 768) (y : Fin 512) :
    (iblk m c 6 t : S768x512.Idx → EReal) (ix2 x y)
      = (V m c main_v106 : S1536x4096.Idx → EReal) (ix2 ⟨768 * (t.val / 64) + x.val, by have := t.isLt; have e : cfg0.N = 128 := N0; omega⟩ ⟨512 * (t.val % 8) + y.val, by omega⟩) := by
  refine congrArg (V m c main_v106 : S1536x4096.Idx → EReal) (funext fun a => Fin.ext ?_)
  match a with
  | ⟨0, _⟩ => exact (Pipeline.Window.rect_emb_val win0_6 t (ix2 x y) 0).trans (by rw [(idx0_6 t h).1]; show (t.val / 64) * 768 + x.val = 768 * (t.val / 64) + x.val; omega)
  | ⟨1, _⟩ => exact (Pipeline.Window.rect_emb_val win0_6 t (ix2 x y) 1).trans (by rw [(idx0_6 t h).2]; show (t.val % 8) * 512 + y.val = 512 * (t.val % 8) + y.val; omega)

end Cert.KernelIdeal.Hand
-- ==== Proof.Acc1.lean ====
module

public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

/-! ## The tiles' products in the arrays' own coordinates -/

/-- A head's column among the twelve heads' 128. -/
def col (h : Fin 12) (l : Fin 128) : Fin 1536 := ⟨128 * h.val + l.val, by omega⟩

/-- A tile's row. -/
def pos (i : ℕ) (q : Fin 512) : Fin 4096 := ⟨(512 * i + q.val) % 4096, Nat.mod_lt _ (by decide)⟩

theorem pos_val (i : ℕ) (hi : i < 8) (q : Fin 512) : (pos i q).val = 512 * i + q.val := Nat.mod_eq_of_lt (by omega)

/-- A point's head. -/
def hof (t : Fin cfg0.N) (hh : Fin 6) : Fin 12 := ⟨6 * (t.val / 64) + hh.val, by have := t.isLt; have e : cfg0.N = 128 := N0; omega⟩

/-- The arrays the call reads. -/
abbrev aQ (c : Dev nD) (s : Fin 4096) (r : Fin 1536) : EReal := (V m c main_v61 : S4096x1536.Idx → EReal) (ix2 s r)
abbrev aQT (c : Dev nD) (r : Fin 1536) (s : Fin 4096) : EReal := (V m c main_v104 : S1536x4096.Idx → EReal) (ix2 r s)
abbrev aK (c : Dev nD) (s : Fin 4096) (r : Fin 1536) : EReal := (V m c main_v80 : S4096x1536.Idx → EReal) (ix2 s r)
abbrev aKT (c : Dev nD) (r : Fin 1536) (s : Fin 4096) : EReal := (V m c main_v105 : S1536x4096.Idx → EReal) (ix2 r s)
abbrev aV (c : Dev nD) (s : Fin 4096) (r : Fin 1536) : EReal := (V m c main_v84 : S4096x1536.Idx → EReal) (ix2 s r)
abbrev aY (c : Dev nD) (s : Fin 4096) (r : Fin 1536) : EReal := (V m c main_v103 : S4096x1536.Idx → EReal) (ix2 s r)
abbrev aYT (c : Dev nD) (r : Fin 1536) (s : Fin 4096) : EReal := (V m c main_v106 : S1536x4096.Idx → EReal) (ix2 r s)

/-- A weight, from the slabs. -/
def gP (c : Dev nD) (h : Fin 12) (k q : Fin 4096) : EReal :=
  if k.val ≤ q.val then Ideal.exp (∑ l : Fin 128, aK m c k (col h l) * aQT m c (col h l) q) else 0

/-- The gradient of a score, from the slabs. -/
def gDS (c : Dev nD) (h : Fin 12) (k q : Fin 4096) : EReal := gP m c h k q * ∑ l : Fin 128, aV m c k (col h l) * aYT m c (col h l) q

/-- A query tile's part of the key-side sum. -/
def c15 (c : Dev nD) (h : Fin 12) (i : ℕ) (k : Fin 4096) (l : Fin 128) : EReal := ∑ q : Fin 512, gDS m c h k (pos i q) * aQ m c (pos i q) (col h l)
/-- A query tile's part of the value-side sum. -/
def c16 (c : Dev nD) (h : Fin 12) (i : ℕ) (k : Fin 4096) (l : Fin 128) : EReal := ∑ q : Fin 512, gP m c h k (pos i q) * aY m c (pos i q) (col h l)
/-- A key tile's part of the query-side sum. -/
def c14 (c : Dev nD) (h : Fin 12) (j : ℕ) (q : Fin 4096) (l : Fin 128) : EReal := ∑ k : Fin 512, aKT m c (col h l) (pos j k) * gDS m c h (pos j k) q

theorem gP_skip (c : Dev nD) (h : Fin 12) (k q : Fin 4096) (hk : q.val < k.val) : gP m c h k q = 0 := if_neg (by omega)
theorem gDS_skip (c : Dev nD) (h : Fin 12) (k q : Fin 4096) (hk : q.val < k.val) : gDS m c h k q = 0 := by rw [gDS, gP_skip m c h k q hk, zero_mul]

/-- Above the diagonal the parts vanish. -/
theorem c15_skip (c : Dev nD) (h : Fin 12) (i j : ℕ) (hi : i < j) (hj : j < 8) (x : Fin 512) (l : Fin 128) : c15 m c h i (pos j x) l = 0 :=
  Finset.sum_eq_zero fun q _ => by rw [gDS_skip m c h _ _ (by rw [pos_val i (by omega), pos_val j hj]; omega), zero_mul]
theorem c16_skip (c : Dev nD) (h : Fin 12) (i j : ℕ) (hi : i < j) (hj : j < 8) (x : Fin 512) (l : Fin 128) : c16 m c h i (pos j x) l = 0 :=
  Finset.sum_eq_zero fun q _ => by rw [gP_skip m c h _ _ (by rw [pos_val i (by omega), pos_val j hj]; omega), zero_mul]
theorem c14_skip (c : Dev nD) (h : Fin 12) (j : ℕ) (hj : j < 8) (y : Fin 4096) (hi : y.val / 512 < j) (l : Fin 128) : c14 m c h j y l = 0 :=
  Finset.sum_eq_zero fun k _ => by rw [gDS_skip m c h _ _ (by rw [pos_val j hj]; omega), mul_zero]

section Tiles

variable (c : Dev nD) (t : Fin cfg0.N) (h : t.val / 8 % 8 ≤ t.val % 8)

theorem col_eq (hh : Fin 6) (l : Fin 128) (p) : (⟨768 * (t.val / 64) + (hd hh l).val, p⟩ : Fin 1536) = col (hof t hh) l :=
  Fin.ext (by simp only [hd, hof, col]; omega)
theorem posi_eq (q : Fin 512) (p) : (⟨512 * (t.val % 8) + q.val, p⟩ : Fin 4096) = pos (t.val % 8) q := Fin.ext (pos_val _ (by omega) _).symm
theorem posj_eq (q : Fin 512) (p) : (⟨512 * (t.val / 8 % 8) + q.val, p⟩ : Fin 4096) = pos (t.val / 8 % 8) q := Fin.ext (pos_val _ (by omega) _).symm

include h in
/-- A tile's weight is the weight at its place. -/
theorem tP_eq (hh : Fin 6) (k q : Fin 512) :
    tP (t.val / 8 % 8) (t.val % 8) (iblk m c 2 t) (iblk m c 1 t) hh k q = gP m c (hof t hh) (pos (t.val / 8 % 8) k) (pos (t.val % 8) q) := by
  have e : (512 * (t.val / 8 % 8) + k.val ≤ 512 * (t.val % 8) + q.val) = ((pos (t.val / 8 % 8) k).val ≤ (pos (t.val % 8) q).val) := by
    rw [pos_val _ (by omega), pos_val _ (by omega)]
  unfold tP gP
  exact ite_congr e (fun _ => congrArg Ideal.exp (Finset.sum_congr rfl fun l _ => congrArg₂ (fun a b : EReal => a * b)
    ((blk_2 m c t _ _).trans (by rw [col_eq, posj_eq])) ((blk_1 m c t h _ _).trans (by rw [col_eq, posi_eq])))) (fun _ => rfl)

include h in
/-- A tile's gradient is the gradient at its place. -/
theorem tDS_eq (hh : Fin 6) (k q : Fin 512) :
    tDS (t.val / 8 % 8) (t.val % 8) (iblk m c 2 t) (iblk m c 1 t) (iblk m c 4 t) (iblk m c 6 t) hh k q = gDS m c (hof t hh) (pos (t.val / 8 % 8) k) (pos (t.val % 8) q) := by
  unfold tDS gDS
  exact congrArg₂ (fun a b : EReal => a * b) (tP_eq m c t h hh k q) (Finset.sum_congr rfl fun l _ => congrArg₂ (fun a b : EReal => a * b)
    ((blk_4 m c t _ _).trans (by rw [col_eq, posj_eq])) ((blk_6 m c t h _ _).trans (by rw [col_eq, posi_eq])))

include h in
theorem part15 (hh : Fin 6) (x : Fin 512) (l : Fin 128) :
    (∑ q : Fin 512, tDS (t.val / 8 % 8) (t.val % 8) (iblk m c 2 t) (iblk m c 1 t) (iblk m c 4 t) (iblk m c 6 t) hh x q * (iblk m c 0 t : S512x768.Idx → EReal) (ix2 q (hd hh l)))
      = c15 m c (hof t hh) (t.val % 8) (pos (t.val / 8 % 8) x) l := by
  refine Finset.sum_congr rfl fun q _ => ?_
  rw [tDS_eq m c t h, blk_0 m c t h, col_eq, posi_eq]

include h in
theorem part16 (hh : Fin 6) (x : Fin 512) (l : Fin 128) :
    (∑ q : Fin 512, tP (t.val / 8 % 8) (t.val % 8) (iblk m c 2 t) (iblk m c 1 t) hh x q * (iblk m c 5 t : S512x768.Idx → EReal) (ix2 q (hd hh l)))
      = c16 m c (hof t hh) (t.val % 8) (pos (t.val / 8 % 8) x) l := by
  refine Finset.sum_congr rfl fun q _ => ?_
  rw [tP_eq m c t h, blk_5 m c t h, col_eq, posi_eq]

include h in
theorem part14 (hh : Fin 6) (y : Fin 4096) (q : Fin 512) (hy : y.val = 512 * (t.val % 8) + q.val) (l : Fin 128) :
    (∑ k : Fin 512, bKT m c t (ix2 (hd hh l) k) * tDS (t.val / 8 % 8) (t.val % 8) (iblk m c 2 t) (iblk m c 1 t) (iblk m c 4 t) (iblk m c 6 t) hh k q)
      = c14 m c (hof t hh) (t.val / 8 % 8) y l := by
  have e : pos (t.val % 8) q = y := Fin.ext ((pos_val _ (by omega) _).trans hy.symm)
  refine Finset.sum_congr rfl fun k _ => ?_
  rw [tDS_eq m c t h, e]
  refine congrArg (· * _) ?_
  exact (blk_3 m c t _ _).trans (by rw [col_eq, posj_eq])

end Tiles

end Cert.KernelIdeal.Hand
-- ==== Proof.StepA.lean ====
module

public import proofs.«01_k».proof.Proof.Tile2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

set_option maxHeartbeats 8000000 in
/-- A point of kind A: the key-side accumulator, takes the tile's product on top of nothing. -/
theorem stepA_15 (c : Dev nD) (t : Fin cfg0.N) (h : t.val % 64 = 0) (s : St (F := Ideal) c) (x : Fin 512) (hh : Fin 6) (l : Fin 128) :
    sc15.view.read (Elt Ideal) (atA m c t h s).1.2.1 (ix2 x (hd hh l))
      = 0 + ∑ q : Fin 512, tDS (t.val / 8 % 8) (t.val % 8) (iblk m c 2 t) (iblk m c 1 t) (iblk m c 4 t) (iblk m c 6 t) hh x q * (iblk m c 0 t : S512x768.Idx → EReal) (ix2 q (hd hh l)) := by
  unfold atA runA
  dsimp only
  sl_unfold_run_names
  rw [six_cols _ _ _ _ _ _ _ _ _ rfl rfl rfl rfl rfl rfl]
  match hh with
  | ⟨0, _⟩ =>
    show _ = _
    simp (disch := first | omega | exact zero_cols _ | exact zero_rows _) only [cov_skip, cov_zero]
    simp only [View.readAt_eq_ld, Memref.IsWhole.read_unread]
    unfold_payloads
    pointwise
    simp only [mask_at, named_mask, exp_mask, tDS, tP]
    try simp only [hd_zero]
    try simp only [zero_add]
    try rfl
  | ⟨1, _⟩ =>
    show _ = _
    simp (disch := first | omega | exact zero_cols _ | exact zero_rows _) only [cov_skip, cov_zero]
    simp only [View.readAt_eq_ld, Memref.IsWhole.read_unread]
    unfold_payloads
    pointwise
    simp only [mask_at, named_mask, exp_mask, tDS, tP]
    try simp only [zero_add]
    try rfl
  | ⟨2, _⟩ =>
    show _ = _
    simp (disch := first | omega | exact zero_cols _ | exact zero_rows _) only [cov_skip, cov_zero]
    simp only [View.readAt_eq_ld, Memref.IsWhole.read_unread]
    unfold_payloads
    pointwise
    simp only [mask_at, named_mask, exp_mask, tDS, tP]
    try simp only [zero_add]
    try rfl
  | ⟨3, _⟩ =>
    show _ = _
    simp (disch := first | omega | exact zero_cols _ | exact zero_rows _) only [cov_skip, cov_zero]
    simp only [View.readAt_eq_ld, Memref.IsWhole.read_unread]
    unfold_payloads
    pointwise
    simp only [mask_at, named_mask, exp_mask, tDS, tP]
    try simp only [zero_add]
    try rfl
  | ⟨4, _⟩ =>
    show _ = _
    simp (disch := first | omega | exact zero_cols _ | exact zero_rows _) only [cov_skip, cov_zero]
    simp only [View.readAt_eq_ld, Memref.IsWhole.read_unread]
    unfold_payloads
    pointwise
    simp only [mask_at, named_mask, exp_mask, tDS, tP]
    try simp only [zero_add]
    try rfl
  | ⟨5, _⟩ =>
    show _ = _
    simp (disch := first | omega | exact zero_cols _ | exact zero_rows _) only [cov_skip, cov_zero]
    simp only [View.readAt_eq_ld, Memref.IsWhole.read_unread]
    unfold_payloads
    pointwise
    simp only [mask_at, named_mask, exp_mask, tDS, tP]
    try simp only [zero_add]
    try rfl

set_option maxHeartbeats 8000000 in
/-- A point of kind A: the value-side accumulator, takes the tile's product on top of nothing. -/
theorem stepA_16 (c : Dev nD) (t : Fin cfg0.N) (h : t.val % 64 = 0) (s : St (F := Ideal) c) (x : Fin 512) (hh : Fin 6) (l : Fin 128) :
    sc16.view.read (Elt Ideal) (atA m c t h s).1.2.2 (ix2 x (hd hh l))
      = 0 + ∑ q : Fin 512, tP (t.val / 8 % 8) (t.val % 8) (iblk m c 2 t) (iblk m c 1 t) hh x q * (iblk m c 5 t : S512x768.Idx → EReal) (ix2 q (hd hh l)) := by
  unfold atA runA
  dsimp only
  sl_unfold_run_names
  rw [six_cols _ _ _ _ _ _ _ _ _ rfl rfl rfl rfl rfl rfl]
  match hh with
  | ⟨0, _⟩ =>
    show _ = _
    simp (disch := first | omega | exact zero_cols _ | exact zero_rows _) only [cov_skip, cov_zero]
    simp only [View.readAt_eq_ld, Memref.IsWhole.read_unread]
    unfold_payloads
    pointwise
    simp only [mask_at, named_mask, exp_mask, tDS, tP]
    try simp only [hd_zero]
    try simp only [zero_add]
    try rfl
  | ⟨1, _⟩ =>
    show _ = _
    simp (disch := first | omega | exact zero_cols _ | exact zero_rows _) only [cov_skip, cov_zero]
    simp only [View.readAt_eq_ld, Memref.IsWhole.read_unread]
    unfold_payloads
    pointwise
    simp only [mask_at, named_mask, exp_mask, tDS, tP]
    try simp only [zero_add]
    try rfl
  | ⟨2, _⟩ =>
    show _ = _
    simp (disch := first | omega | exact zero_cols _ | exact zero_rows _) only [cov_skip, cov_zero]
    simp only [View.readAt_eq_ld, Memref.IsWhole.read_unread]
    unfold_payloads
    pointwise
    simp only [mask_at, named_mask, exp_mask, tDS, tP]
    try simp only [zero_add]
    try rfl
  | ⟨3, _⟩ =>
    show _ = _
    simp (disch := first | omega | exact zero_cols _ | exact zero_rows _) only [cov_skip, cov_zero]
    simp only [View.readAt_eq_ld, Memref.IsWhole.read_unread]
    unfold_payloads
    pointwise
    simp only [mask_at, named_mask, exp_mask, tDS, tP]
    try simp only [zero_add]
    try rfl
  | ⟨4, _⟩ =>
    show _ = _
    simp (disch := first | omega | exact zero_cols _ | exact zero_rows _) only [cov_skip, cov_zero]
    simp only [View.readAt_eq_ld, Memref.IsWhole.read_unread]
    unfold_payloads
    pointwise
    simp only [mask_at, named_mask, exp_mask, tDS, tP]
    try simp only [zero_add]
    try rfl
  | ⟨5, _⟩ =>
    show _ = _
    simp (disch := first | omega | exact zero_cols _ | exact zero_rows _) only [cov_skip, cov_zero]
    simp only [View.readAt_eq_ld, Memref.IsWhole.read_unread]
    unfold_payloads
    pointwise
    simp only [mask_at, named_mask, exp_mask, tDS, tP]
    try simp only [zero_add]
    try rfl

set_option maxHeartbeats 8000000 in
/-- A point of kind A: the query-side accumulator, inside the point's columns, takes the tile's product on top of nothing. -/
theorem stepA_14 (c : Dev nD) (t : Fin cfg0.N) (h : t.val % 64 = 0) (s : St (F := Ideal) c) (y : Fin 4096) (q : Fin 512) (hy : y.val = 512 * (t.val % 8) + q.val) (hh : Fin 6) (l : Fin 128) :
    sc14.view.read (Elt Ideal) (atA m c t h s).1.1 (ix2 (hd hh l) y)
      = 0 + ∑ k : Fin 512, bKT m c t (ix2 (hd hh l) k) * tDS (t.val / 8 % 8) (t.val % 8) (iblk m c 2 t) (iblk m c 1 t) (iblk m c 4 t) (iblk m c 6 t) hh k q := by
  have hq : (⟨512 * (t.val % 8) + q.val, by omega⟩ : Fin 4096) = y := Fin.ext hy.symm
  unfold atA runA
  dsimp only
  sl_unfold_run_names
  rw [six_rows _ _ _ _ _ _ _ _ _ _ (off7 t) (off8 t) (off9 t) (off10 t) (off11 t) (off12 t) _ _ hy]
  match hh with
  | ⟨0, _⟩ =>
    show _ = _
    simp (disch := exact zero_rows _) only [↓cov_zero_off]
    simp only [View.readAt_eq_ld, Memref.IsWhole.read_unread]
    unfold_payloads
    pointwise
    simp only [mask_at, named_mask, exp_mask, tDS, tP]
    try simp only [hd_zero]
    try simp only [zero_add]
    try rfl
  | ⟨1, _⟩ =>
    show _ = _
    have h0 : k0_off7 (grid0.coords t) 0 + 128 ≤ k0_off8 (grid0.coords t) 0 := by rw [off7, off8]; show 0 + 128 ≤ 128; omega
    simp (disch := exact zero_rows _) only [↓cov_skip_off _ _ _ _ _ _ h0, ↓cov_zero_off]
    simp only [View.readAt_eq_ld, Memref.IsWhole.read_unread]
    unfold_payloads
    pointwise
    simp only [mask_at, named_mask, exp_mask, tDS, tP]
    try simp only [zero_add]
    try rfl
  | ⟨2, _⟩ =>
    show _ = _
    have h0 : k0_off7 (grid0.coords t) 0 + 128 ≤ k0_off9 (grid0.coords t) 0 := by rw [off7, off9]; show 0 + 128 ≤ 256; omega
    have h1 : k0_off8 (grid0.coords t) 0 + 128 ≤ k0_off9 (grid0.coords t) 0 := by rw [off8, off9]; show 128 + 128 ≤ 256; omega
    simp (disch := exact zero_rows _) only [↓cov_skip_off _ _ _ _ _ _ h0, ↓cov_skip_off _ _ _ _ _ _ h1, ↓cov_zero_off]
    simp only [View.readAt_eq_ld, Memref.IsWhole.read_unread]
    unfold_payloads
    pointwise
    simp only [mask_at, named_mask, exp_mask, tDS, tP]
    try simp only [zero_add]
    try rfl
  | ⟨3, _⟩ =>
    show _ = _
    have h0 : k0_off7 (grid0.coords t) 0 + 128 ≤ k0_off10 (grid0.coords t) 0 := by rw [off7, off10]; show 0 + 128 ≤ 384; omega
    have h1 : k0_off8 (grid0.coords t) 0 + 128 ≤ k0_off10 (grid0.coords t) 0 := by rw [off8, off10]; show 128 + 128 ≤ 384; omega
    have h2 : k0_off9 (grid0.coords t) 0 + 128 ≤ k0_off10 (grid0.coords t) 0 := by rw [off9, off10]; show 256 + 128 ≤ 384; omega
    simp (disch := exact zero_rows _) only [↓cov_skip_off _ _ _ _ _ _ h0, ↓cov_skip_off _ _ _ _ _ _ h1, ↓cov_skip_off _ _ _ _ _ _ h2, ↓cov_zero_off]
    simp only [View.readAt_eq_ld, Memref.IsWhole.read_unread]
    unfold_payloads
    pointwise
    simp only [mask_at, named_mask, exp_mask, tDS, tP]
    try simp only [zero_add]
    try rfl
  | ⟨4, _⟩ =>
    show _ = _
    have h0 : k0_off7 (grid0.coords t) 0 + 128 ≤ k0_off11 (grid0.coords t) 0 := by rw [off7, off11]; show 0 + 128 ≤ 512; omega
    have h1 : k0_off8 (grid0.coords t) 0 + 128 ≤ k0_off11 (grid0.coords t) 0 := by rw [off8, off11]; show 128 + 128 ≤ 512; omega
    have h2 : k0_off9 (grid0.coords t) 0 + 128 ≤ k0_off11 (grid0.coords t) 0 := by rw [off9, off11]; show 256 + 128 ≤ 512; omega
    have h3 : k0_off10 (grid0.coords t) 0 + 128 ≤ k0_off11 (grid0.coords t) 0 := by rw [off10, off11]; show 384 + 128 ≤ 512; omega
    simp (disch := exact zero_rows _) only [↓cov_skip_off _ _ _ _ _ _ h0, ↓cov_skip_off _ _ _ _ _ _ h1, ↓cov_skip_off _ _ _ _ _ _ h2, ↓cov_skip_off _ _ _ _ _ _ h3, ↓cov_zero_off]
    simp only [View.readAt_eq_ld, Memref.IsWhole.read_unread]
    unfold_payloads
    pointwise
    simp only [mask_at, named_mask, exp_mask, tDS, tP]
    try simp only [zero_add]
    try rfl
  | ⟨5, _⟩ =>
    show _ = _
    have h0 : k0_off7 (grid0.coords t) 0 + 128 ≤ k0_off12 (grid0.coords t) 0 := by rw [off7, off12]; show 0 + 128 ≤ 640; omega
    have h1 : k0_off8 (grid0.coords t) 0 + 128 ≤ k0_off12 (grid0.coords t) 0 := by rw [off8, off12]; show 128 + 128 ≤ 640; omega
    have h2 : k0_off9 (grid0.coords t) 0 + 128 ≤ k0_off12 (grid0.coords t) 0 := by rw [off9, off12]; show 256 + 128 ≤ 640; omega
    have h3 : k0_off10 (grid0.coords t) 0 + 128 ≤ k0_off12 (grid0.coords t) 0 := by rw [off10, off12]; show 384 + 128 ≤ 640; omega
    have h4 : k0_off11 (grid0.coords t) 0 + 128 ≤ k0_off12 (grid0.coords t) 0 := by rw [off11, off12]; show 512 + 128 ≤ 640; omega
    simp (disch := exact zero_rows _) only [↓cov_skip_off _ _ _ _ _ _ h0, ↓cov_skip_off _ _ _ _ _ _ h1, ↓cov_skip_off _ _ _ _ _ _ h2, ↓cov_skip_off _ _ _ _ _ _ h3, ↓cov_skip_off _ _ _ _ _ _ h4, ↓cov_zero_off]
    simp only [View.readAt_eq_ld, Memref.IsWhole.read_unread]
    unfold_payloads
    pointwise
    simp only [mask_at, named_mask, exp_mask, tDS, tP]
    try simp only [zero_add]
    try rfl

set_option maxHeartbeats 8000000 in
/-- A point of kind A: outside the point's columns the query-side accumulator is zero. -/
theorem stepA_14_out (c : Dev nD) (t : Fin cfg0.N) (h : t.val % 64 = 0) (s : St (F := Ideal) c) (x : Fin 768) (y : Fin 4096)
    (hy : y.val < 512 * (t.val % 8) ∨ 512 * (t.val % 8) + 512 ≤ y.val) :
    sc14.view.read (Elt Ideal) (atA m c t h s).1.1 (ix2 x y) = 0 := by
  unfold atA runA
  dsimp only
  sl_unfold_run_names
  rw [six_rows_out _ _ _ _ _ _ _ _ _ _ (off7 t) (off8 t) (off9 t) (off10 t) (off11 t) (off12 t) _ hy]
  exact zero_row_at _ _ _ (zero_rows _) _

end Cert.KernelIdeal.Hand

end
-- ==== Proof.StepB.lean ====
module

public import proofs.«01_k».proof.Proof.Tile2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

set_option maxHeartbeats 4000000 in
/-- A key tile's first point above the diagonal clears the key-side accumulator, -/
theorem stepB_15 (c : Dev nD) (t : Fin cfg0.N) (h : t.val % 8 = 0 ∧ t.val % 64 ≠ 0) (s : St (F := Ideal) c) (x : Fin 512) (y : Fin 768) :
    sc15.view.read (Elt Ideal) (atB c t h s).1.1 (ix2 x y) = (0 : EReal) := by
  unfold atB runB
  dsimp only
  sl_unfold_run_names
  unfold_payloads
  exact zero_at sc15.view _ _ (zero_cols _) _

set_option maxHeartbeats 4000000 in
/-- and the value-side one. -/
theorem stepB_16 (c : Dev nD) (t : Fin cfg0.N) (h : t.val % 8 = 0 ∧ t.val % 64 ≠ 0) (s : St (F := Ideal) c) (x : Fin 512) (y : Fin 768) :
    sc16.view.read (Elt Ideal) (atB c t h s).1.2 (ix2 x y) = (0 : EReal) := by
  unfold atB runB
  dsimp only
  sl_unfold_run_names
  unfold_payloads
  exact zero_at sc16.view _ _ (zero_cols _) _

end Cert.KernelIdeal.Hand
-- ==== Proof.StepC.lean ====
module

public import proofs.«01_k».proof.Proof.Tile2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

set_option maxHeartbeats 8000000 in
/-- A point of kind C: the key-side accumulator, takes the tile's product on top of what it held. -/
theorem stepC_15 (c : Dev nD) (t : Fin cfg0.N) (h : t.val % 8 = t.val / 8 % 8 ∧ t.val % 8 ≠ 0 ∧ t.val % 8 ≠ 7) (s : St (F := Ideal) c) (x : Fin 512) (hh : Fin 6) (l : Fin 128) :
    sc15.view.read (Elt Ideal) (atC m c t h s).1.2.1 (ix2 x (hd hh l))
      = sc15.view.read (Elt Ideal) s.2.2.1 (ix2 x (hd hh l)) + ∑ q : Fin 512, tDS (t.val / 8 % 8) (t.val % 8) (iblk m c 2 t) (iblk m c 1 t) (iblk m c 4 t) (iblk m c 6 t) hh x q * (iblk m c 0 t : S512x768.Idx → EReal) (ix2 q (hd hh l)) := by
  unfold atC runC
  dsimp only
  sl_unfold_run_names
  rw [six_cols _ _ _ _ _ _ _ _ _ rfl rfl rfl rfl rfl rfl]
  match hh with
  | ⟨0, _⟩ =>
    show _ = _
    simp only [View.readAt_eq_ld, Memref.IsWhole.read_unread]
    unfold_payloads
    pointwise
    simp only [mask_at, named_mask, exp_mask, tDS, tP]
    try simp only [hd_zero]
    try rfl
  | ⟨1, _⟩ =>
    show _ = _
    simp only [View.readAt_eq_ld, Memref.IsWhole.read_unread]
    unfold_payloads
    pointwise
    simp only [mask_at, named_mask, exp_mask, tDS, tP]
    try rfl
  | ⟨2, _⟩ =>
    show _ = _
    simp only [View.readAt_eq_ld, Memref.IsWhole.read_unread]
    unfold_payloads
    pointwise
    simp only [mask_at, named_mask, exp_mask, tDS, tP]
    try rfl
  | ⟨3, _⟩ =>
    show _ = _
    simp only [View.readAt_eq_ld, Memref.IsWhole.read_unread]
    unfold_payloads
    pointwise
    simp only [mask_at, named_mask, exp_mask, tDS, tP]
    try rfl
  | ⟨4, _⟩ =>
    show _ = _
    simp only [View.readAt_eq_ld, Memref.IsWhole.read_unread]
    unfold_payloads
    pointwise
    simp only [mask_at, named_mask, exp_mask, tDS, tP]
    try rfl
  | ⟨5, _⟩ =>
    show _ = _
    simp only [View.readAt_eq_ld, Memref.IsWhole.read_unread]
    unfold_payloads
    pointwise
    simp only [mask_at, named_mask, exp_mask, tDS, tP]
    try rfl

set_option maxHeartbeats 8000000 in
/-- A point of kind C: the value-side accumulator, takes the tile's product on top of what it held. -/
theorem stepC_16 (c : Dev nD) (t : Fin cfg0.N) (h : t.val % 8 = t.val / 8 % 8 ∧ t.val % 8 ≠ 0 ∧ t.val % 8 ≠ 7) (s : St (F := Ideal) c) (x : Fin 512) (hh : Fin 6) (l : Fin 128) :
    sc16.view.read (Elt Ideal) (atC m c t h s).1.2.2 (ix2 x (hd hh l))
      = sc16.view.read (Elt Ideal) s.2.2.2 (ix2 x (hd hh l)) + ∑ q : Fin 512, tP (t.val / 8 % 8) (t.val % 8) (iblk m c 2 t) (iblk m c 1 t) hh x q * (iblk m c 5 t : S512x768.Idx → EReal) (ix2 q (hd hh l)) := by
  unfold atC runC
  dsimp only
  sl_unfold_run_names
  rw [six_cols _ _ _ _ _ _ _ _ _ rfl rfl rfl rfl rfl rfl]
  match hh with
  | ⟨0, _⟩ =>
    show _ = _
    simp only [View.readAt_eq_ld, Memref.IsWhole.read_unread]
    unfold_payloads
    pointwise
    simp only [mask_at, named_mask, exp_mask, tDS, tP]
    try simp only [hd_zero]
    try rfl
  | ⟨1, _⟩ =>
    show _ = _
    simp only [View.readAt_eq_ld, Memref.IsWhole.read_unread]
    unfold_payloads
    pointwise
    simp only [mask_at, named_mask, exp_mask, tDS, tP]
    try rfl
  | ⟨2, _⟩ =>
    show _ = _
    simp only [View.readAt_eq_ld, Memref.IsWhole.read_unread]
    unfold_payloads
    pointwise
    simp only [mask_at, named_mask, exp_mask, tDS, tP]
    try rfl
  | ⟨3, _⟩ =>
    show _ = _
    simp only [View.readAt_eq_ld, Memref.IsWhole.read_unread]
    unfold_payloads
    pointwise
    simp only [mask_at, named_mask, exp_mask, tDS, tP]
    try rfl
  | ⟨4, _⟩ =>
    show _ = _
    simp only [View.readAt_eq_ld, Memref.IsWhole.read_unread]
    unfold_payloads
    pointwise
    simp only [mask_at, named_mask, exp_mask, tDS, tP]
    try rfl
  | ⟨5, _⟩ =>
    show _ = _
    simp only [View.readAt_eq_ld, Memref.IsWhole.read_unread]
    unfold_payloads
    pointwise
    simp only [mask_at, named_mask, exp_mask, tDS, tP]
    try rfl

set_option maxHeartbeats 8000000 in
/-- A point of kind C: the query-side accumulator, inside the point's columns, takes the tile's product on top of what it held. -/
theorem stepC_14 (c : Dev nD) (t : Fin cfg0.N) (h : t.val % 8 = t.val / 8 % 8 ∧ t.val % 8 ≠ 0 ∧ t.val % 8 ≠ 7) (s : St (F := Ideal) c) (y : Fin 4096) (q : Fin 512) (hy : y.val = 512 * (t.val % 8) + q.val) (hh : Fin 6) (l : Fin 128) :
    sc14.view.read (Elt Ideal) (atC m c t h s).1.1 (ix2 (hd hh l) y)
      = sc14.view.read (Elt Ideal) s.2.1 (ix2 (hd hh l) y) + ∑ k : Fin 512, bKT m c t (ix2 (hd hh l) k) * tDS (t.val / 8 % 8) (t.val % 8) (iblk m c 2 t) (iblk m c 1 t) (iblk m c 4 t) (iblk m c 6 t) hh k q := by
  have hq : (⟨512 * (t.val % 8) + q.val, by omega⟩ : Fin 4096) = y := Fin.ext hy.symm
  unfold atC runC
  dsimp only
  sl_unfold_run_names
  rw [six_rows _ _ _ _ _ _ _ _ _ _ (off7 t) (off8 t) (off9 t) (off10 t) (off11 t) (off12 t) _ _ hy]
  match hh with
  | ⟨0, _⟩ =>
    show _ = _
    have e := row_load sc14.view s.2.1 (k0_off7 (grid0.coords t)) _ _ (off7 t)
    unfold_payloads
    pointwise
    refine congrArg₂ (· + ·) (e _ y q hy ⟨0, by decide⟩ rfl l) ?_
    simp only [View.readAt_eq_ld, Memref.IsWhole.read_unread]
    pointwise
    simp only [mask_at, named_mask, exp_mask, tDS, tP]
    try simp only [hd_zero]
    try rfl
  | ⟨1, _⟩ =>
    show _ = _
    have e := row_load sc14.view s.2.1 (k0_off8 (grid0.coords t)) _ _ (off8 t)
    unfold_payloads
    pointwise
    refine congrArg₂ (· + ·) (e _ y q hy ⟨1, by decide⟩ rfl l) ?_
    simp only [View.readAt_eq_ld, Memref.IsWhole.read_unread]
    pointwise
    simp only [mask_at, named_mask, exp_mask, tDS, tP]
    try rfl
  | ⟨2, _⟩ =>
    show _ = _
    have e := row_load sc14.view s.2.1 (k0_off9 (grid0.coords t)) _ _ (off9 t)
    unfold_payloads
    pointwise
    refine congrArg₂ (· + ·) (e _ y q hy ⟨2, by decide⟩ rfl l) ?_
    simp only [View.readAt_eq_ld, Memref.IsWhole.read_unread]
    pointwise
    simp only [mask_at, named_mask, exp_mask, tDS, tP]
    try rfl
  | ⟨3, _⟩ =>
    show _ = _
    have e := row_load sc14.view s.2.1 (k0_off10 (grid0.coords t)) _ _ (off10 t)
    unfold_payloads
    pointwise
    refine congrArg₂ (· + ·) (e _ y q hy ⟨3, by decide⟩ rfl l) ?_
    simp only [View.readAt_eq_ld, Memref.IsWhole.read_unread]
    pointwise
    simp only [mask_at, named_mask, exp_mask, tDS, tP]
    try rfl
  | ⟨4, _⟩ =>
    show _ = _
    have e := row_load sc14.view s.2.1 (k0_off11 (grid0.coords t)) _ _ (off11 t)
    unfold_payloads
    pointwise
    refine congrArg₂ (· + ·) (e _ y q hy ⟨4, by decide⟩ rfl l) ?_
    simp only [View.readAt_eq_ld, Memref.IsWhole.read_unread]
    pointwise
    simp only [mask_at, named_mask, exp_mask, tDS, tP]
    try rfl
  | ⟨5, _⟩ =>
    show _ = _
    have e := row_load sc14.view s.2.1 (k0_off12 (grid0.coords t)) _ _ (off12 t)
    unfold_payloads
    pointwise
    refine congrArg₂ (· + ·) (e _ y q hy ⟨5, by decide⟩ rfl l) ?_
    simp only [View.readAt_eq_ld, Memref.IsWhole.read_unread]
    pointwise
    simp only [mask_at, named_mask, exp_mask, tDS, tP]
    try rfl

set_option maxHeartbeats 8000000 in
/-- A point of kind C: outside the point's columns the query-side accumulator stays. -/
theorem stepC_14_out (c : Dev nD) (t : Fin cfg0.N) (h : t.val % 8 = t.val / 8 % 8 ∧ t.val % 8 ≠ 0 ∧ t.val % 8 ≠ 7) (s : St (F := Ideal) c) (x : Fin 768) (y : Fin 4096)
    (hy : y.val < 512 * (t.val % 8) ∨ 512 * (t.val % 8) + 512 ≤ y.val) :
    sc14.view.read (Elt Ideal) (atC m c t h s).1.1 (ix2 x y) = sc14.view.read (Elt Ideal) s.2.1 (ix2 x y) := by
  unfold atC runC
  dsimp only
  sl_unfold_run_names
  rw [six_rows_out _ _ _ _ _ _ _ _ _ _ (off7 t) (off8 t) (off9 t) (off10 t) (off11 t) (off12 t) _ hy]
  first | rfl | (rw [View.read_writes_nil]) | exact cov_zero_row_at _ _ (zero_rows _) _

end Cert.KernelIdeal.Hand

end
-- ==== Proof.StepD.lean ====
module

public import proofs.«01_k».proof.Proof.Tile2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

set_option maxHeartbeats 8000000 in
/-- A point of kind D: the key-side accumulator, takes the tile's product on top of what it held. -/
theorem stepD_15 (c : Dev nD) (t : Fin cfg0.N) (h : t.val / 8 % 8 < t.val % 8 ∧ t.val % 8 ≠ 7) (s : St (F := Ideal) c) (x : Fin 512) (hh : Fin 6) (l : Fin 128) :
    sc15.view.read (Elt Ideal) (atD m c t h s).1.2.1 (ix2 x (hd hh l))
      = sc15.view.read (Elt Ideal) s.2.2.1 (ix2 x (hd hh l)) + ∑ q : Fin 512, tDS (t.val / 8 % 8) (t.val % 8) (iblk m c 2 t) (iblk m c 1 t) (iblk m c 4 t) (iblk m c 6 t) hh x q * (iblk m c 0 t : S512x768.Idx → EReal) (ix2 q (hd hh l)) := by
  have hm : ∀ k q : Fin 512, 512 * (t.val / 8 % 8) + k.val ≤ 512 * (t.val % 8) + q.val := by intro k q; omega
  unfold atD runD
  dsimp only
  sl_unfold_run_names
  rw [six_cols _ _ _ _ _ _ _ _ _ rfl rfl rfl rfl rfl rfl]
  match hh with
  | ⟨0, _⟩ =>
    show _ = _
    simp only [View.readAt_eq_ld, Memref.IsWhole.read_unread]
    unfold_payloads
    pointwise
    simp only [tDS, tP, hm, if_true]
    try simp only [hd_zero]
    try rfl
  | ⟨1, _⟩ =>
    show _ = _
    simp only [View.readAt_eq_ld, Memref.IsWhole.read_unread]
    unfold_payloads
    pointwise
    simp only [tDS, tP, hm, if_true]
    try rfl
  | ⟨2, _⟩ =>
    show _ = _
    simp only [View.readAt_eq_ld, Memref.IsWhole.read_unread]
    unfold_payloads
    pointwise
    simp only [tDS, tP, hm, if_true]
    try rfl
  | ⟨3, _⟩ =>
    show _ = _
    simp only [View.readAt_eq_ld, Memref.IsWhole.read_unread]
    unfold_payloads
    pointwise
    simp only [tDS, tP, hm, if_true]
    try rfl
  | ⟨4, _⟩ =>
    show _ = _
    simp only [View.readAt_eq_ld, Memref.IsWhole.read_unread]
    unfold_payloads
    pointwise
    simp only [tDS, tP, hm, if_true]
    try rfl
  | ⟨5, _⟩ =>
    show _ = _
    simp only [View.readAt_eq_ld, Memref.IsWhole.read_unread]
    unfold_payloads
    pointwise
    simp only [tDS, tP, hm, if_true]
    try rfl

set_option maxHeartbeats 8000000 in
/-- A point of kind D: the value-side accumulator, takes the tile's product on top of what it held. -/
theorem stepD_16 (c : Dev nD) (t : Fin cfg0.N) (h : t.val / 8 % 8 < t.val % 8 ∧ t.val % 8 ≠ 7) (s : St (F := Ideal) c) (x : Fin 512) (hh : Fin 6) (l : Fin 128) :
    sc16.view.read (Elt Ideal) (atD m c t h s).1.2.2 (ix2 x (hd hh l))
      = sc16.view.read (Elt Ideal) s.2.2.2 (ix2 x (hd hh l)) + ∑ q : Fin 512, tP (t.val / 8 % 8) (t.val % 8) (iblk m c 2 t) (iblk m c 1 t) hh x q * (iblk m c 5 t : S512x768.Idx → EReal) (ix2 q (hd hh l)) := by
  have hm : ∀ k q : Fin 512, 512 * (t.val / 8 % 8) + k.val ≤ 512 * (t.val % 8) + q.val := by intro k q; omega
  unfold atD runD
  dsimp only
  sl_unfold_run_names
  rw [six_cols _ _ _ _ _ _ _ _ _ rfl rfl rfl rfl rfl rfl]
  match hh with
  | ⟨0, _⟩ =>
    show _ = _
    simp only [View.readAt_eq_ld, Memref.IsWhole.read_unread]
    unfold_payloads
    pointwise
    simp only [tDS, tP, hm, if_true]
    try simp only [hd_zero]
    try rfl
  | ⟨1, _⟩ =>
    show _ = _
    simp only [View.readAt_eq_ld, Memref.IsWhole.read_unread]
    unfold_payloads
    pointwise
    simp only [tDS, tP, hm, if_true]
    try rfl
  | ⟨2, _⟩ =>
    show _ = _
    simp only [View.readAt_eq_ld, Memref.IsWhole.read_unread]
    unfold_payloads
    pointwise
    simp only [tDS, tP, hm, if_true]
    try rfl
  | ⟨3, _⟩ =>
    show _ = _
    simp only [View.readAt_eq_ld, Memref.IsWhole.read_unread]
    unfold_payloads
    pointwise
    simp only [tDS, tP, hm, if_true]
    try rfl
  | ⟨4, _⟩ =>
    show _ = _
    simp only [View.readAt_eq_ld, Memref.IsWhole.read_unread]
    unfold_payloads
    pointwise
    simp only [tDS, tP, hm, if_true]
    try rfl
  | ⟨5, _⟩ =>
    show _ = _
    simp only [View.readAt_eq_ld, Memref.IsWhole.read_unread]
    unfold_payloads
    pointwise
    simp only [tDS, tP, hm, if_true]
    try rfl

set_option maxHeartbeats 8000000 in
/-- A point of kind D: the query-side accumulator, inside the point's columns, takes the tile's product on top of what it held. -/
theorem stepD_14 (c : Dev nD) (t : Fin cfg0.N) (h : t.val / 8 % 8 < t.val % 8 ∧ t.val % 8 ≠ 7) (s : St (F := Ideal) c) (y : Fin 4096) (q : Fin 512) (hy : y.val = 512 * (t.val % 8) + q.val) (hh : Fin 6) (l : Fin 128) :
    sc14.view.read (Elt Ideal) (atD m c t h s).1.1 (ix2 (hd hh l) y)
      = sc14.view.read (Elt Ideal) s.2.1 (ix2 (hd hh l) y) + ∑ k : Fin 512, bKT m c t (ix2 (hd hh l) k) * tDS (t.val / 8 % 8) (t.val % 8) (iblk m c 2 t) (iblk m c 1 t) (iblk m c 4 t) (iblk m c 6 t) hh k q := by
  have hm : ∀ k q : Fin 512, 512 * (t.val / 8 % 8) + k.val ≤ 512 * (t.val % 8) + q.val := by intro k q; omega
  have hq : (⟨512 * (t.val % 8) + q.val, by omega⟩ : Fin 4096) = y := Fin.ext hy.symm
  unfold atD runD
  dsimp only
  sl_unfold_run_names
  rw [six_rows _ _ _ _ _ _ _ _ _ _ (off1 t) (off2 t) (off3 t) (off4 t) (off5 t) (off6 t) _ _ hy]
  match hh with
  | ⟨0, _⟩ =>
    show _ = _
    have e := row_load sc14.view s.2.1 (k0_off1 (grid0.coords t)) _ _ (off1 t)
    unfold_payloads
    pointwise
    refine congrArg₂ (· + ·) (e _ y q hy ⟨0, by decide⟩ rfl l) ?_
    simp only [View.readAt_eq_ld, Memref.IsWhole.read_unread]
    pointwise
    simp only [tDS, tP, hm, if_true]
    try simp only [hd_zero]
    try rfl
  | ⟨1, _⟩ =>
    show _ = _
    have e := row_load sc14.view s.2.1 (k0_off2 (grid0.coords t)) _ _ (off2 t)
    unfold_payloads
    pointwise
    refine congrArg₂ (· + ·) (e _ y q hy ⟨1, by decide⟩ rfl l) ?_
    simp only [View.readAt_eq_ld, Memref.IsWhole.read_unread]
    pointwise
    simp only [tDS, tP, hm, if_true]
    try rfl
  | ⟨2, _⟩ =>
    show _ = _
    have e := row_load sc14.view s.2.1 (k0_off3 (grid0.coords t)) _ _ (off3 t)
    unfold_payloads
    pointwise
    refine congrArg₂ (· + ·) (e _ y q hy ⟨2, by decide⟩ rfl l) ?_
    simp only [View.readAt_eq_ld, Memref.IsWhole.read_unread]
    pointwise
    simp only [tDS, tP, hm, if_true]
    try rfl
  | ⟨3, _⟩ =>
    show _ = _
    have e := row_load sc14.view s.2.1 (k0_off4 (grid0.coords t)) _ _ (off4 t)
    unfold_payloads
    pointwise
    refine congrArg₂ (· + ·) (e _ y q hy ⟨3, by decide⟩ rfl l) ?_
    simp only [View.readAt_eq_ld, Memref.IsWhole.read_unread]
    pointwise
    simp only [tDS, tP, hm, if_true]
    try rfl
  | ⟨4, _⟩ =>
    show _ = _
    have e := row_load sc14.view s.2.1 (k0_off5 (grid0.coords t)) _ _ (off5 t)
    unfold_payloads
    pointwise
    refine congrArg₂ (· + ·) (e _ y q hy ⟨4, by decide⟩ rfl l) ?_
    simp only [View.readAt_eq_ld, Memref.IsWhole.read_unread]
    pointwise
    simp only [tDS, tP, hm, if_true]
    try rfl
  | ⟨5, _⟩ =>
    show _ = _
    have e := row_load sc14.view s.2.1 (k0_off6 (grid0.coords t)) _ _ (off6 t)
    unfold_payloads
    pointwise
    refine congrArg₂ (· + ·) (e _ y q hy ⟨5, by decide⟩ rfl l) ?_
    simp only [View.readAt_eq_ld, Memref.IsWhole.read_unread]
    pointwise
    simp only [tDS, tP, hm, if_true]
    try rfl

set_option maxHeartbeats 8000000 in
/-- A point of kind D: outside the point's columns the query-side accumulator stays. -/
theorem stepD_14_out (c : Dev nD) (t : Fin cfg0.N) (h : t.val / 8 % 8 < t.val % 8 ∧ t.val % 8 ≠ 7) (s : St (F := Ideal) c) (x : Fin 768) (y : Fin 4096)
    (hy : y.val < 512 * (t.val % 8) ∨ 512 * (t.val % 8) + 512 ≤ y.val) :
    sc14.view.read (Elt Ideal) (atD m c t h s).1.1 (ix2 x y) = sc14.view.read (Elt Ideal) s.2.1 (ix2 x y) := by
  unfold atD runD
  dsimp only
  sl_unfold_run_names
  rw [six_rows_out _ _ _ _ _ _ _ _ _ _ (off1 t) (off2 t) (off3 t) (off4 t) (off5 t) (off6 t) _ hy]
  first | rfl | (rw [View.read_writes_nil]) | exact cov_zero_row_at _ _ (zero_rows _) _

end Cert.KernelIdeal.Hand

end
-- ==== Proof.StepE.lean ====
module

public import proofs.«01_k».proof.Proof.Tile2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

set_option maxHeartbeats 8000000 in
/-- A point of kind E: the key-side accumulator, takes the tile's product on top of what it held. -/
theorem stepE_15 (c : Dev nD) (t : Fin cfg0.N) (h : t.val / 8 % 8 < t.val % 8 ∧ t.val % 8 = 7) (s : St (F := Ideal) c) (x : Fin 512) (hh : Fin 6) (l : Fin 128) :
    sc15.view.read (Elt Ideal) (atE m c t h s).1.2.1 (ix2 x (hd hh l))
      = sc15.view.read (Elt Ideal) s.2.2.1 (ix2 x (hd hh l)) + ∑ q : Fin 512, tDS (t.val / 8 % 8) (t.val % 8) (iblk m c 2 t) (iblk m c 1 t) (iblk m c 4 t) (iblk m c 6 t) hh x q * (iblk m c 0 t : S512x768.Idx → EReal) (ix2 q (hd hh l)) := by
  have hm : ∀ k q : Fin 512, 512 * (t.val / 8 % 8) + k.val ≤ 512 * (t.val % 8) + q.val := by intro k q; omega
  unfold atE runE
  dsimp only
  sl_unfold_run_names
  rw [six_cols _ _ _ _ _ _ _ _ _ rfl rfl rfl rfl rfl rfl]
  match hh with
  | ⟨0, _⟩ =>
    show _ = _
    simp only [View.readAt_eq_ld, Memref.IsWhole.read_unread]
    unfold_payloads
    pointwise
    simp only [tDS, tP, hm, if_true]
    try simp only [hd_zero]
    try rfl
  | ⟨1, _⟩ =>
    show _ = _
    simp only [View.readAt_eq_ld, Memref.IsWhole.read_unread]
    unfold_payloads
    pointwise
    simp only [tDS, tP, hm, if_true]
    try rfl
  | ⟨2, _⟩ =>
    show _ = _
    simp only [View.readAt_eq_ld, Memref.IsWhole.read_unread]
    unfold_payloads
    pointwise
    simp only [tDS, tP, hm, if_true]
    try rfl
  | ⟨3, _⟩ =>
    show _ = _
    simp only [View.readAt_eq_ld, Memref.IsWhole.read_unread]
    unfold_payloads
    pointwise
    simp only [tDS, tP, hm, if_true]
    try rfl
  | ⟨4, _⟩ =>
    show _ = _
    simp only [View.readAt_eq_ld, Memref.IsWhole.read_unread]
    unfold_payloads
    pointwise
    simp only [tDS, tP, hm, if_true]
    try rfl
  | ⟨5, _⟩ =>
    show _ = _
    simp only [View.readAt_eq_ld, Memref.IsWhole.read_unread]
    unfold_payloads
    pointwise
    simp only [tDS, tP, hm, if_true]
    try rfl

set_option maxHeartbeats 8000000 in
/-- A point of kind E: the value-side accumulator, takes the tile's product on top of what it held. -/
theorem stepE_16 (c : Dev nD) (t : Fin cfg0.N) (h : t.val / 8 % 8 < t.val % 8 ∧ t.val % 8 = 7) (s : St (F := Ideal) c) (x : Fin 512) (hh : Fin 6) (l : Fin 128) :
    sc16.view.read (Elt Ideal) (atE m c t h s).1.2.2.1 (ix2 x (hd hh l))
      = sc16.view.read (Elt Ideal) s.2.2.2 (ix2 x (hd hh l)) + ∑ q : Fin 512, tP (t.val / 8 % 8) (t.val % 8) (iblk m c 2 t) (iblk m c 1 t) hh x q * (iblk m c 5 t : S512x768.Idx → EReal) (ix2 q (hd hh l)) := by
  have hm : ∀ k q : Fin 512, 512 * (t.val / 8 % 8) + k.val ≤ 512 * (t.val % 8) + q.val := by intro k q; omega
  unfold atE runE
  dsimp only
  sl_unfold_run_names
  rw [six_cols _ _ _ _ _ _ _ _ _ rfl rfl rfl rfl rfl rfl]
  match hh with
  | ⟨0, _⟩ =>
    show _ = _
    simp only [View.readAt_eq_ld, Memref.IsWhole.read_unread]
    unfold_payloads
    pointwise
    simp only [tDS, tP, hm, if_true]
    try simp only [hd_zero]
    try rfl
  | ⟨1, _⟩ =>
    show _ = _
    simp only [View.readAt_eq_ld, Memref.IsWhole.read_unread]
    unfold_payloads
    pointwise
    simp only [tDS, tP, hm, if_true]
    try rfl
  | ⟨2, _⟩ =>
    show _ = _
    simp only [View.readAt_eq_ld, Memref.IsWhole.read_unread]
    unfold_payloads
    pointwise
    simp only [tDS, tP, hm, if_true]
    try rfl
  | ⟨3, _⟩ =>
    show _ = _
    simp only [View.readAt_eq_ld, Memref.IsWhole.read_unread]
    unfold_payloads
    pointwise
    simp only [tDS, tP, hm, if_true]
    try rfl
  | ⟨4, _⟩ =>
    show _ = _
    simp only [View.readAt_eq_ld, Memref.IsWhole.read_unread]
    unfold_payloads
    pointwise
    simp only [tDS, tP, hm, if_true]
    try rfl
  | ⟨5, _⟩ =>
    show _ = _
    simp only [View.readAt_eq_ld, Memref.IsWhole.read_unread]
    unfold_payloads
    pointwise
    simp only [tDS, tP, hm, if_true]
    try rfl

set_option maxHeartbeats 8000000 in
/-- A point of kind E: the query-side accumulator, inside the point's columns, takes the tile's product on top of what it held. -/
theorem stepE_14 (c : Dev nD) (t : Fin cfg0.N) (h : t.val / 8 % 8 < t.val % 8 ∧ t.val % 8 = 7) (s : St (F := Ideal) c) (y : Fin 4096) (q : Fin 512) (hy : y.val = 512 * (t.val % 8) + q.val) (hh : Fin 6) (l : Fin 128) :
    sc14.view.read (Elt Ideal) (atE m c t h s).1.1 (ix2 (hd hh l) y)
      = sc14.view.read (Elt Ideal) s.2.1 (ix2 (hd hh l) y) + ∑ k : Fin 512, bKT m c t (ix2 (hd hh l) k) * tDS (t.val / 8 % 8) (t.val % 8) (iblk m c 2 t) (iblk m c 1 t) (iblk m c 4 t) (iblk m c 6 t) hh k q := by
  have hm : ∀ k q : Fin 512, 512 * (t.val / 8 % 8) + k.val ≤ 512 * (t.val % 8) + q.val := by intro k q; omega
  have hq : (⟨512 * (t.val % 8) + q.val, by omega⟩ : Fin 4096) = y := Fin.ext hy.symm
  unfold atE runE
  dsimp only
  sl_unfold_run_names
  rw [six_rows _ _ _ _ _ _ _ _ _ _ (off1 t) (off2 t) (off3 t) (off4 t) (off5 t) (off6 t) _ _ hy]
  match hh with
  | ⟨0, _⟩ =>
    show _ = _
    have e := row_load sc14.view s.2.1 (k0_off1 (grid0.coords t)) _ _ (off1 t)
    unfold_payloads
    pointwise
    refine congrArg₂ (· + ·) (e _ y q hy ⟨0, by decide⟩ rfl l) ?_
    simp only [View.readAt_eq_ld, Memref.IsWhole.read_unread]
    pointwise
    simp only [tDS, tP, hm, if_true]
    try simp only [hd_zero]
    try rfl
  | ⟨1, _⟩ =>
    show _ = _
    have e := row_load sc14.view s.2.1 (k0_off2 (grid0.coords t)) _ _ (off2 t)
    unfold_payloads
    pointwise
    refine congrArg₂ (· + ·) (e _ y q hy ⟨1, by decide⟩ rfl l) ?_
    simp only [View.readAt_eq_ld, Memref.IsWhole.read_unread]
    pointwise
    simp only [tDS, tP, hm, if_true]
    try rfl
  | ⟨2, _⟩ =>
    show _ = _
    have e := row_load sc14.view s.2.1 (k0_off3 (grid0.coords t)) _ _ (off3 t)
    unfold_payloads
    pointwise
    refine congrArg₂ (· + ·) (e _ y q hy ⟨2, by decide⟩ rfl l) ?_
    simp only [View.readAt_eq_ld, Memref.IsWhole.read_unread]
    pointwise
    simp only [tDS, tP, hm, if_true]
    try rfl
  | ⟨3, _⟩ =>
    show _ = _
    have e := row_load sc14.view s.2.1 (k0_off4 (grid0.coords t)) _ _ (off4 t)
    unfold_payloads
    pointwise
    refine congrArg₂ (· + ·) (e _ y q hy ⟨3, by decide⟩ rfl l) ?_
    simp only [View.readAt_eq_ld, Memref.IsWhole.read_unread]
    pointwise
    simp only [tDS, tP, hm, if_true]
    try rfl
  | ⟨4, _⟩ =>
    show _ = _
    have e := row_load sc14.view s.2.1 (k0_off5 (grid0.coords t)) _ _ (off5 t)
    unfold_payloads
    pointwise
    refine congrArg₂ (· + ·) (e _ y q hy ⟨4, by decide⟩ rfl l) ?_
    simp only [View.readAt_eq_ld, Memref.IsWhole.read_unread]
    pointwise
    simp only [tDS, tP, hm, if_true]
    try rfl
  | ⟨5, _⟩ =>
    show _ = _
    have e := row_load sc14.view s.2.1 (k0_off6 (grid0.coords t)) _ _ (off6 t)
    unfold_payloads
    pointwise
    refine congrArg₂ (· + ·) (e _ y q hy ⟨5, by decide⟩ rfl l) ?_
    simp only [View.readAt_eq_ld, Memref.IsWhole.read_unread]
    pointwise
    simp only [tDS, tP, hm, if_true]
    try rfl

set_option maxHeartbeats 8000000 in
/-- A point of kind E: outside the point's columns the query-side accumulator stays. -/
theorem stepE_14_out (c : Dev nD) (t : Fin cfg0.N) (h : t.val / 8 % 8 < t.val % 8 ∧ t.val % 8 = 7) (s : St (F := Ideal) c) (x : Fin 768) (y : Fin 4096)
    (hy : y.val < 512 * (t.val % 8) ∨ 512 * (t.val % 8) + 512 ≤ y.val) :
    sc14.view.read (Elt Ideal) (atE m c t h s).1.1 (ix2 x y) = sc14.view.read (Elt Ideal) s.2.1 (ix2 x y) := by
  unfold atE runE
  dsimp only
  sl_unfold_run_names
  rw [six_rows_out _ _ _ _ _ _ _ _ _ _ (off1 t) (off2 t) (off3 t) (off4 t) (off5 t) (off6 t) _ hy]
  first | rfl | (rw [View.read_writes_nil]) | exact cov_zero_row_at _ _ (zero_rows _) _

end Cert.KernelIdeal.Hand

end
-- ==== Proof.StepG.lean ====
module

public import proofs.«01_k».proof.Proof.Tile2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

set_option maxHeartbeats 8000000 in
/-- A point of kind G: the key-side accumulator, takes the tile's product on top of what it held. -/
theorem stepG_15 (c : Dev nD) (t : Fin cfg0.N) (h : t.val % 64 = 63) (s : St (F := Ideal) c) (x : Fin 512) (hh : Fin 6) (l : Fin 128) :
    sc15.view.read (Elt Ideal) (atG m c t h s).1.2.1 (ix2 x (hd hh l))
      = sc15.view.read (Elt Ideal) s.2.2.1 (ix2 x (hd hh l)) + ∑ q : Fin 512, tDS (t.val / 8 % 8) (t.val % 8) (iblk m c 2 t) (iblk m c 1 t) (iblk m c 4 t) (iblk m c 6 t) hh x q * (iblk m c 0 t : S512x768.Idx → EReal) (ix2 q (hd hh l)) := by
  unfold atG runG
  dsimp only
  sl_unfold_run_names
  rw [six_cols _ _ _ _ _ _ _ _ _ rfl rfl rfl rfl rfl rfl]
  match hh with
  | ⟨0, _⟩ =>
    show _ = _
    simp only [View.readAt_eq_ld, Memref.IsWhole.read_unread]
    unfold_payloads
    pointwise
    simp only [mask_at, named_mask, exp_mask, tDS, tP]
    try simp only [hd_zero]
    try rfl
  | ⟨1, _⟩ =>
    show _ = _
    simp only [View.readAt_eq_ld, Memref.IsWhole.read_unread]
    unfold_payloads
    pointwise
    simp only [mask_at, named_mask, exp_mask, tDS, tP]
    try rfl
  | ⟨2, _⟩ =>
    show _ = _
    simp only [View.readAt_eq_ld, Memref.IsWhole.read_unread]
    unfold_payloads
    pointwise
    simp only [mask_at, named_mask, exp_mask, tDS, tP]
    try rfl
  | ⟨3, _⟩ =>
    show _ = _
    simp only [View.readAt_eq_ld, Memref.IsWhole.read_unread]
    unfold_payloads
    pointwise
    simp only [mask_at, named_mask, exp_mask, tDS, tP]
    try rfl
  | ⟨4, _⟩ =>
    show _ = _
    simp only [View.readAt_eq_ld, Memref.IsWhole.read_unread]
    unfold_payloads
    pointwise
    simp only [mask_at, named_mask, exp_mask, tDS, tP]
    try rfl
  | ⟨5, _⟩ =>
    show _ = _
    simp only [View.readAt_eq_ld, Memref.IsWhole.read_unread]
    unfold_payloads
    pointwise
    simp only [mask_at, named_mask, exp_mask, tDS, tP]
    try rfl

set_option maxHeartbeats 8000000 in
/-- A point of kind G: the value-side accumulator, takes the tile's product on top of what it held. -/
theorem stepG_16 (c : Dev nD) (t : Fin cfg0.N) (h : t.val % 64 = 63) (s : St (F := Ideal) c) (x : Fin 512) (hh : Fin 6) (l : Fin 128) :
    sc16.view.read (Elt Ideal) (atG m c t h s).1.2.2.1 (ix2 x (hd hh l))
      = sc16.view.read (Elt Ideal) s.2.2.2 (ix2 x (hd hh l)) + ∑ q : Fin 512, tP (t.val / 8 % 8) (t.val % 8) (iblk m c 2 t) (iblk m c 1 t) hh x q * (iblk m c 5 t : S512x768.Idx → EReal) (ix2 q (hd hh l)) := by
  unfold atG runG
  dsimp only
  sl_unfold_run_names
  rw [six_cols _ _ _ _ _ _ _ _ _ rfl rfl rfl rfl rfl rfl]
  match hh with
  | ⟨0, _⟩ =>
    show _ = _
    simp only [View.readAt_eq_ld, Memref.IsWhole.read_unread]
    unfold_payloads
    pointwise
    simp only [mask_at, named_mask, exp_mask, tDS, tP]
    try simp only [hd_zero]
    try rfl
  | ⟨1, _⟩ =>
    show _ = _
    simp only [View.readAt_eq_ld, Memref.IsWhole.read_unread]
    unfold_payloads
    pointwise
    simp only [mask_at, named_mask, exp_mask, tDS, tP]
    try rfl
  | ⟨2, _⟩ =>
    show _ = _
    simp only [View.readAt_eq_ld, Memref.IsWhole.read_unread]
    unfold_payloads
    pointwise
    simp only [mask_at, named_mask, exp_mask, tDS, tP]
    try rfl
  | ⟨3, _⟩ =>
    show _ = _
    simp only [View.readAt_eq_ld, Memref.IsWhole.read_unread]
    unfold_payloads
    pointwise
    simp only [mask_at, named_mask, exp_mask, tDS, tP]
    try rfl
  | ⟨4, _⟩ =>
    show _ = _
    simp only [View.readAt_eq_ld, Memref.IsWhole.read_unread]
    unfold_payloads
    pointwise
    simp only [mask_at, named_mask, exp_mask, tDS, tP]
    try rfl
  | ⟨5, _⟩ =>
    show _ = _
    simp only [View.readAt_eq_ld, Memref.IsWhole.read_unread]
    unfold_payloads
    pointwise
    simp only [mask_at, named_mask, exp_mask, tDS, tP]
    try rfl

set_option maxHeartbeats 8000000 in
/-- A point of kind G: the query-side accumulator, inside the point's columns, takes the tile's product on top of what it held. -/
theorem stepG_14 (c : Dev nD) (t : Fin cfg0.N) (h : t.val % 64 = 63) (s : St (F := Ideal) c) (y : Fin 4096) (q : Fin 512) (hy : y.val = 512 * (t.val % 8) + q.val) (hh : Fin 6) (l : Fin 128) :
    sc14.view.read (Elt Ideal) (atG m c t h s).1.1 (ix2 (hd hh l) y)
      = sc14.view.read (Elt Ideal) s.2.1 (ix2 (hd hh l) y) + ∑ k : Fin 512, bKT m c t (ix2 (hd hh l) k) * tDS (t.val / 8 % 8) (t.val % 8) (iblk m c 2 t) (iblk m c 1 t) (iblk m c 4 t) (iblk m c 6 t) hh k q := by
  have hq : (⟨512 * (t.val % 8) + q.val, by omega⟩ : Fin 4096) = y := Fin.ext hy.symm
  unfold atG runG
  dsimp only
  sl_unfold_run_names
  rw [six_rows _ _ _ _ _ _ _ _ _ _ (off7 t) (off8 t) (off9 t) (off10 t) (off11 t) (off12 t) _ _ hy]
  match hh with
  | ⟨0, _⟩ =>
    show _ = _
    have e := row_load sc14.view s.2.1 (k0_off7 (grid0.coords t)) _ _ (off7 t)
    unfold_payloads
    pointwise
    refine congrArg₂ (· + ·) (e _ y q hy ⟨0, by decide⟩ rfl l) ?_
    simp only [View.readAt_eq_ld, Memref.IsWhole.read_unread]
    pointwise
    simp only [mask_at, named_mask, exp_mask, tDS, tP]
    try simp only [hd_zero]
    try rfl
  | ⟨1, _⟩ =>
    show _ = _
    have e := row_load sc14.view s.2.1 (k0_off8 (grid0.coords t)) _ _ (off8 t)
    unfold_payloads
    pointwise
    refine congrArg₂ (· + ·) (e _ y q hy ⟨1, by decide⟩ rfl l) ?_
    simp only [View.readAt_eq_ld, Memref.IsWhole.read_unread]
    pointwise
    simp only [mask_at, named_mask, exp_mask, tDS, tP]
    try rfl
  | ⟨2, _⟩ =>
    show _ = _
    have e := row_load sc14.view s.2.1 (k0_off9 (grid0.coords t)) _ _ (off9 t)
    unfold_payloads
    pointwise
    refine congrArg₂ (· + ·) (e _ y q hy ⟨2, by decide⟩ rfl l) ?_
    simp only [View.readAt_eq_ld, Memref.IsWhole.read_unread]
    pointwise
    simp only [mask_at, named_mask, exp_mask, tDS, tP]
    try rfl
  | ⟨3, _⟩ =>
    show _ = _
    have e := row_load sc14.view s.2.1 (k0_off10 (grid0.coords t)) _ _ (off10 t)
    unfold_payloads
    pointwise
    refine congrArg₂ (· + ·) (e _ y q hy ⟨3, by decide⟩ rfl l) ?_
    simp only [View.readAt_eq_ld, Memref.IsWhole.read_unread]
    pointwise
    simp only [mask_at, named_mask, exp_mask, tDS, tP]
    try rfl
  | ⟨4, _⟩ =>
    show _ = _
    have e := row_load sc14.view s.2.1 (k0_off11 (grid0.coords t)) _ _ (off11 t)
    unfold_payloads
    pointwise
    refine congrArg₂ (· + ·) (e _ y q hy ⟨4, by decide⟩ rfl l) ?_
    simp only [View.readAt_eq_ld, Memref.IsWhole.read_unread]
    pointwise
    simp only [mask_at, named_mask, exp_mask, tDS, tP]
    try rfl
  | ⟨5, _⟩ =>
    show _ = _
    have e := row_load sc14.view s.2.1 (k0_off12 (grid0.coords t)) _ _ (off12 t)
    unfold_payloads
    pointwise
    refine congrArg₂ (· + ·) (e _ y q hy ⟨5, by decide⟩ rfl l) ?_
    simp only [View.readAt_eq_ld, Memref.IsWhole.read_unread]
    pointwise
    simp only [mask_at, named_mask, exp_mask, tDS, tP]
    try rfl

set_option maxHeartbeats 8000000 in
/-- A point of kind G: outside the point's columns the query-side accumulator stays. -/
theorem stepG_14_out (c : Dev nD) (t : Fin cfg0.N) (h : t.val % 64 = 63) (s : St (F := Ideal) c) (x : Fin 768) (y : Fin 4096)
    (hy : y.val < 512 * (t.val % 8) ∨ 512 * (t.val % 8) + 512 ≤ y.val) :
    sc14.view.read (Elt Ideal) (atG m c t h s).1.1 (ix2 x y) = sc14.view.read (Elt Ideal) s.2.1 (ix2 x y) := by
  unfold atG runG
  dsimp only
  sl_unfold_run_names
  rw [six_rows_out _ _ _ _ _ _ _ _ _ _ (off7 t) (off8 t) (off9 t) (off10 t) (off11 t) (off12 t) _ hy]
  first | rfl | (rw [View.read_writes_nil]) | exact cov_zero_row_at _ _ (zero_rows _) _

end Cert.KernelIdeal.Hand

end
-- ==== Proof.OutBase.lean ====
module

public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## What the last point of a key tile stores -/

theorem coords0 : ∀ t : Fin cfg0.N, (grid0.coords t 0).val = t.val / 64 :=
  (by decide +kernel : ∀ t : Fin grid0.N, _ = _)

theorem off13 : ∀ t : Fin cfg0.N, k0_off13 (grid0.coords t) = ![768 * (t.val / 64), 0] :=
  (by decide +kernel : ∀ t : Fin grid0.N, _ = _)

/-- A column of six heads' 128 is a head's. -/
theorem exists_hd (y : Fin 768) : ∃ (h : Fin 6) (l : Fin 128), y = hd h l :=
  ⟨⟨y.val / 128, by omega⟩, ⟨y.val % 128, by omega⟩, Fin.ext (by simp only [hd]; omega)⟩

/-- The six heads' pieces, loaded back as one block, are what the buffer then holds. -/
theorem cov_all {κ : Kind} {sp : Space} (v : View sig κ sp S512x768 .f32) (f : v.ty.Contents (Elt Ideal)) {b0 b1 b2 b3 b4 b5 b}
    (w0 w1 w2 w3 w4 w5 : (⟨2, ![512, 128]⟩ : Shape).Idx → EReal) (L : List (View.Piece (Elt Ideal) S512x768 .f32))
    (hL : L = [(⟨Rect.unit (s := S512x768) ![0, 640] ![512, 128] b5, w5⟩ : View.Piece (Elt Ideal) S512x768 .f32), ⟨Rect.unit (s := S512x768) ![0, 512] ![512, 128] b4, w4⟩,
      ⟨Rect.unit (s := S512x768) ![0, 384] ![512, 128] b3, w3⟩, ⟨Rect.unit (s := S512x768) ![0, 256] ![512, 128] b2, w2⟩,
      ⟨Rect.unit (s := S512x768) ![0, 128] ![512, 128] b1, w1⟩, ⟨Rect.unit (s := S512x768) ![0, 0] ![512, 128] b0, w0⟩])
    (x : Fin 512) (y : Fin 768) :
    v.readCov L (Rect.unit (s := S512x768) ![0, 0] ![512, 768] b).toLoadRect (ix2 x y) = v.read (Elt Ideal) (v.writes (Elt Ideal) f L) (ix2 x y) := by
  obtain ⟨h, l, rfl⟩ := exists_hd y
  have e : (Rect.unit (s := S512x768) ![0, 0] ![512, 768] b).toLoadRect.idx (ix2 x (hd h l)) = ix2 x (hd h l) :=
    funext fun a => Fin.ext (match a with | ⟨0, _⟩ => (by show 0 + 1 * x.val = x.val; omega) | ⟨1, _⟩ => (by show 0 + 1 * (hd h l).val = (hd h l).val; omega))
  show v.read (Elt Ideal) (v.writes (Elt Ideal) v.junk L) ((Rect.unit (s := S512x768) ![0, 0] ![512, 768] b).toLoadRect.idx (ix2 x (hd h l))) = _
  rw [e, hL, six_cols _ _ _ _ _ _ _ _ _ rfl rfl rfl rfl rfl rfl, six_cols _ _ _ _ _ _ _ _ _ rfl rfl rfl rfl rfl rfl]

/-- A head's lane, on words. -/
theorem lane_sel (t : Fin cfg0.N) (y : Fin 128) (n : ℕ) (hn : n < 6) (a b : EReal) :
    Scalar.select (IntOp.cmpi CmpIPredicate.eq (BitVec.ofNat 32 y.val) (Scalar.addi (Scalar.muli 6#32 (BitVec.ofNat 32 (grid0.coords t 0).val)) (BitVec.ofNat 32 n))) a b
      = if y.val = 6 * (t.val / 64) + n then a else b := by
  have hg : t.val / 64 < 2 := by have := t.isLt; have e : cfg0.N = 128 := N0; omega
  have e : Scalar.addi (Scalar.muli 6#32 (BitVec.ofNat 32 (t.val / 64))) (BitVec.ofNat 32 n) = BitVec.ofNat 32 (6 * (t.val / 64) + n) := by
    apply BitVec.eq_of_toNat_eq
    show (6#32 * BitVec.ofNat 32 (t.val / 64) + BitVec.ofNat 32 n).toNat = _
    simp only [BitVec.toNat_add, BitVec.toNat_mul, BitVec.toNat_ofNat]
    omega
  rw [coords0, e]
  word_cmp

end Cert.KernelIdeal.Hand
-- ==== Proof.OutG.lean ====
module

public import proofs.«01_k».proof.Proof.OutBase

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

set_option maxHeartbeats 4000000 in
/-- The block the stores read back is what the key-side accumulator holds after the point. -/
theorem X15_G (c : Dev nD) (t : Fin cfg0.N) (h : t.val % 64 = 63) (s : St (F := Ideal) c) (x : Fin 512) (y : Fin 768) :
    (runG.sl.v46 c (grid0.coords t) (ms0 t) (ms1 t) (ms2 t) (ms4 t) (ms6 t) (xi0 m c t) (xi1 m c t) (xi2 m c t) (xi4 m c t) (xi6 m c t) s.2.2.1 : S512x768.Idx → EReal) (ix2 x y) = sc15.view.read (Elt Ideal) (atG m c t h s).1.2.1 (ix2 x y) := by
  unfold atG runG
  dsimp only
  unfold runG.sl.v46
  exact cov_all sc15.view _ _ _ _ _ _ _ _ rfl x y

set_option maxHeartbeats 4000000 in
/-- The block the stores read back is what the value-side accumulator holds after the point. -/
theorem X16_G (c : Dev nD) (t : Fin cfg0.N) (h : t.val % 64 = 63) (s : St (F := Ideal) c) (x : Fin 512) (y : Fin 768) :
    (runG.sl.v55 c (grid0.coords t) (ms1 t) (ms2 t) (ms5 t) (xi1 m c t) (xi2 m c t) (xi5 m c t) s.2.2.2 : S512x768.Idx → EReal) (ix2 x y) = sc16.view.read (Elt Ideal) (atG m c t h s).1.2.2.1 (ix2 x y) := by
  unfold atG runG
  dsimp only
  unfold runG.sl.v55
  exact cov_all sc16.view _ _ _ _ _ _ _ _ rfl x y

set_option maxHeartbeats 4000000 in
/-- The stored key gradient at head `hh`'s column `l`. -/
theorem dk_G (c : Dev nD) (t : Fin cfg0.N) (h : t.val % 64 = 63) (s : St (F := Ideal) c) (hh : Fin 6) (l : Fin 64) (x : Fin 512) (y : Fin 384) (hy : y.val = 64 * hh.val + l.val) :
    (View.canon (atG m c t h s).1.2.2.2.1 : S512x384.Idx → EReal) (ix2 x y) = sc15.view.read (Elt Ideal) (atG m c t h s).1.2.1 (ix2 x (hd hh ⟨l.val, by omega⟩)) := by
  rw [← X15_G]
  unfold atG runG
  dsimp only
  refine (congrFun (View.canon_unit_zero (Val := Elt Ideal) (S := S512x384) (off := ![0, 0]) (by decide) _ _) _).trans ?_
  unfold runG.sl.v53 runG.sl.v47 runG.sl.v48 runG.sl.v49 runG.sl.v50 runG.sl.v51 runG.sl.v52
  generalize runG.sl.v46 c (grid0.coords t) (ms0 t) (ms1 t) (ms2 t) (ms4 t) (ms6 t) (xi0 m c t) (xi1 m c t) (xi2 m c t) (xi4 m c t) (xi6 m c t) s.2.2.1 = X
  pointwise
  split_ifs <;> exact congrArg X (congrArg (ix2 x) (Fin.ext (by simp only [hd]; omega)))

set_option maxHeartbeats 4000000 in
/-- The stored value gradient at head `hh`'s column `l`. -/
theorem dv_G (c : Dev nD) (t : Fin cfg0.N) (h : t.val % 64 = 63) (s : St (F := Ideal) c) (hh : Fin 6) (l : Fin 64) (x : Fin 512) (y : Fin 384) (hy : y.val = 64 * hh.val + l.val) :
    (View.canon (atG m c t h s).1.2.2.2.2.1 : S512x384.Idx → EReal) (ix2 x y) = sc16.view.read (Elt Ideal) (atG m c t h s).1.2.2.1 (ix2 x (hd hh ⟨l.val, by omega⟩)) := by
  rw [← X16_G]
  unfold atG runG
  dsimp only
  refine (congrFun (View.canon_unit_zero (Val := Elt Ideal) (S := S512x384) (off := ![0, 0]) (by decide) _ _) _).trans ?_
  unfold runG.sl.v63 runG.sl.v62 runG.sl.v56 runG.sl.v57 runG.sl.v58 runG.sl.v59 runG.sl.v60 runG.sl.v61
  generalize runG.sl.v55 c (grid0.coords t) (ms1 t) (ms2 t) (ms5 t) (xi1 m c t) (xi2 m c t) (xi5 m c t) s.2.2.2 = X
  pointwise
  split_ifs <;> exact congrArg X (congrArg (ix2 x) (Fin.ext (by simp only [hd]; omega)))

set_option maxHeartbeats 4000000 in
/-- The stored lanes: a head's lane holds the negated sum of its weights' gradients, the others zero. -/
theorem dck_G (c : Dev nD) (t : Fin cfg0.N) (h : t.val % 64 = 63) (s : St (F := Ideal) c) (x : Fin 512) (y : Fin 128) (z : Fin 1) :
    (View.canon (atG m c t h s).1.2.2.2.2.2.1 : S1x512x128.Idx → EReal) (ix3 z x y)
      = 0 - (if y.val = 6 * (t.val / 64) + 5 then sc15.view.read (Elt Ideal) (atG m c t h s).1.2.1 (ix2 x (hd 5 67))
        else if y.val = 6 * (t.val / 64) + 4 then sc15.view.read (Elt Ideal) (atG m c t h s).1.2.1 (ix2 x (hd 4 67))
        else if y.val = 6 * (t.val / 64) + 3 then sc15.view.read (Elt Ideal) (atG m c t h s).1.2.1 (ix2 x (hd 3 67))
        else if y.val = 6 * (t.val / 64) + 2 then sc15.view.read (Elt Ideal) (atG m c t h s).1.2.1 (ix2 x (hd 2 67))
        else if y.val = 6 * (t.val / 64) + 1 then sc15.view.read (Elt Ideal) (atG m c t h s).1.2.1 (ix2 x (hd 1 67))
        else if y.val = 6 * (t.val / 64) + 0 then sc15.view.read (Elt Ideal) (atG m c t h s).1.2.1 (ix2 x (hd 0 67)) else (0 : EReal)) := by
  have eX : ∀ hh : Fin 6, sc15.view.read (Elt Ideal) (atG m c t h s).1.2.1 (ix2 x (hd hh 67)) = (runG.sl.v46 c (grid0.coords t) (ms0 t) (ms1 t) (ms2 t) (ms4 t) (ms6 t) (xi0 m c t) (xi1 m c t) (xi2 m c t) (xi4 m c t) (xi6 m c t) s.2.2.1 : S512x768.Idx → EReal) (ix2 x (hd hh 67)) :=
    fun hh => (X15_G m c t h s x (hd hh 67)).symm
  rw [eX 5, eX 4, eX 3, eX 2, eX 1, eX 0]
  unfold atG runG
  dsimp only
  refine (congrFun (View.canon_unit_zero (Val := Elt Ideal) (S := S1x512x128) (off := ![0, 0, 0]) (by decide) _ _) _).trans ?_
  unfold runG.sl.v88 runG.sl.v84 runG.sl.v87 runG.sl.v81 runG.sl.v66 runG.sl.v83 runG.sl.v86 runG.sl.v77 runG.sl.v80 runG.sl.v74 runG.sl.v82 runG.sl.v85 runG.sl.v76 runG.sl.v79 runG.sl.v70 runG.sl.v73 runG.sl.v67 runG.sl.v65 runG.sl.v75 runG.sl.v78 runG.sl.v69 runG.sl.v72 runG.sl.cst runG.sl.v68 runG.sl.v71 runG.sl.v89
  unfold_payloads
  try unfold runG.sl.v65
  try unfold runG.sl.v66
  generalize runG.sl.v46 c (grid0.coords t) (ms0 t) (ms1 t) (ms2 t) (ms4 t) (ms6 t) (xi0 m c t) (xi1 m c t) (xi2 m c t) (xi4 m c t) (xi6 m c t) s.2.2.1 = X
  pointwise
  have e := lane_sel t y
  rw [e 5 (by omega), e 4 (by omega), e 3 (by omega), e 2 (by omega), e 1 (by omega), e 0 (by omega)]
  rfl

/-- The transfer at the end of a half: the half's rows of the result are the query-side accumulator's. -/
theorem hbm_in (c : Dev nD) (t : Fin cfg0.N) (h : t.val % 64 = 63) (s : St (F := Ideal) c) (x : Fin 768) (y : Fin 4096) (r : Fin 1536) (hr : r.val = 768 * (t.val / 64) + x.val) :
    hbm10.view.read (Elt Ideal) (atG m c t h s).1.2.2.2.2.2.2 (ix2 r y) = sc14.view.read (Elt Ideal) (atG m c t h s).1.1 (ix2 x y) := by
  unfold atG runG
  dsimp only
  unfold runG.sl.H10_w0 runG.sl.dma104
  have e : ∀ b, (Rect.unit (s := S1536x4096) (k0_off13 (grid0.coords t)) S768x4096.size b).emb (ix2 x y) = ix2 r y := by
    intro b
    refine funext fun a => Fin.ext ?_
    match a with
    | ⟨0, _⟩ =>
      show k0_off13 (grid0.coords t) 0 + 1 * x.val = r.val
      rw [off13]
      show 768 * (t.val / 64) + 1 * x.val = r.val
      omega
    | ⟨1, _⟩ =>
      show k0_off13 (grid0.coords t) 1 + 1 * y.val = y.val
      rw [off13]
      show 0 + 1 * y.val = y.val
      omega
  rw [← e (fun a => by rw [off13]; have := N0; have := t.isLt; match a with | ⟨0, _⟩ => (show 768 * (t.val / 64) + 768 ≤ 1536; omega) | ⟨1, _⟩ => (show 0 + 4096 ≤ 4096; omega))]
  exact View.read_slice_write_emb (Val := Elt Ideal) (v := hbm10.view) _ _ _ (Finset.mem_univ _)

/-- It leaves the other rows. -/
theorem hbm_out (c : Dev nD) (t : Fin cfg0.N) (h : t.val % 64 = 63) (s : St (F := Ideal) c) (y : Fin 4096) (r : Fin 1536) (hr : r.val < 768 * (t.val / 64) ∨ 768 * (t.val / 64) + 768 ≤ r.val) :
    hbm10.view.read (Elt Ideal) (atG m c t h s).1.2.2.2.2.2.2 (ix2 r y) = hbm10.view.read (Elt Ideal) s.1 (ix2 r y) := by
  unfold atG runG
  dsimp only
  unfold runG.sl.H10_w0
  refine View.read_slice_write_of_not_mem (Val := Elt Ideal) (v := hbm10.view) _ _ _ _ ?_
  intro hm
  obtain ⟨z, -, hz⟩ := Finset.mem_map.mp hm
  have h0 : k0_off13 (grid0.coords t) 0 + 1 * (z 0).val = r.val := congrArg (fun i : S1536x4096.Idx => (i 0).val) hz
  have hz0 : (z 0).val < 768 := (z 0).isLt
  have h1 : k0_off13 (grid0.coords t) 0 = 768 * (t.val / 64) := by rw [off13]; rfl
  omega

end Cert.KernelIdeal.Hand
-- ==== Proof.Acc2.lean ====
module

public import proofs.«01_k».proof.Proof.Acc1
public import proofs.«01_k».proof.Proof.StepA
public import proofs.«01_k».proof.Proof.StepB
public import proofs.«01_k».proof.Proof.StepC
public import proofs.«01_k».proof.Proof.StepD
public import proofs.«01_k».proof.Proof.StepE
public import proofs.«01_k».proof.Proof.StepG
public import proofs.«01_k».proof.Proof.OutG

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

/-! ## One point of the grid -/

theorem kinds_of (t : Fin cfg0.N) : t.val % 64 = 0 ∨ (t.val % 8 = 0 ∧ t.val % 64 ≠ 0) ∨ (t.val % 8 = t.val / 8 % 8 ∧ t.val % 8 ≠ 0 ∧ t.val % 8 ≠ 7)
    ∨ (t.val / 8 % 8 < t.val % 8 ∧ t.val % 8 ≠ 7) ∨ (t.val / 8 % 8 < t.val % 8 ∧ t.val % 8 = 7) ∨ (t.val % 8 < t.val / 8 % 8 ∧ t.val % 8 ≠ 0) ∨ t.val % 64 = 63 := by omega

/-! What each kind of point keeps in the three accumulators. -/

theorem selA_14 (c : Dev nD) (t : Fin cfg0.N) (s : St (F := Ideal) c) (h : t.val % 64 = 0) : (step m c t s).2.1 = (atA m c t h s).1.1 := by
  rw [stepA m c t s h]
theorem selA_15 (c : Dev nD) (t : Fin cfg0.N) (s : St (F := Ideal) c) (h : t.val % 64 = 0) : (step m c t s).2.2.1 = (atA m c t h s).1.2.1 := by
  rw [stepA m c t s h]
theorem selA_16 (c : Dev nD) (t : Fin cfg0.N) (s : St (F := Ideal) c) (h : t.val % 64 = 0) : (step m c t s).2.2.2 = (atA m c t h s).1.2.2 := by
  rw [stepA m c t s h]
theorem selC_14 (c : Dev nD) (t : Fin cfg0.N) (s : St (F := Ideal) c) (h : t.val % 8 = t.val / 8 % 8 ∧ t.val % 8 ≠ 0 ∧ t.val % 8 ≠ 7) : (step m c t s).2.1 = (atC m c t h s).1.1 := by
  rw [stepC m c t s h]
theorem selC_15 (c : Dev nD) (t : Fin cfg0.N) (s : St (F := Ideal) c) (h : t.val % 8 = t.val / 8 % 8 ∧ t.val % 8 ≠ 0 ∧ t.val % 8 ≠ 7) : (step m c t s).2.2.1 = (atC m c t h s).1.2.1 := by
  rw [stepC m c t s h]
theorem selC_16 (c : Dev nD) (t : Fin cfg0.N) (s : St (F := Ideal) c) (h : t.val % 8 = t.val / 8 % 8 ∧ t.val % 8 ≠ 0 ∧ t.val % 8 ≠ 7) : (step m c t s).2.2.2 = (atC m c t h s).1.2.2 := by
  rw [stepC m c t s h]
theorem selD_14 (c : Dev nD) (t : Fin cfg0.N) (s : St (F := Ideal) c) (h : t.val / 8 % 8 < t.val % 8 ∧ t.val % 8 ≠ 7) : (step m c t s).2.1 = (atD m c t h s).1.1 := by
  rw [stepD m c t s h]
theorem selD_15 (c : Dev nD) (t : Fin cfg0.N) (s : St (F := Ideal) c) (h : t.val / 8 % 8 < t.val % 8 ∧ t.val % 8 ≠ 7) : (step m c t s).2.2.1 = (atD m c t h s).1.2.1 := by
  rw [stepD m c t s h]
theorem selD_16 (c : Dev nD) (t : Fin cfg0.N) (s : St (F := Ideal) c) (h : t.val / 8 % 8 < t.val % 8 ∧ t.val % 8 ≠ 7) : (step m c t s).2.2.2 = (atD m c t h s).1.2.2 := by
  rw [stepD m c t s h]
theorem selE_14 (c : Dev nD) (t : Fin cfg0.N) (s : St (F := Ideal) c) (h : t.val / 8 % 8 < t.val % 8 ∧ t.val % 8 = 7) : (step m c t s).2.1 = (atE m c t h s).1.1 := by
  rw [stepE m c t s h]
theorem selE_15 (c : Dev nD) (t : Fin cfg0.N) (s : St (F := Ideal) c) (h : t.val / 8 % 8 < t.val % 8 ∧ t.val % 8 = 7) : (step m c t s).2.2.1 = (atE m c t h s).1.2.1 := by
  rw [stepE m c t s h]
theorem selE_16 (c : Dev nD) (t : Fin cfg0.N) (s : St (F := Ideal) c) (h : t.val / 8 % 8 < t.val % 8 ∧ t.val % 8 = 7) : (step m c t s).2.2.2 = (atE m c t h s).1.2.2.1 := by
  rw [stepE m c t s h]
theorem selG_14 (c : Dev nD) (t : Fin cfg0.N) (s : St (F := Ideal) c) (h : t.val % 64 = 63) : (step m c t s).2.1 = (atG m c t h s).1.1 := by
  rw [stepG m c t s h]
theorem selG_15 (c : Dev nD) (t : Fin cfg0.N) (s : St (F := Ideal) c) (h : t.val % 64 = 63) : (step m c t s).2.2.1 = (atG m c t h s).1.2.1 := by
  rw [stepG m c t s h]
theorem selG_16 (c : Dev nD) (t : Fin cfg0.N) (s : St (F := Ideal) c) (h : t.val % 64 = 63) : (step m c t s).2.2.2 = (atG m c t h s).1.2.2.1 := by
  rw [stepG m c t s h]
theorem selB_14 (c : Dev nD) (t : Fin cfg0.N) (s : St (F := Ideal) c) (h : t.val % 8 = 0 ∧ t.val % 64 ≠ 0) : (step m c t s).2.1 = s.2.1 := by
  rw [stepB m c t s h]
theorem selB_15 (c : Dev nD) (t : Fin cfg0.N) (s : St (F := Ideal) c) (h : t.val % 8 = 0 ∧ t.val % 64 ≠ 0) : (step m c t s).2.2.1 = (atB c t h s).1.1 := by
  rw [stepB m c t s h]
theorem selB_16 (c : Dev nD) (t : Fin cfg0.N) (s : St (F := Ideal) c) (h : t.val % 8 = 0 ∧ t.val % 64 ≠ 0) : (step m c t s).2.2.2 = (atB c t h s).1.2 := by
  rw [stepB m c t s h]
theorem selG_10 (c : Dev nD) (t : Fin cfg0.N) (s : St (F := Ideal) c) (h : t.val % 64 = 63) : (step m c t s).1 = (atG m c t h s).1.2.2.2.2.2.2 := by
  rw [stepG m c t s h]

/-- A point adds its tile's part to the key-side accumulator, cleared first at a key tile's first point. -/
theorem all_15 (c : Dev nD) (t : Fin cfg0.N) (s : St (F := Ideal) c) (x : Fin 512) (hh : Fin 6) (l : Fin 128) :
    sc15.view.read (Elt Ideal) (step m c t s).2.2.1 (ix2 x (hd hh l))
      = (if t.val % 8 = 0 then (0 : EReal) else sc15.view.read (Elt Ideal) s.2.2.1 (ix2 x (hd hh l))) + c15 m c (hof t hh) (t.val % 8) (pos (t.val / 8 % 8) x) l := by
  rcases kinds_of t with h | h | h | h | h | h | h
  · rw [selA_15 m c t s h, if_pos (by omega)]
    exact (stepA_15 m c t h s x hh l).trans (congrArg (fun z : EReal => _ + z) (part15 m c t (by omega) hh x l))
  · rw [selB_15 m c t s h, if_pos h.1, c15_skip m c _ _ _ (by omega) (by omega), add_zero]
    exact stepB_15 c t h s x (hd hh l)
  · rw [selC_15 m c t s h, if_neg (by omega)]
    exact (stepC_15 m c t h s x hh l).trans (congrArg (fun z : EReal => _ + z) (part15 m c t (by omega) hh x l))
  · rw [selD_15 m c t s h, if_neg (by omega)]
    exact (stepD_15 m c t h s x hh l).trans (congrArg (fun z : EReal => _ + z) (part15 m c t (by omega) hh x l))
  · rw [selE_15 m c t s h, if_neg (by omega)]
    exact (stepE_15 m c t h s x hh l).trans (congrArg (fun z : EReal => _ + z) (part15 m c t (by omega) hh x l))
  · rw [stepF m c t s h, if_neg (by omega), c15_skip m c _ _ _ (by omega) (by omega), add_zero]
  · rw [selG_15 m c t s h, if_neg (by omega)]
    exact (stepG_15 m c t h s x hh l).trans (congrArg (fun z : EReal => _ + z) (part15 m c t (by omega) hh x l))

/-- A point adds its tile's part to the value-side accumulator, cleared first at a key tile's first point. -/
theorem all_16 (c : Dev nD) (t : Fin cfg0.N) (s : St (F := Ideal) c) (x : Fin 512) (hh : Fin 6) (l : Fin 128) :
    sc16.view.read (Elt Ideal) (step m c t s).2.2.2 (ix2 x (hd hh l))
      = (if t.val % 8 = 0 then (0 : EReal) else sc16.view.read (Elt Ideal) s.2.2.2 (ix2 x (hd hh l))) + c16 m c (hof t hh) (t.val % 8) (pos (t.val / 8 % 8) x) l := by
  rcases kinds_of t with h | h | h | h | h | h | h
  · rw [selA_16 m c t s h, if_pos (by omega)]
    exact (stepA_16 m c t h s x hh l).trans (congrArg (fun z : EReal => _ + z) (part16 m c t (by omega) hh x l))
  · rw [selB_16 m c t s h, if_pos h.1, c16_skip m c _ _ _ (by omega) (by omega), add_zero]
    exact stepB_16 c t h s x (hd hh l)
  · rw [selC_16 m c t s h, if_neg (by omega)]
    exact (stepC_16 m c t h s x hh l).trans (congrArg (fun z : EReal => _ + z) (part16 m c t (by omega) hh x l))
  · rw [selD_16 m c t s h, if_neg (by omega)]
    exact (stepD_16 m c t h s x hh l).trans (congrArg (fun z : EReal => _ + z) (part16 m c t (by omega) hh x l))
  · rw [selE_16 m c t s h, if_neg (by omega)]
    exact (stepE_16 m c t h s x hh l).trans (congrArg (fun z : EReal => _ + z) (part16 m c t (by omega) hh x l))
  · rw [stepF m c t s h, if_neg (by omega), c16_skip m c _ _ _ (by omega) (by omega), add_zero]
  · rw [selG_16 m c t s h, if_neg (by omega)]
    exact (stepG_16 m c t h s x hh l).trans (congrArg (fun z : EReal => _ + z) (part16 m c t (by omega) hh x l))

set_option maxHeartbeats 1000000 in
/-- A point adds its tile's part to the query-side accumulator at its query tile's columns; a half's first point clears it. -/
theorem all_14 (c : Dev nD) (t : Fin cfg0.N) (s : St (F := Ideal) c) (y : Fin 4096) (hh : Fin 6) (l : Fin 128) :
    sc14.view.read (Elt Ideal) (step m c t s).2.1 (ix2 (hd hh l) y)
      = (if t.val % 64 = 0 then (0 : EReal) else sc14.view.read (Elt Ideal) s.2.1 (ix2 (hd hh l) y)) + (if y.val / 512 = t.val % 8 then c14 m c (hof t hh) (t.val / 8 % 8) y l else 0) := by
  rcases kinds_of t with h | h | h | h | h | h | h
  · rw [selA_14 m c t s h, if_pos h]
    by_cases hy : y.val / 512 = t.val % 8
    · rw [if_pos hy]
      exact (stepA_14 m c t h s y ⟨y.val - 512 * (t.val % 8), by omega⟩ (by show y.val = 512 * (t.val % 8) + (y.val - 512 * (t.val % 8)); omega) hh l).trans
        (congrArg (fun z : EReal => _ + z) (part14 m c t (by omega) hh y _ (by show y.val = 512 * (t.val % 8) + (y.val - 512 * (t.val % 8)); omega) l))
    · rw [if_neg hy, add_zero]
      exact stepA_14_out m c t h s (hd hh l) y (by omega)
  · rw [selB_14 m c t s h, if_neg h.2]
    by_cases hy : y.val / 512 = t.val % 8
    · rw [if_pos hy, c14_skip m c _ _ (by omega) _ (by omega), add_zero]
    · rw [if_neg hy, add_zero]
  · rw [selC_14 m c t s h, if_neg (by omega)]
    by_cases hy : y.val / 512 = t.val % 8
    · rw [if_pos hy]
      exact (stepC_14 m c t h s y ⟨y.val - 512 * (t.val % 8), by omega⟩ (by show y.val = 512 * (t.val % 8) + (y.val - 512 * (t.val % 8)); omega) hh l).trans
        (congrArg (fun z : EReal => _ + z) (part14 m c t (by omega) hh y _ (by show y.val = 512 * (t.val % 8) + (y.val - 512 * (t.val % 8)); omega) l))
    · rw [if_neg hy, add_zero]
      exact stepC_14_out m c t h s (hd hh l) y (by omega)
  · rw [selD_14 m c t s h, if_neg (by omega)]
    by_cases hy : y.val / 512 = t.val % 8
    · rw [if_pos hy]
      exact (stepD_14 m c t h s y ⟨y.val - 512 * (t.val % 8), by omega⟩ (by show y.val = 512 * (t.val % 8) + (y.val - 512 * (t.val % 8)); omega) hh l).trans
        (congrArg (fun z : EReal => _ + z) (part14 m c t (by omega) hh y _ (by show y.val = 512 * (t.val % 8) + (y.val - 512 * (t.val % 8)); omega) l))
    · rw [if_neg hy, add_zero]
      exact stepD_14_out m c t h s (hd hh l) y (by omega)
  · rw [selE_14 m c t s h, if_neg (by omega)]
    by_cases hy : y.val / 512 = t.val % 8
    · rw [if_pos hy]
      exact (stepE_14 m c t h s y ⟨y.val - 512 * (t.val % 8), by omega⟩ (by show y.val = 512 * (t.val % 8) + (y.val - 512 * (t.val % 8)); omega) hh l).trans
        (congrArg (fun z : EReal => _ + z) (part14 m c t (by omega) hh y _ (by show y.val = 512 * (t.val % 8) + (y.val - 512 * (t.val % 8)); omega) l))
    · rw [if_neg hy, add_zero]
      exact stepE_14_out m c t h s (hd hh l) y (by omega)
  · rw [stepF m c t s h, if_neg (by omega)]
    by_cases hy : y.val / 512 = t.val % 8
    · rw [if_pos hy, c14_skip m c _ _ (by omega) _ (by omega), add_zero]
    · rw [if_neg hy, add_zero]
  · rw [selG_14 m c t s h, if_neg (by omega)]
    by_cases hy : y.val / 512 = t.val % 8
    · rw [if_pos hy]
      exact (stepG_14 m c t h s y ⟨y.val - 512 * (t.val % 8), by omega⟩ (by show y.val = 512 * (t.val % 8) + (y.val - 512 * (t.val % 8)); omega) hh l).trans
        (congrArg (fun z : EReal => _ + z) (part14 m c t (by omega) hh y _ (by show y.val = 512 * (t.val % 8) + (y.val - 512 * (t.val % 8)); omega) l))
    · rw [if_neg hy, add_zero]
      exact stepG_14_out m c t h s (hd hh l) y (by omega)

/-- Only a half's last point touches the first result. -/
theorem all_hbm (c : Dev nD) (t : Fin cfg0.N) (s : St (F := Ideal) c) (ht : t.val % 64 ≠ 63) : (step m c t s).1 = s.1 := by
  rcases kinds_of t with h | h | h | h | h | h | h
  · rw [stepA m c t s h]
  · rw [stepB m c t s h]
  · rw [stepC m c t s h]
  · rw [stepD m c t s h]
  · rw [stepE m c t s h]
  · rw [stepF m c t s h]
  · exact absurd h ht

/-- A half's last point puts the query-side accumulator into the half's rows, -/
theorem all_hbm_in (c : Dev nD) (t : Fin cfg0.N) (s : St (F := Ideal) c) (ht : t.val % 64 = 63) (x : Fin 768) (y : Fin 4096) (r : Fin 1536) (hr : r.val = 768 * (t.val / 64) + x.val) :
    hbm10.view.read (Elt Ideal) (step m c t s).1 (ix2 r y) = sc14.view.read (Elt Ideal) (step m c t s).2.1 (ix2 x y) := by
  rw [selG_10 m c t s ht, selG_14 m c t s ht]
  exact hbm_in m c t ht s x y r hr

/-- and leaves the others. -/
theorem all_hbm_out (c : Dev nD) (t : Fin cfg0.N) (s : St (F := Ideal) c) (ht : t.val % 64 = 63) (y : Fin 4096) (r : Fin 1536) (hr : r.val < 768 * (t.val / 64) ∨ 768 * (t.val / 64) + 768 ≤ r.val) :
    hbm10.view.read (Elt Ideal) (step m c t s).1 (ix2 r y) = hbm10.view.read (Elt Ideal) s.1 (ix2 r y) := by
  rw [selG_10 m c t s ht]
  exact hbm_out m c t ht s y r hr

end Cert.KernelIdeal.Hand
-- ==== Proof.Acc3.lean ====
module

public import proofs.«01_k».proof.Proof.Acc2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

/-! ## The accumulators along the grid -/

/-- After a point the accumulator holds the parts of the query tiles so far. -/
theorem inv_15 (c : Dev nD) (n : ℕ) : ∀ (hn : n < cfg0.N) (x : Fin 512) (hh : Fin 6) (l : Fin 128),
    sc15.view.read (Elt Ideal) (stAt m c (n + 1)).2.2.1 (ix2 x (hd hh l)) = ∑ i ∈ Finset.range (n % 8 + 1), c15 m c (hof ⟨n, hn⟩ hh) i (pos (n / 8 % 8) x) l := by
  induction n with
  | zero =>
    intro hn x hh l
    have e := all_15 m c ⟨0, hn⟩ (stAt m c 0) x hh l
    rw [← stAt_succ m c ⟨0, hn⟩] at e
    refine e.trans ?_
    rw [if_pos (by rfl), zero_add]
    exact (Finset.sum_range_one (fun i => c15 m c (hof ⟨0, hn⟩ hh) i (pos (0 / 8 % 8) x) l)).symm
  | succ k ih =>
    intro hn x hh l
    have e := all_15 m c ⟨k + 1, hn⟩ (stAt m c (k + 1)) x hh l
    rw [← stAt_succ m c ⟨k + 1, hn⟩] at e
    refine e.trans ?_
    dsimp only
    rw [Finset.sum_range_succ]
    refine congrArg (· + _) ?_
    by_cases h : (k + 1) % 8 = 0
    · rw [if_pos h, h]; exact Finset.sum_range_zero _ |>.symm
    · rw [if_neg h, ih (by omega) x hh l]
      have e1 : hof ⟨k, by omega⟩ hh = hof ⟨k + 1, hn⟩ hh := Fin.ext (by simp only [hof]; omega)
      have e2 : k / 8 % 8 = (k + 1) / 8 % 8 := by omega
      have e3 : k % 8 + 1 = (k + 1) % 8 := by omega
      rw [e1, e2, e3]

/-- After a point the accumulator holds the parts of the query tiles so far. -/
theorem inv_16 (c : Dev nD) (n : ℕ) : ∀ (hn : n < cfg0.N) (x : Fin 512) (hh : Fin 6) (l : Fin 128),
    sc16.view.read (Elt Ideal) (stAt m c (n + 1)).2.2.2 (ix2 x (hd hh l)) = ∑ i ∈ Finset.range (n % 8 + 1), c16 m c (hof ⟨n, hn⟩ hh) i (pos (n / 8 % 8) x) l := by
  induction n with
  | zero =>
    intro hn x hh l
    have e := all_16 m c ⟨0, hn⟩ (stAt m c 0) x hh l
    rw [← stAt_succ m c ⟨0, hn⟩] at e
    refine e.trans ?_
    rw [if_pos (by rfl), zero_add]
    exact (Finset.sum_range_one (fun i => c16 m c (hof ⟨0, hn⟩ hh) i (pos (0 / 8 % 8) x) l)).symm
  | succ k ih =>
    intro hn x hh l
    have e := all_16 m c ⟨k + 1, hn⟩ (stAt m c (k + 1)) x hh l
    rw [← stAt_succ m c ⟨k + 1, hn⟩] at e
    refine e.trans ?_
    dsimp only
    rw [Finset.sum_range_succ]
    refine congrArg (· + _) ?_
    by_cases h : (k + 1) % 8 = 0
    · rw [if_pos h, h]; exact Finset.sum_range_zero _ |>.symm
    · rw [if_neg h, ih (by omega) x hh l]
      have e1 : hof ⟨k, by omega⟩ hh = hof ⟨k + 1, hn⟩ hh := Fin.ext (by simp only [hof]; omega)
      have e2 : k / 8 % 8 = (k + 1) / 8 % 8 := by omega
      have e3 : k % 8 + 1 = (k + 1) % 8 := by omega
      rw [e1, e2, e3]

/-- After a point the query-side accumulator holds the parts of the key tiles so far. -/
theorem inv_14 (c : Dev nD) (n : ℕ) : ∀ (hn : n < cfg0.N) (y : Fin 4096) (hh : Fin 6) (l : Fin 128),
    sc14.view.read (Elt Ideal) (stAt m c (n + 1)).2.1 (ix2 (hd hh l) y)
      = ∑ j ∈ Finset.range (if y.val / 512 ≤ n % 8 then n / 8 % 8 + 1 else n / 8 % 8), c14 m c (hof ⟨n, hn⟩ hh) j y l := by
  induction n with
  | zero =>
    intro hn y hh l
    have e := all_14 m c ⟨0, hn⟩ (stAt m c 0) y hh l
    rw [← stAt_succ m c ⟨0, hn⟩] at e
    refine e.trans ?_
    dsimp only
    rw [if_pos (by rfl), zero_add]
    by_cases hy : y.val / 512 = 0
    · rw [if_pos (by omega), if_pos (by omega)]
      exact (Finset.sum_range_one (fun i => c14 m c (hof ⟨0, hn⟩ hh) i y l)).symm
    · rw [if_neg (by omega), if_neg (by omega)]
      exact (Finset.sum_range_zero (fun i => c14 m c (hof ⟨0, hn⟩ hh) i y l)).symm
  | succ k ih =>
    intro hn y hh l
    have e := all_14 m c ⟨k + 1, hn⟩ (stAt m c (k + 1)) y hh l
    rw [← stAt_succ m c ⟨k + 1, hn⟩] at e
    refine e.trans ?_
    dsimp only
    have hy := y.isLt
    by_cases h0 : (k + 1) % 64 = 0
    · rw [if_pos h0, zero_add]
      have hj : (k + 1) / 8 % 8 = 0 := by omega
      rw [hj]
      by_cases hy : y.val / 512 = (k + 1) % 8
      · rw [if_pos hy, if_pos (by omega)]
        exact (Finset.sum_range_one (fun i => c14 m c (hof ⟨k + 1, hn⟩ hh) i y l)).symm
      · rw [if_neg hy, if_neg (by omega)]
        exact (Finset.sum_range_zero (fun i => c14 m c (hof ⟨k + 1, hn⟩ hh) i y l)).symm
    · have e1 : hof ⟨k, by omega⟩ hh = hof ⟨k + 1, hn⟩ hh := Fin.ext (by simp only [hof]; omega)
      rw [if_neg h0, ih (by omega) y hh l, e1]
      by_cases hy2 : y.val / 512 = (k + 1) % 8
      · have e2 : (if y.val / 512 ≤ k % 8 then k / 8 % 8 + 1 else k / 8 % 8) = (k + 1) / 8 % 8 := by split_ifs <;> omega
        rw [if_pos hy2, e2, if_pos (by omega), Finset.sum_range_succ]
      · have e2 : (if y.val / 512 ≤ k % 8 then k / 8 % 8 + 1 else k / 8 % 8) = if y.val / 512 ≤ (k + 1) % 8 then (k + 1) / 8 % 8 + 1 else (k + 1) / 8 % 8 := by split_ifs <;> omega
        rw [if_neg hy2, add_zero, e2]

/-- The rows of the first result that the halves finished so far own. -/
theorem inv_hbm (c : Dev nD) (n : ℕ) : n ≤ cfg0.N → ∀ (r : Fin 1536) (y : Fin 4096), r.val / 768 < n / 64 →
    hbm10.view.read (Elt Ideal) (stAt m c n).1 (ix2 r y) = ∑ j ∈ Finset.range 8, c14 m c ⟨r.val / 128, by omega⟩ j y ⟨r.val % 128, by omega⟩ := by
  induction n with
  | zero => intro hn r y h; exact absurd h (by omega)
  | succ k ih =>
    intro hn r y h
    have hk : k < cfg0.N := hn
    have es := stAt_succ m c ⟨k, hk⟩
    have es' : stAt m c (k + 1) = step m c ⟨k, hk⟩ (stAt m c k) := es
    by_cases hl : k % 64 = 63
    · by_cases hr : r.val / 768 = k / 64
      · have hin := all_hbm_in m c ⟨k, hk⟩ (stAt m c k) hl ⟨r.val % 768, by omega⟩ y r (by show r.val = 768 * (k / 64) + r.val % 768; omega)
        rw [← es'] at hin
        refine hin.trans ?_
        have hx : (⟨r.val % 768, by omega⟩ : Fin 768) = hd ⟨r.val % 768 / 128, by omega⟩ ⟨r.val % 128, by omega⟩ := Fin.ext (by simp only [hd]; omega)
        rw [hx, inv_14 m c k hk y, if_pos (by have := y.isLt; omega)]
        have e1 : hof ⟨k, hk⟩ ⟨r.val % 768 / 128, by omega⟩ = ⟨r.val / 128, by omega⟩ := Fin.ext (by simp only [hof]; omega)
        have e2 : k / 8 % 8 + 1 = 8 := by omega
        rw [e1, e2]
      · have ho := all_hbm_out m c ⟨k, hk⟩ (stAt m c k) hl y r (by show r.val < 768 * (k / 64) ∨ 768 * (k / 64) + 768 ≤ r.val; omega)
        rw [← es'] at ho
        exact ho.trans (ih (by omega) r y (by omega))
    · rw [es', all_hbm m c ⟨k, hk⟩ _ hl]
      exact ih (by omega) r y (by omega)

/-- Eight tiles of 512 make the 4096. -/
theorem tiles_sum (F : Fin 4096 → EReal) : (∑ i ∈ Finset.range 8, ∑ q : Fin 512, F (pos i q)) = ∑ s : Fin 4096, F s := by
  rw [Finset.sum_range, ← Fintype.sum_prod_type' (f := fun (i : Fin 8) (q : Fin 512) => F (pos i.val q))]
  refine Fintype.sum_equiv (finProdFinEquiv (m := 8) (n := 512)) _ _ fun p => ?_
  refine congrArg F (Fin.ext ?_)
  rw [pos_val _ p.1.isLt]
  show 512 * p.1.val + p.2.val = p.2.val + 512 * p.1.val
  omega

end Cert.KernelIdeal.Hand
-- ==== Proof.OutE.lean ====
module

public import proofs.«01_k».proof.Proof.OutBase

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

set_option maxHeartbeats 4000000 in
/-- The block the stores read back is what the key-side accumulator holds after the point. -/
theorem X15_E (c : Dev nD) (t : Fin cfg0.N) (h : t.val / 8 % 8 < t.val % 8 ∧ t.val % 8 = 7) (s : St (F := Ideal) c) (x : Fin 512) (y : Fin 768) :
    (runE.sl.v46 c (ms0 t) (ms1 t) (ms2 t) (ms4 t) (ms6 t) (xi0 m c t) (xi1 m c t) (xi2 m c t) (xi4 m c t) (xi6 m c t) s.2.2.1 : S512x768.Idx → EReal) (ix2 x y) = sc15.view.read (Elt Ideal) (atE m c t h s).1.2.1 (ix2 x y) := by
  unfold atE runE
  dsimp only
  unfold runE.sl.v46
  exact cov_all sc15.view _ _ _ _ _ _ _ _ rfl x y

set_option maxHeartbeats 4000000 in
/-- The block the stores read back is what the value-side accumulator holds after the point. -/
theorem X16_E (c : Dev nD) (t : Fin cfg0.N) (h : t.val / 8 % 8 < t.val % 8 ∧ t.val % 8 = 7) (s : St (F := Ideal) c) (x : Fin 512) (y : Fin 768) :
    (runE.sl.v55_1 c (ms1 t) (ms2 t) (ms5 t) (xi1 m c t) (xi2 m c t) (xi5 m c t) s.2.2.2 : S512x768.Idx → EReal) (ix2 x y) = sc16.view.read (Elt Ideal) (atE m c t h s).1.2.2.1 (ix2 x y) := by
  unfold atE runE
  dsimp only
  unfold runE.sl.v55_1
  exact cov_all sc16.view _ _ _ _ _ _ _ _ rfl x y

set_option maxHeartbeats 4000000 in
/-- The stored key gradient at head `hh`'s column `l`. -/
theorem dk_E (c : Dev nD) (t : Fin cfg0.N) (h : t.val / 8 % 8 < t.val % 8 ∧ t.val % 8 = 7) (s : St (F := Ideal) c) (hh : Fin 6) (l : Fin 64) (x : Fin 512) (y : Fin 384) (hy : y.val = 64 * hh.val + l.val) :
    (View.canon (atE m c t h s).1.2.2.2.1 : S512x384.Idx → EReal) (ix2 x y) = sc15.view.read (Elt Ideal) (atE m c t h s).1.2.1 (ix2 x (hd hh ⟨l.val, by omega⟩)) := by
  rw [← X15_E]
  unfold atE runE
  dsimp only
  refine (congrFun (View.canon_unit_zero (Val := Elt Ideal) (S := S512x384) (off := ![0, 0]) (by decide) _ _) _).trans ?_
  unfold runE.sl.v53_1 runE.sl.v47 runE.sl.v48 runE.sl.v49_1 runE.sl.v50 runE.sl.v51_1 runE.sl.v52_1
  generalize runE.sl.v46 c (ms0 t) (ms1 t) (ms2 t) (ms4 t) (ms6 t) (xi0 m c t) (xi1 m c t) (xi2 m c t) (xi4 m c t) (xi6 m c t) s.2.2.1 = X
  pointwise
  split_ifs <;> exact congrArg X (congrArg (ix2 x) (Fin.ext (by simp only [hd]; omega)))

set_option maxHeartbeats 4000000 in
/-- The stored value gradient at head `hh`'s column `l`. -/
theorem dv_E (c : Dev nD) (t : Fin cfg0.N) (h : t.val / 8 % 8 < t.val % 8 ∧ t.val % 8 = 7) (s : St (F := Ideal) c) (hh : Fin 6) (l : Fin 64) (x : Fin 512) (y : Fin 384) (hy : y.val = 64 * hh.val + l.val) :
    (View.canon (atE m c t h s).1.2.2.2.2.1 : S512x384.Idx → EReal) (ix2 x y) = sc16.view.read (Elt Ideal) (atE m c t h s).1.2.2.1 (ix2 x (hd hh ⟨l.val, by omega⟩)) := by
  rw [← X16_E]
  unfold atE runE
  dsimp only
  refine (congrFun (View.canon_unit_zero (Val := Elt Ideal) (S := S512x384) (off := ![0, 0]) (by decide) _ _) _).trans ?_
  unfold runE.sl.v63 runE.sl.v62_1 runE.sl.v56 runE.sl.v57_1 runE.sl.v58_1 runE.sl.v59_1 runE.sl.v60_1 runE.sl.v61
  generalize runE.sl.v55_1 c (ms1 t) (ms2 t) (ms5 t) (xi1 m c t) (xi2 m c t) (xi5 m c t) s.2.2.2 = X
  pointwise
  split_ifs <;> exact congrArg X (congrArg (ix2 x) (Fin.ext (by simp only [hd]; omega)))

set_option maxHeartbeats 4000000 in
/-- The stored lanes: a head's lane holds the negated sum of its weights' gradients, the others zero. -/
theorem dck_E (c : Dev nD) (t : Fin cfg0.N) (h : t.val / 8 % 8 < t.val % 8 ∧ t.val % 8 = 7) (s : St (F := Ideal) c) (x : Fin 512) (y : Fin 128) (z : Fin 1) :
    (View.canon (atE m c t h s).1.2.2.2.2.2 : S1x512x128.Idx → EReal) (ix3 z x y)
      = 0 - (if y.val = 6 * (t.val / 64) + 5 then sc15.view.read (Elt Ideal) (atE m c t h s).1.2.1 (ix2 x (hd 5 67))
        else if y.val = 6 * (t.val / 64) + 4 then sc15.view.read (Elt Ideal) (atE m c t h s).1.2.1 (ix2 x (hd 4 67))
        else if y.val = 6 * (t.val / 64) + 3 then sc15.view.read (Elt Ideal) (atE m c t h s).1.2.1 (ix2 x (hd 3 67))
        else if y.val = 6 * (t.val / 64) + 2 then sc15.view.read (Elt Ideal) (atE m c t h s).1.2.1 (ix2 x (hd 2 67))
        else if y.val = 6 * (t.val / 64) + 1 then sc15.view.read (Elt Ideal) (atE m c t h s).1.2.1 (ix2 x (hd 1 67))
        else if y.val = 6 * (t.val / 64) + 0 then sc15.view.read (Elt Ideal) (atE m c t h s).1.2.1 (ix2 x (hd 0 67)) else (0 : EReal)) := by
  have eX : ∀ hh : Fin 6, sc15.view.read (Elt Ideal) (atE m c t h s).1.2.1 (ix2 x (hd hh 67)) = (runE.sl.v46 c (ms0 t) (ms1 t) (ms2 t) (ms4 t) (ms6 t) (xi0 m c t) (xi1 m c t) (xi2 m c t) (xi4 m c t) (xi6 m c t) s.2.2.1 : S512x768.Idx → EReal) (ix2 x (hd hh 67)) :=
    fun hh => (X15_E m c t h s x (hd hh 67)).symm
  rw [eX 5, eX 4, eX 3, eX 2, eX 1, eX 0]
  unfold atE runE
  dsimp only
  refine (congrFun (View.canon_unit_zero (Val := Elt Ideal) (S := S1x512x128) (off := ![0, 0, 0]) (by decide) _ _) _).trans ?_
  unfold runE.sl.v88 runE.sl.v84 runE.sl.v87_1 runE.sl.v81_1 runE.sl.v66_1 runE.sl.v83_1 runE.sl.v86_1 runE.sl.v77_1 runE.sl.v80 runE.sl.v74_1 runE.sl.v82_1 runE.sl.v85 runE.sl.v76_1 runE.sl.v79 runE.sl.v70 runE.sl.v73_1 runE.sl.v67 runE.sl.v65_1 runE.sl.v75 runE.sl.v78_1 runE.sl.v69_1 runE.sl.v72_1 runE.sl.cst_1 runE.sl.v68_1 runE.sl.v71 runE.sl.v89_1
  unfold_payloads
  try unfold runE.sl.v65_1
  try unfold runE.sl.v66_1
  generalize runE.sl.v46 c (ms0 t) (ms1 t) (ms2 t) (ms4 t) (ms6 t) (xi0 m c t) (xi1 m c t) (xi2 m c t) (xi4 m c t) (xi6 m c t) s.2.2.1 = X
  pointwise
  have e := lane_sel t y
  rw [e 5 (by omega), e 4 (by omega), e 3 (by omega), e 2 (by omega), e 1 (by omega), e 0 (by omega)]
  rfl

end Cert.KernelIdeal.Hand
-- ==== Proof.Fin1.lean ====
module

public import proofs.«01_k».proof.Proof.Acc3
public import proofs.«01_k».proof.Proof.OutE

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

/-! ## What the flushing points store -/

theorem last_kinds (t : Fin cfg0.N) (ht : t.val % 8 = 7) : (t.val / 8 % 8 < t.val % 8 ∧ t.val % 8 = 7) ∨ (¬(t.val / 8 % 8 < t.val % 8 ∧ t.val % 8 = 7) ∧ t.val % 64 = 63) := by omega

/-- A key tile's last point stores the whole sums' head columns. -/
theorem out7_at (c : Dev nD) (t : Fin cfg0.N) (ht : t.val % 8 = 7) (hh : Fin 6) (l : Fin 64) (x : Fin 512) (y : Fin 384) (hy : y.val = 64 * hh.val + l.val) :
    (out7 m c t : S512x384.Idx → EReal) (ix2 x y) = ∑ i ∈ Finset.range 8, c15 m c (hof t hh) i (pos (t.val / 8 % 8) x) ⟨l.val, by omega⟩ := by
  have e := inv_15 m c t.val t.isLt x hh ⟨l.val, by omega⟩
  rw [ht, stAt_succ] at e
  refine Eq.trans ?_ e
  rcases last_kinds t ht with h | ⟨h', h⟩
  · unfold out7
    rw [dif_pos h, selE_15 m c t _ h]
    exact dk_E m c t h _ hh l x y hy
  · unfold out7
    rw [dif_neg h', dif_pos h, selG_15 m c t _ h]
    exact dk_G m c t h _ hh l x y hy

/-- A key tile's last point stores the whole sums' head columns. -/
theorem out8_at (c : Dev nD) (t : Fin cfg0.N) (ht : t.val % 8 = 7) (hh : Fin 6) (l : Fin 64) (x : Fin 512) (y : Fin 384) (hy : y.val = 64 * hh.val + l.val) :
    (out8 m c t : S512x384.Idx → EReal) (ix2 x y) = ∑ i ∈ Finset.range 8, c16 m c (hof t hh) i (pos (t.val / 8 % 8) x) ⟨l.val, by omega⟩ := by
  have e := inv_16 m c t.val t.isLt x hh ⟨l.val, by omega⟩
  rw [ht, stAt_succ] at e
  refine Eq.trans ?_ e
  rcases last_kinds t ht with h | ⟨h', h⟩
  · unfold out8
    rw [dif_pos h, selE_16 m c t _ h]
    exact dv_E m c t h _ hh l x y hy
  · unfold out8
    rw [dif_neg h', dif_pos h, selG_16 m c t _ h]
    exact dv_G m c t h _ hh l x y hy

/-- A key tile's last point stores, in a head's lane, the negated whole sum of its gradients, and zero in the others. -/
theorem out9_at (c : Dev nD) (t : Fin cfg0.N) (ht : t.val % 8 = 7) (x : Fin 512) (y : Fin 128) (z : Fin 1) :
    (out9 m c t : S1x512x128.Idx → EReal) (ix3 z x y) = 0 - (if y.val = 6 * (t.val / 64) + 5 then ∑ i ∈ Finset.range 8, c15 m c (hof t 5) i (pos (t.val / 8 % 8) x) 67
      else if y.val = 6 * (t.val / 64) + 4 then ∑ i ∈ Finset.range 8, c15 m c (hof t 4) i (pos (t.val / 8 % 8) x) 67
      else if y.val = 6 * (t.val / 64) + 3 then ∑ i ∈ Finset.range 8, c15 m c (hof t 3) i (pos (t.val / 8 % 8) x) 67
      else if y.val = 6 * (t.val / 64) + 2 then ∑ i ∈ Finset.range 8, c15 m c (hof t 2) i (pos (t.val / 8 % 8) x) 67
      else if y.val = 6 * (t.val / 64) + 1 then ∑ i ∈ Finset.range 8, c15 m c (hof t 1) i (pos (t.val / 8 % 8) x) 67
      else if y.val = 6 * (t.val / 64) + 0 then ∑ i ∈ Finset.range 8, c15 m c (hof t 0) i (pos (t.val / 8 % 8) x) 67 else (0 : EReal)) := by
  have e : ∀ hh : Fin 6, sc15.view.read (Elt Ideal) (step m c t (stAt m c t.val)).2.2.1 (ix2 x (hd hh 67)) = ∑ i ∈ Finset.range 8, c15 m c (hof t hh) i (pos (t.val / 8 % 8) x) 67 := by
    intro hh
    have e := inv_15 m c t.val t.isLt x hh 67
    rw [ht, stAt_succ] at e
    exact e
  rw [← e 5, ← e 4, ← e 3, ← e 2, ← e 1, ← e 0]
  rcases last_kinds t ht with h | ⟨h', h⟩
  · unfold out9
    rw [dif_pos h, selE_15 m c t _ h]
    exact dck_E m c t h _ x y z
  · unfold out9
    rw [dif_neg h', dif_pos h, selG_15 m c t _ h]
    exact dck_G m c t h _ x y z

end Cert.KernelIdeal.Hand
-- ==== Proof.Fin2.lean ====
module

public import proofs.«01_k».proof.Proof.Fin1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

/-! ## The results' arrays after the run -/

/-- The query tiles' parts add up to the whole sum. -/
theorem c15_sum (c : Dev nD) (h : Fin 12) (k : Fin 4096) (l : Fin 128) : (∑ i ∈ Finset.range 8, c15 m c h i k l) = ∑ s : Fin 4096, gDS m c h k s * aQ m c s (col h l) :=
  tiles_sum fun s => gDS m c h k s * aQ m c s (col h l)
theorem c16_sum (c : Dev nD) (h : Fin 12) (k : Fin 4096) (l : Fin 128) : (∑ i ∈ Finset.range 8, c16 m c h i k l) = ∑ s : Fin 4096, gP m c h k s * aY m c s (col h l) :=
  tiles_sum fun s => gP m c h k s * aY m c s (col h l)

/-- An entry of the first result. -/
def val0 (c : Dev nD) (r : Fin 1536) (s : Fin 4096) : EReal := ∑ k : Fin 4096, aKT m c (col ⟨r.val / 128, by omega⟩ ⟨r.val % 128, by omega⟩) k * gDS m c ⟨r.val / 128, by omega⟩ k s
/-- An entry of the second result. -/
def val7 (c : Dev nD) (k : Fin 4096) (y : Fin 768) : EReal := ∑ s : Fin 4096, gDS m c ⟨y.val / 64, by omega⟩ k s * aQ m c s (col ⟨y.val / 64, by omega⟩ ⟨y.val % 64, by omega⟩)
/-- An entry of the third result. -/
def val8 (c : Dev nD) (k : Fin 4096) (y : Fin 768) : EReal := ∑ s : Fin 4096, gP m c ⟨y.val / 64, by omega⟩ k s * aY m c s (col ⟨y.val / 64, by omega⟩ ⟨y.val % 64, by omega⟩)
/-- An entry of the fourth result. -/
def val9 (c : Dev nD) (g : Fin 2) (k : Fin 4096) (y : Fin 128) : EReal :=
  if h : 6 * g.val ≤ y.val ∧ y.val < 6 * g.val + 6 then 0 - ∑ s : Fin 4096, gDS m c ⟨y.val, by omega⟩ k s * aQ m c s (col ⟨y.val, by omega⟩ 67) else 0

theorem idx0_7 : ∀ t : Fin cfg0.N, win0_7.index t 0 = t.val / 8 % 8 ∧ win0_7.index t 1 = t.val / 64 :=
  (by decide +kernel : ∀ t : Fin grid0.N, _)

theorem emb_7 (t : Fin cfg0.N) (x : Fin 512) (y : Fin 384) :
    (((cfg0.win 7).blk t).view.emb (ix2 x y) : S4096x768.Idx) = ix2 (pos (t.val / 8 % 8) x) ⟨384 * (t.val / 64) + y.val, by have := t.isLt; have e : cfg0.N = 128 := N0; omega⟩ := by
  refine funext fun a => Fin.ext ?_
  match a with
  | ⟨0, _⟩ => exact (Pipeline.Window.rect_emb_val win0_7 t (ix2 x y) 0).trans (by rw [(idx0_7 t).1]; show (t.val / 8 % 8) * 512 + x.val = (pos (t.val / 8 % 8) x).val; rw [pos_val _ (by omega)]; omega)
  | ⟨1, _⟩ => exact (Pipeline.Window.rect_emb_val win0_7 t (ix2 x y) 1).trans (by rw [(idx0_7 t).2]; show (t.val / 64) * 384 + y.val = 384 * (t.val / 64) + y.val; omega)

/-- The array holds the whole sums. -/
theorem arr_7 (c : Dev nD) : (dats m 0 c).arrAt 7 cfg0.N = (fun i : S4096x768.Idx => val7 m c (i 0) (i 1)) := by
  refine (dats m 0 c).arrAt_eq_of_covers 7 _ (by decide +kernel) fun t hf y => ?_
  have ht : t.val % 8 = 7 := (flush0_7 t).mp hf
  obtain ⟨x, y, rfl⟩ : ∃ (x : Fin 512) (z : Fin 384), y = ix2 x z := ⟨y 0, y 1, eq_ix2 y⟩
  rw [emb_7]
  refine Eq.trans (b := (out7 m c t : S512x384.Idx → EReal) (ix2 x y)) ?_ ?_
  · rw [after0_7]; rfl
  · have hN : t.val < 128 := lt_of_lt_of_eq t.isLt N0
    rw [out7_at m c t ht ⟨y.val / 64, by omega⟩ ⟨y.val % 64, by omega⟩ x y (by show y.val = 64 * (y.val / 64) + y.val % 64; omega)]
    have eh : hof t ⟨y.val / 64, by omega⟩ = ⟨(384 * (t.val / 64) + y.val) / 64, by omega⟩ := Fin.ext (by simp only [hof]; omega)
    have el : (⟨y.val % 64, by omega⟩ : Fin 128) = ⟨(384 * (t.val / 64) + y.val) % 64, by omega⟩ := Fin.ext (by show y.val % 64 = (384 * (t.val / 64) + y.val) % 64; omega)
    show (∑ i ∈ Finset.range 8, c15 m c (hof t ⟨y.val / 64, by omega⟩) i (pos (t.val / 8 % 8) x) ⟨y.val % 64, by omega⟩) = val7 m c (pos (t.val / 8 % 8) x) ⟨384 * (t.val / 64) + y.val, by omega⟩
    rw [eh, el]
    exact c15_sum m c _ _ _

theorem idx0_8 : ∀ t : Fin cfg0.N, win0_8.index t 0 = t.val / 8 % 8 ∧ win0_8.index t 1 = t.val / 64 :=
  (by decide +kernel : ∀ t : Fin grid0.N, _)

theorem emb_8 (t : Fin cfg0.N) (x : Fin 512) (y : Fin 384) :
    (((cfg0.win 8).blk t).view.emb (ix2 x y) : S4096x768.Idx) = ix2 (pos (t.val / 8 % 8) x) ⟨384 * (t.val / 64) + y.val, by have := t.isLt; have e : cfg0.N = 128 := N0; omega⟩ := by
  refine funext fun a => Fin.ext ?_
  match a with
  | ⟨0, _⟩ => exact (Pipeline.Window.rect_emb_val win0_8 t (ix2 x y) 0).trans (by rw [(idx0_8 t).1]; show (t.val / 8 % 8) * 512 + x.val = (pos (t.val / 8 % 8) x).val; rw [pos_val _ (by omega)]; omega)
  | ⟨1, _⟩ => exact (Pipeline.Window.rect_emb_val win0_8 t (ix2 x y) 1).trans (by rw [(idx0_8 t).2]; show (t.val / 64) * 384 + y.val = 384 * (t.val / 64) + y.val; omega)

/-- The array holds the whole sums. -/
theorem arr_8 (c : Dev nD) : (dats m 0 c).arrAt 8 cfg0.N = (fun i : S4096x768.Idx => val8 m c (i 0) (i 1)) := by
  refine (dats m 0 c).arrAt_eq_of_covers 8 _ (by decide +kernel) fun t hf y => ?_
  have ht : t.val % 8 = 7 := (flush0_8 t).mp hf
  obtain ⟨x, y, rfl⟩ : ∃ (x : Fin 512) (z : Fin 384), y = ix2 x z := ⟨y 0, y 1, eq_ix2 y⟩
  rw [emb_8]
  refine Eq.trans (b := (out8 m c t : S512x384.Idx → EReal) (ix2 x y)) ?_ ?_
  · rw [after0_8]; rfl
  · have hN : t.val < 128 := lt_of_lt_of_eq t.isLt N0
    rw [out8_at m c t ht ⟨y.val / 64, by omega⟩ ⟨y.val % 64, by omega⟩ x y (by show y.val = 64 * (y.val / 64) + y.val % 64; omega)]
    have eh : hof t ⟨y.val / 64, by omega⟩ = ⟨(384 * (t.val / 64) + y.val) / 64, by omega⟩ := Fin.ext (by simp only [hof]; omega)
    have el : (⟨y.val % 64, by omega⟩ : Fin 128) = ⟨(384 * (t.val / 64) + y.val) % 64, by omega⟩ := Fin.ext (by show y.val % 64 = (384 * (t.val / 64) + y.val) % 64; omega)
    show (∑ i ∈ Finset.range 8, c16 m c (hof t ⟨y.val / 64, by omega⟩) i (pos (t.val / 8 % 8) x) ⟨y.val % 64, by omega⟩) = val8 m c (pos (t.val / 8 % 8) x) ⟨384 * (t.val / 64) + y.val, by omega⟩
    rw [eh, el]
    exact c16_sum m c _ _ _

theorem idx0_9 : ∀ t : Fin cfg0.N, win0_9.index t 0 = t.val / 64 ∧ win0_9.index t 1 = t.val / 8 % 8 ∧ win0_9.index t 2 = 0 :=
  (by decide +kernel : ∀ t : Fin grid0.N, _)

theorem emb_9 (t : Fin cfg0.N) (z : Fin 1) (x : Fin 512) (y : Fin 128) :
    (((cfg0.win 9).blk t).view.emb (ix3 z x y) : S2x4096x128.Idx) = ix3 ⟨t.val / 64, by have := t.isLt; have e : cfg0.N = 128 := N0; omega⟩ (pos (t.val / 8 % 8) x) y := by
  refine funext fun a => Fin.ext ?_
  match a with
  | ⟨0, _⟩ => exact (Pipeline.Window.rect_emb_val win0_9 t (ix3 z x y) 0).trans (by rw [(idx0_9 t).1]; show (t.val / 64) * 1 + z.val = t.val / 64; omega)
  | ⟨1, _⟩ => exact (Pipeline.Window.rect_emb_val win0_9 t (ix3 z x y) 1).trans (by rw [(idx0_9 t).2.1]; show (t.val / 8 % 8) * 512 + x.val = (pos (t.val / 8 % 8) x).val; rw [pos_val _ (by omega)]; omega)
  | ⟨2, _⟩ => exact (Pipeline.Window.rect_emb_val win0_9 t (ix3 z x y) 2).trans (by rw [(idx0_9 t).2.2]; show 0 * 128 + y.val = y.val; omega)

/-- One of six lanes, or none. -/
theorem six_lanes (f : Fin 6 → EReal) (b y : ℕ) : (0 : EReal) - (if y = b + 5 then f 5 else if y = b + 4 then f 4 else if y = b + 3 then f 3 else if y = b + 2 then f 2 else if y = b + 1 then f 1 else if y = b + 0 then f 0 else 0)
    = if h : b ≤ y ∧ y < b + 6 then 0 - f ⟨y - b, by omega⟩ else 0 := by
  by_cases h : b ≤ y ∧ y < b + 6
  · rw [dif_pos h]
    obtain ⟨k, rfl⟩ : ∃ k, y = b + k := ⟨y - b, by omega⟩
    have hk : k < 6 := by omega
    have e : (⟨b + k - b, by omega⟩ : Fin 6) = ⟨k, hk⟩ := Fin.ext (by show b + k - b = k; omega)
    rw [e]
    interval_cases k
    all_goals simp
  · rw [dif_neg h, if_neg (by omega), if_neg (by omega), if_neg (by omega), if_neg (by omega), if_neg (by omega), if_neg (by omega)]
    exact sub_zero _

/-- The array holds the negated whole sums in the heads' lanes. -/
theorem arr_9 (c : Dev nD) : (dats m 0 c).arrAt 9 cfg0.N = (fun i : S2x4096x128.Idx => val9 m c (i 0) (i 1) (i 2)) := by
  refine (dats m 0 c).arrAt_eq_of_covers 9 _ (by decide +kernel) fun t hf y => ?_
  have ht : t.val % 8 = 7 := (flush0_9 t).mp hf
  obtain ⟨z, x, y, rfl⟩ : ∃ (z : Fin 1) (x : Fin 512) (w : Fin 128), y = ix3 z x w := ⟨y 0, y 1, y 2, eq_ix3 y⟩
  rw [emb_9]
  refine Eq.trans (b := (out9 m c t : S1x512x128.Idx → EReal) (ix3 z x y)) ?_ ?_
  · rw [after0_9]; rfl
  · have hN : t.val < 128 := lt_of_lt_of_eq t.isLt N0
    rw [out9_at m c t ht x y z]
    refine (six_lanes (fun hh => ∑ i ∈ Finset.range 8, c15 m c (hof t hh) i (pos (t.val / 8 % 8) x) 67) (6 * (t.val / 64)) y.val).trans ?_
    show _ = val9 m c ⟨t.val / 64, by omega⟩ (pos (t.val / 8 % 8) x) y
    unfold val9
    by_cases h : 6 * (t.val / 64) ≤ y.val ∧ y.val < 6 * (t.val / 64) + 6
    · rw [dif_pos h, dif_pos h]
      have eh : hof t ⟨y.val - 6 * (t.val / 64), by omega⟩ = ⟨y.val, by omega⟩ := Fin.ext (by simp only [hof]; omega)
      rw [eh]
      exact congrArg (fun a : EReal => 0 - a) (c15_sum m c _ _ _)
    · rw [dif_neg h, dif_neg h]

/-- The first result's array holds the whole sums in every row. -/
theorem arr_0 (c : Dev nD) (r : Fin 1536) (s : Fin 4096) : (Gend m c main_v107_0 : S1536x4096.Idx → EReal) (ix2 r s) = val0 m c r s := by
  have e := inv_hbm m c cfg0.N le_rfl r s (by rw [N0]; omega)
  have e2 : Gend m c main_v107_0 = (stAt m c cfg0.N).1 := by unfold Gend; exact Function.update_self _ _ _
  rw [e2]
  refine Eq.trans ?_ (e.trans (tiles_sum fun k => aKT m c (col ⟨r.val / 128, by omega⟩ ⟨r.val % 128, by omega⟩) k * gDS m c ⟨r.val / 128, by omega⟩ k s))
  rfl

end Cert.KernelIdeal.Hand
-- ==== Proof.Reals.lean ====
module

public import Mathlib.Data.EReal.Operations
public import Idealize.ShloMosaic.Lib.Pointwise

@[expose] public section

noncomputable section

/-! The call's mathematics over the reals: causal attention with a bias that is the difference of two prefix sums, and the gradient of its scores. -/

namespace Cert.FoxReal

open Idealize.ShloMosaic

/-- The arguments as real numbers: query row, key row, value row, the prefix sums, the output's gradient. -/
structure Args where
  q : Fin 4096 → Fin 12 → Fin 64 → ℝ
  k : Fin 4096 → Fin 12 → Fin 64 → ℝ
  v : Fin 4096 → Fin 12 → Fin 64 → ℝ
  c : Fin 4096 → Fin 12 → ℝ
  y : Fin 4096 → Fin 12 → Fin 64 → ℝ

/-- A sum of reals, read as extended reals. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

variable (A : Args)

/-- A score. -/
def sc (h : Fin 12) (s t : Fin 4096) : ℝ := (∑ x : Fin 64, A.q s h x * A.k t h x) + A.c s h - A.c t h

/-- A masked score. -/
def ms (h : Fin 12) (s t : Fin 4096) : EReal := if t.val ≤ s.val then ((sc A h s t : ℝ) : EReal) else ⊥

/-- A row's greatest score. -/
def mx (h : Fin 12) (s : Fin 4096) : ℝ := (Finset.fold max ⊥ (fun x => ms A h s x) Finset.univ).toReal

/-- It is a real number: the diagonal's score is one, and no score is the top. -/
theorem mx_coe (h : Fin 12) (s : Fin 4096) : Finset.fold max ⊥ (fun x => ms A h s x) Finset.univ = ((mx A h s : ℝ) : EReal) := by
  refine (EReal.coe_toReal (ne_of_lt ?_) (ne_of_gt ?_)).symm
  · refine (Finset.fold_max_lt _).mpr ⟨bot_lt_top, fun x _ => ?_⟩
    unfold ms
    split
    · exact EReal.coe_lt_top _
    · exact bot_lt_top
  · refine (Finset.lt_fold_max _).mpr (Or.inr ⟨s, Finset.mem_univ _, ?_⟩)
    unfold ms
    rw [if_pos le_rfl]
    exact EReal.bot_lt_coe _

/-- An exponential. -/
def ee (h : Fin 12) (s t : Fin 4096) : ℝ := if t.val ≤ s.val then Real.exp (sc A h s t - mx A h s) else 0

theorem ee_coe (h : Fin 12) (s t : Fin 4096) : Ideal.exp (ms A h s t - ((mx A h s : ℝ) : EReal)) = ((ee A h s t : ℝ) : EReal) := by
  unfold ms ee
  split
  · rw [← EReal.coe_sub, Ideal.exp_coe]
  · rw [EReal.bot_sub]; rfl

/-- A row's sum of exponentials. -/
def den (h : Fin 12) (s : Fin 4096) : ℝ := ∑ t : Fin 4096, ee A h s t

theorem ee_nonneg (h : Fin 12) (s t : Fin 4096) : 0 ≤ ee A h s t := by
  unfold ee; split
  · exact (Real.exp_pos _).le
  · exact le_rfl

theorem den_pos (h : Fin 12) (s : Fin 4096) : 0 < den A h s :=
  Finset.sum_pos' (fun t _ => ee_nonneg A h s t) ⟨s, Finset.mem_univ _, by unfold ee; rw [if_pos le_rfl]; exact Real.exp_pos _⟩

theorem div_real (x y : ℝ) (hy : y ≠ 0) : Ideal.div (x : EReal) (y : EReal) = ((x / y : ℝ) : EReal) := by
  rw [Ideal.div_coe hy, ← EReal.coe_mul]
  exact congrArg _ (by ring)

/-- A weight. -/
def ww (h : Fin 12) (s t : Fin 4096) : ℝ := ee A h s t / den A h s

theorem ww_above (h : Fin 12) (s t : Fin 4096) (hst : ¬ t.val ≤ s.val) : ww A h s t = 0 := by
  unfold ww ee; rw [if_neg hst, zero_div]

/-- A weight is the exponential of the score less the row's log-sum. -/
theorem ww_exp (h : Fin 12) (s t : Fin 4096) (hst : t.val ≤ s.val) : Real.exp (sc A h s t - (mx A h s + Real.log (den A h s))) = ww A h s t := by
  unfold ww ee
  rw [if_pos hst, ← sub_sub, Real.exp_sub, Real.exp_log (den_pos A h s)]

/-- An output. -/
def yy (h : Fin 12) (s : Fin 4096) (l : Fin 64) : ℝ := ∑ t : Fin 4096, A.v t h l * ww A h s t

/-- The output's gradient against the output. -/
def del (h : Fin 12) (s : Fin 4096) : ℝ := ∑ l : Fin 64, A.y s h l * yy A h s l

/-- The output's gradient against a value. -/
def dp (h : Fin 12) (s t : Fin 4096) : ℝ := ∑ x : Fin 64, A.y s h x * A.v t h x

/-- The gradient of a score. -/
def ds (h : Fin 12) (s t : Fin 4096) : ℝ := ww A h s t * (dp A h s t - del A h s)

theorem ds_above (h : Fin 12) (s t : Fin 4096) (hst : ¬ t.val ≤ s.val) : ds A h s t = 0 := by
  unfold ds; rw [ww_above A h s t hst, zero_mul]

/-- The output's gradient against the output is the weighted sum of it against the values. -/
theorem del_eq (h : Fin 12) (s : Fin 4096) : del A h s = ∑ t : Fin 4096, dp A h s t * ww A h s t := by
  unfold del yy dp
  simp only [Finset.mul_sum, Finset.sum_mul]
  rw [Finset.sum_comm]
  exact Finset.sum_congr rfl fun t _ => Finset.sum_congr rfl fun l _ => by ring

/-- The derivative of the quotient is the gradient of the score. -/
theorem ds_quot (h : Fin 12) (s t : Fin 4096) :
    (dp A h s t / den A h s + -∑ x : Fin 4096, dp A h s x * (1 / (den A h s * den A h s)) * ee A h s x) * ee A h s t = ds A h s t := by
  have hd : den A h s ≠ 0 := (den_pos A h s).ne'
  have e : (∑ x : Fin 4096, dp A h s x * (1 / (den A h s * den A h s)) * ee A h s x) = del A h s / den A h s := by
    rw [del_eq, Finset.sum_div]
    refine Finset.sum_congr rfl fun x _ => ?_
    unfold ww
    field_simp
  rw [e]
  unfold ds ww
  field_simp
  ring

end Cert.FoxReal
-- ==== Proof.PreCut.lean ====
module

public import proofs.«01_k».proof.Proof.Gen.KernelIdeal.Frame
public import Idealize.ShloMosaic.Lib.StableHlo.RunRead

@[expose] public section

set_option maxRecDepth 16384

noncomputable section

/-! What the host lines before the call make, cut at the quantities that later lines read. -/

namespace Cert.KernelIdeal.Hand

open Cert.KernelIdeal Cert.KernelIdeal.Gen Idealize.ShloMosaic Idealize.ShloMosaic.TcCoe

/-- three columns side by side -/
def cat3 {F : FTy → Type} [FloatOps F] [Named F] (u0 u1 u2 : FVec F S4096x12x1 .f32) : FVec F S4096x12x3 .f32 :=
  (concatenate S4096x12x3 2 [⟨S4096x12x1, u0⟩, ⟨S4096x12x1, u1⟩, ⟨S4096x12x1, u2⟩] concatenates_S4096x12x1_S4096x12x1_S4096x12x1_S4096x12x3_d2 : (⟨S4096x12x3, .f32⟩ : BufTy).Contents (Elt F))

/-- a head's slab: 64 columns, three, three, and 58 -/
def cat4 {F : FTy → Type} [FloatOps F] [Named F] (u0 : FVec F S4096x12x64 .f32) (u1 u2 : FVec F S4096x12x3 .f32) (u3 : FVec F S4096x12x58 .f32) : FVec F S4096x12x128 .f32 :=
  (concatenate S4096x12x128 2 [⟨S4096x12x64, u0⟩, ⟨S4096x12x3, u1⟩, ⟨S4096x12x3, u2⟩, ⟨S4096x12x58, u3⟩] concatenates_S4096x12x64_S4096x12x3_S4096x12x3_S4096x12x58_S4096x12x128_d2 : (⟨S4096x12x128, .f32⟩ : BufTy).Contents (Elt F))

/-- the concatenation that makes v57 -/
def fn_main_v57 {F : FTy → Type} [FloatOps F] [Named F] : (main_v52 : Ref sig .tc).ty.Contents (Elt F) → (main_v54 : Ref sig .tc).ty.Contents (Elt F) → (main_v56 : Ref sig .tc).ty.Contents (Elt F) → (main_v57 : Ref sig .tc).ty.Contents (Elt F) :=
  fun u0 u1 u2 => cat3 u0 u1 u2

/-- the concatenation that makes v59 -/
def fn_main_v59 {F : FTy → Type} [FloatOps F] [Named F] : (main_v1 : Ref sig .tc).ty.Contents (Elt F) → (main_v57 : Ref sig .tc).ty.Contents (Elt F) → (main_v41 : Ref sig .tc).ty.Contents (Elt F) → (main_v58 : Ref sig .tc).ty.Contents (Elt F) → (main_v59 : Ref sig .tc).ty.Contents (Elt F) :=
  fun u0 u1 u2 u3 => cat4 u0 u1 u2 u3

/-- the concatenation that makes v76 -/
def fn_main_v76 {F : FTy → Type} [FloatOps F] [Named F] : (main_v71 : Ref sig .tc).ty.Contents (Elt F) → (main_v73 : Ref sig .tc).ty.Contents (Elt F) → (main_v75 : Ref sig .tc).ty.Contents (Elt F) → (main_v76 : Ref sig .tc).ty.Contents (Elt F) :=
  fun u0 u1 u2 => cat3 u0 u1 u2

/-- the concatenation that makes v78 -/
def fn_main_v78 {F : FTy → Type} [FloatOps F] [Named F] : (main_v3 : Ref sig .tc).ty.Contents (Elt F) → (main_v41 : Ref sig .tc).ty.Contents (Elt F) → (main_v76 : Ref sig .tc).ty.Contents (Elt F) → (main_v77 : Ref sig .tc).ty.Contents (Elt F) → (main_v78 : Ref sig .tc).ty.Contents (Elt F) :=
  fun u0 u1 u2 u3 => cat4 u0 u1 u2 u3

/-- the concatenation that makes v82 -/
def fn_main_v82 {F : FTy → Type} [FloatOps F] [Named F] : (main_v5 : Ref sig .tc).ty.Contents (Elt F) → (main_v41 : Ref sig .tc).ty.Contents (Elt F) → (main_v42 : Ref sig .tc).ty.Contents (Elt F) → (main_v81 : Ref sig .tc).ty.Contents (Elt F) → (main_v82 : Ref sig .tc).ty.Contents (Elt F) :=
  fun u0 u1 u2 u3 => cat4 u0 u1 u2 u3

/-- the concatenation that makes v99 -/
def fn_main_v99 {F : FTy → Type} [FloatOps F] [Named F] : (main_v94 : Ref sig .tc).ty.Contents (Elt F) → (main_v96 : Ref sig .tc).ty.Contents (Elt F) → (main_v98 : Ref sig .tc).ty.Contents (Elt F) → (main_v99 : Ref sig .tc).ty.Contents (Elt F) :=
  fun u0 u1 u2 => cat3 u0 u1 u2

/-- the concatenation that makes v101 -/
def fn_main_v101 {F : FTy → Type} [FloatOps F] [Named F] : (main_arg4 : Ref sig .tc).ty.Contents (Elt F) → (main_v99 : Ref sig .tc).ty.Contents (Elt F) → (main_v42 : Ref sig .tc).ty.Contents (Elt F) → (main_v100 : Ref sig .tc).ty.Contents (Elt F) → (main_v101 : Ref sig .tc).ty.Contents (Elt F) :=
  fun u0 u1 u2 u3 => cat4 u0 u1 u2 u3

/-- q -/
def k1 (a0 a1 a2 : FVec Ideal S4096x12x64 .f32) (a3 : FVec Ideal S4096x12 .f32) (a4 : FVec Ideal S4096x12x64 .f32) : FVec Ideal S4096x12x64 .f32 :=
  ((extf .f32 · bitsLt_bf16_f32) : FVec Ideal S4096x12x64 .bf16 → FVec Ideal S4096x12x64 .f32) (((truncf .bf16 · bitsLt_bf16_f32) : FVec Ideal S4096x12x64 .f32 → FVec Ideal S4096x12x64 .bf16) a0)

/-- k -/
def k3 (a0 a1 a2 : FVec Ideal S4096x12x64 .f32) (a3 : FVec Ideal S4096x12 .f32) (a4 : FVec Ideal S4096x12x64 .f32) : FVec Ideal S4096x12x64 .f32 :=
  ((extf .f32 · bitsLt_bf16_f32) : FVec Ideal S4096x12x64 .bf16 → FVec Ideal S4096x12x64 .f32) (((truncf .bf16 · bitsLt_bf16_f32) : FVec Ideal S4096x12x64 .f32 → FVec Ideal S4096x12x64 .bf16) a1)

/-- v -/
def k5 (a0 a1 a2 : FVec Ideal S4096x12x64 .f32) (a3 : FVec Ideal S4096x12 .f32) (a4 : FVec Ideal S4096x12x64 .f32) : FVec Ideal S4096x12x64 .f32 :=
  ((extf .f32 · bitsLt_bf16_f32) : FVec Ideal S4096x12x64 .bf16 → FVec Ideal S4096x12x64 .f32) (((truncf .bf16 · bitsLt_bf16_f32) : FVec Ideal S4096x12x64 .f32 → FVec Ideal S4096x12x64 .bf16) a2)

/-- the mask -/
def kmask (a0 a1 a2 : FVec Ideal S4096x12x64 .f32) (a3 : FVec Ideal S4096x12 .f32) (a4 : FVec Ideal S4096x12x64 .f32) : IVec S12x4096x4096 1 :=
  ((broadcastInDim S12x4096x4096 ![0, 1, 2] bcast_S1x4096x4096_S12x4096x4096_0_1_2) : IVec S1x4096x4096 1 → IVec S12x4096x4096 1) ((broadcastInDim S1x4096x4096 ![1, 2] bcast_S4096x4096_S1x4096x4096_1_2 : IVec S4096x4096 1 → IVec S1x4096x4096 1) ((cmpi .sle : IVec S4096x4096 32 → IVec S4096x4096 32 → IVec S4096x4096 1) ((broadcastInDim S4096x4096 ![0, 1] bcast_S1x4096_S4096x4096_0_1 : IVec S1x4096 32 → IVec S4096x4096 32) ((broadcastInDim S1x4096 ![1] bcast_S4096_S1x4096_1 : IVec S4096 32 → IVec S1x4096 32) ((iotaInDim S4096 32 0) ))) ((broadcastInDim S4096x4096 ![0, 1] bcast_S4096x1_S4096x4096_0_1 : IVec S4096x1 32 → IVec S4096x4096 32) ((broadcastInDim S4096x1 ![0] bcast_S4096_S4096x1_0 : IVec S4096 32 → IVec S4096x1 32) ((iotaInDim S4096 32 0) )))))

/-- the masked scores -/
def k23 (a0 a1 a2 : FVec Ideal S4096x12x64 .f32) (a3 : FVec Ideal S4096x12 .f32) (a4 : FVec Ideal S4096x12x64 .f32) : FVec Ideal S12x4096x4096 .f32 :=
  (select : IVec S12x4096x4096 1 → FVec Ideal S12x4096x4096 .f32 → FVec Ideal S12x4096x4096 .f32 → FVec Ideal S12x4096x4096 .f32) (kmask a0 a1 a2 a3 a4) ((subf : FVec Ideal S12x4096x4096 .f32 → FVec Ideal S12x4096x4096 .f32 → FVec Ideal S12x4096x4096 .f32) ((addf : FVec Ideal S12x4096x4096 .f32 → FVec Ideal S12x4096x4096 .f32 → FVec Ideal S12x4096x4096 .f32) (((fun l r => Host.dotGeneral dot_S4096x12x64_S4096x12x64_S12x4096x4096_2_2_0_0_1_1 none l r) : FVec Ideal S4096x12x64 .f32 → FVec Ideal S4096x12x64 .f32 → FVec Ideal S12x4096x4096 .f32) (k1 a0 a1 a2 a3 a4) (k3 a0 a1 a2 a3 a4)) ((broadcastInDim S12x4096x4096 ![0, 1, 2] bcast_S12x4096x1_S12x4096x4096_0_1_2 : FVec Ideal S12x4096x1 .f32 → FVec Ideal S12x4096x4096 .f32) ((broadcastInDim S12x4096x1 ![0, 1] bcast_S12x4096_S12x4096x1_0_1 : FVec Ideal S12x4096 .f32 → FVec Ideal S12x4096x1 .f32) (((transpose S12x4096 [1, 0] · transposes_S4096x12_S12x4096_1_0) : FVec Ideal S4096x12 .f32 → FVec Ideal S12x4096 .f32) a3)))) ((broadcastInDim S12x4096x4096 ![0, 1, 2] bcast_S12x1x4096_S12x4096x4096_0_1_2 : FVec Ideal S12x1x4096 .f32 → FVec Ideal S12x4096x4096 .f32) ((broadcastInDim S12x1x4096 ![0, 2] bcast_S12x4096_S12x1x4096_0_2 : FVec Ideal S12x4096 .f32 → FVec Ideal S12x1x4096 .f32) (((transpose S12x4096 [1, 0] · transposes_S4096x12_S12x4096_1_0) : FVec Ideal S4096x12 .f32 → FVec Ideal S12x4096 .f32) a3)))) (((broadcastInDim S12x4096x4096 ![] bcast_S_S12x4096x4096) : FVec Ideal S_ .f32 → FVec Ideal S12x4096x4096 .f32) ((id : FVec Ideal S_ .f32 → FVec Ideal S_ .f32) ((constant S_ .f32 0xFF800000#32) )))

/-- their row maxima -/
def k24 (a0 a1 a2 : FVec Ideal S4096x12x64 .f32) (a3 : FVec Ideal S4096x12 .f32) (a4 : FVec Ideal S4096x12x64 .f32) : FVec Ideal S12x4096 .f32 :=
  ((fun x v => Host.reduce FloatOps.maximumf x v reducesTo_S12x4096x4096_S12x4096_d2 h_S_) : FVec Ideal S12x4096x4096 .f32 → FVec Ideal S_ .f32 → FVec Ideal S12x4096 .f32) (k23 a0 a1 a2 a3 a4) ((constant S_ .f32 0xFF800000#32) )

/-- the exponentials -/
def k28 (a0 a1 a2 : FVec Ideal S4096x12x64 .f32) (a3 : FVec Ideal S4096x12 .f32) (a4 : FVec Ideal S4096x12x64 .f32) : FVec Ideal S12x4096x4096 .f32 :=
  (Host.exp : FVec Ideal S12x4096x4096 .f32 → FVec Ideal S12x4096x4096 .f32) ((subf : FVec Ideal S12x4096x4096 .f32 → FVec Ideal S12x4096x4096 .f32 → FVec Ideal S12x4096x4096 .f32) (k23 a0 a1 a2 a3 a4) ((broadcastInDim S12x4096x4096 ![0, 1, 2] bcast_S12x4096x1_S12x4096x4096_0_1_2 : FVec Ideal S12x4096x1 .f32 → FVec Ideal S12x4096x4096 .f32) ((broadcastInDim S12x4096x1 ![0, 1] bcast_S12x4096_S12x4096x1_0_1 : FVec Ideal S12x4096 .f32 → FVec Ideal S12x4096x1 .f32) (k24 a0 a1 a2 a3 a4))))

/-- their row sums -/
def k29 (a0 a1 a2 : FVec Ideal S4096x12x64 .f32) (a3 : FVec Ideal S4096x12 .f32) (a4 : FVec Ideal S4096x12x64 .f32) : FVec Ideal S12x4096 .f32 :=
  ((fun x v => Host.reduceAdd x v reducesTo_S12x4096x4096_S12x4096_d2 h_S_) : FVec Ideal S12x4096x4096 .f32 → FVec Ideal S_ .f32 → FVec Ideal S12x4096 .f32) (k28 a0 a1 a2 a3 a4) ((constant S_ .f32 0x00000000#32) )

/-- the log-sums -/
def k34 (a0 a1 a2 : FVec Ideal S4096x12x64 .f32) (a3 : FVec Ideal S4096x12 .f32) (a4 : FVec Ideal S4096x12x64 .f32) : FVec Ideal S4096x12 .f32 :=
  ((transpose S4096x12 [1, 0] · transposes_S12x4096_S4096x12_1_0) : FVec Ideal S12x4096 .f32 → FVec Ideal S4096x12 .f32) (shapeCast S12x4096 ((addf : FVec Ideal S12x4096x1 .f32 → FVec Ideal S12x4096x1 .f32 → FVec Ideal S12x4096x1 .f32) ((broadcastInDim S12x4096x1 ![0, 1] bcast_S12x4096_S12x4096x1_0_1 : FVec Ideal S12x4096 .f32 → FVec Ideal S12x4096x1 .f32) (k24 a0 a1 a2 a3 a4)) ((Host.log : FVec Ideal S12x4096x1 .f32 → FVec Ideal S12x4096x1 .f32) ((broadcastInDim S12x4096x1 ![0, 1] bcast_S12x4096_S12x4096x1_0_1 : FVec Ideal S12x4096 .f32 → FVec Ideal S12x4096x1 .f32) (k29 a0 a1 a2 a3 a4)))) shapeCasts_S12x4096x1_S12x4096)

/-- the weights -/
def k36 (a0 a1 a2 : FVec Ideal S4096x12x64 .f32) (a3 : FVec Ideal S4096x12 .f32) (a4 : FVec Ideal S4096x12x64 .f32) : FVec Ideal S12x4096x4096 .f32 :=
  (Host.divf : FVec Ideal S12x4096x4096 .f32 → FVec Ideal S12x4096x4096 .f32 → FVec Ideal S12x4096x4096 .f32) (k28 a0 a1 a2 a3 a4) ((broadcastInDim S12x4096x4096 ![0, 1, 2] bcast_S12x4096x1_S12x4096x4096_0_1_2 : FVec Ideal S12x4096x1 .f32 → FVec Ideal S12x4096x4096 .f32) ((broadcastInDim S12x4096x1 ![0, 1] bcast_S12x4096_S12x4096x1_0_1 : FVec Ideal S12x4096 .f32 → FVec Ideal S12x4096x1 .f32) (k29 a0 a1 a2 a3 a4)))

/-- the output -/
def k38 (a0 a1 a2 : FVec Ideal S4096x12x64 .f32) (a3 : FVec Ideal S4096x12 .f32) (a4 : FVec Ideal S4096x12x64 .f32) : FVec Ideal S4096x12x64 .f32 :=
  ((transpose S4096x12x64 [2, 0, 1] · transposes_S12x64x4096_S4096x12x64_2_0_1) : FVec Ideal S12x64x4096 .f32 → FVec Ideal S4096x12x64 .f32) (((fun l r => Host.dotGeneral dot_S4096x12x64_S12x4096x4096_S12x64x4096_0_2_2_1_1_0 none l r) : FVec Ideal S4096x12x64 .f32 → FVec Ideal S12x4096x4096 .f32 → FVec Ideal S12x64x4096 .f32) (k5 a0 a1 a2 a3 a4) (k36 a0 a1 a2 a3 a4))

/-- dy against the output -/
def k40 (a0 a1 a2 : FVec Ideal S4096x12x64 .f32) (a3 : FVec Ideal S4096x12 .f32) (a4 : FVec Ideal S4096x12x64 .f32) : FVec Ideal S4096x12 .f32 :=
  ((fun x v => Host.reduceAdd x v reducesTo_S4096x12x64_S4096x12_d2 h_S_) : FVec Ideal S4096x12x64 .f32 → FVec Ideal S_ .f32 → FVec Ideal S4096x12 .f32) ((mulf : FVec Ideal S4096x12x64 .f32 → FVec Ideal S4096x12x64 .f32 → FVec Ideal S4096x12x64 .f32) a4 (k38 a0 a1 a2 a3 a4)) ((constant S_ .f32 0x00000000#32) )

/-- c less the log-sums -/
def k43 (a0 a1 a2 : FVec Ideal S4096x12x64 .f32) (a3 : FVec Ideal S4096x12 .f32) (a4 : FVec Ideal S4096x12x64 .f32) : FVec Ideal S4096x12 .f32 :=
  (subf : FVec Ideal S4096x12 .f32 → FVec Ideal S4096x12 .f32 → FVec Ideal S4096x12 .f32) a3 (k34 a0 a1 a2 a3 a4)

/-- the three parts of it -/
def k57 (a0 a1 a2 : FVec Ideal S4096x12x64 .f32) (a3 : FVec Ideal S4096x12 .f32) (a4 : FVec Ideal S4096x12x64 .f32) : FVec Ideal S4096x12x3 .f32 :=
  cat3 (F := Ideal) ((broadcastInDim S4096x12x1 ![0, 1] bcast_S4096x12_S4096x12x1_0_1 : FVec Ideal S4096x12 .f32 → FVec Ideal S4096x12x1 .f32) (((extf .f32 · bitsLt_bf16_f32) : FVec Ideal S4096x12 .bf16 → FVec Ideal S4096x12 .f32) (((truncf .bf16 · bitsLt_bf16_f32) : FVec Ideal S4096x12 .f32 → FVec Ideal S4096x12 .bf16) (k43 a0 a1 a2 a3 a4)))) ((broadcastInDim S4096x12x1 ![0, 1] bcast_S4096x12_S4096x12x1_0_1 : FVec Ideal S4096x12 .f32 → FVec Ideal S4096x12x1 .f32) (((extf .f32 · bitsLt_bf16_f32) : FVec Ideal S4096x12 .bf16 → FVec Ideal S4096x12 .f32) (((truncf .bf16 · bitsLt_bf16_f32) : FVec Ideal S4096x12 .f32 → FVec Ideal S4096x12 .bf16) ((subf : FVec Ideal S4096x12 .f32 → FVec Ideal S4096x12 .f32 → FVec Ideal S4096x12 .f32) (k43 a0 a1 a2 a3 a4) (((extf .f32 · bitsLt_bf16_f32) : FVec Ideal S4096x12 .bf16 → FVec Ideal S4096x12 .f32) (((truncf .bf16 · bitsLt_bf16_f32) : FVec Ideal S4096x12 .f32 → FVec Ideal S4096x12 .bf16) (k43 a0 a1 a2 a3 a4))))))) ((broadcastInDim S4096x12x1 ![0, 1] bcast_S4096x12_S4096x12x1_0_1 : FVec Ideal S4096x12 .f32 → FVec Ideal S4096x12x1 .f32) (((extf .f32 · bitsLt_bf16_f32) : FVec Ideal S4096x12 .bf16 → FVec Ideal S4096x12 .f32) (((truncf .bf16 · bitsLt_bf16_f32) : FVec Ideal S4096x12 .f32 → FVec Ideal S4096x12 .bf16) ((subf : FVec Ideal S4096x12 .f32 → FVec Ideal S4096x12 .f32 → FVec Ideal S4096x12 .f32) ((subf : FVec Ideal S4096x12 .f32 → FVec Ideal S4096x12 .f32 → FVec Ideal S4096x12 .f32) (k43 a0 a1 a2 a3 a4) (((extf .f32 · bitsLt_bf16_f32) : FVec Ideal S4096x12 .bf16 → FVec Ideal S4096x12 .f32) (((truncf .bf16 · bitsLt_bf16_f32) : FVec Ideal S4096x12 .f32 → FVec Ideal S4096x12 .bf16) (k43 a0 a1 a2 a3 a4)))) (((extf .f32 · bitsLt_bf16_f32) : FVec Ideal S4096x12 .bf16 → FVec Ideal S4096x12 .f32) (((truncf .bf16 · bitsLt_bf16_f32) : FVec Ideal S4096x12 .f32 → FVec Ideal S4096x12 .bf16) ((subf : FVec Ideal S4096x12 .f32 → FVec Ideal S4096x12 .f32 → FVec Ideal S4096x12 .f32) (k43 a0 a1 a2 a3 a4) (((extf .f32 · bitsLt_bf16_f32) : FVec Ideal S4096x12 .bf16 → FVec Ideal S4096x12 .f32) (((truncf .bf16 · bitsLt_bf16_f32) : FVec Ideal S4096x12 .f32 → FVec Ideal S4096x12 .bf16) (k43 a0 a1 a2 a3 a4))))))))))

/-- the queries' slabs -/
def k61 (a0 a1 a2 : FVec Ideal S4096x12x64 .f32) (a3 : FVec Ideal S4096x12 .f32) (a4 : FVec Ideal S4096x12x64 .f32) : FVec Ideal S4096x1536 .bf16 :=
  ((truncf .bf16 · bitsLt_bf16_f32) : FVec Ideal S4096x1536 .f32 → FVec Ideal S4096x1536 .bf16) (shapeCast S4096x1536 (cat4 (F := Ideal) (k1 a0 a1 a2 a3 a4) (k57 a0 a1 a2 a3 a4) ((broadcastInDim S4096x12x3 ![] bcast_S_S4096x12x3 : FVec Ideal S_ .f32 → FVec Ideal S4096x12x3 .f32) ((constant S_ .f32 0x3F800000#32) )) ((broadcastInDim S4096x12x58 ![] bcast_S_S4096x12x58 : FVec Ideal S_ .f32 → FVec Ideal S4096x12x58 .f32) ((constant S_ .f32 0x00000000#32) ))) shapeCasts_S4096x12x128_S4096x1536)

/-- the three parts of -c -/
def k76 (a0 a1 a2 : FVec Ideal S4096x12x64 .f32) (a3 : FVec Ideal S4096x12 .f32) (a4 : FVec Ideal S4096x12x64 .f32) : FVec Ideal S4096x12x3 .f32 :=
  cat3 (F := Ideal) ((broadcastInDim S4096x12x1 ![0, 1] bcast_S4096x12_S4096x12x1_0_1 : FVec Ideal S4096x12 .f32 → FVec Ideal S4096x12x1 .f32) (((extf .f32 · bitsLt_bf16_f32) : FVec Ideal S4096x12 .bf16 → FVec Ideal S4096x12 .f32) (((truncf .bf16 · bitsLt_bf16_f32) : FVec Ideal S4096x12 .f32 → FVec Ideal S4096x12 .bf16) ((Host.negf : FVec Ideal S4096x12 .f32 → FVec Ideal S4096x12 .f32) a3)))) ((broadcastInDim S4096x12x1 ![0, 1] bcast_S4096x12_S4096x12x1_0_1 : FVec Ideal S4096x12 .f32 → FVec Ideal S4096x12x1 .f32) (((extf .f32 · bitsLt_bf16_f32) : FVec Ideal S4096x12 .bf16 → FVec Ideal S4096x12 .f32) (((truncf .bf16 · bitsLt_bf16_f32) : FVec Ideal S4096x12 .f32 → FVec Ideal S4096x12 .bf16) ((subf : FVec Ideal S4096x12 .f32 → FVec Ideal S4096x12 .f32 → FVec Ideal S4096x12 .f32) ((Host.negf : FVec Ideal S4096x12 .f32 → FVec Ideal S4096x12 .f32) a3) (((extf .f32 · bitsLt_bf16_f32) : FVec Ideal S4096x12 .bf16 → FVec Ideal S4096x12 .f32) (((truncf .bf16 · bitsLt_bf16_f32) : FVec Ideal S4096x12 .f32 → FVec Ideal S4096x12 .bf16) ((Host.negf : FVec Ideal S4096x12 .f32 → FVec Ideal S4096x12 .f32) a3))))))) ((broadcastInDim S4096x12x1 ![0, 1] bcast_S4096x12_S4096x12x1_0_1 : FVec Ideal S4096x12 .f32 → FVec Ideal S4096x12x1 .f32) (((extf .f32 · bitsLt_bf16_f32) : FVec Ideal S4096x12 .bf16 → FVec Ideal S4096x12 .f32) (((truncf .bf16 · bitsLt_bf16_f32) : FVec Ideal S4096x12 .f32 → FVec Ideal S4096x12 .bf16) ((subf : FVec Ideal S4096x12 .f32 → FVec Ideal S4096x12 .f32 → FVec Ideal S4096x12 .f32) ((subf : FVec Ideal S4096x12 .f32 → FVec Ideal S4096x12 .f32 → FVec Ideal S4096x12 .f32) ((Host.negf : FVec Ideal S4096x12 .f32 → FVec Ideal S4096x12 .f32) a3) (((extf .f32 · bitsLt_bf16_f32) : FVec Ideal S4096x12 .bf16 → FVec Ideal S4096x12 .f32) (((truncf .bf16 · bitsLt_bf16_f32) : FVec Ideal S4096x12 .f32 → FVec Ideal S4096x12 .bf16) ((Host.negf : FVec Ideal S4096x12 .f32 → FVec Ideal S4096x12 .f32) a3)))) (((extf .f32 · bitsLt_bf16_f32) : FVec Ideal S4096x12 .bf16 → FVec Ideal S4096x12 .f32) (((truncf .bf16 · bitsLt_bf16_f32) : FVec Ideal S4096x12 .f32 → FVec Ideal S4096x12 .bf16) ((subf : FVec Ideal S4096x12 .f32 → FVec Ideal S4096x12 .f32 → FVec Ideal S4096x12 .f32) ((Host.negf : FVec Ideal S4096x12 .f32 → FVec Ideal S4096x12 .f32) a3) (((extf .f32 · bitsLt_bf16_f32) : FVec Ideal S4096x12 .bf16 → FVec Ideal S4096x12 .f32) (((truncf .bf16 · bitsLt_bf16_f32) : FVec Ideal S4096x12 .f32 → FVec Ideal S4096x12 .bf16) ((Host.negf : FVec Ideal S4096x12 .f32 → FVec Ideal S4096x12 .f32) a3))))))))))

/-- the keys' slabs -/
def k80 (a0 a1 a2 : FVec Ideal S4096x12x64 .f32) (a3 : FVec Ideal S4096x12 .f32) (a4 : FVec Ideal S4096x12x64 .f32) : FVec Ideal S4096x1536 .bf16 :=
  ((truncf .bf16 · bitsLt_bf16_f32) : FVec Ideal S4096x1536 .f32 → FVec Ideal S4096x1536 .bf16) (shapeCast S4096x1536 (cat4 (F := Ideal) (k3 a0 a1 a2 a3 a4) ((broadcastInDim S4096x12x3 ![] bcast_S_S4096x12x3 : FVec Ideal S_ .f32 → FVec Ideal S4096x12x3 .f32) ((constant S_ .f32 0x3F800000#32) )) (k76 a0 a1 a2 a3 a4) ((broadcastInDim S4096x12x58 ![] bcast_S_S4096x12x58 : FVec Ideal S_ .f32 → FVec Ideal S4096x12x58 .f32) ((constant S_ .f32 0x00000000#32) ))) shapeCasts_S4096x12x128_S4096x1536)

/-- the values' slabs -/
def k84 (a0 a1 a2 : FVec Ideal S4096x12x64 .f32) (a3 : FVec Ideal S4096x12 .f32) (a4 : FVec Ideal S4096x12x64 .f32) : FVec Ideal S4096x1536 .bf16 :=
  ((truncf .bf16 · bitsLt_bf16_f32) : FVec Ideal S4096x1536 .f32 → FVec Ideal S4096x1536 .bf16) (shapeCast S4096x1536 (cat4 (F := Ideal) (k5 a0 a1 a2 a3 a4) ((broadcastInDim S4096x12x3 ![] bcast_S_S4096x12x3 : FVec Ideal S_ .f32 → FVec Ideal S4096x12x3 .f32) ((constant S_ .f32 0x3F800000#32) )) ((broadcastInDim S4096x12x3 ![] bcast_S_S4096x12x3 : FVec Ideal S_ .f32 → FVec Ideal S4096x12x3 .f32) ((constant S_ .f32 0x00000000#32) )) ((broadcastInDim S4096x12x58 ![] bcast_S_S4096x12x58 : FVec Ideal S_ .f32 → FVec Ideal S4096x12x58 .f32) ((constant S_ .f32 0x00000000#32) ))) shapeCasts_S4096x12x128_S4096x1536)

/-- the three parts of -delta -/
def k99 (a0 a1 a2 : FVec Ideal S4096x12x64 .f32) (a3 : FVec Ideal S4096x12 .f32) (a4 : FVec Ideal S4096x12x64 .f32) : FVec Ideal S4096x12x3 .f32 :=
  cat3 (F := Ideal) ((broadcastInDim S4096x12x1 ![0, 1] bcast_S4096x12_S4096x12x1_0_1 : FVec Ideal S4096x12 .f32 → FVec Ideal S4096x12x1 .f32) (((extf .f32 · bitsLt_bf16_f32) : FVec Ideal S4096x12 .bf16 → FVec Ideal S4096x12 .f32) (((truncf .bf16 · bitsLt_bf16_f32) : FVec Ideal S4096x12 .f32 → FVec Ideal S4096x12 .bf16) ((Host.negf : FVec Ideal S4096x12 .f32 → FVec Ideal S4096x12 .f32) (k40 a0 a1 a2 a3 a4))))) ((broadcastInDim S4096x12x1 ![0, 1] bcast_S4096x12_S4096x12x1_0_1 : FVec Ideal S4096x12 .f32 → FVec Ideal S4096x12x1 .f32) (((extf .f32 · bitsLt_bf16_f32) : FVec Ideal S4096x12 .bf16 → FVec Ideal S4096x12 .f32) (((truncf .bf16 · bitsLt_bf16_f32) : FVec Ideal S4096x12 .f32 → FVec Ideal S4096x12 .bf16) ((subf : FVec Ideal S4096x12 .f32 → FVec Ideal S4096x12 .f32 → FVec Ideal S4096x12 .f32) ((Host.negf : FVec Ideal S4096x12 .f32 → FVec Ideal S4096x12 .f32) (k40 a0 a1 a2 a3 a4)) (((extf .f32 · bitsLt_bf16_f32) : FVec Ideal S4096x12 .bf16 → FVec Ideal S4096x12 .f32) (((truncf .bf16 · bitsLt_bf16_f32) : FVec Ideal S4096x12 .f32 → FVec Ideal S4096x12 .bf16) ((Host.negf : FVec Ideal S4096x12 .f32 → FVec Ideal S4096x12 .f32) (k40 a0 a1 a2 a3 a4)))))))) ((broadcastInDim S4096x12x1 ![0, 1] bcast_S4096x12_S4096x12x1_0_1 : FVec Ideal S4096x12 .f32 → FVec Ideal S4096x12x1 .f32) (((extf .f32 · bitsLt_bf16_f32) : FVec Ideal S4096x12 .bf16 → FVec Ideal S4096x12 .f32) (((truncf .bf16 · bitsLt_bf16_f32) : FVec Ideal S4096x12 .f32 → FVec Ideal S4096x12 .bf16) ((subf : FVec Ideal S4096x12 .f32 → FVec Ideal S4096x12 .f32 → FVec Ideal S4096x12 .f32) ((subf : FVec Ideal S4096x12 .f32 → FVec Ideal S4096x12 .f32 → FVec Ideal S4096x12 .f32) ((Host.negf : FVec Ideal S4096x12 .f32 → FVec Ideal S4096x12 .f32) (k40 a0 a1 a2 a3 a4)) (((extf .f32 · bitsLt_bf16_f32) : FVec Ideal S4096x12 .bf16 → FVec Ideal S4096x12 .f32) (((truncf .bf16 · bitsLt_bf16_f32) : FVec Ideal S4096x12 .f32 → FVec Ideal S4096x12 .bf16) ((Host.negf : FVec Ideal S4096x12 .f32 → FVec Ideal S4096x12 .f32) (k40 a0 a1 a2 a3 a4))))) (((extf .f32 · bitsLt_bf16_f32) : FVec Ideal S4096x12 .bf16 → FVec Ideal S4096x12 .f32) (((truncf .bf16 · bitsLt_bf16_f32) : FVec Ideal S4096x12 .f32 → FVec Ideal S4096x12 .bf16) ((subf : FVec Ideal S4096x12 .f32 → FVec Ideal S4096x12 .f32 → FVec Ideal S4096x12 .f32) ((Host.negf : FVec Ideal S4096x12 .f32 → FVec Ideal S4096x12 .f32) (k40 a0 a1 a2 a3 a4)) (((extf .f32 · bitsLt_bf16_f32) : FVec Ideal S4096x12 .bf16 → FVec Ideal S4096x12 .f32) (((truncf .bf16 · bitsLt_bf16_f32) : FVec Ideal S4096x12 .f32 → FVec Ideal S4096x12 .bf16) ((Host.negf : FVec Ideal S4096x12 .f32 → FVec Ideal S4096x12 .f32) (k40 a0 a1 a2 a3 a4)))))))))))

/-- the slabs of dy -/
def k103 (a0 a1 a2 : FVec Ideal S4096x12x64 .f32) (a3 : FVec Ideal S4096x12 .f32) (a4 : FVec Ideal S4096x12x64 .f32) : FVec Ideal S4096x1536 .bf16 :=
  ((truncf .bf16 · bitsLt_bf16_f32) : FVec Ideal S4096x1536 .f32 → FVec Ideal S4096x1536 .bf16) (shapeCast S4096x1536 (cat4 (F := Ideal) a4 (k99 a0 a1 a2 a3 a4) ((broadcastInDim S4096x12x3 ![] bcast_S_S4096x12x3 : FVec Ideal S_ .f32 → FVec Ideal S4096x12x3 .f32) ((constant S_ .f32 0x00000000#32) )) ((broadcastInDim S4096x12x58 ![] bcast_S_S4096x12x58 : FVec Ideal S_ .f32 → FVec Ideal S4096x12x58 .f32) ((constant S_ .f32 0x00000000#32) ))) shapeCasts_S4096x12x128_S4096x1536)

/-- the queries' slabs, transposed -/
def k104 (a0 a1 a2 : FVec Ideal S4096x12x64 .f32) (a3 : FVec Ideal S4096x12 .f32) (a4 : FVec Ideal S4096x12x64 .f32) : FVec Ideal S1536x4096 .bf16 :=
  ((transpose S1536x4096 [1, 0] · transposes_S4096x1536_S1536x4096_1_0) : FVec Ideal S4096x1536 .bf16 → FVec Ideal S1536x4096 .bf16) (k61 a0 a1 a2 a3 a4)

/-- the keys' slabs, transposed -/
def k105 (a0 a1 a2 : FVec Ideal S4096x12x64 .f32) (a3 : FVec Ideal S4096x12 .f32) (a4 : FVec Ideal S4096x12x64 .f32) : FVec Ideal S1536x4096 .bf16 :=
  ((transpose S1536x4096 [1, 0] · transposes_S4096x1536_S1536x4096_1_0) : FVec Ideal S4096x1536 .bf16 → FVec Ideal S1536x4096 .bf16) (k80 a0 a1 a2 a3 a4)

/-- the slabs of dy, transposed -/
def k106 (a0 a1 a2 : FVec Ideal S4096x12x64 .f32) (a3 : FVec Ideal S4096x12 .f32) (a4 : FVec Ideal S4096x12x64 .f32) : FVec Ideal S1536x4096 .bf16 :=
  ((transpose S1536x4096 [1, 0] · transposes_S4096x1536_S1536x4096_1_0) : FVec Ideal S4096x1536 .bf16 → FVec Ideal S1536x4096 .bf16) (k103 a0 a1 a2 a3 a4)

set_option maxHeartbeats 40000000 in
/-- The host lines before the call, the concatenations by name. -/
abbrev preOps {F : FTy → Type} [FloatOps F] [Named F] : List (HloOp τ sig (Elt F)) :=
    [ StableHlo.unary main_arg0 main_v0 ((truncf .bf16 · bitsLt_bf16_f32) : (⟨S4096x12x64, .f32⟩ : BufTy).Contents (Elt F) → (⟨S4096x12x64, .bf16⟩ : BufTy).Contents (Elt F)),
    StableHlo.unary main_v0 main_v1 ((extf .f32 · bitsLt_bf16_f32) : (⟨S4096x12x64, .bf16⟩ : BufTy).Contents (Elt F) → (⟨S4096x12x64, .f32⟩ : BufTy).Contents (Elt F)),
    StableHlo.unary main_arg1 main_v2 ((truncf .bf16 · bitsLt_bf16_f32) : (⟨S4096x12x64, .f32⟩ : BufTy).Contents (Elt F) → (⟨S4096x12x64, .bf16⟩ : BufTy).Contents (Elt F)),
    StableHlo.unary main_v2 main_v3 ((extf .f32 · bitsLt_bf16_f32) : (⟨S4096x12x64, .bf16⟩ : BufTy).Contents (Elt F) → (⟨S4096x12x64, .f32⟩ : BufTy).Contents (Elt F)),
    StableHlo.unary main_arg2 main_v4 ((truncf .bf16 · bitsLt_bf16_f32) : (⟨S4096x12x64, .f32⟩ : BufTy).Contents (Elt F) → (⟨S4096x12x64, .bf16⟩ : BufTy).Contents (Elt F)),
    StableHlo.unary main_v4 main_v5 ((extf .f32 · bitsLt_bf16_f32) : (⟨S4096x12x64, .bf16⟩ : BufTy).Contents (Elt F) → (⟨S4096x12x64, .f32⟩ : BufTy).Contents (Elt F)),
    StableHlo.binary main_v1 main_v3 main_v6 ((fun l r => Host.dotGeneral dot_S4096x12x64_S4096x12x64_S12x4096x4096_2_2_0_0_1_1 none l r) : (⟨S4096x12x64, .f32⟩ : BufTy).Contents (Elt F) → (⟨S4096x12x64, .f32⟩ : BufTy).Contents (Elt F) → (⟨S12x4096x4096, .f32⟩ : BufTy).Contents (Elt F)),
    StableHlo.unary main_arg3 main_v7 ((transpose S12x4096 [1, 0] · transposes_S4096x12_S12x4096_1_0) : (⟨S4096x12, .f32⟩ : BufTy).Contents (Elt F) → (⟨S12x4096, .f32⟩ : BufTy).Contents (Elt F)),
    StableHlo.unary main_v7 main_v8 (broadcastInDim S12x4096x1 ![0, 1] bcast_S12x4096_S12x4096x1_0_1 : (⟨S12x4096, .f32⟩ : BufTy).Contents (Elt F) → (⟨S12x4096x1, .f32⟩ : BufTy).Contents (Elt F)),
    StableHlo.unary main_v8 main_v9 (broadcastInDim S12x4096x4096 ![0, 1, 2] bcast_S12x4096x1_S12x4096x4096_0_1_2 : (⟨S12x4096x1, .f32⟩ : BufTy).Contents (Elt F) → (⟨S12x4096x4096, .f32⟩ : BufTy).Contents (Elt F)),
    StableHlo.binary main_v6 main_v9 main_v10 (addf : (⟨S12x4096x4096, .f32⟩ : BufTy).Contents (Elt F) → (⟨S12x4096x4096, .f32⟩ : BufTy).Contents (Elt F) → (⟨S12x4096x4096, .f32⟩ : BufTy).Contents (Elt F)),
    StableHlo.unary main_arg3 main_v11 ((transpose S12x4096 [1, 0] · transposes_S4096x12_S12x4096_1_0) : (⟨S4096x12, .f32⟩ : BufTy).Contents (Elt F) → (⟨S12x4096, .f32⟩ : BufTy).Contents (Elt F)),
    StableHlo.unary main_v11 main_v12 (broadcastInDim S12x1x4096 ![0, 2] bcast_S12x4096_S12x1x4096_0_2 : (⟨S12x4096, .f32⟩ : BufTy).Contents (Elt F) → (⟨S12x1x4096, .f32⟩ : BufTy).Contents (Elt F)),
    StableHlo.unary main_v12 main_v13 (broadcastInDim S12x4096x4096 ![0, 1, 2] bcast_S12x1x4096_S12x4096x4096_0_1_2 : (⟨S12x1x4096, .f32⟩ : BufTy).Contents (Elt F) → (⟨S12x4096x4096, .f32⟩ : BufTy).Contents (Elt F)),
    StableHlo.binary main_v10 main_v13 main_v14 (subf : (⟨S12x4096x4096, .f32⟩ : BufTy).Contents (Elt F) → (⟨S12x4096x4096, .f32⟩ : BufTy).Contents (Elt F) → (⟨S12x4096x4096, .f32⟩ : BufTy).Contents (Elt F)),
    StableHlo.nullary main_v15 (iotaInDim S4096 32 0),
    StableHlo.unary main_v15 main_v16 (broadcastInDim S1x4096 ![1] bcast_S4096_S1x4096_1 : (⟨S4096, .i32⟩ : BufTy).Contents (Elt F) → (⟨S1x4096, .i32⟩ : BufTy).Contents (Elt F)),
    StableHlo.nullary main_v17 (iotaInDim S4096 32 0),
    StableHlo.unary main_v17 main_v18 (broadcastInDim S4096x1 ![0] bcast_S4096_S4096x1_0 : (⟨S4096, .i32⟩ : BufTy).Contents (Elt F) → (⟨S4096x1, .i32⟩ : BufTy).Contents (Elt F)),
    StableHlo.unary main_v16 main_v19 (broadcastInDim S4096x4096 ![0, 1] bcast_S1x4096_S4096x4096_0_1 : (⟨S1x4096, .i32⟩ : BufTy).Contents (Elt F) → (⟨S4096x4096, .i32⟩ : BufTy).Contents (Elt F)),
    StableHlo.unary main_v18 main_v20 (broadcastInDim S4096x4096 ![0, 1] bcast_S4096x1_S4096x4096_0_1 : (⟨S4096x1, .i32⟩ : BufTy).Contents (Elt F) → (⟨S4096x4096, .i32⟩ : BufTy).Contents (Elt F)),
    StableHlo.binary main_v19 main_v20 main_v21 (cmpi .sle : (⟨S4096x4096, .i32⟩ : BufTy).Contents (Elt F) → (⟨S4096x4096, .i32⟩ : BufTy).Contents (Elt F) → (⟨S4096x4096, .i1⟩ : BufTy).Contents (Elt F)),
    StableHlo.unary main_v21 main_v22 (broadcastInDim S1x4096x4096 ![1, 2] bcast_S4096x4096_S1x4096x4096_1_2 : (⟨S4096x4096, .i1⟩ : BufTy).Contents (Elt F) → (⟨S1x4096x4096, .i1⟩ : BufTy).Contents (Elt F)),
    StableHlo.nullary main_cst (constant S_ .f32 0xFF800000#32) ] ++   [ StableHlo.TRef.unary (.of main_cst : StableHlo.TRef sig ⟨S_, .f32⟩) (.of main_call0_v0 : StableHlo.TRef sig ⟨S_, .f32⟩) id,
    StableHlo.TRef.unary (.of main_v22 : StableHlo.TRef sig ⟨S1x4096x4096, .i1⟩) (.of main_call0_v1 : StableHlo.TRef sig ⟨S12x4096x4096, .i1⟩) (broadcastInDim S12x4096x4096 ![0, 1, 2] bcast_S1x4096x4096_S12x4096x4096_0_1_2),
    StableHlo.TRef.unary (.of main_call0_v0 : StableHlo.TRef sig ⟨S_, .f32⟩) (.of main_call0_v2 : StableHlo.TRef sig ⟨S12x4096x4096, .f32⟩) (broadcastInDim S12x4096x4096 ![] bcast_S_S12x4096x4096),
    StableHlo.TRef.ternary (.of main_call0_v1 : StableHlo.TRef sig ⟨S12x4096x4096, .i1⟩) (.of main_v14 : StableHlo.TRef sig ⟨S12x4096x4096, .f32⟩) (.of main_call0_v2 : StableHlo.TRef sig ⟨S12x4096x4096, .f32⟩) (.of main_v23 : StableHlo.TRef sig ⟨S12x4096x4096, .f32⟩) select ] ++   ( StableHlo.nullary main_cst_0 (constant S_ .f32 0xFF800000#32)
  :: StableHlo.binary main_v23 main_cst_0 main_v24 ((fun x v => Host.reduce FloatOps.maximumf x v reducesTo_S12x4096x4096_S12x4096_d2 h_S_) : (⟨S12x4096x4096, .f32⟩ : BufTy).Contents (Elt F) → (⟨S_, .f32⟩ : BufTy).Contents (Elt F) → (⟨S12x4096, .f32⟩ : BufTy).Contents (Elt F))
  :: StableHlo.unary main_v24 main_v25 (broadcastInDim S12x4096x1 ![0, 1] bcast_S12x4096_S12x4096x1_0_1 : (⟨S12x4096, .f32⟩ : BufTy).Contents (Elt F) → (⟨S12x4096x1, .f32⟩ : BufTy).Contents (Elt F))
  :: StableHlo.unary main_v25 main_v26 (broadcastInDim S12x4096x4096 ![0, 1, 2] bcast_S12x4096x1_S12x4096x4096_0_1_2 : (⟨S12x4096x1, .f32⟩ : BufTy).Contents (Elt F) → (⟨S12x4096x4096, .f32⟩ : BufTy).Contents (Elt F))
  :: StableHlo.binary main_v23 main_v26 main_v27 (subf : (⟨S12x4096x4096, .f32⟩ : BufTy).Contents (Elt F) → (⟨S12x4096x4096, .f32⟩ : BufTy).Contents (Elt F) → (⟨S12x4096x4096, .f32⟩ : BufTy).Contents (Elt F))
  :: StableHlo.unary main_v27 main_v28 (Host.exp : (⟨S12x4096x4096, .f32⟩ : BufTy).Contents (Elt F) → (⟨S12x4096x4096, .f32⟩ : BufTy).Contents (Elt F))
  :: StableHlo.nullary main_cst_1 (constant S_ .f32 0x00000000#32)
  :: StableHlo.binary main_v28 main_cst_1 main_v29 ((fun x v => Host.reduceAdd x v reducesTo_S12x4096x4096_S12x4096_d2 h_S_) : (⟨S12x4096x4096, .f32⟩ : BufTy).Contents (Elt F) → (⟨S_, .f32⟩ : BufTy).Contents (Elt F) → (⟨S12x4096, .f32⟩ : BufTy).Contents (Elt F))
  :: StableHlo.unary main_v29 main_v30 (broadcastInDim S12x4096x1 ![0, 1] bcast_S12x4096_S12x4096x1_0_1 : (⟨S12x4096, .f32⟩ : BufTy).Contents (Elt F) → (⟨S12x4096x1, .f32⟩ : BufTy).Contents (Elt F))
  :: StableHlo.unary main_v30 main_v31 (Host.log : (⟨S12x4096x1, .f32⟩ : BufTy).Contents (Elt F) → (⟨S12x4096x1, .f32⟩ : BufTy).Contents (Elt F))
  :: StableHlo.binary main_v25 main_v31 main_v32 (addf : (⟨S12x4096x1, .f32⟩ : BufTy).Contents (Elt F) → (⟨S12x4096x1, .f32⟩ : BufTy).Contents (Elt F) → (⟨S12x4096x1, .f32⟩ : BufTy).Contents (Elt F))
  :: StableHlo.reshape main_v32 main_v33 (rfl : (.f32 : EltTy) = .f32) shapeCasts_S12x4096x1_S12x4096
  :: StableHlo.unary main_v33 main_v34 ((transpose S4096x12 [1, 0] · transposes_S12x4096_S4096x12_1_0) : (⟨S12x4096, .f32⟩ : BufTy).Contents (Elt F) → (⟨S4096x12, .f32⟩ : BufTy).Contents (Elt F))
  :: StableHlo.unary main_v30 main_v35 (broadcastInDim S12x4096x4096 ![0, 1, 2] bcast_S12x4096x1_S12x4096x4096_0_1_2 : (⟨S12x4096x1, .f32⟩ : BufTy).Contents (Elt F) → (⟨S12x4096x4096, .f32⟩ : BufTy).Contents (Elt F))
  :: StableHlo.binary main_v28 main_v35 main_v36 (Host.divf : (⟨S12x4096x4096, .f32⟩ : BufTy).Contents (Elt F) → (⟨S12x4096x4096, .f32⟩ : BufTy).Contents (Elt F) → (⟨S12x4096x4096, .f32⟩ : BufTy).Contents (Elt F))
  :: StableHlo.binary main_v5 main_v36 main_v37 ((fun l r => Host.dotGeneral dot_S4096x12x64_S12x4096x4096_S12x64x4096_0_2_2_1_1_0 none l r) : (⟨S4096x12x64, .f32⟩ : BufTy).Contents (Elt F) → (⟨S12x4096x4096, .f32⟩ : BufTy).Contents (Elt F) → (⟨S12x64x4096, .f32⟩ : BufTy).Contents (Elt F))
  :: StableHlo.unary main_v37 main_v38 ((transpose S4096x12x64 [2, 0, 1] · transposes_S12x64x4096_S4096x12x64_2_0_1) : (⟨S12x64x4096, .f32⟩ : BufTy).Contents (Elt F) → (⟨S4096x12x64, .f32⟩ : BufTy).Contents (Elt F))
  :: StableHlo.binary main_arg4 main_v38 main_v39 (mulf : (⟨S4096x12x64, .f32⟩ : BufTy).Contents (Elt F) → (⟨S4096x12x64, .f32⟩ : BufTy).Contents (Elt F) → (⟨S4096x12x64, .f32⟩ : BufTy).Contents (Elt F))
  :: StableHlo.nullary main_cst_2 (constant S_ .f32 0x00000000#32)
  :: StableHlo.binary main_v39 main_cst_2 main_v40 ((fun x v => Host.reduceAdd x v reducesTo_S4096x12x64_S4096x12_d2 h_S_) : (⟨S4096x12x64, .f32⟩ : BufTy).Contents (Elt F) → (⟨S_, .f32⟩ : BufTy).Contents (Elt F) → (⟨S4096x12, .f32⟩ : BufTy).Contents (Elt F))
  :: StableHlo.nullary main_cst_3 (constant S_ .f32 0x3F800000#32)
  :: StableHlo.unary main_cst_3 main_v41 (broadcastInDim S4096x12x3 ![] bcast_S_S4096x12x3 : (⟨S_, .f32⟩ : BufTy).Contents (Elt F) → (⟨S4096x12x3, .f32⟩ : BufTy).Contents (Elt F))
  :: StableHlo.nullary main_cst_4 (constant S_ .f32 0x00000000#32)
  :: StableHlo.unary main_cst_4 main_v42 (broadcastInDim S4096x12x3 ![] bcast_S_S4096x12x3 : (⟨S_, .f32⟩ : BufTy).Contents (Elt F) → (⟨S4096x12x3, .f32⟩ : BufTy).Contents (Elt F))
  :: StableHlo.binary main_arg3 main_v34 main_v43 (subf : (⟨S4096x12, .f32⟩ : BufTy).Contents (Elt F) → (⟨S4096x12, .f32⟩ : BufTy).Contents (Elt F) → (⟨S4096x12, .f32⟩ : BufTy).Contents (Elt F))
  :: StableHlo.unary main_v43 main_v44 ((truncf .bf16 · bitsLt_bf16_f32) : (⟨S4096x12, .f32⟩ : BufTy).Contents (Elt F) → (⟨S4096x12, .bf16⟩ : BufTy).Contents (Elt F))
  :: StableHlo.unary main_v44 main_v45 ((extf .f32 · bitsLt_bf16_f32) : (⟨S4096x12, .bf16⟩ : BufTy).Contents (Elt F) → (⟨S4096x12, .f32⟩ : BufTy).Contents (Elt F))
  :: StableHlo.binary main_v43 main_v45 main_v46 (subf : (⟨S4096x12, .f32⟩ : BufTy).Contents (Elt F) → (⟨S4096x12, .f32⟩ : BufTy).Contents (Elt F) → (⟨S4096x12, .f32⟩ : BufTy).Contents (Elt F))
  :: StableHlo.unary main_v46 main_v47 ((truncf .bf16 · bitsLt_bf16_f32) : (⟨S4096x12, .f32⟩ : BufTy).Contents (Elt F) → (⟨S4096x12, .bf16⟩ : BufTy).Contents (Elt F))
  :: StableHlo.unary main_v47 main_v48 ((extf .f32 · bitsLt_bf16_f32) : (⟨S4096x12, .bf16⟩ : BufTy).Contents (Elt F) → (⟨S4096x12, .f32⟩ : BufTy).Contents (Elt F))
  :: StableHlo.binary main_v46 main_v48 main_v49 (subf : (⟨S4096x12, .f32⟩ : BufTy).Contents (Elt F) → (⟨S4096x12, .f32⟩ : BufTy).Contents (Elt F) → (⟨S4096x12, .f32⟩ : BufTy).Contents (Elt F))
  :: StableHlo.unary main_v49 main_v50 ((truncf .bf16 · bitsLt_bf16_f32) : (⟨S4096x12, .f32⟩ : BufTy).Contents (Elt F) → (⟨S4096x12, .bf16⟩ : BufTy).Contents (Elt F))
  :: StableHlo.unary main_v44 main_v51 ((extf .f32 · bitsLt_bf16_f32) : (⟨S4096x12, .bf16⟩ : BufTy).Contents (Elt F) → (⟨S4096x12, .f32⟩ : BufTy).Contents (Elt F))
  :: StableHlo.unary main_v51 main_v52 (broadcastInDim S4096x12x1 ![0, 1] bcast_S4096x12_S4096x12x1_0_1 : (⟨S4096x12, .f32⟩ : BufTy).Contents (Elt F) → (⟨S4096x12x1, .f32⟩ : BufTy).Contents (Elt F))
  :: StableHlo.unary main_v47 main_v53 ((extf .f32 · bitsLt_bf16_f32) : (⟨S4096x12, .bf16⟩ : BufTy).Contents (Elt F) → (⟨S4096x12, .f32⟩ : BufTy).Contents (Elt F))
  :: StableHlo.unary main_v53 main_v54 (broadcastInDim S4096x12x1 ![0, 1] bcast_S4096x12_S4096x12x1_0_1 : (⟨S4096x12, .f32⟩ : BufTy).Contents (Elt F) → (⟨S4096x12x1, .f32⟩ : BufTy).Contents (Elt F))
  :: StableHlo.unary main_v50 main_v55 ((extf .f32 · bitsLt_bf16_f32) : (⟨S4096x12, .bf16⟩ : BufTy).Contents (Elt F) → (⟨S4096x12, .f32⟩ : BufTy).Contents (Elt F))
  :: StableHlo.unary main_v55 main_v56 (broadcastInDim S4096x12x1 ![0, 1] bcast_S4096x12_S4096x12x1_0_1 : (⟨S4096x12, .f32⟩ : BufTy).Contents (Elt F) → (⟨S4096x12x1, .f32⟩ : BufTy).Contents (Elt F))
  :: StableHlo.nary ![main_v52, main_v54, main_v56] main_v57 (fun u => fn_main_v57 (F := F) (u 0) (u 1) (u 2))
  :: StableHlo.nullary main_cst_5 (constant S_ .f32 0x00000000#32)
  :: StableHlo.unary main_cst_5 main_v58 (broadcastInDim S4096x12x58 ![] bcast_S_S4096x12x58 : (⟨S_, .f32⟩ : BufTy).Contents (Elt F) → (⟨S4096x12x58, .f32⟩ : BufTy).Contents (Elt F))
  :: StableHlo.nary ![main_v1, main_v57, main_v41, main_v58] main_v59 (fun u => fn_main_v59 (F := F) (u 0) (u 1) (u 2) (u 3))
  :: StableHlo.reshape main_v59 main_v60 (rfl : (.f32 : EltTy) = .f32) shapeCasts_S4096x12x128_S4096x1536
  :: StableHlo.unary main_v60 main_v61 ((truncf .bf16 · bitsLt_bf16_f32) : (⟨S4096x1536, .f32⟩ : BufTy).Contents (Elt F) → (⟨S4096x1536, .bf16⟩ : BufTy).Contents (Elt F))
  :: StableHlo.unary main_arg3 main_v62 (Host.negf : (⟨S4096x12, .f32⟩ : BufTy).Contents (Elt F) → (⟨S4096x12, .f32⟩ : BufTy).Contents (Elt F))
  :: StableHlo.unary main_v62 main_v63 ((truncf .bf16 · bitsLt_bf16_f32) : (⟨S4096x12, .f32⟩ : BufTy).Contents (Elt F) → (⟨S4096x12, .bf16⟩ : BufTy).Contents (Elt F))
  :: StableHlo.unary main_v63 main_v64 ((extf .f32 · bitsLt_bf16_f32) : (⟨S4096x12, .bf16⟩ : BufTy).Contents (Elt F) → (⟨S4096x12, .f32⟩ : BufTy).Contents (Elt F))
  :: StableHlo.binary main_v62 main_v64 main_v65 (subf : (⟨S4096x12, .f32⟩ : BufTy).Contents (Elt F) → (⟨S4096x12, .f32⟩ : BufTy).Contents (Elt F) → (⟨S4096x12, .f32⟩ : BufTy).Contents (Elt F))
  :: StableHlo.unary main_v65 main_v66 ((truncf .bf16 · bitsLt_bf16_f32) : (⟨S4096x12, .f32⟩ : BufTy).Contents (Elt F) → (⟨S4096x12, .bf16⟩ : BufTy).Contents (Elt F))
  :: StableHlo.unary main_v66 main_v67 ((extf .f32 · bitsLt_bf16_f32) : (⟨S4096x12, .bf16⟩ : BufTy).Contents (Elt F) → (⟨S4096x12, .f32⟩ : BufTy).Contents (Elt F))
  :: StableHlo.binary main_v65 main_v67 main_v68 (subf : (⟨S4096x12, .f32⟩ : BufTy).Contents (Elt F) → (⟨S4096x12, .f32⟩ : BufTy).Contents (Elt F) → (⟨S4096x12, .f32⟩ : BufTy).Contents (Elt F))
  :: StableHlo.unary main_v68 main_v69 ((truncf .bf16 · bitsLt_bf16_f32) : (⟨S4096x12, .f32⟩ : BufTy).Contents (Elt F) → (⟨S4096x12, .bf16⟩ : BufTy).Contents (Elt F))
  :: StableHlo.unary main_v63 main_v70 ((extf .f32 · bitsLt_bf16_f32) : (⟨S4096x12, .bf16⟩ : BufTy).Contents (Elt F) → (⟨S4096x12, .f32⟩ : BufTy).Contents (Elt F))
  :: StableHlo.unary main_v70 main_v71 (broadcastInDim S4096x12x1 ![0, 1] bcast_S4096x12_S4096x12x1_0_1 : (⟨S4096x12, .f32⟩ : BufTy).Contents (Elt F) → (⟨S4096x12x1, .f32⟩ : BufTy).Contents (Elt F))
  :: StableHlo.unary main_v66 main_v72 ((extf .f32 · bitsLt_bf16_f32) : (⟨S4096x12, .bf16⟩ : BufTy).Contents (Elt F) → (⟨S4096x12, .f32⟩ : BufTy).Contents (Elt F))
  :: StableHlo.unary main_v72 main_v73 (broadcastInDim S4096x12x1 ![0, 1] bcast_S4096x12_S4096x12x1_0_1 : (⟨S4096x12, .f32⟩ : BufTy).Contents (Elt F) → (⟨S4096x12x1, .f32⟩ : BufTy).Contents (Elt F))
  :: StableHlo.unary main_v69 main_v74 ((extf .f32 · bitsLt_bf16_f32) : (⟨S4096x12, .bf16⟩ : BufTy).Contents (Elt F) → (⟨S4096x12, .f32⟩ : BufTy).Contents (Elt F))
  :: StableHlo.unary main_v74 main_v75 (broadcastInDim S4096x12x1 ![0, 1] bcast_S4096x12_S4096x12x1_0_1 : (⟨S4096x12, .f32⟩ : BufTy).Contents (Elt F) → (⟨S4096x12x1, .f32⟩ : BufTy).Contents (Elt F))
  :: StableHlo.nary ![main_v71, main_v73, main_v75] main_v76 (fun u => fn_main_v76 (F := F) (u 0) (u 1) (u 2))
  :: StableHlo.nullary main_cst_6 (constant S_ .f32 0x00000000#32)
  :: StableHlo.unary main_cst_6 main_v77 (broadcastInDim S4096x12x58 ![] bcast_S_S4096x12x58 : (⟨S_, .f32⟩ : BufTy).Contents (Elt F) → (⟨S4096x12x58, .f32⟩ : BufTy).Contents (Elt F))
  :: StableHlo.nary ![main_v3, main_v41, main_v76, main_v77] main_v78 (fun u => fn_main_v78 (F := F) (u 0) (u 1) (u 2) (u 3))
  :: StableHlo.reshape main_v78 main_v79 (rfl : (.f32 : EltTy) = .f32) shapeCasts_S4096x12x128_S4096x1536
  :: StableHlo.unary main_v79 main_v80 ((truncf .bf16 · bitsLt_bf16_f32) : (⟨S4096x1536, .f32⟩ : BufTy).Contents (Elt F) → (⟨S4096x1536, .bf16⟩ : BufTy).Contents (Elt F))
  :: StableHlo.nullary main_cst_7 (constant S_ .f32 0x00000000#32)
  :: StableHlo.unary main_cst_7 main_v81 (broadcastInDim S4096x12x58 ![] bcast_S_S4096x12x58 : (⟨S_, .f32⟩ : BufTy).Contents (Elt F) → (⟨S4096x12x58, .f32⟩ : BufTy).Contents (Elt F))
  :: StableHlo.nary ![main_v5, main_v41, main_v42, main_v81] main_v82 (fun u => fn_main_v82 (F := F) (u 0) (u 1) (u 2) (u 3))
  :: StableHlo.reshape main_v82 main_v83 (rfl : (.f32 : EltTy) = .f32) shapeCasts_S4096x12x128_S4096x1536
  :: StableHlo.unary main_v83 main_v84 ((truncf .bf16 · bitsLt_bf16_f32) : (⟨S4096x1536, .f32⟩ : BufTy).Contents (Elt F) → (⟨S4096x1536, .bf16⟩ : BufTy).Contents (Elt F))
  :: StableHlo.unary main_v40 main_v85 (Host.negf : (⟨S4096x12, .f32⟩ : BufTy).Contents (Elt F) → (⟨S4096x12, .f32⟩ : BufTy).Contents (Elt F))
  :: StableHlo.unary main_v85 main_v86 ((truncf .bf16 · bitsLt_bf16_f32) : (⟨S4096x12, .f32⟩ : BufTy).Contents (Elt F) → (⟨S4096x12, .bf16⟩ : BufTy).Contents (Elt F))
  :: StableHlo.unary main_v86 main_v87 ((extf .f32 · bitsLt_bf16_f32) : (⟨S4096x12, .bf16⟩ : BufTy).Contents (Elt F) → (⟨S4096x12, .f32⟩ : BufTy).Contents (Elt F))
  :: StableHlo.binary main_v85 main_v87 main_v88 (subf : (⟨S4096x12, .f32⟩ : BufTy).Contents (Elt F) → (⟨S4096x12, .f32⟩ : BufTy).Contents (Elt F) → (⟨S4096x12, .f32⟩ : BufTy).Contents (Elt F))
  :: StableHlo.unary main_v88 main_v89 ((truncf .bf16 · bitsLt_bf16_f32) : (⟨S4096x12, .f32⟩ : BufTy).Contents (Elt F) → (⟨S4096x12, .bf16⟩ : BufTy).Contents (Elt F))
  :: StableHlo.unary main_v89 main_v90 ((extf .f32 · bitsLt_bf16_f32) : (⟨S4096x12, .bf16⟩ : BufTy).Contents (Elt F) → (⟨S4096x12, .f32⟩ : BufTy).Contents (Elt F))
  :: StableHlo.binary main_v88 main_v90 main_v91 (subf : (⟨S4096x12, .f32⟩ : BufTy).Contents (Elt F) → (⟨S4096x12, .f32⟩ : BufTy).Contents (Elt F) → (⟨S4096x12, .f32⟩ : BufTy).Contents (Elt F))
  :: StableHlo.unary main_v91 main_v92 ((truncf .bf16 · bitsLt_bf16_f32) : (⟨S4096x12, .f32⟩ : BufTy).Contents (Elt F) → (⟨S4096x12, .bf16⟩ : BufTy).Contents (Elt F))
  :: StableHlo.unary main_v86 main_v93 ((extf .f32 · bitsLt_bf16_f32) : (⟨S4096x12, .bf16⟩ : BufTy).Contents (Elt F) → (⟨S4096x12, .f32⟩ : BufTy).Contents (Elt F))
  :: StableHlo.unary main_v93 main_v94 (broadcastInDim S4096x12x1 ![0, 1] bcast_S4096x12_S4096x12x1_0_1 : (⟨S4096x12, .f32⟩ : BufTy).Contents (Elt F) → (⟨S4096x12x1, .f32⟩ : BufTy).Contents (Elt F))
  :: StableHlo.unary main_v89 main_v95 ((extf .f32 · bitsLt_bf16_f32) : (⟨S4096x12, .bf16⟩ : BufTy).Contents (Elt F) → (⟨S4096x12, .f32⟩ : BufTy).Contents (Elt F))
  :: StableHlo.unary main_v95 main_v96 (broadcastInDim S4096x12x1 ![0, 1] bcast_S4096x12_S4096x12x1_0_1 : (⟨S4096x12, .f32⟩ : BufTy).Contents (Elt F) → (⟨S4096x12x1, .f32⟩ : BufTy).Contents (Elt F))
  :: StableHlo.unary main_v92 main_v97 ((extf .f32 · bitsLt_bf16_f32) : (⟨S4096x12, .bf16⟩ : BufTy).Contents (Elt F) → (⟨S4096x12, .f32⟩ : BufTy).Contents (Elt F))
  :: StableHlo.unary main_v97 main_v98 (broadcastInDim S4096x12x1 ![0, 1] bcast_S4096x12_S4096x12x1_0_1 : (⟨S4096x12, .f32⟩ : BufTy).Contents (Elt F) → (⟨S4096x12x1, .f32⟩ : BufTy).Contents (Elt F))
  :: StableHlo.nary ![main_v94, main_v96, main_v98] main_v99 (fun u => fn_main_v99 (F := F) (u 0) (u 1) (u 2))
  :: StableHlo.nullary main_cst_8 (constant S_ .f32 0x00000000#32)
  :: StableHlo.unary main_cst_8 main_v100 (broadcastInDim S4096x12x58 ![] bcast_S_S4096x12x58 : (⟨S_, .f32⟩ : BufTy).Contents (Elt F) → (⟨S4096x12x58, .f32⟩ : BufTy).Contents (Elt F))
  :: StableHlo.nary ![main_arg4, main_v99, main_v42, main_v100] main_v101 (fun u => fn_main_v101 (F := F) (u 0) (u 1) (u 2) (u 3))
  :: StableHlo.reshape main_v101 main_v102 (rfl : (.f32 : EltTy) = .f32) shapeCasts_S4096x12x128_S4096x1536
  :: StableHlo.unary main_v102 main_v103 ((truncf .bf16 · bitsLt_bf16_f32) : (⟨S4096x1536, .f32⟩ : BufTy).Contents (Elt F) → (⟨S4096x1536, .bf16⟩ : BufTy).Contents (Elt F))
  :: StableHlo.unary main_v61 main_v104 ((transpose S1536x4096 [1, 0] · transposes_S4096x1536_S1536x4096_1_0) : (⟨S4096x1536, .bf16⟩ : BufTy).Contents (Elt F) → (⟨S1536x4096, .bf16⟩ : BufTy).Contents (Elt F))
  :: StableHlo.unary main_v80 main_v105 ((transpose S1536x4096 [1, 0] · transposes_S4096x1536_S1536x4096_1_0) : (⟨S4096x1536, .bf16⟩ : BufTy).Contents (Elt F) → (⟨S1536x4096, .bf16⟩ : BufTy).Contents (Elt F))
  :: StableHlo.unary main_v103 main_v106 ((transpose S1536x4096 [1, 0] · transposes_S4096x1536_S1536x4096_1_0) : (⟨S4096x1536, .bf16⟩ : BufTy).Contents (Elt F) → (⟨S1536x4096, .bf16⟩ : BufTy).Contents (Elt F))
  :: [] )

set_option maxHeartbeats 40000000 in
theorem V_pre (m : (ℓ : Loc nD τ sig) → Buf (Elt Ideal) ℓ) (c : Dev nD) (b : Ref sig .tc) :
    V m c b = StableHlo.after preOps (fun b => m (c, b)) b := rfl

set_option maxHeartbeats 8000000 in
/-- The array v103 before the call. -/
theorem V103 (m : (ℓ : Loc nD τ sig) → Buf (Elt Ideal) ℓ) (c : Dev nD) :
    (V m c main_v103 : S4096x1536.Idx → EReal) = k103 (m ((c : Thread nD τ).loc main_arg0)) (m ((c : Thread nD τ).loc main_arg1)) (m ((c : Thread nD τ).loc main_arg2)) (m ((c : Thread nD τ).loc main_arg3)) (m ((c : Thread nD τ).loc main_arg4)) := by
  rw [V_pre]
  simp only [preOps, List.cons_append, List.nil_append, StableHlo.TRef.unary, StableHlo.TRef.ternary, StableHlo.TRef.toBuf, StableHlo.TRef.ofBuf, cast_eq]
  after_reads_simp <;> (try dsimp only [Matrix.cons_val]) <;> (try after_reads_simp) <;> (try dsimp only [Matrix.cons_val]) <;> (try after_reads_simp)
  simp only [k1, k3, k5, kmask, k23, k24, k28, k29, k34, k36, k38, k40, k43, k57, k61, k76, k80, k84, k99, k103, k104, k105, k106, fn_main_v57, fn_main_v59, fn_main_v76, fn_main_v78, fn_main_v82, fn_main_v99, fn_main_v101]
  try rfl

set_option maxHeartbeats 8000000 in
/-- The array v61 before the call. -/
theorem V61 (m : (ℓ : Loc nD τ sig) → Buf (Elt Ideal) ℓ) (c : Dev nD) :
    (V m c main_v61 : S4096x1536.Idx → EReal) = k61 (m ((c : Thread nD τ).loc main_arg0)) (m ((c : Thread nD τ).loc main_arg1)) (m ((c : Thread nD τ).loc main_arg2)) (m ((c : Thread nD τ).loc main_arg3)) (m ((c : Thread nD τ).loc main_arg4)) := by
  rw [V_pre]
  simp only [preOps, List.cons_append, List.nil_append, StableHlo.TRef.unary, StableHlo.TRef.ternary, StableHlo.TRef.toBuf, StableHlo.TRef.ofBuf, cast_eq]
  after_reads_simp <;> (try dsimp only [Matrix.cons_val]) <;> (try after_reads_simp) <;> (try dsimp only [Matrix.cons_val]) <;> (try after_reads_simp)
  simp only [k1, k3, k5, kmask, k23, k24, k28, k29, k34, k36, k38, k40, k43, k57, k61, k76, k80, k84, k99, k103, k104, k105, k106, fn_main_v57, fn_main_v59, fn_main_v76, fn_main_v78, fn_main_v82, fn_main_v99, fn_main_v101]
  try rfl

set_option maxHeartbeats 8000000 in
/-- The array v80 before the call. -/
theorem V80 (m : (ℓ : Loc nD τ sig) → Buf (Elt Ideal) ℓ) (c : Dev nD) :
    (V m c main_v80 : S4096x1536.Idx → EReal) = k80 (m ((c : Thread nD τ).loc main_arg0)) (m ((c : Thread nD τ).loc main_arg1)) (m ((c : Thread nD τ).loc main_arg2)) (m ((c : Thread nD τ).loc main_arg3)) (m ((c : Thread nD τ).loc main_arg4)) := by
  rw [V_pre]
  simp only [preOps, List.cons_append, List.nil_append, StableHlo.TRef.unary, StableHlo.TRef.ternary, StableHlo.TRef.toBuf, StableHlo.TRef.ofBuf, cast_eq]
  after_reads_simp <;> (try dsimp only [Matrix.cons_val]) <;> (try after_reads_simp) <;> (try dsimp only [Matrix.cons_val]) <;> (try after_reads_simp)
  simp only [k1, k3, k5, kmask, k23, k24, k28, k29, k34, k36, k38, k40, k43, k57, k61, k76, k80, k84, k99, k103, k104, k105, k106, fn_main_v57, fn_main_v59, fn_main_v76, fn_main_v78, fn_main_v82, fn_main_v99, fn_main_v101]
  try rfl

set_option maxHeartbeats 8000000 in
/-- The array v84 before the call. -/
theorem V84 (m : (ℓ : Loc nD τ sig) → Buf (Elt Ideal) ℓ) (c : Dev nD) :
    (V m c main_v84 : S4096x1536.Idx → EReal) = k84 (m ((c : Thread nD τ).loc main_arg0)) (m ((c : Thread nD τ).loc main_arg1)) (m ((c : Thread nD τ).loc main_arg2)) (m ((c : Thread nD τ).loc main_arg3)) (m ((c : Thread nD τ).loc main_arg4)) := by
  rw [V_pre]
  simp only [preOps, List.cons_append, List.nil_append, StableHlo.TRef.unary, StableHlo.TRef.ternary, StableHlo.TRef.toBuf, StableHlo.TRef.ofBuf, cast_eq]
  after_reads_simp <;> (try dsimp only [Matrix.cons_val]) <;> (try after_reads_simp) <;> (try dsimp only [Matrix.cons_val]) <;> (try after_reads_simp)
  simp only [k1, k3, k5, kmask, k23, k24, k28, k29, k34, k36, k38, k40, k43, k57, k61, k76, k80, k84, k99, k103, k104, k105, k106, fn_main_v57, fn_main_v59, fn_main_v76, fn_main_v78, fn_main_v82, fn_main_v99, fn_main_v101]
  try rfl

set_option maxHeartbeats 8000000 in
/-- The array v104 before the call. -/
theorem V104 (m : (ℓ : Loc nD τ sig) → Buf (Elt Ideal) ℓ) (c : Dev nD) :
    (V m c main_v104 : S1536x4096.Idx → EReal) = k104 (m ((c : Thread nD τ).loc main_arg0)) (m ((c : Thread nD τ).loc main_arg1)) (m ((c : Thread nD τ).loc main_arg2)) (m ((c : Thread nD τ).loc main_arg3)) (m ((c : Thread nD τ).loc main_arg4)) := by
  rw [V_pre]
  simp only [preOps, List.cons_append, List.nil_append, StableHlo.TRef.unary, StableHlo.TRef.ternary, StableHlo.TRef.toBuf, StableHlo.TRef.ofBuf, cast_eq]
  after_reads_simp <;> (try dsimp only [Matrix.cons_val]) <;> (try after_reads_simp) <;> (try dsimp only [Matrix.cons_val]) <;> (try after_reads_simp)
  simp only [k1, k3, k5, kmask, k23, k24, k28, k29, k34, k36, k38, k40, k43, k57, k61, k76, k80, k84, k99, k103, k104, k105, k106, fn_main_v57, fn_main_v59, fn_main_v76, fn_main_v78, fn_main_v82, fn_main_v99, fn_main_v101]
  try rfl

set_option maxHeartbeats 8000000 in
/-- The array v105 before the call. -/
theorem V105 (m : (ℓ : Loc nD τ sig) → Buf (Elt Ideal) ℓ) (c : Dev nD) :
    (V m c main_v105 : S1536x4096.Idx → EReal) = k105 (m ((c : Thread nD τ).loc main_arg0)) (m ((c : Thread nD τ).loc main_arg1)) (m ((c : Thread nD τ).loc main_arg2)) (m ((c : Thread nD τ).loc main_arg3)) (m ((c : Thread nD τ).loc main_arg4)) := by
  rw [V_pre]
  simp only [preOps, List.cons_append, List.nil_append, StableHlo.TRef.unary, StableHlo.TRef.ternary, StableHlo.TRef.toBuf, StableHlo.TRef.ofBuf, cast_eq]
  after_reads_simp <;> (try dsimp only [Matrix.cons_val]) <;> (try after_reads_simp) <;> (try dsimp only [Matrix.cons_val]) <;> (try after_reads_simp)
  simp only [k1, k3, k5, kmask, k23, k24, k28, k29, k34, k36, k38, k40, k43, k57, k61, k76, k80, k84, k99, k103, k104, k105, k106, fn_main_v57, fn_main_v59, fn_main_v76, fn_main_v78, fn_main_v82, fn_main_v99, fn_main_v101]
  try rfl

set_option maxHeartbeats 8000000 in
/-- The array v106 before the call. -/
theorem V106 (m : (ℓ : Loc nD τ sig) → Buf (Elt Ideal) ℓ) (c : Dev nD) :
    (V m c main_v106 : S1536x4096.Idx → EReal) = k106 (m ((c : Thread nD τ).loc main_arg0)) (m ((c : Thread nD τ).loc main_arg1)) (m ((c : Thread nD τ).loc main_arg2)) (m ((c : Thread nD τ).loc main_arg3)) (m ((c : Thread nD τ).loc main_arg4)) := by
  rw [V_pre]
  simp only [preOps, List.cons_append, List.nil_append, StableHlo.TRef.unary, StableHlo.TRef.ternary, StableHlo.TRef.toBuf, StableHlo.TRef.ofBuf, cast_eq]
  after_reads_simp <;> (try dsimp only [Matrix.cons_val]) <;> (try after_reads_simp) <;> (try dsimp only [Matrix.cons_val]) <;> (try after_reads_simp)
  simp only [k1, k3, k5, kmask, k23, k24, k28, k29, k34, k36, k38, k40, k43, k57, k61, k76, k80, k84, k99, k103, k104, k105, k106, fn_main_v57, fn_main_v59, fn_main_v76, fn_main_v78, fn_main_v82, fn_main_v99, fn_main_v101]
  try rfl

end Cert.KernelIdeal.Hand

end
-- ==== Proof.PreR1.lean ====
module

public import proofs.«01_k».proof.Proof.PreCut
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (a0 a1 a2 : FVec Ideal S4096x12x64 .f32) (a3 : FVec Ideal S4096x12 .f32) (a4 : FVec Ideal S4096x12x64 .f32)

/-- The word of negative infinity. -/
theorem neg_inf : Ideal.ofBits FTy.f32 0xFF800000#32 = (⊥ : EReal) := by simp [Ideal.ofBits, Ideal.ieee]

/-- q -/
theorem k1_at  (s : Fin 4096) (h : Fin 12) (l : Fin 64) :
    k1 a0 a1 a2 a3 a4 (ix3 s h l) = a0 (ix3 s h l) := by
  unfold k1
  pointwise

/-- k -/
theorem k3_at  (s : Fin 4096) (h : Fin 12) (l : Fin 64) :
    k3 a0 a1 a2 a3 a4 (ix3 s h l) = a1 (ix3 s h l) := by
  unfold k3
  pointwise

/-- v -/
theorem k5_at  (s : Fin 4096) (h : Fin 12) (l : Fin 64) :
    k5 a0 a1 a2 a3 a4 (ix3 s h l) = a2 (ix3 s h l) := by
  unfold k5
  pointwise

set_option maxHeartbeats 1000000 in
/-- The masked scores. -/
theorem k23_at (h : Fin 12) (s t : Fin 4096) :
    k23 a0 a1 a2 a3 a4 (ix3 h s t) = if t.val ≤ s.val then (∑ x : Fin 64, a0 (ix3 s h x) * a1 (ix3 t h x)) + a3 (ix2 s h) - a3 (ix2 t h) else (⊥ : EReal) := by
  unfold k23 kmask k1 k3
  pointwise
  rw [show (id (constant (F := Ideal) S_ FTy.f32 0xFF800000#32) ix0 : EReal) = ⊥ from neg_inf]
  word_cmp
/-- Their row maxima. -/
theorem k24_at (h : Fin 12) (s : Fin 4096) :
    k24 a0 a1 a2 a3 a4 (ix2 h s) = Finset.fold max (⊥ : EReal) (fun x : Fin 4096 => k23 a0 a1 a2 a3 a4 (ix3 h s x)) Finset.univ := by
  unfold k24
  generalize k23 a0 a1 a2 a3 a4 = g0
  pointwise
  rw [neg_inf]
/-- The exponentials. -/
theorem k28_at (h : Fin 12) (s t : Fin 4096) :
    k28 a0 a1 a2 a3 a4 (ix3 h s t) = Ideal.exp (k23 a0 a1 a2 a3 a4 (ix3 h s t) - k24 a0 a1 a2 a3 a4 (ix2 h s)) := by
  unfold k28
  generalize k23 a0 a1 a2 a3 a4 = g0
  generalize k24 a0 a1 a2 a3 a4 = g1
  pointwise

/-- Their row sums. -/
theorem k29_at (h : Fin 12) (s : Fin 4096) :
    k29 a0 a1 a2 a3 a4 (ix2 h s) = ∑ x : Fin 4096, k28 a0 a1 a2 a3 a4 (ix3 h s x) := by
  unfold k29
  generalize k28 a0 a1 a2 a3 a4 = g0
  pointwise

end Cert.KernelIdeal.Hand
-- ==== Proof.PreR2.lean ====
module

public import proofs.«01_k».proof.Proof.PreCut
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (a0 a1 a2 : FVec Ideal S4096x12x64 .f32) (a3 : FVec Ideal S4096x12 .f32) (a4 : FVec Ideal S4096x12x64 .f32)

/-- A row quantity kept as a column, flattened and read. -/
theorem keep_at (X : FVec Ideal S12x4096x1 .f32) (h : Fin 12) (s : Fin 4096) :
    (shapeCast S12x4096 X shapeCasts_S12x4096x1_S12x4096 : FVec Ideal S12x4096 .f32) (ix2 h s) = X (ix3 h s 0) := by
  pointwise

/-- Turned and read. -/
theorem turn_at (X : FVec Ideal S12x4096 .f32) (h : Fin 12) (s : Fin 4096) :
    (transpose S4096x12 [1, 0] X transposes_S12x4096_S4096x12_1_0 : FVec Ideal S4096x12 .f32) (ix2 s h) = X (ix2 h s) := by
  pointwise

/-- A maximum plus a logarithm, columns. -/
theorem lse_at (g0 g1 : FVec Ideal S12x4096 .f32) (h : Fin 12) (s : Fin 4096) (z : Fin 1) :
    (addf (broadcastInDim S12x4096x1 ![0, 1] bcast_S12x4096_S12x4096x1_0_1 g0) (Host.log (broadcastInDim S12x4096x1 ![0, 1] bcast_S12x4096_S12x4096x1_0_1 g1)) : FVec Ideal S12x4096x1 .f32) (ix3 h s z) = (g0 (ix2 h s) : EReal) + Ideal.log (g1 (ix2 h s)) := by
  pointwise

/-- The log-sums. -/
theorem k34_at (h : Fin 12) (s : Fin 4096) :
    k34 a0 a1 a2 a3 a4 (ix2 s h) = k24 a0 a1 a2 a3 a4 (ix2 h s) + Ideal.log (k29 a0 a1 a2 a3 a4 (ix2 h s)) :=
  (turn_at _ h s).trans ((keep_at _ h s).trans (lse_at _ _ h s 0))

/-- The weights. -/
theorem k36_at (h : Fin 12) (s t : Fin 4096) :
    k36 a0 a1 a2 a3 a4 (ix3 h s t) = Ideal.div (k28 a0 a1 a2 a3 a4 (ix3 h s t)) (k29 a0 a1 a2 a3 a4 (ix2 h s)) := by
  unfold k36
  generalize k28 a0 a1 a2 a3 a4 = g0
  generalize k29 a0 a1 a2 a3 a4 = g1
  pointwise

/-- The output. -/
theorem k38_at (h : Fin 12) (s : Fin 4096) (l : Fin 64) :
    k38 a0 a1 a2 a3 a4 (ix3 s h l) = ∑ x : Fin 4096, k5 a0 a1 a2 a3 a4 (ix3 x h l) * k36 a0 a1 a2 a3 a4 (ix3 h s x) := by
  unfold k38
  generalize k5 a0 a1 a2 a3 a4 = g0
  generalize k36 a0 a1 a2 a3 a4 = g1
  pointwise

/-- The output gradient against the output. -/
theorem k40_at (h : Fin 12) (s : Fin 4096) :
    k40 a0 a1 a2 a3 a4 (ix2 s h) = ∑ x : Fin 64, a4 (ix3 s h x) * k38 a0 a1 a2 a3 a4 (ix3 s h x) := by
  unfold k40
  generalize k38 a0 a1 a2 a3 a4 = g0
  pointwise

/-- c less the log-sums. -/
theorem k43_at (h : Fin 12) (s : Fin 4096) :
    k43 a0 a1 a2 a3 a4 (ix2 s h) = a3 (ix2 s h) - k34 a0 a1 a2 a3 a4 (ix2 s h) := by
  unfold k43
  generalize k34 a0 a1 a2 a3 a4 = g0
  pointwise

/-- Its three parts. -/
theorem k57_at (h : Fin 12) (s : Fin 4096) (l : Fin 3) :
    k57 a0 a1 a2 a3 a4 (ix3 s h l) = if l.val < 1 then k43 a0 a1 a2 a3 a4 (ix2 s h) else if l.val - 1 < 1 then k43 a0 a1 a2 a3 a4 (ix2 s h) - k43 a0 a1 a2 a3 a4 (ix2 s h) else k43 a0 a1 a2 a3 a4 (ix2 s h) - k43 a0 a1 a2 a3 a4 (ix2 s h) - (k43 a0 a1 a2 a3 a4 (ix2 s h) - k43 a0 a1 a2 a3 a4 (ix2 s h)) := by
  unfold k57 cat3
  generalize k43 a0 a1 a2 a3 a4 = g0
  pointwise
  split_ifs <;> rfl
end Cert.KernelIdeal.Hand
-- ==== Proof.PreR3.lean ====
module

public import proofs.«01_k».proof.Proof.PreCut
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (a0 a1 a2 : FVec Ideal S4096x12x64 .f32) (a3 : FVec Ideal S4096x12 .f32) (a4 : FVec Ideal S4096x12x64 .f32)

set_option maxHeartbeats 1000000 in
/-- The three parts of -c. -/
theorem k76_at (h : Fin 12) (s : Fin 4096) (l : Fin 3) : k76 a0 a1 a2 a3 a4 (ix3 s h l) = if l.val < 1 then -a3 (ix2 s h) else if l.val - 1 < 1 then -a3 (ix2 s h) - -a3 (ix2 s h) else -a3 (ix2 s h) - -a3 (ix2 s h) - (-a3 (ix2 s h) - -a3 (ix2 s h)) := by
  unfold k76 cat3
  pointwise
  split_ifs <;> rfl

set_option maxHeartbeats 1000000 in
/-- The three parts of -delta. -/
theorem k99_at (h : Fin 12) (s : Fin 4096) (l : Fin 3) : k99 a0 a1 a2 a3 a4 (ix3 s h l) = if l.val < 1 then -k40 a0 a1 a2 a3 a4 (ix2 s h) else if l.val - 1 < 1 then -k40 a0 a1 a2 a3 a4 (ix2 s h) - -k40 a0 a1 a2 a3 a4 (ix2 s h) else -k40 a0 a1 a2 a3 a4 (ix2 s h) - -k40 a0 a1 a2 a3 a4 (ix2 s h) - (-k40 a0 a1 a2 a3 a4 (ix2 s h) - -k40 a0 a1 a2 a3 a4 (ix2 s h)) := by
  unfold k99 cat3
  generalize k40 a0 a1 a2 a3 a4 = g
  pointwise
  split_ifs <;> rfl

/-- A head's slab by columns. -/
theorem cat4_at (u0 : FVec Ideal S4096x12x64 .f32) (u1 u2 : FVec Ideal S4096x12x3 .f32) (u3 : FVec Ideal S4096x12x58 .f32) (h : Fin 12) (s : Fin 4096) :
    (∀ l : Fin 64, cat4 (F := Ideal) u0 u1 u2 u3 (ix3 s h ⟨l.val, by omega⟩) = u0 (ix3 s h l)) ∧
    (∀ l : Fin 3, cat4 (F := Ideal) u0 u1 u2 u3 (ix3 s h ⟨64 + l.val, by omega⟩) = u1 (ix3 s h l)) ∧
    (∀ l : Fin 3, cat4 (F := Ideal) u0 u1 u2 u3 (ix3 s h ⟨67 + l.val, by omega⟩) = u2 (ix3 s h l)) ∧
    (∀ l : Fin 58, cat4 (F := Ideal) u0 u1 u2 u3 (ix3 s h ⟨70 + l.val, by omega⟩) = u3 (ix3 s h l)) := by
  have e : ∀ l : Fin 128, cat4 (F := Ideal) u0 u1 u2 u3 (ix3 s h l) = if h1 : l.val < 64 then u0 (ix3 s h ⟨l.val, h1⟩) else if h2 : l.val - 64 < 3 then u1 (ix3 s h ⟨l.val - 64, h2⟩)
      else if h3 : l.val - 64 - 3 < 3 then u2 (ix3 s h ⟨l.val - 64 - 3, h3⟩) else u3 (ix3 s h ⟨l.val - 64 - 3 - 3, by omega⟩) := by
    intro l
    unfold cat4
    pointwise
  refine ⟨fun l => ?_, fun l => ?_, fun l => ?_, fun l => ?_⟩
  · rw [e, dif_pos l.isLt]
  · rw [e, dif_neg (by dsimp only; omega), dif_pos (by dsimp only; omega)]
    exact congrArg u1 (congrArg (ix3 s h) (Fin.ext (by dsimp only; omega)))
  · rw [e, dif_neg (by dsimp only; omega), dif_neg (by dsimp only; omega), dif_pos (by dsimp only; omega)]
    exact congrArg u2 (congrArg (ix3 s h) (Fin.ext (by dsimp only; omega)))
  · rw [e, dif_neg (by dsimp only; omega), dif_neg (by dsimp only; omega), dif_neg (by dsimp only; omega)]
    exact congrArg u3 (congrArg (ix3 s h) (Fin.ext (by dsimp only; omega)))

/-- Ones, and zeros. -/
theorem ones3 (j) : (broadcastInDim S4096x12x3 ![] bcast_S_S4096x12x3 (constant (F := Ideal) S_ FTy.f32 0x3F800000#32) : FVec Ideal S4096x12x3 .f32) j = (1 : EReal) := by
  idx_vars j; pointwise
theorem zeros3 (j) : (broadcastInDim S4096x12x3 ![] bcast_S_S4096x12x3 (constant (F := Ideal) S_ FTy.f32 0x00000000#32) : FVec Ideal S4096x12x3 .f32) j = (0 : EReal) := by
  idx_vars j; pointwise
theorem zeros58 (j) : (broadcastInDim S4096x12x58 ![] bcast_S_S4096x12x58 (constant (F := Ideal) S_ FTy.f32 0x00000000#32) : FVec Ideal S4096x12x58 .f32) j = (0 : EReal) := by
  idx_vars j; pointwise

set_option maxHeartbeats 1000000 in
/-- The queries' slabs by heads. -/
theorem k61_at (s : Fin 4096) (h : Fin 12) (l : Fin 128) (l' : Fin 1536) (hl : l'.val = 128 * h.val + l.val) :
    (k61 a0 a1 a2 a3 a4 (ix2 s l') : EReal) = cat4 (F := Ideal) (k1 a0 a1 a2 a3 a4) (k57 a0 a1 a2 a3 a4) ((broadcastInDim S4096x12x3 ![] bcast_S_S4096x12x3 (constant (F := Ideal) S_ FTy.f32 0x3F800000#32))) (broadcastInDim S4096x12x58 ![] bcast_S_S4096x12x58 (constant (F := Ideal) S_ FTy.f32 0x00000000#32)) (ix3 s h l) := by
  have e1 : (⟨l'.val / 128, by omega⟩ : Fin 12) = h := Fin.ext (by show l'.val / 128 = h.val; omega)
  have e2 : (⟨l'.val % 128, by omega⟩ : Fin 128) = l := Fin.ext (by show l'.val % 128 = l.val; omega)
  unfold k61
  generalize k1 a0 a1 a2 a3 a4 = g0
  generalize k57 a0 a1 a2 a3 a4 = g1
  pointwise
  rw [e1, e2]

set_option maxHeartbeats 1000000 in
/-- The keys' slabs by heads. -/
theorem k80_at (s : Fin 4096) (h : Fin 12) (l : Fin 128) (l' : Fin 1536) (hl : l'.val = 128 * h.val + l.val) :
    (k80 a0 a1 a2 a3 a4 (ix2 s l') : EReal) = cat4 (F := Ideal) (k3 a0 a1 a2 a3 a4) ((broadcastInDim S4096x12x3 ![] bcast_S_S4096x12x3 (constant (F := Ideal) S_ FTy.f32 0x3F800000#32))) (k76 a0 a1 a2 a3 a4) (broadcastInDim S4096x12x58 ![] bcast_S_S4096x12x58 (constant (F := Ideal) S_ FTy.f32 0x00000000#32)) (ix3 s h l) := by
  have e1 : (⟨l'.val / 128, by omega⟩ : Fin 12) = h := Fin.ext (by show l'.val / 128 = h.val; omega)
  have e2 : (⟨l'.val % 128, by omega⟩ : Fin 128) = l := Fin.ext (by show l'.val % 128 = l.val; omega)
  unfold k80
  generalize k3 a0 a1 a2 a3 a4 = g0
  generalize k76 a0 a1 a2 a3 a4 = g1
  pointwise
  rw [e1, e2]

set_option maxHeartbeats 1000000 in
/-- The values' slabs by heads. -/
theorem k84_at (s : Fin 4096) (h : Fin 12) (l : Fin 128) (l' : Fin 1536) (hl : l'.val = 128 * h.val + l.val) :
    (k84 a0 a1 a2 a3 a4 (ix2 s l') : EReal) = cat4 (F := Ideal) (k5 a0 a1 a2 a3 a4) ((broadcastInDim S4096x12x3 ![] bcast_S_S4096x12x3 (constant (F := Ideal) S_ FTy.f32 0x3F800000#32))) ((broadcastInDim S4096x12x3 ![] bcast_S_S4096x12x3 (constant (F := Ideal) S_ FTy.f32 0x00000000#32))) (broadcastInDim S4096x12x58 ![] bcast_S_S4096x12x58 (constant (F := Ideal) S_ FTy.f32 0x00000000#32)) (ix3 s h l) := by
  have e1 : (⟨l'.val / 128, by omega⟩ : Fin 12) = h := Fin.ext (by show l'.val / 128 = h.val; omega)
  have e2 : (⟨l'.val % 128, by omega⟩ : Fin 128) = l := Fin.ext (by show l'.val % 128 = l.val; omega)
  unfold k84
  generalize k5 a0 a1 a2 a3 a4 = g0
  pointwise
  rw [e1, e2]

set_option maxHeartbeats 1000000 in
/-- The output gradient's slabs by heads. -/
theorem k103_at (s : Fin 4096) (h : Fin 12) (l : Fin 128) (l' : Fin 1536) (hl : l'.val = 128 * h.val + l.val) :
    (k103 a0 a1 a2 a3 a4 (ix2 s l') : EReal) = cat4 (F := Ideal) (a4) (k99 a0 a1 a2 a3 a4) ((broadcastInDim S4096x12x3 ![] bcast_S_S4096x12x3 (constant (F := Ideal) S_ FTy.f32 0x00000000#32))) (broadcastInDim S4096x12x58 ![] bcast_S_S4096x12x58 (constant (F := Ideal) S_ FTy.f32 0x00000000#32)) (ix3 s h l) := by
  have e1 : (⟨l'.val / 128, by omega⟩ : Fin 12) = h := Fin.ext (by show l'.val / 128 = h.val; omega)
  have e2 : (⟨l'.val % 128, by omega⟩ : Fin 128) = l := Fin.ext (by show l'.val % 128 = l.val; omega)
  unfold k103
  generalize k99 a0 a1 a2 a3 a4 = g0
  pointwise
  rw [e1, e2]

/-- The transposed slabs. -/
theorem k104_at (s : Fin 4096) (l' : Fin 1536) : (k104 a0 a1 a2 a3 a4 (ix2 l' s) : EReal) = k61 a0 a1 a2 a3 a4 (ix2 s l') := by
  unfold k104
  generalize k61 a0 a1 a2 a3 a4 = g
  pointwise

/-- The transposed slabs. -/
theorem k105_at (s : Fin 4096) (l' : Fin 1536) : (k105 a0 a1 a2 a3 a4 (ix2 l' s) : EReal) = k80 a0 a1 a2 a3 a4 (ix2 s l') := by
  unfold k105
  generalize k80 a0 a1 a2 a3 a4 = g
  pointwise

/-- The transposed slabs. -/
theorem k106_at (s : Fin 4096) (l' : Fin 1536) : (k106 a0 a1 a2 a3 a4 (ix2 l' s) : EReal) = k103 a0 a1 a2 a3 a4 (ix2 s l') := by
  unfold k106
  generalize k103 a0 a1 a2 a3 a4 = g
  pointwise

end Cert.KernelIdeal.Hand
-- ==== Proof.MathK.lean ====
module

public import proofs.«01_k».proof.Proof.Reals
public import proofs.«01_k».proof.Proof.PreR1
public import proofs.«01_k».proof.Proof.PreR2
public import proofs.«01_k».proof.Proof.PreR3

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## The kernel's slabs at real arguments -/

/-- A head's 128 columns: 64, three, three and 58. -/
theorem sum128 (F : Fin 128 → EReal) : (∑ l : Fin 128, F l)
    = (∑ l : Fin 64, F ⟨l.val, by omega⟩) + (∑ l : Fin 3, F ⟨64 + l.val, by omega⟩) + (∑ l : Fin 3, F ⟨67 + l.val, by omega⟩) + ∑ l : Fin 58, F ⟨70 + l.val, by omega⟩ :=
  (Fin.sum_univ_add (a := 70) (b := 58) F).trans (congrArg (· + _) ((Fin.sum_univ_add (a := 67) (b := 3) fun i => F (Fin.castAdd 58 i)).trans
    (congrArg (· + _) (Fin.sum_univ_add (a := 64) (b := 3) fun i => F (Fin.castAdd 58 (Fin.castAdd 3 i))))))

open Cert.FoxReal in
/-- Two slabs' product over a head's columns. -/
theorem cat4_dot (u0 v0 : FVec Ideal S4096x12x64 .f32) (u1 u2 v1 v2 : FVec Ideal S4096x12x3 .f32) (u3 v3 : FVec Ideal S4096x12x58 .f32) (h : Fin 12) (s t : Fin 4096)
    (f0 g0 : Fin 64 → ℝ) (f1 g1 f2 g2 : Fin 3 → ℝ)
    (hu0 : ∀ l, u0 (ix3 t h l) = ((f0 l : ℝ) : EReal)) (hv0 : ∀ l, v0 (ix3 s h l) = ((g0 l : ℝ) : EReal))
    (hu1 : ∀ l, u1 (ix3 t h l) = ((f1 l : ℝ) : EReal)) (hv1 : ∀ l, v1 (ix3 s h l) = ((g1 l : ℝ) : EReal))
    (hu2 : ∀ l, u2 (ix3 t h l) = ((f2 l : ℝ) : EReal)) (hv2 : ∀ l, v2 (ix3 s h l) = ((g2 l : ℝ) : EReal))
    (hu3 : ∀ l, u3 (ix3 t h l) = (0 : EReal)) :
    (∑ l : Fin 128, (cat4 (F := Ideal) u0 u1 u2 u3 (ix3 t h l) : EReal) * cat4 (F := Ideal) v0 v1 v2 v3 (ix3 s h l))
      = (((∑ l : Fin 64, f0 l * g0 l) + (∑ l : Fin 3, f1 l * g1 l) + ∑ l : Fin 3, f2 l * g2 l : ℝ) : EReal) := by
  obtain ⟨U0, U1, U2, U3⟩ := cat4_at u0 u1 u2 u3 h t
  obtain ⟨V0, V1, V2, V3⟩ := cat4_at v0 v1 v2 v3 h s
  rw [sum128, EReal.coe_add, EReal.coe_add, ← coe_sum, ← coe_sum, ← coe_sum]
  refine (congrArg₂ (fun a b : EReal => a + b) (congrArg₂ (fun a b : EReal => a + b) (congrArg₂ (fun a b : EReal => a + b)
    (Finset.sum_congr rfl fun l _ => ?_) (Finset.sum_congr rfl fun l _ => ?_)) (Finset.sum_congr rfl fun l _ => ?_)) (Finset.sum_eq_zero fun l _ => ?_)).trans (add_zero _)
  · rw [U0, V0, hu0, hv0, EReal.coe_mul]
  · rw [U1, V1, hu1, hv1, EReal.coe_mul]
  · rw [U2, V2, hu2, hv2, EReal.coe_mul]
  · rw [U3, hu3, zero_mul]

/-- A real's three parts are itself, zero and zero. -/
theorem parts (u : ℝ) (l : Fin 3) : (if l.val < 1 then ((u : ℝ) : EReal) else if l.val - 1 < 1 then ((u : ℝ) : EReal) - ((u : ℝ) : EReal) else ((u : ℝ) : EReal) - ((u : ℝ) : EReal) - (((u : ℝ) : EReal) - ((u : ℝ) : EReal)))
    = (((if l.val < 1 then u else 0 : ℝ)) : EReal) := by
  split
  · rfl
  · split
    · rw [← EReal.coe_sub, sub_self]
    · rw [← EReal.coe_sub, ← EReal.coe_sub, sub_self]

/-- The arguments are real numbers. -/
structure Holds (A : Cert.FoxReal.Args) (a0 a1 a2 : FVec Ideal S4096x12x64 .f32) (a3 : FVec Ideal S4096x12 .f32) (a4 : FVec Ideal S4096x12x64 .f32) : Prop where
  q : ∀ s h l, a0 (ix3 s h l) = ((A.q s h l : ℝ) : EReal)
  k : ∀ s h l, a1 (ix3 s h l) = ((A.k s h l : ℝ) : EReal)
  v : ∀ s h l, a2 (ix3 s h l) = ((A.v s h l : ℝ) : EReal)
  c : ∀ s h, a3 (ix2 s h) = ((A.c s h : ℝ) : EReal)
  y : ∀ s h l, a4 (ix3 s h l) = ((A.y s h l : ℝ) : EReal)

variable (A : Cert.FoxReal.Args) {a0 a1 a2 : FVec Ideal S4096x12x64 .f32} {a3 : FVec Ideal S4096x12 .f32} {a4 : FVec Ideal S4096x12x64 .f32} (H : Holds A a0 a1 a2 a3 a4)

open Cert.FoxReal

include H

theorem k23_real (h : Fin 12) (s t : Fin 4096) : k23 a0 a1 a2 a3 a4 (ix3 h s t) = ms A h s t := by
  rw [k23_at]
  unfold ms sc
  simp only [H.q, H.k, H.c, ← EReal.coe_mul, coe_sum, ← EReal.coe_add, ← EReal.coe_sub]

theorem k24_real (h : Fin 12) (s : Fin 4096) : k24 a0 a1 a2 a3 a4 (ix2 h s) = ((mx A h s : ℝ) : EReal) := by
  rw [k24_at, ← mx_coe]
  simp only [k23_real A H]

theorem k28_real (h : Fin 12) (s t : Fin 4096) : k28 a0 a1 a2 a3 a4 (ix3 h s t) = ((ee A h s t : ℝ) : EReal) := by
  rw [k28_at, k23_real A H, k24_real A H, ee_coe]

theorem k29_real (h : Fin 12) (s : Fin 4096) : k29 a0 a1 a2 a3 a4 (ix2 h s) = ((den A h s : ℝ) : EReal) := by
  rw [k29_at]
  simp only [k28_real A H]
  exact coe_sum _ _

theorem k36_real (h : Fin 12) (s t : Fin 4096) : k36 a0 a1 a2 a3 a4 (ix3 h s t) = ((ww A h s t : ℝ) : EReal) := by
  rw [k36_at, k28_real A H, k29_real A H, div_real _ _ (den_pos A h s).ne']
  rfl

theorem k34_real (h : Fin 12) (s : Fin 4096) : k34 a0 a1 a2 a3 a4 (ix2 s h) = ((mx A h s + Real.log (den A h s) : ℝ) : EReal) := by
  rw [k34_at, k24_real A H, k29_real A H, Ideal.log_coe, if_neg (not_le.mpr (den_pos A h s)), EReal.coe_add]

theorem k38_real (h : Fin 12) (s : Fin 4096) (l : Fin 64) : k38 a0 a1 a2 a3 a4 (ix3 s h l) = ((yy A h s l : ℝ) : EReal) := by
  rw [k38_at]
  simp only [k5_at, H.v, k36_real A H, ← EReal.coe_mul, coe_sum]
  rfl

theorem k40_real (h : Fin 12) (s : Fin 4096) : k40 a0 a1 a2 a3 a4 (ix2 s h) = ((del A h s : ℝ) : EReal) := by
  rw [k40_at]
  simp only [H.y, k38_real A H, ← EReal.coe_mul, coe_sum]
  rfl

theorem k57_real (h : Fin 12) (s : Fin 4096) (l : Fin 3) : k57 a0 a1 a2 a3 a4 (ix3 s h l) = (((if l.val < 1 then A.c s h - (mx A h s + Real.log (den A h s)) else 0 : ℝ)) : EReal) := by
  rw [k57_at, k43_at, H.c, k34_real A H, ← EReal.coe_sub]
  exact parts _ l

theorem k76_real (h : Fin 12) (s : Fin 4096) (l : Fin 3) : k76 a0 a1 a2 a3 a4 (ix3 s h l) = (((if l.val < 1 then -A.c s h else 0 : ℝ)) : EReal) := by
  rw [k76_at, H.c, ← EReal.coe_neg]
  exact parts _ l

theorem k99_real (h : Fin 12) (s : Fin 4096) (l : Fin 3) : k99 a0 a1 a2 a3 a4 (ix3 s h l) = (((if l.val < 1 then -del A h s else 0 : ℝ)) : EReal) := by
  rw [k99_at, k40_real A H, ← EReal.coe_neg]
  exact parts _ l

/-- The slabs' product is the score less the log-sum. -/
theorem score_real (h : Fin 12) (s t : Fin 4096) (cl : Fin 128 → Fin 1536) (hc : ∀ l, (cl l).val = 128 * h.val + l.val) :
    (∑ l : Fin 128, (k80 a0 a1 a2 a3 a4 (ix2 t (cl l)) : EReal) * k104 a0 a1 a2 a3 a4 (ix2 (cl l) s)) = ((sc A h s t - (mx A h s + Real.log (den A h s)) : ℝ) : EReal) := by
  rw [Finset.sum_congr rfl fun l _ => (by rw [k104_at, k80_at a0 a1 a2 a3 a4 t h l _ (hc l), k61_at a0 a1 a2 a3 a4 s h l _ (hc l)] :
    (k80 a0 a1 a2 a3 a4 (ix2 t (cl l)) : EReal) * k104 a0 a1 a2 a3 a4 (ix2 (cl l) s) = _)]
  refine (cat4_dot _ _ _ _ _ _ _ _ h s t (fun l => A.k t h l) (fun l => A.q s h l) (fun _ => 1) (fun l => if l.val < 1 then A.c s h - (mx A h s + Real.log (den A h s)) else 0)
    (fun l => if l.val < 1 then -A.c t h else 0) (fun _ => 1)
    (fun l => (k3_at a0 a1 a2 a3 a4 t h l).trans (H.k t h l)) (fun l => (k1_at a0 a1 a2 a3 a4 s h l).trans (H.q s h l))
    (fun l => (ones3 _).trans EReal.coe_one.symm) (k57_real A H h s) (k76_real A H h t) (fun l => (ones3 _).trans EReal.coe_one.symm) (fun l => zeros58 _)).trans ?_
  refine congrArg _ ?_
  rw [Fin.sum_univ_three, Fin.sum_univ_three]
  unfold sc
  simp only [Finset.sum_congr rfl fun l _ => mul_comm (A.k t h l) (A.q s h l)]
  norm_num
  ring

/-- The other slabs' product is the gradient against the value less its weighted sum. -/
theorem grad_real (h : Fin 12) (s t : Fin 4096) (cl : Fin 128 → Fin 1536) (hc : ∀ l, (cl l).val = 128 * h.val + l.val) :
    (∑ l : Fin 128, (k84 a0 a1 a2 a3 a4 (ix2 t (cl l)) : EReal) * k106 a0 a1 a2 a3 a4 (ix2 (cl l) s)) = ((dp A h s t - del A h s : ℝ) : EReal) := by
  rw [Finset.sum_congr rfl fun l _ => (by rw [k106_at, k84_at a0 a1 a2 a3 a4 t h l _ (hc l), k103_at a0 a1 a2 a3 a4 s h l _ (hc l)] :
    (k84 a0 a1 a2 a3 a4 (ix2 t (cl l)) : EReal) * k106 a0 a1 a2 a3 a4 (ix2 (cl l) s) = _)]
  refine (cat4_dot _ _ _ _ _ _ _ _ h s t (fun l => A.v t h l) (fun l => A.y s h l) (fun _ => 1) (fun l => if l.val < 1 then -del A h s else 0)
    (fun _ => 0) (fun _ => 0)
    (fun l => (k5_at a0 a1 a2 a3 a4 t h l).trans (H.v t h l)) (fun l => H.y s h l)
    (fun l => (ones3 _).trans EReal.coe_one.symm) (k99_real A H h s) (fun l => (zeros3 _).trans EReal.coe_zero.symm) (fun l => (zeros3 _).trans EReal.coe_zero.symm) (fun l => zeros58 _)).trans ?_
  refine congrArg _ ?_
  rw [Fin.sum_univ_three, Fin.sum_univ_three]
  unfold dp
  simp only [Finset.sum_congr rfl fun l _ => mul_comm (A.v t h l) (A.y s h l)]
  norm_num
  ring

end Cert.KernelIdeal.Hand
-- ==== Proof.RefCut.lean ====
module

public import proofs.«01_k».proof.Proof.Gen.ReferenceIdeal.Run

@[expose] public section

set_option maxRecDepth 16384

noncomputable section

/-! The reference's results, cut at the quantities that its later lines read. -/

namespace Cert.ReferenceIdeal.Value

open Cert.ReferenceIdeal Cert.ReferenceIdeal.Gen Idealize.ShloMosaic Idealize.ShloMosaic.TcCoe

/-- the mask -/
def r17_1 (a0 a1 a2 : FVec Ideal S4096x12x64 .f32) (a3 : FVec Ideal S4096x12 .f32) (a4 : FVec Ideal S4096x12x64 .f32) : IVec S12x4096x4096 1 :=
  ((broadcastInDim S12x4096x4096 ![0, 1, 2] bcast_S1x4096x4096_S12x4096x4096_0_1_2) : IVec S1x4096x4096 1 → IVec S12x4096x4096 1) ((broadcastInDim S1x4096x4096 ![1, 2] bcast_S4096x4096_S1x4096x4096_1_2 : IVec S4096x4096 1 → IVec S1x4096x4096 1) ((cmpi .sle : IVec S4096x4096 32 → IVec S4096x4096 32 → IVec S4096x4096 1) ((broadcastInDim S4096x4096 ![0, 1] bcast_S1x4096_S4096x4096_0_1 : IVec S1x4096 32 → IVec S4096x4096 32) ((broadcastInDim S1x4096 ![1] bcast_S4096_S1x4096_1 : IVec S4096 32 → IVec S1x4096 32) ((iotaInDim S4096 32 0) ))) ((broadcastInDim S4096x4096 ![0, 1] bcast_S4096x1_S4096x4096_0_1 : IVec S4096x1 32 → IVec S4096x4096 32) ((broadcastInDim S4096x1 ![0] bcast_S4096_S4096x1_0 : IVec S4096 32 → IVec S4096x1 32) ((iotaInDim S4096 32 0) )))))

/-- the masked scores -/
def r17_0 (a0 a1 a2 : FVec Ideal S4096x12x64 .f32) (a3 : FVec Ideal S4096x12 .f32) (a4 : FVec Ideal S4096x12x64 .f32) : FVec Ideal S12x4096x4096 .f32 :=
  (select : IVec S12x4096x4096 1 → FVec Ideal S12x4096x4096 .f32 → FVec Ideal S12x4096x4096 .f32 → FVec Ideal S12x4096x4096 .f32) (r17_1 a0 a1 a2 a3 a4) ((subf : FVec Ideal S12x4096x4096 .f32 → FVec Ideal S12x4096x4096 .f32 → FVec Ideal S12x4096x4096 .f32) ((addf : FVec Ideal S12x4096x4096 .f32 → FVec Ideal S12x4096x4096 .f32 → FVec Ideal S12x4096x4096 .f32) (((fun l r => Host.dotGeneral dot_S4096x12x64_S4096x12x64_S12x4096x4096_2_2_0_0_1_1 none l r) : FVec Ideal S4096x12x64 .f32 → FVec Ideal S4096x12x64 .f32 → FVec Ideal S12x4096x4096 .f32) a0 a1) ((broadcastInDim S12x4096x4096 ![0, 1, 2] bcast_S12x4096x1_S12x4096x4096_0_1_2 : FVec Ideal S12x4096x1 .f32 → FVec Ideal S12x4096x4096 .f32) ((broadcastInDim S12x4096x1 ![0, 1] bcast_S12x4096_S12x4096x1_0_1 : FVec Ideal S12x4096 .f32 → FVec Ideal S12x4096x1 .f32) (((transpose S12x4096 [1, 0] · transposes_S4096x12_S12x4096_1_0) : FVec Ideal S4096x12 .f32 → FVec Ideal S12x4096 .f32) a3)))) ((broadcastInDim S12x4096x4096 ![0, 1, 2] bcast_S12x1x4096_S12x4096x4096_0_1_2 : FVec Ideal S12x1x4096 .f32 → FVec Ideal S12x4096x4096 .f32) ((broadcastInDim S12x1x4096 ![0, 2] bcast_S12x4096_S12x1x4096_0_2 : FVec Ideal S12x4096 .f32 → FVec Ideal S12x1x4096 .f32) (((transpose S12x4096 [1, 0] · transposes_S4096x12_S12x4096_1_0) : FVec Ideal S4096x12 .f32 → FVec Ideal S12x4096 .f32) a3)))) (((broadcastInDim S12x4096x4096 ![] bcast_S_S12x4096x4096) : FVec Ideal S_ .f32 → FVec Ideal S12x4096x4096 .f32) ((id : FVec Ideal S_ .f32 → FVec Ideal S_ .f32) ((constant S_ .f32 0xFF800000#32) )))

/-- their row maxima -/
def r25 (a0 a1 a2 : FVec Ideal S4096x12x64 .f32) (a3 : FVec Ideal S4096x12 .f32) (a4 : FVec Ideal S4096x12x64 .f32) : FVec Ideal S12x4096 .f32 :=
  (maximumf : FVec Ideal S12x4096 .f32 → FVec Ideal S12x4096 .f32 → FVec Ideal S12x4096 .f32) ((broadcastInDim S12x4096 ![] bcast_S_S12x4096 : FVec Ideal S_ .f32 → FVec Ideal S12x4096 .f32) ((constant S_ .f32 0xFF800000#32) )) (((fun x v => Host.reduce FloatOps.maximumf x v reducesTo_S12x4096x4096_S12x4096_d2 h_S_) : FVec Ideal S12x4096x4096 .f32 → FVec Ideal S_ .f32 → FVec Ideal S12x4096 .f32) (r17_0 a0 a1 a2 a3 a4) ((constant S_ .f32 0xFF800000#32) ))

/-- the exponentials -/
def r38 (a0 a1 a2 : FVec Ideal S4096x12x64 .f32) (a3 : FVec Ideal S4096x12 .f32) (a4 : FVec Ideal S4096x12x64 .f32) : FVec Ideal S12x4096x4096 .f32 :=
  (Host.exp : FVec Ideal S12x4096x4096 .f32 → FVec Ideal S12x4096x4096 .f32) ((subf : FVec Ideal S12x4096x4096 .f32 → FVec Ideal S12x4096x4096 .f32 → FVec Ideal S12x4096x4096 .f32) (r17_0 a0 a1 a2 a3 a4) ((broadcastInDim S12x4096x4096 ![0, 1, 2] bcast_S12x4096x1_S12x4096x4096_0_1_2 : FVec Ideal S12x4096x1 .f32 → FVec Ideal S12x4096x4096 .f32) ((broadcastInDim S12x4096x1 ![0, 1] bcast_S12x4096_S12x4096x1_0_1 : FVec Ideal S12x4096 .f32 → FVec Ideal S12x4096x1 .f32) (r25 a0 a1 a2 a3 a4))))

/-- their row sums -/
def r39 (a0 a1 a2 : FVec Ideal S4096x12x64 .f32) (a3 : FVec Ideal S4096x12 .f32) (a4 : FVec Ideal S4096x12x64 .f32) : FVec Ideal S12x4096 .f32 :=
  ((fun x v => Host.reduceAdd x v reducesTo_S12x4096x4096_S12x4096_d2 h_S_) : FVec Ideal S12x4096x4096 .f32 → FVec Ideal S_ .f32 → FVec Ideal S12x4096 .f32) (r38 a0 a1 a2 a3 a4) ((constant S_ .f32 0x00000000#32) )

/-- the weights -/
def r42 (a0 a1 a2 : FVec Ideal S4096x12x64 .f32) (a3 : FVec Ideal S4096x12 .f32) (a4 : FVec Ideal S4096x12x64 .f32) : FVec Ideal S12x4096x4096 .f32 :=
  (Host.divf : FVec Ideal S12x4096x4096 .f32 → FVec Ideal S12x4096x4096 .f32 → FVec Ideal S12x4096x4096 .f32) (r38 a0 a1 a2 a3 a4) ((broadcastInDim S12x4096x4096 ![0, 1, 2] bcast_S12x4096x1_S12x4096x4096_0_1_2 : FVec Ideal S12x4096x1 .f32 → FVec Ideal S12x4096x4096 .f32) ((broadcastInDim S12x4096x1 ![0, 1] bcast_S12x4096_S12x4096x1_0_1 : FVec Ideal S12x4096 .f32 → FVec Ideal S12x4096x1 .f32) (r39 a0 a1 a2 a3 a4)))

/-- the inverse squares of the row sums -/
def r45 (a0 a1 a2 : FVec Ideal S4096x12x64 .f32) (a3 : FVec Ideal S4096x12 .f32) (a4 : FVec Ideal S4096x12x64 .f32) : FVec Ideal S12x4096x1 .f32 :=
  (Host.divf : FVec Ideal S12x4096x1 .f32 → FVec Ideal S12x4096x1 .f32 → FVec Ideal S12x4096x1 .f32) ((broadcastInDim S12x4096x1 ![] bcast_S_S12x4096x1 : FVec Ideal S_ .f32 → FVec Ideal S12x4096x1 .f32) ((constant S_ .f32 0x3F800000#32) )) ((mulf : FVec Ideal S12x4096x1 .f32 → FVec Ideal S12x4096x1 .f32 → FVec Ideal S12x4096x1 .f32) ((broadcastInDim S12x4096x1 ![0, 1] bcast_S12x4096_S12x4096x1_0_1 : FVec Ideal S12x4096 .f32 → FVec Ideal S12x4096x1 .f32) (r39 a0 a1 a2 a3 a4)) ((broadcastInDim S12x4096x1 ![0, 1] bcast_S12x4096_S12x4096x1_0_1 : FVec Ideal S12x4096 .f32 → FVec Ideal S12x4096x1 .f32) (r39 a0 a1 a2 a3 a4)))

/-- dy against v -/
def r49 (a0 a1 a2 : FVec Ideal S4096x12x64 .f32) (a3 : FVec Ideal S4096x12 .f32) (a4 : FVec Ideal S4096x12x64 .f32) : FVec Ideal S12x4096x4096 .f32 :=
  ((fun l r => Host.dotGeneral dot_S12x64x4096_S4096x12x64_S12x4096x4096_1_2_2_0_0_1 none l r) : FVec Ideal S12x64x4096 .f32 → FVec Ideal S4096x12x64 .f32 → FVec Ideal S12x4096x4096 .f32) (((transpose S12x64x4096 [1, 2, 0] · transposes_S4096x12x64_S12x64x4096_1_2_0) : FVec Ideal S4096x12x64 .f32 → FVec Ideal S12x64x4096 .f32) a4) a2

/-- the row sums of the derivative of the quotient -/
def r55 (a0 a1 a2 : FVec Ideal S4096x12x64 .f32) (a3 : FVec Ideal S4096x12 .f32) (a4 : FVec Ideal S4096x12x64 .f32) : FVec Ideal S12x4096 .f32 :=
  ((fun x v => Host.reduceAdd x v reducesTo_S12x4096x4096_S12x4096_d2 h_S_) : FVec Ideal S12x4096x4096 .f32 → FVec Ideal S_ .f32 → FVec Ideal S12x4096 .f32) ((mulf : FVec Ideal S12x4096x4096 .f32 → FVec Ideal S12x4096x4096 .f32 → FVec Ideal S12x4096x4096 .f32) ((mulf : FVec Ideal S12x4096x4096 .f32 → FVec Ideal S12x4096x4096 .f32 → FVec Ideal S12x4096x4096 .f32) (r49 a0 a1 a2 a3 a4) ((broadcastInDim S12x4096x4096 ![0, 1, 2] bcast_S12x4096x1_S12x4096x4096_0_1_2 : FVec Ideal S12x4096x1 .f32 → FVec Ideal S12x4096x4096 .f32) (r45 a0 a1 a2 a3 a4))) (r38 a0 a1 a2 a3 a4)) ((constant S_ .f32 0x00000000#32) )

/-- the gradient of the scores -/
def r64 (a0 a1 a2 : FVec Ideal S4096x12x64 .f32) (a3 : FVec Ideal S4096x12 .f32) (a4 : FVec Ideal S4096x12x64 .f32) : FVec Ideal S12x4096x4096 .f32 :=
  (select : IVec S12x4096x4096 1 → FVec Ideal S12x4096x4096 .f32 → FVec Ideal S12x4096x4096 .f32 → FVec Ideal S12x4096x4096 .f32) (r17_1 a0 a1 a2 a3 a4) ((mulf : FVec Ideal S12x4096x4096 .f32 → FVec Ideal S12x4096x4096 .f32 → FVec Ideal S12x4096x4096 .f32) ((addf : FVec Ideal S12x4096x4096 .f32 → FVec Ideal S12x4096x4096 .f32 → FVec Ideal S12x4096x4096 .f32) ((Host.divf : FVec Ideal S12x4096x4096 .f32 → FVec Ideal S12x4096x4096 .f32 → FVec Ideal S12x4096x4096 .f32) (r49 a0 a1 a2 a3 a4) ((broadcastInDim S12x4096x4096 ![0, 1, 2] bcast_S12x4096x1_S12x4096x4096_0_1_2 : FVec Ideal S12x4096x1 .f32 → FVec Ideal S12x4096x4096 .f32) ((broadcastInDim S12x4096x1 ![0, 1] bcast_S12x4096_S12x4096x1_0_1 : FVec Ideal S12x4096 .f32 → FVec Ideal S12x4096x1 .f32) (r39 a0 a1 a2 a3 a4)))) ((broadcastInDim S12x4096x4096 ![0, 1] bcast_S12x4096_S12x4096x4096_0_1 : FVec Ideal S12x4096 .f32 → FVec Ideal S12x4096x4096 .f32) (((fun x v => Host.reduceAdd x v reducesTo_S12x4096x1_S12x4096_d2 h_S_) : FVec Ideal S12x4096x1 .f32 → FVec Ideal S_ .f32 → FVec Ideal S12x4096 .f32) ((Host.negf : FVec Ideal S12x4096x1 .f32 → FVec Ideal S12x4096x1 .f32) (shapeCast S12x4096x1 (r55 a0 a1 a2 a3 a4) shapeCasts_S12x4096_S12x4096x1)) ((constant S_ .f32 0x00000000#32) )))) (r38 a0 a1 a2 a3 a4)) (((broadcastInDim S12x4096x4096 ![] bcast_S_S12x4096x4096) : FVec Ideal S_ .f32 → FVec Ideal S12x4096x4096 .f32) (((constant S_ .f32 0x00000000#32) : FVec Ideal S_ .f32) ))

/-- the first result -/
def r82 (a0 a1 a2 : FVec Ideal S4096x12x64 .f32) (a3 : FVec Ideal S4096x12 .f32) (a4 : FVec Ideal S4096x12x64 .f32) : FVec Ideal S1536x4096 .f32 :=
  ((transpose S1536x4096 [1, 0] · transposes_S4096x1536_S1536x4096_1_0) : FVec Ideal S4096x1536 .f32 → FVec Ideal S1536x4096 .f32) (shapeCast S4096x1536 (fn_main_v80 (F := Ideal) (((transpose S4096x12x64 [1, 0, 2] · transposes_S12x4096x64_S4096x12x64_1_0_2) : FVec Ideal S12x4096x64 .f32 → FVec Ideal S4096x12x64 .f32) (((fun l r => Host.dotGeneral dot_S12x4096x4096_S4096x12x64_S12x4096x64_2_0_1_2_0_1 none l r) : FVec Ideal S12x4096x4096 .f32 → FVec Ideal S4096x12x64 .f32 → FVec Ideal S12x4096x64 .f32) (r64 a0 a1 a2 a3 a4) a1)) ((broadcastInDim S4096x12x1 ![0, 1] bcast_S4096x12_S4096x12x1_0_1 : FVec Ideal S4096x12 .f32 → FVec Ideal S4096x12x1 .f32) (((transpose S4096x12 [1, 0] · transposes_S12x4096_S4096x12_1_0) : FVec Ideal S12x4096 .f32 → FVec Ideal S4096x12 .f32) (((fun x v => Host.reduceAdd x v reducesTo_S12x4096x1_S12x4096_d2 h_S_) : FVec Ideal S12x4096x1 .f32 → FVec Ideal S_ .f32 → FVec Ideal S12x4096 .f32) (shapeCast S12x4096x1 (((fun x v => Host.reduceAdd x v reducesTo_S12x4096x4096_S12x4096_d2 h_S_) : FVec Ideal S12x4096x4096 .f32 → FVec Ideal S_ .f32 → FVec Ideal S12x4096 .f32) (r64 a0 a1 a2 a3 a4) ((constant S_ .f32 0x00000000#32) )) shapeCasts_S12x4096_S12x4096x1) ((constant S_ .f32 0x00000000#32) )))) ((broadcastInDim S4096x12x63 ![] bcast_S_S4096x12x63 : FVec Ideal S_ .f32 → FVec Ideal S4096x12x63 .f32) ((constant S_ .f32 0x00000000#32) ))) shapeCasts_S4096x12x128_S4096x1536)

/-- the second -/
def r90 (a0 a1 a2 : FVec Ideal S4096x12x64 .f32) (a3 : FVec Ideal S4096x12 .f32) (a4 : FVec Ideal S4096x12x64 .f32) : FVec Ideal S4096x768 .f32 :=
  shapeCast S4096x768 (((transpose S4096x12x64 [1, 0, 2] · transposes_S12x4096x64_S4096x12x64_1_0_2) : FVec Ideal S12x4096x64 .f32 → FVec Ideal S4096x12x64 .f32) (((fun l r => Host.dotGeneral dot_S12x4096x4096_S4096x12x64_S12x4096x64_1_0_2_2_0_1 none l r) : FVec Ideal S12x4096x4096 .f32 → FVec Ideal S4096x12x64 .f32 → FVec Ideal S12x4096x64 .f32) (r64 a0 a1 a2 a3 a4) a0)) shapeCasts_S4096x12x64_S4096x768

/-- the third -/
def r92 (a0 a1 a2 : FVec Ideal S4096x12x64 .f32) (a3 : FVec Ideal S4096x12 .f32) (a4 : FVec Ideal S4096x12x64 .f32) : FVec Ideal S4096x768 .bf16 :=
  ((truncf .bf16 · bitsLt_bf16_f32) : FVec Ideal S4096x768 .f32 → FVec Ideal S4096x768 .bf16) (shapeCast S4096x768 (((transpose S4096x12x64 [2, 0, 1] · transposes_S12x64x4096_S4096x12x64_2_0_1) : FVec Ideal S12x64x4096 .f32 → FVec Ideal S4096x12x64 .f32) (((fun l r => Host.dotGeneral dot_S12x64x4096_S12x4096x4096_S12x64x4096_2_1_1_2_0_0 none l r) : FVec Ideal S12x64x4096 .f32 → FVec Ideal S12x4096x4096 .f32 → FVec Ideal S12x64x4096 .f32) (((transpose S12x64x4096 [1, 2, 0] · transposes_S4096x12x64_S12x64x4096_1_2_0) : FVec Ideal S4096x12x64 .f32 → FVec Ideal S12x64x4096 .f32) a4) (r42 a0 a1 a2 a3 a4))) shapeCasts_S4096x12x64_S4096x768)

/-- the fourth -/
def r89 (a0 a1 a2 : FVec Ideal S4096x12x64 .f32) (a3 : FVec Ideal S4096x12 .f32) (a4 : FVec Ideal S4096x12x64 .f32) : FVec Ideal S2x4096x128 .f32 :=
  (fn_main_v89 (F := Ideal)) ((broadcastInDim S1x4096x128 ![1, 2] bcast_S4096x128_S1x4096x128_1_2 : FVec Ideal S4096x128 .f32 → FVec Ideal S1x4096x128 .f32) (((fun x v => pad S4096x128 ![0, 0] ![0, 122] ![0, 0] x v pads_S4096x6_S4096x128_000_01220 h_S_) : FVec Ideal S4096x6 .f32 → FVec Ideal S_ .f32 → FVec Ideal S4096x128 .f32) (((extractStridedSlice S4096x6 ![0, 0] · slices_S4096x12_S4096x6_0_0) : FVec Ideal S4096x12 .f32 → FVec Ideal S4096x6 .f32) (((transpose S4096x12 [1, 0] · transposes_S12x4096_S4096x12_1_0) : FVec Ideal S12x4096 .f32 → FVec Ideal S4096x12 .f32) (((fun x v => Host.reduceAdd x v reducesTo_S12x1x4096_S12x4096_d1 h_S_) : FVec Ideal S12x1x4096 .f32 → FVec Ideal S_ .f32 → FVec Ideal S12x4096 .f32) (shapeCast S12x1x4096 (((fun x v => Host.reduceAdd x v reducesTo_S12x4096x4096_S12x4096_d1 h_S_) : FVec Ideal S12x4096x4096 .f32 → FVec Ideal S_ .f32 → FVec Ideal S12x4096 .f32) ((Host.negf : FVec Ideal S12x4096x4096 .f32 → FVec Ideal S12x4096x4096 .f32) (r64 a0 a1 a2 a3 a4)) ((constant S_ .f32 0x00000000#32) )) shapeCasts_S12x4096_S12x1x4096) ((constant S_ .f32 0x00000000#32) )))) (((sitofp .f32) : IVec S_ 32 → FVec Ideal S_ .f32) ((constantI S_ 32 0#32) )))) ((broadcastInDim S1x4096x128 ![1, 2] bcast_S4096x128_S1x4096x128_1_2 : FVec Ideal S4096x128 .f32 → FVec Ideal S1x4096x128 .f32) (((fun x v => pad S4096x128 ![0, 6] ![0, 116] ![0, 0] x v pads_S4096x6_S4096x128_000_61160 h_S_) : FVec Ideal S4096x6 .f32 → FVec Ideal S_ .f32 → FVec Ideal S4096x128 .f32) (((extractStridedSlice S4096x6 ![0, 6] · slices_S4096x12_S4096x6_0_6) : FVec Ideal S4096x12 .f32 → FVec Ideal S4096x6 .f32) (((transpose S4096x12 [1, 0] · transposes_S12x4096_S4096x12_1_0) : FVec Ideal S12x4096 .f32 → FVec Ideal S4096x12 .f32) (((fun x v => Host.reduceAdd x v reducesTo_S12x1x4096_S12x4096_d1 h_S_) : FVec Ideal S12x1x4096 .f32 → FVec Ideal S_ .f32 → FVec Ideal S12x4096 .f32) (shapeCast S12x1x4096 (((fun x v => Host.reduceAdd x v reducesTo_S12x4096x4096_S12x4096_d1 h_S_) : FVec Ideal S12x4096x4096 .f32 → FVec Ideal S_ .f32 → FVec Ideal S12x4096 .f32) ((Host.negf : FVec Ideal S12x4096x4096 .f32 → FVec Ideal S12x4096x4096 .f32) (r64 a0 a1 a2 a3 a4)) ((constant S_ .f32 0x00000000#32) )) shapeCasts_S12x4096_S12x1x4096) ((constant S_ .f32 0x00000000#32) )))) (((sitofp .f32) : IVec S_ 32 → FVec Ideal S_ .f32) ((constantI S_ 32 0#32) ))))

set_option maxHeartbeats 4000000 in
/-- Result 0, by those names. -/
theorem out0_eq (m : (ℓ : Loc nD τ sig) → Buf (Elt Ideal) ℓ) (c : Dev nD) :
    res_out0 m c = r82 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_out0 res_main_v82
  simp only [r17_1, r17_0, r25, r38, r39, r42, r45, r49, r55, r64, r82, r90, r92, r89, fn_main_v80, fn_main_v89]

set_option maxHeartbeats 4000000 in
/-- Result 1, by those names. -/
theorem out1_eq (m : (ℓ : Loc nD τ sig) → Buf (Elt Ideal) ℓ) (c : Dev nD) :
    res_out1 m c = r90 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_out1 res_main_v90
  simp only [r17_1, r17_0, r25, r38, r39, r42, r45, r49, r55, r64, r82, r90, r92, r89, fn_main_v80, fn_main_v89]
  rfl

set_option maxHeartbeats 4000000 in
/-- Result 2, by those names. -/
theorem out2_eq (m : (ℓ : Loc nD τ sig) → Buf (Elt Ideal) ℓ) (c : Dev nD) :
    res_out2 m c = r92 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_out2 res_main_v92
  simp only [r17_1, r17_0, r25, r38, r39, r42, r45, r49, r55, r64, r82, r90, r92, r89, fn_main_v80, fn_main_v89]
  rfl

set_option maxHeartbeats 4000000 in
/-- Result 3, by those names. -/
theorem out3_eq (m : (ℓ : Loc nD τ sig) → Buf (Elt Ideal) ℓ) (c : Dev nD) :
    res_out3 m c = r89 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_out3 res_main_v89
  simp only [r17_1, r17_0, r25, r38, r39, r42, r45, r49, r55, r64, r82, r90, r92, r89, fn_main_v80, fn_main_v89]

end Cert.ReferenceIdeal.Value

end
-- ==== Proof.RefR1.lean ====
module

public import proofs.«01_k».proof.Proof.RefCut
public import Idealize.ShloMosaic.Lib.Pointwise
public import Idealize.ShloMosaic.Lib.WordCmp

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic

variable (a0 a1 a2 : FVec Ideal S4096x12x64 .f32) (a3 : FVec Ideal S4096x12 .f32) (a4 : FVec Ideal S4096x12x64 .f32)

/-- The word of negative infinity. -/
theorem neg_inf : Ideal.ofBits FTy.f32 0xFF800000#32 = (⊥ : EReal) := by simp [Ideal.ofBits, Ideal.ieee]

set_option maxHeartbeats 1000000 in
/-- The masked scores. -/
theorem r17_0_at (h : Fin 12) (s t : Fin 4096) :
    r17_0 a0 a1 a2 a3 a4 (ix3 h s t) = if t.val ≤ s.val then (∑ x : Fin 64, a0 (ix3 s h x) * a1 (ix3 t h x)) + a3 (ix2 s h) - a3 (ix2 t h) else (⊥ : EReal) := by
  unfold r17_0 r17_1
  pointwise
  rw [show (id (constant (F := Ideal) S_ FTy.f32 0xFF800000#32) ix0 : EReal) = ⊥ from neg_inf]
  word_cmp
set_option maxHeartbeats 1000000 in
/-- The exponentials. -/
theorem r38_at (h : Fin 12) (s t : Fin 4096) :
    r38 a0 a1 a2 a3 a4 (ix3 h s t) = Ideal.exp (r17_0 a0 a1 a2 a3 a4 (ix3 h s t) - r25 a0 a1 a2 a3 a4 (ix2 h s)) := by
  unfold r38
  generalize r17_0 a0 a1 a2 a3 a4 = g0
  generalize r25 a0 a1 a2 a3 a4 = g1
  pointwise

set_option maxHeartbeats 1000000 in
/-- Their row sums. -/
theorem r39_at (h : Fin 12) (s : Fin 4096) :
    r39 a0 a1 a2 a3 a4 (ix2 h s) = ∑ x : Fin 4096, r38 a0 a1 a2 a3 a4 (ix3 h s x) := by
  unfold r39
  generalize r38 a0 a1 a2 a3 a4 = g0
  pointwise

set_option maxHeartbeats 1000000 in
/-- The weights. -/
theorem r42_at (h : Fin 12) (s t : Fin 4096) :
    r42 a0 a1 a2 a3 a4 (ix3 h s t) = Ideal.div (r38 a0 a1 a2 a3 a4 (ix3 h s t)) (r39 a0 a1 a2 a3 a4 (ix2 h s)) := by
  unfold r42
  generalize r38 a0 a1 a2 a3 a4 = g0
  generalize r39 a0 a1 a2 a3 a4 = g1
  pointwise

set_option maxHeartbeats 1000000 in
/-- The inverse squares. -/
theorem r45_at (h : Fin 12) (s : Fin 4096) (z : Fin 1) :
    r45 a0 a1 a2 a3 a4 (ix3 h s z) = Ideal.div 1 (r39 a0 a1 a2 a3 a4 (ix2 h s) * r39 a0 a1 a2 a3 a4 (ix2 h s)) := by
  unfold r45
  generalize r39 a0 a1 a2 a3 a4 = g0
  pointwise

set_option maxHeartbeats 1000000 in
/-- The output gradient against the values. -/
theorem r49_at (h : Fin 12) (s t : Fin 4096) :
    r49 a0 a1 a2 a3 a4 (ix3 h s t) = ∑ x : Fin 64, a4 (ix3 s h x) * a2 (ix3 t h x) := by
  unfold r49
  pointwise

end Cert.ReferenceIdeal.Value
-- ==== Proof.RefR2.lean ====
module

public import proofs.«01_k».proof.Proof.RefCut
public import Idealize.ShloMosaic.Lib.Pointwise
public import Idealize.ShloMosaic.Lib.WordCmp

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic

variable (a0 a1 a2 : FVec Ideal S4096x12x64 .f32) (a3 : FVec Ideal S4096x12 .f32) (a4 : FVec Ideal S4096x12x64 .f32)

set_option maxHeartbeats 1000000 in
/-- The row sums of the derivative of the quotient. -/
theorem r55_at (h : Fin 12) (s : Fin 4096) :
    r55 a0 a1 a2 a3 a4 (ix2 h s) = ∑ x : Fin 4096, r49 a0 a1 a2 a3 a4 (ix3 h s x) * r45 a0 a1 a2 a3 a4 (ix3 h s 0) * r38 a0 a1 a2 a3 a4 (ix3 h s x) := by
  unfold r55
  generalize r49 a0 a1 a2 a3 a4 = g0
  generalize r45 a0 a1 a2 a3 a4 = g1
  generalize r38 a0 a1 a2 a3 a4 = g2
  pointwise

set_option maxHeartbeats 1000000 in
/-- The gradient of the scores. -/
theorem r64_at (h : Fin 12) (s t : Fin 4096) :
    r64 a0 a1 a2 a3 a4 (ix3 h s t) = if t.val ≤ s.val then (Ideal.div (r49 a0 a1 a2 a3 a4 (ix3 h s t)) (r39 a0 a1 a2 a3 a4 (ix2 h s)) + ∑ x : Fin 1, -r55 a0 a1 a2 a3 a4 (ix2 h s)) * r38 a0 a1 a2 a3 a4 (ix3 h s t) else 0 := by
  unfold r64 r17_1
  generalize r49 a0 a1 a2 a3 a4 = g0
  generalize r39 a0 a1 a2 a3 a4 = g1
  generalize r55 a0 a1 a2 a3 a4 = g2
  generalize r38 a0 a1 a2 a3 a4 = g3
  pointwise
  word_cmp
set_option maxHeartbeats 1000000 in
/-- The first result. -/
theorem r82_at (l : Fin 1536) (s : Fin 4096) :
    r82 a0 a1 a2 a3 a4 (ix2 l s) = if l.val % 128 < 64 then ∑ x : Fin 4096, r64 a0 a1 a2 a3 a4 (ix3 ⟨l.val / 128, by omega⟩ s x) * a1 (ix3 x ⟨l.val / 128, by omega⟩ ⟨l.val % 128 % 64, by omega⟩) else if l.val % 128 - 64 < 1 then ∑ y : Fin 1, ∑ x : Fin 4096, r64 a0 a1 a2 a3 a4 (ix3 ⟨l.val / 128, by omega⟩ s x) else 0 := by
  unfold r82 fn_main_v80
  generalize r64 a0 a1 a2 a3 a4 = g0
  pointwise
  have h1 : l.val % 128 < 64 → l.val % 128 % 64 = l.val % 128 := fun h => Nat.mod_eq_of_lt h
  by_cases h2 : l.val % 128 < 64
  · rw [dif_pos h2, if_pos h2]
    refine Finset.sum_congr rfl fun x _ => ?_
    exact congrArg (fun k => g0 (ix3 ⟨l.val / 128, by omega⟩ s x) * a1 (ix3 x ⟨l.val / 128, by omega⟩ k)) (Fin.ext (h1 h2).symm)
  · rw [dif_neg h2, if_neg h2]
    by_cases h3 : l.val % 128 - 64 < 1
    · rw [dif_pos h3, if_pos h3]
    · rw [dif_neg h3, if_neg h3]
set_option maxHeartbeats 1000000 in
/-- The second. -/
theorem r90_at (t : Fin 4096) (l : Fin 768) :
    r90 a0 a1 a2 a3 a4 (ix2 t l) = ∑ x : Fin 4096, r64 a0 a1 a2 a3 a4 (ix3 ⟨l.val / 64, by omega⟩ x t) * a0 (ix3 x ⟨l.val / 64, by omega⟩ ⟨l.val % 64, by omega⟩) := by
  unfold r90
  generalize r64 a0 a1 a2 a3 a4 = g0
  pointwise

set_option maxHeartbeats 1000000 in
/-- The third. -/
theorem r92_at (t : Fin 4096) (l : Fin 768) :
    (r92 a0 a1 a2 a3 a4 (ix2 t l) : EReal) = ∑ x : Fin 4096, a4 (ix3 x ⟨l.val / 64, by omega⟩ ⟨l.val % 64, by omega⟩) * r42 a0 a1 a2 a3 a4 (ix3 ⟨l.val / 64, by omega⟩ x t) := by
  unfold r92
  generalize r42 a0 a1 a2 a3 a4 = g0
  pointwise

set_option maxHeartbeats 1000000 in
/-- The fourth. -/
theorem r89_at (t : Fin 4096) (g2 : Fin 2) (lane : Fin 128) :
    r89 a0 a1 a2 a3 a4 (ix3 g2 t lane) = if h : 6 * g2.val ≤ lane.val ∧ lane.val < 6 * g2.val + 6 then ∑ y : Fin 1, ∑ x : Fin 4096, -r64 a0 a1 a2 a3 a4 (ix3 ⟨lane.val, by omega⟩ x t) else (0 : EReal) := by
  unfold r89 fn_main_v89
  generalize r64 a0 a1 a2 a3 a4 = g0
  pointwise
  have z0 : (FloatOps.sitofp FTy.f32 0#32 : Ideal FTy.f32) = (0 : EReal) := by
    show ((((0#32 : BitVec 32).toInt : ℤ) : ℝ) : EReal) = 0
    simp
  rw [z0]
  have hg := g2.isLt
  split_ifs <;> first | rfl | (exfalso; omega) | (refine Finset.sum_congr rfl fun _ _ => Finset.sum_congr rfl fun x _ => ?_; exact congrArg (fun k => -g0 (ix3 k x t)) (Fin.ext (by dsimp only; omega)))
end Cert.ReferenceIdeal.Value
-- ==== Proof.RefR3.lean ====
module

public import proofs.«01_k».proof.Proof.RefCut
public import Idealize.ShloMosaic.Lib.Pointwise
public import Idealize.ShloMosaic.Lib.WordCmp

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic

variable (a0 a1 a2 : FVec Ideal S4096x12x64 .f32) (a3 : FVec Ideal S4096x12 .f32) (a4 : FVec Ideal S4096x12x64 .f32)

/-- The word of negative infinity. -/
theorem neg_inf3 : Ideal.ofBits FTy.f32 0xFF800000#32 = (⊥ : EReal) := by simp [Ideal.ofBits, Ideal.ieee]

/-- A row maximum, with the maximum's own start. -/
theorem rowmax_at (X : FVec Ideal S12x4096x4096 .f32) (h : Fin 12) (s : Fin 4096) :
    (Host.reduce FloatOps.maximumf X (constant S_ .f32 0xFF800000#32) reducesTo_S12x4096x4096_S12x4096_d2 h_S_ : FVec Ideal S12x4096 .f32) (ix2 h s)
      = Finset.fold max (⊥ : EReal) (fun x : Fin 4096 => X (ix3 h s x)) Finset.univ := by
  pointwise
  rw [neg_inf3]

/-- Against the lower bound it changes nothing. -/
theorem lower_at (Y : FVec Ideal S12x4096 .f32) (h : Fin 12) (s : Fin 4096) :
    (maximumf (broadcastInDim S12x4096 ![] bcast_S_S12x4096 (constant S_ .f32 0xFF800000#32)) Y : FVec Ideal S12x4096 .f32) (ix2 h s) = Y (ix2 h s) := by
  pointwise
  rw [neg_inf3]
  exact max_eq_right bot_le

/-- The row maxima. -/
theorem r25_at (h : Fin 12) (s : Fin 4096) :
    r25 a0 a1 a2 a3 a4 (ix2 h s) = Finset.fold max (⊥ : EReal) (fun x : Fin 4096 => r17_0 a0 a1 a2 a3 a4 (ix3 h s x)) Finset.univ :=
  (lower_at _ h s).trans (rowmax_at _ h s)

end Cert.ReferenceIdeal.Value
-- ==== Proof.MathR.lean ====
module

public import proofs.«01_k».proof.Proof.Reals
public import proofs.«01_k».proof.Proof.RefR1
public import proofs.«01_k».proof.Proof.RefR2
public import proofs.«01_k».proof.Proof.RefR3

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic

/-! ## The reference's quantities at real arguments -/

/-- The arguments are real numbers. -/
structure Holds (A : Cert.FoxReal.Args) (a0 a1 a2 : FVec Ideal S4096x12x64 .f32) (a3 : FVec Ideal S4096x12 .f32) (a4 : FVec Ideal S4096x12x64 .f32) : Prop where
  q : ∀ s h l, a0 (ix3 s h l) = ((A.q s h l : ℝ) : EReal)
  k : ∀ s h l, a1 (ix3 s h l) = ((A.k s h l : ℝ) : EReal)
  v : ∀ s h l, a2 (ix3 s h l) = ((A.v s h l : ℝ) : EReal)
  c : ∀ s h, a3 (ix2 s h) = ((A.c s h : ℝ) : EReal)
  y : ∀ s h l, a4 (ix3 s h l) = ((A.y s h l : ℝ) : EReal)

variable (A : Cert.FoxReal.Args) {a0 a1 a2 : FVec Ideal S4096x12x64 .f32} {a3 : FVec Ideal S4096x12 .f32} {a4 : FVec Ideal S4096x12x64 .f32} (H : Holds A a0 a1 a2 a3 a4)

open Cert.FoxReal

include H

theorem r17_real (h : Fin 12) (s t : Fin 4096) : r17_0 a0 a1 a2 a3 a4 (ix3 h s t) = ms A h s t := by
  rw [r17_0_at]
  unfold ms sc
  simp only [H.q, H.k, H.c, ← EReal.coe_mul, coe_sum, ← EReal.coe_add, ← EReal.coe_sub]

theorem r25_real (h : Fin 12) (s : Fin 4096) : r25 a0 a1 a2 a3 a4 (ix2 h s) = ((mx A h s : ℝ) : EReal) := by
  rw [r25_at, ← mx_coe]
  simp only [r17_real A H]

theorem r38_real (h : Fin 12) (s t : Fin 4096) : r38 a0 a1 a2 a3 a4 (ix3 h s t) = ((ee A h s t : ℝ) : EReal) := by
  rw [r38_at, r17_real A H, r25_real A H, ee_coe]

theorem r39_real (h : Fin 12) (s : Fin 4096) : r39 a0 a1 a2 a3 a4 (ix2 h s) = ((den A h s : ℝ) : EReal) := by
  rw [r39_at]
  simp only [r38_real A H]
  exact coe_sum _ _

/-- The weights. -/
theorem r42_real (h : Fin 12) (s t : Fin 4096) : r42 a0 a1 a2 a3 a4 (ix3 h s t) = ((ww A h s t : ℝ) : EReal) := by
  rw [r42_at, r38_real A H, r39_real A H, div_real _ _ (den_pos A h s).ne']
  rfl

theorem r45_real (h : Fin 12) (s : Fin 4096) : r45 a0 a1 a2 a3 a4 (ix3 h s 0) = ((1 / (den A h s * den A h s) : ℝ) : EReal) := by
  rw [r45_at, r39_real A H, ← EReal.coe_mul, ← EReal.coe_one, div_real _ _ (mul_pos (den_pos A h s) (den_pos A h s)).ne']

theorem r49_real (h : Fin 12) (s t : Fin 4096) : r49 a0 a1 a2 a3 a4 (ix3 h s t) = ((dp A h s t : ℝ) : EReal) := by
  rw [r49_at]
  simp only [H.y, H.v, ← EReal.coe_mul, coe_sum]
  rfl

theorem r55_real (h : Fin 12) (s : Fin 4096) : r55 a0 a1 a2 a3 a4 (ix2 h s) = ((∑ x : Fin 4096, dp A h s x * (1 / (den A h s * den A h s)) * ee A h s x : ℝ) : EReal) := by
  rw [r55_at]
  simp only [r49_real A H, r45_real A H, r38_real A H, ← EReal.coe_mul, coe_sum]

/-- The gradient of the scores. -/
theorem r64_real (h : Fin 12) (s t : Fin 4096) : r64 a0 a1 a2 a3 a4 (ix3 h s t) = ((ds A h s t : ℝ) : EReal) := by
  rw [r64_at]
  by_cases hst : t.val ≤ s.val
  · rw [if_pos hst, Fin.sum_univ_one, r49_real A H, r39_real A H, r55_real A H, r38_real A H, div_real _ _ (den_pos A h s).ne', ← EReal.coe_neg, ← EReal.coe_add, ← EReal.coe_mul, ds_quot]
  · rw [if_neg hst, ds_above A h s t hst, EReal.coe_zero]

end Cert.ReferenceIdeal.Value
-- ==== Proof.Val.lean ====
module

public import proofs.«01_k».proof.Proof.Fin2
public import proofs.«01_k».proof.Proof.MathK
public import proofs.«01_k».proof.Proof.MathR
public import proofs.«01_k».proof.Proof.PreCut
public import proofs.«01_k».proof.Proof.RefCut

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

variable (c : Dev nD) (A : Cert.FoxReal.Args)

open Cert.FoxReal

/-- The call's arguments on a device. -/
abbrev b0 : FVec Ideal S4096x12x64 .f32 := m ((c : Thread nD τ).loc main_arg0)
abbrev b1 : FVec Ideal S4096x12x64 .f32 := m ((c : Thread nD τ).loc main_arg1)
abbrev b2 : FVec Ideal S4096x12x64 .f32 := m ((c : Thread nD τ).loc main_arg2)
abbrev b3 : FVec Ideal S4096x12 .f32 := m ((c : Thread nD τ).loc main_arg3)
abbrev b4 : FVec Ideal S4096x12x64 .f32 := m ((c : Thread nD τ).loc main_arg4)

variable (H : Holds A (b0 m c) (b1 m c) (b2 m c) (b3 m c) (b4 m c))

/-! ## The slabs' entries -/

theorem aQ_eq (s : Fin 4096) (r : Fin 1536) : aQ m c s r = k61 (b0 m c) (b1 m c) (b2 m c) (b3 m c) (b4 m c) (ix2 s r) := congrFun (V61 m c) _
theorem aK_eq (s : Fin 4096) (r : Fin 1536) : aK m c s r = k80 (b0 m c) (b1 m c) (b2 m c) (b3 m c) (b4 m c) (ix2 s r) := congrFun (V80 m c) _
theorem aV_eq (s : Fin 4096) (r : Fin 1536) : aV m c s r = k84 (b0 m c) (b1 m c) (b2 m c) (b3 m c) (b4 m c) (ix2 s r) := congrFun (V84 m c) _
theorem aY_eq (s : Fin 4096) (r : Fin 1536) : aY m c s r = k103 (b0 m c) (b1 m c) (b2 m c) (b3 m c) (b4 m c) (ix2 s r) := congrFun (V103 m c) _
theorem aQT_eq (s : Fin 4096) (r : Fin 1536) : aQT m c r s = k104 (b0 m c) (b1 m c) (b2 m c) (b3 m c) (b4 m c) (ix2 r s) := congrFun (V104 m c) _
theorem aKT_eq (s : Fin 4096) (r : Fin 1536) : aKT m c r s = k105 (b0 m c) (b1 m c) (b2 m c) (b3 m c) (b4 m c) (ix2 r s) := congrFun (V105 m c) _
theorem aYT_eq (s : Fin 4096) (r : Fin 1536) : aYT m c r s = k106 (b0 m c) (b1 m c) (b2 m c) (b3 m c) (b4 m c) (ix2 r s) := congrFun (V106 m c) _

include H

theorem aQ_real (s : Fin 4096) (h : Fin 12) (l : Fin 64) : aQ m c s (col h ⟨l.val, by omega⟩) = ((A.q s h l : ℝ) : EReal) := by
  rw [aQ_eq, k61_at _ _ _ _ _ s h ⟨l.val, by omega⟩ _ rfl]
  exact ((cat4_at _ _ _ _ h s).1 l).trans ((k1_at _ _ _ _ _ s h l).trans (H.q s h l))

omit H in
theorem aQ_one (s : Fin 4096) (h : Fin 12) : aQ m c s (col h 67) = (1 : EReal) := by
  rw [aQ_eq, k61_at _ _ _ _ _ s h 67 _ rfl]
  exact ((cat4_at _ _ _ _ h s).2.2.1 0).trans (ones3 _)

theorem aKT_real (s : Fin 4096) (h : Fin 12) (l : Fin 64) : aKT m c (col h ⟨l.val, by omega⟩) s = ((A.k s h l : ℝ) : EReal) := by
  rw [aKT_eq, k105_at, k80_at _ _ _ _ _ s h ⟨l.val, by omega⟩ _ rfl]
  exact ((cat4_at _ _ _ _ h s).1 l).trans ((k3_at _ _ _ _ _ s h l).trans (H.k s h l))

omit H in
theorem aKT_one (s : Fin 4096) (h : Fin 12) : aKT m c (col h 64) s = (1 : EReal) := by
  rw [aKT_eq, k105_at, k80_at _ _ _ _ _ s h 64 _ rfl]
  exact ((cat4_at _ _ _ _ h s).2.1 0).trans (ones3 _)

theorem aY_real (s : Fin 4096) (h : Fin 12) (l : Fin 64) : aY m c s (col h ⟨l.val, by omega⟩) = ((A.y s h l : ℝ) : EReal) := by
  rw [aY_eq, k103_at _ _ _ _ _ s h ⟨l.val, by omega⟩ _ rfl]
  exact ((cat4_at _ _ _ _ h s).1 l).trans (H.y s h l)

/-! ## Weights and gradients -/

/-- The kernel's weight is the weight. -/
theorem gP_real (h : Fin 12) (k s : Fin 4096) : gP m c h k s = ((ww A h s k : ℝ) : EReal) := by
  unfold gP
  by_cases hk : k.val ≤ s.val
  · rw [if_pos hk]
    have e : (∑ l : Fin 128, aK m c k (col h l) * aQT m c (col h l) s) = ((sc A h s k - (mx A h s + Real.log (den A h s)) : ℝ) : EReal) :=
      (Finset.sum_congr rfl fun l _ => congrArg₂ (fun a b : EReal => a * b) (aK_eq m c k (col h l)) (aQT_eq m c s (col h l))).trans
        (score_real A H h s k (col h) fun l => rfl)
    rw [e, Ideal.exp_coe, ww_exp A h s k hk]
  · rw [if_neg hk, ww_above A h s k hk, EReal.coe_zero]

/-- The kernel's gradient is the gradient of the score. -/
theorem gDS_real (h : Fin 12) (k s : Fin 4096) : gDS m c h k s = ((ds A h s k : ℝ) : EReal) := by
  have e : (∑ l : Fin 128, aV m c k (col h l) * aYT m c (col h l) s) = ((dp A h s k - del A h s : ℝ) : EReal) :=
    (Finset.sum_congr rfl fun l _ => congrArg₂ (fun a b : EReal => a * b) (aV_eq m c k (col h l)) (aYT_eq m c s (col h l))).trans
      (grad_real A H h s k (col h) fun l => rfl)
  unfold gDS
  rw [e, gP_real m c A H, ← EReal.coe_mul]
  rfl

theorem refHolds : Cert.ReferenceIdeal.Value.Holds A (b0 m c) (b1 m c) (b2 m c) (b3 m c) (b4 m c) := ⟨H.q, H.k, H.v, H.c, H.y⟩

/-! ## The results -/

/-- The gradient of the queries, transposed, and the row sums of the scores' gradients: the rows that are stored. -/
theorem val0_eq (r : Fin 1536) (s : Fin 4096) (hr : r.val % 128 ≤ 64) : val0 m c r s = Cert.ReferenceIdeal.Value.r82 (b0 m c) (b1 m c) (b2 m c) (b3 m c) (b4 m c) (ix2 r s) := by
  rw [Cert.ReferenceIdeal.Value.r82_at]
  unfold val0
  by_cases h : r.val % 128 < 64
  · rw [if_pos h]
    refine Finset.sum_congr rfl fun k _ => ?_
    rw [Cert.ReferenceIdeal.Value.r64_real A (refHolds m c A H), gDS_real m c A H, mul_comm]
    have e : (⟨r.val % 128 % 64, by omega⟩ : Fin 64) = ⟨r.val % 128, h⟩ := Fin.ext (by show r.val % 128 % 64 = r.val % 128; omega)
    rw [e]
    exact congrArg (fun z : EReal => _ * z) ((aKT_real m c A H k ⟨r.val / 128, by omega⟩ ⟨r.val % 128, h⟩).trans (H.k k _ _).symm)
  · have e : (⟨r.val % 128, by omega⟩ : Fin 128) = 64 := Fin.ext (by show r.val % 128 = 64; omega)
    rw [if_neg h, if_pos (by omega), Fin.sum_univ_one]
    refine Finset.sum_congr rfl fun k _ => ?_
    rw [Cert.ReferenceIdeal.Value.r64_real A (refHolds m c A H), gDS_real m c A H, e, aKT_one, one_mul]

/-- The gradient of the keys. -/
theorem val7_eq (k : Fin 4096) (y : Fin 768) : val7 m c k y = Cert.ReferenceIdeal.Value.r90 (b0 m c) (b1 m c) (b2 m c) (b3 m c) (b4 m c) (ix2 k y) := by
  rw [Cert.ReferenceIdeal.Value.r90_at]
  unfold val7
  refine Finset.sum_congr rfl fun s _ => ?_
  rw [Cert.ReferenceIdeal.Value.r64_real A (refHolds m c A H), gDS_real m c A H]
  exact congrArg (fun z : EReal => _ * z) ((aQ_real m c A H s ⟨y.val / 64, by omega⟩ ⟨y.val % 64, by omega⟩).trans (H.q s _ _).symm)

/-- The gradient of the values. -/
theorem val8_eq (k : Fin 4096) (y : Fin 768) : val8 m c k y = Cert.ReferenceIdeal.Value.r92 (b0 m c) (b1 m c) (b2 m c) (b3 m c) (b4 m c) (ix2 k y) := by
  rw [Cert.ReferenceIdeal.Value.r92_at]
  unfold val8
  refine Finset.sum_congr rfl fun s _ => ?_
  rw [Cert.ReferenceIdeal.Value.r42_real A (refHolds m c A H), gP_real m c A H, mul_comm]
  exact congrArg (fun z : EReal => z * _) ((aY_real m c A H s ⟨y.val / 64, by omega⟩ ⟨y.val % 64, by omega⟩).trans (H.y s _ _).symm)

/-- The negated column sums of the scores' gradients, in the heads' lanes. -/
theorem val9_eq (g : Fin 2) (k : Fin 4096) (y : Fin 128) : val9 m c g k y = Cert.ReferenceIdeal.Value.r89 (b0 m c) (b1 m c) (b2 m c) (b3 m c) (b4 m c) (ix3 g k y) := by
  rw [Cert.ReferenceIdeal.Value.r89_at]
  unfold val9
  by_cases h : 6 * g.val ≤ y.val ∧ y.val < 6 * g.val + 6
  · rw [dif_pos h, dif_pos h, Fin.sum_univ_one]
    have e1 : (∑ s, gDS m c ⟨y.val, by omega⟩ k s * aQ m c s (col ⟨y.val, by omega⟩ 67)) = ((∑ s, ds A ⟨y.val, by omega⟩ s k : ℝ) : EReal) :=
      (Finset.sum_congr rfl fun s _ => (congrArg₂ (fun a b : EReal => a * b) (gDS_real m c A H _ k s) (aQ_one m c s _)).trans (mul_one _)).trans (coe_sum _ _)
    have e2 : (∑ x, -Cert.ReferenceIdeal.Value.r64 (b0 m c) (b1 m c) (b2 m c) (b3 m c) (b4 m c) (ix3 ⟨y.val, by omega⟩ x k)) = ((∑ s, -ds A ⟨y.val, by omega⟩ s k : ℝ) : EReal) :=
      (Finset.sum_congr rfl fun s _ => (congrArg (fun a : EReal => -a) (Cert.ReferenceIdeal.Value.r64_real A (refHolds m c A H) _ s k)).trans (EReal.coe_neg _).symm).trans (coe_sum _ _)
    refine (congrArg (fun z : EReal => 0 - z) e1).trans (Eq.trans ?_ e2.symm)
    show (0 : EReal) - _ = _
    rw [zero_sub, ← EReal.coe_neg, Finset.sum_neg_distrib]
  · rw [dif_neg h, dif_neg h]

end Cert.KernelIdeal.Hand
-- ==== Proof.Pred.lean ====
module

public import proofs.«01_k».proof.Proof.Val
public import proofs.«01_k».proof.Defs
public import proofs.«01_k».proof.Proof.Gen.Pre_finite
public import proofs.«01_k».proof.Proof.Gen.On_stored

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

/-- Of a number whose magnitude is below infinity: it is a real. -/
theorem finite_real (x : Ideal .f32) (h : FloatOps.cmpf .olt (FloatOps.hostAbsf x) (FloatOps.ofBits (F := Ideal) .f32 0x7F800000#32) = 1#1) :
    (x : EReal) = ((EReal.toReal x : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  refine (EReal.coe_toReal (ne_of_lt hlt.1) ?_).symm
  intro hb
  rw [hb] at hlt
  simp at hlt

/-- The numbers the arguments hold. -/
def argsOf (a0 a1 a2 : FVec Ideal S4096x12x64 .f32) (a3 : FVec Ideal S4096x12 .f32) (a4 : FVec Ideal S4096x12x64 .f32) : Cert.FoxReal.Args where
  q s h l := EReal.toReal (a0 (ix3 s h l))
  k s h l := EReal.toReal (a1 (ix3 s h l))
  v s h l := EReal.toReal (a2 (ix3 s h l))
  c s h := EReal.toReal (a3 (ix2 s h))
  y s h l := EReal.toReal (a4 (ix3 s h l))

/-- Arguments that are finite are real numbers. -/
theorem holds_of_pre [hPre_finite : Cert.Pre_finite.Facts] (hp : Cert.Pre_KernelIdeal_finite m) (c : Dev nD) :
    Holds (argsOf (b0 m c) (b1 m c) (b2 m c) (b3 m c) (b4 m c)) (b0 m c) (b1 m c) (b2 m c) (b3 m c) (b4 m c) :=
  ⟨fun s h l => finite_real _ (congrFun (hp c).1 (ix3 s h l)), fun s h l => finite_real _ (congrFun (hp c).2.1 (ix3 s h l)),
    fun s h l => finite_real _ (congrFun (hp c).2.2.1 (ix3 s h l)), fun s h => finite_real _ (congrFun (hp c).2.2.2.1 (ix2 s h)),
    fun s h l => finite_real _ (congrFun (hp c).2.2.2.2 (ix3 s h l))⟩

/-- The remainder of a row by 128, as the mask takes it. -/
def rowRem (w : BitVec 32) : BitVec 32 :=
  let d : BitVec 32 := if IntOp.cmpi .eq (128#32) (0#32) = 1#1 then 1#32 else 128#32
  let r := IntOp.remsi .host w d
  if IntOp.andi (IntOp.cmpi .ne (IntOp.cmpi .slt r 0#32) (IntOp.cmpi .slt d 0#32)) (IntOp.cmpi .ne r 0#32) = 1#1 then IntOp.addi r d else r

theorem rowRem_le : ∀ r : Fin 1536, IntOp.cmpi .sle (rowRem (BitVec.ofNat 32 r.val)) 64#32 = 1#1 → r.val % 128 ≤ 64 := by
  decide +kernel

/-- The mask holds of the first 65 rows of each head. -/
theorem stored_rows [hOn : Cert.On_stored.Facts] (a0 a1 a2 : FVec Ideal S4096x12x64 .f32) (a3 : FVec Ideal S4096x12 .f32) (a4 : FVec Ideal S4096x12x64 .f32)
    (r : Fin 1536) (s : Fin 4096) (h : (Cert.On_stored.fn (F := Ideal) a0 a1 a2 a3 a4).1 (ix2 r s) = 1#1) : r.val % 128 ≤ 64 :=
  rowRem_le r h

end Cert.KernelIdeal.Hand
-- ==== Proof.Alg.lean ====
module

public import proofs.«01_k».proof.Proof.Pred

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

/-- The reference's results of given arguments. -/
abbrev w0 (c : Dev nD) : S1536x4096.Idx → EReal := Cert.ReferenceIdeal.Value.r82 (b0 m c) (b1 m c) (b2 m c) (b3 m c) (b4 m c)
abbrev w1 (c : Dev nD) : S4096x768.Idx → EReal := Cert.ReferenceIdeal.Value.r90 (b0 m c) (b1 m c) (b2 m c) (b3 m c) (b4 m c)
abbrev w2 (c : Dev nD) : S4096x768.Idx → EReal := Cert.ReferenceIdeal.Value.r92 (b0 m c) (b1 m c) (b2 m c) (b3 m c) (b4 m c)
abbrev w3 (c : Dev nD) : S2x4096x128.Idx → EReal := Cert.ReferenceIdeal.Value.r89 (b0 m c) (b1 m c) (b2 m c) (b3 m c) (b4 m c)

variable (c : Dev nD) (A : Cert.FoxReal.Args) (H : Holds A (b0 m c) (b1 m c) (b2 m c) (b3 m c) (b4 m c))

include H

theorem end_0 [hOn : Cert.On_stored.Facts] (i : S1536x4096.Idx)
    (hi : (Cert.On_stored.fn (F := Ideal) (b0 m c) (b1 m c) (b2 m c) (b3 m c) (b4 m c)).1 i = 1#1) :
    (Gend m c main_v107_0 : S1536x4096.Idx → EReal) i = w0 m c i := by
  obtain ⟨r, s, rfl⟩ : ∃ (r : Fin 1536) (s : Fin 4096), i = ix2 r s := ⟨i 0, i 1, eq_ix2 i⟩
  exact (arr_0 m c r s).trans (val0_eq m c A H r s (stored_rows _ _ _ _ _ r s hi))

theorem end_1 : ((dats m 0 c).arrAt 7 cfg0.N : S4096x768.Idx → EReal) = w1 m c := by
  refine (arr_7 m c).trans (funext fun i => ?_)
  obtain ⟨r, s, rfl⟩ : ∃ (r : Fin 4096) (s : Fin 768), i = ix2 r s := ⟨i 0, i 1, eq_ix2 i⟩
  exact val7_eq m c A H r s

theorem end_2 : ((dats m 0 c).arrAt 8 cfg0.N : S4096x768.Idx → EReal) = w2 m c := by
  refine (arr_8 m c).trans (funext fun i => ?_)
  obtain ⟨r, s, rfl⟩ : ∃ (r : Fin 4096) (s : Fin 768), i = ix2 r s := ⟨i 0, i 1, eq_ix2 i⟩
  exact val8_eq m c A H r s

theorem end_3 : ((dats m 0 c).arrAt 9 cfg0.N : S2x4096x128.Idx → EReal) = w3 m c := by
  refine (arr_9 m c).trans (funext fun i => ?_)
  obtain ⟨g, r, s, rfl⟩ : ∃ (g : Fin 2) (r : Fin 4096) (s : Fin 128), i = ix3 g r s := ⟨i 0, i 1, i 2, eq_ix3 i⟩
  exact val9_eq m c A H g r s

omit H in
/-- The kernel and the reference have the same results, of finite arguments. -/
theorem algebraic [hPre_finite : Cert.Pre_finite.Facts] [hOn : Cert.On_stored.Facts] :
    Cert.algebraic_KernelIdeal_ReferenceIdeal_on_stored_pre_finite (hKernelIdeal := Cert.KernelIdeal.Gen.facts)
      (hReferenceIdeal := Cert.ReferenceIdeal.Gen.facts) (hPre_finite := hPre_finite) (hOn_stored := hOn) := by
  intro m g m' g' hp hm
  refine ⟨fun c => w0 m c, fun c => w1 m c, fun c => w2 m c, fun c => w3 m c, ?_, ?_⟩
  · refine (θ_run Cert.KernelIdeal.defs _ _).mono (fun r h c => ?_) (run_main (F := Ideal) m g)
    have H := holds_of_pre m hp c
    have h1 := h.1.toR c
    have hw : r.2.mem ((c : Thread nD τ).loc main_v107_0) = Gend m c main_v107_0 := h.1.written c (by decide)
    refine ⟨fun i hi => (congrFun hw i).trans (end_0 m c _ H i hi),
      fun i _ => congrFun ((h1.1 7).trans (end_1 m c _ H)) i, fun i _ => congrFun ((h1.1 8).trans (end_2 m c _ H)) i,
      fun i _ => congrFun ((h1.1 9).trans (end_3 m c _ H)) i,
      (h1.2 main_arg0 (Finset.mem_sdiff.mpr ⟨Pipeline.mem_restRefs_of main_arg0 (by decide) (by decide), by decide⟩)).trans (V_main_arg0 m c),
      (h1.2 main_arg1 (Finset.mem_sdiff.mpr ⟨Pipeline.mem_restRefs_of main_arg1 (by decide) (by decide), by decide⟩)).trans (V_main_arg1 m c),
      (h1.2 main_arg2 (Finset.mem_sdiff.mpr ⟨Pipeline.mem_restRefs_of main_arg2 (by decide) (by decide), by decide⟩)).trans (V_main_arg2 m c),
      (h1.2 main_arg3 (Finset.mem_sdiff.mpr ⟨Pipeline.mem_restRefs_of main_arg3 (by decide) (by decide), by decide⟩)).trans (V_main_arg3 m c),
      (h1.2 main_arg4 (Finset.mem_sdiff.mpr ⟨Pipeline.mem_restRefs_of main_arg4 (by decide) (by decide), by decide⟩)).trans (V_main_arg4 m c)⟩
  · refine (θ_run Cert.ReferenceIdeal.defs _ _).mono (fun r h c => ?_) (Cert.ReferenceIdeal.Value.run (F := Ideal) m' g')
    obtain ⟨e0, e1, e2, e3, e4⟩ := hm c
    obtain ⟨h0, h1, h2, h3, ha⟩ := h c
    refine ⟨fun i _ => congrFun (h0.trans ((Cert.ReferenceIdeal.Value.out0_eq m' c).trans ?_)) i,
      fun i _ => congrFun (h1.trans ((Cert.ReferenceIdeal.Value.out1_eq m' c).trans ?_)) i,
      fun i _ => congrFun (h2.trans ((Cert.ReferenceIdeal.Value.out2_eq m' c).trans ?_)) i,
      fun i _ => congrFun (h3.trans ((Cert.ReferenceIdeal.Value.out3_eq m' c).trans ?_)) i, ha⟩
    · rw [e0, e1, e2, e3, e4]
    · rw [e0, e1, e2, e3, e4]
    · rw [e0, e1, e2, e3, e4]
    · rw [e0, e1, e2, e3, e4]

end Cert.KernelIdeal.Hand
-- ==== Proof.Mf.lean ====
module

public import proofs.«01_k».proof.Defs
public import proofs.«01_k».proof.Proof.Gen.Kernel7Ideal.Value
public import proofs.«01_k».proof.Proof.Gen.Reference7Ideal.Run
public import Idealize.ShloMosaic.Lib.Pipeline.ValueKit.Geometry
public import Idealize.ShloMosaic.Lib.Pointwise

@[expose] public section

set_option maxRecDepth 16384

noncomputable section

namespace Cert.Kernel7Ideal.Hand

open Cert.Kernel7Ideal Cert.Kernel7Ideal.Gen
open Idealize.ShloMosaic Idealize.ShloMosaic.TcCoe Idealize.ShloMosaic.Tactic

variable (m : (ℓ : Loc nD τ sig) → Buf (Elt Ideal) ℓ)

/-! ## The gated sum of the three branches, block by block -/

theorem N0 : cfg0.N = 32 := by decide +kernel

theorem hz : (![0, 0] : Fin 2 → Nat) = fun _ => 0 := funext fun a => by fin_cases a <;> rfl

theorem hz3 : (![0, 0, 0] : Fin 3 → Nat) = fun _ => 0 := funext fun a => by fin_cases a <;> rfl

theorem idx0 : ∀ t : Fin cfg0.N, win0_0.index t 0 = t.val / 4 ∧ win0_0.index t 1 = 0 :=
  (by decide +kernel : ∀ t : Fin grid0.N, _)

theorem idx1 : ∀ t : Fin cfg0.N, win0_1.index t 0 = t.val / 4 ∧ win0_1.index t 1 = 0 :=
  (by decide +kernel : ∀ t : Fin grid0.N, _)

theorem idx2 : ∀ t : Fin cfg0.N, win0_2.index t 0 = t.val / 4 ∧ win0_2.index t 1 = 0 :=
  (by decide +kernel : ∀ t : Fin grid0.N, _)

theorem idx3 : ∀ t : Fin cfg0.N, win0_3.index t 0 = t.val % 4 ∧ win0_3.index t 1 = 0 ∧ win0_3.index t 2 = 0 :=
  (by decide +kernel : ∀ t : Fin grid0.N, _)

theorem idx4 : ∀ t : Fin cfg0.N, win0_4.index t 0 = t.val % 4 ∧ win0_4.index t 1 = 0 ∧ win0_4.index t 2 = 0 :=
  (by decide +kernel : ∀ t : Fin grid0.N, _)

theorem idx5 : ∀ t : Fin cfg0.N, win0_5.index t 0 = t.val % 4 ∧ win0_5.index t 1 = 0 ∧ win0_5.index t 2 = 0 :=
  (by decide +kernel : ∀ t : Fin grid0.N, _)

theorem idx6 : ∀ t : Fin cfg0.N, win0_6.index t 0 = t.val / 4 ∧ win0_6.index t 1 = 12 + t.val % 4 :=
  (by decide +kernel : ∀ t : Fin grid0.N, _)

theorem idx7 : ∀ t : Fin cfg0.N, win0_7.index t 0 = t.val / 4 ∧ win0_7.index t 1 = 16 + t.val % 4 :=
  (by decide +kernel : ∀ t : Fin grid0.N, _)

theorem idx8 : ∀ t : Fin cfg0.N, win0_8.index t 0 = t.val / 4 ∧ win0_8.index t 1 = 20 + t.val % 4 :=
  (by decide +kernel : ∀ t : Fin grid0.N, _)

theorem idx9 : ∀ t : Fin cfg0.N, win0_9.index t 0 = t.val / 4 ∧ win0_9.index t 1 = t.val % 4 :=
  (by decide +kernel : ∀ t : Fin grid0.N, _)

/-- The arguments. -/
abbrev b0 (c : Dev nD) : S4096x12288.Idx → EReal := m ((c.tc : Thread nD τ).loc main_arg0)
abbrev b1 (c : Dev nD) : S4096x768.Idx → EReal := m ((c.tc : Thread nD τ).loc main_arg1)
abbrev b2 (c : Dev nD) : S4096x768.Idx → EReal := m ((c.tc : Thread nD τ).loc main_arg2)
abbrev b3 (c : Dev nD) : S4096x512.Idx → EReal := m ((c.tc : Thread nD τ).loc main_arg3)
abbrev b4 (c : Dev nD) : S768x2048.Idx → EReal := m ((c.tc : Thread nD τ).loc main_arg4)
abbrev b5 (c : Dev nD) : S768x2048.Idx → EReal := m ((c.tc : Thread nD τ).loc main_arg5)
abbrev b6 (c : Dev nD) : S512x2048.Idx → EReal := m ((c.tc : Thread nD τ).loc main_arg6)

/-- The four slabs, before they are put one after the other. -/
abbrev pieces768 (x : FVec Ideal S768x2048 .bf16) : List ((s : Shape) × (s.Idx → EReal)) :=
  [⟨S1x768x512, (broadcastInDim S1x768x512 ![1, 2] bcast_S768x512_S1x768x512_1_2 (extractStridedSlice S768x512 ![0, 0] x slices_S768x2048_S768x512_0_0) : FVec Ideal S1x768x512 .bf16)⟩, ⟨S1x768x512, (broadcastInDim S1x768x512 ![1, 2] bcast_S768x512_S1x768x512_1_2 (extractStridedSlice S768x512 ![0, 512] x slices_S768x2048_S768x512_0_512) : FVec Ideal S1x768x512 .bf16)⟩, ⟨S1x768x512, (broadcastInDim S1x768x512 ![1, 2] bcast_S768x512_S1x768x512_1_2 (extractStridedSlice S768x512 ![0, 1024] x slices_S768x2048_S768x512_0_1024) : FVec Ideal S1x768x512 .bf16)⟩, ⟨S1x768x512, (broadcastInDim S1x768x512 ![1, 2] bcast_S768x512_S1x768x512_1_2 (extractStridedSlice S768x512 ![0, 1536] x slices_S768x2048_S768x512_0_1536) : FVec Ideal S1x768x512 .bf16)⟩]

/-- A weight of 768 rows as four slabs of 512 columns. -/
def slab768 (x : FVec Ideal S768x2048 .bf16) : FVec Ideal S4x768x512 .bf16 :=
  concatenate S4x768x512 0 (pieces768 x) concatenates_S1x768x512_S1x768x512_S1x768x512_S1x768x512_S4x768x512_d0

theorem slab768_0 (x : FVec Ideal S768x2048 .bf16) (k : Fin 768) (y : Fin 512) :
    (slab768 x : S4x768x512.Idx → EReal) (ix3 (⟨0, by omega⟩ : Fin 4) k y) = (x : S768x2048.Idx → EReal) (ix2 k ⟨512 * 0 + y.val, by omega⟩) := by
  unfold slab768
  refine (concatenate_apply_piece (t := S4x768x512) (0 : Fin 3) (pieces768 x) concatenates_S1x768x512_S1x768x512_S1x768x512_S1x768x512_S4x768x512_d0 (ix3 (⟨0, by omega⟩ : Fin 4) k y) 0 (by show 0 < 4; omega) S1x768x512 _ rfl rfl 0 rfl (ix3 (⟨0, by omega⟩ : Fin 1) k y) (fun b hb => ?_) rfl).trans ?_
  · match b with
    | ⟨0, _⟩ => exact absurd rfl hb
    | ⟨1, _⟩ => rfl
    | ⟨2, _⟩ => rfl
  · refine congrArg (x : S768x2048.Idx → EReal) (funext fun a => Fin.ext ?_)
    match a with
    | ⟨0, _⟩ => show 0 + k.val = k.val; omega
    | ⟨1, _⟩ => show 0 + y.val = 512 * 0 + y.val; omega

theorem slab768_1 (x : FVec Ideal S768x2048 .bf16) (k : Fin 768) (y : Fin 512) :
    (slab768 x : S4x768x512.Idx → EReal) (ix3 (⟨1, by omega⟩ : Fin 4) k y) = (x : S768x2048.Idx → EReal) (ix2 k ⟨512 * 1 + y.val, by omega⟩) := by
  unfold slab768
  refine (concatenate_apply_piece (t := S4x768x512) (0 : Fin 3) (pieces768 x) concatenates_S1x768x512_S1x768x512_S1x768x512_S1x768x512_S4x768x512_d0 (ix3 (⟨1, by omega⟩ : Fin 4) k y) 1 (by show 1 < 4; omega) S1x768x512 _ rfl rfl 1 rfl (ix3 (⟨0, by omega⟩ : Fin 1) k y) (fun b hb => ?_) rfl).trans ?_
  · match b with
    | ⟨0, _⟩ => exact absurd rfl hb
    | ⟨1, _⟩ => rfl
    | ⟨2, _⟩ => rfl
  · refine congrArg (x : S768x2048.Idx → EReal) (funext fun a => Fin.ext ?_)
    match a with
    | ⟨0, _⟩ => show 0 + k.val = k.val; omega
    | ⟨1, _⟩ => show 512 + y.val = 512 * 1 + y.val; omega

theorem slab768_2 (x : FVec Ideal S768x2048 .bf16) (k : Fin 768) (y : Fin 512) :
    (slab768 x : S4x768x512.Idx → EReal) (ix3 (⟨2, by omega⟩ : Fin 4) k y) = (x : S768x2048.Idx → EReal) (ix2 k ⟨512 * 2 + y.val, by omega⟩) := by
  unfold slab768
  refine (concatenate_apply_piece (t := S4x768x512) (0 : Fin 3) (pieces768 x) concatenates_S1x768x512_S1x768x512_S1x768x512_S1x768x512_S4x768x512_d0 (ix3 (⟨2, by omega⟩ : Fin 4) k y) 2 (by show 2 < 4; omega) S1x768x512 _ rfl rfl 2 rfl (ix3 (⟨0, by omega⟩ : Fin 1) k y) (fun b hb => ?_) rfl).trans ?_
  · match b with
    | ⟨0, _⟩ => exact absurd rfl hb
    | ⟨1, _⟩ => rfl
    | ⟨2, _⟩ => rfl
  · refine congrArg (x : S768x2048.Idx → EReal) (funext fun a => Fin.ext ?_)
    match a with
    | ⟨0, _⟩ => show 0 + k.val = k.val; omega
    | ⟨1, _⟩ => show 1024 + y.val = 512 * 2 + y.val; omega

theorem slab768_3 (x : FVec Ideal S768x2048 .bf16) (k : Fin 768) (y : Fin 512) :
    (slab768 x : S4x768x512.Idx → EReal) (ix3 (⟨3, by omega⟩ : Fin 4) k y) = (x : S768x2048.Idx → EReal) (ix2 k ⟨512 * 3 + y.val, by omega⟩) := by
  unfold slab768
  refine (concatenate_apply_piece (t := S4x768x512) (0 : Fin 3) (pieces768 x) concatenates_S1x768x512_S1x768x512_S1x768x512_S1x768x512_S4x768x512_d0 (ix3 (⟨3, by omega⟩ : Fin 4) k y) 3 (by show 3 < 4; omega) S1x768x512 _ rfl rfl 3 rfl (ix3 (⟨0, by omega⟩ : Fin 1) k y) (fun b hb => ?_) rfl).trans ?_
  · match b with
    | ⟨0, _⟩ => exact absurd rfl hb
    | ⟨1, _⟩ => rfl
    | ⟨2, _⟩ => rfl
  · refine congrArg (x : S768x2048.Idx → EReal) (funext fun a => Fin.ext ?_)
    match a with
    | ⟨0, _⟩ => show 0 + k.val = k.val; omega
    | ⟨1, _⟩ => show 1536 + y.val = 512 * 3 + y.val; omega

theorem slab768_at (x : FVec Ideal S768x2048 .bf16) (j : Fin 4) (k : Fin 768) (y : Fin 512) :
    (slab768 x : S4x768x512.Idx → EReal) (ix3 j k y) = (x : S768x2048.Idx → EReal) (ix2 k ⟨512 * j.val + y.val, by omega⟩) := by
  match j with
  | ⟨0, _⟩ => exact slab768_0 x k y
  | ⟨1, _⟩ => exact slab768_1 x k y
  | ⟨2, _⟩ => exact slab768_2 x k y
  | ⟨3, _⟩ => exact slab768_3 x k y

/-- The four slabs, before they are put one after the other. -/
abbrev pieces512 (x : FVec Ideal S512x2048 .bf16) : List ((s : Shape) × (s.Idx → EReal)) :=
  [⟨S1x512x512, (broadcastInDim S1x512x512 ![1, 2] bcast_S512x512_S1x512x512_1_2 (extractStridedSlice S512x512 ![0, 0] x slices_S512x2048_S512x512_0_0) : FVec Ideal S1x512x512 .bf16)⟩, ⟨S1x512x512, (broadcastInDim S1x512x512 ![1, 2] bcast_S512x512_S1x512x512_1_2 (extractStridedSlice S512x512 ![0, 512] x slices_S512x2048_S512x512_0_512) : FVec Ideal S1x512x512 .bf16)⟩, ⟨S1x512x512, (broadcastInDim S1x512x512 ![1, 2] bcast_S512x512_S1x512x512_1_2 (extractStridedSlice S512x512 ![0, 1024] x slices_S512x2048_S512x512_0_1024) : FVec Ideal S1x512x512 .bf16)⟩, ⟨S1x512x512, (broadcastInDim S1x512x512 ![1, 2] bcast_S512x512_S1x512x512_1_2 (extractStridedSlice S512x512 ![0, 1536] x slices_S512x2048_S512x512_0_1536) : FVec Ideal S1x512x512 .bf16)⟩]

/-- A weight of 512 rows as four slabs of 512 columns. -/
def slab512 (x : FVec Ideal S512x2048 .bf16) : FVec Ideal S4x512x512 .bf16 :=
  concatenate S4x512x512 0 (pieces512 x) concatenates_S1x512x512_S1x512x512_S1x512x512_S1x512x512_S4x512x512_d0

theorem slab512_0 (x : FVec Ideal S512x2048 .bf16) (k : Fin 512) (y : Fin 512) :
    (slab512 x : S4x512x512.Idx → EReal) (ix3 (⟨0, by omega⟩ : Fin 4) k y) = (x : S512x2048.Idx → EReal) (ix2 k ⟨512 * 0 + y.val, by omega⟩) := by
  unfold slab512
  refine (concatenate_apply_piece (t := S4x512x512) (0 : Fin 3) (pieces512 x) concatenates_S1x512x512_S1x512x512_S1x512x512_S1x512x512_S4x512x512_d0 (ix3 (⟨0, by omega⟩ : Fin 4) k y) 0 (by show 0 < 4; omega) S1x512x512 _ rfl rfl 0 rfl (ix3 (⟨0, by omega⟩ : Fin 1) k y) (fun b hb => ?_) rfl).trans ?_
  · match b with
    | ⟨0, _⟩ => exact absurd rfl hb
    | ⟨1, _⟩ => rfl
    | ⟨2, _⟩ => rfl
  · refine congrArg (x : S512x2048.Idx → EReal) (funext fun a => Fin.ext ?_)
    match a with
    | ⟨0, _⟩ => show 0 + k.val = k.val; omega
    | ⟨1, _⟩ => show 0 + y.val = 512 * 0 + y.val; omega

theorem slab512_1 (x : FVec Ideal S512x2048 .bf16) (k : Fin 512) (y : Fin 512) :
    (slab512 x : S4x512x512.Idx → EReal) (ix3 (⟨1, by omega⟩ : Fin 4) k y) = (x : S512x2048.Idx → EReal) (ix2 k ⟨512 * 1 + y.val, by omega⟩) := by
  unfold slab512
  refine (concatenate_apply_piece (t := S4x512x512) (0 : Fin 3) (pieces512 x) concatenates_S1x512x512_S1x512x512_S1x512x512_S1x512x512_S4x512x512_d0 (ix3 (⟨1, by omega⟩ : Fin 4) k y) 1 (by show 1 < 4; omega) S1x512x512 _ rfl rfl 1 rfl (ix3 (⟨0, by omega⟩ : Fin 1) k y) (fun b hb => ?_) rfl).trans ?_
  · match b with
    | ⟨0, _⟩ => exact absurd rfl hb
    | ⟨1, _⟩ => rfl
    | ⟨2, _⟩ => rfl
  · refine congrArg (x : S512x2048.Idx → EReal) (funext fun a => Fin.ext ?_)
    match a with
    | ⟨0, _⟩ => show 0 + k.val = k.val; omega
    | ⟨1, _⟩ => show 512 + y.val = 512 * 1 + y.val; omega

theorem slab512_2 (x : FVec Ideal S512x2048 .bf16) (k : Fin 512) (y : Fin 512) :
    (slab512 x : S4x512x512.Idx → EReal) (ix3 (⟨2, by omega⟩ : Fin 4) k y) = (x : S512x2048.Idx → EReal) (ix2 k ⟨512 * 2 + y.val, by omega⟩) := by
  unfold slab512
  refine (concatenate_apply_piece (t := S4x512x512) (0 : Fin 3) (pieces512 x) concatenates_S1x512x512_S1x512x512_S1x512x512_S1x512x512_S4x512x512_d0 (ix3 (⟨2, by omega⟩ : Fin 4) k y) 2 (by show 2 < 4; omega) S1x512x512 _ rfl rfl 2 rfl (ix3 (⟨0, by omega⟩ : Fin 1) k y) (fun b hb => ?_) rfl).trans ?_
  · match b with
    | ⟨0, _⟩ => exact absurd rfl hb
    | ⟨1, _⟩ => rfl
    | ⟨2, _⟩ => rfl
  · refine congrArg (x : S512x2048.Idx → EReal) (funext fun a => Fin.ext ?_)
    match a with
    | ⟨0, _⟩ => show 0 + k.val = k.val; omega
    | ⟨1, _⟩ => show 1024 + y.val = 512 * 2 + y.val; omega

theorem slab512_3 (x : FVec Ideal S512x2048 .bf16) (k : Fin 512) (y : Fin 512) :
    (slab512 x : S4x512x512.Idx → EReal) (ix3 (⟨3, by omega⟩ : Fin 4) k y) = (x : S512x2048.Idx → EReal) (ix2 k ⟨512 * 3 + y.val, by omega⟩) := by
  unfold slab512
  refine (concatenate_apply_piece (t := S4x512x512) (0 : Fin 3) (pieces512 x) concatenates_S1x512x512_S1x512x512_S1x512x512_S1x512x512_S4x512x512_d0 (ix3 (⟨3, by omega⟩ : Fin 4) k y) 3 (by show 3 < 4; omega) S1x512x512 _ rfl rfl 3 rfl (ix3 (⟨0, by omega⟩ : Fin 1) k y) (fun b hb => ?_) rfl).trans ?_
  · match b with
    | ⟨0, _⟩ => exact absurd rfl hb
    | ⟨1, _⟩ => rfl
    | ⟨2, _⟩ => rfl
  · refine congrArg (x : S512x2048.Idx → EReal) (funext fun a => Fin.ext ?_)
    match a with
    | ⟨0, _⟩ => show 0 + k.val = k.val; omega
    | ⟨1, _⟩ => show 1536 + y.val = 512 * 3 + y.val; omega

theorem slab512_at (x : FVec Ideal S512x2048 .bf16) (j : Fin 4) (k : Fin 512) (y : Fin 512) :
    (slab512 x : S4x512x512.Idx → EReal) (ix3 j k y) = (x : S512x2048.Idx → EReal) (ix2 k ⟨512 * j.val + y.val, by omega⟩) := by
  match j with
  | ⟨0, _⟩ => exact slab512_0 x k y
  | ⟨1, _⟩ => exact slab512_1 x k y
  | ⟨2, _⟩ => exact slab512_2 x k y
  | ⟨3, _⟩ => exact slab512_3 x k y

set_option maxHeartbeats 4000000 in
/-- The array v8 before the call. -/
theorem V8 (c : Dev nD) : (V m c main_v8 : S4x768x512.Idx → EReal) = slab768 (b4 m c) := by
  show StableHlo.after hostOps0 (fun b => m (c, b)) (Proc.devRef .tc main_v8) = _
  after_results_simp
  rfl

set_option maxHeartbeats 4000000 in
/-- The array v17 before the call. -/
theorem V17 (c : Dev nD) : (V m c main_v17 : S4x768x512.Idx → EReal) = slab768 (b5 m c) := by
  show StableHlo.after hostOps0 (fun b => m (c, b)) (Proc.devRef .tc main_v17) = _
  after_results_simp
  rfl

set_option maxHeartbeats 4000000 in
/-- The array v26 before the call. -/
theorem V26 (c : Dev nD) : (V m c main_v26 : S4x512x512.Idx → EReal) = slab512 (b6 m c) := by
  show StableHlo.after hostOps0 (fun b => m (c, b)) (Proc.devRef .tc main_v26) = _
  after_results_simp
  rfl

theorem blk_0 (c : Dev nD) (t : Fin cfg0.N) (x : Fin 512) (k : Fin 768) :
    (iblk m c 0 t : S512x768.Idx → EReal) (ix2 x k) = b1 m c (ix2 ⟨512 * (t.val / 4) + x.val, by have := t.isLt; have e : cfg0.N = 32 := N0; omega⟩ k) := by
  have e : (V m c main_arg1 : S4096x768.Idx → EReal) = b1 m c := V_main_arg1 m c
  rw [← e]
  refine congrArg (V m c main_arg1 : S4096x768.Idx → EReal) (funext fun a => Fin.ext ?_)
  match a with
  | ⟨0, _⟩ => exact (Pipeline.Window.rect_emb_val win0_0 t (ix2 x k) 0).trans (by rw [(idx0 t).1]; show (t.val / 4) * 512 + x.val = 512 * (t.val / 4) + x.val; omega)
  | ⟨1, _⟩ => exact (Pipeline.Window.rect_emb_val win0_0 t (ix2 x k) 1).trans (by rw [(idx0 t).2]; show 0 * 768 + k.val = k.val; omega)

theorem blk_1 (c : Dev nD) (t : Fin cfg0.N) (x : Fin 512) (k : Fin 768) :
    (iblk m c 1 t : S512x768.Idx → EReal) (ix2 x k) = b2 m c (ix2 ⟨512 * (t.val / 4) + x.val, by have := t.isLt; have e : cfg0.N = 32 := N0; omega⟩ k) := by
  have e : (V m c main_arg2 : S4096x768.Idx → EReal) = b2 m c := V_main_arg2 m c
  rw [← e]
  refine congrArg (V m c main_arg2 : S4096x768.Idx → EReal) (funext fun a => Fin.ext ?_)
  match a with
  | ⟨0, _⟩ => exact (Pipeline.Window.rect_emb_val win0_1 t (ix2 x k) 0).trans (by rw [(idx1 t).1]; show (t.val / 4) * 512 + x.val = 512 * (t.val / 4) + x.val; omega)
  | ⟨1, _⟩ => exact (Pipeline.Window.rect_emb_val win0_1 t (ix2 x k) 1).trans (by rw [(idx1 t).2]; show 0 * 768 + k.val = k.val; omega)

theorem blk_2 (c : Dev nD) (t : Fin cfg0.N) (x : Fin 512) (k : Fin 512) :
    (iblk m c 2 t : S512x512.Idx → EReal) (ix2 x k) = b3 m c (ix2 ⟨512 * (t.val / 4) + x.val, by have := t.isLt; have e : cfg0.N = 32 := N0; omega⟩ k) := by
  have e : (V m c main_arg3 : S4096x512.Idx → EReal) = b3 m c := V_main_arg3 m c
  rw [← e]
  refine congrArg (V m c main_arg3 : S4096x512.Idx → EReal) (funext fun a => Fin.ext ?_)
  match a with
  | ⟨0, _⟩ => exact (Pipeline.Window.rect_emb_val win0_2 t (ix2 x k) 0).trans (by rw [(idx2 t).1]; show (t.val / 4) * 512 + x.val = 512 * (t.val / 4) + x.val; omega)
  | ⟨1, _⟩ => exact (Pipeline.Window.rect_emb_val win0_2 t (ix2 x k) 1).trans (by rw [(idx2 t).2]; show 0 * 512 + k.val = k.val; omega)

theorem blk_3 (c : Dev nD) (t : Fin cfg0.N) (k : Fin 768) (y : Fin 512) :
    (iblk m c 3 t : S1x768x512.Idx → EReal) (ix3 (0 : Fin 1) k y) = b4 m c (ix2 k ⟨512 * (t.val % 4) + y.val, by omega⟩) := by
  refine Eq.trans (b := (V m c main_v8 : S4x768x512.Idx → EReal) (ix3 (⟨t.val % 4, by omega⟩ : Fin 4) k y)) ?_ ?_
  · refine congrArg (V m c main_v8 : S4x768x512.Idx → EReal) (funext fun a => Fin.ext ?_)
    match a with
    | ⟨0, _⟩ => exact (Pipeline.Window.rect_emb_val win0_3 t (ix3 (0 : Fin 1) k y) 0).trans (by rw [(idx3 t).1]; show (t.val % 4) * 1 + 0 = t.val % 4; omega)
    | ⟨1, _⟩ => exact (Pipeline.Window.rect_emb_val win0_3 t (ix3 (0 : Fin 1) k y) 1).trans (by rw [(idx3 t).2.1]; show 0 * 768 + k.val = k.val; omega)
    | ⟨2, _⟩ => exact (Pipeline.Window.rect_emb_val win0_3 t (ix3 (0 : Fin 1) k y) 2).trans (by rw [(idx3 t).2.2]; show 0 * 512 + y.val = y.val; omega)
  · rw [V8]
    exact slab768_at _ ⟨t.val % 4, by omega⟩ k y

theorem blk_4 (c : Dev nD) (t : Fin cfg0.N) (k : Fin 768) (y : Fin 512) :
    (iblk m c 4 t : S1x768x512.Idx → EReal) (ix3 (0 : Fin 1) k y) = b5 m c (ix2 k ⟨512 * (t.val % 4) + y.val, by omega⟩) := by
  refine Eq.trans (b := (V m c main_v17 : S4x768x512.Idx → EReal) (ix3 (⟨t.val % 4, by omega⟩ : Fin 4) k y)) ?_ ?_
  · refine congrArg (V m c main_v17 : S4x768x512.Idx → EReal) (funext fun a => Fin.ext ?_)
    match a with
    | ⟨0, _⟩ => exact (Pipeline.Window.rect_emb_val win0_4 t (ix3 (0 : Fin 1) k y) 0).trans (by rw [(idx4 t).1]; show (t.val % 4) * 1 + 0 = t.val % 4; omega)
    | ⟨1, _⟩ => exact (Pipeline.Window.rect_emb_val win0_4 t (ix3 (0 : Fin 1) k y) 1).trans (by rw [(idx4 t).2.1]; show 0 * 768 + k.val = k.val; omega)
    | ⟨2, _⟩ => exact (Pipeline.Window.rect_emb_val win0_4 t (ix3 (0 : Fin 1) k y) 2).trans (by rw [(idx4 t).2.2]; show 0 * 512 + y.val = y.val; omega)
  · rw [V17]
    exact slab768_at _ ⟨t.val % 4, by omega⟩ k y

theorem blk_5 (c : Dev nD) (t : Fin cfg0.N) (k : Fin 512) (y : Fin 512) :
    (iblk m c 5 t : S1x512x512.Idx → EReal) (ix3 (0 : Fin 1) k y) = b6 m c (ix2 k ⟨512 * (t.val % 4) + y.val, by omega⟩) := by
  refine Eq.trans (b := (V m c main_v26 : S4x512x512.Idx → EReal) (ix3 (⟨t.val % 4, by omega⟩ : Fin 4) k y)) ?_ ?_
  · refine congrArg (V m c main_v26 : S4x512x512.Idx → EReal) (funext fun a => Fin.ext ?_)
    match a with
    | ⟨0, _⟩ => exact (Pipeline.Window.rect_emb_val win0_5 t (ix3 (0 : Fin 1) k y) 0).trans (by rw [(idx5 t).1]; show (t.val % 4) * 1 + 0 = t.val % 4; omega)
    | ⟨1, _⟩ => exact (Pipeline.Window.rect_emb_val win0_5 t (ix3 (0 : Fin 1) k y) 1).trans (by rw [(idx5 t).2.1]; show 0 * 512 + k.val = k.val; omega)
    | ⟨2, _⟩ => exact (Pipeline.Window.rect_emb_val win0_5 t (ix3 (0 : Fin 1) k y) 2).trans (by rw [(idx5 t).2.2]; show 0 * 512 + y.val = y.val; omega)
  · rw [V26]
    exact slab512_at _ ⟨t.val % 4, by omega⟩ k y

theorem blk_6 (c : Dev nD) (t : Fin cfg0.N) (x y : Fin 512) :
    (iblk m c 6 t : S512x512.Idx → EReal) (ix2 x y) = b0 m c (ix2 ⟨512 * (t.val / 4) + x.val, by have := t.isLt; have e : cfg0.N = 32 := N0; omega⟩ ⟨6144 + (512 * (t.val % 4) + y.val), by omega⟩) := by
  have e : (V m c main_arg0 : S4096x12288.Idx → EReal) = b0 m c := V_main_arg0 m c
  rw [← e]
  refine congrArg (V m c main_arg0 : S4096x12288.Idx → EReal) (funext fun a => Fin.ext ?_)
  match a with
  | ⟨0, _⟩ => exact (Pipeline.Window.rect_emb_val win0_6 t (ix2 x y) 0).trans (by rw [(idx6 t).1]; show (t.val / 4) * 512 + x.val = 512 * (t.val / 4) + x.val; omega)
  | ⟨1, _⟩ => exact (Pipeline.Window.rect_emb_val win0_6 t (ix2 x y) 1).trans (by rw [(idx6 t).2]; show (12 + t.val % 4) * 512 + y.val = 6144 + (512 * (t.val % 4) + y.val); omega)

theorem blk_7 (c : Dev nD) (t : Fin cfg0.N) (x y : Fin 512) :
    (iblk m c 7 t : S512x512.Idx → EReal) (ix2 x y) = b0 m c (ix2 ⟨512 * (t.val / 4) + x.val, by have := t.isLt; have e : cfg0.N = 32 := N0; omega⟩ ⟨8192 + (512 * (t.val % 4) + y.val), by omega⟩) := by
  have e : (V m c main_arg0 : S4096x12288.Idx → EReal) = b0 m c := V_main_arg0 m c
  rw [← e]
  refine congrArg (V m c main_arg0 : S4096x12288.Idx → EReal) (funext fun a => Fin.ext ?_)
  match a with
  | ⟨0, _⟩ => exact (Pipeline.Window.rect_emb_val win0_7 t (ix2 x y) 0).trans (by rw [(idx7 t).1]; show (t.val / 4) * 512 + x.val = 512 * (t.val / 4) + x.val; omega)
  | ⟨1, _⟩ => exact (Pipeline.Window.rect_emb_val win0_7 t (ix2 x y) 1).trans (by rw [(idx7 t).2]; show (16 + t.val % 4) * 512 + y.val = 8192 + (512 * (t.val % 4) + y.val); omega)

theorem blk_8 (c : Dev nD) (t : Fin cfg0.N) (x y : Fin 512) :
    (iblk m c 8 t : S512x512.Idx → EReal) (ix2 x y) = b0 m c (ix2 ⟨512 * (t.val / 4) + x.val, by have := t.isLt; have e : cfg0.N = 32 := N0; omega⟩ ⟨10240 + (512 * (t.val % 4) + y.val), by omega⟩) := by
  have e : (V m c main_arg0 : S4096x12288.Idx → EReal) = b0 m c := V_main_arg0 m c
  rw [← e]
  refine congrArg (V m c main_arg0 : S4096x12288.Idx → EReal) (funext fun a => Fin.ext ?_)
  match a with
  | ⟨0, _⟩ => exact (Pipeline.Window.rect_emb_val win0_8 t (ix2 x y) 0).trans (by rw [(idx8 t).1]; show (t.val / 4) * 512 + x.val = 512 * (t.val / 4) + x.val; omega)
  | ⟨1, _⟩ => exact (Pipeline.Window.rect_emb_val win0_8 t (ix2 x y) 1).trans (by rw [(idx8 t).2]; show (20 + t.val % 4) * 512 + y.val = 10240 + (512 * (t.val % 4) + y.val); omega)

theorem emb_9 (t : Fin cfg0.N) (x y : Fin 512) :
    (((cfg0.win 9).blk t).view.emb (ix2 x y) : S4096x2048.Idx) = ix2 ⟨512 * (t.val / 4) + x.val, by have := t.isLt; have e : cfg0.N = 32 := N0; omega⟩ ⟨512 * (t.val % 4) + y.val, by omega⟩ := by
  refine funext fun a => Fin.ext ?_
  match a with
  | ⟨0, _⟩ => exact (Pipeline.Window.rect_emb_val win0_9 t (ix2 x y) 0).trans (by rw [(idx9 t).1]; show (t.val / 4) * 512 + x.val = 512 * (t.val / 4) + x.val; omega)
  | ⟨1, _⟩ => exact (Pipeline.Window.rect_emb_val win0_9 t (ix2 x y) 1).trans (by rw [(idx9 t).2]; show (t.val % 4) * 512 + y.val = 512 * (t.val % 4) + y.val; omega)

/-- One block's entry, of the loaded blocks. -/
theorem pay_at (x0 x1 : Vec Ideal S512x768 .bf16) (x2 : Vec Ideal S512x512 .bf16) (x3 x4 : Vec Ideal S1x768x512 .bf16) (x5 : Vec Ideal S1x512x512 .bf16) (x6 x7 x8 : Vec Ideal S512x512 .f32) (x y : Fin 512) :
    (k0_pay1 x0 x3 x1 x4 x2 x5 x6 x7 x8 : S512x512.Idx → EReal) (ix2 x y)
      = Ideal.logistic ((x6 : S512x512.Idx → EReal) (ix2 x y)) * (∑ k : Fin 768, (x0 : S512x768.Idx → EReal) (ix2 x k) * (x3 : S1x768x512.Idx → EReal) (ix3 (0 : Fin 1) k y))
        + Ideal.logistic ((x7 : S512x512.Idx → EReal) (ix2 x y)) * (∑ k : Fin 768, (x1 : S512x768.Idx → EReal) (ix2 x k) * (x4 : S1x768x512.Idx → EReal) (ix3 (0 : Fin 1) k y))
        + Ideal.logistic ((x8 : S512x512.Idx → EReal) (ix2 x y)) * (∑ k : Fin 512, (x2 : S512x512.Idx → EReal) (ix2 x k) * (x5 : S1x512x512.Idx → EReal) (ix3 (0 : Fin 1) k y)) := by
  unfold k0_pay1
  pointwise

/-- The whole result. -/
abbrev merged (c : Dev nD) : S4096x2048.Idx → EReal := fun i =>
  Ideal.logistic (b0 m c (ix2 (i 0) ⟨6144 + (i 1).val, by have : (i 1).val < 2048 := (i 1).isLt; omega⟩)) * (∑ k : Fin 768, b1 m c (ix2 (i 0) k) * b4 m c (ix2 k (i 1)))
    + Ideal.logistic (b0 m c (ix2 (i 0) ⟨8192 + (i 1).val, by have : (i 1).val < 2048 := (i 1).isLt; omega⟩)) * (∑ k : Fin 768, b2 m c (ix2 (i 0) k) * b5 m c (ix2 k (i 1)))
    + Ideal.logistic (b0 m c (ix2 (i 0) ⟨10240 + (i 1).val, by have : (i 1).val < 2048 := (i 1).isLt; omega⟩)) * (∑ k : Fin 512, b3 m c (ix2 (i 0) k) * b6 m c (ix2 k (i 1)))

theorem arr_9 (c : Dev nD) : (dats m 0 c).arrAt 9 cfg0.N = merged m c := by
  refine (dats m 0 c).arrAt_eq_of_covers 9 _ (by decide +kernel) fun t hf j => ?_
  obtain ⟨x, y, rfl⟩ : ∃ (x : Fin 512) (z : Fin 512), j = ix2 x z := ⟨j 0, j 1, eq_ix2 j⟩
  rw [emb_9]
  refine Eq.trans (b := (k0_pay1 (iblk m c 0 t) (iblk m c 3 t) (iblk m c 1 t) (iblk m c 4 t) (iblk m c 2 t) (iblk m c 5 t) (iblk m c 6 t) (iblk m c 7 t) (iblk m c 8 t) : S512x512.Idx → EReal) (ix2 x y)) ?_ ?_
  · rw [after0_9]
    unfold out0_9
    rw [View.canon_unit_zero hz]
    simp only [View.ld_unit_zero (S := S512x768) hz, View.ld_unit_zero (S := S512x512) hz, View.ld_unit_zero (S := S1x768x512) hz3, View.ld_unit_zero (S := S1x512x512) hz3]
    rfl
  · rw [pay_at, blk_6, blk_7, blk_8]
    refine congrArg₂ (· + ·) (congrArg₂ (· + ·) (congrArg₂ (· * ·) rfl ?_) (congrArg₂ (· * ·) rfl ?_)) (congrArg₂ (· * ·) rfl ?_)
    · exact Finset.sum_congr rfl fun k _ => congrArg₂ (· * ·) (blk_0 m c t x k) (blk_3 m c t k y)
    · exact Finset.sum_congr rfl fun k _ => congrArg₂ (· * ·) (blk_1 m c t x k) (blk_4 m c t k y)
    · exact Finset.sum_congr rfl fun k _ => congrArg₂ (· * ·) (blk_2 m c t x k) (blk_5 m c t k y)

/-- An entry of the reference's result. -/
theorem ref_at (a0 : FVec Ideal S4096x12288 .f32) (a1 : FVec Ideal S4096x768 .bf16) (a2 : FVec Ideal S4096x768 .bf16) (a3 : FVec Ideal S4096x512 .bf16) (a4 : FVec Ideal S768x2048 .bf16) (a5 : FVec Ideal S768x2048 .bf16) (a6 : FVec Ideal S512x2048 .bf16) (i : S4096x2048.Idx) :
    (truncf .bf16 (addf (addf (mulf (Host.divf (broadcastInDim Cert.Reference7Ideal.S4096x2048 ![] Cert.Reference7Ideal.Gen.bcast_S_S4096x2048 (constant Cert.Reference7Ideal.S_ .f32 0x3F800000#32)) (addf (broadcastInDim Cert.Reference7Ideal.S4096x2048 ![] Cert.Reference7Ideal.Gen.bcast_S_S4096x2048 (constant Cert.Reference7Ideal.S_ .f32 0x3F800000#32)) (Host.exp (Host.negf (extractStridedSlice Cert.Reference7Ideal.S4096x2048 ![0, 6144] a0 Cert.Reference7Ideal.Gen.slices_S4096x12288_S4096x2048_0_6144))))) (Host.dotGeneral Cert.Reference7Ideal.dot_S4096x768_S768x2048_S4096x2048_1_0_0_1_n_n none (extf .f32 a1 Cert.Reference7Ideal.Gen.bitsLt_bf16_f32) (extf .f32 a4 Cert.Reference7Ideal.Gen.bitsLt_bf16_f32))) (mulf (Host.divf (broadcastInDim Cert.Reference7Ideal.S4096x2048 ![] Cert.Reference7Ideal.Gen.bcast_S_S4096x2048 (constant Cert.Reference7Ideal.S_ .f32 0x3F800000#32)) (addf (broadcastInDim Cert.Reference7Ideal.S4096x2048 ![] Cert.Reference7Ideal.Gen.bcast_S_S4096x2048 (constant Cert.Reference7Ideal.S_ .f32 0x3F800000#32)) (Host.exp (Host.negf (extractStridedSlice Cert.Reference7Ideal.S4096x2048 ![0, 8192] a0 Cert.Reference7Ideal.Gen.slices_S4096x12288_S4096x2048_0_8192))))) (Host.dotGeneral Cert.Reference7Ideal.dot_S4096x768_S768x2048_S4096x2048_1_0_0_1_n_n none (extf .f32 a2 Cert.Reference7Ideal.Gen.bitsLt_bf16_f32) (extf .f32 a5 Cert.Reference7Ideal.Gen.bitsLt_bf16_f32)))) (mulf (Host.divf (broadcastInDim Cert.Reference7Ideal.S4096x2048 ![] Cert.Reference7Ideal.Gen.bcast_S_S4096x2048 (constant Cert.Reference7Ideal.S_ .f32 0x3F800000#32)) (addf (broadcastInDim Cert.Reference7Ideal.S4096x2048 ![] Cert.Reference7Ideal.Gen.bcast_S_S4096x2048 (constant Cert.Reference7Ideal.S_ .f32 0x3F800000#32)) (Host.exp (Host.negf (extractStridedSlice Cert.Reference7Ideal.S4096x2048 ![0, 10240] a0 Cert.Reference7Ideal.Gen.slices_S4096x12288_S4096x2048_0_10240))))) (Host.dotGeneral Cert.Reference7Ideal.dot_S4096x512_S512x2048_S4096x2048_1_0_0_1_n_n none (extf .f32 a3 Cert.Reference7Ideal.Gen.bitsLt_bf16_f32) (extf .f32 a6 Cert.Reference7Ideal.Gen.bitsLt_bf16_f32)))) Cert.Reference7Ideal.Gen.bitsLt_bf16_f32 : FVec Ideal S4096x2048 .bf16) i
      = Ideal.logistic ((a0 : S4096x12288.Idx → EReal) (ix2 (i 0) ⟨6144 + (i 1).val, by have : (i 1).val < 2048 := (i 1).isLt; omega⟩)) * (∑ k : Fin 768, (a1 : S4096x768.Idx → EReal) (ix2 (i 0) k) * (a4 : S768x2048.Idx → EReal) (ix2 k (i 1)))
        + Ideal.logistic ((a0 : S4096x12288.Idx → EReal) (ix2 (i 0) ⟨8192 + (i 1).val, by have : (i 1).val < 2048 := (i 1).isLt; omega⟩)) * (∑ k : Fin 768, (a2 : S4096x768.Idx → EReal) (ix2 (i 0) k) * (a5 : S768x2048.Idx → EReal) (ix2 k (i 1)))
        + Ideal.logistic ((a0 : S4096x12288.Idx → EReal) (ix2 (i 0) ⟨10240 + (i 1).val, by have : (i 1).val < 2048 := (i 1).isLt; omega⟩)) * (∑ k : Fin 512, (a3 : S4096x512.Idx → EReal) (ix2 (i 0) k) * (a6 : S512x2048.Idx → EReal) (ix2 k (i 1))) := by
  obtain ⟨r, s, rfl⟩ : ∃ (r : Fin 4096) (s : Fin 2048), i = ix2 r s := ⟨i 0, i 1, eq_ix2 i⟩
  unfold Ideal.logistic
  pointwise

/-- The kernel and the reference have the same result. -/
theorem algebraic : Cert.algebraic_Kernel7Ideal_Reference7Ideal (hKernel7Ideal := Cert.Kernel7Ideal.Gen.facts) (hReference7Ideal := Cert.Reference7Ideal.Gen.facts) := by
  intro m g m' g' _ hm
  refine ⟨fun c => merged m c, ?_, ?_⟩
  · exact (θ_run Cert.Kernel7Ideal.defs _ _).mono (fun r h c => ⟨(h c).1.trans (arr_9 m c), (h c).2⟩) (Cert.Kernel7Ideal.Value.run_blocks (F := Ideal) m g)
  · refine (θ_run Cert.Reference7Ideal.defs _ _).mono (fun r h c => ⟨(h c).1.trans ?_, (h c).2⟩) (Cert.Reference7Ideal.Value.run (F := Ideal) m' g')
    rw [(hm c).1, (hm c).2.1, (hm c).2.2.1, (hm c).2.2.2.1, (hm c).2.2.2.2.1, (hm c).2.2.2.2.2.1, (hm c).2.2.2.2.2.2]
    exact funext fun i => ref_at (b0 m c) (b1 m c) (b2 m c) (b3 m c) (b4 m c) (b5 m c) (b6 m c) i

end Cert.Kernel7Ideal.Hand
-- ==== Proof.Mb9.lean ====
module

public import proofs.«01_k».proof.Defs
public import proofs.«01_k».proof.Proof.Gen.Kernel2Ideal.Value
public import proofs.«01_k».proof.Proof.Gen.Reference2Ideal.Run
public import Idealize.ShloMosaic.Lib.Pipeline.ValueKit.Geometry
public import Idealize.ShloMosaic.Lib.Pointwise
public import proofs.«01_k».proof.Proof.Mf

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic

variable (m : (ℓ : Loc nD τ sig) → Buf (Elt Ideal) ℓ)

/-! ## The gradients of the gated sum of the three branches -/

theorem N0 : cfg0.N = 32 := by decide +kernel

theorem hz : (![0, 0] : Fin 2 → Nat) = fun _ => 0 := funext fun a => by fin_cases a <;> rfl

theorem hz3 : (![0, 0, 0] : Fin 3 → Nat) = fun _ => 0 := funext fun a => by fin_cases a <;> rfl

theorem idx0 : ∀ t : Fin cfg0.N, win0_0.index t 0 = t.val / 4 ∧ win0_0.index t 1 = 0 :=
  (by decide +kernel : ∀ t : Fin grid0.N, _)

theorem idx1 : ∀ t : Fin cfg0.N, win0_1.index t 0 = t.val / 4 ∧ win0_1.index t 1 = 0 :=
  (by decide +kernel : ∀ t : Fin grid0.N, _)

theorem idx2 : ∀ t : Fin cfg0.N, win0_2.index t 0 = t.val / 4 ∧ win0_2.index t 1 = 0 :=
  (by decide +kernel : ∀ t : Fin grid0.N, _)

theorem idx3 : ∀ t : Fin cfg0.N, win0_3.index t 0 = t.val % 4 ∧ win0_3.index t 1 = 0 ∧ win0_3.index t 2 = 0 :=
  (by decide +kernel : ∀ t : Fin grid0.N, _)

theorem idx4 : ∀ t : Fin cfg0.N, win0_4.index t 0 = t.val % 4 ∧ win0_4.index t 1 = 0 ∧ win0_4.index t 2 = 0 :=
  (by decide +kernel : ∀ t : Fin grid0.N, _)

theorem idx5 : ∀ t : Fin cfg0.N, win0_5.index t 0 = t.val % 4 ∧ win0_5.index t 1 = 0 ∧ win0_5.index t 2 = 0 :=
  (by decide +kernel : ∀ t : Fin grid0.N, _)

theorem idx6 : ∀ t : Fin cfg0.N, win0_6.index t 0 = t.val / 4 ∧ win0_6.index t 1 = 12 + t.val % 4 :=
  (by decide +kernel : ∀ t : Fin grid0.N, _)

theorem idx7 : ∀ t : Fin cfg0.N, win0_7.index t 0 = t.val / 4 ∧ win0_7.index t 1 = 16 + t.val % 4 :=
  (by decide +kernel : ∀ t : Fin grid0.N, _)

theorem idx8 : ∀ t : Fin cfg0.N, win0_8.index t 0 = t.val / 4 ∧ win0_8.index t 1 = 20 + t.val % 4 :=
  (by decide +kernel : ∀ t : Fin grid0.N, _)

theorem idx9 : ∀ t : Fin cfg0.N, win0_9.index t 0 = t.val / 4 ∧ win0_9.index t 1 = t.val % 4 :=
  (by decide +kernel : ∀ t : Fin grid0.N, _)

theorem idx10 : ∀ t : Fin cfg0.N, win0_10.index t 0 = t.val / 4 ∧ win0_10.index t 1 = t.val % 4 :=
  (by decide +kernel : ∀ t : Fin grid0.N, _)

theorem idx16 : ∀ t : Fin cfg0.N, win0_16.index t 0 = t.val / 4 ∧ win0_16.index t 1 = 0 :=
  (by decide +kernel : ∀ t : Fin grid0.N, _)

theorem idx17 : ∀ t : Fin cfg0.N, win0_17.index t 0 = t.val / 4 ∧ win0_17.index t 1 = 0 :=
  (by decide +kernel : ∀ t : Fin grid0.N, _)

theorem idx18 : ∀ t : Fin cfg0.N, win0_18.index t 0 = t.val / 4 ∧ win0_18.index t 1 = 0 :=
  (by decide +kernel : ∀ t : Fin grid0.N, _)

/-- The arguments. -/
abbrev b0 (c : Dev nD) : S4096x12288.Idx → EReal := m ((c.tc : Thread nD τ).loc main_arg0)
abbrev b1 (c : Dev nD) : S4096x768.Idx → EReal := m ((c.tc : Thread nD τ).loc main_arg1)
abbrev b2 (c : Dev nD) : S4096x768.Idx → EReal := m ((c.tc : Thread nD τ).loc main_arg2)
abbrev b3 (c : Dev nD) : S4096x512.Idx → EReal := m ((c.tc : Thread nD τ).loc main_arg3)
abbrev b4 (c : Dev nD) : S768x2048.Idx → EReal := m ((c.tc : Thread nD τ).loc main_arg4)
abbrev b5 (c : Dev nD) : S768x2048.Idx → EReal := m ((c.tc : Thread nD τ).loc main_arg5)
abbrev b6 (c : Dev nD) : S512x2048.Idx → EReal := m ((c.tc : Thread nD τ).loc main_arg6)
abbrev b7 (c : Dev nD) : S4096x2048.Idx → EReal := m ((c.tc : Thread nD τ).loc main_arg7)

set_option maxHeartbeats 4000000 in
/-- The array v8 before the call. -/
theorem V8 (c : Dev nD) : (V m c main_v8 : S4x768x512.Idx → EReal) = Cert.Kernel7Ideal.Hand.slab768 (b4 m c) := by
  show StableHlo.after hostOps0 (fun b => m (c, b)) (Proc.devRef .tc main_v8) = _
  after_results_simp
  rfl

set_option maxHeartbeats 4000000 in
/-- The array v17 before the call. -/
theorem V17 (c : Dev nD) : (V m c main_v17 : S4x768x512.Idx → EReal) = Cert.Kernel7Ideal.Hand.slab768 (b5 m c) := by
  show StableHlo.after hostOps0 (fun b => m (c, b)) (Proc.devRef .tc main_v17) = _
  after_results_simp
  rfl

set_option maxHeartbeats 4000000 in
/-- The array v26 before the call. -/
theorem V26 (c : Dev nD) : (V m c main_v26 : S4x512x512.Idx → EReal) = Cert.Kernel7Ideal.Hand.slab512 (b6 m c) := by
  show StableHlo.after hostOps0 (fun b => m (c, b)) (Proc.devRef .tc main_v26) = _
  after_results_simp
  rfl

theorem blk_0 (c : Dev nD) (t : Fin cfg0.N) (x : Fin 512) (k : Fin 768) :
    (iblk m c 0 t : S512x768.Idx → EReal) (ix2 x k) = b1 m c (ix2 ⟨512 * (t.val / 4) + x.val, by have := t.isLt; have e : cfg0.N = 32 := N0; omega⟩ k) := by
  have e : (V m c main_arg1 : S4096x768.Idx → EReal) = b1 m c := V_main_arg1 m c
  rw [← e]
  refine congrArg (V m c main_arg1 : S4096x768.Idx → EReal) (funext fun a => Fin.ext ?_)
  match a with
  | ⟨0, _⟩ => exact (Pipeline.Window.rect_emb_val win0_0 t (ix2 x k) 0).trans (by rw [(idx0 t).1]; show (t.val / 4) * 512 + x.val = 512 * (t.val / 4) + x.val; omega)
  | ⟨1, _⟩ => exact (Pipeline.Window.rect_emb_val win0_0 t (ix2 x k) 1).trans (by rw [(idx0 t).2]; show 0 * 768 + k.val = k.val; omega)

theorem blk_1 (c : Dev nD) (t : Fin cfg0.N) (x : Fin 512) (k : Fin 768) :
    (iblk m c 1 t : S512x768.Idx → EReal) (ix2 x k) = b2 m c (ix2 ⟨512 * (t.val / 4) + x.val, by have := t.isLt; have e : cfg0.N = 32 := N0; omega⟩ k) := by
  have e : (V m c main_arg2 : S4096x768.Idx → EReal) = b2 m c := V_main_arg2 m c
  rw [← e]
  refine congrArg (V m c main_arg2 : S4096x768.Idx → EReal) (funext fun a => Fin.ext ?_)
  match a with
  | ⟨0, _⟩ => exact (Pipeline.Window.rect_emb_val win0_1 t (ix2 x k) 0).trans (by rw [(idx1 t).1]; show (t.val / 4) * 512 + x.val = 512 * (t.val / 4) + x.val; omega)
  | ⟨1, _⟩ => exact (Pipeline.Window.rect_emb_val win0_1 t (ix2 x k) 1).trans (by rw [(idx1 t).2]; show 0 * 768 + k.val = k.val; omega)

theorem blk_2 (c : Dev nD) (t : Fin cfg0.N) (x : Fin 512) (k : Fin 512) :
    (iblk m c 2 t : S512x512.Idx → EReal) (ix2 x k) = b3 m c (ix2 ⟨512 * (t.val / 4) + x.val, by have := t.isLt; have e : cfg0.N = 32 := N0; omega⟩ k) := by
  have e : (V m c main_arg3 : S4096x512.Idx → EReal) = b3 m c := V_main_arg3 m c
  rw [← e]
  refine congrArg (V m c main_arg3 : S4096x512.Idx → EReal) (funext fun a => Fin.ext ?_)
  match a with
  | ⟨0, _⟩ => exact (Pipeline.Window.rect_emb_val win0_2 t (ix2 x k) 0).trans (by rw [(idx2 t).1]; show (t.val / 4) * 512 + x.val = 512 * (t.val / 4) + x.val; omega)
  | ⟨1, _⟩ => exact (Pipeline.Window.rect_emb_val win0_2 t (ix2 x k) 1).trans (by rw [(idx2 t).2]; show 0 * 512 + k.val = k.val; omega)

theorem blk_3 (c : Dev nD) (t : Fin cfg0.N) (k : Fin 768) (y : Fin 512) :
    (iblk m c 3 t : S1x768x512.Idx → EReal) (ix3 (0 : Fin 1) k y) = b4 m c (ix2 k ⟨512 * (t.val % 4) + y.val, by omega⟩) := by
  refine Eq.trans (b := (V m c main_v8 : S4x768x512.Idx → EReal) (ix3 (⟨t.val % 4, by omega⟩ : Fin 4) k y)) ?_ ?_
  · refine congrArg (V m c main_v8 : S4x768x512.Idx → EReal) (funext fun a => Fin.ext ?_)
    match a with
    | ⟨0, _⟩ => exact (Pipeline.Window.rect_emb_val win0_3 t (ix3 (0 : Fin 1) k y) 0).trans (by rw [(idx3 t).1]; show (t.val % 4) * 1 + 0 = t.val % 4; omega)
    | ⟨1, _⟩ => exact (Pipeline.Window.rect_emb_val win0_3 t (ix3 (0 : Fin 1) k y) 1).trans (by rw [(idx3 t).2.1]; show 0 * 768 + k.val = k.val; omega)
    | ⟨2, _⟩ => exact (Pipeline.Window.rect_emb_val win0_3 t (ix3 (0 : Fin 1) k y) 2).trans (by rw [(idx3 t).2.2]; show 0 * 512 + y.val = y.val; omega)
  · rw [V8]
    exact Cert.Kernel7Ideal.Hand.slab768_at _ ⟨t.val % 4, by omega⟩ k y

theorem blk_4 (c : Dev nD) (t : Fin cfg0.N) (k : Fin 768) (y : Fin 512) :
    (iblk m c 4 t : S1x768x512.Idx → EReal) (ix3 (0 : Fin 1) k y) = b5 m c (ix2 k ⟨512 * (t.val % 4) + y.val, by omega⟩) := by
  refine Eq.trans (b := (V m c main_v17 : S4x768x512.Idx → EReal) (ix3 (⟨t.val % 4, by omega⟩ : Fin 4) k y)) ?_ ?_
  · refine congrArg (V m c main_v17 : S4x768x512.Idx → EReal) (funext fun a => Fin.ext ?_)
    match a with
    | ⟨0, _⟩ => exact (Pipeline.Window.rect_emb_val win0_4 t (ix3 (0 : Fin 1) k y) 0).trans (by rw [(idx4 t).1]; show (t.val % 4) * 1 + 0 = t.val % 4; omega)
    | ⟨1, _⟩ => exact (Pipeline.Window.rect_emb_val win0_4 t (ix3 (0 : Fin 1) k y) 1).trans (by rw [(idx4 t).2.1]; show 0 * 768 + k.val = k.val; omega)
    | ⟨2, _⟩ => exact (Pipeline.Window.rect_emb_val win0_4 t (ix3 (0 : Fin 1) k y) 2).trans (by rw [(idx4 t).2.2]; show 0 * 512 + y.val = y.val; omega)
  · rw [V17]
    exact Cert.Kernel7Ideal.Hand.slab768_at _ ⟨t.val % 4, by omega⟩ k y

theorem blk_5 (c : Dev nD) (t : Fin cfg0.N) (k : Fin 512) (y : Fin 512) :
    (iblk m c 5 t : S1x512x512.Idx → EReal) (ix3 (0 : Fin 1) k y) = b6 m c (ix2 k ⟨512 * (t.val % 4) + y.val, by omega⟩) := by
  refine Eq.trans (b := (V m c main_v26 : S4x512x512.Idx → EReal) (ix3 (⟨t.val % 4, by omega⟩ : Fin 4) k y)) ?_ ?_
  · refine congrArg (V m c main_v26 : S4x512x512.Idx → EReal) (funext fun a => Fin.ext ?_)
    match a with
    | ⟨0, _⟩ => exact (Pipeline.Window.rect_emb_val win0_5 t (ix3 (0 : Fin 1) k y) 0).trans (by rw [(idx5 t).1]; show (t.val % 4) * 1 + 0 = t.val % 4; omega)
    | ⟨1, _⟩ => exact (Pipeline.Window.rect_emb_val win0_5 t (ix3 (0 : Fin 1) k y) 1).trans (by rw [(idx5 t).2.1]; show 0 * 512 + k.val = k.val; omega)
    | ⟨2, _⟩ => exact (Pipeline.Window.rect_emb_val win0_5 t (ix3 (0 : Fin 1) k y) 2).trans (by rw [(idx5 t).2.2]; show 0 * 512 + y.val = y.val; omega)
  · rw [V26]
    exact Cert.Kernel7Ideal.Hand.slab512_at _ ⟨t.val % 4, by omega⟩ k y

theorem blk_6 (c : Dev nD) (t : Fin cfg0.N) (x y : Fin 512) :
    (iblk m c 6 t : S512x512.Idx → EReal) (ix2 x y) = b0 m c (ix2 ⟨512 * (t.val / 4) + x.val, by have := t.isLt; have e : cfg0.N = 32 := N0; omega⟩ ⟨6144 + (512 * (t.val % 4) + y.val), by omega⟩) := by
  have e : (V m c main_arg0 : S4096x12288.Idx → EReal) = b0 m c := V_main_arg0 m c
  rw [← e]
  refine congrArg (V m c main_arg0 : S4096x12288.Idx → EReal) (funext fun a => Fin.ext ?_)
  match a with
  | ⟨0, _⟩ => exact (Pipeline.Window.rect_emb_val win0_6 t (ix2 x y) 0).trans (by rw [(idx6 t).1]; show (t.val / 4) * 512 + x.val = 512 * (t.val / 4) + x.val; omega)
  | ⟨1, _⟩ => exact (Pipeline.Window.rect_emb_val win0_6 t (ix2 x y) 1).trans (by rw [(idx6 t).2]; show (12 + t.val % 4) * 512 + y.val = 6144 + (512 * (t.val % 4) + y.val); omega)

theorem blk_7 (c : Dev nD) (t : Fin cfg0.N) (x y : Fin 512) :
    (iblk m c 7 t : S512x512.Idx → EReal) (ix2 x y) = b0 m c (ix2 ⟨512 * (t.val / 4) + x.val, by have := t.isLt; have e : cfg0.N = 32 := N0; omega⟩ ⟨8192 + (512 * (t.val % 4) + y.val), by omega⟩) := by
  have e : (V m c main_arg0 : S4096x12288.Idx → EReal) = b0 m c := V_main_arg0 m c
  rw [← e]
  refine congrArg (V m c main_arg0 : S4096x12288.Idx → EReal) (funext fun a => Fin.ext ?_)
  match a with
  | ⟨0, _⟩ => exact (Pipeline.Window.rect_emb_val win0_7 t (ix2 x y) 0).trans (by rw [(idx7 t).1]; show (t.val / 4) * 512 + x.val = 512 * (t.val / 4) + x.val; omega)
  | ⟨1, _⟩ => exact (Pipeline.Window.rect_emb_val win0_7 t (ix2 x y) 1).trans (by rw [(idx7 t).2]; show (16 + t.val % 4) * 512 + y.val = 8192 + (512 * (t.val % 4) + y.val); omega)

theorem blk_8 (c : Dev nD) (t : Fin cfg0.N) (x y : Fin 512) :
    (iblk m c 8 t : S512x512.Idx → EReal) (ix2 x y) = b0 m c (ix2 ⟨512 * (t.val / 4) + x.val, by have := t.isLt; have e : cfg0.N = 32 := N0; omega⟩ ⟨10240 + (512 * (t.val % 4) + y.val), by omega⟩) := by
  have e : (V m c main_arg0 : S4096x12288.Idx → EReal) = b0 m c := V_main_arg0 m c
  rw [← e]
  refine congrArg (V m c main_arg0 : S4096x12288.Idx → EReal) (funext fun a => Fin.ext ?_)
  match a with
  | ⟨0, _⟩ => exact (Pipeline.Window.rect_emb_val win0_8 t (ix2 x y) 0).trans (by rw [(idx8 t).1]; show (t.val / 4) * 512 + x.val = 512 * (t.val / 4) + x.val; omega)
  | ⟨1, _⟩ => exact (Pipeline.Window.rect_emb_val win0_8 t (ix2 x y) 1).trans (by rw [(idx8 t).2]; show (20 + t.val % 4) * 512 + y.val = 10240 + (512 * (t.val % 4) + y.val); omega)

theorem blk_9 (c : Dev nD) (t : Fin cfg0.N) (x y : Fin 512) :
    (iblk m c 9 t : S512x512.Idx → EReal) (ix2 x y) = b7 m c (ix2 ⟨512 * (t.val / 4) + x.val, by have := t.isLt; have e : cfg0.N = 32 := N0; omega⟩ ⟨512 * (t.val % 4) + y.val, by omega⟩) := by
  have e : (V m c main_arg7 : S4096x2048.Idx → EReal) = b7 m c := V_main_arg7 m c
  rw [← e]
  refine congrArg (V m c main_arg7 : S4096x2048.Idx → EReal) (funext fun a => Fin.ext ?_)
  match a with
  | ⟨0, _⟩ => exact (Pipeline.Window.rect_emb_val win0_9 t (ix2 x y) 0).trans (by rw [(idx9 t).1]; show (t.val / 4) * 512 + x.val = 512 * (t.val / 4) + x.val; omega)
  | ⟨1, _⟩ => exact (Pipeline.Window.rect_emb_val win0_9 t (ix2 x y) 1).trans (by rw [(idx9 t).2]; show (t.val % 4) * 512 + y.val = 512 * (t.val % 4) + y.val; omega)

theorem emb_10 (t : Fin cfg0.N) (x y : Fin 512) :
    (((cfg0.win 10).blk t).view.emb (ix2 x y) : S4096x2048.Idx) = ix2 ⟨512 * (t.val / 4) + x.val, by have := t.isLt; have e : cfg0.N = 32 := N0; omega⟩ ⟨512 * (t.val % 4) + y.val, by omega⟩ := by
  refine funext fun a => Fin.ext ?_
  match a with
  | ⟨0, _⟩ => exact (Pipeline.Window.rect_emb_val win0_10 t (ix2 x y) 0).trans (by rw [(idx10 t).1]; show (t.val / 4) * 512 + x.val = 512 * (t.val / 4) + x.val; omega)
  | ⟨1, _⟩ => exact (Pipeline.Window.rect_emb_val win0_10 t (ix2 x y) 1).trans (by rw [(idx10 t).2]; show (t.val % 4) * 512 + y.val = 512 * (t.val % 4) + y.val; omega)

theorem emb_11 (t : Fin cfg0.N) (x y : Fin 512) : (((cfg0.win 11).blk t).view.emb (ix2 x y) : S4096x2048.Idx) = ix2 ⟨512 * (t.val / 4) + x.val, by have := t.isLt; have e : cfg0.N = 32 := N0; omega⟩ ⟨512 * (t.val % 4) + y.val, by omega⟩ := emb_10 t x y

theorem emb_12 (t : Fin cfg0.N) (x y : Fin 512) : (((cfg0.win 12).blk t).view.emb (ix2 x y) : S4096x2048.Idx) = ix2 ⟨512 * (t.val / 4) + x.val, by have := t.isLt; have e : cfg0.N = 32 := N0; omega⟩ ⟨512 * (t.val % 4) + y.val, by omega⟩ := emb_10 t x y

theorem emb_13 (t : Fin cfg0.N) (x y : Fin 512) : (((cfg0.win 13).blk t).view.emb (ix2 x y) : S4096x2048.Idx) = ix2 ⟨512 * (t.val / 4) + x.val, by have := t.isLt; have e : cfg0.N = 32 := N0; omega⟩ ⟨512 * (t.val % 4) + y.val, by omega⟩ := emb_10 t x y

theorem emb_14 (t : Fin cfg0.N) (x y : Fin 512) : (((cfg0.win 14).blk t).view.emb (ix2 x y) : S4096x2048.Idx) = ix2 ⟨512 * (t.val / 4) + x.val, by have := t.isLt; have e : cfg0.N = 32 := N0; omega⟩ ⟨512 * (t.val % 4) + y.val, by omega⟩ := emb_10 t x y

theorem emb_15 (t : Fin cfg0.N) (x y : Fin 512) : (((cfg0.win 15).blk t).view.emb (ix2 x y) : S4096x2048.Idx) = ix2 ⟨512 * (t.val / 4) + x.val, by have := t.isLt; have e : cfg0.N = 32 := N0; omega⟩ ⟨512 * (t.val % 4) + y.val, by omega⟩ := emb_10 t x y

theorem emb_16 (t : Fin cfg0.N) (x : Fin 512) (y : Fin 768) :
    (((cfg0.win 16).blk t).view.emb (ix2 x y) : S4096x768.Idx) = ix2 ⟨512 * (t.val / 4) + x.val, by have := t.isLt; have e : cfg0.N = 32 := N0; omega⟩ y := by
  refine funext fun a => Fin.ext ?_
  match a with
  | ⟨0, _⟩ => exact (Pipeline.Window.rect_emb_val win0_16 t (ix2 x y) 0).trans (by rw [(idx16 t).1]; show (t.val / 4) * 512 + x.val = 512 * (t.val / 4) + x.val; omega)
  | ⟨1, _⟩ => exact (Pipeline.Window.rect_emb_val win0_16 t (ix2 x y) 1).trans (by rw [(idx16 t).2]; show 0 * 768 + y.val = y.val; omega)

theorem flush16 : ∀ t : Fin cfg0.N, (cfg0.win 16).flush t = true → t.val % 4 = 3 :=
  (by decide +kernel : ∀ t : Fin grid0.N, _)

theorem emb_17 (t : Fin cfg0.N) (x : Fin 512) (y : Fin 768) :
    (((cfg0.win 17).blk t).view.emb (ix2 x y) : S4096x768.Idx) = ix2 ⟨512 * (t.val / 4) + x.val, by have := t.isLt; have e : cfg0.N = 32 := N0; omega⟩ y := by
  refine funext fun a => Fin.ext ?_
  match a with
  | ⟨0, _⟩ => exact (Pipeline.Window.rect_emb_val win0_17 t (ix2 x y) 0).trans (by rw [(idx17 t).1]; show (t.val / 4) * 512 + x.val = 512 * (t.val / 4) + x.val; omega)
  | ⟨1, _⟩ => exact (Pipeline.Window.rect_emb_val win0_17 t (ix2 x y) 1).trans (by rw [(idx17 t).2]; show 0 * 768 + y.val = y.val; omega)

theorem flush17 : ∀ t : Fin cfg0.N, (cfg0.win 17).flush t = true → t.val % 4 = 3 :=
  (by decide +kernel : ∀ t : Fin grid0.N, _)

theorem emb_18 (t : Fin cfg0.N) (x : Fin 512) (y : Fin 512) :
    (((cfg0.win 18).blk t).view.emb (ix2 x y) : S4096x512.Idx) = ix2 ⟨512 * (t.val / 4) + x.val, by have := t.isLt; have e : cfg0.N = 32 := N0; omega⟩ y := by
  refine funext fun a => Fin.ext ?_
  match a with
  | ⟨0, _⟩ => exact (Pipeline.Window.rect_emb_val win0_18 t (ix2 x y) 0).trans (by rw [(idx18 t).1]; show (t.val / 4) * 512 + x.val = 512 * (t.val / 4) + x.val; omega)
  | ⟨1, _⟩ => exact (Pipeline.Window.rect_emb_val win0_18 t (ix2 x y) 1).trans (by rw [(idx18 t).2]; show 0 * 512 + y.val = y.val; omega)

theorem flush18 : ∀ t : Fin cfg0.N, (cfg0.win 18).flush t = true → t.val % 4 = 3 :=
  (by decide +kernel : ∀ t : Fin grid0.N, _)

/-! Branch a. -/

theorem pl_a (x0 : Vec Ideal S512x768 .bf16) (x3 : Vec Ideal S1x768x512 .bf16) (x6 : Vec Ideal S512x512 .f32) (x9 : Vec Ideal S512x512 .f32) (x y : Fin 512) :
    (k0_pay8 x9 x3 x0 x6 : S512x512.Idx → EReal) (ix2 x y)
      = (x9 : S512x512.Idx → EReal) (ix2 x y) * (∑ k : Fin 768, (x0 : S512x768.Idx → EReal) (ix2 x k) * (x3 : S1x768x512.Idx → EReal) (ix3 (0 : Fin 1) k y)) * Ideal.logistic ((x6 : S512x512.Idx → EReal) (ix2 x y)) * (1 - Ideal.logistic ((x6 : S512x512.Idx → EReal) (ix2 x y))) := by
  unfold k0_pay8 k0_pay6 k0_pay7
  pointwise

theorem pu_a (x6 : Vec Ideal S512x512 .f32) (x9 : Vec Ideal S512x512 .f32) (x y : Fin 512) :
    (k0_pay9 x9 x6 : S512x512.Idx → EReal) (ix2 x y) = (x9 : S512x512.Idx → EReal) (ix2 x y) * Ideal.logistic ((x6 : S512x512.Idx → EReal) (ix2 x y)) := by
  unfold k0_pay9 k0_pay7
  pointwise

theorem pa_a (x3 : Vec Ideal S1x768x512 .bf16) (x6 : Vec Ideal S512x512 .f32) (x9 : Vec Ideal S512x512 .f32) (a : Vec Ideal S512x768 .f32) (x : Fin 512) (k : Fin 768) :
    (k0_pay10 x9 x3 x6 a : S512x768.Idx → EReal) (ix2 x k)
      = (a : S512x768.Idx → EReal) (ix2 x k) + ∑ y : Fin 512, (k0_pay9 x9 x6 : S512x512.Idx → EReal) (ix2 x y) * (x3 : S1x768x512.Idx → EReal) (ix3 (0 : Fin 1) k y) := by
  unfold k0_pay10 k0_pay6
  generalize k0_pay9 x9 x6 = z
  pointwise

theorem pz_a (x : Fin 512) (k : Fin 768) : (k0_pay3 (F := Ideal) : S512x768.Idx → EReal) (ix2 x k) = 0 := by
  unfold k0_pay3
  pointwise

/-- The gradient by the branch's product. -/
abbrev du_a (c : Dev nD) : S4096x2048.Idx → EReal := fun i =>
  b7 m c (ix2 (i 0) (i 1)) * Ideal.logistic (b0 m c (ix2 (i 0) ⟨6144 + (i 1).val, by have : (i 1).val < 2048 := (i 1).isLt; omega⟩))

/-- The gradient by the gate. -/
abbrev dl_a (c : Dev nD) : S4096x2048.Idx → EReal := fun i =>
  b7 m c (ix2 (i 0) (i 1)) * (∑ k : Fin 768, b1 m c (ix2 (i 0) k) * b4 m c (ix2 k (i 1))) * Ideal.logistic (b0 m c (ix2 (i 0) ⟨6144 + (i 1).val, by have : (i 1).val < 2048 := (i 1).isLt; omega⟩)) * (1 - Ideal.logistic (b0 m c (ix2 (i 0) ⟨6144 + (i 1).val, by have : (i 1).val < 2048 := (i 1).isLt; omega⟩)))

/-- The gradient by the branch. -/
abbrev db_a (c : Dev nD) : S4096x768.Idx → EReal := fun i => ∑ s : Fin 2048, du_a m c (ix2 (i 0) s) * b4 m c (ix2 (i 1) s)

theorem out_10 (c : Dev nD) (t : Fin cfg0.N) : (outsAt0 m c t.val t.isLt).1 = k0_pay8 (iblk m c 9 t) (iblk m c 3 t) (iblk m c 0 t) (iblk m c 6 t) := by
  by_cases h0 : t.val % 4 = 0
  · rw [outsAt0_A m c t h0]
    dsimp only
    unfold out0_A_10
    rw [View.read_writes_eq_canon _ _ _ (fun y => cover0_A_10 (y := y) ..)]
    unfold kernelRun0_A
    dsimp only
    sl_unfold_words
    rw [View.canon_unit_zero hz]
    simp only [View.readAt_eq_ld, (hs0_0 t).read_unread, (hs0_3 t).read_unread, (hs0_6 t).read_unread, (hs0_9 t).read_unread, View.ld_unit_zero (S := S1x768x512) hz3, View.ld_unit_zero (S := S512x512) hz, View.ld_unit_zero (S := S512x768) hz]
  · rw [outsAt0_B m c t h0]
    dsimp only
    unfold out0_B_10
    rw [View.read_writes_eq_canon _ _ _ (fun y => cover0_B_10 (y := y) ..)]
    unfold kernelRun0_B
    dsimp only
    sl_unfold_words
    rw [View.canon_unit_zero hz]
    simp only [View.readAt_eq_ld, (hs0_0 t).read_unread, (hs0_3 t).read_unread, (hs0_6 t).read_unread, (hs0_9 t).read_unread, View.ld_unit_zero (S := S1x768x512) hz3, View.ld_unit_zero (S := S512x512) hz, View.ld_unit_zero (S := S512x768) hz]

theorem out_13 (c : Dev nD) (t : Fin cfg0.N) : (outsAt0 m c t.val t.isLt).2.2.2.1 = k0_pay9 (iblk m c 9 t) (iblk m c 6 t) := by
  by_cases h0 : t.val % 4 = 0
  · rw [outsAt0_A m c t h0]
    dsimp only
    unfold out0_A_13
    rw [View.read_writes_eq_canon _ _ _ (fun y => cover0_A_13 (y := y) ..)]
    unfold kernelRun0_A
    dsimp only
    sl_unfold_words
    rw [View.canon_unit_zero hz]
    simp only [View.readAt_eq_ld, (hs0_6 t).read_unread, (hs0_9 t).read_unread, View.ld_unit_zero (S := S512x512) hz]
  · rw [outsAt0_B m c t h0]
    dsimp only
    unfold out0_B_13
    rw [View.read_writes_eq_canon _ _ _ (fun y => cover0_B_13 (y := y) ..)]
    unfold kernelRun0_B
    dsimp only
    sl_unfold_words
    rw [View.canon_unit_zero hz]
    simp only [View.readAt_eq_ld, (hs0_6 t).read_unread, (hs0_9 t).read_unread, View.ld_unit_zero (S := S512x512) hz]

theorem first_a (c : Dev nD) (t : Fin cfg0.N) (h0 : t.val % 4 = 0) :
    (outsAt0 m c t.val t.isLt).2.2.2.2.2.2.1 = k0_pay10 (iblk m c 9 t) (iblk m c 3 t) (iblk m c 6 t) (k0_pay3 (F := Ideal)) := by
  rw [outsAt0_A m c t h0]
  dsimp only
  unfold out0_A_16
  rw [View.read_writes_eq_canon _ _ _ (fun y => cover0_A_16 (y := y) ..)]
  unfold kernelRun0_A
  dsimp only
  sl_unfold_words
  rw [View.canon_cons_unit_zero hz, View.readCov_unit_zero (S := S512x768) _ hz]
  simp only [View.readAt_eq_ld, (hs0_3 t).read_unread, (hs0_6 t).read_unread, (hs0_9 t).read_unread, View.ld_unit_zero (S := S1x768x512) hz3, View.ld_unit_zero (S := S512x512) hz]

theorem next_a (c : Dev nD) (t : Fin cfg0.N) (h0 : ¬t.val % 4 = 0) :
    (outsAt0 m c t.val t.isLt).2.2.2.2.2.2.1 = k0_pay10 (iblk m c 9 t) (iblk m c 3 t) (iblk m c 6 t) (outsAt0 m c (t.val - 1) (Nat.lt_of_le_of_lt (Nat.sub_le _ _) t.isLt)).2.2.2.2.2.2.1 := by
  rw [outsAt0_B m c t h0]
  dsimp only
  unfold out0_B_16
  rw [View.read_writes_eq_canon _ _ _ (fun y => cover0_B_16 (y := y) ..)]
  unfold kernelRun0_B
  dsimp only
  sl_unfold_words
  rw [View.canon_unit_zero hz]
  simp only [View.readAt_eq_ld, (hs0_3 t).read_unread, (hs0_6 t).read_unread, (hs0_9 t).read_unread, (hs0_16 t).read_unread, View.ld_unit_zero (S := S1x768x512) hz3, View.ld_unit_zero (S := S512x512) hz, View.ld_unit_zero (S := S512x768) hz]

theorem dub_a (c : Dev nD) (t : Fin cfg0.N) (x y : Fin 512) :
    (k0_pay9 (iblk m c 9 t) (iblk m c 6 t) : S512x512.Idx → EReal) (ix2 x y) = du_a m c (ix2 ⟨512 * (t.val / 4) + x.val, by have := t.isLt; have e : cfg0.N = 32 := N0; omega⟩ ⟨512 * (t.val % 4) + y.val, by omega⟩) := by
  rw [pu_a, blk_9, blk_6]
  rfl

theorem arr_10 (c : Dev nD) : (dats m 0 c).arrAt 10 cfg0.N = dl_a m c := by
  refine (dats m 0 c).arrAt_eq_of_covers 10 _ (by decide +kernel) fun t hf j => ?_
  obtain ⟨x, y, rfl⟩ : ∃ (x : Fin 512) (z : Fin 512), j = ix2 x z := ⟨j 0, j 1, eq_ix2 j⟩
  rw [emb_10, after0_10, out_10]
  refine (pl_a _ _ _ _ x y).trans ?_
  rw [blk_9, blk_6]
  refine congrArg₂ (· * ·) (congrArg₂ (· * ·) (congrArg₂ (· * ·) rfl ?_) rfl) rfl
  exact Finset.sum_congr rfl fun k _ => congrArg₂ (· * ·) (blk_0 m c t x k) (blk_3 m c t k y)

theorem arr_13 (c : Dev nD) : (dats m 0 c).arrAt 13 cfg0.N = du_a m c := by
  refine (dats m 0 c).arrAt_eq_of_covers 13 _ (by decide +kernel) fun t hf j => ?_
  obtain ⟨x, y, rfl⟩ : ∃ (x : Fin 512) (z : Fin 512), j = ix2 x z := ⟨j 0, j 1, eq_ix2 j⟩
  rw [emb_13, after0_13, out_13]
  exact dub_a m c t x y

/-- One term of an entry; zero past the end. -/
def term_a (c : Dev nD) (r : Fin 4096) (k : Fin 768) (i : ℕ) : EReal :=
  if h : i < 2048 then du_a m c (ix2 r ⟨i, h⟩) * b4 m c (ix2 k ⟨i, h⟩) else 0

theorem term_a_eq (c : Dev nD) (r : Fin 4096) (k : Fin 768) (i : ℕ) (h : i < 2048) : term_a m c r k i = du_a m c (ix2 r ⟨i, h⟩) * b4 m c (ix2 k ⟨i, h⟩) := dif_pos h

theorem term_a_blk (c : Dev nD) (t : Fin cfg0.N) (x : Fin 512) (k : Fin 768) (r : Fin 4096) (hr : r.val = 512 * (t.val / 4) + x.val) :
    ∑ y : Fin 512, (k0_pay9 (iblk m c 9 t) (iblk m c 6 t) : S512x512.Idx → EReal) (ix2 x y) * (iblk m c 3 t : S1x768x512.Idx → EReal) (ix3 (0 : Fin 1) k y)
      = ∑ i ∈ Finset.range 512, term_a m c r k (512 * (t.val % 4) + i) := by
  have er : r = ⟨512 * (t.val / 4) + x.val, hr ▸ r.isLt⟩ := Fin.ext hr
  rw [er, Finset.sum_range]
  refine Finset.sum_congr rfl fun y _ => ?_
  rw [term_a_eq m c _ k _ (by omega)]
  exact congrArg₂ (· * ·) (dub_a m c t x y) (blk_3 m c t k y)

theorem acc_a (c : Dev nD) : ∀ (n : ℕ) (hn : n < cfg0.N) (x : Fin 512) (k : Fin 768) (r : Fin 4096), r.val = 512 * (n / 4) + x.val →
    ((outsAt0 m c n hn).2.2.2.2.2.2.1 : S512x768.Idx → EReal) (ix2 x k) = ∑ i ∈ Finset.range (512 * (n % 4 + 1)), term_a m c r k i := by
  intro n
  induction n using Nat.strong_induction_on with
  | _ n ih =>
    intro hn x k r hr
    by_cases h0 : n % 4 = 0
    · rw [show (outsAt0 m c n hn).2.2.2.2.2.2.1 = _ from first_a m c ⟨n, hn⟩ h0, pa_a, pz_a, term_a_blk m c ⟨n, hn⟩ x k r hr, zero_add]
      dsimp only
      rw [h0]
      simp only [Nat.mul_zero, Nat.zero_add, Nat.mul_one]
    · have hp := ih (n - 1) (by omega) (Nat.lt_of_le_of_lt (Nat.sub_le _ _) hn) x k r (by omega)
      rw [show (n - 1) % 4 + 1 = n % 4 by omega] at hp
      rw [show (outsAt0 m c n hn).2.2.2.2.2.2.1 = _ from next_a m c ⟨n, hn⟩ h0, pa_a, term_a_blk m c ⟨n, hn⟩ x k r hr, show ((outsAt0 m c (n - 1) _).2.2.2.2.2.2.1 : S512x768.Idx → EReal) (ix2 x k) = _ from hp]
      dsimp only
      rw [Nat.mul_add 512 (n % 4) 1, Nat.mul_one, ← Finset.sum_range_add]

theorem arr_16 (c : Dev nD) : (dats m 0 c).arrAt 16 cfg0.N = db_a m c := by
  refine (dats m 0 c).arrAt_eq_of_covers 16 _ (by decide +kernel) fun t hf j => ?_
  obtain ⟨x, y, rfl⟩ : ∃ (x : Fin 512) (z : Fin 768), j = ix2 x z := ⟨j 0, j 1, eq_ix2 j⟩
  have h1 := flush16 t hf
  rw [emb_16, after0_16]
  refine (acc_a m c t.val t.isLt x y ⟨512 * (t.val / 4) + x.val, by have := t.isLt; have e : cfg0.N = 32 := N0; omega⟩ rfl).trans ?_
  rw [h1, show 512 * (3 + 1) = 2048 from rfl, Finset.sum_range]
  exact Finset.sum_congr rfl fun k _ => term_a_eq m c _ _ _ k.isLt

/-! Branch b. -/

theorem pl_b (x1 : Vec Ideal S512x768 .bf16) (x4 : Vec Ideal S1x768x512 .bf16) (x7 : Vec Ideal S512x512 .f32) (x9 : Vec Ideal S512x512 .f32) (x y : Fin 512) :
    (k0_pay13 x9 (k0_pay11 x4) x1 x7 : S512x512.Idx → EReal) (ix2 x y)
      = (x9 : S512x512.Idx → EReal) (ix2 x y) * (∑ k : Fin 768, (x1 : S512x768.Idx → EReal) (ix2 x k) * (x4 : S1x768x512.Idx → EReal) (ix3 (0 : Fin 1) k y)) * Ideal.logistic ((x7 : S512x512.Idx → EReal) (ix2 x y)) * (1 - Ideal.logistic ((x7 : S512x512.Idx → EReal) (ix2 x y))) := by
  unfold k0_pay13 k0_pay11 k0_pay12
  pointwise

theorem pu_b (x7 : Vec Ideal S512x512 .f32) (x9 : Vec Ideal S512x512 .f32) (x y : Fin 512) :
    (k0_pay14 x9 x7 : S512x512.Idx → EReal) (ix2 x y) = (x9 : S512x512.Idx → EReal) (ix2 x y) * Ideal.logistic ((x7 : S512x512.Idx → EReal) (ix2 x y)) := by
  unfold k0_pay14 k0_pay12
  pointwise

theorem pa_b (x4 : Vec Ideal S1x768x512 .bf16) (x7 : Vec Ideal S512x512 .f32) (x9 : Vec Ideal S512x512 .f32) (a : Vec Ideal S512x768 .f32) (x : Fin 512) (k : Fin 768) :
    (k0_pay15 x9 (k0_pay11 x4) x7 a : S512x768.Idx → EReal) (ix2 x k)
      = (a : S512x768.Idx → EReal) (ix2 x k) + ∑ y : Fin 512, (k0_pay14 x9 x7 : S512x512.Idx → EReal) (ix2 x y) * (x4 : S1x768x512.Idx → EReal) (ix3 (0 : Fin 1) k y) := by
  unfold k0_pay15 k0_pay11
  generalize k0_pay14 x9 x7 = z
  pointwise

theorem pz_b (x : Fin 512) (k : Fin 768) : (k0_pay4 (F := Ideal) : S512x768.Idx → EReal) (ix2 x k) = 0 := by
  unfold k0_pay4
  pointwise

/-- The gradient by the branch's product. -/
abbrev du_b (c : Dev nD) : S4096x2048.Idx → EReal := fun i =>
  b7 m c (ix2 (i 0) (i 1)) * Ideal.logistic (b0 m c (ix2 (i 0) ⟨8192 + (i 1).val, by have : (i 1).val < 2048 := (i 1).isLt; omega⟩))

/-- The gradient by the gate. -/
abbrev dl_b (c : Dev nD) : S4096x2048.Idx → EReal := fun i =>
  b7 m c (ix2 (i 0) (i 1)) * (∑ k : Fin 768, b2 m c (ix2 (i 0) k) * b5 m c (ix2 k (i 1))) * Ideal.logistic (b0 m c (ix2 (i 0) ⟨8192 + (i 1).val, by have : (i 1).val < 2048 := (i 1).isLt; omega⟩)) * (1 - Ideal.logistic (b0 m c (ix2 (i 0) ⟨8192 + (i 1).val, by have : (i 1).val < 2048 := (i 1).isLt; omega⟩)))

/-- The gradient by the branch. -/
abbrev db_b (c : Dev nD) : S4096x768.Idx → EReal := fun i => ∑ s : Fin 2048, du_b m c (ix2 (i 0) s) * b5 m c (ix2 (i 1) s)

theorem out_11 (c : Dev nD) (t : Fin cfg0.N) : (outsAt0 m c t.val t.isLt).2.1 = k0_pay13 (iblk m c 9 t) (k0_pay11 (iblk m c 4 t)) (iblk m c 1 t) (iblk m c 7 t) := by
  by_cases h0 : t.val % 4 = 0
  · rw [outsAt0_A m c t h0]
    dsimp only
    unfold out0_A_11
    rw [View.read_writes_eq_canon _ _ _ (fun y => cover0_A_11 (y := y) ..)]
    unfold kernelRun0_A
    dsimp only
    sl_unfold_words
    rw [View.canon_unit_zero hz]
    simp only [View.readAt_eq_ld, (hs0_1 t).read_unread, (hs0_4 t).read_unread, (hs0_7 t).read_unread, (hs0_9 t).read_unread, View.ld_unit_zero (S := S1x768x512) hz3, View.ld_unit_zero (S := S512x512) hz, View.ld_unit_zero (S := S512x768) hz]
  · rw [outsAt0_B m c t h0]
    dsimp only
    unfold out0_B_11
    rw [View.read_writes_eq_canon _ _ _ (fun y => cover0_B_11 (y := y) ..)]
    unfold kernelRun0_B
    dsimp only
    sl_unfold_words
    rw [View.canon_unit_zero hz]
    simp only [View.readAt_eq_ld, (hs0_1 t).read_unread, (hs0_4 t).read_unread, (hs0_7 t).read_unread, (hs0_9 t).read_unread, View.ld_unit_zero (S := S1x768x512) hz3, View.ld_unit_zero (S := S512x512) hz, View.ld_unit_zero (S := S512x768) hz]

theorem out_14 (c : Dev nD) (t : Fin cfg0.N) : (outsAt0 m c t.val t.isLt).2.2.2.2.1 = k0_pay14 (iblk m c 9 t) (iblk m c 7 t) := by
  by_cases h0 : t.val % 4 = 0
  · rw [outsAt0_A m c t h0]
    dsimp only
    unfold out0_A_14
    rw [View.read_writes_eq_canon _ _ _ (fun y => cover0_A_14 (y := y) ..)]
    unfold kernelRun0_A
    dsimp only
    sl_unfold_words
    rw [View.canon_unit_zero hz]
    simp only [View.readAt_eq_ld, (hs0_7 t).read_unread, (hs0_9 t).read_unread, View.ld_unit_zero (S := S512x512) hz]
  · rw [outsAt0_B m c t h0]
    dsimp only
    unfold out0_B_14
    rw [View.read_writes_eq_canon _ _ _ (fun y => cover0_B_14 (y := y) ..)]
    unfold kernelRun0_B
    dsimp only
    sl_unfold_words
    rw [View.canon_unit_zero hz]
    simp only [View.readAt_eq_ld, (hs0_7 t).read_unread, (hs0_9 t).read_unread, View.ld_unit_zero (S := S512x512) hz]

theorem first_b (c : Dev nD) (t : Fin cfg0.N) (h0 : t.val % 4 = 0) :
    (outsAt0 m c t.val t.isLt).2.2.2.2.2.2.2.1 = k0_pay15 (iblk m c 9 t) (k0_pay11 (iblk m c 4 t)) (iblk m c 7 t) (k0_pay4 (F := Ideal)) := by
  rw [outsAt0_A m c t h0]
  dsimp only
  unfold out0_A_17
  rw [View.read_writes_eq_canon _ _ _ (fun y => cover0_A_17 (y := y) ..)]
  unfold kernelRun0_A
  dsimp only
  sl_unfold_words
  rw [View.canon_cons_unit_zero hz, View.readCov_unit_zero (S := S512x768) _ hz]
  simp only [View.readAt_eq_ld, (hs0_4 t).read_unread, (hs0_7 t).read_unread, (hs0_9 t).read_unread, View.ld_unit_zero (S := S1x768x512) hz3, View.ld_unit_zero (S := S512x512) hz]

theorem next_b (c : Dev nD) (t : Fin cfg0.N) (h0 : ¬t.val % 4 = 0) :
    (outsAt0 m c t.val t.isLt).2.2.2.2.2.2.2.1 = k0_pay15 (iblk m c 9 t) (k0_pay11 (iblk m c 4 t)) (iblk m c 7 t) (outsAt0 m c (t.val - 1) (Nat.lt_of_le_of_lt (Nat.sub_le _ _) t.isLt)).2.2.2.2.2.2.2.1 := by
  rw [outsAt0_B m c t h0]
  dsimp only
  unfold out0_B_17
  rw [View.read_writes_eq_canon _ _ _ (fun y => cover0_B_17 (y := y) ..)]
  unfold kernelRun0_B
  dsimp only
  sl_unfold_words
  rw [View.canon_unit_zero hz]
  simp only [View.readAt_eq_ld, (hs0_4 t).read_unread, (hs0_7 t).read_unread, (hs0_9 t).read_unread, (hs0_17 t).read_unread, View.ld_unit_zero (S := S1x768x512) hz3, View.ld_unit_zero (S := S512x512) hz, View.ld_unit_zero (S := S512x768) hz]

theorem dub_b (c : Dev nD) (t : Fin cfg0.N) (x y : Fin 512) :
    (k0_pay14 (iblk m c 9 t) (iblk m c 7 t) : S512x512.Idx → EReal) (ix2 x y) = du_b m c (ix2 ⟨512 * (t.val / 4) + x.val, by have := t.isLt; have e : cfg0.N = 32 := N0; omega⟩ ⟨512 * (t.val % 4) + y.val, by omega⟩) := by
  rw [pu_b, blk_9, blk_7]
  rfl

theorem arr_11 (c : Dev nD) : (dats m 0 c).arrAt 11 cfg0.N = dl_b m c := by
  refine (dats m 0 c).arrAt_eq_of_covers 11 _ (by decide +kernel) fun t hf j => ?_
  obtain ⟨x, y, rfl⟩ : ∃ (x : Fin 512) (z : Fin 512), j = ix2 x z := ⟨j 0, j 1, eq_ix2 j⟩
  rw [emb_11, after0_11, out_11]
  refine (pl_b _ _ _ _ x y).trans ?_
  rw [blk_9, blk_7]
  refine congrArg₂ (· * ·) (congrArg₂ (· * ·) (congrArg₂ (· * ·) rfl ?_) rfl) rfl
  exact Finset.sum_congr rfl fun k _ => congrArg₂ (· * ·) (blk_1 m c t x k) (blk_4 m c t k y)

theorem arr_14 (c : Dev nD) : (dats m 0 c).arrAt 14 cfg0.N = du_b m c := by
  refine (dats m 0 c).arrAt_eq_of_covers 14 _ (by decide +kernel) fun t hf j => ?_
  obtain ⟨x, y, rfl⟩ : ∃ (x : Fin 512) (z : Fin 512), j = ix2 x z := ⟨j 0, j 1, eq_ix2 j⟩
  rw [emb_14, after0_14, out_14]
  exact dub_b m c t x y

/-- One term of an entry; zero past the end. -/
def term_b (c : Dev nD) (r : Fin 4096) (k : Fin 768) (i : ℕ) : EReal :=
  if h : i < 2048 then du_b m c (ix2 r ⟨i, h⟩) * b5 m c (ix2 k ⟨i, h⟩) else 0

theorem term_b_eq (c : Dev nD) (r : Fin 4096) (k : Fin 768) (i : ℕ) (h : i < 2048) : term_b m c r k i = du_b m c (ix2 r ⟨i, h⟩) * b5 m c (ix2 k ⟨i, h⟩) := dif_pos h

theorem term_b_blk (c : Dev nD) (t : Fin cfg0.N) (x : Fin 512) (k : Fin 768) (r : Fin 4096) (hr : r.val = 512 * (t.val / 4) + x.val) :
    ∑ y : Fin 512, (k0_pay14 (iblk m c 9 t) (iblk m c 7 t) : S512x512.Idx → EReal) (ix2 x y) * (iblk m c 4 t : S1x768x512.Idx → EReal) (ix3 (0 : Fin 1) k y)
      = ∑ i ∈ Finset.range 512, term_b m c r k (512 * (t.val % 4) + i) := by
  have er : r = ⟨512 * (t.val / 4) + x.val, hr ▸ r.isLt⟩ := Fin.ext hr
  rw [er, Finset.sum_range]
  refine Finset.sum_congr rfl fun y _ => ?_
  rw [term_b_eq m c _ k _ (by omega)]
  exact congrArg₂ (· * ·) (dub_b m c t x y) (blk_4 m c t k y)

theorem acc_b (c : Dev nD) : ∀ (n : ℕ) (hn : n < cfg0.N) (x : Fin 512) (k : Fin 768) (r : Fin 4096), r.val = 512 * (n / 4) + x.val →
    ((outsAt0 m c n hn).2.2.2.2.2.2.2.1 : S512x768.Idx → EReal) (ix2 x k) = ∑ i ∈ Finset.range (512 * (n % 4 + 1)), term_b m c r k i := by
  intro n
  induction n using Nat.strong_induction_on with
  | _ n ih =>
    intro hn x k r hr
    by_cases h0 : n % 4 = 0
    · rw [show (outsAt0 m c n hn).2.2.2.2.2.2.2.1 = _ from first_b m c ⟨n, hn⟩ h0, pa_b, pz_b, term_b_blk m c ⟨n, hn⟩ x k r hr, zero_add]
      dsimp only
      rw [h0]
      simp only [Nat.mul_zero, Nat.zero_add, Nat.mul_one]
    · have hp := ih (n - 1) (by omega) (Nat.lt_of_le_of_lt (Nat.sub_le _ _) hn) x k r (by omega)
      rw [show (n - 1) % 4 + 1 = n % 4 by omega] at hp
      rw [show (outsAt0 m c n hn).2.2.2.2.2.2.2.1 = _ from next_b m c ⟨n, hn⟩ h0, pa_b, term_b_blk m c ⟨n, hn⟩ x k r hr, show ((outsAt0 m c (n - 1) _).2.2.2.2.2.2.2.1 : S512x768.Idx → EReal) (ix2 x k) = _ from hp]
      dsimp only
      rw [Nat.mul_add 512 (n % 4) 1, Nat.mul_one, ← Finset.sum_range_add]

theorem arr_17 (c : Dev nD) : (dats m 0 c).arrAt 17 cfg0.N = db_b m c := by
  refine (dats m 0 c).arrAt_eq_of_covers 17 _ (by decide +kernel) fun t hf j => ?_
  obtain ⟨x, y, rfl⟩ : ∃ (x : Fin 512) (z : Fin 768), j = ix2 x z := ⟨j 0, j 1, eq_ix2 j⟩
  have h1 := flush17 t hf
  rw [emb_17, after0_17]
  refine (acc_b m c t.val t.isLt x y ⟨512 * (t.val / 4) + x.val, by have := t.isLt; have e : cfg0.N = 32 := N0; omega⟩ rfl).trans ?_
  rw [h1, show 512 * (3 + 1) = 2048 from rfl, Finset.sum_range]
  exact Finset.sum_congr rfl fun k _ => term_b_eq m c _ _ _ k.isLt

/-! Branch c. -/

theorem pl_c (x2 : Vec Ideal S512x512 .bf16) (x5 : Vec Ideal S1x512x512 .bf16) (x8 : Vec Ideal S512x512 .f32) (x9 : Vec Ideal S512x512 .f32) (x y : Fin 512) :
    (k0_pay18 x9 x5 x2 x8 : S512x512.Idx → EReal) (ix2 x y)
      = (x9 : S512x512.Idx → EReal) (ix2 x y) * (∑ k : Fin 512, (x2 : S512x512.Idx → EReal) (ix2 x k) * (x5 : S1x512x512.Idx → EReal) (ix3 (0 : Fin 1) k y)) * Ideal.logistic ((x8 : S512x512.Idx → EReal) (ix2 x y)) * (1 - Ideal.logistic ((x8 : S512x512.Idx → EReal) (ix2 x y))) := by
  unfold k0_pay18 k0_pay16 k0_pay17
  pointwise

theorem pu_c (x8 : Vec Ideal S512x512 .f32) (x9 : Vec Ideal S512x512 .f32) (x y : Fin 512) :
    (k0_pay1 x9 (k0_pay17 x8) : S512x512.Idx → EReal) (ix2 x y) = (x9 : S512x512.Idx → EReal) (ix2 x y) * Ideal.logistic ((x8 : S512x512.Idx → EReal) (ix2 x y)) := by
  unfold k0_pay1 k0_pay17
  pointwise

theorem pa_c (x5 : Vec Ideal S1x512x512 .bf16) (x8 : Vec Ideal S512x512 .f32) (x9 : Vec Ideal S512x512 .f32) (a : Vec Ideal S512x512 .f32) (x : Fin 512) (k : Fin 512) :
    (k0_pay2 x9 (k0_pay16 x5) (k0_pay17 x8) a : S512x512.Idx → EReal) (ix2 x k)
      = (a : S512x512.Idx → EReal) (ix2 x k) + ∑ y : Fin 512, (k0_pay1 x9 (k0_pay17 x8) : S512x512.Idx → EReal) (ix2 x y) * (x5 : S1x512x512.Idx → EReal) (ix3 (0 : Fin 1) k y) := by
  unfold k0_pay2 k0_pay16
  generalize k0_pay1 x9 (k0_pay17 x8) = z
  pointwise

theorem pz_c (x : Fin 512) (k : Fin 512) : (k0_pay5 (F := Ideal) : S512x512.Idx → EReal) (ix2 x k) = 0 := by
  unfold k0_pay5
  pointwise

/-- The gradient by the branch's product. -/
abbrev du_c (c : Dev nD) : S4096x2048.Idx → EReal := fun i =>
  b7 m c (ix2 (i 0) (i 1)) * Ideal.logistic (b0 m c (ix2 (i 0) ⟨10240 + (i 1).val, by have : (i 1).val < 2048 := (i 1).isLt; omega⟩))

/-- The gradient by the gate. -/
abbrev dl_c (c : Dev nD) : S4096x2048.Idx → EReal := fun i =>
  b7 m c (ix2 (i 0) (i 1)) * (∑ k : Fin 512, b3 m c (ix2 (i 0) k) * b6 m c (ix2 k (i 1))) * Ideal.logistic (b0 m c (ix2 (i 0) ⟨10240 + (i 1).val, by have : (i 1).val < 2048 := (i 1).isLt; omega⟩)) * (1 - Ideal.logistic (b0 m c (ix2 (i 0) ⟨10240 + (i 1).val, by have : (i 1).val < 2048 := (i 1).isLt; omega⟩)))

/-- The gradient by the branch. -/
abbrev db_c (c : Dev nD) : S4096x512.Idx → EReal := fun i => ∑ s : Fin 2048, du_c m c (ix2 (i 0) s) * b6 m c (ix2 (i 1) s)

theorem out_12 (c : Dev nD) (t : Fin cfg0.N) : (outsAt0 m c t.val t.isLt).2.2.1 = k0_pay18 (iblk m c 9 t) (iblk m c 5 t) (iblk m c 2 t) (iblk m c 8 t) := by
  by_cases h0 : t.val % 4 = 0
  · rw [outsAt0_A m c t h0]
    dsimp only
    unfold out0_A_12
    rw [View.read_writes_eq_canon _ _ _ (fun y => cover0_A_12 (y := y) ..)]
    unfold kernelRun0_A
    dsimp only
    sl_unfold_words
    rw [View.canon_unit_zero hz]
    simp only [View.readAt_eq_ld, (hs0_2 t).read_unread, (hs0_5 t).read_unread, (hs0_8 t).read_unread, (hs0_9 t).read_unread, View.ld_unit_zero (S := S1x512x512) hz3, View.ld_unit_zero (S := S512x512) hz]
  · rw [outsAt0_B m c t h0]
    dsimp only
    unfold out0_B_12
    rw [View.read_writes_eq_canon _ _ _ (fun y => cover0_B_12 (y := y) ..)]
    unfold kernelRun0_B
    dsimp only
    sl_unfold_words
    rw [View.canon_unit_zero hz]
    simp only [View.readAt_eq_ld, (hs0_2 t).read_unread, (hs0_5 t).read_unread, (hs0_8 t).read_unread, (hs0_9 t).read_unread, View.ld_unit_zero (S := S1x512x512) hz3, View.ld_unit_zero (S := S512x512) hz]

theorem out_15 (c : Dev nD) (t : Fin cfg0.N) : (outsAt0 m c t.val t.isLt).2.2.2.2.2.1 = k0_pay1 (iblk m c 9 t) (k0_pay17 (iblk m c 8 t)) := by
  by_cases h0 : t.val % 4 = 0
  · rw [outsAt0_A m c t h0]
    dsimp only
    unfold out0_A_15
    rw [View.read_writes_eq_canon _ _ _ (fun y => cover0_A_15 (y := y) ..)]
    unfold kernelRun0_A
    dsimp only
    sl_unfold_words
    rw [View.canon_unit_zero hz]
    simp only [View.readAt_eq_ld, (hs0_8 t).read_unread, (hs0_9 t).read_unread, View.ld_unit_zero (S := S512x512) hz]
  · rw [outsAt0_B m c t h0]
    dsimp only
    unfold out0_B_15
    rw [View.read_writes_eq_canon _ _ _ (fun y => cover0_B_15 (y := y) ..)]
    unfold kernelRun0_B
    dsimp only
    sl_unfold_words
    rw [View.canon_unit_zero hz]
    simp only [View.readAt_eq_ld, (hs0_8 t).read_unread, (hs0_9 t).read_unread, View.ld_unit_zero (S := S512x512) hz]

theorem first_c (c : Dev nD) (t : Fin cfg0.N) (h0 : t.val % 4 = 0) :
    (outsAt0 m c t.val t.isLt).2.2.2.2.2.2.2.2 = k0_pay2 (iblk m c 9 t) (k0_pay16 (iblk m c 5 t)) (k0_pay17 (iblk m c 8 t)) (k0_pay5 (F := Ideal)) := by
  rw [outsAt0_A m c t h0]
  dsimp only
  unfold out0_A_18
  rw [View.read_writes_eq_canon _ _ _ (fun y => cover0_A_18 (y := y) ..)]
  unfold kernelRun0_A
  dsimp only
  sl_unfold_words
  rw [View.canon_cons_unit_zero hz, View.readCov_unit_zero (S := S512x512) _ hz]
  simp only [View.readAt_eq_ld, (hs0_5 t).read_unread, (hs0_8 t).read_unread, (hs0_9 t).read_unread, View.ld_unit_zero (S := S1x512x512) hz3, View.ld_unit_zero (S := S512x512) hz]

theorem next_c (c : Dev nD) (t : Fin cfg0.N) (h0 : ¬t.val % 4 = 0) :
    (outsAt0 m c t.val t.isLt).2.2.2.2.2.2.2.2 = k0_pay2 (iblk m c 9 t) (k0_pay16 (iblk m c 5 t)) (k0_pay17 (iblk m c 8 t)) (outsAt0 m c (t.val - 1) (Nat.lt_of_le_of_lt (Nat.sub_le _ _) t.isLt)).2.2.2.2.2.2.2.2 := by
  rw [outsAt0_B m c t h0]
  dsimp only
  unfold out0_B_18
  rw [View.read_writes_eq_canon _ _ _ (fun y => cover0_B_18 (y := y) ..)]
  unfold kernelRun0_B
  dsimp only
  sl_unfold_words
  rw [View.canon_unit_zero hz]
  simp only [View.readAt_eq_ld, (hs0_5 t).read_unread, (hs0_8 t).read_unread, (hs0_9 t).read_unread, (hs0_18 t).read_unread, View.ld_unit_zero (S := S1x512x512) hz3, View.ld_unit_zero (S := S512x512) hz]

theorem dub_c (c : Dev nD) (t : Fin cfg0.N) (x y : Fin 512) :
    (k0_pay1 (iblk m c 9 t) (k0_pay17 (iblk m c 8 t)) : S512x512.Idx → EReal) (ix2 x y) = du_c m c (ix2 ⟨512 * (t.val / 4) + x.val, by have := t.isLt; have e : cfg0.N = 32 := N0; omega⟩ ⟨512 * (t.val % 4) + y.val, by omega⟩) := by
  rw [pu_c, blk_9, blk_8]
  rfl

theorem arr_12 (c : Dev nD) : (dats m 0 c).arrAt 12 cfg0.N = dl_c m c := by
  refine (dats m 0 c).arrAt_eq_of_covers 12 _ (by decide +kernel) fun t hf j => ?_
  obtain ⟨x, y, rfl⟩ : ∃ (x : Fin 512) (z : Fin 512), j = ix2 x z := ⟨j 0, j 1, eq_ix2 j⟩
  rw [emb_12, after0_12, out_12]
  refine (pl_c _ _ _ _ x y).trans ?_
  rw [blk_9, blk_8]
  refine congrArg₂ (· * ·) (congrArg₂ (· * ·) (congrArg₂ (· * ·) rfl ?_) rfl) rfl
  exact Finset.sum_congr rfl fun k _ => congrArg₂ (· * ·) (blk_2 m c t x k) (blk_5 m c t k y)

theorem arr_15 (c : Dev nD) : (dats m 0 c).arrAt 15 cfg0.N = du_c m c := by
  refine (dats m 0 c).arrAt_eq_of_covers 15 _ (by decide +kernel) fun t hf j => ?_
  obtain ⟨x, y, rfl⟩ : ∃ (x : Fin 512) (z : Fin 512), j = ix2 x z := ⟨j 0, j 1, eq_ix2 j⟩
  rw [emb_15, after0_15, out_15]
  exact dub_c m c t x y

/-- One term of an entry; zero past the end. -/
def term_c (c : Dev nD) (r : Fin 4096) (k : Fin 512) (i : ℕ) : EReal :=
  if h : i < 2048 then du_c m c (ix2 r ⟨i, h⟩) * b6 m c (ix2 k ⟨i, h⟩) else 0

theorem term_c_eq (c : Dev nD) (r : Fin 4096) (k : Fin 512) (i : ℕ) (h : i < 2048) : term_c m c r k i = du_c m c (ix2 r ⟨i, h⟩) * b6 m c (ix2 k ⟨i, h⟩) := dif_pos h

theorem term_c_blk (c : Dev nD) (t : Fin cfg0.N) (x : Fin 512) (k : Fin 512) (r : Fin 4096) (hr : r.val = 512 * (t.val / 4) + x.val) :
    ∑ y : Fin 512, (k0_pay1 (iblk m c 9 t) (k0_pay17 (iblk m c 8 t)) : S512x512.Idx → EReal) (ix2 x y) * (iblk m c 5 t : S1x512x512.Idx → EReal) (ix3 (0 : Fin 1) k y)
      = ∑ i ∈ Finset.range 512, term_c m c r k (512 * (t.val % 4) + i) := by
  have er : r = ⟨512 * (t.val / 4) + x.val, hr ▸ r.isLt⟩ := Fin.ext hr
  rw [er, Finset.sum_range]
  refine Finset.sum_congr rfl fun y _ => ?_
  rw [term_c_eq m c _ k _ (by omega)]
  exact congrArg₂ (· * ·) (dub_c m c t x y) (blk_5 m c t k y)

theorem acc_c (c : Dev nD) : ∀ (n : ℕ) (hn : n < cfg0.N) (x : Fin 512) (k : Fin 512) (r : Fin 4096), r.val = 512 * (n / 4) + x.val →
    ((outsAt0 m c n hn).2.2.2.2.2.2.2.2 : S512x512.Idx → EReal) (ix2 x k) = ∑ i ∈ Finset.range (512 * (n % 4 + 1)), term_c m c r k i := by
  intro n
  induction n using Nat.strong_induction_on with
  | _ n ih =>
    intro hn x k r hr
    by_cases h0 : n % 4 = 0
    · rw [show (outsAt0 m c n hn).2.2.2.2.2.2.2.2 = _ from first_c m c ⟨n, hn⟩ h0, pa_c, pz_c, term_c_blk m c ⟨n, hn⟩ x k r hr, zero_add]
      dsimp only
      rw [h0]
      simp only [Nat.mul_zero, Nat.zero_add, Nat.mul_one]
    · have hp := ih (n - 1) (by omega) (Nat.lt_of_le_of_lt (Nat.sub_le _ _) hn) x k r (by omega)
      rw [show (n - 1) % 4 + 1 = n % 4 by omega] at hp
      rw [show (outsAt0 m c n hn).2.2.2.2.2.2.2.2 = _ from next_c m c ⟨n, hn⟩ h0, pa_c, term_c_blk m c ⟨n, hn⟩ x k r hr, show ((outsAt0 m c (n - 1) _).2.2.2.2.2.2.2.2 : S512x512.Idx → EReal) (ix2 x k) = _ from hp]
      dsimp only
      rw [Nat.mul_add 512 (n % 4) 1, Nat.mul_one, ← Finset.sum_range_add]

theorem arr_18 (c : Dev nD) : (dats m 0 c).arrAt 18 cfg0.N = db_c m c := by
  refine (dats m 0 c).arrAt_eq_of_covers 18 _ (by decide +kernel) fun t hf j => ?_
  obtain ⟨x, y, rfl⟩ : ∃ (x : Fin 512) (z : Fin 512), j = ix2 x z := ⟨j 0, j 1, eq_ix2 j⟩
  have h1 := flush18 t hf
  rw [emb_18, after0_18]
  refine (acc_c m c t.val t.isLt x y ⟨512 * (t.val / 4) + x.val, by have := t.isLt; have e : cfg0.N = 32 := N0; omega⟩ rfl).trans ?_
  rw [h1, show 512 * (3 + 1) = 2048 from rfl, Finset.sum_range]
  exact Finset.sum_congr rfl fun k _ => term_c_eq m c _ _ _ k.isLt

/-! The reference's results. -/

theorem mul_order_a (g d s : EReal) : g * d * s * (1 - s) = g * d * (s * (1 - s)) := mul_assoc _ _ _

theorem rl_a (a0 : FVec Ideal S4096x12288 .f32) (a1 : FVec Ideal S4096x768 .bf16) (a4 : FVec Ideal S768x2048 .bf16) (a7 : FVec Ideal S4096x2048 .f32) (i : S4096x2048.Idx) : (truncf .bf16 (mulf (mulf (shapeCast Cert.Reference2Ideal.S4096x2048 a7 Cert.Reference2Ideal.Gen.shapeCasts_S4096x2048_S4096x2048) (Host.dotGeneral Cert.Reference2Ideal.dot_S4096x768_S768x2048_S4096x2048_1_0_0_1_n_n none (extf .f32 a1 Cert.Reference2Ideal.Gen.bitsLt_bf16_f32) (extf .f32 a4 Cert.Reference2Ideal.Gen.bitsLt_bf16_f32))) (mulf (Host.divf (broadcastInDim Cert.Reference2Ideal.S4096x2048 ![] Cert.Reference2Ideal.Gen.bcast_S_S4096x2048 (constant Cert.Reference2Ideal.S_ .f32 0x3F800000#32)) (addf (broadcastInDim Cert.Reference2Ideal.S4096x2048 ![] Cert.Reference2Ideal.Gen.bcast_S_S4096x2048 (constant Cert.Reference2Ideal.S_ .f32 0x3F800000#32)) (Host.exp (Host.negf (extractStridedSlice Cert.Reference2Ideal.S4096x2048 ![0, 6144] a0 Cert.Reference2Ideal.Gen.slices_S4096x12288_S4096x2048_0_6144))))) (subf (broadcastInDim Cert.Reference2Ideal.S4096x2048 ![] Cert.Reference2Ideal.Gen.bcast_S_S4096x2048 (constant Cert.Reference2Ideal.S_ .f32 0x3F800000#32)) (Host.divf (broadcastInDim Cert.Reference2Ideal.S4096x2048 ![] Cert.Reference2Ideal.Gen.bcast_S_S4096x2048 (constant Cert.Reference2Ideal.S_ .f32 0x3F800000#32)) (addf (broadcastInDim Cert.Reference2Ideal.S4096x2048 ![] Cert.Reference2Ideal.Gen.bcast_S_S4096x2048 (constant Cert.Reference2Ideal.S_ .f32 0x3F800000#32)) (Host.exp (Host.negf (extractStridedSlice Cert.Reference2Ideal.S4096x2048 ![0, 6144] a0 Cert.Reference2Ideal.Gen.slices_S4096x12288_S4096x2048_0_6144)))))))) Cert.Reference2Ideal.Gen.bitsLt_bf16_f32 : FVec Ideal S4096x2048 .bf16) i
      = ((a7 : S4096x2048.Idx → EReal) (ix2 (i 0) (i 1))) * (∑ k : Fin 768, (a1 : S4096x768.Idx → EReal) (ix2 (i 0) k) * (a4 : S768x2048.Idx → EReal) (ix2 k (i 1))) * Ideal.logistic ((a0 : S4096x12288.Idx → EReal) (ix2 (i 0) ⟨6144 + (i 1).val, by have : (i 1).val < 2048 := (i 1).isLt; omega⟩)) * (1 - Ideal.logistic ((a0 : S4096x12288.Idx → EReal) (ix2 (i 0) ⟨6144 + (i 1).val, by have : (i 1).val < 2048 := (i 1).isLt; omega⟩))) := by
  obtain ⟨r, s, rfl⟩ : ∃ (r : Fin 4096) (s : Fin 2048), i = ix2 r s := ⟨i 0, i 1, eq_ix2 i⟩
  refine Eq.trans ?_ (mul_order_a _ _ _).symm
  rw [shapeCast_self]
  unfold Ideal.logistic
  pointwise

/-- The gradient by the product, before its rounding. -/
abbrev rg_a (a0 : FVec Ideal S4096x12288 .f32) (a7 : FVec Ideal S4096x2048 .f32) : FVec Ideal S4096x2048 .f32 := mulf (Host.divf (broadcastInDim Cert.Reference2Ideal.S4096x2048 ![] Cert.Reference2Ideal.Gen.bcast_S_S4096x2048 (constant Cert.Reference2Ideal.S_ .f32 0x3F800000#32)) (addf (broadcastInDim Cert.Reference2Ideal.S4096x2048 ![] Cert.Reference2Ideal.Gen.bcast_S_S4096x2048 (constant Cert.Reference2Ideal.S_ .f32 0x3F800000#32)) (Host.exp (Host.negf (extractStridedSlice Cert.Reference2Ideal.S4096x2048 ![0, 6144] a0 Cert.Reference2Ideal.Gen.slices_S4096x12288_S4096x2048_0_6144))))) (shapeCast Cert.Reference2Ideal.S4096x2048 a7 Cert.Reference2Ideal.Gen.shapeCasts_S4096x2048_S4096x2048)

theorem rv_a (a0 : FVec Ideal S4096x12288 .f32) (a7 : FVec Ideal S4096x2048 .f32) (i : S4096x2048.Idx) : rg_a a0 a7 i = ((a7 : S4096x2048.Idx → EReal) (ix2 (i 0) (i 1))) * Ideal.logistic ((a0 : S4096x12288.Idx → EReal) (ix2 (i 0) ⟨6144 + (i 1).val, by have : (i 1).val < 2048 := (i 1).isLt; omega⟩)) := by
  obtain ⟨r, s, rfl⟩ : ∃ (r : Fin 4096) (s : Fin 2048), i = ix2 r s := ⟨i 0, i 1, eq_ix2 i⟩
  refine Eq.trans ?_ (mul_comm _ _)
  unfold rg_a
  rw [shapeCast_self]
  unfold Ideal.logistic
  pointwise

theorem ru_a (a0 : FVec Ideal S4096x12288 .f32) (a7 : FVec Ideal S4096x2048 .f32) (i : S4096x2048.Idx) : (truncf .bf16 (rg_a a0 a7) Cert.Reference2Ideal.Gen.bitsLt_bf16_f32 : FVec Ideal S4096x2048 .bf16) i = ((a7 : S4096x2048.Idx → EReal) (ix2 (i 0) (i 1))) * Ideal.logistic ((a0 : S4096x12288.Idx → EReal) (ix2 (i 0) ⟨6144 + (i 1).val, by have : (i 1).val < 2048 := (i 1).isLt; omega⟩)) := rv_a a0 a7 i

theorem rdot_a (z : FVec Ideal S4096x2048 .f32) (a4 : FVec Ideal S768x2048 .bf16) (r : Fin 4096) (k : Fin 768) : (Host.dotGeneral Cert.Reference2Ideal.dot_S4096x2048_S768x2048_S4096x768_1_1_0_0_n_n none z (extf .f32 a4 Cert.Reference2Ideal.Gen.bitsLt_bf16_f32) : S4096x768.Idx → EReal) (ix2 r k)
      = ∑ s : Fin 2048, (z : S4096x2048.Idx → EReal) (ix2 r s) * (a4 : S768x2048.Idx → EReal) (ix2 k s) := by
  pointwise

theorem rd_a (a0 : FVec Ideal S4096x12288 .f32) (a4 : FVec Ideal S768x2048 .bf16) (a7 : FVec Ideal S4096x2048 .f32) (i : S4096x768.Idx) : (Host.dotGeneral Cert.Reference2Ideal.dot_S4096x2048_S768x2048_S4096x768_1_1_0_0_n_n none (rg_a a0 a7) (extf .f32 a4 Cert.Reference2Ideal.Gen.bitsLt_bf16_f32) : FVec Ideal S4096x768 .f32) i
      = ∑ s : Fin 2048, ((a7 : S4096x2048.Idx → EReal) (ix2 (i 0) s)) * Ideal.logistic ((a0 : S4096x12288.Idx → EReal) (ix2 (i 0) ⟨6144 + s.val, by omega⟩)) * (a4 : S768x2048.Idx → EReal) (ix2 (i 1) s) := by
  obtain ⟨r, k, rfl⟩ : ∃ (r : Fin 4096) (k : Fin 768), i = ix2 r k := ⟨i 0, i 1, eq_ix2 i⟩
  exact (rdot_a _ a4 r k).trans (Finset.sum_congr rfl fun s _ => congrArg (· * (a4 : S768x2048.Idx → EReal) (ix2 k s)) (rv_a a0 a7 (ix2 r s)))

theorem mul_order_b (g d s : EReal) : g * d * s * (1 - s) = g * d * (s * (1 - s)) := mul_assoc _ _ _

theorem rl_b (a0 : FVec Ideal S4096x12288 .f32) (a2 : FVec Ideal S4096x768 .bf16) (a5 : FVec Ideal S768x2048 .bf16) (a7 : FVec Ideal S4096x2048 .f32) (i : S4096x2048.Idx) : (truncf .bf16 (mulf (mulf (shapeCast Cert.Reference2Ideal.S4096x2048 a7 Cert.Reference2Ideal.Gen.shapeCasts_S4096x2048_S4096x2048) (Host.dotGeneral Cert.Reference2Ideal.dot_S4096x768_S768x2048_S4096x2048_1_0_0_1_n_n none (extf .f32 a2 Cert.Reference2Ideal.Gen.bitsLt_bf16_f32) (extf .f32 a5 Cert.Reference2Ideal.Gen.bitsLt_bf16_f32))) (mulf (Host.divf (broadcastInDim Cert.Reference2Ideal.S4096x2048 ![] Cert.Reference2Ideal.Gen.bcast_S_S4096x2048 (constant Cert.Reference2Ideal.S_ .f32 0x3F800000#32)) (addf (broadcastInDim Cert.Reference2Ideal.S4096x2048 ![] Cert.Reference2Ideal.Gen.bcast_S_S4096x2048 (constant Cert.Reference2Ideal.S_ .f32 0x3F800000#32)) (Host.exp (Host.negf (extractStridedSlice Cert.Reference2Ideal.S4096x2048 ![0, 8192] a0 Cert.Reference2Ideal.Gen.slices_S4096x12288_S4096x2048_0_8192))))) (subf (broadcastInDim Cert.Reference2Ideal.S4096x2048 ![] Cert.Reference2Ideal.Gen.bcast_S_S4096x2048 (constant Cert.Reference2Ideal.S_ .f32 0x3F800000#32)) (Host.divf (broadcastInDim Cert.Reference2Ideal.S4096x2048 ![] Cert.Reference2Ideal.Gen.bcast_S_S4096x2048 (constant Cert.Reference2Ideal.S_ .f32 0x3F800000#32)) (addf (broadcastInDim Cert.Reference2Ideal.S4096x2048 ![] Cert.Reference2Ideal.Gen.bcast_S_S4096x2048 (constant Cert.Reference2Ideal.S_ .f32 0x3F800000#32)) (Host.exp (Host.negf (extractStridedSlice Cert.Reference2Ideal.S4096x2048 ![0, 8192] a0 Cert.Reference2Ideal.Gen.slices_S4096x12288_S4096x2048_0_8192)))))))) Cert.Reference2Ideal.Gen.bitsLt_bf16_f32 : FVec Ideal S4096x2048 .bf16) i
      = ((a7 : S4096x2048.Idx → EReal) (ix2 (i 0) (i 1))) * (∑ k : Fin 768, (a2 : S4096x768.Idx → EReal) (ix2 (i 0) k) * (a5 : S768x2048.Idx → EReal) (ix2 k (i 1))) * Ideal.logistic ((a0 : S4096x12288.Idx → EReal) (ix2 (i 0) ⟨8192 + (i 1).val, by have : (i 1).val < 2048 := (i 1).isLt; omega⟩)) * (1 - Ideal.logistic ((a0 : S4096x12288.Idx → EReal) (ix2 (i 0) ⟨8192 + (i 1).val, by have : (i 1).val < 2048 := (i 1).isLt; omega⟩))) := by
  obtain ⟨r, s, rfl⟩ : ∃ (r : Fin 4096) (s : Fin 2048), i = ix2 r s := ⟨i 0, i 1, eq_ix2 i⟩
  refine Eq.trans ?_ (mul_order_b _ _ _).symm
  rw [shapeCast_self]
  unfold Ideal.logistic
  pointwise

/-- The gradient by the product, before its rounding. -/
abbrev rg_b (a0 : FVec Ideal S4096x12288 .f32) (a7 : FVec Ideal S4096x2048 .f32) : FVec Ideal S4096x2048 .f32 := mulf (Host.divf (broadcastInDim Cert.Reference2Ideal.S4096x2048 ![] Cert.Reference2Ideal.Gen.bcast_S_S4096x2048 (constant Cert.Reference2Ideal.S_ .f32 0x3F800000#32)) (addf (broadcastInDim Cert.Reference2Ideal.S4096x2048 ![] Cert.Reference2Ideal.Gen.bcast_S_S4096x2048 (constant Cert.Reference2Ideal.S_ .f32 0x3F800000#32)) (Host.exp (Host.negf (extractStridedSlice Cert.Reference2Ideal.S4096x2048 ![0, 8192] a0 Cert.Reference2Ideal.Gen.slices_S4096x12288_S4096x2048_0_8192))))) (shapeCast Cert.Reference2Ideal.S4096x2048 a7 Cert.Reference2Ideal.Gen.shapeCasts_S4096x2048_S4096x2048)

theorem rv_b (a0 : FVec Ideal S4096x12288 .f32) (a7 : FVec Ideal S4096x2048 .f32) (i : S4096x2048.Idx) : rg_b a0 a7 i = ((a7 : S4096x2048.Idx → EReal) (ix2 (i 0) (i 1))) * Ideal.logistic ((a0 : S4096x12288.Idx → EReal) (ix2 (i 0) ⟨8192 + (i 1).val, by have : (i 1).val < 2048 := (i 1).isLt; omega⟩)) := by
  obtain ⟨r, s, rfl⟩ : ∃ (r : Fin 4096) (s : Fin 2048), i = ix2 r s := ⟨i 0, i 1, eq_ix2 i⟩
  refine Eq.trans ?_ (mul_comm _ _)
  unfold rg_b
  rw [shapeCast_self]
  unfold Ideal.logistic
  pointwise

theorem ru_b (a0 : FVec Ideal S4096x12288 .f32) (a7 : FVec Ideal S4096x2048 .f32) (i : S4096x2048.Idx) : (truncf .bf16 (rg_b a0 a7) Cert.Reference2Ideal.Gen.bitsLt_bf16_f32 : FVec Ideal S4096x2048 .bf16) i = ((a7 : S4096x2048.Idx → EReal) (ix2 (i 0) (i 1))) * Ideal.logistic ((a0 : S4096x12288.Idx → EReal) (ix2 (i 0) ⟨8192 + (i 1).val, by have : (i 1).val < 2048 := (i 1).isLt; omega⟩)) := rv_b a0 a7 i

theorem rdot_b (z : FVec Ideal S4096x2048 .f32) (a5 : FVec Ideal S768x2048 .bf16) (r : Fin 4096) (k : Fin 768) : (Host.dotGeneral Cert.Reference2Ideal.dot_S4096x2048_S768x2048_S4096x768_1_1_0_0_n_n none z (extf .f32 a5 Cert.Reference2Ideal.Gen.bitsLt_bf16_f32) : S4096x768.Idx → EReal) (ix2 r k)
      = ∑ s : Fin 2048, (z : S4096x2048.Idx → EReal) (ix2 r s) * (a5 : S768x2048.Idx → EReal) (ix2 k s) := by
  pointwise

theorem rd_b (a0 : FVec Ideal S4096x12288 .f32) (a5 : FVec Ideal S768x2048 .bf16) (a7 : FVec Ideal S4096x2048 .f32) (i : S4096x768.Idx) : (Host.dotGeneral Cert.Reference2Ideal.dot_S4096x2048_S768x2048_S4096x768_1_1_0_0_n_n none (rg_b a0 a7) (extf .f32 a5 Cert.Reference2Ideal.Gen.bitsLt_bf16_f32) : FVec Ideal S4096x768 .f32) i
      = ∑ s : Fin 2048, ((a7 : S4096x2048.Idx → EReal) (ix2 (i 0) s)) * Ideal.logistic ((a0 : S4096x12288.Idx → EReal) (ix2 (i 0) ⟨8192 + s.val, by omega⟩)) * (a5 : S768x2048.Idx → EReal) (ix2 (i 1) s) := by
  obtain ⟨r, k, rfl⟩ : ∃ (r : Fin 4096) (k : Fin 768), i = ix2 r k := ⟨i 0, i 1, eq_ix2 i⟩
  exact (rdot_b _ a5 r k).trans (Finset.sum_congr rfl fun s _ => congrArg (· * (a5 : S768x2048.Idx → EReal) (ix2 k s)) (rv_b a0 a7 (ix2 r s)))

theorem mul_order_c (g d s : EReal) : g * d * s * (1 - s) = g * d * (s * (1 - s)) := mul_assoc _ _ _

theorem rl_c (a0 : FVec Ideal S4096x12288 .f32) (a3 : FVec Ideal S4096x512 .bf16) (a6 : FVec Ideal S512x2048 .bf16) (a7 : FVec Ideal S4096x2048 .f32) (i : S4096x2048.Idx) : (truncf .bf16 (mulf (mulf (shapeCast Cert.Reference2Ideal.S4096x2048 a7 Cert.Reference2Ideal.Gen.shapeCasts_S4096x2048_S4096x2048) (Host.dotGeneral Cert.Reference2Ideal.dot_S4096x512_S512x2048_S4096x2048_1_0_0_1_n_n none (extf .f32 a3 Cert.Reference2Ideal.Gen.bitsLt_bf16_f32) (extf .f32 a6 Cert.Reference2Ideal.Gen.bitsLt_bf16_f32))) (mulf (Host.divf (broadcastInDim Cert.Reference2Ideal.S4096x2048 ![] Cert.Reference2Ideal.Gen.bcast_S_S4096x2048 (constant Cert.Reference2Ideal.S_ .f32 0x3F800000#32)) (addf (broadcastInDim Cert.Reference2Ideal.S4096x2048 ![] Cert.Reference2Ideal.Gen.bcast_S_S4096x2048 (constant Cert.Reference2Ideal.S_ .f32 0x3F800000#32)) (Host.exp (Host.negf (extractStridedSlice Cert.Reference2Ideal.S4096x2048 ![0, 10240] a0 Cert.Reference2Ideal.Gen.slices_S4096x12288_S4096x2048_0_10240))))) (subf (broadcastInDim Cert.Reference2Ideal.S4096x2048 ![] Cert.Reference2Ideal.Gen.bcast_S_S4096x2048 (constant Cert.Reference2Ideal.S_ .f32 0x3F800000#32)) (Host.divf (broadcastInDim Cert.Reference2Ideal.S4096x2048 ![] Cert.Reference2Ideal.Gen.bcast_S_S4096x2048 (constant Cert.Reference2Ideal.S_ .f32 0x3F800000#32)) (addf (broadcastInDim Cert.Reference2Ideal.S4096x2048 ![] Cert.Reference2Ideal.Gen.bcast_S_S4096x2048 (constant Cert.Reference2Ideal.S_ .f32 0x3F800000#32)) (Host.exp (Host.negf (extractStridedSlice Cert.Reference2Ideal.S4096x2048 ![0, 10240] a0 Cert.Reference2Ideal.Gen.slices_S4096x12288_S4096x2048_0_10240)))))))) Cert.Reference2Ideal.Gen.bitsLt_bf16_f32 : FVec Ideal S4096x2048 .bf16) i
      = ((a7 : S4096x2048.Idx → EReal) (ix2 (i 0) (i 1))) * (∑ k : Fin 512, (a3 : S4096x512.Idx → EReal) (ix2 (i 0) k) * (a6 : S512x2048.Idx → EReal) (ix2 k (i 1))) * Ideal.logistic ((a0 : S4096x12288.Idx → EReal) (ix2 (i 0) ⟨10240 + (i 1).val, by have : (i 1).val < 2048 := (i 1).isLt; omega⟩)) * (1 - Ideal.logistic ((a0 : S4096x12288.Idx → EReal) (ix2 (i 0) ⟨10240 + (i 1).val, by have : (i 1).val < 2048 := (i 1).isLt; omega⟩))) := by
  obtain ⟨r, s, rfl⟩ : ∃ (r : Fin 4096) (s : Fin 2048), i = ix2 r s := ⟨i 0, i 1, eq_ix2 i⟩
  refine Eq.trans ?_ (mul_order_c _ _ _).symm
  rw [shapeCast_self]
  unfold Ideal.logistic
  pointwise

/-- The gradient by the product, before its rounding. -/
abbrev rg_c (a0 : FVec Ideal S4096x12288 .f32) (a7 : FVec Ideal S4096x2048 .f32) : FVec Ideal S4096x2048 .f32 := mulf (Host.divf (broadcastInDim Cert.Reference2Ideal.S4096x2048 ![] Cert.Reference2Ideal.Gen.bcast_S_S4096x2048 (constant Cert.Reference2Ideal.S_ .f32 0x3F800000#32)) (addf (broadcastInDim Cert.Reference2Ideal.S4096x2048 ![] Cert.Reference2Ideal.Gen.bcast_S_S4096x2048 (constant Cert.Reference2Ideal.S_ .f32 0x3F800000#32)) (Host.exp (Host.negf (extractStridedSlice Cert.Reference2Ideal.S4096x2048 ![0, 10240] a0 Cert.Reference2Ideal.Gen.slices_S4096x12288_S4096x2048_0_10240))))) (shapeCast Cert.Reference2Ideal.S4096x2048 a7 Cert.Reference2Ideal.Gen.shapeCasts_S4096x2048_S4096x2048)

theorem rv_c (a0 : FVec Ideal S4096x12288 .f32) (a7 : FVec Ideal S4096x2048 .f32) (i : S4096x2048.Idx) : rg_c a0 a7 i = ((a7 : S4096x2048.Idx → EReal) (ix2 (i 0) (i 1))) * Ideal.logistic ((a0 : S4096x12288.Idx → EReal) (ix2 (i 0) ⟨10240 + (i 1).val, by have : (i 1).val < 2048 := (i 1).isLt; omega⟩)) := by
  obtain ⟨r, s, rfl⟩ : ∃ (r : Fin 4096) (s : Fin 2048), i = ix2 r s := ⟨i 0, i 1, eq_ix2 i⟩
  refine Eq.trans ?_ (mul_comm _ _)
  unfold rg_c
  rw [shapeCast_self]
  unfold Ideal.logistic
  pointwise

theorem ru_c (a0 : FVec Ideal S4096x12288 .f32) (a7 : FVec Ideal S4096x2048 .f32) (i : S4096x2048.Idx) : (truncf .bf16 (rg_c a0 a7) Cert.Reference2Ideal.Gen.bitsLt_bf16_f32 : FVec Ideal S4096x2048 .bf16) i = ((a7 : S4096x2048.Idx → EReal) (ix2 (i 0) (i 1))) * Ideal.logistic ((a0 : S4096x12288.Idx → EReal) (ix2 (i 0) ⟨10240 + (i 1).val, by have : (i 1).val < 2048 := (i 1).isLt; omega⟩)) := rv_c a0 a7 i

theorem rdot_c (z : FVec Ideal S4096x2048 .f32) (a6 : FVec Ideal S512x2048 .bf16) (r : Fin 4096) (k : Fin 512) : (Host.dotGeneral Cert.Reference2Ideal.dot_S4096x2048_S512x2048_S4096x512_1_1_0_0_n_n none z (extf .f32 a6 Cert.Reference2Ideal.Gen.bitsLt_bf16_f32) : S4096x512.Idx → EReal) (ix2 r k)
      = ∑ s : Fin 2048, (z : S4096x2048.Idx → EReal) (ix2 r s) * (a6 : S512x2048.Idx → EReal) (ix2 k s) := by
  pointwise

theorem rd_c (a0 : FVec Ideal S4096x12288 .f32) (a6 : FVec Ideal S512x2048 .bf16) (a7 : FVec Ideal S4096x2048 .f32) (i : S4096x512.Idx) : (Host.dotGeneral Cert.Reference2Ideal.dot_S4096x2048_S512x2048_S4096x512_1_1_0_0_n_n none (rg_c a0 a7) (extf .f32 a6 Cert.Reference2Ideal.Gen.bitsLt_bf16_f32) : FVec Ideal S4096x512 .f32) i
      = ∑ s : Fin 2048, ((a7 : S4096x2048.Idx → EReal) (ix2 (i 0) s)) * Ideal.logistic ((a0 : S4096x12288.Idx → EReal) (ix2 (i 0) ⟨10240 + s.val, by omega⟩)) * (a6 : S512x2048.Idx → EReal) (ix2 (i 1) s) := by
  obtain ⟨r, k, rfl⟩ : ∃ (r : Fin 4096) (k : Fin 512), i = ix2 r k := ⟨i 0, i 1, eq_ix2 i⟩
  exact (rdot_c _ a6 r k).trans (Finset.sum_congr rfl fun s _ => congrArg (· * (a6 : S512x2048.Idx → EReal) (ix2 k s)) (rv_c a0 a7 (ix2 r s)))

/-- The kernel and the reference have the same results. -/
theorem algebraic : Cert.algebraic_Kernel2Ideal_Reference2Ideal (hKernel2Ideal := Cert.Kernel2Ideal.Gen.facts) (hReference2Ideal := Cert.Reference2Ideal.Gen.facts) := by
  intro m g m' g' _ hm
  refine ⟨fun c => dl_a m c, fun c => dl_b m c, fun c => dl_c m c, fun c => du_a m c, fun c => du_b m c, fun c => du_c m c, fun c => db_a m c, fun c => db_b m c, fun c => db_c m c, ?_, ?_⟩
  · exact (θ_run Cert.Kernel2Ideal.defs _ _).mono (fun r h c => ⟨(h c).1.trans (arr_10 m c), (h c).2.1.trans (arr_11 m c), (h c).2.2.1.trans (arr_12 m c), (h c).2.2.2.1.trans (arr_13 m c), (h c).2.2.2.2.1.trans (arr_14 m c), (h c).2.2.2.2.2.1.trans (arr_15 m c), (h c).2.2.2.2.2.2.1.trans (arr_16 m c), (h c).2.2.2.2.2.2.2.1.trans (arr_17 m c), (h c).2.2.2.2.2.2.2.2.1.trans (arr_18 m c), (h c).2.2.2.2.2.2.2.2.2⟩) (Cert.Kernel2Ideal.Value.run_blocks (F := Ideal) m g)
  · refine (θ_run Cert.Reference2Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩) (Cert.Reference2Ideal.Value.run (F := Ideal) m' g')
    · rw [(hm c).1, (hm c).2.1, (hm c).2.2.2.2.1, (hm c).2.2.2.2.2.2.2]
      exact funext fun i => rl_a (b0 m c) (b1 m c) (b4 m c) (b7 m c) i
    · rw [(hm c).1, (hm c).2.2.1, (hm c).2.2.2.2.2.1, (hm c).2.2.2.2.2.2.2]
      exact funext fun i => rl_b (b0 m c) (b2 m c) (b5 m c) (b7 m c) i
    · rw [(hm c).1, (hm c).2.2.2.1, (hm c).2.2.2.2.2.2.1, (hm c).2.2.2.2.2.2.2]
      exact funext fun i => rl_c (b0 m c) (b3 m c) (b6 m c) (b7 m c) i
    · rw [(hm c).1, (hm c).2.2.2.2.2.2.2]
      exact funext fun i => ru_a (b0 m c) (b7 m c) i
    · rw [(hm c).1, (hm c).2.2.2.2.2.2.2]
      exact funext fun i => ru_b (b0 m c) (b7 m c) i
    · rw [(hm c).1, (hm c).2.2.2.2.2.2.2]
      exact funext fun i => ru_c (b0 m c) (b7 m c) i
    · rw [(hm c).1, (hm c).2.2.2.2.1, (hm c).2.2.2.2.2.2.2]
      exact funext fun i => rd_a (b0 m c) (b4 m c) (b7 m c) i
    · rw [(hm c).1, (hm c).2.2.2.2.2.1, (hm c).2.2.2.2.2.2.2]
      exact funext fun i => rd_b (b0 m c) (b5 m c) (b7 m c) i
    · rw [(hm c).1, (hm c).2.2.2.2.2.2.1, (hm c).2.2.2.2.2.2.2]
      exact funext fun i => rd_c (b0 m c) (b6 m c) (b7 m c) i

end Cert.Kernel2Ideal.Hand
-- ==== Proof.Dw3.lean ====
module

public import proofs.«01_k».proof.Defs
public import proofs.«01_k».proof.Proof.Gen.Kernel3Ideal.Value
public import proofs.«01_k».proof.Proof.Gen.Reference3Ideal.Run
public import Idealize.ShloMosaic.Lib.Pipeline.ValueKit.Geometry
public import Idealize.ShloMosaic.Lib.Pointwise

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic

variable (m : (ℓ : Loc nD τ sig) → Buf (Elt Ideal) ℓ)

/-! ## A weight gradient, block by block: every block is the product of a column block of each argument -/

theorem N0 : cfg0.N = 8 := by decide +kernel

theorem hz : (![0, 0] : Fin 2 → Nat) = fun _ => 0 := funext fun a => by fin_cases a <;> rfl

theorem idx0 : ∀ t : Fin cfg0.N, win0_0.index t 0 = 0 ∧ win0_0.index t 1 = t.val / 4 :=
  (by decide +kernel : ∀ t : Fin grid0.N, _)

theorem idx1 : ∀ t : Fin cfg0.N, win0_1.index t 0 = 0 ∧ win0_1.index t 1 = t.val % 4 :=
  (by decide +kernel : ∀ t : Fin grid0.N, _)

theorem idx2 : ∀ t : Fin cfg0.N, win0_2.index t 0 = t.val / 4 ∧ win0_2.index t 1 = t.val % 4 :=
  (by decide +kernel : ∀ t : Fin grid0.N, _)

/-- The two arguments. -/
abbrev b0 (c : Dev nD) : S4096x2048.Idx → EReal := m ((c.tc : Thread nD τ).loc main_arg0)
abbrev b1 (c : Dev nD) : S4096x2048.Idx → EReal := m ((c.tc : Thread nD τ).loc main_arg1)

theorem blk_0 (c : Dev nD) (t : Fin cfg0.N) (k : Fin 4096) (x : Fin 1024) :
    (iblk m c 0 t : S4096x1024.Idx → EReal) (ix2 k x)
      = b0 m c (ix2 k ⟨1024 * (t.val / 4) + x.val, by have := t.isLt; have e : cfg0.N = 8 := N0; omega⟩) := by
  have e : (V m c main_arg0 : S4096x2048.Idx → EReal) = b0 m c := V_main_arg0 m c
  rw [← e]
  refine congrArg (V m c main_arg0 : S4096x2048.Idx → EReal) (funext fun a => Fin.ext ?_)
  match a with
  | ⟨0, _⟩ => exact (Pipeline.Window.rect_emb_val win0_0 t (ix2 k x) 0).trans (by rw [(idx0 t).1]; show 0 * 4096 + k.val = k.val; omega)
  | ⟨1, _⟩ => exact (Pipeline.Window.rect_emb_val win0_0 t (ix2 k x) 1).trans (by rw [(idx0 t).2]; show (t.val / 4) * 1024 + x.val = 1024 * (t.val / 4) + x.val; omega)

theorem blk_1 (c : Dev nD) (t : Fin cfg0.N) (k : Fin 4096) (y : Fin 512) :
    (iblk m c 1 t : S4096x512.Idx → EReal) (ix2 k y)
      = b1 m c (ix2 k ⟨512 * (t.val % 4) + y.val, by omega⟩) := by
  have e : (V m c main_arg1 : S4096x2048.Idx → EReal) = b1 m c := V_main_arg1 m c
  rw [← e]
  refine congrArg (V m c main_arg1 : S4096x2048.Idx → EReal) (funext fun a => Fin.ext ?_)
  match a with
  | ⟨0, _⟩ => exact (Pipeline.Window.rect_emb_val win0_1 t (ix2 k y) 0).trans (by rw [(idx1 t).1]; show 0 * 4096 + k.val = k.val; omega)
  | ⟨1, _⟩ => exact (Pipeline.Window.rect_emb_val win0_1 t (ix2 k y) 1).trans (by rw [(idx1 t).2]; show (t.val % 4) * 512 + y.val = 512 * (t.val % 4) + y.val; omega)

theorem emb_2 (t : Fin cfg0.N) (x : Fin 1024) (y : Fin 512) :
    (((cfg0.win 2).blk t).view.emb (ix2 x y) : S2048x2048.Idx)
      = ix2 ⟨1024 * (t.val / 4) + x.val, by have := t.isLt; have e : cfg0.N = 8 := N0; omega⟩ ⟨512 * (t.val % 4) + y.val, by omega⟩ := by
  refine funext fun a => Fin.ext ?_
  match a with
  | ⟨0, _⟩ => exact (Pipeline.Window.rect_emb_val win0_2 t (ix2 x y) 0).trans (by rw [(idx2 t).1]; show (t.val / 4) * 1024 + x.val = 1024 * (t.val / 4) + x.val; omega)
  | ⟨1, _⟩ => exact (Pipeline.Window.rect_emb_val win0_2 t (ix2 x y) 1).trans (by rw [(idx2 t).2]; show (t.val % 4) * 512 + y.val = 512 * (t.val % 4) + y.val; omega)

/-- What is stored at every point: the product of the two loaded blocks. -/
theorem out_A (c : Dev nD) (i : grid0.Coords) (a3 : Memref sig .tc .vmem S4096x1024 .bf16) (h3 : a3.IsWhole) (a4 : Memref sig .tc .vmem S4096x512 .bf16) (h4 : a4.IsWhole)
    (a5 : Memref sig .tc .vmem S1024x512 .f32) (h5 : a5.IsWhole) (a6 : Memref sig .tc .vmem S1024x512 .f32) (h6 : a6.IsWhole) (hc0 : cond0_0 i) (hc1 : cond0_1 i)
    (x0 : Vec Ideal S4096x1024 .bf16) (x1 : Vec Ideal S4096x512 .bf16) :
    out0_A_2 c i a3 h3 a4 h4 a5 h5 a6 h6 hc0 hc1 x0 x1 = k0_pay1 x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz, View.readCov_unit_zero (S := S1024x512) _ hz]
  simp only [View.readAt_eq_ld, h3.read_unread, h4.read_unread, View.ld_unit_zero (S := S4096x1024) hz, View.ld_unit_zero (S := S4096x512) hz]

/-- An entry of the product of two blocks. -/
theorem pay_at (x0 : Vec Ideal S4096x1024 .bf16) (x1 : Vec Ideal S4096x512 .bf16) (x : Fin 1024) (y : Fin 512) :
    (k0_pay1 x0 x1 : S1024x512.Idx → EReal) (ix2 x y) = ∑ k : Fin 4096, (x0 : S4096x1024.Idx → EReal) (ix2 k x) * (x1 : S4096x512.Idx → EReal) (ix2 k y) := by
  unfold k0_pay1
  pointwise

/-- The whole product. -/
abbrev prod (c : Dev nD) : S2048x2048.Idx → EReal := fun i => ∑ k : Fin 4096, b0 m c (ix2 k (i 0)) * b1 m c (ix2 k (i 1))

/-- The result array holds the whole product. -/
theorem arr_2 (c : Dev nD) : (dats m 0 c).arrAt 2 cfg0.N = prod m c := by
  refine (dats m 0 c).arrAt_eq_of_covers 2 _ (by decide +kernel) fun t hf j => ?_
  obtain ⟨x, y, rfl⟩ : ∃ (x : Fin 1024) (z : Fin 512), j = ix2 x z := ⟨j 0, j 1, eq_ix2 j⟩
  rw [emb_2]
  refine Eq.trans (b := (k0_pay1 (iblk m c 0 t) (iblk m c 1 t) : S1024x512.Idx → EReal) (ix2 x y)) ?_ ?_
  · rw [after0_2]
    unfold outsAt0
    rw [out_A]
    rfl
  · rw [pay_at]
    exact Finset.sum_congr rfl fun k _ => congrArg₂ (· * ·) (blk_0 m c t k x) (blk_1 m c t k y)

/-- An entry of the reference's result. -/
theorem ref_at (x : FVec Ideal S4096x2048 .bf16) (y : FVec Ideal S4096x2048 .bf16) (i : S2048x2048.Idx) :
    (transpose Cert.Reference3Ideal.S2048x2048 [1, 0] (Host.dotGeneral Cert.Reference3Ideal.dot_S4096x2048_S4096x2048_S2048x2048_0_0_1_1_n_n none (extf .f32 y Cert.Reference3Ideal.Gen.bitsLt_bf16_f32) (extf .f32 x Cert.Reference3Ideal.Gen.bitsLt_bf16_f32)) Cert.Reference3Ideal.Gen.transposes_S2048x2048_S2048x2048_1_0 : FVec Ideal S2048x2048 .f32) i
      = ∑ k : Fin 4096, (y : S4096x2048.Idx → EReal) (ix2 k (i 1)) * (x : S4096x2048.Idx → EReal) (ix2 k (i 0)) := by
  obtain ⟨r, s, rfl⟩ : ∃ (r : Fin 2048) (s : Fin 2048), i = ix2 r s := ⟨i 0, i 1, eq_ix2 i⟩
  pointwise

/-- The kernel and the reference have the same result. -/
theorem algebraic : Cert.algebraic_Kernel3Ideal_Reference3Ideal (hKernel3Ideal := Cert.Kernel3Ideal.Gen.facts) (hReference3Ideal := Cert.Reference3Ideal.Gen.facts) := by
  intro m g m' g' _ hm
  refine ⟨fun c => prod m c, ?_, ?_⟩
  · exact (θ_run Cert.Kernel3Ideal.defs _ _).mono (fun r h c => ⟨(h c).1.trans (arr_2 m c), (h c).2⟩) (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    rw [(hm c).1, (hm c).2]
    refine funext fun i => (ref_at (b0 m c) (b1 m c) i).trans ?_
    exact Finset.sum_congr rfl fun k _ => mul_comm _ _

end Cert.Kernel3Ideal.Hand
-- ==== Proof.Dw4.lean ====
module

public import proofs.«01_k».proof.Defs
public import proofs.«01_k».proof.Proof.Gen.Kernel4Ideal.Value
public import proofs.«01_k».proof.Proof.Gen.Reference4Ideal.Run
public import Idealize.ShloMosaic.Lib.Pipeline.ValueKit.Geometry
public import Idealize.ShloMosaic.Lib.Pointwise

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic

variable (m : (ℓ : Loc nD τ sig) → Buf (Elt Ideal) ℓ)

/-! ## A weight gradient, block by block: every block is the product of a column block of each argument -/

theorem N0 : cfg0.N = 4 := by decide +kernel

theorem hz : (![0, 0] : Fin 2 → Nat) = fun _ => 0 := funext fun a => by fin_cases a <;> rfl

theorem idx0 : ∀ t : Fin cfg0.N, win0_0.index t 0 = 0 ∧ win0_0.index t 1 = t.val / 4 :=
  (by decide +kernel : ∀ t : Fin grid0.N, _)

theorem idx1 : ∀ t : Fin cfg0.N, win0_1.index t 0 = 0 ∧ win0_1.index t 1 = t.val % 4 :=
  (by decide +kernel : ∀ t : Fin grid0.N, _)

theorem idx2 : ∀ t : Fin cfg0.N, win0_2.index t 0 = t.val / 4 ∧ win0_2.index t 1 = t.val % 4 :=
  (by decide +kernel : ∀ t : Fin grid0.N, _)

/-- The two arguments. -/
abbrev b0 (c : Dev nD) : S4096x768.Idx → EReal := m ((c.tc : Thread nD τ).loc main_arg0)
abbrev b1 (c : Dev nD) : S4096x2048.Idx → EReal := m ((c.tc : Thread nD τ).loc main_arg1)

theorem blk_0 (c : Dev nD) (t : Fin cfg0.N) (k : Fin 4096) (x : Fin 768) :
    (iblk m c 0 t : S4096x768.Idx → EReal) (ix2 k x)
      = b0 m c (ix2 k ⟨768 * (t.val / 4) + x.val, by have := t.isLt; have e : cfg0.N = 4 := N0; omega⟩) := by
  have e : (V m c main_arg0 : S4096x768.Idx → EReal) = b0 m c := V_main_arg0 m c
  rw [← e]
  refine congrArg (V m c main_arg0 : S4096x768.Idx → EReal) (funext fun a => Fin.ext ?_)
  match a with
  | ⟨0, _⟩ => exact (Pipeline.Window.rect_emb_val win0_0 t (ix2 k x) 0).trans (by rw [(idx0 t).1]; show 0 * 4096 + k.val = k.val; omega)
  | ⟨1, _⟩ => exact (Pipeline.Window.rect_emb_val win0_0 t (ix2 k x) 1).trans (by rw [(idx0 t).2]; show (t.val / 4) * 768 + x.val = 768 * (t.val / 4) + x.val; omega)

theorem blk_1 (c : Dev nD) (t : Fin cfg0.N) (k : Fin 4096) (y : Fin 512) :
    (iblk m c 1 t : S4096x512.Idx → EReal) (ix2 k y)
      = b1 m c (ix2 k ⟨512 * (t.val % 4) + y.val, by omega⟩) := by
  have e : (V m c main_arg1 : S4096x2048.Idx → EReal) = b1 m c := V_main_arg1 m c
  rw [← e]
  refine congrArg (V m c main_arg1 : S4096x2048.Idx → EReal) (funext fun a => Fin.ext ?_)
  match a with
  | ⟨0, _⟩ => exact (Pipeline.Window.rect_emb_val win0_1 t (ix2 k y) 0).trans (by rw [(idx1 t).1]; show 0 * 4096 + k.val = k.val; omega)
  | ⟨1, _⟩ => exact (Pipeline.Window.rect_emb_val win0_1 t (ix2 k y) 1).trans (by rw [(idx1 t).2]; show (t.val % 4) * 512 + y.val = 512 * (t.val % 4) + y.val; omega)

theorem emb_2 (t : Fin cfg0.N) (x : Fin 768) (y : Fin 512) :
    (((cfg0.win 2).blk t).view.emb (ix2 x y) : S768x2048.Idx)
      = ix2 ⟨768 * (t.val / 4) + x.val, by have := t.isLt; have e : cfg0.N = 4 := N0; omega⟩ ⟨512 * (t.val % 4) + y.val, by omega⟩ := by
  refine funext fun a => Fin.ext ?_
  match a with
  | ⟨0, _⟩ => exact (Pipeline.Window.rect_emb_val win0_2 t (ix2 x y) 0).trans (by rw [(idx2 t).1]; show (t.val / 4) * 768 + x.val = 768 * (t.val / 4) + x.val; omega)
  | ⟨1, _⟩ => exact (Pipeline.Window.rect_emb_val win0_2 t (ix2 x y) 1).trans (by rw [(idx2 t).2]; show (t.val % 4) * 512 + y.val = 512 * (t.val % 4) + y.val; omega)

/-- What is stored at every point: the product of the two loaded blocks. -/
theorem out_A (c : Dev nD) (i : grid0.Coords) (a3 : Memref sig .tc .vmem S4096x768 .bf16) (h3 : a3.IsWhole) (a4 : Memref sig .tc .vmem S4096x512 .bf16) (h4 : a4.IsWhole)
    (a5 : Memref sig .tc .vmem S768x512 .f32) (h5 : a5.IsWhole) (a6 : Memref sig .tc .vmem S768x512 .f32) (h6 : a6.IsWhole) (hc0 : cond0_0 i) (hc1 : cond0_1 i)
    (x0 : Vec Ideal S4096x768 .bf16) (x1 : Vec Ideal S4096x512 .bf16) :
    out0_A_2 c i a3 h3 a4 h4 a5 h5 a6 h6 hc0 hc1 x0 x1 = k0_pay1 x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz, View.readCov_unit_zero (S := S768x512) _ hz]
  simp only [View.readAt_eq_ld, h3.read_unread, h4.read_unread, View.ld_unit_zero (S := S4096x768) hz, View.ld_unit_zero (S := S4096x512) hz]

/-- An entry of the product of two blocks. -/
theorem pay_at (x0 : Vec Ideal S4096x768 .bf16) (x1 : Vec Ideal S4096x512 .bf16) (x : Fin 768) (y : Fin 512) :
    (k0_pay1 x0 x1 : S768x512.Idx → EReal) (ix2 x y) = ∑ k : Fin 4096, (x0 : S4096x768.Idx → EReal) (ix2 k x) * (x1 : S4096x512.Idx → EReal) (ix2 k y) := by
  unfold k0_pay1
  pointwise

/-- The whole product. -/
abbrev prod (c : Dev nD) : S768x2048.Idx → EReal := fun i => ∑ k : Fin 4096, b0 m c (ix2 k (i 0)) * b1 m c (ix2 k (i 1))

/-- The result array holds the whole product. -/
theorem arr_2 (c : Dev nD) : (dats m 0 c).arrAt 2 cfg0.N = prod m c := by
  refine (dats m 0 c).arrAt_eq_of_covers 2 _ (by decide +kernel) fun t hf j => ?_
  obtain ⟨x, y, rfl⟩ : ∃ (x : Fin 768) (z : Fin 512), j = ix2 x z := ⟨j 0, j 1, eq_ix2 j⟩
  rw [emb_2]
  refine Eq.trans (b := (k0_pay1 (iblk m c 0 t) (iblk m c 1 t) : S768x512.Idx → EReal) (ix2 x y)) ?_ ?_
  · rw [after0_2]
    unfold outsAt0
    rw [out_A]
    rfl
  · rw [pay_at]
    exact Finset.sum_congr rfl fun k _ => congrArg₂ (· * ·) (blk_0 m c t k x) (blk_1 m c t k y)

/-- An entry of the reference's result. -/
theorem ref_at (x : FVec Ideal S4096x768 .bf16) (y : FVec Ideal S4096x2048 .bf16) (i : S768x2048.Idx) :
    (transpose Cert.Reference4Ideal.S768x2048 [1, 0] (Host.dotGeneral Cert.Reference4Ideal.dot_S4096x2048_S4096x768_S2048x768_0_0_1_1_n_n none (extf .f32 y Cert.Reference4Ideal.Gen.bitsLt_bf16_f32) (extf .f32 x Cert.Reference4Ideal.Gen.bitsLt_bf16_f32)) Cert.Reference4Ideal.Gen.transposes_S2048x768_S768x2048_1_0 : FVec Ideal S768x2048 .f32) i
      = ∑ k : Fin 4096, (y : S4096x2048.Idx → EReal) (ix2 k (i 1)) * (x : S4096x768.Idx → EReal) (ix2 k (i 0)) := by
  obtain ⟨r, s, rfl⟩ : ∃ (r : Fin 768) (s : Fin 2048), i = ix2 r s := ⟨i 0, i 1, eq_ix2 i⟩
  pointwise

/-- The kernel and the reference have the same result. -/
theorem algebraic : Cert.algebraic_Kernel4Ideal_Reference4Ideal (hKernel4Ideal := Cert.Kernel4Ideal.Gen.facts) (hReference4Ideal := Cert.Reference4Ideal.Gen.facts) := by
  intro m g m' g' _ hm
  refine ⟨fun c => prod m c, ?_, ?_⟩
  · exact (θ_run Cert.Kernel4Ideal.defs _ _).mono (fun r h c => ⟨(h c).1.trans (arr_2 m c), (h c).2⟩) (Cert.Kernel4Ideal.Value.run_blocks (F := Ideal) m g)
  · refine (θ_run Cert.Reference4Ideal.defs _ _).mono (fun r h c => ⟨(h c).1.trans ?_, (h c).2⟩) (Cert.Reference4Ideal.Value.run (F := Ideal) m' g')
    rw [(hm c).1, (hm c).2]
    refine funext fun i => (ref_at (b0 m c) (b1 m c) i).trans ?_
    exact Finset.sum_congr rfl fun k _ => mul_comm _ _

end Cert.Kernel4Ideal.Hand
-- ==== Proof.Dw5.lean ====
module

public import proofs.«01_k».proof.Defs
public import proofs.«01_k».proof.Proof.Gen.Kernel5Ideal.Value
public import proofs.«01_k».proof.Proof.Gen.Reference5Ideal.Run
public import Idealize.ShloMosaic.Lib.Pipeline.ValueKit.Geometry
public import Idealize.ShloMosaic.Lib.Pointwise

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic

variable (m : (ℓ : Loc nD τ sig) → Buf (Elt Ideal) ℓ)

/-! ## A weight gradient, block by block: every block is the product of a column block of each argument -/

theorem N0 : cfg0.N = 4 := by decide +kernel

theorem hz : (![0, 0] : Fin 2 → Nat) = fun _ => 0 := funext fun a => by fin_cases a <;> rfl

theorem idx0 : ∀ t : Fin cfg0.N, win0_0.index t 0 = 0 ∧ win0_0.index t 1 = t.val / 4 :=
  (by decide +kernel : ∀ t : Fin grid0.N, _)

theorem idx1 : ∀ t : Fin cfg0.N, win0_1.index t 0 = 0 ∧ win0_1.index t 1 = t.val % 4 :=
  (by decide +kernel : ∀ t : Fin grid0.N, _)

theorem idx2 : ∀ t : Fin cfg0.N, win0_2.index t 0 = t.val / 4 ∧ win0_2.index t 1 = t.val % 4 :=
  (by decide +kernel : ∀ t : Fin grid0.N, _)

/-- The two arguments. -/
abbrev b0 (c : Dev nD) : S4096x512.Idx → EReal := m ((c.tc : Thread nD τ).loc main_arg0)
abbrev b1 (c : Dev nD) : S4096x2048.Idx → EReal := m ((c.tc : Thread nD τ).loc main_arg1)

theorem blk_0 (c : Dev nD) (t : Fin cfg0.N) (k : Fin 4096) (x : Fin 512) :
    (iblk m c 0 t : S4096x512.Idx → EReal) (ix2 k x)
      = b0 m c (ix2 k ⟨512 * (t.val / 4) + x.val, by have := t.isLt; have e : cfg0.N = 4 := N0; omega⟩) := by
  have e : (V m c main_arg0 : S4096x512.Idx → EReal) = b0 m c := V_main_arg0 m c
  rw [← e]
  refine congrArg (V m c main_arg0 : S4096x512.Idx → EReal) (funext fun a => Fin.ext ?_)
  match a with
  | ⟨0, _⟩ => exact (Pipeline.Window.rect_emb_val win0_0 t (ix2 k x) 0).trans (by rw [(idx0 t).1]; show 0 * 4096 + k.val = k.val; omega)
  | ⟨1, _⟩ => exact (Pipeline.Window.rect_emb_val win0_0 t (ix2 k x) 1).trans (by rw [(idx0 t).2]; show (t.val / 4) * 512 + x.val = 512 * (t.val / 4) + x.val; omega)

theorem blk_1 (c : Dev nD) (t : Fin cfg0.N) (k : Fin 4096) (y : Fin 512) :
    (iblk m c 1 t : S4096x512.Idx → EReal) (ix2 k y)
      = b1 m c (ix2 k ⟨512 * (t.val % 4) + y.val, by omega⟩) := by
  have e : (V m c main_arg1 : S4096x2048.Idx → EReal) = b1 m c := V_main_arg1 m c
  rw [← e]
  refine congrArg (V m c main_arg1 : S4096x2048.Idx → EReal) (funext fun a => Fin.ext ?_)
  match a with
  | ⟨0, _⟩ => exact (Pipeline.Window.rect_emb_val win0_1 t (ix2 k y) 0).trans (by rw [(idx1 t).1]; show 0 * 4096 + k.val = k.val; omega)
  | ⟨1, _⟩ => exact (Pipeline.Window.rect_emb_val win0_1 t (ix2 k y) 1).trans (by rw [(idx1 t).2]; show (t.val % 4) * 512 + y.val = 512 * (t.val % 4) + y.val; omega)

theorem emb_2 (t : Fin cfg0.N) (x : Fin 512) (y : Fin 512) :
    (((cfg0.win 2).blk t).view.emb (ix2 x y) : S512x2048.Idx)
      = ix2 ⟨512 * (t.val / 4) + x.val, by have := t.isLt; have e : cfg0.N = 4 := N0; omega⟩ ⟨512 * (t.val % 4) + y.val, by omega⟩ := by
  refine funext fun a => Fin.ext ?_
  match a with
  | ⟨0, _⟩ => exact (Pipeline.Window.rect_emb_val win0_2 t (ix2 x y) 0).trans (by rw [(idx2 t).1]; show (t.val / 4) * 512 + x.val = 512 * (t.val / 4) + x.val; omega)
  | ⟨1, _⟩ => exact (Pipeline.Window.rect_emb_val win0_2 t (ix2 x y) 1).trans (by rw [(idx2 t).2]; show (t.val % 4) * 512 + y.val = 512 * (t.val % 4) + y.val; omega)

/-- What is stored at every point: the product of the two loaded blocks. -/
theorem out_A (c : Dev nD) (i : grid0.Coords) (a3 : Memref sig .tc .vmem S4096x512 .bf16) (h3 : a3.IsWhole) (a4 : Memref sig .tc .vmem S4096x512 .bf16) (h4 : a4.IsWhole)
    (a5 : Memref sig .tc .vmem S512x512 .f32) (h5 : a5.IsWhole) (a6 : Memref sig .tc .vmem S512x512 .f32) (h6 : a6.IsWhole) (hc0 : cond0_0 i) (hc1 : cond0_1 i)
    (x0 : Vec Ideal S4096x512 .bf16) (x1 : Vec Ideal S4096x512 .bf16) :
    out0_A_2 c i a3 h3 a4 h4 a5 h5 a6 h6 hc0 hc1 x0 x1 = k0_pay1 x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz, View.readCov_unit_zero (S := S512x512) _ hz]
  simp only [View.readAt_eq_ld, h3.read_unread, h4.read_unread, View.ld_unit_zero (S := S4096x512) hz, View.ld_unit_zero (S := S4096x512) hz]

/-- An entry of the product of two blocks. -/
theorem pay_at (x0 : Vec Ideal S4096x512 .bf16) (x1 : Vec Ideal S4096x512 .bf16) (x : Fin 512) (y : Fin 512) :
    (k0_pay1 x0 x1 : S512x512.Idx → EReal) (ix2 x y) = ∑ k : Fin 4096, (x0 : S4096x512.Idx → EReal) (ix2 k x) * (x1 : S4096x512.Idx → EReal) (ix2 k y) := by
  unfold k0_pay1
  pointwise

/-- The whole product. -/
abbrev prod (c : Dev nD) : S512x2048.Idx → EReal := fun i => ∑ k : Fin 4096, b0 m c (ix2 k (i 0)) * b1 m c (ix2 k (i 1))

/-- The result array holds the whole product. -/
theorem arr_2 (c : Dev nD) : (dats m 0 c).arrAt 2 cfg0.N = prod m c := by
  refine (dats m 0 c).arrAt_eq_of_covers 2 _ (by decide +kernel) fun t hf j => ?_
  obtain ⟨x, y, rfl⟩ : ∃ (x : Fin 512) (z : Fin 512), j = ix2 x z := ⟨j 0, j 1, eq_ix2 j⟩
  rw [emb_2]
  refine Eq.trans (b := (k0_pay1 (iblk m c 0 t) (iblk m c 1 t) : S512x512.Idx → EReal) (ix2 x y)) ?_ ?_
  · rw [after0_2]
    unfold outsAt0
    rw [out_A]
    rfl
  · rw [pay_at]
    exact Finset.sum_congr rfl fun k _ => congrArg₂ (· * ·) (blk_0 m c t k x) (blk_1 m c t k y)

/-- An entry of the reference's result. -/
theorem ref_at (x : FVec Ideal S4096x512 .bf16) (y : FVec Ideal S4096x2048 .bf16) (i : S512x2048.Idx) :
    (transpose Cert.Reference5Ideal.S512x2048 [1, 0] (Host.dotGeneral Cert.Reference5Ideal.dot_S4096x2048_S4096x512_S2048x512_0_0_1_1_n_n none (extf .f32 y Cert.Reference5Ideal.Gen.bitsLt_bf16_f32) (extf .f32 x Cert.Reference5Ideal.Gen.bitsLt_bf16_f32)) Cert.Reference5Ideal.Gen.transposes_S2048x512_S512x2048_1_0 : FVec Ideal S512x2048 .f32) i
      = ∑ k : Fin 4096, (y : S4096x2048.Idx → EReal) (ix2 k (i 1)) * (x : S4096x512.Idx → EReal) (ix2 k (i 0)) := by
  obtain ⟨r, s, rfl⟩ : ∃ (r : Fin 512) (s : Fin 2048), i = ix2 r s := ⟨i 0, i 1, eq_ix2 i⟩
  pointwise

/-- The kernel and the reference have the same result. -/
theorem algebraic : Cert.algebraic_Kernel5Ideal_Reference5Ideal (hKernel5Ideal := Cert.Kernel5Ideal.Gen.facts) (hReference5Ideal := Cert.Reference5Ideal.Gen.facts) := by
  intro m g m' g' _ hm
  refine ⟨fun c => prod m c, ?_, ?_⟩
  · exact (θ_run Cert.Kernel5Ideal.defs _ _).mono (fun r h c => ⟨(h c).1.trans (arr_2 m c), (h c).2⟩) (Cert.Kernel5Ideal.Value.run_blocks (F := Ideal) m g)
  · refine (θ_run Cert.Reference5Ideal.defs _ _).mono (fun r h c => ⟨(h c).1.trans ?_, (h c).2⟩) (Cert.Reference5Ideal.Value.run (F := Ideal) m' g')
    rw [(hm c).1, (hm c).2]
    refine funext fun i => (ref_at (b0 m c) (b1 m c) i).trans ?_
    exact Finset.sum_congr rfl fun k _ => mul_comm _ _

end Cert.Kernel5Ideal.Hand
-- ==== Proof.Ol9.lean ====
module

public import proofs.«01_k».proof.Defs
public import proofs.«01_k».proof.Proof.Gen.Kernel6Ideal.Value
public import proofs.«01_k».proof.Proof.Gen.Reference6Ideal.Run
public import Idealize.ShloMosaic.Lib.Pipeline.ValueKit.Geometry
public import Idealize.ShloMosaic.Lib.Pointwise

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic

variable (m : (ℓ : Loc nD τ sig) → Buf (Elt Ideal) ℓ)

/-! ## The output's error, its squares by column, and its gradient by the output and by y -/

theorem N0 : cfg0.N = 16 := by decide +kernel

theorem hz : (![0, 0] : Fin 2 → Nat) = fun _ => 0 := funext fun a => by fin_cases a <;> rfl

theorem idx0 : ∀ t : Fin cfg0.N, win0_0.index t 0 = t.val / 2 ∧ win0_0.index t 1 = 0 :=
  (by decide +kernel : ∀ t : Fin grid0.N, _)

theorem idx1 : ∀ t : Fin cfg0.N, win0_1.index t 0 = 0 ∧ win0_1.index t 1 = t.val % 2 :=
  (by decide +kernel : ∀ t : Fin grid0.N, _)

theorem idx2 : ∀ t : Fin cfg0.N, win0_2.index t 0 = t.val / 2 ∧ win0_2.index t 1 = t.val % 2 :=
  (by decide +kernel : ∀ t : Fin grid0.N, _)

theorem idx3 : ∀ t : Fin cfg0.N, win0_3.index t 0 = t.val / 2 ∧ win0_3.index t 1 = t.val % 2 :=
  (by decide +kernel : ∀ t : Fin grid0.N, _)

theorem idx4 : ∀ t : Fin cfg0.N, win0_4.index t 0 = t.val / 2 ∧ win0_4.index t 1 = t.val % 2 :=
  (by decide +kernel : ∀ t : Fin grid0.N, _)

theorem idx5 : ∀ t : Fin cfg0.N, win0_5.index t 0 = t.val / 2 ∧ win0_5.index t 1 = t.val % 2 :=
  (by decide +kernel : ∀ t : Fin grid0.N, _)

theorem idx6 : ∀ t : Fin cfg0.N, win0_6.index t 0 = 0 ∧ win0_6.index t 1 = 0 :=
  (by decide +kernel : ∀ t : Fin grid0.N, _)

theorem idx7 : ∀ t : Fin cfg0.N, win0_7.index t 0 = t.val / 2 ∧ win0_7.index t 1 = 0 :=
  (by decide +kernel : ∀ t : Fin grid0.N, _)

theorem flush6 : ∀ t : Fin cfg0.N, (cfg0.win 6).flush t = true → t.val = 15 :=
  (by decide +kernel : ∀ t : Fin grid0.N, _)

theorem flush7 : ∀ t : Fin cfg0.N, (cfg0.win 7).flush t = true → t.val % 2 = 1 :=
  (by decide +kernel : ∀ t : Fin grid0.N, _)

/-- The arguments. -/
abbrev b0 (c : Dev nD) : S4096x2048.Idx → EReal := m ((c.tc : Thread nD τ).loc main_arg0)
abbrev b1 (c : Dev nD) : S2048x2048.Idx → EReal := m ((c.tc : Thread nD τ).loc main_arg1)
abbrev b2 (c : Dev nD) : S4096x2048.Idx → EReal := m ((c.tc : Thread nD τ).loc main_arg2)
abbrev b3 (c : Dev nD) : S4096x2048.Idx → EReal := m ((c.tc : Thread nD τ).loc main_arg3)

/-- The error of the output at row r and column s. -/
def err (a0 : S4096x2048.Idx → EReal) (a1 : S2048x2048.Idx → EReal) (a2 a3 : S4096x2048.Idx → EReal) (r : Fin 4096) (s : Fin 2048) : EReal :=
  a2 (ix2 r s) + (∑ k : Fin 2048, a0 (ix2 r k) * a1 (ix2 k s)) - a3 (ix2 r s)

/-- The factor of the gradient. -/
abbrev kap : EReal := Ideal.ofBits .f32 0x3A000000#32

theorem blk_0 (c : Dev nD) (t : Fin cfg0.N) (x : Fin 512) (y : Fin 2048) (r : Fin 4096) (s : Fin 2048) (hr : r.val = 512 * (t.val / 2) + x.val) (hs : s.val = y.val) :
    (iblk m c 0 t : S512x2048.Idx → EReal) (ix2 x y) = b0 m c (ix2 r s) := by
  have e : (V m c main_arg0 : S4096x2048.Idx → EReal) = b0 m c := V_main_arg0 m c
  rw [← e]
  refine congrArg (V m c main_arg0 : S4096x2048.Idx → EReal) (funext fun a => Fin.ext ?_)
  match a with
  | ⟨0, _⟩ => exact (Pipeline.Window.rect_emb_val win0_0 t (ix2 x y) 0).trans (by rw [(idx0 t).1]; show (t.val / 2) * 512 + x.val = r.val; omega)
  | ⟨1, _⟩ => exact (Pipeline.Window.rect_emb_val win0_0 t (ix2 x y) 1).trans (by rw [(idx0 t).2]; show 0 * 2048 + y.val = s.val; omega)

theorem blk_1 (c : Dev nD) (t : Fin cfg0.N) (x : Fin 2048) (y : Fin 1024) (r : Fin 2048) (s : Fin 2048) (hr : r.val = x.val) (hs : s.val = 1024 * (t.val % 2) + y.val) :
    (iblk m c 1 t : S2048x1024.Idx → EReal) (ix2 x y) = b1 m c (ix2 r s) := by
  have e : (V m c main_arg1 : S2048x2048.Idx → EReal) = b1 m c := V_main_arg1 m c
  rw [← e]
  refine congrArg (V m c main_arg1 : S2048x2048.Idx → EReal) (funext fun a => Fin.ext ?_)
  match a with
  | ⟨0, _⟩ => exact (Pipeline.Window.rect_emb_val win0_1 t (ix2 x y) 0).trans (by rw [(idx1 t).1]; show 0 * 2048 + x.val = r.val; omega)
  | ⟨1, _⟩ => exact (Pipeline.Window.rect_emb_val win0_1 t (ix2 x y) 1).trans (by rw [(idx1 t).2]; show (t.val % 2) * 1024 + y.val = s.val; omega)

theorem blk_2 (c : Dev nD) (t : Fin cfg0.N) (x : Fin 512) (y : Fin 1024) (r : Fin 4096) (s : Fin 2048) (hr : r.val = 512 * (t.val / 2) + x.val) (hs : s.val = 1024 * (t.val % 2) + y.val) :
    (iblk m c 2 t : S512x1024.Idx → EReal) (ix2 x y) = b2 m c (ix2 r s) := by
  have e : (V m c main_arg2 : S4096x2048.Idx → EReal) = b2 m c := V_main_arg2 m c
  rw [← e]
  refine congrArg (V m c main_arg2 : S4096x2048.Idx → EReal) (funext fun a => Fin.ext ?_)
  match a with
  | ⟨0, _⟩ => exact (Pipeline.Window.rect_emb_val win0_2 t (ix2 x y) 0).trans (by rw [(idx2 t).1]; show (t.val / 2) * 512 + x.val = r.val; omega)
  | ⟨1, _⟩ => exact (Pipeline.Window.rect_emb_val win0_2 t (ix2 x y) 1).trans (by rw [(idx2 t).2]; show (t.val % 2) * 1024 + y.val = s.val; omega)

theorem blk_3 (c : Dev nD) (t : Fin cfg0.N) (x : Fin 512) (y : Fin 1024) (r : Fin 4096) (s : Fin 2048) (hr : r.val = 512 * (t.val / 2) + x.val) (hs : s.val = 1024 * (t.val % 2) + y.val) :
    (iblk m c 3 t : S512x1024.Idx → EReal) (ix2 x y) = b3 m c (ix2 r s) := by
  have e : (V m c main_arg3 : S4096x2048.Idx → EReal) = b3 m c := V_main_arg3 m c
  rw [← e]
  refine congrArg (V m c main_arg3 : S4096x2048.Idx → EReal) (funext fun a => Fin.ext ?_)
  match a with
  | ⟨0, _⟩ => exact (Pipeline.Window.rect_emb_val win0_3 t (ix2 x y) 0).trans (by rw [(idx3 t).1]; show (t.val / 2) * 512 + x.val = r.val; omega)
  | ⟨1, _⟩ => exact (Pipeline.Window.rect_emb_val win0_3 t (ix2 x y) 1).trans (by rw [(idx3 t).2]; show (t.val % 2) * 1024 + y.val = s.val; omega)

theorem emb_4 (t : Fin cfg0.N) (x : Fin 512) (y : Fin 1024) :
    (((cfg0.win 4).blk t).view.emb (ix2 x y) : S4096x2048.Idx) = ix2 ⟨512 * (t.val / 2) + x.val, by have := t.isLt; have e : cfg0.N = 16 := N0; omega⟩ ⟨1024 * (t.val % 2) + y.val, by omega⟩ := by
  refine funext fun a => Fin.ext ?_
  match a with
  | ⟨0, _⟩ => exact (Pipeline.Window.rect_emb_val win0_4 t (ix2 x y) 0).trans (by rw [(idx4 t).1]; show (t.val / 2) * 512 + x.val = 512 * (t.val / 2) + x.val; omega)
  | ⟨1, _⟩ => exact (Pipeline.Window.rect_emb_val win0_4 t (ix2 x y) 1).trans (by rw [(idx4 t).2]; show (t.val % 2) * 1024 + y.val = 1024 * (t.val % 2) + y.val; omega)

theorem emb_5 (t : Fin cfg0.N) (x : Fin 512) (y : Fin 1024) :
    (((cfg0.win 5).blk t).view.emb (ix2 x y) : S4096x2048.Idx) = ix2 ⟨512 * (t.val / 2) + x.val, by have := t.isLt; have e : cfg0.N = 16 := N0; omega⟩ ⟨1024 * (t.val % 2) + y.val, by omega⟩ := by
  refine funext fun a => Fin.ext ?_
  match a with
  | ⟨0, _⟩ => exact (Pipeline.Window.rect_emb_val win0_5 t (ix2 x y) 0).trans (by rw [(idx5 t).1]; show (t.val / 2) * 512 + x.val = 512 * (t.val / 2) + x.val; omega)
  | ⟨1, _⟩ => exact (Pipeline.Window.rect_emb_val win0_5 t (ix2 x y) 1).trans (by rw [(idx5 t).2]; show (t.val % 2) * 1024 + y.val = 1024 * (t.val % 2) + y.val; omega)

theorem emb_6 (t : Fin cfg0.N) (x : Fin 1) (y : Fin 1024) :
    (((cfg0.win 6).blk t).view.emb (ix2 x y) : S1x1024.Idx) = ix2 x y := by
  refine funext fun a => Fin.ext ?_
  match a with
  | ⟨0, _⟩ => exact (Pipeline.Window.rect_emb_val win0_6 t (ix2 x y) 0).trans (by rw [(idx6 t).1]; show 0 * 1 + x.val = x.val; omega)
  | ⟨1, _⟩ => exact (Pipeline.Window.rect_emb_val win0_6 t (ix2 x y) 1).trans (by rw [(idx6 t).2]; show 0 * 1024 + y.val = y.val; omega)

theorem emb_7 (t : Fin cfg0.N) (x : Fin 512) (y : Fin 2048) :
    (((cfg0.win 7).blk t).view.emb (ix2 x y) : S4096x2048.Idx) = ix2 ⟨512 * (t.val / 2) + x.val, by have := t.isLt; have e : cfg0.N = 16 := N0; omega⟩ y := by
  refine funext fun a => Fin.ext ?_
  match a with
  | ⟨0, _⟩ => exact (Pipeline.Window.rect_emb_val win0_7 t (ix2 x y) 0).trans (by rw [(idx7 t).1]; show (t.val / 2) * 512 + x.val = 512 * (t.val / 2) + x.val; omega)
  | ⟨1, _⟩ => exact (Pipeline.Window.rect_emb_val win0_7 t (ix2 x y) 1).trans (by rw [(idx7 t).2]; show 0 * 2048 + y.val = y.val; omega)

/-! What each case leaves in the accumulated results' buffers, over the blocks it reads. -/

theorem case_A_6 (c : Dev nD) (t : Fin cfg0.N) (h0 : t.val % 16 = 0) :
    (outsAt0 m c t.val t.isLt).2.2.1 = k0_pay5 (iblk m c 1 t) (iblk m c 2 t) (iblk m c 0 t) (iblk m c 3 t) (k0_pay2 (F := Ideal)) := by
  rw [outsAt0_A m c t h0 (by omega)]
  dsimp only
  unfold out0_A_6
  rw [View.read_writes_eq_canon _ _ _ (fun y => cover0_A_6 (y := y) ..)]
  unfold kernelRun0_A
  dsimp only
  sl_unfold_words
  rw [View.canon_cons_unit_zero hz, View.readCov_unit_zero (S := S1x1024) _ hz]
  simp only [View.readAt_eq_ld, (hs0_0 t).read_unread, (hs0_1 t).read_unread, (hs0_2 t).read_unread, (hs0_3 t).read_unread, View.ld_unit_zero (S := S2048x1024) hz, View.ld_unit_zero (S := S512x1024) hz, View.ld_unit_zero (S := S512x2048) hz]

theorem case_B_6 (c : Dev nD) (t : Fin cfg0.N) (h0 : ¬t.val % 16 = 0) (h1 : ¬t.val % 2 = 0) :
    (outsAt0 m c t.val t.isLt).2.2.1 = k0_pay5 (iblk m c 1 t) (iblk m c 2 t) (iblk m c 0 t) (iblk m c 3 t) (outsAt0 m c (t.val - 1) (Nat.lt_of_le_of_lt (Nat.sub_le _ _) t.isLt)).2.2.1 := by
  rw [outsAt0_B m c t h0 h1]
  dsimp only
  unfold out0_B_6
  rw [View.read_writes_eq_canon _ _ _ (fun y => cover0_B_6 (y := y) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_6 t).read_unread, View.ld_unit_zero (S := S1x1024) hz, View.ld_unit_zero (S := S2048x1024) hz, View.ld_unit_zero (S := S512x1024) hz, View.ld_unit_zero (S := S512x2048) hz]

theorem case_C_6 (c : Dev nD) (t : Fin cfg0.N) (h0 : ¬t.val % 16 = 0) (h1 : t.val % 2 = 0) :
    (outsAt0 m c t.val t.isLt).2.2.1 = k0_pay5 (iblk m c 1 t) (iblk m c 2 t) (iblk m c 0 t) (iblk m c 3 t) (outsAt0 m c (t.val - 1) (Nat.lt_of_le_of_lt (Nat.sub_le _ _) t.isLt)).2.2.1 := by
  rw [outsAt0_C m c t h0 h1]
  dsimp only
  unfold out0_C_6
  rw [View.read_writes_eq_canon _ _ _ (fun y => cover0_C_6 (y := y) ..)]
  unfold kernelRun0_C
  dsimp only
  sl_unfold_words
  rw [View.canon_unit_zero hz]
  simp only [View.readAt_eq_ld, (hs0_0 t).read_unread, (hs0_1 t).read_unread, (hs0_2 t).read_unread, (hs0_3 t).read_unread, (hs0_6 t).read_unread, View.ld_unit_zero (S := S1x1024) hz, View.ld_unit_zero (S := S2048x1024) hz, View.ld_unit_zero (S := S512x1024) hz, View.ld_unit_zero (S := S512x2048) hz]

theorem case_A_7 (c : Dev nD) (t : Fin cfg0.N) (h0 : t.val % 16 = 0) :
    (outsAt0 m c t.val t.isLt).2.2.2 = k0_pay1 (iblk m c 1 t) (k0_pay7 (iblk m c 1 t) (iblk m c 2 t) (iblk m c 0 t) (iblk m c 3 t)) (k0_pay3 (F := Ideal)) := by
  rw [outsAt0_A m c t h0 (by omega)]
  dsimp only
  unfold out0_A_7
  rw [View.read_writes_eq_canon _ _ _ (fun y => cover0_A_7 (y := y) ..)]
  unfold kernelRun0_A
  dsimp only
  sl_unfold_words
  rw [View.canon_cons_unit_zero hz, View.readCov_unit_zero (S := S512x2048) _ hz]
  simp only [View.readAt_eq_ld, (hs0_0 t).read_unread, (hs0_1 t).read_unread, (hs0_2 t).read_unread, (hs0_3 t).read_unread, View.ld_unit_zero (S := S2048x1024) hz, View.ld_unit_zero (S := S512x1024) hz, View.ld_unit_zero (S := S512x2048) hz]

theorem case_B_7 (c : Dev nD) (t : Fin cfg0.N) (h0 : ¬t.val % 16 = 0) (h1 : ¬t.val % 2 = 0) :
    (outsAt0 m c t.val t.isLt).2.2.2 = k0_pay1 (iblk m c 1 t) (k0_pay7 (iblk m c 1 t) (iblk m c 2 t) (iblk m c 0 t) (iblk m c 3 t)) (outsAt0 m c (t.val - 1) (Nat.lt_of_le_of_lt (Nat.sub_le _ _) t.isLt)).2.2.2 := by
  rw [outsAt0_B m c t h0 h1]
  dsimp only
  unfold out0_B_7
  rw [View.read_writes_eq_canon _ _ _ (fun y => cover0_B_7 (y := y) ..)]
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_7 t).read_unread, View.ld_unit_zero (S := S2048x1024) hz, View.ld_unit_zero (S := S512x1024) hz, View.ld_unit_zero (S := S512x2048) hz]

theorem case_C_7 (c : Dev nD) (t : Fin cfg0.N) (h0 : ¬t.val % 16 = 0) (h1 : t.val % 2 = 0) :
    (outsAt0 m c t.val t.isLt).2.2.2 = k0_pay1 (iblk m c 1 t) (k0_pay7 (iblk m c 1 t) (iblk m c 2 t) (iblk m c 0 t) (iblk m c 3 t)) (k0_pay3 (F := Ideal)) := by
  rw [outsAt0_C m c t h0 h1]
  dsimp only
  unfold out0_C_7
  rw [View.read_writes_eq_canon _ _ _ (fun y => cover0_C_7 (y := y) ..)]
  unfold kernelRun0_C
  dsimp only
  sl_unfold_words
  rw [View.canon_cons_unit_zero hz, View.readCov_unit_zero (S := S512x2048) _ hz]
  simp only [View.readAt_eq_ld, (hs0_0 t).read_unread, (hs0_1 t).read_unread, (hs0_2 t).read_unread, (hs0_3 t).read_unread, View.ld_unit_zero (S := S2048x1024) hz, View.ld_unit_zero (S := S512x1024) hz, View.ld_unit_zero (S := S512x2048) hz]

/-! An entry of what is stored. -/

theorem pay_4 (x1 : Vec Ideal S2048x1024 .bf16) (x2 : Vec Ideal S512x1024 .f32) (x0 : Vec Ideal S512x2048 .bf16) (x3 : Vec Ideal S512x1024 .f32) (x : Fin 512) (y : Fin 1024) :
    (k0_pay4 x1 x2 x0 x3 : S512x1024.Idx → EReal) (ix2 x y)
      = (x2 : S512x1024.Idx → EReal) (ix2 x y) + (∑ k : Fin 2048, (x0 : S512x2048.Idx → EReal) (ix2 x k) * (x1 : S2048x1024.Idx → EReal) (ix2 k y)) - (x3 : S512x1024.Idx → EReal) (ix2 x y) := by
  unfold k0_pay4
  pointwise

theorem pay_6 (x1 : Vec Ideal S2048x1024 .bf16) (x2 : Vec Ideal S512x1024 .f32) (x0 : Vec Ideal S512x2048 .bf16) (x3 : Vec Ideal S512x1024 .f32) (x : Fin 512) (y : Fin 1024) :
    (k0_pay6 x1 x2 x0 x3 : S512x1024.Idx → EReal) (ix2 x y) = (k0_pay4 x1 x2 x0 x3 : S512x1024.Idx → EReal) (ix2 x y) * kap := rfl

theorem pay_7 (x1 : Vec Ideal S2048x1024 .bf16) (x2 : Vec Ideal S512x1024 .f32) (x0 : Vec Ideal S512x2048 .bf16) (x3 : Vec Ideal S512x1024 .f32) (x : Fin 512) (y : Fin 1024) :
    (k0_pay7 x1 x2 x0 x3 : S512x1024.Idx → EReal) (ix2 x y) = (k0_pay4 x1 x2 x0 x3 : S512x1024.Idx → EReal) (ix2 x y) * kap := rfl

theorem pay_2 (x : Fin 1) (y : Fin 1024) : (k0_pay2 (F := Ideal) : S1x1024.Idx → EReal) (ix2 x y) = 0 := by
  unfold k0_pay2
  pointwise

theorem pay_3 (x : Fin 512) (y : Fin 2048) : (k0_pay3 (F := Ideal) : S512x2048.Idx → EReal) (ix2 x y) = 0 := by
  unfold k0_pay3
  pointwise

theorem pay_1 (x1 : Vec Ideal S2048x1024 .bf16) (d : FVec Ideal S512x1024 .bf16) (a : Vec Ideal S512x2048 .f32) (x : Fin 512) (y : Fin 2048) :
    (k0_pay1 x1 d a : S512x2048.Idx → EReal) (ix2 x y)
      = (a : S512x2048.Idx → EReal) (ix2 x y) + ∑ k : Fin 1024, (d : S512x1024.Idx → EReal) (ix2 x k) * (x1 : S2048x1024.Idx → EReal) (ix2 y k) := by
  unfold k0_pay1
  pointwise

theorem pay_5 (x1 : Vec Ideal S2048x1024 .bf16) (x2 : Vec Ideal S512x1024 .f32) (x0 : Vec Ideal S512x2048 .bf16) (x3 : Vec Ideal S512x1024 .f32) (a : Vec Ideal S1x1024 .f32) (y : Fin 1024) :
    (k0_pay5 x1 x2 x0 x3 a : S1x1024.Idx → EReal) (ix2 (0 : Fin 1) y)
      = (a : S1x1024.Idx → EReal) (ix2 (0 : Fin 1) y) + ∑ x : Fin 512, (k0_pay4 x1 x2 x0 x3 : S512x1024.Idx → EReal) (ix2 x y) * (k0_pay4 x1 x2 x0 x3 : S512x1024.Idx → EReal) (ix2 x y) := by
  unfold k0_pay5
  generalize k0_pay4 x1 x2 x0 x3 = z
  pointwise

/-- The error at an entry of a point's block. -/
theorem err_blk (c : Dev nD) (t : Fin cfg0.N) (x : Fin 512) (y : Fin 1024) (r : Fin 4096) (s : Fin 2048) (hr : r.val = 512 * (t.val / 2) + x.val) (hs : s.val = 1024 * (t.val % 2) + y.val) :
    (k0_pay4 (iblk m c 1 t) (iblk m c 2 t) (iblk m c 0 t) (iblk m c 3 t) : S512x1024.Idx → EReal) (ix2 x y) = err (b0 m c) (b1 m c) (b2 m c) (b3 m c) r s := by
  rw [pay_4, blk_2 m c t x y r s hr hs, blk_3 m c t x y r s hr hs]
  unfold err
  refine congrArg₂ (· - ·) (congrArg₂ (· + ·) rfl ?_) rfl
  exact Finset.sum_congr rfl fun k _ => congrArg₂ (· * ·) (blk_0 m c t x k r k hr rfl) (blk_1 m c t k y k s rfl hs)

/-! The first two results: the gradient by the output, in both types. -/

abbrev dout (c : Dev nD) : S4096x2048.Idx → EReal := fun i => err (b0 m c) (b1 m c) (b2 m c) (b3 m c) (i 0) (i 1) * kap

/-- The first two results' blocks after a point. -/
theorem outs_45 (c : Dev nD) (t : Fin cfg0.N) :
    (outsAt0 m c t.val t.isLt).1 = k0_pay6 (iblk m c 1 t) (iblk m c 2 t) (iblk m c 0 t) (iblk m c 3 t)
    ∧ (outsAt0 m c t.val t.isLt).2.1 = k0_pay7 (iblk m c 1 t) (iblk m c 2 t) (iblk m c 0 t) (iblk m c 3 t) := by
  by_cases h0 : t.val % 16 = 0
  · rw [outsAt0_A m c t h0 (by omega)]
    dsimp only
    refine ⟨?_, ?_⟩
    · unfold out0_A_4
      rw [View.read_writes_eq_canon _ _ _ (fun y => cover0_A_4 (y := y) ..)]
      unfold kernelRun0_A
      dsimp only
      sl_unfold_words
      rw [View.canon_unit_zero hz]
      simp only [View.readAt_eq_ld, (hs0_0 t).read_unread, (hs0_1 t).read_unread, (hs0_2 t).read_unread, (hs0_3 t).read_unread, View.ld_unit_zero (S := S2048x1024) hz, View.ld_unit_zero (S := S512x1024) hz, View.ld_unit_zero (S := S512x2048) hz]
    · unfold out0_A_5
      rw [View.read_writes_eq_canon _ _ _ (fun y => cover0_A_5 (y := y) ..)]
      unfold kernelRun0_A
      dsimp only
      sl_unfold_words
      rw [View.canon_unit_zero hz]
      simp only [View.readAt_eq_ld, (hs0_0 t).read_unread, (hs0_1 t).read_unread, (hs0_2 t).read_unread, (hs0_3 t).read_unread, View.ld_unit_zero (S := S2048x1024) hz, View.ld_unit_zero (S := S512x1024) hz, View.ld_unit_zero (S := S512x2048) hz]
  · by_cases h1 : t.val % 2 = 0
    · rw [outsAt0_C m c t h0 h1]
      dsimp only
      refine ⟨?_, ?_⟩
      · unfold out0_C_4
        rw [View.read_writes_eq_canon _ _ _ (fun y => cover0_C_4 (y := y) ..)]
        unfold kernelRun0_C
        dsimp only
        sl_unfold_words
        rw [View.canon_unit_zero hz]
        simp only [View.readAt_eq_ld, (hs0_0 t).read_unread, (hs0_1 t).read_unread, (hs0_2 t).read_unread, (hs0_3 t).read_unread, View.ld_unit_zero (S := S2048x1024) hz, View.ld_unit_zero (S := S512x1024) hz, View.ld_unit_zero (S := S512x2048) hz]
      · unfold out0_C_5
        rw [View.read_writes_eq_canon _ _ _ (fun y => cover0_C_5 (y := y) ..)]
        unfold kernelRun0_C
        dsimp only
        sl_unfold_words
        rw [View.canon_unit_zero hz]
        simp only [View.readAt_eq_ld, (hs0_0 t).read_unread, (hs0_1 t).read_unread, (hs0_2 t).read_unread, (hs0_3 t).read_unread, View.ld_unit_zero (S := S2048x1024) hz, View.ld_unit_zero (S := S512x1024) hz, View.ld_unit_zero (S := S512x2048) hz]
    · rw [outsAt0_B m c t h0 h1]
      dsimp only
      refine ⟨?_, ?_⟩
      · unfold out0_B_4
        rw [View.read_writes_eq_canon _ _ _ (fun y => cover0_B_4 (y := y) ..)]
        unfold kernelRun0_B
        dsimp only
        sl_unfold_words
        rw [View.canon_unit_zero hz]
        simp only [View.readAt_eq_ld, (hs0_0 t).read_unread, (hs0_1 t).read_unread, (hs0_2 t).read_unread, (hs0_3 t).read_unread, View.ld_unit_zero (S := S2048x1024) hz, View.ld_unit_zero (S := S512x1024) hz, View.ld_unit_zero (S := S512x2048) hz]
      · unfold out0_B_5
        rw [View.read_writes_eq_canon _ _ _ (fun y => cover0_B_5 (y := y) ..)]
        unfold kernelRun0_B
        dsimp only
        sl_unfold_words
        rw [View.canon_unit_zero hz]
        simp only [View.readAt_eq_ld, (hs0_0 t).read_unread, (hs0_1 t).read_unread, (hs0_2 t).read_unread, (hs0_3 t).read_unread, View.ld_unit_zero (S := S2048x1024) hz, View.ld_unit_zero (S := S512x1024) hz, View.ld_unit_zero (S := S512x2048) hz]

theorem arr_4 (c : Dev nD) : (dats m 0 c).arrAt 4 cfg0.N = dout m c := by
  refine (dats m 0 c).arrAt_eq_of_covers 4 _ (by decide +kernel) fun t hf j => ?_
  obtain ⟨x, y, rfl⟩ : ∃ (x : Fin 512) (z : Fin 1024), j = ix2 x z := ⟨j 0, j 1, eq_ix2 j⟩
  rw [emb_4, after0_4, (outs_45 m c t).1]
  exact (pay_6 _ _ _ _ x y).trans (congrArg (· * kap) (err_blk m c t x y _ _ rfl rfl))

theorem arr_5 (c : Dev nD) : (dats m 0 c).arrAt 5 cfg0.N = dout m c := by
  refine (dats m 0 c).arrAt_eq_of_covers 5 _ (by decide +kernel) fun t hf j => ?_
  obtain ⟨x, y, rfl⟩ : ∃ (x : Fin 512) (z : Fin 1024), j = ix2 x z := ⟨j 0, j 1, eq_ix2 j⟩
  rw [emb_5, after0_5, (outs_45 m c t).2]
  exact (pay_7 _ _ _ _ x y).trans (congrArg (· * kap) (err_blk m c t x y _ _ rfl rfl))

/-! The third result: the squares, summed over the rows. -/

/-- The square of the error; zero past the ends. -/
def sqd (c : Dev nD) (r s : ℕ) : EReal :=
  if h : r < 4096 ∧ s < 2048 then err (b0 m c) (b1 m c) (b2 m c) (b3 m c) ⟨r, h.1⟩ ⟨s, h.2⟩ * err (b0 m c) (b1 m c) (b2 m c) (b3 m c) ⟨r, h.1⟩ ⟨s, h.2⟩ else 0

theorem sqd_eq (c : Dev nD) (r s : ℕ) (hr : r < 4096) (hs : s < 2048) :
    sqd m c r s = err (b0 m c) (b1 m c) (b2 m c) (b3 m c) ⟨r, hr⟩ ⟨s, hs⟩ * err (b0 m c) (b1 m c) (b2 m c) (b3 m c) ⟨r, hr⟩ ⟨s, hs⟩ := dif_pos ⟨hr, hs⟩

/-- What one point adds. -/
def part (c : Dev nD) (z : ℕ) (n : ℕ) : EReal := ∑ x ∈ Finset.range 512, sqd m c (512 * (n / 2) + x) (1024 * (n % 2) + z)

theorem part_blk (c : Dev nD) (t : Fin cfg0.N) (y : Fin 1024) :
    ∑ x : Fin 512, (k0_pay4 (iblk m c 1 t) (iblk m c 2 t) (iblk m c 0 t) (iblk m c 3 t) : S512x1024.Idx → EReal) (ix2 x y) * (k0_pay4 (iblk m c 1 t) (iblk m c 2 t) (iblk m c 0 t) (iblk m c 3 t) : S512x1024.Idx → EReal) (ix2 x y)
      = part m c y.val t.val := by
  unfold part
  rw [Finset.sum_range]
  refine Finset.sum_congr rfl fun x _ => ?_
  have ht : t.val < 16 := by have := t.isLt; have e : cfg0.N = 16 := N0; omega
  rw [sqd_eq m c _ _ (by omega) (by omega), err_blk m c t x y ⟨512 * (t.val / 2) + x.val, by omega⟩ ⟨1024 * (t.val % 2) + y.val, by omega⟩ rfl rfl]

theorem acc6 (c : Dev nD) : ∀ (n : ℕ) (hn : n < cfg0.N) (y : Fin 1024),
    ((outsAt0 m c n hn).2.2.1 : S1x1024.Idx → EReal) (ix2 (0 : Fin 1) y) = ∑ i ∈ Finset.range (n + 1), part m c y.val i := by
  intro n
  induction n using Nat.strong_induction_on with
  | _ n ih =>
    intro hn y
    have hN : cfg0.N = 16 := N0
    by_cases h0 : n % 16 = 0
    · have hz0 : n = 0 := by omega
      rw [show (outsAt0 m c n hn).2.2.1 = _ from case_A_6 m c ⟨n, hn⟩ h0, pay_5, pay_2, part_blk m c ⟨n, hn⟩ y, zero_add]
      subst hz0
      simp
    · have hp := ih (n - 1) (by omega) (Nat.lt_of_le_of_lt (Nat.sub_le _ _) hn) y
      rw [Nat.sub_add_cancel (by omega)] at hp
      by_cases h1 : n % 2 = 0
      · rw [show (outsAt0 m c n hn).2.2.1 = _ from case_C_6 m c ⟨n, hn⟩ h0 h1, pay_5, part_blk m c ⟨n, hn⟩ y, show ((outsAt0 m c (n - 1) _).2.2.1 : S1x1024.Idx → EReal) (ix2 (0 : Fin 1) y) = _ from hp, Finset.sum_range_succ]
      · rw [show (outsAt0 m c n hn).2.2.1 = _ from case_B_6 m c ⟨n, hn⟩ h0 h1, pay_5, part_blk m c ⟨n, hn⟩ y, show ((outsAt0 m c (n - 1) _).2.2.1 : S1x1024.Idx → EReal) (ix2 (0 : Fin 1) y) = _ from hp, Finset.sum_range_succ]

theorem pairs (f : ℕ → EReal) (n : ℕ) : ∑ t ∈ Finset.range (2 * n), f t = ∑ i ∈ Finset.range n, f (2 * i) + ∑ i ∈ Finset.range n, f (2 * i + 1) := by
  induction n with
  | zero => simp
  | succ n ih => rw [Nat.mul_succ, Finset.sum_range_succ, Finset.sum_range_succ, ih, Finset.sum_range_succ, Finset.sum_range_succ, add_assoc, add_add_add_comm]

theorem rows (g : ℕ → EReal) (n : ℕ) : ∑ i ∈ Finset.range n, ∑ x ∈ Finset.range 512, g (512 * i + x) = ∑ r ∈ Finset.range (512 * n), g r := by
  induction n with
  | zero => simp
  | succ n ih => rw [Finset.sum_range_succ, ih, Nat.mul_succ, ← Finset.sum_range_add]

/-- The squares of two columns 1024 apart. -/
abbrev sqs (c : Dev nD) : S1x1024.Idx → EReal := fun i =>
  (∑ r : Fin 4096, err (b0 m c) (b1 m c) (b2 m c) (b3 m c) r ⟨(i 1).val, by have : (i 1).val < 1024 := (i 1).isLt; omega⟩ * err (b0 m c) (b1 m c) (b2 m c) (b3 m c) r ⟨(i 1).val, by have : (i 1).val < 1024 := (i 1).isLt; omega⟩)
    + ∑ r : Fin 4096, err (b0 m c) (b1 m c) (b2 m c) (b3 m c) r ⟨1024 + (i 1).val, by have : (i 1).val < 1024 := (i 1).isLt; omega⟩ * err (b0 m c) (b1 m c) (b2 m c) (b3 m c) r ⟨1024 + (i 1).val, by have : (i 1).val < 1024 := (i 1).isLt; omega⟩

theorem arr_6 (c : Dev nD) : (dats m 0 c).arrAt 6 cfg0.N = sqs m c := by
  refine (dats m 0 c).arrAt_eq_of_covers 6 _ (by decide +kernel) fun t hf j => ?_
  obtain ⟨x, y, rfl⟩ : ∃ (x : Fin 1) (z : Fin 1024), j = ix2 x z := ⟨j 0, j 1, eq_ix2 j⟩
  obtain rfl : x = 0 := Subsingleton.elim _ _
  have h15 := flush6 t hf
  rw [emb_6, after0_6]
  refine (acc6 m c t.val t.isLt y).trans ?_
  rw [h15, show 15 + 1 = 2 * 8 from rfl, pairs]
  refine congrArg₂ (· + ·) ?_ ?_
  · refine Eq.trans (b := ∑ i ∈ Finset.range 8, ∑ x ∈ Finset.range 512, (fun r => sqd m c r y.val) (512 * i + x)) (Finset.sum_congr rfl fun i _ => ?_) ?_
    · unfold part
      rw [show 2 * i / 2 = i by omega, show 2 * i % 2 = 0 by omega, Nat.mul_zero, Nat.zero_add]
    · refine (rows (fun r => sqd m c r y.val) 8).trans ?_
      rw [Finset.sum_range]
      exact Finset.sum_congr rfl fun r _ => sqd_eq m c _ _ r.isLt _
  · refine Eq.trans (b := ∑ i ∈ Finset.range 8, ∑ x ∈ Finset.range 512, (fun r => sqd m c r (1024 + y.val)) (512 * i + x)) (Finset.sum_congr rfl fun i _ => ?_) ?_
    · unfold part
      rw [show (2 * i + 1) / 2 = i by omega, show (2 * i + 1) % 2 = 1 by omega, Nat.mul_one]
    · refine (rows (fun r => sqd m c r (1024 + y.val)) 8).trans ?_
      rw [Finset.sum_range]
      exact Finset.sum_congr rfl fun r _ => sqd_eq m c _ _ r.isLt _

/-! The fourth result: the gradient by y. -/

/-- One term of an entry of the gradient by y; zero past the end. -/
def term (c : Dev nD) (r : Fin 4096) (s : Fin 2048) (i : ℕ) : EReal :=
  if h : i < 2048 then dout m c (ix2 r ⟨i, h⟩) * b1 m c (ix2 s ⟨i, h⟩) else 0

theorem term_eq (c : Dev nD) (r : Fin 4096) (s : Fin 2048) (i : ℕ) (h : i < 2048) : term m c r s i = dout m c (ix2 r ⟨i, h⟩) * b1 m c (ix2 s ⟨i, h⟩) := dif_pos h

theorem term_blk (c : Dev nD) (t : Fin cfg0.N) (x : Fin 512) (y : Fin 2048) (r : Fin 4096) (hr : r.val = 512 * (t.val / 2) + x.val) :
    ∑ k : Fin 1024, (k0_pay7 (iblk m c 1 t) (iblk m c 2 t) (iblk m c 0 t) (iblk m c 3 t) : S512x1024.Idx → EReal) (ix2 x k) * (iblk m c 1 t : S2048x1024.Idx → EReal) (ix2 y k)
      = ∑ i ∈ Finset.range 1024, term m c r y (1024 * (t.val % 2) + i) := by
  rw [Finset.sum_range]
  refine Finset.sum_congr rfl fun k _ => ?_
  rw [term_eq m c r y _ (by omega)]
  exact congrArg₂ (· * ·) ((pay_7 _ _ _ _ x k).trans (congrArg (· * kap) (err_blk m c t x k r _ hr rfl))) (blk_1 m c t y k y _ rfl rfl)

theorem acc7 (c : Dev nD) : ∀ (n : ℕ) (hn : n < cfg0.N) (x : Fin 512) (y : Fin 2048) (r : Fin 4096), r.val = 512 * (n / 2) + x.val →
    ((outsAt0 m c n hn).2.2.2 : S512x2048.Idx → EReal) (ix2 x y) = ∑ i ∈ Finset.range (1024 * (n % 2 + 1)), term m c r y i := by
  intro n
  induction n using Nat.strong_induction_on with
  | _ n ih =>
    intro hn x y r hr
    by_cases h0 : n % 16 = 0
    · have h1 : n % 2 = 0 := by omega
      rw [show (outsAt0 m c n hn).2.2.2 = _ from case_A_7 m c ⟨n, hn⟩ h0, pay_1, pay_3, term_blk m c ⟨n, hn⟩ x y r hr, zero_add]
      dsimp only
      rw [h1]
      simp only [Nat.mul_zero, Nat.zero_add, Nat.mul_one]
    · by_cases h1 : n % 2 = 0
      · rw [show (outsAt0 m c n hn).2.2.2 = _ from case_C_7 m c ⟨n, hn⟩ h0 h1, pay_1, pay_3, term_blk m c ⟨n, hn⟩ x y r hr, zero_add]
        dsimp only
        rw [h1]
        simp only [Nat.mul_zero, Nat.zero_add, Nat.mul_one]
      · have hp := ih (n - 1) (by omega) (Nat.lt_of_le_of_lt (Nat.sub_le _ _) hn) x y r (by omega)
        have h1' : n % 2 = 1 := by omega
        rw [show (n - 1) % 2 = 0 by omega] at hp
        rw [show (outsAt0 m c n hn).2.2.2 = _ from case_B_7 m c ⟨n, hn⟩ h0 h1, pay_1, term_blk m c ⟨n, hn⟩ x y r hr, show ((outsAt0 m c (n - 1) _).2.2.2 : S512x2048.Idx → EReal) (ix2 x y) = _ from hp]
        dsimp only
        rw [h1', ← Finset.sum_range_add]

abbrev dy (c : Dev nD) : S4096x2048.Idx → EReal := fun i => ∑ k : Fin 2048, dout m c (ix2 (i 0) k) * b1 m c (ix2 (i 1) k)

theorem arr_7 (c : Dev nD) : (dats m 0 c).arrAt 7 cfg0.N = dy m c := by
  refine (dats m 0 c).arrAt_eq_of_covers 7 _ (by decide +kernel) fun t hf j => ?_
  obtain ⟨x, y, rfl⟩ : ∃ (x : Fin 512) (z : Fin 2048), j = ix2 x z := ⟨j 0, j 1, eq_ix2 j⟩
  have h1 := flush7 t hf
  rw [emb_7, after0_7]
  refine (acc7 m c t.val t.isLt x y ⟨512 * (t.val / 2) + x.val, by have := t.isLt; have e : cfg0.N = 16 := N0; omega⟩ rfl).trans ?_
  rw [h1, show 1024 * (1 + 1) = 2048 from rfl, Finset.sum_range]
  exact Finset.sum_congr rfl fun k _ => term_eq m c _ _ _ k.isLt

/-! The reference's results. -/

theorem w_half : Ideal.ofBits .f32 0x3F000000#32 = ((1 / 2 : ℝ) : EReal) := by simp [Ideal.ofBits, Ideal.ieee, -EReal.coe_mul]; norm_num
theorem w_one : Ideal.ofBits .f32 0x3F800000#32 = ((1 : ℝ) : EReal) := by simp [Ideal.ofBits, Ideal.ieee, -EReal.coe_mul]; norm_num
theorem w_two : Ideal.ofBits .f32 0x40000000#32 = ((2 : ℝ) : EReal) := by simp [Ideal.ofBits, Ideal.ieee, -EReal.coe_mul]; norm_num
theorem w_2048 : Ideal.ofBits .f32 0x45000000#32 = ((2048 : ℝ) : EReal) := by simp [Ideal.ofBits, Ideal.ieee, -EReal.coe_mul]; norm_num
theorem w_kap : kap = ((1 / 2048 : ℝ) : EReal) := by unfold kap; simp [Ideal.ofBits, Ideal.ieee, -EReal.coe_mul]; norm_num

/-- The reference's factors, together. -/
theorem factors (d : EReal) :
    Ideal.div (Ideal.ofBits .f32 0x3F000000#32 * Ideal.ofBits .f32 0x3F800000#32) (Ideal.ofBits .f32 0x45000000#32) * (Ideal.ofBits .f32 0x40000000#32 * d) = d * kap := by
  rw [w_half, w_one, w_two, w_2048, w_kap, Ideal.div_coe (by norm_num), ← mul_assoc, ← EReal.coe_mul, ← EReal.coe_mul, ← EReal.coe_mul, mul_comm d]
  norm_num

/-- The reference's first result. -/
abbrev rd (a0 : FVec Ideal S4096x2048 .bf16) (a1 : FVec Ideal S2048x2048 .bf16) (a2 a3 : FVec Ideal S4096x2048 .f32) : FVec Ideal S4096x2048 .f32 :=
  mulf (broadcastInDim Cert.Reference6Ideal.S4096x2048 ![0] Cert.Reference6Ideal.Gen.bcast_S4096_S4096x2048_0 (Host.divf (broadcastInDim Cert.Reference6Ideal.S4096 ![] Cert.Reference6Ideal.Gen.bcast_S_S4096 (mulf (constant Cert.Reference6Ideal.S_ .f32 0x3F000000#32) (constant Cert.Reference6Ideal.S_ .f32 0x3F800000#32))) (broadcastInDim Cert.Reference6Ideal.S4096 ![] Cert.Reference6Ideal.Gen.bcast_S_S4096 (constant Cert.Reference6Ideal.S_ .f32 0x45000000#32)))) (mulf (broadcastInDim Cert.Reference6Ideal.S4096x2048 ![] Cert.Reference6Ideal.Gen.bcast_S_S4096x2048 (constant Cert.Reference6Ideal.S_ .f32 0x40000000#32)) (subf (addf a2 (Host.dotGeneral Cert.Reference6Ideal.dot_S4096x2048_S2048x2048_S4096x2048_1_0_0_1_n_n none (extf .f32 a0 Cert.Reference6Ideal.Gen.bitsLt_bf16_f32) (extf .f32 a1 Cert.Reference6Ideal.Gen.bitsLt_bf16_f32))) a3))

theorem rd_at (a0 : FVec Ideal S4096x2048 .bf16) (a1 : FVec Ideal S2048x2048 .bf16) (a2 a3 : FVec Ideal S4096x2048 .f32) (r : Fin 4096) (s : Fin 2048) : (rd a0 a1 a2 a3 : S4096x2048.Idx → EReal) (ix2 r s) = err a0 a1 a2 a3 r s * kap := by
  refine Eq.trans (b := Ideal.div (Ideal.ofBits .f32 0x3F000000#32 * Ideal.ofBits .f32 0x3F800000#32) (Ideal.ofBits .f32 0x45000000#32) * (Ideal.ofBits .f32 0x40000000#32 * err a0 a1 a2 a3 r s)) ?_ (factors _)
  unfold rd err
  pointwise

theorem rb_at (a0 : FVec Ideal S4096x2048 .bf16) (a1 : FVec Ideal S2048x2048 .bf16) (a2 a3 : FVec Ideal S4096x2048 .f32) (i : S4096x2048.Idx) : (truncf .bf16 (rd a0 a1 a2 a3) Cert.Reference6Ideal.Gen.bitsLt_bf16_f32 : S4096x2048.Idx → EReal) i = (rd a0 a1 a2 a3 : S4096x2048.Idx → EReal) i := rfl

/-- The reference's error. -/
theorem rs_at (a0 : FVec Ideal S4096x2048 .bf16) (a1 : FVec Ideal S2048x2048 .bf16) (a2 a3 : FVec Ideal S4096x2048 .f32) (y : Fin 1024) :
    (shapeCast S1x1024 (addf (extractStridedSlice Cert.Reference6Ideal.S1024 ![0] (Host.reduceAdd (mulf (subf (addf a2 (Host.dotGeneral Cert.Reference6Ideal.dot_S4096x2048_S2048x2048_S4096x2048_1_0_0_1_n_n none (extf .f32 a0 Cert.Reference6Ideal.Gen.bitsLt_bf16_f32) (extf .f32 a1 Cert.Reference6Ideal.Gen.bitsLt_bf16_f32))) a3) (subf (addf a2 (Host.dotGeneral Cert.Reference6Ideal.dot_S4096x2048_S2048x2048_S4096x2048_1_0_0_1_n_n none (extf .f32 a0 Cert.Reference6Ideal.Gen.bitsLt_bf16_f32) (extf .f32 a1 Cert.Reference6Ideal.Gen.bitsLt_bf16_f32))) a3)) (constant Cert.Reference6Ideal.S_ .f32 0x00000000#32) Cert.Reference6Ideal.Gen.reducesTo_S4096x2048_S2048_d0 Cert.Reference6Ideal.Gen.h_S_) Cert.Reference6Ideal.Gen.slices_S2048_S1024_0) (extractStridedSlice Cert.Reference6Ideal.S1024 ![1024] (Host.reduceAdd (mulf (subf (addf a2 (Host.dotGeneral Cert.Reference6Ideal.dot_S4096x2048_S2048x2048_S4096x2048_1_0_0_1_n_n none (extf .f32 a0 Cert.Reference6Ideal.Gen.bitsLt_bf16_f32) (extf .f32 a1 Cert.Reference6Ideal.Gen.bitsLt_bf16_f32))) a3) (subf (addf a2 (Host.dotGeneral Cert.Reference6Ideal.dot_S4096x2048_S2048x2048_S4096x2048_1_0_0_1_n_n none (extf .f32 a0 Cert.Reference6Ideal.Gen.bitsLt_bf16_f32) (extf .f32 a1 Cert.Reference6Ideal.Gen.bitsLt_bf16_f32))) a3)) (constant Cert.Reference6Ideal.S_ .f32 0x00000000#32) Cert.Reference6Ideal.Gen.reducesTo_S4096x2048_S2048_d0 Cert.Reference6Ideal.Gen.h_S_) Cert.Reference6Ideal.Gen.slices_S2048_S1024_1024)) Cert.Reference6Ideal.Gen.shapeCasts_S1024_S1x1024 : S1x1024.Idx → EReal) (ix2 (0 : Fin 1) y)
      = (∑ r : Fin 4096, err a0 a1 a2 a3 r ⟨y.val, by omega⟩ * err a0 a1 a2 a3 r ⟨y.val, by omega⟩) + ∑ r : Fin 4096, err a0 a1 a2 a3 r ⟨1024 + y.val, by omega⟩ * err a0 a1 a2 a3 r ⟨1024 + y.val, by omega⟩ := by
  unfold err
  pointwise

theorem ry_at (g : FVec Ideal S4096x2048 .f32) (a1 : FVec Ideal S2048x2048 .bf16) (r : Fin 4096) (s : Fin 2048) :
    (Host.dotGeneral Cert.Reference6Ideal.dot_S4096x2048_S2048x2048_S4096x2048_1_1_0_0_n_n none g (extf .f32 a1 Cert.Reference6Ideal.Gen.bitsLt_bf16_f32) : S4096x2048.Idx → EReal) (ix2 r s) = ∑ k : Fin 2048, (g : S4096x2048.Idx → EReal) (ix2 r k) * (a1 : S2048x2048.Idx → EReal) (ix2 s k) := by
  pointwise

/-- The kernel and the reference have the same results. -/
theorem algebraic : Cert.algebraic_Kernel6Ideal_Reference6Ideal (hKernel6Ideal := Cert.Kernel6Ideal.Gen.facts) (hReference6Ideal := Cert.Reference6Ideal.Gen.facts) := by
  intro m g m' g' _ hm
  refine ⟨fun c => dout m c, fun c => dout m c, fun c => sqs m c, fun c => dy m c, ?_, ?_⟩
  · exact (θ_run Cert.Kernel6Ideal.defs _ _).mono (fun r h c => ⟨(h c).1.trans (arr_4 m c), (h c).2.1.trans (arr_5 m c), (h c).2.2.1.trans (arr_6 m c), (h c).2.2.2.1.trans (arr_7 m c), (h c).2.2.2.2⟩) (Cert.Kernel6Ideal.Value.run_blocks (F := Ideal) m g)
  · refine (θ_run Cert.Reference6Ideal.defs _ _).mono (fun r h c => ⟨(h c).1.trans ?_, (h c).2.1.trans ?_, (h c).2.2.1.trans ?_, (h c).2.2.2.1.trans ?_, (h c).2.2.2.2⟩) (Cert.Reference6Ideal.Value.run (F := Ideal) m' g')
    · rw [(hm c).1, (hm c).2.1, (hm c).2.2.1, (hm c).2.2.2]
      refine funext fun i => ?_
      obtain ⟨r, s, rfl⟩ : ∃ (r : Fin 4096) (s : Fin 2048), i = ix2 r s := ⟨i 0, i 1, eq_ix2 i⟩
      exact rd_at (b0 m c) (b1 m c) (b2 m c) (b3 m c) r s
    · rw [(hm c).1, (hm c).2.1, (hm c).2.2.1, (hm c).2.2.2]
      refine funext fun i => ?_
      obtain ⟨r, s, rfl⟩ : ∃ (r : Fin 4096) (s : Fin 2048), i = ix2 r s := ⟨i 0, i 1, eq_ix2 i⟩
      exact rd_at (b0 m c) (b1 m c) (b2 m c) (b3 m c) r s
    · rw [(hm c).1, (hm c).2.1, (hm c).2.2.1, (hm c).2.2.2]
      refine funext fun i => ?_
      obtain ⟨r, s, rfl⟩ : ∃ (r : Fin 1) (s : Fin 1024), i = ix2 r s := ⟨i 0, i 1, eq_ix2 i⟩
      obtain rfl : r = 0 := Subsingleton.elim _ _
      exact rs_at (b0 m c) (b1 m c) (b2 m c) (b3 m c) s
    · rw [(hm c).1, (hm c).2.1, (hm c).2.2.1, (hm c).2.2.2]
      refine funext fun i => ?_
      obtain ⟨r, s, rfl⟩ : ∃ (r : Fin 4096) (s : Fin 2048), i = ix2 r s := ⟨i 0, i 1, eq_ix2 i⟩
      exact (ry_at (rd (b0 m c) (b1 m c) (b2 m c) (b3 m c)) (b1 m c) r s).trans (Finset.sum_congr rfl fun k _ => congrArg (· * b1 m c (ix2 s k)) (rd_at (b0 m c) (b1 m c) (b2 m c) (b3 m c) r k))

end Cert.Kernel6Ideal.Hand
-- ==== Proof.Dw8.lean ====
module

public import proofs.«01_k».proof.Defs
public import proofs.«01_k».proof.Proof.Gen.Kernel8Ideal.Value
public import proofs.«01_k».proof.Proof.Gen.Reference8Ideal.Run
public import Idealize.ShloMosaic.Lib.Pipeline.ValueKit.Geometry
public import Idealize.ShloMosaic.Lib.Pointwise

@[expose] public section

set_option maxRecDepth 16384

noncomputable section

namespace Cert.Kernel8Ideal.Hand

open Cert.Kernel8Ideal Cert.Kernel8Ideal.Gen
open Idealize.ShloMosaic Idealize.ShloMosaic.TcCoe Idealize.ShloMosaic.Tactic

variable (m : (ℓ : Loc nD τ sig) → Buf (Elt Ideal) ℓ)

/-! ## The gradient of the projections' weight, block by block: every block is the product of a column block of the
left operand and a column block of the one of the five cotangents that holds the block's columns -/

/-- The shape of the five cotangents side by side. -/
abbrev S4096x12288 : Shape := Cert.Reference8Ideal.S4096x12288

theorem N0 : cfg0.N = 48 := by decide +kernel

theorem hz : (![0, 0] : Fin 2 → Nat) = fun _ => 0 := funext fun a => by fin_cases a <;> rfl

theorem idx0 : ∀ t : Fin cfg0.N, win0_0.index t 0 = 0 ∧ win0_0.index t 1 = t.val / 24 :=
  (by decide +kernel : ∀ t : Fin grid0.N, _)

theorem idx6 : ∀ t : Fin cfg0.N, win0_6.index t 0 = t.val / 24 ∧ win0_6.index t 1 = t.val % 24 :=
  (by decide +kernel : ∀ t : Fin grid0.N, _)

theorem idx1 : ∀ t : Fin cfg0.N, (t.val % 24 ≤ 3) → win0_1.index t 0 = 0 ∧ win0_1.index t 1 = t.val % 24 - 0 :=
  (by decide +kernel : ∀ t : Fin grid0.N, _)

theorem idx2 : ∀ t : Fin cfg0.N, (4 ≤ t.val % 24 ∧ t.val % 24 ≤ 11) → win0_2.index t 0 = 0 ∧ win0_2.index t 1 = t.val % 24 - 4 :=
  (by decide +kernel : ∀ t : Fin grid0.N, _)

theorem idx3 : ∀ t : Fin cfg0.N, (12 ≤ t.val % 24 ∧ t.val % 24 ≤ 15) → win0_3.index t 0 = 0 ∧ win0_3.index t 1 = t.val % 24 - 12 :=
  (by decide +kernel : ∀ t : Fin grid0.N, _)

theorem idx4 : ∀ t : Fin cfg0.N, (16 ≤ t.val % 24 ∧ t.val % 24 ≤ 19) → win0_4.index t 0 = 0 ∧ win0_4.index t 1 = t.val % 24 - 16 :=
  (by decide +kernel : ∀ t : Fin grid0.N, _)

theorem idx5 : ∀ t : Fin cfg0.N, (20 ≤ t.val % 24) → win0_5.index t 0 = 0 ∧ win0_5.index t 1 = t.val % 24 - 20 :=
  (by decide +kernel : ∀ t : Fin grid0.N, _)

/-- The arguments. -/
abbrev b0 (c : Dev nD) : S4096x2048.Idx → EReal := m ((c.tc : Thread nD τ).loc main_arg0)
abbrev b1 (c : Dev nD) : S4096x2048.Idx → EReal := m ((c.tc : Thread nD τ).loc main_arg1)
abbrev b2 (c : Dev nD) : S4096x4096.Idx → EReal := m ((c.tc : Thread nD τ).loc main_arg2)
abbrev b3 (c : Dev nD) : S4096x2048.Idx → EReal := m ((c.tc : Thread nD τ).loc main_arg3)
abbrev b4 (c : Dev nD) : S4096x2048.Idx → EReal := m ((c.tc : Thread nD τ).loc main_arg4)
abbrev b5 (c : Dev nD) : S4096x2048.Idx → EReal := m ((c.tc : Thread nD τ).loc main_arg5)

/-- The five cotangents. -/
abbrev pieces (x1 : FVec Ideal S4096x2048 .bf16) (x2 : FVec Ideal S4096x4096 .bf16) (x3 x4 x5 : FVec Ideal S4096x2048 .bf16) : List ((s : Shape) × (s.Idx → EReal)) :=
  [⟨Cert.Reference8Ideal.S4096x2048, x1⟩, ⟨Cert.Reference8Ideal.S4096x4096, x2⟩, ⟨Cert.Reference8Ideal.S4096x2048, x3⟩, ⟨Cert.Reference8Ideal.S4096x2048, x4⟩, ⟨Cert.Reference8Ideal.S4096x2048, x5⟩]

/-- The five cotangents side by side. -/
abbrev cat (x1 : FVec Ideal S4096x2048 .bf16) (x2 : FVec Ideal S4096x4096 .bf16) (x3 x4 x5 : FVec Ideal S4096x2048 .bf16) : FVec Ideal S4096x12288 .bf16 :=
  concatenate Cert.Reference8Ideal.S4096x12288 1 (pieces x1 x2 x3 x4 x5) Cert.Reference8Ideal.Gen.concatenates_S4096x2048_S4096x4096_S4096x2048_S4096x2048_S4096x2048_S4096x12288_d1

theorem cat_1 (x1 : FVec Ideal S4096x2048 .bf16) (x2 : FVec Ideal S4096x4096 .bf16) (x3 x4 x5 : FVec Ideal S4096x2048 .bf16) (k : Fin 4096) (y : Fin 12288) (z : Fin 2048) (h : 0 + z.val = y.val) :
    (cat x1 x2 x3 x4 x5 : S4096x12288.Idx → EReal) (ix2 k y) = (x1 : S4096x2048.Idx → EReal) (ix2 k z) := by
  refine concatenate_apply_piece (t := Cert.Reference8Ideal.S4096x12288) (1 : Fin 2) (pieces x1 x2 x3 x4 x5) Cert.Reference8Ideal.Gen.concatenates_S4096x2048_S4096x4096_S4096x2048_S4096x2048_S4096x2048_S4096x12288_d1 (ix2 k y) 0 (by show 0 < 5; omega) S4096x2048 x1 rfl rfl 0 rfl (ix2 k z) (fun b hb => ?_) h
  match b with
  | ⟨0, _⟩ => rfl
  | ⟨1, _⟩ => exact absurd rfl hb

theorem cat_2 (x1 : FVec Ideal S4096x2048 .bf16) (x2 : FVec Ideal S4096x4096 .bf16) (x3 x4 x5 : FVec Ideal S4096x2048 .bf16) (k : Fin 4096) (y : Fin 12288) (z : Fin 4096) (h : 2048 + z.val = y.val) :
    (cat x1 x2 x3 x4 x5 : S4096x12288.Idx → EReal) (ix2 k y) = (x2 : S4096x4096.Idx → EReal) (ix2 k z) := by
  refine concatenate_apply_piece (t := Cert.Reference8Ideal.S4096x12288) (1 : Fin 2) (pieces x1 x2 x3 x4 x5) Cert.Reference8Ideal.Gen.concatenates_S4096x2048_S4096x4096_S4096x2048_S4096x2048_S4096x2048_S4096x12288_d1 (ix2 k y) 1 (by show 1 < 5; omega) S4096x4096 x2 rfl rfl 2048 rfl (ix2 k z) (fun b hb => ?_) h
  match b with
  | ⟨0, _⟩ => rfl
  | ⟨1, _⟩ => exact absurd rfl hb

theorem cat_3 (x1 : FVec Ideal S4096x2048 .bf16) (x2 : FVec Ideal S4096x4096 .bf16) (x3 x4 x5 : FVec Ideal S4096x2048 .bf16) (k : Fin 4096) (y : Fin 12288) (z : Fin 2048) (h : 6144 + z.val = y.val) :
    (cat x1 x2 x3 x4 x5 : S4096x12288.Idx → EReal) (ix2 k y) = (x3 : S4096x2048.Idx → EReal) (ix2 k z) := by
  refine concatenate_apply_piece (t := Cert.Reference8Ideal.S4096x12288) (1 : Fin 2) (pieces x1 x2 x3 x4 x5) Cert.Reference8Ideal.Gen.concatenates_S4096x2048_S4096x4096_S4096x2048_S4096x2048_S4096x2048_S4096x12288_d1 (ix2 k y) 2 (by show 2 < 5; omega) S4096x2048 x3 rfl rfl 6144 rfl (ix2 k z) (fun b hb => ?_) h
  match b with
  | ⟨0, _⟩ => rfl
  | ⟨1, _⟩ => exact absurd rfl hb

theorem cat_4 (x1 : FVec Ideal S4096x2048 .bf16) (x2 : FVec Ideal S4096x4096 .bf16) (x3 x4 x5 : FVec Ideal S4096x2048 .bf16) (k : Fin 4096) (y : Fin 12288) (z : Fin 2048) (h : 8192 + z.val = y.val) :
    (cat x1 x2 x3 x4 x5 : S4096x12288.Idx → EReal) (ix2 k y) = (x4 : S4096x2048.Idx → EReal) (ix2 k z) := by
  refine concatenate_apply_piece (t := Cert.Reference8Ideal.S4096x12288) (1 : Fin 2) (pieces x1 x2 x3 x4 x5) Cert.Reference8Ideal.Gen.concatenates_S4096x2048_S4096x4096_S4096x2048_S4096x2048_S4096x2048_S4096x12288_d1 (ix2 k y) 3 (by show 3 < 5; omega) S4096x2048 x4 rfl rfl 8192 rfl (ix2 k z) (fun b hb => ?_) h
  match b with
  | ⟨0, _⟩ => rfl
  | ⟨1, _⟩ => exact absurd rfl hb

theorem cat_5 (x1 : FVec Ideal S4096x2048 .bf16) (x2 : FVec Ideal S4096x4096 .bf16) (x3 x4 x5 : FVec Ideal S4096x2048 .bf16) (k : Fin 4096) (y : Fin 12288) (z : Fin 2048) (h : 10240 + z.val = y.val) :
    (cat x1 x2 x3 x4 x5 : S4096x12288.Idx → EReal) (ix2 k y) = (x5 : S4096x2048.Idx → EReal) (ix2 k z) := by
  refine concatenate_apply_piece (t := Cert.Reference8Ideal.S4096x12288) (1 : Fin 2) (pieces x1 x2 x3 x4 x5) Cert.Reference8Ideal.Gen.concatenates_S4096x2048_S4096x4096_S4096x2048_S4096x2048_S4096x2048_S4096x12288_d1 (ix2 k y) 4 (by show 4 < 5; omega) S4096x2048 x5 rfl rfl 10240 rfl (ix2 k z) (fun b hb => ?_) h
  match b with
  | ⟨0, _⟩ => rfl
  | ⟨1, _⟩ => exact absurd rfl hb

theorem blk_0 (c : Dev nD) (t : Fin cfg0.N) (k : Fin 4096) (x : Fin 1024) :
    (iblk m c 0 t : S4096x1024.Idx → EReal) (ix2 k x)
      = b0 m c (ix2 k ⟨1024 * (t.val / 24) + x.val, by have := t.isLt; have e : cfg0.N = 48 := N0; omega⟩) := by
  have e : (V m c main_arg0 : S4096x2048.Idx → EReal) = b0 m c := V_main_arg0 m c
  rw [← e]
  refine congrArg (V m c main_arg0 : S4096x2048.Idx → EReal) (funext fun a => Fin.ext ?_)
  match a with
  | ⟨0, _⟩ => exact (Pipeline.Window.rect_emb_val win0_0 t (ix2 k x) 0).trans (by rw [(idx0 t).1]; show 0 * 4096 + k.val = k.val; omega)
  | ⟨1, _⟩ => exact (Pipeline.Window.rect_emb_val win0_0 t (ix2 k x) 1).trans (by rw [(idx0 t).2]; show (t.val / 24) * 1024 + x.val = 1024 * (t.val / 24) + x.val; omega)

/-- The five cotangents side by side, as the arguments hold them. -/
abbrev ct (c : Dev nD) : S4096x12288.Idx → EReal := cat (b1 m c) (b2 m c) (b3 m c) (b4 m c) (b5 m c)

theorem blk_1 (c : Dev nD) (t : Fin cfg0.N) (ht : t.val % 24 ≤ 3) (k : Fin 4096) (y : Fin 512) :
    (iblk m c 1 t : S4096x512.Idx → EReal) (ix2 k y)
      = ct m c (ix2 k ⟨512 * (t.val % 24) + y.val, by omega⟩) := by
  refine Eq.trans ?_ (cat_1 (b1 m c) (b2 m c) (b3 m c) (b4 m c) (b5 m c) k ⟨512 * (t.val % 24) + y.val, by omega⟩ ⟨512 * (t.val % 24 - 0) + y.val, by omega⟩ (by show 0 + (512 * (t.val % 24 - 0) + y.val) = 512 * (t.val % 24) + y.val; omega)).symm
  have e : (V m c main_arg1 : S4096x2048.Idx → EReal) = b1 m c := V_main_arg1 m c
  show _ = b1 m c _
  rw [← e]
  refine congrArg (V m c main_arg1 : S4096x2048.Idx → EReal) (funext fun a => Fin.ext ?_)
  match a with
  | ⟨0, _⟩ => exact (Pipeline.Window.rect_emb_val win0_1 t (ix2 k y) 0).trans (by rw [(idx1 t ht).1]; show 0 * 4096 + k.val = k.val; omega)
  | ⟨1, _⟩ => exact (Pipeline.Window.rect_emb_val win0_1 t (ix2 k y) 1).trans (by rw [(idx1 t ht).2]; show (t.val % 24 - 0) * 512 + y.val = 512 * (t.val % 24 - 0) + y.val; omega)

theorem blk_2 (c : Dev nD) (t : Fin cfg0.N) (ht : 4 ≤ t.val % 24 ∧ t.val % 24 ≤ 11) (k : Fin 4096) (y : Fin 512) :
    (iblk m c 2 t : S4096x512.Idx → EReal) (ix2 k y)
      = ct m c (ix2 k ⟨512 * (t.val % 24) + y.val, by omega⟩) := by
  refine Eq.trans ?_ (cat_2 (b1 m c) (b2 m c) (b3 m c) (b4 m c) (b5 m c) k ⟨512 * (t.val % 24) + y.val, by omega⟩ ⟨512 * (t.val % 24 - 4) + y.val, by omega⟩ (by show 2048 + (512 * (t.val % 24 - 4) + y.val) = 512 * (t.val % 24) + y.val; omega)).symm
  have e : (V m c main_arg2 : S4096x4096.Idx → EReal) = b2 m c := V_main_arg2 m c
  show _ = b2 m c _
  rw [← e]
  refine congrArg (V m c main_arg2 : S4096x4096.Idx → EReal) (funext fun a => Fin.ext ?_)
  match a with
  | ⟨0, _⟩ => exact (Pipeline.Window.rect_emb_val win0_2 t (ix2 k y) 0).trans (by rw [(idx2 t ht).1]; show 0 * 4096 + k.val = k.val; omega)
  | ⟨1, _⟩ => exact (Pipeline.Window.rect_emb_val win0_2 t (ix2 k y) 1).trans (by rw [(idx2 t ht).2]; show (t.val % 24 - 4) * 512 + y.val = 512 * (t.val % 24 - 4) + y.val; omega)

theorem blk_3 (c : Dev nD) (t : Fin cfg0.N) (ht : 12 ≤ t.val % 24 ∧ t.val % 24 ≤ 15) (k : Fin 4096) (y : Fin 512) :
    (iblk m c 3 t : S4096x512.Idx → EReal) (ix2 k y)
      = ct m c (ix2 k ⟨512 * (t.val % 24) + y.val, by omega⟩) := by
  refine Eq.trans ?_ (cat_3 (b1 m c) (b2 m c) (b3 m c) (b4 m c) (b5 m c) k ⟨512 * (t.val % 24) + y.val, by omega⟩ ⟨512 * (t.val % 24 - 12) + y.val, by omega⟩ (by show 6144 + (512 * (t.val % 24 - 12) + y.val) = 512 * (t.val % 24) + y.val; omega)).symm
  have e : (V m c main_arg3 : S4096x2048.Idx → EReal) = b3 m c := V_main_arg3 m c
  show _ = b3 m c _
  rw [← e]
  refine congrArg (V m c main_arg3 : S4096x2048.Idx → EReal) (funext fun a => Fin.ext ?_)
  match a with
  | ⟨0, _⟩ => exact (Pipeline.Window.rect_emb_val win0_3 t (ix2 k y) 0).trans (by rw [(idx3 t ht).1]; show 0 * 4096 + k.val = k.val; omega)
  | ⟨1, _⟩ => exact (Pipeline.Window.rect_emb_val win0_3 t (ix2 k y) 1).trans (by rw [(idx3 t ht).2]; show (t.val % 24 - 12) * 512 + y.val = 512 * (t.val % 24 - 12) + y.val; omega)

theorem blk_4 (c : Dev nD) (t : Fin cfg0.N) (ht : 16 ≤ t.val % 24 ∧ t.val % 24 ≤ 19) (k : Fin 4096) (y : Fin 512) :
    (iblk m c 4 t : S4096x512.Idx → EReal) (ix2 k y)
      = ct m c (ix2 k ⟨512 * (t.val % 24) + y.val, by omega⟩) := by
  refine Eq.trans ?_ (cat_4 (b1 m c) (b2 m c) (b3 m c) (b4 m c) (b5 m c) k ⟨512 * (t.val % 24) + y.val, by omega⟩ ⟨512 * (t.val % 24 - 16) + y.val, by omega⟩ (by show 8192 + (512 * (t.val % 24 - 16) + y.val) = 512 * (t.val % 24) + y.val; omega)).symm
  have e : (V m c main_arg4 : S4096x2048.Idx → EReal) = b4 m c := V_main_arg4 m c
  show _ = b4 m c _
  rw [← e]
  refine congrArg (V m c main_arg4 : S4096x2048.Idx → EReal) (funext fun a => Fin.ext ?_)
  match a with
  | ⟨0, _⟩ => exact (Pipeline.Window.rect_emb_val win0_4 t (ix2 k y) 0).trans (by rw [(idx4 t ht).1]; show 0 * 4096 + k.val = k.val; omega)
  | ⟨1, _⟩ => exact (Pipeline.Window.rect_emb_val win0_4 t (ix2 k y) 1).trans (by rw [(idx4 t ht).2]; show (t.val % 24 - 16) * 512 + y.val = 512 * (t.val % 24 - 16) + y.val; omega)

theorem blk_5 (c : Dev nD) (t : Fin cfg0.N) (ht : 20 ≤ t.val % 24) (k : Fin 4096) (y : Fin 512) :
    (iblk m c 5 t : S4096x512.Idx → EReal) (ix2 k y)
      = ct m c (ix2 k ⟨512 * (t.val % 24) + y.val, by omega⟩) := by
  refine Eq.trans ?_ (cat_5 (b1 m c) (b2 m c) (b3 m c) (b4 m c) (b5 m c) k ⟨512 * (t.val % 24) + y.val, by omega⟩ ⟨512 * (t.val % 24 - 20) + y.val, by omega⟩ (by show 10240 + (512 * (t.val % 24 - 20) + y.val) = 512 * (t.val % 24) + y.val; omega)).symm
  have e : (V m c main_arg5 : S4096x2048.Idx → EReal) = b5 m c := V_main_arg5 m c
  show _ = b5 m c _
  rw [← e]
  refine congrArg (V m c main_arg5 : S4096x2048.Idx → EReal) (funext fun a => Fin.ext ?_)
  match a with
  | ⟨0, _⟩ => exact (Pipeline.Window.rect_emb_val win0_5 t (ix2 k y) 0).trans (by rw [(idx5 t ht).1]; show 0 * 4096 + k.val = k.val; omega)
  | ⟨1, _⟩ => exact (Pipeline.Window.rect_emb_val win0_5 t (ix2 k y) 1).trans (by rw [(idx5 t ht).2]; show (t.val % 24 - 20) * 512 + y.val = 512 * (t.val % 24 - 20) + y.val; omega)

theorem emb_6 (t : Fin cfg0.N) (x : Fin 1024) (y : Fin 512) :
    (((cfg0.win 6).blk t).view.emb (ix2 x y) : S2048x12288.Idx)
      = ix2 ⟨1024 * (t.val / 24) + x.val, by have := t.isLt; have e : cfg0.N = 48 := N0; omega⟩ ⟨512 * (t.val % 24) + y.val, by omega⟩ := by
  refine funext fun a => Fin.ext ?_
  match a with
  | ⟨0, _⟩ => exact (Pipeline.Window.rect_emb_val win0_6 t (ix2 x y) 0).trans (by rw [(idx6 t).1]; show (t.val / 24) * 1024 + x.val = 1024 * (t.val / 24) + x.val; omega)
  | ⟨1, _⟩ => exact (Pipeline.Window.rect_emb_val win0_6 t (ix2 x y) 1).trans (by rw [(idx6 t).2]; show (t.val % 24) * 512 + y.val = 512 * (t.val % 24) + y.val; omega)

/-! What is stored at a point: the product of the two loaded blocks, the second of the cotangent the point reads. -/

section reads

variable (c : Dev nD) (i : grid0.Coords) (arg3 : Memref sig .tc .vmem S4096x1024 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S4096x512 .bf16) (harg7 : arg7.IsWhole) (arg8 : Memref sig .tc .vmem S4096x512 .bf16) (harg8 : arg8.IsWhole) (arg9 : Memref sig .tc .vmem S1024x512 .f32) (harg9 : arg9.IsWhole) (arg10 : Memref sig .tc .vmem S1024x512 .f32) (harg10 : arg10.IsWhole)

theorem out_A (hc0 : cond0_0 i) (hc1 : cond0_1 i) (hc2 : ¬cond0_2 i) (hc3 : ¬cond0_3 i) (hc4 : ¬cond0_4 i) (hc5 : ¬cond0_5 i) (hc6 : cond0_6 i) (x0 : Vec Ideal S4096x1024 .bf16) (x1 : Vec Ideal S4096x512 .bf16) (x2 : Vec Ideal S4096x512 .bf16) (x3 : Vec Ideal S4096x512 .bf16) (x4 : Vec Ideal S4096x512 .bf16) (x5 : Vec Ideal S4096x512 .bf16) :
    out0_A_6 c i arg3 harg3 arg4 harg4 arg5 harg5 arg6 harg6 arg7 harg7 arg8 harg8 arg9 harg9 arg10 harg10 hc0 hc1 hc2 hc3 hc4 hc5 hc6 x0 x1 x2 x3 x4 x5 = k0_pay1 x0 x1 := by
  unfold out0_A_6
  rw [View.read_writes_eq_canon _ _ _ (fun y => cover0_A_6 (y := y) ..)]
  unfold kernelRun0_A
  dsimp only
  sl_unfold_words
  rw [View.canon_unit_zero hz, View.readCov_unit_zero (S := S1024x512) _ hz]
  simp only [View.readAt_eq_ld, harg3.read_unread, harg4.read_unread, harg5.read_unread, harg6.read_unread, harg7.read_unread, harg8.read_unread, harg9.read_unread, harg10.read_unread, View.ld_unit_zero (S := S4096x1024) hz, View.ld_unit_zero (S := S4096x512) hz]

theorem out_B (hc0 : ¬cond0_0 i) (hc2 : cond0_2 i) (hc3 : ¬cond0_3 i) (hc4 : ¬cond0_4 i) (hc5 : ¬cond0_5 i) (hc6 : cond0_6 i) (hc7 : cond0_7 i) (x0 : Vec Ideal S4096x1024 .bf16) (x1 : Vec Ideal S4096x512 .bf16) (x2 : Vec Ideal S4096x512 .bf16) (x3 : Vec Ideal S4096x512 .bf16) (x4 : Vec Ideal S4096x512 .bf16) (x5 : Vec Ideal S4096x512 .bf16) :
    out0_B_6 c i arg3 harg3 arg4 harg4 arg5 harg5 arg6 harg6 arg7 harg7 arg8 harg8 arg9 harg9 arg10 harg10 hc0 hc2 hc3 hc4 hc5 hc6 hc7 x0 x1 x2 x3 x4 x5 = k0_pay2 x0 x2 := by
  unfold out0_B_6
  rw [View.read_writes_eq_canon _ _ _ (fun y => cover0_B_6 (y := y) ..)]
  unfold kernelRun0_B
  dsimp only
  sl_unfold_words
  rw [View.canon_unit_zero hz, View.readCov_unit_zero (S := S1024x512) _ hz]
  simp only [View.readAt_eq_ld, harg3.read_unread, harg4.read_unread, harg5.read_unread, harg6.read_unread, harg7.read_unread, harg8.read_unread, harg9.read_unread, harg10.read_unread, View.ld_unit_zero (S := S4096x1024) hz, View.ld_unit_zero (S := S4096x512) hz]

theorem out_C (hc0 : ¬cond0_0 i) (hc2 : ¬cond0_2 i) (hc3 : cond0_3 i) (hc4 : ¬cond0_4 i) (hc5 : ¬cond0_5 i) (hc6 : cond0_6 i) (hc8 : cond0_8 i) (x0 : Vec Ideal S4096x1024 .bf16) (x1 : Vec Ideal S4096x512 .bf16) (x2 : Vec Ideal S4096x512 .bf16) (x3 : Vec Ideal S4096x512 .bf16) (x4 : Vec Ideal S4096x512 .bf16) (x5 : Vec Ideal S4096x512 .bf16) :
    out0_C_6 c i arg3 harg3 arg4 harg4 arg5 harg5 arg6 harg6 arg7 harg7 arg8 harg8 arg9 harg9 arg10 harg10 hc0 hc2 hc3 hc4 hc5 hc6 hc8 x0 x1 x2 x3 x4 x5 = k0_pay3 x0 x3 := by
  unfold out0_C_6
  rw [View.read_writes_eq_canon _ _ _ (fun y => cover0_C_6 (y := y) ..)]
  unfold kernelRun0_C
  dsimp only
  sl_unfold_words
  rw [View.canon_unit_zero hz, View.readCov_unit_zero (S := S1024x512) _ hz]
  simp only [View.readAt_eq_ld, harg3.read_unread, harg4.read_unread, harg5.read_unread, harg6.read_unread, harg7.read_unread, harg8.read_unread, harg9.read_unread, harg10.read_unread, View.ld_unit_zero (S := S4096x1024) hz, View.ld_unit_zero (S := S4096x512) hz]

theorem out_D (hc0 : ¬cond0_0 i) (hc2 : ¬cond0_2 i) (hc3 : ¬cond0_3 i) (hc4 : cond0_4 i) (hc5 : ¬cond0_5 i) (hc6 : cond0_6 i) (hc9 : cond0_9 i) (x0 : Vec Ideal S4096x1024 .bf16) (x1 : Vec Ideal S4096x512 .bf16) (x2 : Vec Ideal S4096x512 .bf16) (x3 : Vec Ideal S4096x512 .bf16) (x4 : Vec Ideal S4096x512 .bf16) (x5 : Vec Ideal S4096x512 .bf16) :
    out0_D_6 c i arg3 harg3 arg4 harg4 arg5 harg5 arg6 harg6 arg7 harg7 arg8 harg8 arg9 harg9 arg10 harg10 hc0 hc2 hc3 hc4 hc5 hc6 hc9 x0 x1 x2 x3 x4 x5 = k0_pay4 x0 x4 := by
  unfold out0_D_6
  rw [View.read_writes_eq_canon _ _ _ (fun y => cover0_D_6 (y := y) ..)]
  unfold kernelRun0_D
  dsimp only
  sl_unfold_words
  rw [View.canon_unit_zero hz, View.readCov_unit_zero (S := S1024x512) _ hz]
  simp only [View.readAt_eq_ld, harg3.read_unread, harg4.read_unread, harg5.read_unread, harg6.read_unread, harg7.read_unread, harg8.read_unread, harg9.read_unread, harg10.read_unread, View.ld_unit_zero (S := S4096x1024) hz, View.ld_unit_zero (S := S4096x512) hz]

theorem out_E (hc0 : ¬cond0_0 i) (hc2 : ¬cond0_2 i) (hc3 : ¬cond0_3 i) (hc4 : ¬cond0_4 i) (hc5 : cond0_5 i) (hc6 : cond0_6 i) (hc10 : cond0_10 i) (x0 : Vec Ideal S4096x1024 .bf16) (x1 : Vec Ideal S4096x512 .bf16) (x2 : Vec Ideal S4096x512 .bf16) (x3 : Vec Ideal S4096x512 .bf16) (x4 : Vec Ideal S4096x512 .bf16) (x5 : Vec Ideal S4096x512 .bf16) :
    out0_E_6 c i arg3 harg3 arg4 harg4 arg5 harg5 arg6 harg6 arg7 harg7 arg8 harg8 arg9 harg9 arg10 harg10 hc0 hc2 hc3 hc4 hc5 hc6 hc10 x0 x1 x2 x3 x4 x5 = k0_pay5 x0 x5 := by
  unfold out0_E_6
  rw [View.read_writes_eq_canon _ _ _ (fun y => cover0_E_6 (y := y) ..)]
  unfold kernelRun0_E
  dsimp only
  sl_unfold_words
  rw [View.canon_unit_zero hz, View.readCov_unit_zero (S := S1024x512) _ hz]
  simp only [View.readAt_eq_ld, harg3.read_unread, harg4.read_unread, harg5.read_unread, harg6.read_unread, harg7.read_unread, harg8.read_unread, harg9.read_unread, harg10.read_unread, View.ld_unit_zero (S := S4096x1024) hz, View.ld_unit_zero (S := S4096x512) hz]

end reads

/-! An entry of the product of two blocks. -/

theorem pay_1 (x0 : Vec Ideal S4096x1024 .bf16) (x1 : Vec Ideal S4096x512 .bf16) (x : Fin 1024) (y : Fin 512) :
    (k0_pay1 x0 x1 : S1024x512.Idx → EReal) (ix2 x y) = ∑ k : Fin 4096, (x0 : S4096x1024.Idx → EReal) (ix2 k x) * (x1 : S4096x512.Idx → EReal) (ix2 k y) := by
  unfold k0_pay1
  pointwise

theorem pay_2 (x0 : Vec Ideal S4096x1024 .bf16) (x1 : Vec Ideal S4096x512 .bf16) (x : Fin 1024) (y : Fin 512) :
    (k0_pay2 x0 x1 : S1024x512.Idx → EReal) (ix2 x y) = ∑ k : Fin 4096, (x0 : S4096x1024.Idx → EReal) (ix2 k x) * (x1 : S4096x512.Idx → EReal) (ix2 k y) := by
  unfold k0_pay2
  pointwise

theorem pay_3 (x0 : Vec Ideal S4096x1024 .bf16) (x1 : Vec Ideal S4096x512 .bf16) (x : Fin 1024) (y : Fin 512) :
    (k0_pay3 x0 x1 : S1024x512.Idx → EReal) (ix2 x y) = ∑ k : Fin 4096, (x0 : S4096x1024.Idx → EReal) (ix2 k x) * (x1 : S4096x512.Idx → EReal) (ix2 k y) := by
  unfold k0_pay3
  pointwise

theorem pay_4 (x0 : Vec Ideal S4096x1024 .bf16) (x1 : Vec Ideal S4096x512 .bf16) (x : Fin 1024) (y : Fin 512) :
    (k0_pay4 x0 x1 : S1024x512.Idx → EReal) (ix2 x y) = ∑ k : Fin 4096, (x0 : S4096x1024.Idx → EReal) (ix2 k x) * (x1 : S4096x512.Idx → EReal) (ix2 k y) := by
  unfold k0_pay4
  pointwise

theorem pay_5 (x0 : Vec Ideal S4096x1024 .bf16) (x1 : Vec Ideal S4096x512 .bf16) (x : Fin 1024) (y : Fin 512) :
    (k0_pay5 x0 x1 : S1024x512.Idx → EReal) (ix2 x y) = ∑ k : Fin 4096, (x0 : S4096x1024.Idx → EReal) (ix2 k x) * (x1 : S4096x512.Idx → EReal) (ix2 k y) := by
  unfold k0_pay5
  pointwise

/-- The whole product. -/
abbrev prod (c : Dev nD) : S2048x12288.Idx → EReal := fun i => ∑ k : Fin 4096, b0 m c (ix2 k (i 0)) * ct m c (ix2 k (i 1))

/-- What is left after a point is the product's block. -/
theorem at_point (c : Dev nD) (t : Fin cfg0.N) (x : Fin 1024) (y : Fin 512) :
    (outsAt0 m c t.val t.isLt : S1024x512.Idx → EReal) (ix2 x y)
      = ∑ k : Fin 4096, b0 m c (ix2 k ⟨1024 * (t.val / 24) + x.val, by have := t.isLt; have e : cfg0.N = 48 := N0; omega⟩) * ct m c (ix2 k ⟨512 * (t.val % 24) + y.val, by omega⟩) := by
  have hlt : t.val % 24 < 24 := Nat.mod_lt _ (by omega)
  by_cases h1 : t.val % 24 ≤ 3
  · rw [outsAt0_A m c t h1 (by omega) (by omega) (by omega) (by omega), out_A, pay_1]
    exact Finset.sum_congr rfl fun k _ => congrArg₂ (· * ·) (blk_0 m c t k x) (blk_1 m c t h1 k y)
  by_cases h2 : 4 ≤ t.val % 24 ∧ t.val % 24 ≤ 11
  · rw [outsAt0_B m c t h1 h2 (by omega) (by omega) (by omega), out_B, pay_2]
    exact Finset.sum_congr rfl fun k _ => congrArg₂ (· * ·) (blk_0 m c t k x) (blk_2 m c t h2 k y)
  by_cases h3 : 12 ≤ t.val % 24 ∧ t.val % 24 ≤ 15
  · rw [outsAt0_C m c t h1 h2 h3 (by omega) (by omega), out_C, pay_3]
    exact Finset.sum_congr rfl fun k _ => congrArg₂ (· * ·) (blk_0 m c t k x) (blk_3 m c t h3 k y)
  by_cases h4 : 16 ≤ t.val % 24 ∧ t.val % 24 ≤ 19
  · rw [outsAt0_D m c t h1 h2 h3 h4 (by omega), out_D, pay_4]
    exact Finset.sum_congr rfl fun k _ => congrArg₂ (· * ·) (blk_0 m c t k x) (blk_4 m c t h4 k y)
  · have h5 : 20 ≤ t.val % 24 := by omega
    rw [outsAt0_E m c t h1 h2 h3 h4 h5, out_E, pay_5]
    exact Finset.sum_congr rfl fun k _ => congrArg₂ (· * ·) (blk_0 m c t k x) (blk_5 m c t h5 k y)

/-- The result array holds the whole product. -/
theorem arr_6 (c : Dev nD) : (dats m 0 c).arrAt 6 cfg0.N = prod m c := by
  refine (dats m 0 c).arrAt_eq_of_covers 6 _ (by decide +kernel) fun t hf j => ?_
  obtain ⟨x, y, rfl⟩ : ∃ (x : Fin 1024) (z : Fin 512), j = ix2 x z := ⟨j 0, j 1, eq_ix2 j⟩
  rw [emb_6, after0_6]
  exact at_point m c t x y

/-- An entry of the reference's result. -/
theorem ref_at (x : FVec Ideal S4096x2048 .bf16) (y : FVec Ideal S4096x12288 .bf16) (i : S2048x12288.Idx) :
    (transpose Cert.Reference8Ideal.S2048x12288 [1, 0] (Host.dotGeneral Cert.Reference8Ideal.dot_S4096x12288_S4096x2048_S12288x2048_0_0_1_1_n_n none (extf .f32 y Cert.Reference8Ideal.Gen.bitsLt_bf16_f32) (extf .f32 x Cert.Reference8Ideal.Gen.bitsLt_bf16_f32)) Cert.Reference8Ideal.Gen.transposes_S12288x2048_S2048x12288_1_0 : FVec Ideal S2048x12288 .f32) i
      = ∑ k : Fin 4096, (y : S4096x12288.Idx → EReal) (ix2 k (i 1)) * (x : S4096x2048.Idx → EReal) (ix2 k (i 0)) := by
  obtain ⟨r, s, rfl⟩ : ∃ (r : Fin 2048) (s : Fin 12288), i = ix2 r s := ⟨i 0, i 1, eq_ix2 i⟩
  pointwise

/-- The kernel and the reference have the same result. -/
theorem algebraic : Cert.algebraic_Kernel8Ideal_Reference8Ideal (hKernel8Ideal := Cert.Kernel8Ideal.Gen.facts) (hReference8Ideal := Cert.Reference8Ideal.Gen.facts) := by
  intro m g m' g' _ hm
  refine ⟨fun c => prod m c, ?_, ?_⟩
  · exact (θ_run Cert.Kernel8Ideal.defs _ _).mono (fun r h c => ⟨(h c).1.trans (arr_6 m c), (h c).2⟩) (Cert.Kernel8Ideal.Value.run_blocks (F := Ideal) m g)
  · refine (θ_run Cert.Reference8Ideal.defs _ _).mono (fun r h c => ⟨(h c).1.trans ?_, (h c).2⟩) (Cert.Reference8Ideal.Value.run (F := Ideal) m' g')
    rw [(hm c).1, (hm c).2.1, (hm c).2.2.1, (hm c).2.2.2.1, (hm c).2.2.2.2.1, (hm c).2.2.2.2.2]
    refine funext fun i => (ref_at (b0 m c) (ct m c) i).trans ?_
    exact Finset.sum_congr rfl fun k _ => mul_comm _ _

end Cert.Kernel8Ideal.Hand
-- ==== Proof.Dh9.lean ====
module

public import proofs.«01_k».proof.Defs
public import proofs.«01_k».proof.Proof.Gen.Kernel9Ideal.Value
public import proofs.«01_k».proof.Proof.Gen.Reference9Ideal.Run
public import proofs.«01_k».proof.Proof.Dw8
public import Idealize.ShloMosaic.Lib.Pipeline.ValueKit.Geometry
public import Idealize.ShloMosaic.Lib.Pointwise

@[expose] public section

set_option maxRecDepth 16384

noncomputable section

namespace Cert.Kernel9Ideal.Hand

open Cert.Kernel9Ideal Cert.Kernel9Ideal.Gen
open Idealize.ShloMosaic Idealize.ShloMosaic.TcCoe Idealize.ShloMosaic.Tactic

variable (m : (ℓ : Loc nD τ sig) → Buf (Elt Ideal) ℓ)

/-! ## The gradient by the left operand of the projections, block by block: six products of a block of the cotangents
and a block of the weight, added up after the gradient from elsewhere -/

/-- The shape of the five cotangents side by side. -/
abbrev S4096x12288 : Shape := Cert.Reference9Ideal.S4096x12288

theorem N0 : cfg0.N = 96 := by decide +kernel

theorem hz : (![0, 0] : Fin 2 → Nat) = fun _ => 0 := funext fun a => by fin_cases a <;> rfl

theorem idx5 : ∀ t : Fin cfg0.N, win0_5.index t 0 = t.val % 24 / 6 ∧ win0_5.index t 1 = t.val % 6 :=
  (by decide +kernel : ∀ t : Fin grid0.N, _)

theorem idx6 : ∀ t : Fin cfg0.N, win0_6.index t 0 = t.val / 24 ∧ win0_6.index t 1 = t.val % 24 / 6 :=
  (by decide +kernel : ∀ t : Fin grid0.N, _)

theorem idx7 : ∀ t : Fin cfg0.N, win0_7.index t 0 = t.val / 24 ∧ win0_7.index t 1 = t.val % 24 / 6 :=
  (by decide +kernel : ∀ t : Fin grid0.N, _)

/-- The result's block is written back after the last of its six points. -/
theorem flush7 : ∀ t : Fin cfg0.N, (cfg0.win 7).flush t = true → t.val % 6 = 5 :=
  (by decide +kernel : ∀ t : Fin grid0.N, _)

theorem idx0 : ∀ t : Fin cfg0.N, (t.val % 6 = 0) → win0_0.index t 0 = t.val / 24 ∧ win0_0.index t 1 = t.val % 6 - 0 :=
  (by decide +kernel : ∀ t : Fin grid0.N, _)

theorem idx1 : ∀ t : Fin cfg0.N, (1 ≤ t.val % 6 ∧ t.val % 6 ≤ 2) → win0_1.index t 0 = t.val / 24 ∧ win0_1.index t 1 = t.val % 6 - 1 :=
  (by decide +kernel : ∀ t : Fin grid0.N, _)

theorem idx2 : ∀ t : Fin cfg0.N, (t.val % 6 = 3) → win0_2.index t 0 = t.val / 24 ∧ win0_2.index t 1 = t.val % 6 - 3 :=
  (by decide +kernel : ∀ t : Fin grid0.N, _)

theorem idx3 : ∀ t : Fin cfg0.N, (t.val % 6 = 4) → win0_3.index t 0 = t.val / 24 ∧ win0_3.index t 1 = t.val % 6 - 4 :=
  (by decide +kernel : ∀ t : Fin grid0.N, _)

theorem idx4 : ∀ t : Fin cfg0.N, (t.val % 6 = 5) → win0_4.index t 0 = t.val / 24 ∧ win0_4.index t 1 = t.val % 6 - 5 :=
  (by decide +kernel : ∀ t : Fin grid0.N, _)

/-- The arguments. -/
abbrev b0 (c : Dev nD) : S4096x2048.Idx → EReal := m ((c.tc : Thread nD τ).loc main_arg0)
abbrev b1 (c : Dev nD) : S4096x4096.Idx → EReal := m ((c.tc : Thread nD τ).loc main_arg1)
abbrev b2 (c : Dev nD) : S4096x2048.Idx → EReal := m ((c.tc : Thread nD τ).loc main_arg2)
abbrev b3 (c : Dev nD) : S4096x2048.Idx → EReal := m ((c.tc : Thread nD τ).loc main_arg3)
abbrev b4 (c : Dev nD) : S4096x2048.Idx → EReal := m ((c.tc : Thread nD τ).loc main_arg4)
abbrev b5 (c : Dev nD) : S2048x12288.Idx → EReal := m ((c.tc : Thread nD τ).loc main_arg5)
abbrev b6 (c : Dev nD) : S4096x2048.Idx → EReal := m ((c.tc : Thread nD τ).loc main_arg6)

/-- The five cotangents side by side. -/
abbrev cat (x0 : FVec Ideal S4096x2048 .bf16) (x1 : FVec Ideal S4096x4096 .bf16) (x2 x3 x4 : FVec Ideal S4096x2048 .bf16) : FVec Ideal S4096x12288 .bf16 :=
  concatenate Cert.Reference9Ideal.S4096x12288 1 [⟨Cert.Reference9Ideal.S4096x2048, x0⟩, ⟨Cert.Reference9Ideal.S4096x4096, x1⟩, ⟨Cert.Reference9Ideal.S4096x2048, x2⟩, ⟨Cert.Reference9Ideal.S4096x2048, x3⟩, ⟨Cert.Reference9Ideal.S4096x2048, x4⟩] Cert.Reference9Ideal.Gen.concatenates_S4096x2048_S4096x4096_S4096x2048_S4096x2048_S4096x2048_S4096x12288_d1

theorem cat_0 (x0 : FVec Ideal S4096x2048 .bf16) (x1 : FVec Ideal S4096x4096 .bf16) (x2 x3 x4 : FVec Ideal S4096x2048 .bf16) (k : Fin 4096) (y : Fin 12288) (z : Fin 2048) (h : 0 + z.val = y.val) :
    (cat x0 x1 x2 x3 x4 : S4096x12288.Idx → EReal) (ix2 k y) = (x0 : S4096x2048.Idx → EReal) (ix2 k z) :=
  Cert.Kernel8Ideal.Hand.cat_1 x0 x1 x2 x3 x4 k y z h

theorem cat_1 (x0 : FVec Ideal S4096x2048 .bf16) (x1 : FVec Ideal S4096x4096 .bf16) (x2 x3 x4 : FVec Ideal S4096x2048 .bf16) (k : Fin 4096) (y : Fin 12288) (z : Fin 4096) (h : 2048 + z.val = y.val) :
    (cat x0 x1 x2 x3 x4 : S4096x12288.Idx → EReal) (ix2 k y) = (x1 : S4096x4096.Idx → EReal) (ix2 k z) :=
  Cert.Kernel8Ideal.Hand.cat_2 x0 x1 x2 x3 x4 k y z h

theorem cat_2 (x0 : FVec Ideal S4096x2048 .bf16) (x1 : FVec Ideal S4096x4096 .bf16) (x2 x3 x4 : FVec Ideal S4096x2048 .bf16) (k : Fin 4096) (y : Fin 12288) (z : Fin 2048) (h : 6144 + z.val = y.val) :
    (cat x0 x1 x2 x3 x4 : S4096x12288.Idx → EReal) (ix2 k y) = (x2 : S4096x2048.Idx → EReal) (ix2 k z) :=
  Cert.Kernel8Ideal.Hand.cat_3 x0 x1 x2 x3 x4 k y z h

theorem cat_3 (x0 : FVec Ideal S4096x2048 .bf16) (x1 : FVec Ideal S4096x4096 .bf16) (x2 x3 x4 : FVec Ideal S4096x2048 .bf16) (k : Fin 4096) (y : Fin 12288) (z : Fin 2048) (h : 8192 + z.val = y.val) :
    (cat x0 x1 x2 x3 x4 : S4096x12288.Idx → EReal) (ix2 k y) = (x3 : S4096x2048.Idx → EReal) (ix2 k z) :=
  Cert.Kernel8Ideal.Hand.cat_4 x0 x1 x2 x3 x4 k y z h

theorem cat_4 (x0 : FVec Ideal S4096x2048 .bf16) (x1 : FVec Ideal S4096x4096 .bf16) (x2 x3 x4 : FVec Ideal S4096x2048 .bf16) (k : Fin 4096) (y : Fin 12288) (z : Fin 2048) (h : 10240 + z.val = y.val) :
    (cat x0 x1 x2 x3 x4 : S4096x12288.Idx → EReal) (ix2 k y) = (x4 : S4096x2048.Idx → EReal) (ix2 k z) :=
  Cert.Kernel8Ideal.Hand.cat_5 x0 x1 x2 x3 x4 k y z h

/-- The five cotangents side by side, as the arguments hold them. -/
abbrev ct (c : Dev nD) : S4096x12288.Idx → EReal := cat (b0 m c) (b1 m c) (b2 m c) (b3 m c) (b4 m c)

theorem blk_0 (c : Dev nD) (t : Fin cfg0.N) (ht : t.val % 6 = 0) (x : Fin 1024) (k : Fin 2048) (r : Fin 4096) (hr : r.val = 1024 * (t.val / 24) + x.val) (q : Fin 12288) (hq : q.val = 2048 * (t.val % 6) + k.val) :
    (iblk m c 0 t : S1024x2048.Idx → EReal) (ix2 x k) = ct m c (ix2 r q) := by
  refine Eq.trans ?_ (cat_0 (b0 m c) (b1 m c) (b2 m c) (b3 m c) (b4 m c) r q ⟨2048 * (t.val % 6 - 0) + k.val, by omega⟩ (by show 0 + (2048 * (t.val % 6 - 0) + k.val) = q.val; omega)).symm
  have e : (V m c main_arg0 : S4096x2048.Idx → EReal) = b0 m c := V_main_arg0 m c
  show _ = b0 m c _
  rw [← e]
  refine congrArg (V m c main_arg0 : S4096x2048.Idx → EReal) (funext fun a => Fin.ext ?_)
  match a with
  | ⟨0, _⟩ => exact (Pipeline.Window.rect_emb_val win0_0 t (ix2 x k) 0).trans (by rw [(idx0 t ht).1]; show (t.val / 24) * 1024 + x.val = r.val; omega)
  | ⟨1, _⟩ => exact (Pipeline.Window.rect_emb_val win0_0 t (ix2 x k) 1).trans (by rw [(idx0 t ht).2]; show (t.val % 6 - 0) * 2048 + k.val = 2048 * (t.val % 6 - 0) + k.val; omega)

theorem blk_1 (c : Dev nD) (t : Fin cfg0.N) (ht : 1 ≤ t.val % 6 ∧ t.val % 6 ≤ 2) (x : Fin 1024) (k : Fin 2048) (r : Fin 4096) (hr : r.val = 1024 * (t.val / 24) + x.val) (q : Fin 12288) (hq : q.val = 2048 * (t.val % 6) + k.val) :
    (iblk m c 1 t : S1024x2048.Idx → EReal) (ix2 x k) = ct m c (ix2 r q) := by
  refine Eq.trans ?_ (cat_1 (b0 m c) (b1 m c) (b2 m c) (b3 m c) (b4 m c) r q ⟨2048 * (t.val % 6 - 1) + k.val, by omega⟩ (by show 2048 + (2048 * (t.val % 6 - 1) + k.val) = q.val; omega)).symm
  have e : (V m c main_arg1 : S4096x4096.Idx → EReal) = b1 m c := V_main_arg1 m c
  show _ = b1 m c _
  rw [← e]
  refine congrArg (V m c main_arg1 : S4096x4096.Idx → EReal) (funext fun a => Fin.ext ?_)
  match a with
  | ⟨0, _⟩ => exact (Pipeline.Window.rect_emb_val win0_1 t (ix2 x k) 0).trans (by rw [(idx1 t ht).1]; show (t.val / 24) * 1024 + x.val = r.val; omega)
  | ⟨1, _⟩ => exact (Pipeline.Window.rect_emb_val win0_1 t (ix2 x k) 1).trans (by rw [(idx1 t ht).2]; show (t.val % 6 - 1) * 2048 + k.val = 2048 * (t.val % 6 - 1) + k.val; omega)

theorem blk_2 (c : Dev nD) (t : Fin cfg0.N) (ht : t.val % 6 = 3) (x : Fin 1024) (k : Fin 2048) (r : Fin 4096) (hr : r.val = 1024 * (t.val / 24) + x.val) (q : Fin 12288) (hq : q.val = 2048 * (t.val % 6) + k.val) :
    (iblk m c 2 t : S1024x2048.Idx → EReal) (ix2 x k) = ct m c (ix2 r q) := by
  refine Eq.trans ?_ (cat_2 (b0 m c) (b1 m c) (b2 m c) (b3 m c) (b4 m c) r q ⟨2048 * (t.val % 6 - 3) + k.val, by omega⟩ (by show 6144 + (2048 * (t.val % 6 - 3) + k.val) = q.val; omega)).symm
  have e : (V m c main_arg2 : S4096x2048.Idx → EReal) = b2 m c := V_main_arg2 m c
  show _ = b2 m c _
  rw [← e]
  refine congrArg (V m c main_arg2 : S4096x2048.Idx → EReal) (funext fun a => Fin.ext ?_)
  match a with
  | ⟨0, _⟩ => exact (Pipeline.Window.rect_emb_val win0_2 t (ix2 x k) 0).trans (by rw [(idx2 t ht).1]; show (t.val / 24) * 1024 + x.val = r.val; omega)
  | ⟨1, _⟩ => exact (Pipeline.Window.rect_emb_val win0_2 t (ix2 x k) 1).trans (by rw [(idx2 t ht).2]; show (t.val % 6 - 3) * 2048 + k.val = 2048 * (t.val % 6 - 3) + k.val; omega)

theorem blk_3 (c : Dev nD) (t : Fin cfg0.N) (ht : t.val % 6 = 4) (x : Fin 1024) (k : Fin 2048) (r : Fin 4096) (hr : r.val = 1024 * (t.val / 24) + x.val) (q : Fin 12288) (hq : q.val = 2048 * (t.val % 6) + k.val) :
    (iblk m c 3 t : S1024x2048.Idx → EReal) (ix2 x k) = ct m c (ix2 r q) := by
  refine Eq.trans ?_ (cat_3 (b0 m c) (b1 m c) (b2 m c) (b3 m c) (b4 m c) r q ⟨2048 * (t.val % 6 - 4) + k.val, by omega⟩ (by show 8192 + (2048 * (t.val % 6 - 4) + k.val) = q.val; omega)).symm
  have e : (V m c main_arg3 : S4096x2048.Idx → EReal) = b3 m c := V_main_arg3 m c
  show _ = b3 m c _
  rw [← e]
  refine congrArg (V m c main_arg3 : S4096x2048.Idx → EReal) (funext fun a => Fin.ext ?_)
  match a with
  | ⟨0, _⟩ => exact (Pipeline.Window.rect_emb_val win0_3 t (ix2 x k) 0).trans (by rw [(idx3 t ht).1]; show (t.val / 24) * 1024 + x.val = r.val; omega)
  | ⟨1, _⟩ => exact (Pipeline.Window.rect_emb_val win0_3 t (ix2 x k) 1).trans (by rw [(idx3 t ht).2]; show (t.val % 6 - 4) * 2048 + k.val = 2048 * (t.val % 6 - 4) + k.val; omega)

theorem blk_4 (c : Dev nD) (t : Fin cfg0.N) (ht : t.val % 6 = 5) (x : Fin 1024) (k : Fin 2048) (r : Fin 4096) (hr : r.val = 1024 * (t.val / 24) + x.val) (q : Fin 12288) (hq : q.val = 2048 * (t.val % 6) + k.val) :
    (iblk m c 4 t : S1024x2048.Idx → EReal) (ix2 x k) = ct m c (ix2 r q) := by
  refine Eq.trans ?_ (cat_4 (b0 m c) (b1 m c) (b2 m c) (b3 m c) (b4 m c) r q ⟨2048 * (t.val % 6 - 5) + k.val, by omega⟩ (by show 10240 + (2048 * (t.val % 6 - 5) + k.val) = q.val; omega)).symm
  have e : (V m c main_arg4 : S4096x2048.Idx → EReal) = b4 m c := V_main_arg4 m c
  show _ = b4 m c _
  rw [← e]
  refine congrArg (V m c main_arg4 : S4096x2048.Idx → EReal) (funext fun a => Fin.ext ?_)
  match a with
  | ⟨0, _⟩ => exact (Pipeline.Window.rect_emb_val win0_4 t (ix2 x k) 0).trans (by rw [(idx4 t ht).1]; show (t.val / 24) * 1024 + x.val = r.val; omega)
  | ⟨1, _⟩ => exact (Pipeline.Window.rect_emb_val win0_4 t (ix2 x k) 1).trans (by rw [(idx4 t ht).2]; show (t.val % 6 - 5) * 2048 + k.val = 2048 * (t.val % 6 - 5) + k.val; omega)

theorem blk_5 (c : Dev nD) (t : Fin cfg0.N) (y : Fin 512) (k : Fin 2048) (s : Fin 2048) (hs : s.val = 512 * (t.val % 24 / 6) + y.val) (q : Fin 12288) (hq : q.val = 2048 * (t.val % 6) + k.val) :
    (iblk m c 5 t : S512x2048.Idx → EReal) (ix2 y k) = b5 m c (ix2 s q) := by
  have e : (V m c main_arg5 : S2048x12288.Idx → EReal) = b5 m c := V_main_arg5 m c
  rw [← e]
  refine congrArg (V m c main_arg5 : S2048x12288.Idx → EReal) (funext fun a => Fin.ext ?_)
  match a with
  | ⟨0, _⟩ => exact (Pipeline.Window.rect_emb_val win0_5 t (ix2 y k) 0).trans (by rw [(idx5 t).1]; show (t.val % 24 / 6) * 512 + y.val = s.val; omega)
  | ⟨1, _⟩ => exact (Pipeline.Window.rect_emb_val win0_5 t (ix2 y k) 1).trans (by rw [(idx5 t).2]; show (t.val % 6) * 2048 + k.val = q.val; omega)

theorem blk_6 (c : Dev nD) (t : Fin cfg0.N) (x : Fin 1024) (y : Fin 512) (r : Fin 4096) (hr : r.val = 1024 * (t.val / 24) + x.val) (s : Fin 2048) (hs : s.val = 512 * (t.val % 24 / 6) + y.val) :
    (iblk m c 6 t : S1024x512.Idx → EReal) (ix2 x y) = b6 m c (ix2 r s) := by
  have e : (V m c main_arg6 : S4096x2048.Idx → EReal) = b6 m c := V_main_arg6 m c
  rw [← e]
  refine congrArg (V m c main_arg6 : S4096x2048.Idx → EReal) (funext fun a => Fin.ext ?_)
  match a with
  | ⟨0, _⟩ => exact (Pipeline.Window.rect_emb_val win0_6 t (ix2 x y) 0).trans (by rw [(idx6 t).1]; show (t.val / 24) * 1024 + x.val = r.val; omega)
  | ⟨1, _⟩ => exact (Pipeline.Window.rect_emb_val win0_6 t (ix2 x y) 1).trans (by rw [(idx6 t).2]; show (t.val % 24 / 6) * 512 + y.val = s.val; omega)

theorem emb_7 (t : Fin cfg0.N) (x : Fin 1024) (y : Fin 512) :
    (((cfg0.win 7).blk t).view.emb (ix2 x y) : S4096x2048.Idx)
      = ix2 ⟨1024 * (t.val / 24) + x.val, by have := t.isLt; have e : cfg0.N = 96 := N0; omega⟩ ⟨512 * (t.val % 24 / 6) + y.val, by omega⟩ := by
  refine funext fun a => Fin.ext ?_
  match a with
  | ⟨0, _⟩ => exact (Pipeline.Window.rect_emb_val win0_7 t (ix2 x y) 0).trans (by rw [(idx7 t).1]; show (t.val / 24) * 1024 + x.val = 1024 * (t.val / 24) + x.val; omega)
  | ⟨1, _⟩ => exact (Pipeline.Window.rect_emb_val win0_7 t (ix2 x y) 1).trans (by rw [(idx7 t).2]; show (t.val % 24 / 6) * 512 + y.val = 512 * (t.val % 24 / 6) + y.val; omega)

/-! What the accumulator holds after a point: what is stored there, over the blocks the point reads. -/

section reads

variable (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S512x2048 .bf16) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole)

theorem a_A (hc0 : cond0_0 i) (hc1 : cond0_1 i) (hc2 : ¬cond0_2 i) (hc3 : ¬cond0_3 i) (hc4 : ¬cond0_4 i) (hc5 : ¬cond0_5 i) (hc6 : ¬cond0_6 i) (x0 : Vec Ideal S1024x2048 .bf16) (x1 : Vec Ideal S1024x2048 .bf16) (x2 : Vec Ideal S1024x2048 .bf16) (x3 : Vec Ideal S1024x2048 .bf16) (x4 : Vec Ideal S1024x2048 .bf16) (x5 : Vec Ideal S512x2048 .bf16) (x6 : Vec Ideal S1024x512 .f32) :
    sout0_A_0 c i arg3 harg3 arg4 harg4 arg5 harg5 arg6 harg6 arg7 harg7 arg8 harg8 arg9 harg9 arg10 harg10 arg11 harg11 hc0 hc1 hc2 hc3 hc4 hc5 hc6 x0 x1 x2 x3 x4 x5 x6 = k0_pay1 x0 x5 x6 := by
  unfold sout0_A_0
  rw [View.read_writes_eq_canon _ _ _ (fun y => scover0_A_0 (y := y) ..)]
  unfold kernelRun0_A
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S1024x2048) hz, View.ld_unit_zero (S := S512x2048) hz, View.ld_unit_zero (S := S1024x512) hz]

theorem a_B (hc0 : ¬cond0_0 i) (hc2 : cond0_2 i) (hc3 : ¬cond0_3 i) (hc4 : ¬cond0_4 i) (hc5 : ¬cond0_5 i) (hc6 : ¬cond0_6 i) (hc7 : cond0_7 i) (x0 : Vec Ideal S1024x2048 .bf16) (x1 : Vec Ideal S1024x2048 .bf16) (x2 : Vec Ideal S1024x2048 .bf16) (x3 : Vec Ideal S1024x2048 .bf16) (x4 : Vec Ideal S1024x2048 .bf16) (x5 : Vec Ideal S512x2048 .bf16) (x6 : Vec Ideal S1024x512 .f32) (xs0 : Vec Ideal S1024x512 .f32) :
    sout0_B_0 c i arg3 harg3 arg4 harg4 arg5 harg5 arg6 harg6 arg7 harg7 arg8 harg8 arg9 harg9 arg10 harg10 arg11 harg11 hc0 hc2 hc3 hc4 hc5 hc6 hc7 x0 x1 x2 x3 x4 x5 x6 xs0 = k0_pay2 x1 x5 xs0 := by
  unfold sout0_B_0
  rw [View.read_writes_eq_canon _ _ _ (fun y => scover0_B_0 (y := y) ..)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S1024x2048) hz, View.ld_unit_zero (S := S512x2048) hz, View.ld_unit_zero (S := S1024x512) hz]

theorem a_C (hc0 : ¬cond0_0 i) (hc2 : ¬cond0_2 i) (hc3 : cond0_3 i) (hc4 : ¬cond0_4 i) (hc5 : ¬cond0_5 i) (hc6 : ¬cond0_6 i) (hc8 : cond0_8 i) (x0 : Vec Ideal S1024x2048 .bf16) (x1 : Vec Ideal S1024x2048 .bf16) (x2 : Vec Ideal S1024x2048 .bf16) (x3 : Vec Ideal S1024x2048 .bf16) (x4 : Vec Ideal S1024x2048 .bf16) (x5 : Vec Ideal S512x2048 .bf16) (x6 : Vec Ideal S1024x512 .f32) (xs0 : Vec Ideal S1024x512 .f32) :
    sout0_C_0 c i arg3 harg3 arg4 harg4 arg5 harg5 arg6 harg6 arg7 harg7 arg8 harg8 arg9 harg9 arg10 harg10 arg11 harg11 hc0 hc2 hc3 hc4 hc5 hc6 hc8 x0 x1 x2 x3 x4 x5 x6 xs0 = k0_pay3 x2 x5 xs0 := by
  unfold sout0_C_0
  rw [View.read_writes_eq_canon _ _ _ (fun y => scover0_C_0 (y := y) ..)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S1024x2048) hz, View.ld_unit_zero (S := S512x2048) hz, View.ld_unit_zero (S := S1024x512) hz]

theorem a_D (hc0 : ¬cond0_0 i) (hc2 : ¬cond0_2 i) (hc3 : ¬cond0_3 i) (hc4 : cond0_4 i) (hc5 : ¬cond0_5 i) (hc6 : ¬cond0_6 i) (hc9 : cond0_9 i) (x0 : Vec Ideal S1024x2048 .bf16) (x1 : Vec Ideal S1024x2048 .bf16) (x2 : Vec Ideal S1024x2048 .bf16) (x3 : Vec Ideal S1024x2048 .bf16) (x4 : Vec Ideal S1024x2048 .bf16) (x5 : Vec Ideal S512x2048 .bf16) (x6 : Vec Ideal S1024x512 .f32) (xs0 : Vec Ideal S1024x512 .f32) :
    sout0_D_0 c i arg3 harg3 arg4 harg4 arg5 harg5 arg6 harg6 arg7 harg7 arg8 harg8 arg9 harg9 arg10 harg10 arg11 harg11 hc0 hc2 hc3 hc4 hc5 hc6 hc9 x0 x1 x2 x3 x4 x5 x6 xs0 = k0_pay4 x3 x5 xs0 := by
  unfold sout0_D_0
  rw [View.read_writes_eq_canon _ _ _ (fun y => scover0_D_0 (y := y) ..)]
  unfold kernelRun0_D
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S1024x2048) hz, View.ld_unit_zero (S := S512x2048) hz, View.ld_unit_zero (S := S1024x512) hz]

theorem a_E (hc0 : ¬cond0_0 i) (hc2 : ¬cond0_2 i) (hc3 : ¬cond0_3 i) (hc4 : ¬cond0_4 i) (hc5 : cond0_5 i) (hc6 : cond0_6 i) (hc10 : cond0_10 i) (x0 : Vec Ideal S1024x2048 .bf16) (x1 : Vec Ideal S1024x2048 .bf16) (x2 : Vec Ideal S1024x2048 .bf16) (x3 : Vec Ideal S1024x2048 .bf16) (x4 : Vec Ideal S1024x2048 .bf16) (x5 : Vec Ideal S512x2048 .bf16) (x6 : Vec Ideal S1024x512 .f32) (xs0 : Vec Ideal S1024x512 .f32) :
    sout0_E_0 c i arg3 harg3 arg4 harg4 arg5 harg5 arg6 harg6 arg7 harg7 arg8 harg8 arg9 harg9 arg10 harg10 arg11 harg11 hc0 hc2 hc3 hc4 hc5 hc6 hc10 x0 x1 x2 x3 x4 x5 x6 xs0 = k0_pay5 x4 x5 xs0 := by
  unfold sout0_E_0
  rw [View.read_writes_eq_canon _ _ _ (fun y => scover0_E_0 (y := y) ..)]
  unfold kernelRun0_E
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, View.ld_unit_zero (S := S1024x2048) hz, View.ld_unit_zero (S := S512x2048) hz, View.ld_unit_zero (S := S1024x512) hz]

theorem o_E (hc0 : ¬cond0_0 i) (hc2 : ¬cond0_2 i) (hc3 : ¬cond0_3 i) (hc4 : ¬cond0_4 i) (hc5 : cond0_5 i) (hc6 : cond0_6 i) (hc10 : cond0_10 i) (x0 : Vec Ideal S1024x2048 .bf16) (x1 : Vec Ideal S1024x2048 .bf16) (x2 : Vec Ideal S1024x2048 .bf16) (x3 : Vec Ideal S1024x2048 .bf16) (x4 : Vec Ideal S1024x2048 .bf16) (x5 : Vec Ideal S512x2048 .bf16) (x6 : Vec Ideal S1024x512 .f32) (xs0 : Vec Ideal S1024x512 .f32) :
    out0_E_7 c i arg3 harg3 arg4 harg4 arg5 harg5 arg6 harg6 arg7 harg7 arg8 harg8 arg9 harg9 arg10 harg10 arg11 harg11 hc0 hc2 hc3 hc4 hc5 hc6 hc10 x0 x1 x2 x3 x4 x5 x6 xs0 = k0_pay5 x4 x5 xs0 := by
  unfold out0_E_7
  rw [View.read_writes_eq_canon _ _ _ (fun y => cover0_E_7 (y := y) ..)]
  unfold kernelRun0_E
  dsimp only
  sl_unfold_words
  rw [View.canon_unit_zero hz, View.readCov_unit_zero (S := S1024x512) _ hz]
  simp only [View.readAt_eq_ld, harg3.read_unread, harg4.read_unread, harg5.read_unread, harg6.read_unread, harg7.read_unread, harg8.read_unread, harg9.read_unread, harg10.read_unread, harg11.read_unread, View.ld_unit_zero (S := S1024x2048) hz, View.ld_unit_zero (S := S512x2048) hz, View.ld_unit_zero (S := S1024x512) hz]

end reads

/-! An entry of what is stored. -/

theorem pay_0 (x0 : Vec Ideal S1024x2048 .bf16) (x1 : Vec Ideal S512x2048 .bf16) (x2 : Vec Ideal S1024x512 .f32) (x : Fin 1024) (y : Fin 512) :
    (k0_pay1 x0 x1 x2 : S1024x512.Idx → EReal) (ix2 x y) = (∑ k : Fin 2048, (x0 : S1024x2048.Idx → EReal) (ix2 x k) * (x1 : S512x2048.Idx → EReal) (ix2 y k)) + (x2 : S1024x512.Idx → EReal) (ix2 x y) := by
  unfold k0_pay1
  pointwise

theorem pay_1 (x0 : Vec Ideal S1024x2048 .bf16) (x1 : Vec Ideal S512x2048 .bf16) (x2 : Vec Ideal S1024x512 .f32) (x : Fin 1024) (y : Fin 512) :
    (k0_pay2 x0 x1 x2 : S1024x512.Idx → EReal) (ix2 x y) = (x2 : S1024x512.Idx → EReal) (ix2 x y) + ∑ k : Fin 2048, (x0 : S1024x2048.Idx → EReal) (ix2 x k) * (x1 : S512x2048.Idx → EReal) (ix2 y k) := by
  unfold k0_pay2
  pointwise

theorem pay_2 (x0 : Vec Ideal S1024x2048 .bf16) (x1 : Vec Ideal S512x2048 .bf16) (x2 : Vec Ideal S1024x512 .f32) (x : Fin 1024) (y : Fin 512) :
    (k0_pay3 x0 x1 x2 : S1024x512.Idx → EReal) (ix2 x y) = (x2 : S1024x512.Idx → EReal) (ix2 x y) + ∑ k : Fin 2048, (x0 : S1024x2048.Idx → EReal) (ix2 x k) * (x1 : S512x2048.Idx → EReal) (ix2 y k) := by
  unfold k0_pay3
  pointwise

theorem pay_3 (x0 : Vec Ideal S1024x2048 .bf16) (x1 : Vec Ideal S512x2048 .bf16) (x2 : Vec Ideal S1024x512 .f32) (x : Fin 1024) (y : Fin 512) :
    (k0_pay4 x0 x1 x2 : S1024x512.Idx → EReal) (ix2 x y) = (x2 : S1024x512.Idx → EReal) (ix2 x y) + ∑ k : Fin 2048, (x0 : S1024x2048.Idx → EReal) (ix2 x k) * (x1 : S512x2048.Idx → EReal) (ix2 y k) := by
  unfold k0_pay4
  pointwise

theorem pay_4 (x0 : Vec Ideal S1024x2048 .bf16) (x1 : Vec Ideal S512x2048 .bf16) (x2 : Vec Ideal S1024x512 .f32) (x : Fin 1024) (y : Fin 512) :
    (k0_pay5 x0 x1 x2 : S1024x512.Idx → EReal) (ix2 x y) = (x2 : S1024x512.Idx → EReal) (ix2 x y) + ∑ k : Fin 2048, (x0 : S1024x2048.Idx → EReal) (ix2 x k) * (x1 : S512x2048.Idx → EReal) (ix2 y k) := by
  unfold k0_pay5
  pointwise

/-- One term of an entry of the product; zero past the end. -/
def term (c : Dev nD) (r : Fin 4096) (s : Fin 2048) (i : ℕ) : EReal :=
  if h : i < 12288 then ct m c (ix2 r ⟨i, h⟩) * b5 m c (ix2 s ⟨i, h⟩) else 0

theorem term_eq (c : Dev nD) (r : Fin 4096) (s : Fin 2048) (i : ℕ) (h : i < 12288) : term m c r s i = ct m c (ix2 r ⟨i, h⟩) * b5 m c (ix2 s ⟨i, h⟩) := dif_pos h

/-- One point's product, as the terms it adds. -/
theorem part_of (c : Dev nD) (r : Fin 4096) (s : Fin 2048) (q : ℕ) (hq : q < 6) (f g : Fin 2048 → EReal)
    (hf : ∀ (k : Fin 2048) (j : Fin 12288), j.val = 2048 * q + k.val → f k = ct m c (ix2 r j))
    (hg : ∀ (k : Fin 2048) (j : Fin 12288), j.val = 2048 * q + k.val → g k = b5 m c (ix2 s j)) :
    ∑ k : Fin 2048, f k * g k = ∑ i ∈ Finset.range 2048, term m c r s (2048 * q + i) := by
  rw [Finset.sum_range]
  refine Finset.sum_congr rfl fun k _ => ?_
  rw [term_eq m c r s _ (by omega), hf k ⟨2048 * q + k.val, by omega⟩ rfl, hg k ⟨2048 * q + k.val, by omega⟩ rfl]

/-- Adding a point's terms to the terms before. -/
theorem grow (f : ℕ → EReal) (b : EReal) (q : ℕ) (hq : 1 ≤ q) :
    (b + ∑ i ∈ Finset.range (2048 * (q - 1 + 1)), f i) + ∑ i ∈ Finset.range 2048, f (2048 * q + i) = b + ∑ i ∈ Finset.range (2048 * (q + 1)), f i := by
  rw [Nat.sub_add_cancel hq, add_assoc, ← Finset.sum_range_add, Nat.mul_succ]

/-- The accumulator after a point: the gradient from elsewhere and the terms of the points so far. -/
theorem acc (c : Dev nD) : ∀ (n : ℕ) (hn : n < cfg0.N) (x : Fin 1024) (y : Fin 512) (r : Fin 4096) (s : Fin 2048),
    r.val = 1024 * (n / 24) + x.val → s.val = 512 * (n % 24 / 6) + y.val →
    ((outsAt0 m c n hn).2 : S1024x512.Idx → EReal) (ix2 x y) = b6 m c (ix2 r s) + ∑ i ∈ Finset.range (2048 * (n % 6 + 1)), term m c r s i := by
  intro n
  induction n using Nat.strong_induction_on with
  | _ n ih =>
    intro hn x y r s hr hs
    have hlt : n % 6 < 6 := Nat.mod_lt _ (by omega)
    by_cases h0 : n % 6 = 0
    · rw [show outsAt0 m c n hn = _ from outsAt0_A m c ⟨n, hn⟩ h0 h0 (by dsimp only; omega) (by dsimp only; omega) (by dsimp only; omega) (by dsimp only; omega) (by dsimp only; omega)]
      dsimp only
      rw [a_A, pay_0]
      rw [part_of m c r s (n % 6) hlt _ _ (fun k j hj => blk_0 m c ⟨n, hn⟩ h0 x k r hr j hj) (fun k j hj => blk_5 m c ⟨n, hn⟩ y k s hs j hj)]
      rw [blk_6 m c ⟨n, hn⟩ x y r hr s hs, h0, add_comm]
      simp only [Nat.mul_zero, Nat.zero_add, Nat.mul_one]
    have hp := ih (n - 1) (by omega) (Nat.lt_of_le_of_lt (Nat.sub_le _ _) hn) x y r s (by omega) (by omega)
    rw [show (n - 1) % 6 = n % 6 - 1 by omega] at hp
    by_cases H : 1 ≤ n % 6 ∧ n % 6 ≤ 2
    · rw [show outsAt0 m c n hn = _ from outsAt0_B m c ⟨n, hn⟩ h0 H (by dsimp only; omega) (by dsimp only; omega) (by dsimp only; omega) (by dsimp only; omega) (by dsimp only; omega)]
      dsimp only
      rw [a_B, pay_1]
      rw [part_of m c r s (n % 6) hlt _ _ (fun k j hj => blk_1 m c ⟨n, hn⟩ H x k r hr j hj) (fun k j hj => blk_5 m c ⟨n, hn⟩ y k s hs j hj)]
      rw [hp]
      exact grow _ _ _ (by omega)
    by_cases H : n % 6 = 3
    · rw [show outsAt0 m c n hn = _ from outsAt0_C m c ⟨n, hn⟩ h0 (by dsimp only; omega) H (by dsimp only; omega) (by dsimp only; omega) (by dsimp only; omega) (by dsimp only; omega)]
      dsimp only
      rw [a_C, pay_2]
      rw [part_of m c r s (n % 6) hlt _ _ (fun k j hj => blk_2 m c ⟨n, hn⟩ H x k r hr j hj) (fun k j hj => blk_5 m c ⟨n, hn⟩ y k s hs j hj)]
      rw [hp]
      exact grow _ _ _ (by omega)
    by_cases H : n % 6 = 4
    · rw [show outsAt0 m c n hn = _ from outsAt0_D m c ⟨n, hn⟩ h0 (by dsimp only; omega) (by dsimp only; omega) H (by dsimp only; omega) (by dsimp only; omega) (by dsimp only; omega)]
      dsimp only
      rw [a_D, pay_3]
      rw [part_of m c r s (n % 6) hlt _ _ (fun k j hj => blk_3 m c ⟨n, hn⟩ H x k r hr j hj) (fun k j hj => blk_5 m c ⟨n, hn⟩ y k s hs j hj)]
      rw [hp]
      exact grow _ _ _ (by omega)
    · have H : n % 6 = 5 := by omega
      rw [show outsAt0 m c n hn = _ from outsAt0_E m c ⟨n, hn⟩ h0 (by dsimp only; omega) (by dsimp only; omega) (by dsimp only; omega) H H (by dsimp only; omega)]
      dsimp only
      rw [a_E, pay_4]
      rw [part_of m c r s (n % 6) hlt _ _ (fun k j hj => blk_4 m c ⟨n, hn⟩ H x k r hr j hj) (fun k j hj => blk_5 m c ⟨n, hn⟩ y k s hs j hj)]
      rw [hp]
      exact grow _ _ _ (by omega)

/-- The whole result. -/
abbrev res (c : Dev nD) : S4096x2048.Idx → EReal := fun i => b6 m c i + ∑ k : Fin 12288, ct m c (ix2 (i 0) k) * b5 m c (ix2 (i 1) k)

/-- The result array holds the whole result. -/
theorem arr_7 (c : Dev nD) : (dats m 0 c).arrAt 7 cfg0.N = res m c := by
  refine (dats m 0 c).arrAt_eq_of_covers 7 _ (by decide +kernel) fun t hf j => ?_
  obtain ⟨x, y, rfl⟩ : ∃ (x : Fin 1024) (z : Fin 512), j = ix2 x z := ⟨j 0, j 1, eq_ix2 j⟩
  have h5 := flush7 t hf
  rw [emb_7, after0_7]
  have hN : cfg0.N = 96 := N0
  have ht := t.isLt
  have key := acc m c t.val t.isLt x y ⟨1024 * (t.val / 24) + x.val, by omega⟩ ⟨512 * (t.val % 24 / 6) + y.val, by omega⟩ rfl rfl
  have hE := outsAt0_E m c t (by omega) (by omega) (by omega) (by omega) h5 h5 (by omega)
  have same : (outsAt0 m c t.val t.isLt).1 = (outsAt0 m c t.val t.isLt).2 := by
    rw [hE]
    dsimp only
    rw [o_E, a_E]
  refine (congrFun same (ix2 x y)).trans (key.trans ?_)
  rw [h5]
  refine congrArg₂ (· + ·) rfl ?_
  rw [show 2048 * (5 + 1) = 12288 from rfl, Finset.sum_range]
  exact Finset.sum_congr rfl fun k _ => term_eq m c _ _ _ k.isLt

/-- An entry of the reference's result. -/
theorem ref_at (x : FVec Ideal S4096x12288 .bf16) (w : FVec Ideal S2048x12288 .bf16) (z : FVec Ideal S4096x2048 .f32) (i : S4096x2048.Idx) :
    (addf (Host.dotGeneral Cert.Reference9Ideal.dot_S4096x12288_S2048x12288_S4096x2048_1_1_0_0_n_n none (extf .f32 x Cert.Reference9Ideal.Gen.bitsLt_bf16_f32) (extf .f32 w Cert.Reference9Ideal.Gen.bitsLt_bf16_f32)) z : FVec Ideal S4096x2048 .f32) i
      = (∑ k : Fin 12288, (x : S4096x12288.Idx → EReal) (ix2 (i 0) k) * (w : S2048x12288.Idx → EReal) (ix2 (i 1) k)) + (z : S4096x2048.Idx → EReal) i := by
  obtain ⟨r, s, rfl⟩ : ∃ (r : Fin 4096) (s : Fin 2048), i = ix2 r s := ⟨i 0, i 1, eq_ix2 i⟩
  pointwise

/-- The kernel and the reference have the same result. -/
theorem algebraic : Cert.algebraic_Kernel9Ideal_Reference9Ideal (hKernel9Ideal := Cert.Kernel9Ideal.Gen.facts) (hReference9Ideal := Cert.Reference9Ideal.Gen.facts) := by
  intro m g m' g' _ hm
  refine ⟨fun c => res m c, ?_, ?_⟩
  · exact (θ_run Cert.Kernel9Ideal.defs _ _).mono (fun r h c => ⟨(h c).1.trans (arr_7 m c), (h c).2⟩) (Cert.Kernel9Ideal.Value.run_blocks (F := Ideal) m g)
  · refine (θ_run Cert.Reference9Ideal.defs _ _).mono (fun r h c => ⟨(h c).1.trans ?_, (h c).2⟩) (Cert.Reference9Ideal.Value.run (F := Ideal) m' g')
    rw [(hm c).1, (hm c).2.1, (hm c).2.2.1, (hm c).2.2.2.1, (hm c).2.2.2.2.1, (hm c).2.2.2.2.2.1, (hm c).2.2.2.2.2.2]
    exact funext fun i => (ref_at (ct m c) (b5 m c) (b6 m c) i).trans (add_comm _ _)

end Cert.Kernel9Ideal.Hand
-- ==== Proof.Pm.lean ====
module

public import proofs.«01_k».proof.Defs
public import proofs.«01_k».proof.Proof.Gen.Kernel10Ideal.Value
public import proofs.«01_k».proof.Proof.Gen.Reference10Ideal.Run
public import Idealize.ShloMosaic.Lib.Pipeline.ValueKit.Geometry
public import Idealize.ShloMosaic.Lib.Pointwise

@[expose] public section

set_option maxRecDepth 16384

noncomputable section

namespace Cert.Kernel10Ideal.Hand

open Cert.Kernel10Ideal Cert.Kernel10Ideal.Gen
open Idealize.ShloMosaic Idealize.ShloMosaic.TcCoe Idealize.ShloMosaic.Tactic

variable (m : (ℓ : Loc nD τ sig) → Buf (Elt Ideal) ℓ)

/-! ## The product, block by block: every block is the product of a row block and a column block of the arguments -/

theorem N0 : cfg0.N = 48 := by decide +kernel

theorem hz : (![0, 0] : Fin 2 → Nat) = fun _ => 0 := funext fun a => by fin_cases a <;> rfl

theorem idx0 : ∀ t : Fin cfg0.N, win0_0.index t 0 = t.val / 12 ∧ win0_0.index t 1 = 0 :=
  (by decide +kernel : ∀ t : Fin grid0.N, _)

theorem idx1 : ∀ t : Fin cfg0.N, win0_1.index t 0 = 0 ∧ win0_1.index t 1 = t.val % 12 :=
  (by decide +kernel : ∀ t : Fin grid0.N, _)

theorem idx2 : ∀ t : Fin cfg0.N, win0_2.index t 0 = t.val / 12 ∧ win0_2.index t 1 = t.val % 12 :=
  (by decide +kernel : ∀ t : Fin grid0.N, _)

/-- The two arguments. -/
abbrev b0 (c : Dev nD) : S4096x2048.Idx → EReal := m ((c.tc : Thread nD τ).loc main_arg0)
abbrev b1 (c : Dev nD) : S2048x12288.Idx → EReal := m ((c.tc : Thread nD τ).loc main_arg1)

theorem blk_0 (c : Dev nD) (t : Fin cfg0.N) (x : Fin 1024) (k : Fin 2048) :
    (iblk m c 0 t : S1024x2048.Idx → EReal) (ix2 x k)
      = b0 m c (ix2 ⟨1024 * (t.val / 12) + x.val, by have := t.isLt; have e : cfg0.N = 48 := N0; omega⟩ k) := by
  have e : (V m c main_arg0 : S4096x2048.Idx → EReal) = b0 m c := V_main_arg0 m c
  rw [← e]
  refine congrArg (V m c main_arg0 : S4096x2048.Idx → EReal) (funext fun a => Fin.ext ?_)
  match a with
  | ⟨0, _⟩ => exact (Pipeline.Window.rect_emb_val win0_0 t (ix2 x k) 0).trans (by rw [(idx0 t).1]; show (t.val / 12) * 1024 + x.val = 1024 * (t.val / 12) + x.val; omega)
  | ⟨1, _⟩ => exact (Pipeline.Window.rect_emb_val win0_0 t (ix2 x k) 1).trans (by rw [(idx0 t).2]; show 0 * 2048 + k.val = k.val; omega)

theorem blk_1 (c : Dev nD) (t : Fin cfg0.N) (k : Fin 2048) (y : Fin 1024) :
    (iblk m c 1 t : S2048x1024.Idx → EReal) (ix2 k y)
      = b1 m c (ix2 k ⟨1024 * (t.val % 12) + y.val, by omega⟩) := by
  have e : (V m c main_arg1 : S2048x12288.Idx → EReal) = b1 m c := V_main_arg1 m c
  rw [← e]
  refine congrArg (V m c main_arg1 : S2048x12288.Idx → EReal) (funext fun a => Fin.ext ?_)
  match a with
  | ⟨0, _⟩ => exact (Pipeline.Window.rect_emb_val win0_1 t (ix2 k y) 0).trans (by rw [(idx1 t).1]; show 0 * 2048 + k.val = k.val; omega)
  | ⟨1, _⟩ => exact (Pipeline.Window.rect_emb_val win0_1 t (ix2 k y) 1).trans (by rw [(idx1 t).2]; show (t.val % 12) * 1024 + y.val = 1024 * (t.val % 12) + y.val; omega)

theorem emb_2 (t : Fin cfg0.N) (x : Fin 1024) (y : Fin 1024) :
    (((cfg0.win 2).blk t).view.emb (ix2 x y) : S4096x12288.Idx)
      = ix2 ⟨1024 * (t.val / 12) + x.val, by have := t.isLt; have e : cfg0.N = 48 := N0; omega⟩ ⟨1024 * (t.val % 12) + y.val, by omega⟩ := by
  refine funext fun a => Fin.ext ?_
  match a with
  | ⟨0, _⟩ => exact (Pipeline.Window.rect_emb_val win0_2 t (ix2 x y) 0).trans (by rw [(idx2 t).1]; show (t.val / 12) * 1024 + x.val = 1024 * (t.val / 12) + x.val; omega)
  | ⟨1, _⟩ => exact (Pipeline.Window.rect_emb_val win0_2 t (ix2 x y) 1).trans (by rw [(idx2 t).2]; show (t.val % 12) * 1024 + y.val = 1024 * (t.val % 12) + y.val; omega)

/-- What is stored at every point: the product of the two loaded blocks. -/
theorem out_A (c : Dev nD) (i : grid0.Coords) (a3 : Memref sig .tc .vmem S1024x2048 .bf16) (h3 : a3.IsWhole) (a4 : Memref sig .tc .vmem S2048x1024 .bf16) (h4 : a4.IsWhole)
    (a5 : Memref sig .tc .vmem S1024x1024 .f32) (h5 : a5.IsWhole) (a6 : Memref sig .tc .vmem S1024x1024 .f32) (h6 : a6.IsWhole) (hc0 : cond0_0 i) (hc1 : cond0_1 i)
    (x0 : Vec Ideal S1024x2048 .bf16) (x1 : Vec Ideal S2048x1024 .bf16) :
    out0_A_2 c i a3 h3 a4 h4 a5 h5 a6 h6 hc0 hc1 x0 x1 = k0_pay1 x0 x1 := by
  unfold out0_A_2
  rw [View.read_writes_eq_canon _ _ _ (cover0_A_2 c i a3 h3 a4 h4 a5 h5 a6 h6 hc0 hc1 x0 x1)]
  unfold kernelRun0_A
  dsimp only
  sl_unfold_words
  rw [View.canon_unit_zero hz, View.readCov_unit_zero (S := S1024x1024) _ hz]
  simp only [View.readAt_eq_ld, h3.read_unread, h4.read_unread, View.ld_unit_zero (S := S1024x2048) hz, View.ld_unit_zero (S := S2048x1024) hz]

/-- An entry of the product of two blocks. -/
theorem pay_at (x0 : Vec Ideal S1024x2048 .bf16) (x1 : Vec Ideal S2048x1024 .bf16) (x : Fin 1024) (y : Fin 1024) :
    (k0_pay1 x0 x1 : S1024x1024.Idx → EReal) (ix2 x y) = ∑ k : Fin 2048, (x0 : S1024x2048.Idx → EReal) (ix2 x k) * (x1 : S2048x1024.Idx → EReal) (ix2 k y) := by
  unfold k0_pay1
  pointwise

/-- The whole product. -/
abbrev prod (c : Dev nD) : S4096x12288.Idx → EReal := fun i => ∑ k : Fin 2048, b0 m c (ix2 (i 0) k) * b1 m c (ix2 k (i 1))

/-- The result array holds the whole product. -/
theorem arr_2 (c : Dev nD) : (dats m 0 c).arrAt 2 cfg0.N = prod m c := by
  refine (dats m 0 c).arrAt_eq_of_covers 2 _ (by decide +kernel) fun t hf j => ?_
  obtain ⟨x, y, rfl⟩ : ∃ (x : Fin 1024) (z : Fin 1024), j = ix2 x z := ⟨j 0, j 1, eq_ix2 j⟩
  rw [emb_2]
  refine Eq.trans (b := (k0_pay1 (iblk m c 0 t) (iblk m c 1 t) : S1024x1024.Idx → EReal) (ix2 x y)) ?_ ?_
  · rw [after0_2]
    unfold outsAt0
    rw [out_A]
    rfl
  · rw [pay_at]
    exact Finset.sum_congr rfl fun k _ => congrArg₂ (· * ·) (blk_0 m c t x k) (blk_1 m c t k y)

/-- An entry of the reference's result. -/
theorem ref_at (x : FVec Ideal S4096x2048 .bf16) (y : FVec Ideal S2048x12288 .bf16) (i : S4096x12288.Idx) :
    (Host.dotGeneral Cert.Reference10Ideal.dot_S4096x2048_S2048x12288_S4096x12288_1_0_0_1_n_n none (extf .f32 x Cert.Reference10Ideal.Gen.bitsLt_bf16_f32) (extf .f32 y Cert.Reference10Ideal.Gen.bitsLt_bf16_f32) : FVec Ideal S4096x12288 .f32) i
      = ∑ k : Fin 2048, (x : S4096x2048.Idx → EReal) (ix2 (i 0) k) * (y : S2048x12288.Idx → EReal) (ix2 k (i 1)) := by
  obtain ⟨r, s, rfl⟩ : ∃ (r : Fin 4096) (s : Fin 12288), i = ix2 r s := ⟨i 0, i 1, eq_ix2 i⟩
  pointwise

/-- The kernel and the reference have the same result. -/
theorem algebraic : Cert.algebraic_Kernel10Ideal_Reference10Ideal (hKernel10Ideal := Cert.Kernel10Ideal.Gen.facts) (hReference10Ideal := Cert.Reference10Ideal.Gen.facts) := by
  intro m g m' g' _ hm
  refine ⟨fun c => prod m c, ?_, ?_⟩
  · exact (θ_run Cert.Kernel10Ideal.defs _ _).mono (fun r h c => ⟨(h c).1.trans (arr_2 m c), (h c).2⟩) (Cert.Kernel10Ideal.Value.run_blocks (F := Ideal) m g)
  · refine (θ_run Cert.Reference10Ideal.defs _ _).mono (fun r h c => ⟨(h c).1.trans ?_, (h c).2⟩) (Cert.Reference10Ideal.Value.run (F := Ideal) m' g')
    rw [(hm c).1, (hm c).2]
    exact funext fun i => ref_at (b0 m c) (b1 m c) i

end Cert.Kernel10Ideal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.On_stored
public import proofs.«01_k».proof.Proof.Frame
public import proofs.«01_k».proof.Proof.FrameBits
public import proofs.«01_k».proof.Proof.Alg
public import proofs.«01_k».proof.Proof.Gen.Kernel2
public import proofs.«01_k».proof.Proof.Gen.Kernel2Ideal.Frame
public import proofs.«01_k».proof.Proof.Gen.Reference2Ideal.Run
public import proofs.«01_k».proof.Proof.Gen.Kernel2.Frame
public import proofs.«01_k».proof.Proof.Mb9
public import proofs.«01_k».proof.Proof.Gen.Kernel3
public import proofs.«01_k».proof.Proof.Gen.Kernel3Ideal.Frame
public import proofs.«01_k».proof.Proof.Gen.Reference3Ideal.Run
public import proofs.«01_k».proof.Proof.Gen.Kernel3.Frame
public import proofs.«01_k».proof.Proof.Dw3
public import proofs.«01_k».proof.Proof.Gen.Kernel4
public import proofs.«01_k».proof.Proof.Gen.Kernel4Ideal.Frame
public import proofs.«01_k».proof.Proof.Gen.Reference4Ideal.Run
public import proofs.«01_k».proof.Proof.Gen.Kernel4.Frame
public import proofs.«01_k».proof.Proof.Dw4
public import proofs.«01_k».proof.Proof.Gen.Kernel5
public import proofs.«01_k».proof.Proof.Gen.Kernel5Ideal.Frame
public import proofs.«01_k».proof.Proof.Gen.Reference5Ideal.Run
public import proofs.«01_k».proof.Proof.Gen.Kernel5.Frame
public import proofs.«01_k».proof.Proof.Dw5
public import proofs.«01_k».proof.Proof.Gen.Kernel6
public import proofs.«01_k».proof.Proof.Gen.Kernel6Ideal.Frame
public import proofs.«01_k».proof.Proof.Gen.Reference6Ideal.Run
public import proofs.«01_k».proof.Proof.Gen.Kernel6.Frame
public import proofs.«01_k».proof.Proof.Ol9
public import proofs.«01_k».proof.Proof.Gen.Kernel7
public import proofs.«01_k».proof.Proof.Gen.Kernel7Ideal.Frame
public import proofs.«01_k».proof.Proof.Gen.Reference7Ideal.Run
public import proofs.«01_k».proof.Proof.Gen.Kernel7.Frame
public import proofs.«01_k».proof.Proof.Mf
public import proofs.«01_k».proof.Proof.Gen.Kernel8
public import proofs.«01_k».proof.Proof.Gen.Kernel8Ideal.Frame
public import proofs.«01_k».proof.Proof.Gen.Reference8Ideal.Run
public import proofs.«01_k».proof.Proof.Gen.Kernel8.Frame
public import proofs.«01_k».proof.Proof.Dw8
public import proofs.«01_k».proof.Proof.Gen.Kernel9
public import proofs.«01_k».proof.Proof.Gen.Kernel9Ideal.Frame
public import proofs.«01_k».proof.Proof.Gen.Reference9Ideal.Run
public import proofs.«01_k».proof.Proof.Gen.Kernel9.Frame
public import proofs.«01_k».proof.Proof.Dh9
public import proofs.«01_k».proof.Proof.Gen.Kernel10
public import proofs.«01_k».proof.Proof.Gen.Kernel10Ideal.Frame
public import proofs.«01_k».proof.Proof.Gen.Reference10Ideal.Run
public import proofs.«01_k».proof.Proof.Gen.Kernel10.Frame
public import proofs.«01_k».proof.Proof.Pm
public import Idealize.ShloMosaic.Adequacy
public import Idealize.ShloMosaic.Init

@[expose] public section

noncomputable section

namespace Cert.Proof

open Idealize.ShloMosaic Idealize.SL.Sem Cert.Kernel

theorem frame_kernel2 : Cert.quiescent_Kernel2 (hKernel2 := Cert.Kernel2.Gen.facts) :=
  fun m ρ _ => Cert.Kernel2.Gen.frame m ρ

theorem frame_kernel2_ideal : Cert.quiescent_Kernel2Ideal (hKernel2Ideal := Cert.Kernel2Ideal.Gen.facts) :=
  fun m ρ _ => Cert.Kernel2Ideal.Gen.frame (F := Ideal) m ρ

theorem frame_reference2 : Cert.quiescent_Reference2Ideal (hReference2Ideal := Cert.Reference2Ideal.Gen.facts) :=
  fun m ρ _ => (θ_run Cert.Reference2Ideal.defs _ _).mono
    (fun r h => ⟨fun c => (h c).2.2.2.2.2.2.2.2.2, Idealize.ShloMosaic.sem_eq_zero_of_no_sems (by decide) r.2⟩)
    (Cert.Reference2Ideal.Value.run (F := Ideal) m ρ)

theorem frame_kernel3 : Cert.quiescent_Kernel3 (hKernel3 := Cert.Kernel3.Gen.facts) :=
  fun m ρ _ => Cert.Kernel3.Gen.frame m ρ

theorem frame_kernel3_ideal : Cert.quiescent_Kernel3Ideal (hKernel3Ideal := Cert.Kernel3Ideal.Gen.facts) :=
  fun m ρ _ => Cert.Kernel3Ideal.Gen.frame (F := Ideal) m ρ

theorem frame_reference3 : Cert.quiescent_Reference3Ideal (hReference3Ideal := Cert.Reference3Ideal.Gen.facts) :=
  fun m ρ _ => (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem frame_kernel4 : Cert.quiescent_Kernel4 (hKernel4 := Cert.Kernel4.Gen.facts) :=
  fun m ρ _ => Cert.Kernel4.Gen.frame m ρ

theorem frame_kernel4_ideal : Cert.quiescent_Kernel4Ideal (hKernel4Ideal := Cert.Kernel4Ideal.Gen.facts) :=
  fun m ρ _ => Cert.Kernel4Ideal.Gen.frame (F := Ideal) m ρ

theorem frame_reference4 : Cert.quiescent_Reference4Ideal (hReference4Ideal := Cert.Reference4Ideal.Gen.facts) :=
  fun m ρ _ => (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem frame_kernel5 : Cert.quiescent_Kernel5 (hKernel5 := Cert.Kernel5.Gen.facts) :=
  fun m ρ _ => Cert.Kernel5.Gen.frame m ρ

theorem frame_kernel5_ideal : Cert.quiescent_Kernel5Ideal (hKernel5Ideal := Cert.Kernel5Ideal.Gen.facts) :=
  fun m ρ _ => Cert.Kernel5Ideal.Gen.frame (F := Ideal) m ρ

theorem frame_reference5 : Cert.quiescent_Reference5Ideal (hReference5Ideal := Cert.Reference5Ideal.Gen.facts) :=
  fun m ρ _ => (θ_run Cert.Reference5Ideal.defs _ _).mono
    (fun r h => ⟨fun c => (h c).2, Idealize.ShloMosaic.sem_eq_zero_of_no_sems (by decide) r.2⟩)
    (Cert.Reference5Ideal.Value.run (F := Ideal) m ρ)

theorem frame_kernel6 : Cert.quiescent_Kernel6 (hKernel6 := Cert.Kernel6.Gen.facts) :=
  fun m ρ _ => Cert.Kernel6.Gen.frame m ρ

theorem frame_kernel6_ideal : Cert.quiescent_Kernel6Ideal (hKernel6Ideal := Cert.Kernel6Ideal.Gen.facts) :=
  fun m ρ _ => Cert.Kernel6Ideal.Gen.frame (F := Ideal) m ρ

theorem frame_reference6 : Cert.quiescent_Reference6Ideal (hReference6Ideal := Cert.Reference6Ideal.Gen.facts) :=
  fun m ρ _ => (θ_run Cert.Reference6Ideal.defs _ _).mono
    (fun r h => ⟨fun c => (h c).2.2.2.2, Idealize.ShloMosaic.sem_eq_zero_of_no_sems (by decide) r.2⟩)
    (Cert.Reference6Ideal.Value.run (F := Ideal) m ρ)

theorem frame_kernel7 : Cert.quiescent_Kernel7 (hKernel7 := Cert.Kernel7.Gen.facts) :=
  fun m ρ _ => Cert.Kernel7.Gen.frame m ρ

theorem frame_kernel7_ideal : Cert.quiescent_Kernel7Ideal (hKernel7Ideal := Cert.Kernel7Ideal.Gen.facts) :=
  fun m ρ _ => Cert.Kernel7Ideal.Gen.frame (F := Ideal) m ρ

theorem frame_reference7 : Cert.quiescent_Reference7Ideal (hReference7Ideal := Cert.Reference7Ideal.Gen.facts) :=
  fun m ρ _ => (θ_run Cert.Reference7Ideal.defs _ _).mono
    (fun r h => ⟨fun c => (h c).2, Idealize.ShloMosaic.sem_eq_zero_of_no_sems (by decide) r.2⟩)
    (Cert.Reference7Ideal.Value.run (F := Ideal) m ρ)

theorem frame_kernel8 : Cert.quiescent_Kernel8 (hKernel8 := Cert.Kernel8.Gen.facts) :=
  fun m ρ _ => Cert.Kernel8.Gen.frame m ρ

theorem frame_kernel8_ideal : Cert.quiescent_Kernel8Ideal (hKernel8Ideal := Cert.Kernel8Ideal.Gen.facts) :=
  fun m ρ _ => Cert.Kernel8Ideal.Gen.frame (F := Ideal) m ρ

theorem frame_reference8 : Cert.quiescent_Reference8Ideal (hReference8Ideal := Cert.Reference8Ideal.Gen.facts) :=
  fun m ρ _ => (θ_run Cert.Reference8Ideal.defs _ _).mono
    (fun r h => ⟨fun c => (h c).2, Idealize.ShloMosaic.sem_eq_zero_of_no_sems (by decide) r.2⟩)
    (Cert.Reference8Ideal.Value.run (F := Ideal) m ρ)

theorem frame_kernel9 : Cert.quiescent_Kernel9 (hKernel9 := Cert.Kernel9.Gen.facts) :=
  fun m ρ _ => Cert.Kernel9.Gen.frame m ρ

theorem frame_kernel9_ideal : Cert.quiescent_Kernel9Ideal (hKernel9Ideal := Cert.Kernel9Ideal.Gen.facts) :=
  fun m ρ _ => Cert.Kernel9Ideal.Gen.frame (F := Ideal) m ρ

theorem frame_reference9 : Cert.quiescent_Reference9Ideal (hReference9Ideal := Cert.Reference9Ideal.Gen.facts) :=
  fun m ρ _ => (θ_run Cert.Reference9Ideal.defs _ _).mono
    (fun r h => ⟨fun c => (h c).2, Idealize.ShloMosaic.sem_eq_zero_of_no_sems (by decide) r.2⟩)
    (Cert.Reference9Ideal.Value.run (F := Ideal) m ρ)

theorem frame_kernel10 : Cert.quiescent_Kernel10 (hKernel10 := Cert.Kernel10.Gen.facts) :=
  fun m ρ _ => Cert.Kernel10.Gen.frame m ρ

theorem frame_kernel10_ideal : Cert.quiescent_Kernel10Ideal (hKernel10Ideal := Cert.Kernel10Ideal.Gen.facts) :=
  fun m ρ _ => Cert.Kernel10Ideal.Gen.frame (F := Ideal) m ρ

theorem frame_reference10 : Cert.quiescent_Reference10Ideal (hReference10Ideal := Cert.Reference10Ideal.Gen.facts) :=
  fun m ρ _ => (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- Each of the programs runs to the end, leaves its arguments as they were and every semaphore at zero;
the kernel over the reals is the kernel over the words with its mask constant read as minus infinity;
and over the reals the kernel and the reference have the same results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.Gen.facts, Cert.On_stored.Gen.facts,
  fun m ρ _ => Cert.Kernel.Hand.frame m ρ,
  fun m ρ _ => Cert.KernelIdeal.Hand.frame (F := Ideal) m ρ,
  fun m ρ _ => Cert.KernelIdeal.Hand.frame (F := Ideal) m ρ,
  fun m ρ _ => (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ),
  fun m ρ _ => (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ),
  frame_kernel2, frame_kernel2_ideal, frame_reference2,
  frame_kernel3, frame_kernel3_ideal, frame_reference3,
  frame_kernel4, frame_kernel4_ideal, frame_reference4,
  frame_kernel5, frame_kernel5_ideal, frame_reference5,
  frame_kernel6, frame_kernel6_ideal, frame_reference6,
  frame_kernel7, frame_kernel7_ideal, frame_reference7,
  frame_kernel8, frame_kernel8_ideal, frame_reference8,
  frame_kernel9, frame_kernel9_ideal, frame_reference9,
  frame_kernel10, frame_kernel10_ideal, frame_reference10,
  IdealRules.named_const.statement Cert.KernelIdeal.κ "mask" .f32 0xF149F2CA#32 ⊥ rfl,
  Cert.KernelIdeal.Hand.algebraic,
  trivial, Cert.Kernel2Ideal.Hand.algebraic,
  trivial, Cert.Kernel3Ideal.Hand.algebraic,
  trivial, Cert.Kernel4Ideal.Hand.algebraic,
  trivial, Cert.Kernel5Ideal.Hand.algebraic,
  trivial, Cert.Kernel6Ideal.Hand.algebraic,
  trivial, Cert.Kernel7Ideal.Hand.algebraic,
  trivial, Cert.Kernel8Ideal.Hand.algebraic,
  trivial, Cert.Kernel9Ideal.Hand.algebraic,
  trivial, Cert.Kernel10Ideal.Hand.algebraic⟩

end Cert.Proof

end
